-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_FfnKernel (m : (ℓ : Loc Cert.FfnKernel.nD Cert.FfnKernel.τ Cert.FfnKernel.sig) → Buf (Elt Bits) ℓ) : Prop :=
  True

def Pre_FfnKernelIdeal (m : (ℓ : Loc Cert.FfnKernelIdeal.nD Cert.FfnKernelIdeal.τ Cert.FfnKernelIdeal.sig) → Buf (Elt Ideal) ℓ) : Prop :=
  True

def Pre_FfnKernelIdeal_finite [hPre_finite : Cert.Pre_finite.Facts] (m : (ℓ : Loc Cert.FfnKernelIdeal.nD Cert.FfnKernelIdeal.τ Cert.FfnKernelIdeal.sig) → Buf (Elt Ideal) ℓ) : Prop :=
  ∀ c : Dev Cert.FfnKernelIdeal.nD,
    (Cert.Pre_finite.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4))).1 = (fun _ => 1#1)
    ∧ (Cert.Pre_finite.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4))).2.1 = (fun _ => 1#1)
    ∧ (Cert.Pre_finite.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4))).2.2.1 = (fun _ => 1#1)
    ∧ (Cert.Pre_finite.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4))).2.2.2.1 = (fun _ => 1#1)
    ∧ (Cert.Pre_finite.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4))).2.2.2.2 = (fun _ => 1#1)

def Pre_FfnReferenceIdeal (m : (ℓ : Loc Cert.FfnReferenceIdeal.nD Cert.FfnReferenceIdeal.τ Cert.FfnReferenceIdeal.sig) → Buf (Elt Ideal) ℓ) : Prop :=
  True

def Pre_FfnReferenceIdeal_finite [hPre_finite : Cert.Pre_finite.Facts] (m : (ℓ : Loc Cert.FfnReferenceIdeal.nD Cert.FfnReferenceIdeal.τ Cert.FfnReferenceIdeal.sig) → Buf (Elt Ideal) ℓ) : Prop :=
  ∀ c : Dev Cert.FfnReferenceIdeal.nD,
    (Cert.Pre_finite.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4))).1 = (fun _ => 1#1)
    ∧ (Cert.Pre_finite.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4))).2.1 = (fun _ => 1#1)
    ∧ (Cert.Pre_finite.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4))).2.2.1 = (fun _ => 1#1)
    ∧ (Cert.Pre_finite.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4))).2.2.2.1 = (fun _ => 1#1)
    ∧ (Cert.Pre_finite.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4))).2.2.2.2 = (fun _ => 1#1)

def Pre_InKernel (m : (ℓ : Loc Cert.InKernel.nD Cert.InKernel.τ Cert.InKernel.sig) → Buf (Elt Bits) ℓ) : Prop :=
  True

def Pre_InKernelIdeal (m : (ℓ : Loc Cert.InKernelIdeal.nD Cert.InKernelIdeal.τ Cert.InKernelIdeal.sig) → Buf (Elt Ideal) ℓ) : Prop :=
  True

def Pre_InKernelIdeal_finite_in [hPre_finite_in : Cert.Pre_finite_in.Facts] (m : (ℓ : Loc Cert.InKernelIdeal.nD Cert.InKernelIdeal.τ Cert.InKernelIdeal.sig) → Buf (Elt Ideal) ℓ) : Prop :=
  ∀ c : Dev Cert.InKernelIdeal.nD,
    (Cert.Pre_finite_in.fn (F := Ideal) (m ((c.tc : Thread Cert.InKernelIdeal.nD Cert.InKernelIdeal.τ).loc Cert.InKernelIdeal.main_arg0)) (m ((c.tc : Thread Cert.InKernelIdeal.nD Cert.InKernelIdeal.τ).loc Cert.InKernelIdeal.main_arg1)) (m ((c.tc : Thread Cert.InKernelIdeal.nD Cert.InKernelIdeal.τ).loc Cert.InKernelIdeal.main_arg2)) (m ((c.tc : Thread Cert.InKernelIdeal.nD Cert.InKernelIdeal.τ).loc Cert.InKernelIdeal.main_arg3)) (m ((c.tc : Thread Cert.InKernelIdeal.nD Cert.InKernelIdeal.τ).loc Cert.InKernelIdeal.main_arg4))).1 = (fun _ => 1#1)
    ∧ (Cert.Pre_finite_in.fn (F := Ideal) (m ((c.tc : Thread Cert.InKernelIdeal.nD Cert.InKernelIdeal.τ).loc Cert.InKernelIdeal.main_arg0)) (m ((c.tc : Thread Cert.InKernelIdeal.nD Cert.InKernelIdeal.τ).loc Cert.InKernelIdeal.main_arg1)) (m ((c.tc : Thread Cert.InKernelIdeal.nD Cert.InKernelIdeal.τ).loc Cert.InKernelIdeal.main_arg2)) (m ((c.tc : Thread Cert.InKernelIdeal.nD Cert.InKernelIdeal.τ).loc Cert.InKernelIdeal.main_arg3)) (m ((c.tc : Thread Cert.InKernelIdeal.nD Cert.InKernelIdeal.τ).loc Cert.InKernelIdeal.main_arg4))).2.1 = (fun _ => 1#1)
    ∧ (Cert.Pre_finite_in.fn (F := Ideal) (m ((c.tc : Thread Cert.InKernelIdeal.nD Cert.InKernelIdeal.τ).loc Cert.InKernelIdeal.main_arg0)) (m ((c.tc : Thread Cert.InKernelIdeal.nD Cert.InKernelIdeal.τ).loc Cert.InKernelIdeal.main_arg1)) (m ((c.tc : Thread Cert.InKernelIdeal.nD Cert.InKernelIdeal.τ).loc Cert.InKernelIdeal.main_arg2)) (m ((c.tc : Thread Cert.InKernelIdeal.nD Cert.InKernelIdeal.τ).loc Cert.InKernelIdeal.main_arg3)) (m ((c.tc : Thread Cert.InKernelIdeal.nD Cert.InKernelIdeal.τ).loc Cert.InKernelIdeal.main_arg4))).2.2.1 = (fun _ => 1#1)
    ∧ (Cert.Pre_finite_in.fn (F := Ideal) (m ((c.tc : Thread Cert.InKernelIdeal.nD Cert.InKernelIdeal.τ).loc Cert.InKernelIdeal.main_arg0)) (m ((c.tc : Thread Cert.InKernelIdeal.nD Cert.InKernelIdeal.τ).loc Cert.InKernelIdeal.main_arg1)) (m ((c.tc : Thread Cert.InKernelIdeal.nD Cert.InKernelIdeal.τ).loc Cert.InKernelIdeal.main_arg2)) (m ((c.tc : Thread Cert.InKernelIdeal.nD Cert.InKernelIdeal.τ).loc Cert.InKernelIdeal.main_arg3)) (m ((c.tc : Thread Cert.InKernelIdeal.nD Cert.InKernelIdeal.τ).loc Cert.InKernelIdeal.main_arg4))).2.2.2.1 = (fun _ => 1#1)
    ∧ (Cert.Pre_finite_in.fn (F := Ideal) (m ((c.tc : Thread Cert.InKernelIdeal.nD Cert.InKernelIdeal.τ).loc Cert.InKernelIdeal.main_arg0)) (m ((c.tc : Thread Cert.InKernelIdeal.nD Cert.InKernelIdeal.τ).loc Cert.InKernelIdeal.main_arg1)) (m ((c.tc : Thread Cert.InKernelIdeal.nD Cert.InKernelIdeal.τ).loc Cert.InKernelIdeal.main_arg2)) (m ((c.tc : Thread Cert.InKernelIdeal.nD Cert.InKernelIdeal.τ).loc Cert.InKernelIdeal.main_arg3)) (m ((c.tc : Thread Cert.InKernelIdeal.nD Cert.InKernelIdeal.τ).loc Cert.InKernelIdeal.main_arg4))).2.2.2.2 = (fun _ => 1#1)

def Pre_InReferenceIdeal (m : (ℓ : Loc Cert.InReferenceIdeal.nD Cert.InReferenceIdeal.τ Cert.InReferenceIdeal.sig) → Buf (Elt Ideal) ℓ) : Prop :=
  True

def Pre_InReferenceIdeal_finite_in [hPre_finite_in : Cert.Pre_finite_in.Facts] (m : (ℓ : Loc Cert.InReferenceIdeal.nD Cert.InReferenceIdeal.τ Cert.InReferenceIdeal.sig) → Buf (Elt Ideal) ℓ) : Prop :=
  ∀ c : Dev Cert.InReferenceIdeal.nD,
    (Cert.Pre_finite_in.fn (F := Ideal) (m ((c.tc : Thread Cert.InReferenceIdeal.nD Cert.InReferenceIdeal.τ).loc Cert.InReferenceIdeal.main_arg0)) (m ((c.tc : Thread Cert.InReferenceIdeal.nD Cert.InReferenceIdeal.τ).loc Cert.InReferenceIdeal.main_arg1)) (m ((c.tc : Thread Cert.InReferenceIdeal.nD Cert.InReferenceIdeal.τ).loc Cert.InReferenceIdeal.main_arg2)) (m ((c.tc : Thread Cert.InReferenceIdeal.nD Cert.InReferenceIdeal.τ).loc Cert.InReferenceIdeal.main_arg3)) (m ((c.tc : Thread Cert.InReferenceIdeal.nD Cert.InReferenceIdeal.τ).loc Cert.InReferenceIdeal.main_arg4))).1 = (fun _ => 1#1)
    ∧ (Cert.Pre_finite_in.fn (F := Ideal) (m ((c.tc : Thread Cert.InReferenceIdeal.nD Cert.InReferenceIdeal.τ).loc Cert.InReferenceIdeal.main_arg0)) (m ((c.tc : Thread Cert.InReferenceIdeal.nD Cert.InReferenceIdeal.τ).loc Cert.InReferenceIdeal.main_arg1)) (m ((c.tc : Thread Cert.InReferenceIdeal.nD Cert.InReferenceIdeal.τ).loc Cert.InReferenceIdeal.main_arg2)) (m ((c.tc : Thread Cert.InReferenceIdeal.nD Cert.InReferenceIdeal.τ).loc Cert.InReferenceIdeal.main_arg3)) (m ((c.tc : Thread Cert.InReferenceIdeal.nD Cert.InReferenceIdeal.τ).loc Cert.InReferenceIdeal.main_arg4))).2.1 = (fun _ => 1#1)
    ∧ (Cert.Pre_finite_in.fn (F := Ideal) (m ((c.tc : Thread Cert.InReferenceIdeal.nD Cert.InReferenceIdeal.τ).loc Cert.InReferenceIdeal.main_arg0)) (m ((c.tc : Thread Cert.InReferenceIdeal.nD Cert.InReferenceIdeal.τ).loc Cert.InReferenceIdeal.main_arg1)) (m ((c.tc : Thread Cert.InReferenceIdeal.nD Cert.InReferenceIdeal.τ).loc Cert.InReferenceIdeal.main_arg2)) (m ((c.tc : Thread Cert.InReferenceIdeal.nD Cert.InReferenceIdeal.τ).loc Cert.InReferenceIdeal.main_arg3)) (m ((c.tc : Thread Cert.InReferenceIdeal.nD Cert.InReferenceIdeal.τ).loc Cert.InReferenceIdeal.main_arg4))).2.2.1 = (fun _ => 1#1)
    ∧ (Cert.Pre_finite_in.fn (F := Ideal) (m ((c.tc : Thread Cert.InReferenceIdeal.nD Cert.InReferenceIdeal.τ).loc Cert.InReferenceIdeal.main_arg0)) (m ((c.tc : Thread Cert.InReferenceIdeal.nD Cert.InReferenceIdeal.τ).loc Cert.InReferenceIdeal.main_arg1)) (m ((c.tc : Thread Cert.InReferenceIdeal.nD Cert.InReferenceIdeal.τ).loc Cert.InReferenceIdeal.main_arg2)) (m ((c.tc : Thread Cert.InReferenceIdeal.nD Cert.InReferenceIdeal.τ).loc Cert.InReferenceIdeal.main_arg3)) (m ((c.tc : Thread Cert.InReferenceIdeal.nD Cert.InReferenceIdeal.τ).loc Cert.InReferenceIdeal.main_arg4))).2.2.2.1 = (fun _ => 1#1)
    ∧ (Cert.Pre_finite_in.fn (F := Ideal) (m ((c.tc : Thread Cert.InReferenceIdeal.nD Cert.InReferenceIdeal.τ).loc Cert.InReferenceIdeal.main_arg0)) (m ((c.tc : Thread Cert.InReferenceIdeal.nD Cert.InReferenceIdeal.τ).loc Cert.InReferenceIdeal.main_arg1)) (m ((c.tc : Thread Cert.InReferenceIdeal.nD Cert.InReferenceIdeal.τ).loc Cert.InReferenceIdeal.main_arg2)) (m ((c.tc : Thread Cert.InReferenceIdeal.nD Cert.InReferenceIdeal.τ).loc Cert.InReferenceIdeal.main_arg3)) (m ((c.tc : Thread Cert.InReferenceIdeal.nD Cert.InReferenceIdeal.τ).loc Cert.InReferenceIdeal.main_arg4))).2.2.2.2 = (fun _ => 1#1)

def Pre_GateKernel (m : (ℓ : Loc Cert.GateKernel.nD Cert.GateKernel.τ Cert.GateKernel.sig) → Buf (Elt Bits) ℓ) : Prop :=
  True

def Pre_GateKernelIdeal (m : (ℓ : Loc Cert.GateKernelIdeal.nD Cert.GateKernelIdeal.τ Cert.GateKernelIdeal.sig) → Buf (Elt Ideal) ℓ) : Prop :=
  True

def Pre_GateReferenceIdeal (m : (ℓ : Loc Cert.GateReferenceIdeal.nD Cert.GateReferenceIdeal.τ Cert.GateReferenceIdeal.sig) → Buf (Elt Ideal) ℓ) : Prop :=
  True

def Pre_UpKernel (m : (ℓ : Loc Cert.UpKernel.nD Cert.UpKernel.τ Cert.UpKernel.sig) → Buf (Elt Bits) ℓ) : Prop :=
  True

def Pre_UpKernelIdeal (m : (ℓ : Loc Cert.UpKernelIdeal.nD Cert.UpKernelIdeal.τ Cert.UpKernelIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_DownKernel (m : (ℓ : Loc Cert.DownKernel.nD Cert.DownKernel.τ Cert.DownKernel.sig) → Buf (Elt Bits) ℓ) : Prop :=
  True

def Pre_DownKernelIdeal (m : (ℓ : Loc Cert.DownKernelIdeal.nD Cert.DownKernelIdeal.τ Cert.DownKernelIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_SquareKernel (m : (ℓ : Loc Cert.SquareKernel.nD Cert.SquareKernel.τ Cert.SquareKernel.sig) → Buf (Elt Bits) ℓ) : Prop :=
  True

def Pre_SquareKernelIdeal (m : (ℓ : Loc Cert.SquareKernelIdeal.nD Cert.SquareKernelIdeal.τ Cert.SquareKernelIdeal.sig) → Buf (Elt Ideal) ℓ) : Prop :=
  True

def Pre_SquareReferenceIdeal (m : (ℓ : Loc Cert.SquareReferenceIdeal.nD Cert.SquareReferenceIdeal.τ Cert.SquareReferenceIdeal.sig) → Buf (Elt Ideal) ℓ) : Prop :=
  True

def Pre_WinKernel (m : (ℓ : Loc Cert.WinKernel.nD Cert.WinKernel.τ Cert.WinKernel.sig) → Buf (Elt Bits) ℓ) : Prop :=
  True

def Pre_WinKernelIdeal (m : (ℓ : Loc Cert.WinKernelIdeal.nD Cert.WinKernelIdeal.τ Cert.WinKernelIdeal.sig) → Buf (Elt Ideal) ℓ) : Prop :=
  True

def Pre_WinReferenceIdeal (m : (ℓ : Loc Cert.WinReferenceIdeal.nD Cert.WinReferenceIdeal.τ Cert.WinReferenceIdeal.sig) → Buf (Elt Ideal) ℓ) : Prop :=
  True

def Pre_InFwdKernel (m : (ℓ : Loc Cert.InFwdKernel.nD Cert.InFwdKernel.τ Cert.InFwdKernel.sig) → Buf (Elt Bits) ℓ) : Prop :=
  True

def Pre_InFwdKernelIdeal (m : (ℓ : Loc Cert.InFwdKernelIdeal.nD Cert.InFwdKernelIdeal.τ Cert.InFwdKernelIdeal.sig) → Buf (Elt Ideal) ℓ) : Prop :=
  True

def Pre_InFwdReferenceIdeal (m : (ℓ : Loc Cert.InFwdReferenceIdeal.nD Cert.InFwdReferenceIdeal.τ Cert.InFwdReferenceIdeal.sig) → Buf (Elt Ideal) ℓ) : Prop :=
  True

def Pre_MergeFwdKernel (m : (ℓ : Loc Cert.MergeFwdKernel.nD Cert.MergeFwdKernel.τ Cert.MergeFwdKernel.sig) → Buf (Elt Bits) ℓ) : Prop :=
  True

def Pre_MergeFwdKernelIdeal (m : (ℓ : Loc Cert.MergeFwdKernelIdeal.nD Cert.MergeFwdKernelIdeal.τ Cert.MergeFwdKernelIdeal.sig) → Buf (Elt Ideal) ℓ) : Prop :=
  True

def Pre_MergeFwdReferenceIdeal (m : (ℓ : Loc Cert.MergeFwdReferenceIdeal.nD Cert.MergeFwdReferenceIdeal.τ Cert.MergeFwdReferenceIdeal.sig) → Buf (Elt Ideal) ℓ) : Prop :=
  True

def Pre_FfnFwdKernel (m : (ℓ : Loc Cert.FfnFwdKernel.nD Cert.FfnFwdKernel.τ Cert.FfnFwdKernel.sig) → Buf (Elt Bits) ℓ) : Prop :=
  True

def Pre_FfnFwdKernelIdeal (m : (ℓ : Loc Cert.FfnFwdKernelIdeal.nD Cert.FfnFwdKernelIdeal.τ Cert.FfnFwdKernelIdeal.sig) → Buf (Elt Ideal) ℓ) : Prop :=
  True

def Pre_FfnFwdReferenceIdeal (m : (ℓ : Loc Cert.FfnFwdReferenceIdeal.nD Cert.FfnFwdReferenceIdeal.τ Cert.FfnFwdReferenceIdeal.sig) → Buf (Elt Ideal) ℓ) : Prop :=
  True

def Pre_LossKernel (m : (ℓ : Loc Cert.LossKernel.nD Cert.LossKernel.τ Cert.LossKernel.sig) → Buf (Elt Bits) ℓ) : Prop :=
  True

def Pre_LossKernelIdeal (m : (ℓ : Loc Cert.LossKernelIdeal.nD Cert.LossKernelIdeal.τ Cert.LossKernelIdeal.sig) → Buf (Elt Ideal) ℓ) : Prop :=
  True

def Pre_LossKernelIdeal_finite_loss [hPre_finite_loss : Cert.Pre_finite_loss.Facts] (m : (ℓ : Loc Cert.LossKernelIdeal.nD Cert.LossKernelIdeal.τ Cert.LossKernelIdeal.sig) → Buf (Elt Ideal) ℓ) : Prop :=
  ∀ c : Dev Cert.LossKernelIdeal.nD,
    (Cert.Pre_finite_loss.fn (F := Ideal) (m ((c.tc : Thread Cert.LossKernelIdeal.nD Cert.LossKernelIdeal.τ).loc Cert.LossKernelIdeal.main_arg0)) (m ((c.tc : Thread Cert.LossKernelIdeal.nD Cert.LossKernelIdeal.τ).loc Cert.LossKernelIdeal.main_arg1)) (m ((c.tc : Thread Cert.LossKernelIdeal.nD Cert.LossKernelIdeal.τ).loc Cert.LossKernelIdeal.main_arg2)) (m ((c.tc : Thread Cert.LossKernelIdeal.nD Cert.LossKernelIdeal.τ).loc Cert.LossKernelIdeal.main_arg3)) (m ((c.tc : Thread Cert.LossKernelIdeal.nD Cert.LossKernelIdeal.τ).loc Cert.LossKernelIdeal.main_arg4)) (m ((c.tc : Thread Cert.LossKernelIdeal.nD Cert.LossKernelIdeal.τ).loc Cert.LossKernelIdeal.main_arg5))).1 = (fun _ => 1#1)
    ∧ (Cert.Pre_finite_loss.fn (F := Ideal) (m ((c.tc : Thread Cert.LossKernelIdeal.nD Cert.LossKernelIdeal.τ).loc Cert.LossKernelIdeal.main_arg0)) (m ((c.tc : Thread Cert.LossKernelIdeal.nD Cert.LossKernelIdeal.τ).loc Cert.LossKernelIdeal.main_arg1)) (m ((c.tc : Thread Cert.LossKernelIdeal.nD Cert.LossKernelIdeal.τ).loc Cert.LossKernelIdeal.main_arg2)) (m ((c.tc : Thread Cert.LossKernelIdeal.nD Cert.LossKernelIdeal.τ).loc Cert.LossKernelIdeal.main_arg3)) (m ((c.tc : Thread Cert.LossKernelIdeal.nD Cert.LossKernelIdeal.τ).loc Cert.LossKernelIdeal.main_arg4)) (m ((c.tc : Thread Cert.LossKernelIdeal.nD Cert.LossKernelIdeal.τ).loc Cert.LossKernelIdeal.main_arg5))).2.1 = (fun _ => 1#1)
    ∧ (Cert.Pre_finite_loss.fn (F := Ideal) (m ((c.tc : Thread Cert.LossKernelIdeal.nD Cert.LossKernelIdeal.τ).loc Cert.LossKernelIdeal.main_arg0)) (m ((c.tc : Thread Cert.LossKernelIdeal.nD Cert.LossKernelIdeal.τ).loc Cert.LossKernelIdeal.main_arg1)) (m ((c.tc : Thread Cert.LossKernelIdeal.nD Cert.LossKernelIdeal.τ).loc Cert.LossKernelIdeal.main_arg2)) (m ((c.tc : Thread Cert.LossKernelIdeal.nD Cert.LossKernelIdeal.τ).loc Cert.LossKernelIdeal.main_arg3)) (m ((c.tc : Thread Cert.LossKernelIdeal.nD Cert.LossKernelIdeal.τ).loc Cert.LossKernelIdeal.main_arg4)) (m ((c.tc : Thread Cert.LossKernelIdeal.nD Cert.LossKernelIdeal.τ).loc Cert.LossKernelIdeal.main_arg5))).2.2.1 = (fun _ => 1#1)
    ∧ (Cert.Pre_finite_loss.fn (F := Ideal) (m ((c.tc : Thread Cert.LossKernelIdeal.nD Cert.LossKernelIdeal.τ).loc Cert.LossKernelIdeal.main_arg0)) (m ((c.tc : Thread Cert.LossKernelIdeal.nD Cert.LossKernelIdeal.τ).loc Cert.LossKernelIdeal.main_arg1)) (m ((c.tc : Thread Cert.LossKernelIdeal.nD Cert.LossKernelIdeal.τ).loc Cert.LossKernelIdeal.main_arg2)) (m ((c.tc : Thread Cert.LossKernelIdeal.nD Cert.LossKernelIdeal.τ).loc Cert.LossKernelIdeal.main_arg3)) (m ((c.tc : Thread Cert.LossKernelIdeal.nD Cert.LossKernelIdeal.τ).loc Cert.LossKernelIdeal.main_arg4)) (m ((c.tc : Thread Cert.LossKernelIdeal.nD Cert.LossKernelIdeal.τ).loc Cert.LossKernelIdeal.main_arg5))).2.2.2.1 = (fun _ => 1#1)
    ∧ (Cert.Pre_finite_loss.fn (F := Ideal) (m ((c.tc : Thread Cert.LossKernelIdeal.nD Cert.LossKernelIdeal.τ).loc Cert.LossKernelIdeal.main_arg0)) (m ((c.tc : Thread Cert.LossKernelIdeal.nD Cert.LossKernelIdeal.τ).loc Cert.LossKernelIdeal.main_arg1)) (m ((c.tc : Thread Cert.LossKernelIdeal.nD Cert.LossKernelIdeal.τ).loc Cert.LossKernelIdeal.main_arg2)) (m ((c.tc : Thread Cert.LossKernelIdeal.nD Cert.LossKernelIdeal.τ).loc Cert.LossKernelIdeal.main_arg3)) (m ((c.tc : Thread Cert.LossKernelIdeal.nD Cert.LossKernelIdeal.τ).loc Cert.LossKernelIdeal.main_arg4)) (m ((c.tc : Thread Cert.LossKernelIdeal.nD Cert.LossKernelIdeal.τ).loc Cert.LossKernelIdeal.main_arg5))).2.2.2.2.1 = (fun _ => 1#1)
    ∧ (Cert.Pre_finite_loss.fn (F := Ideal) (m ((c.tc : Thread Cert.LossKernelIdeal.nD Cert.LossKernelIdeal.τ).loc Cert.LossKernelIdeal.main_arg0)) (m ((c.tc : Thread Cert.LossKernelIdeal.nD Cert.LossKernelIdeal.τ).loc Cert.LossKernelIdeal.main_arg1)) (m ((c.tc : Thread Cert.LossKernelIdeal.nD Cert.LossKernelIdeal.τ).loc Cert.LossKernelIdeal.main_arg2)) (m ((c.tc : Thread Cert.LossKernelIdeal.nD Cert.LossKernelIdeal.τ).loc Cert.LossKernelIdeal.main_arg3)) (m ((c.tc : Thread Cert.LossKernelIdeal.nD Cert.LossKernelIdeal.τ).loc Cert.LossKernelIdeal.main_arg4)) (m ((c.tc : Thread Cert.LossKernelIdeal.nD Cert.LossKernelIdeal.τ).loc Cert.LossKernelIdeal.main_arg5))).2.2.2.2.2 = (fun _ => 1#1)

def Pre_LossReferenceIdeal (m : (ℓ : Loc Cert.LossReferenceIdeal.nD Cert.LossReferenceIdeal.τ Cert.LossReferenceIdeal.sig) → Buf (Elt Ideal) ℓ) : Prop :=
  True

def Pre_LossReferenceIdeal_finite_loss [hPre_finite_loss : Cert.Pre_finite_loss.Facts] (m : (ℓ : Loc Cert.LossReferenceIdeal.nD Cert.LossReferenceIdeal.τ Cert.LossReferenceIdeal.sig) → Buf (Elt Ideal) ℓ) : Prop :=
  ∀ c : Dev Cert.LossReferenceIdeal.nD,
    (Cert.Pre_finite_loss.fn (F := Ideal) (m ((c.tc : Thread Cert.LossReferenceIdeal.nD Cert.LossReferenceIdeal.τ).loc Cert.LossReferenceIdeal.main_arg0)) (m ((c.tc : Thread Cert.LossReferenceIdeal.nD Cert.LossReferenceIdeal.τ).loc Cert.LossReferenceIdeal.main_arg1)) (m ((c.tc : Thread Cert.LossReferenceIdeal.nD Cert.LossReferenceIdeal.τ).loc Cert.LossReferenceIdeal.main_arg2)) (m ((c.tc : Thread Cert.LossReferenceIdeal.nD Cert.LossReferenceIdeal.τ).loc Cert.LossReferenceIdeal.main_arg3)) (m ((c.tc : Thread Cert.LossReferenceIdeal.nD Cert.LossReferenceIdeal.τ).loc Cert.LossReferenceIdeal.main_arg4)) (m ((c.tc : Thread Cert.LossReferenceIdeal.nD Cert.LossReferenceIdeal.τ).loc Cert.LossReferenceIdeal.main_arg5))).1 = (fun _ => 1#1)
    ∧ (Cert.Pre_finite_loss.fn (F := Ideal) (m ((c.tc : Thread Cert.LossReferenceIdeal.nD Cert.LossReferenceIdeal.τ).loc Cert.LossReferenceIdeal.main_arg0)) (m ((c.tc : Thread Cert.LossReferenceIdeal.nD Cert.LossReferenceIdeal.τ).loc Cert.LossReferenceIdeal.main_arg1)) (m ((c.tc : Thread Cert.LossReferenceIdeal.nD Cert.LossReferenceIdeal.τ).loc Cert.LossReferenceIdeal.main_arg2)) (m ((c.tc : Thread Cert.LossReferenceIdeal.nD Cert.LossReferenceIdeal.τ).loc Cert.LossReferenceIdeal.main_arg3)) (m ((c.tc : Thread Cert.LossReferenceIdeal.nD Cert.LossReferenceIdeal.τ).loc Cert.LossReferenceIdeal.main_arg4)) (m ((c.tc : Thread Cert.LossReferenceIdeal.nD Cert.LossReferenceIdeal.τ).loc Cert.LossReferenceIdeal.main_arg5))).2.1 = (fun _ => 1#1)
    ∧ (Cert.Pre_finite_loss.fn (F := Ideal) (m ((c.tc : Thread Cert.LossReferenceIdeal.nD Cert.LossReferenceIdeal.τ).loc Cert.LossReferenceIdeal.main_arg0)) (m ((c.tc : Thread Cert.LossReferenceIdeal.nD Cert.LossReferenceIdeal.τ).loc Cert.LossReferenceIdeal.main_arg1)) (m ((c.tc : Thread Cert.LossReferenceIdeal.nD Cert.LossReferenceIdeal.τ).loc Cert.LossReferenceIdeal.main_arg2)) (m ((c.tc : Thread Cert.LossReferenceIdeal.nD Cert.LossReferenceIdeal.τ).loc Cert.LossReferenceIdeal.main_arg3)) (m ((c.tc : Thread Cert.LossReferenceIdeal.nD Cert.LossReferenceIdeal.τ).loc Cert.LossReferenceIdeal.main_arg4)) (m ((c.tc : Thread Cert.LossReferenceIdeal.nD Cert.LossReferenceIdeal.τ).loc Cert.LossReferenceIdeal.main_arg5))).2.2.1 = (fun _ => 1#1)
    ∧ (Cert.Pre_finite_loss.fn (F := Ideal) (m ((c.tc : Thread Cert.LossReferenceIdeal.nD Cert.LossReferenceIdeal.τ).loc Cert.LossReferenceIdeal.main_arg0)) (m ((c.tc : Thread Cert.LossReferenceIdeal.nD Cert.LossReferenceIdeal.τ).loc Cert.LossReferenceIdeal.main_arg1)) (m ((c.tc : Thread Cert.LossReferenceIdeal.nD Cert.LossReferenceIdeal.τ).loc Cert.LossReferenceIdeal.main_arg2)) (m ((c.tc : Thread Cert.LossReferenceIdeal.nD Cert.LossReferenceIdeal.τ).loc Cert.LossReferenceIdeal.main_arg3)) (m ((c.tc : Thread Cert.LossReferenceIdeal.nD Cert.LossReferenceIdeal.τ).loc Cert.LossReferenceIdeal.main_arg4)) (m ((c.tc : Thread Cert.LossReferenceIdeal.nD Cert.LossReferenceIdeal.τ).loc Cert.LossReferenceIdeal.main_arg5))).2.2.2.1 = (fun _ => 1#1)
    ∧ (Cert.Pre_finite_loss.fn (F := Ideal) (m ((c.tc : Thread Cert.LossReferenceIdeal.nD Cert.LossReferenceIdeal.τ).loc Cert.LossReferenceIdeal.main_arg0)) (m ((c.tc : Thread Cert.LossReferenceIdeal.nD Cert.LossReferenceIdeal.τ).loc Cert.LossReferenceIdeal.main_arg1)) (m ((c.tc : Thread Cert.LossReferenceIdeal.nD Cert.LossReferenceIdeal.τ).loc Cert.LossReferenceIdeal.main_arg2)) (m ((c.tc : Thread Cert.LossReferenceIdeal.nD Cert.LossReferenceIdeal.τ).loc Cert.LossReferenceIdeal.main_arg3)) (m ((c.tc : Thread Cert.LossReferenceIdeal.nD Cert.LossReferenceIdeal.τ).loc Cert.LossReferenceIdeal.main_arg4)) (m ((c.tc : Thread Cert.LossReferenceIdeal.nD Cert.LossReferenceIdeal.τ).loc Cert.LossReferenceIdeal.main_arg5))).2.2.2.2.1 = (fun _ => 1#1)
    ∧ (Cert.Pre_finite_loss.fn (F := Ideal) (m ((c.tc : Thread Cert.LossReferenceIdeal.nD Cert.LossReferenceIdeal.τ).loc Cert.LossReferenceIdeal.main_arg0)) (m ((c.tc : Thread Cert.LossReferenceIdeal.nD Cert.LossReferenceIdeal.τ).loc Cert.LossReferenceIdeal.main_arg1)) (m ((c.tc : Thread Cert.LossReferenceIdeal.nD Cert.LossReferenceIdeal.τ).loc Cert.LossReferenceIdeal.main_arg2)) (m ((c.tc : Thread Cert.LossReferenceIdeal.nD Cert.LossReferenceIdeal.τ).loc Cert.LossReferenceIdeal.main_arg3)) (m ((c.tc : Thread Cert.LossReferenceIdeal.nD Cert.LossReferenceIdeal.τ).loc Cert.LossReferenceIdeal.main_arg4)) (m ((c.tc : Thread Cert.LossReferenceIdeal.nD Cert.LossReferenceIdeal.τ).loc Cert.LossReferenceIdeal.main_arg5))).2.2.2.2.2 = (fun _ => 1#1)

def Pre_FirstKernel (m : (ℓ : Loc Cert.FirstKernel.nD Cert.FirstKernel.τ Cert.FirstKernel.sig) → Buf (Elt Bits) ℓ) : Prop :=
  True

def Pre_FirstKernelIdeal (m : (ℓ : Loc Cert.FirstKernelIdeal.nD Cert.FirstKernelIdeal.τ Cert.FirstKernelIdeal.sig) → Buf (Elt Ideal) ℓ) : Prop :=
  True

def Pre_FirstKernelIdeal_finite [hPre_finite : Cert.Pre_finite.Facts] (m : (ℓ : Loc Cert.FirstKernelIdeal.nD Cert.FirstKernelIdeal.τ Cert.FirstKernelIdeal.sig) → Buf (Elt Ideal) ℓ) : Prop :=
  ∀ c : Dev Cert.FirstKernelIdeal.nD,
    (Cert.Pre_finite.fn (F := Ideal) (m ((c.tc : Thread Cert.FirstKernelIdeal.nD Cert.FirstKernelIdeal.τ).loc Cert.FirstKernelIdeal.main_arg0)) (m ((c.tc : Thread Cert.FirstKernelIdeal.nD Cert.FirstKernelIdeal.τ).loc Cert.FirstKernelIdeal.main_arg1)) (m ((c.tc : Thread Cert.FirstKernelIdeal.nD Cert.FirstKernelIdeal.τ).loc Cert.FirstKernelIdeal.main_arg2)) (m ((c.tc : Thread Cert.FirstKernelIdeal.nD Cert.FirstKernelIdeal.τ).loc Cert.FirstKernelIdeal.main_arg3)) (m ((c.tc : Thread Cert.FirstKernelIdeal.nD Cert.FirstKernelIdeal.τ).loc Cert.FirstKernelIdeal.main_arg4))).1 = (fun _ => 1#1)
    ∧ (Cert.Pre_finite.fn (F := Ideal) (m ((c.tc : Thread Cert.FirstKernelIdeal.nD Cert.FirstKernelIdeal.τ).loc Cert.FirstKernelIdeal.main_arg0)) (m ((c.tc : Thread Cert.FirstKernelIdeal.nD Cert.FirstKernelIdeal.τ).loc Cert.FirstKernelIdeal.main_arg1)) (m ((c.tc : Thread Cert.FirstKernelIdeal.nD Cert.FirstKernelIdeal.τ).loc Cert.FirstKernelIdeal.main_arg2)) (m ((c.tc : Thread Cert.FirstKernelIdeal.nD Cert.FirstKernelIdeal.τ).loc Cert.FirstKernelIdeal.main_arg3)) (m ((c.tc : Thread Cert.FirstKernelIdeal.nD Cert.FirstKernelIdeal.τ).loc Cert.FirstKernelIdeal.main_arg4))).2.1 = (fun _ => 1#1)
    ∧ (Cert.Pre_finite.fn (F := Ideal) (m ((c.tc : Thread Cert.FirstKernelIdeal.nD Cert.FirstKernelIdeal.τ).loc Cert.FirstKernelIdeal.main_arg0)) (m ((c.tc : Thread Cert.FirstKernelIdeal.nD Cert.FirstKernelIdeal.τ).loc Cert.FirstKernelIdeal.main_arg1)) (m ((c.tc : Thread Cert.FirstKernelIdeal.nD Cert.FirstKernelIdeal.τ).loc Cert.FirstKernelIdeal.main_arg2)) (m ((c.tc : Thread Cert.FirstKernelIdeal.nD Cert.FirstKernelIdeal.τ).loc Cert.FirstKernelIdeal.main_arg3)) (m ((c.tc : Thread Cert.FirstKernelIdeal.nD Cert.FirstKernelIdeal.τ).loc Cert.FirstKernelIdeal.main_arg4))).2.2.1 = (fun _ => 1#1)
    ∧ (Cert.Pre_finite.fn (F := Ideal) (m ((c.tc : Thread Cert.FirstKernelIdeal.nD Cert.FirstKernelIdeal.τ).loc Cert.FirstKernelIdeal.main_arg0)) (m ((c.tc : Thread Cert.FirstKernelIdeal.nD Cert.FirstKernelIdeal.τ).loc Cert.FirstKernelIdeal.main_arg1)) (m ((c.tc : Thread Cert.FirstKernelIdeal.nD Cert.FirstKernelIdeal.τ).loc Cert.FirstKernelIdeal.main_arg2)) (m ((c.tc : Thread Cert.FirstKernelIdeal.nD Cert.FirstKernelIdeal.τ).loc Cert.FirstKernelIdeal.main_arg3)) (m ((c.tc : Thread Cert.FirstKernelIdeal.nD Cert.FirstKernelIdeal.τ).loc Cert.FirstKernelIdeal.main_arg4))).2.2.2.1 = (fun _ => 1#1)
    ∧ (Cert.Pre_finite.fn (F := Ideal) (m ((c.tc : Thread Cert.FirstKernelIdeal.nD Cert.FirstKernelIdeal.τ).loc Cert.FirstKernelIdeal.main_arg0)) (m ((c.tc : Thread Cert.FirstKernelIdeal.nD Cert.FirstKernelIdeal.τ).loc Cert.FirstKernelIdeal.main_arg1)) (m ((c.tc : Thread Cert.FirstKernelIdeal.nD Cert.FirstKernelIdeal.τ).loc Cert.FirstKernelIdeal.main_arg2)) (m ((c.tc : Thread Cert.FirstKernelIdeal.nD Cert.FirstKernelIdeal.τ).loc Cert.FirstKernelIdeal.main_arg3)) (m ((c.tc : Thread Cert.FirstKernelIdeal.nD Cert.FirstKernelIdeal.τ).loc Cert.FirstKernelIdeal.main_arg4))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_FfnKernel [hFfnKernel : Cert.FfnKernel.Facts] : Prop :=
  ∀ (m : (ℓ : Loc Cert.FfnKernel.nD Cert.FfnKernel.τ Cert.FfnKernel.sig) → Buf (Elt Bits) ℓ) (g : Dev Cert.FfnKernel.nD → PrngReg), Pre_FfnKernel m →
    θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2)
      ∧ r.2.mem ((c.tc : Thread Cert.FfnKernel.nD Cert.FfnKernel.τ).loc Cert.FfnKernel.main_arg3) = m ((c.tc : Thread Cert.FfnKernel.nD Cert.FfnKernel.τ).loc Cert.FfnKernel.main_arg3)
      ∧ r.2.mem ((c.tc : Thread Cert.FfnKernel.nD Cert.FfnKernel.τ).loc Cert.FfnKernel.main_arg4) = m ((c.tc : Thread Cert.FfnKernel.nD Cert.FfnKernel.τ).loc Cert.FfnKernel.main_arg4))
      ∧ r.2.sem = fun _ => 0)

def quiescent_FfnKernelIdeal [hFfnKernelIdeal : Cert.FfnKernelIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4))
      ∧ r.2.sem = fun _ => 0)

def quiescent_FfnKernelIdeal_pre_finite [hFfnKernelIdeal : Cert.FfnKernelIdeal.Facts] [hPre_finite : Cert.Pre_finite.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal_finite m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4))
      ∧ r.2.sem = fun _ => 0)

def quiescent_FfnReferenceIdeal_pre_finite [hFfnReferenceIdeal : Cert.FfnReferenceIdeal.Facts] [hPre_finite : Cert.Pre_finite.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal_finite m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4))
      ∧ r.2.sem = fun _ => 0)

def quiescent_InKernel [hInKernel : Cert.InKernel.Facts] : Prop :=
  ∀ (m : (ℓ : Loc Cert.InKernel.nD Cert.InKernel.τ Cert.InKernel.sig) → Buf (Elt Bits) ℓ) (g : Dev Cert.InKernel.nD → PrngReg), Pre_InKernel m →
    θ_run (Cert.InKernel.defs (F := Bits)) (onTc (τ := Cert.InKernel.τ) (Cert.InKernel.main (F := Bits))) ⟨m, fun _ => 0, g⟩ (fun r => (∀ c : Dev Cert.InKernel.nD,
      r.2.mem ((c.tc : Thread Cert.InKernel.nD Cert.InKernel.τ).loc Cert.InKernel.main_arg0) = m ((c.tc : Thread Cert.InKernel.nD Cert.InKernel.τ).loc Cert.InKernel.main_arg0)
      ∧ r.2.mem ((c.tc : Thread Cert.InKernel.nD Cert.InKernel.τ).loc Cert.InKernel.main_arg1) = m ((c.tc : Thread Cert.InKernel.nD Cert.InKernel.τ).loc Cert.InKernel.main_arg1)
      ∧ r.2.mem ((c.tc : Thread Cert.InKernel.nD Cert.InKernel.τ).loc Cert.InKernel.main_arg2) = m ((c.tc : Thread Cert.InKernel.nD Cert.InKernel.τ).loc Cert.InKernel.main_arg2)
      ∧ r.2.mem ((c.tc : Thread Cert.InKernel.nD Cert.InKernel.τ).loc Cert.InKernel.main_arg3) = m ((c.tc : Thread Cert.InKernel.nD Cert.InKernel.τ).loc Cert.InKernel.main_arg3)
      ∧ r.2.mem ((c.tc : Thread Cert.InKernel.nD Cert.InKernel.τ).loc Cert.InKernel.main_arg4) = m ((c.tc : Thread Cert.InKernel.nD Cert.InKernel.τ).loc Cert.InKernel.main_arg4))
      ∧ r.2.sem = fun _ => 0)

def quiescent_InKernelIdeal [hInKernelIdeal : Cert.InKernelIdeal.Facts] : Prop :=
  ∀ (m : (ℓ : Loc Cert.InKernelIdeal.nD Cert.InKernelIdeal.τ Cert.InKernelIdeal.sig) → Buf (Elt Ideal) ℓ) (g : Dev Cert.InKernelIdeal.nD → PrngReg), Pre_InKernelIdeal m →
    θ_run (Cert.InKernelIdeal.defs (F := Ideal)) (onTc (τ := Cert.InKernelIdeal.τ) (Cert.InKernelIdeal.main (F := Ideal))) ⟨m, fun _ => 0, g⟩ (fun r => (∀ c : Dev Cert.InKernelIdeal.nD,
      r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
      ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
      ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
      ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
      ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4))
      ∧ r.2.sem = fun _ => 0)

def quiescent_InKernelIdeal_pre_finite_in [hInKernelIdeal : Cert.InKernelIdeal.Facts] [hPre_finite_in : Cert.Pre_finite_in.Facts] : Prop :=
  ∀ (m : (ℓ : Loc Cert.InKernelIdeal.nD Cert.InKernelIdeal.τ Cert.InKernelIdeal.sig) → Buf (Elt Ideal) ℓ) (g : Dev Cert.InKernelIdeal.nD → PrngReg), Pre_InKernelIdeal_finite_in m →
    θ_run (Cert.InKernelIdeal.defs (F := Ideal)) (onTc (τ := Cert.InKernelIdeal.τ) (Cert.InKernelIdeal.main (F := Ideal))) ⟨m, fun _ => 0, g⟩ (fun r => (∀ c : Dev Cert.InKernelIdeal.nD,
      r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
      ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
      ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
      ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
      ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2)
      ∧ r.2.mem ((c.tc : Thread Cert.InReferenceIdeal.nD Cert.InReferenceIdeal.τ).loc Cert.InReferenceIdeal.main_arg3) = m ((c.tc : Thread Cert.InReferenceIdeal.nD Cert.InReferenceIdeal.τ).loc Cert.InReferenceIdeal.main_arg3)
      ∧ r.2.mem ((c.tc : Thread Cert.InReferenceIdeal.nD Cert.InReferenceIdeal.τ).loc Cert.InReferenceIdeal.main_arg4) = m ((c.tc : Thread Cert.InReferenceIdeal.nD Cert.InReferenceIdeal.τ).loc Cert.InReferenceIdeal.main_arg4))
      ∧ r.2.sem = fun _ => 0)

def quiescent_InReferenceIdeal_pre_finite_in [hInReferenceIdeal : Cert.InReferenceIdeal.Facts] [hPre_finite_in : Cert.Pre_finite_in.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal_finite_in m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2)
      ∧ r.2.mem ((c.tc : Thread Cert.InReferenceIdeal.nD Cert.InReferenceIdeal.τ).loc Cert.InReferenceIdeal.main_arg3) = m ((c.tc : Thread Cert.InReferenceIdeal.nD Cert.InReferenceIdeal.τ).loc Cert.InReferenceIdeal.main_arg3)
      ∧ r.2.mem ((c.tc : Thread Cert.InReferenceIdeal.nD Cert.InReferenceIdeal.τ).loc Cert.InReferenceIdeal.main_arg4) = m ((c.tc : Thread Cert.InReferenceIdeal.nD Cert.InReferenceIdeal.τ).loc Cert.InReferenceIdeal.main_arg4))
      ∧ r.2.sem = fun _ => 0)

def quiescent_GateKernel [hGateKernel : Cert.GateKernel.Facts] : Prop :=
  ∀ (m : (ℓ : Loc Cert.GateKernel.nD Cert.GateKernel.τ Cert.GateKernel.sig) → Buf (Elt Bits) ℓ) (g : Dev Cert.GateKernel.nD → PrngReg), Pre_GateKernel m →
    θ_run (Cert.GateKernel.defs (F := Bits)) (onTc (τ := Cert.GateKernel.τ) (Cert.GateKernel.main (F := Bits))) ⟨m, fun _ => 0, g⟩ (fun r => (∀ c : Dev Cert.GateKernel.nD,
      r.2.mem ((c.tc : Thread Cert.GateKernel.nD Cert.GateKernel.τ).loc Cert.GateKernel.main_arg0) = m ((c.tc : Thread Cert.GateKernel.nD Cert.GateKernel.τ).loc Cert.GateKernel.main_arg0)
      ∧ r.2.mem ((c.tc : Thread Cert.GateKernel.nD Cert.GateKernel.τ).loc Cert.GateKernel.main_arg1) = m ((c.tc : Thread Cert.GateKernel.nD Cert.GateKernel.τ).loc Cert.GateKernel.main_arg1))
      ∧ r.2.sem = fun _ => 0)

def quiescent_GateKernelIdeal [hGateKernelIdeal : Cert.GateKernelIdeal.Facts] : Prop :=
  ∀ (m : (ℓ : Loc Cert.GateKernelIdeal.nD Cert.GateKernelIdeal.τ Cert.GateKernelIdeal.sig) → Buf (Elt Ideal) ℓ) (g : Dev Cert.GateKernelIdeal.nD → PrngReg), Pre_GateKernelIdeal m →
    θ_run (Cert.GateKernelIdeal.defs (F := Ideal)) (onTc (τ := Cert.GateKernelIdeal.τ) (Cert.GateKernelIdeal.main (F := Ideal))) ⟨m, fun _ => 0, g⟩ (fun r => (∀ c : Dev Cert.GateKernelIdeal.nD,
      r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
      ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1))
      ∧ r.2.sem = fun _ => 0)

def quiescent_GateReferenceIdeal [hGateReferenceIdeal : Cert.GateReferenceIdeal.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1))
      ∧ r.2.sem = fun _ => 0)

def quiescent_UpKernel [hUpKernel : Cert.UpKernel.Facts] : Prop :=
  ∀ (m : (ℓ : Loc Cert.UpKernel.nD Cert.UpKernel.τ Cert.UpKernel.sig) → Buf (Elt Bits) ℓ) (g : Dev Cert.UpKernel.nD → PrngReg), Pre_UpKernel m →
    θ_run (Cert.UpKernel.defs (F := Bits)) (onTc (τ := Cert.UpKernel.τ) (Cert.UpKernel.main (F := Bits))) ⟨m, fun _ => 0, g⟩ (fun r => (∀ c : Dev Cert.UpKernel.nD,
      r.2.mem ((c.tc : Thread Cert.UpKernel.nD Cert.UpKernel.τ).loc Cert.UpKernel.main_arg0) = m ((c.tc : Thread Cert.UpKernel.nD Cert.UpKernel.τ).loc Cert.UpKernel.main_arg0)
      ∧ r.2.mem ((c.tc : Thread Cert.UpKernel.nD Cert.UpKernel.τ).loc Cert.UpKernel.main_arg1) = m ((c.tc : Thread Cert.UpKernel.nD Cert.UpKernel.τ).loc Cert.UpKernel.main_arg1)
      ∧ r.2.mem ((c.tc : Thread Cert.UpKernel.nD Cert.UpKernel.τ).loc Cert.UpKernel.main_arg2) = m ((c.tc : Thread Cert.UpKernel.nD Cert.UpKernel.τ).loc Cert.UpKernel.main_arg2))
      ∧ r.2.sem = fun _ => 0)

def quiescent_UpKernelIdeal [hUpKernelIdeal : Cert.UpKernelIdeal.Facts] : Prop :=
  ∀ (m : (ℓ : Loc Cert.UpKernelIdeal.nD Cert.UpKernelIdeal.τ Cert.UpKernelIdeal.sig) → Buf (Elt Ideal) ℓ) (g : Dev Cert.UpKernelIdeal.nD → PrngReg), Pre_UpKernelIdeal m →
    θ_run (Cert.UpKernelIdeal.defs (F := Ideal)) (onTc (τ := Cert.UpKernelIdeal.τ) (Cert.UpKernelIdeal.main (F := Ideal))) ⟨m, fun _ => 0, g⟩ (fun r => (∀ c : Dev Cert.UpKernelIdeal.nD,
      r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
      ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1)
      ∧ r.2.mem ((c.tc : Thread Cert.UpKernelIdeal.nD Cert.UpKernelIdeal.τ).loc Cert.UpKernelIdeal.main_arg2) = m ((c.tc : Thread Cert.UpKernelIdeal.nD Cert.UpKernelIdeal.τ).loc Cert.UpKernelIdeal.main_arg2))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2))
      ∧ r.2.sem = fun _ => 0)

def quiescent_DownKernel [hDownKernel : Cert.DownKernel.Facts] : Prop :=
  ∀ (m : (ℓ : Loc Cert.DownKernel.nD Cert.DownKernel.τ Cert.DownKernel.sig) → Buf (Elt Bits) ℓ) (g : Dev Cert.DownKernel.nD → PrngReg), Pre_DownKernel m →
    θ_run (Cert.DownKernel.defs (F := Bits)) (onTc (τ := Cert.DownKernel.τ) (Cert.DownKernel.main (F := Bits))) ⟨m, fun _ => 0, g⟩ (fun r => (∀ c : Dev Cert.DownKernel.nD,
      r.2.mem ((c.tc : Thread Cert.DownKernel.nD Cert.DownKernel.τ).loc Cert.DownKernel.main_arg0) = m ((c.tc : Thread Cert.DownKernel.nD Cert.DownKernel.τ).loc Cert.DownKernel.main_arg0)
      ∧ r.2.mem ((c.tc : Thread Cert.DownKernel.nD Cert.DownKernel.τ).loc Cert.DownKernel.main_arg1) = m ((c.tc : Thread Cert.DownKernel.nD Cert.DownKernel.τ).loc Cert.DownKernel.main_arg1))
      ∧ r.2.sem = fun _ => 0)

def quiescent_DownKernelIdeal [hDownKernelIdeal : Cert.DownKernelIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg), Pre_DownKernelIdeal m →
    θ_run (Cert.DownKernelIdeal.defs (F := Ideal)) (onTc (τ := Cert.DownKernelIdeal.τ) (Cert.DownKernelIdeal.main (F := Ideal))) ⟨m, fun _ => 0, g⟩ (fun r => (∀ c : Dev Cert.DownKernelIdeal.nD,
      r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
      ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1))
      ∧ r.2.sem = fun _ => 0)

def quiescent_SquareKernel [hSquareKernel : Cert.SquareKernel.Facts] : Prop :=
  ∀ (m : (ℓ : Loc Cert.SquareKernel.nD Cert.SquareKernel.τ Cert.SquareKernel.sig) → Buf (Elt Bits) ℓ) (g : Dev Cert.SquareKernel.nD → PrngReg), Pre_SquareKernel m →
    θ_run (Cert.SquareKernel.defs (F := Bits)) (onTc (τ := Cert.SquareKernel.τ) (Cert.SquareKernel.main (F := Bits))) ⟨m, fun _ => 0, g⟩ (fun r => (∀ c : Dev Cert.SquareKernel.nD,
      r.2.mem ((c.tc : Thread Cert.SquareKernel.nD Cert.SquareKernel.τ).loc Cert.SquareKernel.main_arg0) = m ((c.tc : Thread Cert.SquareKernel.nD Cert.SquareKernel.τ).loc Cert.SquareKernel.main_arg0)
      ∧ r.2.mem ((c.tc : Thread Cert.SquareKernel.nD Cert.SquareKernel.τ).loc Cert.SquareKernel.main_arg1) = m ((c.tc : Thread Cert.SquareKernel.nD Cert.SquareKernel.τ).loc Cert.SquareKernel.main_arg1))
      ∧ r.2.sem = fun _ => 0)

def quiescent_SquareKernelIdeal [hSquareKernelIdeal : Cert.SquareKernelIdeal.Facts] : Prop :=
  ∀ (m : (ℓ : Loc Cert.SquareKernelIdeal.nD Cert.SquareKernelIdeal.τ Cert.SquareKernelIdeal.sig) → Buf (Elt Ideal) ℓ) (g : Dev Cert.SquareKernelIdeal.nD → PrngReg), Pre_SquareKernelIdeal m →
    θ_run (Cert.SquareKernelIdeal.defs (F := Ideal)) (onTc (τ := Cert.SquareKernelIdeal.τ) (Cert.SquareKernelIdeal.main (F := Ideal))) ⟨m, fun _ => 0, g⟩ (fun r => (∀ c : Dev Cert.SquareKernelIdeal.nD,
      r.2.mem ((c.tc : Thread Cert.SquareKernelIdeal.nD Cert.SquareKernelIdeal.τ).loc Cert.SquareKernelIdeal.main_arg0) = m ((c.tc : Thread Cert.SquareKernelIdeal.nD Cert.SquareKernelIdeal.τ).loc Cert.SquareKernelIdeal.main_arg0)
      ∧ r.2.mem ((c.tc : Thread Cert.SquareKernelIdeal.nD Cert.SquareKernelIdeal.τ).loc Cert.SquareKernelIdeal.main_arg1) = m ((c.tc : Thread Cert.SquareKernelIdeal.nD Cert.SquareKernelIdeal.τ).loc Cert.SquareKernelIdeal.main_arg1))
      ∧ r.2.sem = fun _ => 0)

def quiescent_SquareReferenceIdeal [hSquareReferenceIdeal : Cert.SquareReferenceIdeal.Facts] : Prop :=
  ∀ (m : (ℓ : Loc Cert.SquareReferenceIdeal.nD Cert.SquareReferenceIdeal.τ Cert.SquareReferenceIdeal.sig) → Buf (Elt Ideal) ℓ) (g : Dev Cert.SquareReferenceIdeal.nD → PrngReg), Pre_SquareReferenceIdeal m →
    θ_run (Cert.SquareReferenceIdeal.defs (F := Ideal)) (onTc (τ := Cert.SquareReferenceIdeal.τ) (Cert.SquareReferenceIdeal.main (F := Ideal))) ⟨m, fun _ => 0, g⟩ (fun r => (∀ c : Dev Cert.SquareReferenceIdeal.nD,
      r.2.mem ((c.tc : Thread Cert.SquareReferenceIdeal.nD Cert.SquareReferenceIdeal.τ).loc Cert.SquareReferenceIdeal.main_arg0) = m ((c.tc : Thread Cert.SquareReferenceIdeal.nD Cert.SquareReferenceIdeal.τ).loc Cert.SquareReferenceIdeal.main_arg0)
      ∧ r.2.mem ((c.tc : Thread Cert.SquareReferenceIdeal.nD Cert.SquareReferenceIdeal.τ).loc Cert.SquareReferenceIdeal.main_arg1) = m ((c.tc : Thread Cert.SquareReferenceIdeal.nD Cert.SquareReferenceIdeal.τ).loc Cert.SquareReferenceIdeal.main_arg1))
      ∧ r.2.sem = fun _ => 0)

def quiescent_WinKernel [hWinKernel : Cert.WinKernel.Facts] : Prop :=
  ∀ (m : (ℓ : Loc Cert.WinKernel.nD Cert.WinKernel.τ Cert.WinKernel.sig) → Buf (Elt Bits) ℓ) (g : Dev Cert.WinKernel.nD → PrngReg), Pre_WinKernel m →
    θ_run (Cert.WinKernel.defs (F := Bits)) (onTc (τ := Cert.WinKernel.τ) (Cert.WinKernel.main (F := Bits))) ⟨m, fun _ => 0, g⟩ (fun r => (∀ c : Dev Cert.WinKernel.nD,
      r.2.mem ((c.tc : Thread Cert.WinKernel.nD Cert.WinKernel.τ).loc Cert.WinKernel.main_arg0) = m ((c.tc : Thread Cert.WinKernel.nD Cert.WinKernel.τ).loc Cert.WinKernel.main_arg0)
      ∧ r.2.mem ((c.tc : Thread Cert.WinKernel.nD Cert.WinKernel.τ).loc Cert.WinKernel.main_arg1) = m ((c.tc : Thread Cert.WinKernel.nD Cert.WinKernel.τ).loc Cert.WinKernel.main_arg1))
      ∧ r.2.sem = fun _ => 0)

def quiescent_WinKernelIdeal [hWinKernelIdeal : Cert.WinKernelIdeal.Facts] : Prop :=
  ∀ (m : (ℓ : Loc Cert.WinKernelIdeal.nD Cert.WinKernelIdeal.τ Cert.WinKernelIdeal.sig) → Buf (Elt Ideal) ℓ) (g : Dev Cert.WinKernelIdeal.nD → PrngReg), Pre_WinKernelIdeal m →
    θ_run (Cert.WinKernelIdeal.defs (F := Ideal)) (onTc (τ := Cert.WinKernelIdeal.τ) (Cert.WinKernelIdeal.main (F := Ideal))) ⟨m, fun _ => 0, g⟩ (fun r => (∀ c : Dev Cert.WinKernelIdeal.nD,
      r.2.mem ((c.tc : Thread Cert.WinKernelIdeal.nD Cert.WinKernelIdeal.τ).loc Cert.WinKernelIdeal.main_arg0) = m ((c.tc : Thread Cert.WinKernelIdeal.nD Cert.WinKernelIdeal.τ).loc Cert.WinKernelIdeal.main_arg0)
      ∧ r.2.mem ((c.tc : Thread Cert.WinKernelIdeal.nD Cert.WinKernelIdeal.τ).loc Cert.WinKernelIdeal.main_arg1) = m ((c.tc : Thread Cert.WinKernelIdeal.nD Cert.WinKernelIdeal.τ).loc Cert.WinKernelIdeal.main_arg1))
      ∧ r.2.sem = fun _ => 0)

def quiescent_WinReferenceIdeal [hWinReferenceIdeal : Cert.WinReferenceIdeal.Facts] : Prop :=
  ∀ (m : (ℓ : Loc Cert.WinReferenceIdeal.nD Cert.WinReferenceIdeal.τ Cert.WinReferenceIdeal.sig) → Buf (Elt Ideal) ℓ) (g : Dev Cert.WinReferenceIdeal.nD → PrngReg), Pre_WinReferenceIdeal m →
    θ_run (Cert.WinReferenceIdeal.defs (F := Ideal)) (onTc (τ := Cert.WinReferenceIdeal.τ) (Cert.WinReferenceIdeal.main (F := Ideal))) ⟨m, fun _ => 0, g⟩ (fun r => (∀ c : Dev Cert.WinReferenceIdeal.nD,
      r.2.mem ((c.tc : Thread Cert.WinReferenceIdeal.nD Cert.WinReferenceIdeal.τ).loc Cert.WinReferenceIdeal.main_arg0) = m ((c.tc : Thread Cert.WinReferenceIdeal.nD Cert.WinReferenceIdeal.τ).loc Cert.WinReferenceIdeal.main_arg0)
      ∧ r.2.mem ((c.tc : Thread Cert.WinReferenceIdeal.nD Cert.WinReferenceIdeal.τ).loc Cert.WinReferenceIdeal.main_arg1) = m ((c.tc : Thread Cert.WinReferenceIdeal.nD Cert.WinReferenceIdeal.τ).loc Cert.WinReferenceIdeal.main_arg1))
      ∧ r.2.sem = fun _ => 0)

def quiescent_InFwdKernel [hInFwdKernel : Cert.InFwdKernel.Facts] : Prop :=
  ∀ (m : (ℓ : Loc Cert.InFwdKernel.nD Cert.InFwdKernel.τ Cert.InFwdKernel.sig) → Buf (Elt Bits) ℓ) (g : Dev Cert.InFwdKernel.nD → PrngReg), Pre_InFwdKernel m →
    θ_run (Cert.InFwdKernel.defs (F := Bits)) (onTc (τ := Cert.InFwdKernel.τ) (Cert.InFwdKernel.main (F := Bits))) ⟨m, fun _ => 0, g⟩ (fun r => (∀ c : Dev Cert.InFwdKernel.nD,
      r.2.mem ((c.tc : Thread Cert.InFwdKernel.nD Cert.InFwdKernel.τ).loc Cert.InFwdKernel.main_arg0) = m ((c.tc : Thread Cert.InFwdKernel.nD Cert.InFwdKernel.τ).loc Cert.InFwdKernel.main_arg0)
      ∧ r.2.mem ((c.tc : Thread Cert.InFwdKernel.nD Cert.InFwdKernel.τ).loc Cert.InFwdKernel.main_arg1) = m ((c.tc : Thread Cert.InFwdKernel.nD Cert.InFwdKernel.τ).loc Cert.InFwdKernel.main_arg1)
      ∧ r.2.mem ((c.tc : Thread Cert.InFwdKernel.nD Cert.InFwdKernel.τ).loc Cert.InFwdKernel.main_arg2) = m ((c.tc : Thread Cert.InFwdKernel.nD Cert.InFwdKernel.τ).loc Cert.InFwdKernel.main_arg2)
      ∧ r.2.mem ((c.tc : Thread Cert.InFwdKernel.nD Cert.InFwdKernel.τ).loc Cert.InFwdKernel.main_arg3) = m ((c.tc : Thread Cert.InFwdKernel.nD Cert.InFwdKernel.τ).loc Cert.InFwdKernel.main_arg3))
      ∧ r.2.sem = fun _ => 0)

def quiescent_InFwdKernelIdeal [hInFwdKernelIdeal : Cert.InFwdKernelIdeal.Facts] : Prop :=
  ∀ (m : (ℓ : Loc Cert.InFwdKernelIdeal.nD Cert.InFwdKernelIdeal.τ Cert.InFwdKernelIdeal.sig) → Buf (Elt Ideal) ℓ) (g : Dev Cert.InFwdKernelIdeal.nD → PrngReg), Pre_InFwdKernelIdeal m →
    θ_run (Cert.InFwdKernelIdeal.defs (F := Ideal)) (onTc (τ := Cert.InFwdKernelIdeal.τ) (Cert.InFwdKernelIdeal.main (F := Ideal))) ⟨m, fun _ => 0, g⟩ (fun r => (∀ c : Dev Cert.InFwdKernelIdeal.nD,
      r.2.mem ((c.tc : Thread Cert.InFwdKernelIdeal.nD Cert.InFwdKernelIdeal.τ).loc Cert.InFwdKernelIdeal.main_arg0) = m ((c.tc : Thread Cert.InFwdKernelIdeal.nD Cert.InFwdKernelIdeal.τ).loc Cert.InFwdKernelIdeal.main_arg0)
      ∧ r.2.mem ((c.tc : Thread Cert.InFwdKernelIdeal.nD Cert.InFwdKernelIdeal.τ).loc Cert.InFwdKernelIdeal.main_arg1) = m ((c.tc : Thread Cert.InFwdKernelIdeal.nD Cert.InFwdKernelIdeal.τ).loc Cert.InFwdKernelIdeal.main_arg1)
      ∧ r.2.mem ((c.tc : Thread Cert.InFwdKernelIdeal.nD Cert.InFwdKernelIdeal.τ).loc Cert.InFwdKernelIdeal.main_arg2) = m ((c.tc : Thread Cert.InFwdKernelIdeal.nD Cert.InFwdKernelIdeal.τ).loc Cert.InFwdKernelIdeal.main_arg2)
      ∧ r.2.mem ((c.tc : Thread Cert.InFwdKernelIdeal.nD Cert.InFwdKernelIdeal.τ).loc Cert.InFwdKernelIdeal.main_arg3) = m ((c.tc : Thread Cert.InFwdKernelIdeal.nD Cert.InFwdKernelIdeal.τ).loc Cert.InFwdKernelIdeal.main_arg3))
      ∧ r.2.sem = fun _ => 0)

def quiescent_InFwdReferenceIdeal [hInFwdReferenceIdeal : Cert.InFwdReferenceIdeal.Facts] : Prop :=
  ∀ (m : (ℓ : Loc Cert.InFwdReferenceIdeal.nD Cert.InFwdReferenceIdeal.τ Cert.InFwdReferenceIdeal.sig) → Buf (Elt Ideal) ℓ) (g : Dev Cert.InFwdReferenceIdeal.nD → PrngReg), Pre_InFwdReferenceIdeal m →
    θ_run (Cert.InFwdReferenceIdeal.defs (F := Ideal)) (onTc (τ := Cert.InFwdReferenceIdeal.τ) (Cert.InFwdReferenceIdeal.main (F := Ideal))) ⟨m, fun _ => 0, g⟩ (fun r => (∀ c : Dev Cert.InFwdReferenceIdeal.nD,
      r.2.mem ((c.tc : Thread Cert.InFwdReferenceIdeal.nD Cert.InFwdReferenceIdeal.τ).loc Cert.InFwdReferenceIdeal.main_arg0) = m ((c.tc : Thread Cert.InFwdReferenceIdeal.nD Cert.InFwdReferenceIdeal.τ).loc Cert.InFwdReferenceIdeal.main_arg0)
      ∧ r.2.mem ((c.tc : Thread Cert.InFwdReferenceIdeal.nD Cert.InFwdReferenceIdeal.τ).loc Cert.InFwdReferenceIdeal.main_arg1) = m ((c.tc : Thread Cert.InFwdReferenceIdeal.nD Cert.InFwdReferenceIdeal.τ).loc Cert.InFwdReferenceIdeal.main_arg1)
      ∧ r.2.mem ((c.tc : Thread Cert.InFwdReferenceIdeal.nD Cert.InFwdReferenceIdeal.τ).loc Cert.InFwdReferenceIdeal.main_arg2) = m ((c.tc : Thread Cert.InFwdReferenceIdeal.nD Cert.InFwdReferenceIdeal.τ).loc Cert.InFwdReferenceIdeal.main_arg2)
      ∧ r.2.mem ((c.tc : Thread Cert.InFwdReferenceIdeal.nD Cert.InFwdReferenceIdeal.τ).loc Cert.InFwdReferenceIdeal.main_arg3) = m ((c.tc : Thread Cert.InFwdReferenceIdeal.nD Cert.InFwdReferenceIdeal.τ).loc Cert.InFwdReferenceIdeal.main_arg3))
      ∧ r.2.sem = fun _ => 0)

def quiescent_MergeFwdKernel [hMergeFwdKernel : Cert.MergeFwdKernel.Facts] : Prop :=
  ∀ (m : (ℓ : Loc Cert.MergeFwdKernel.nD Cert.MergeFwdKernel.τ Cert.MergeFwdKernel.sig) → Buf (Elt Bits) ℓ) (g : Dev Cert.MergeFwdKernel.nD → PrngReg), Pre_MergeFwdKernel m →
    θ_run (Cert.MergeFwdKernel.defs (F := Bits)) (onTc (τ := Cert.MergeFwdKernel.τ) (Cert.MergeFwdKernel.main (F := Bits))) ⟨m, fun _ => 0, g⟩ (fun r => (∀ c : Dev Cert.MergeFwdKernel.nD,
      r.2.mem ((c.tc : Thread Cert.MergeFwdKernel.nD Cert.MergeFwdKernel.τ).loc Cert.MergeFwdKernel.main_arg0) = m ((c.tc : Thread Cert.MergeFwdKernel.nD Cert.MergeFwdKernel.τ).loc Cert.MergeFwdKernel.main_arg0)
      ∧ r.2.mem ((c.tc : Thread Cert.MergeFwdKernel.nD Cert.MergeFwdKernel.τ).loc Cert.MergeFwdKernel.main_arg1) = m ((c.tc : Thread Cert.MergeFwdKernel.nD Cert.MergeFwdKernel.τ).loc Cert.MergeFwdKernel.main_arg1)
      ∧ r.2.mem ((c.tc : Thread Cert.MergeFwdKernel.nD Cert.MergeFwdKernel.τ).loc Cert.MergeFwdKernel.main_arg2) = m ((c.tc : Thread Cert.MergeFwdKernel.nD Cert.MergeFwdKernel.τ).loc Cert.MergeFwdKernel.main_arg2)
      ∧ r.2.mem ((c.tc : Thread Cert.MergeFwdKernel.nD Cert.MergeFwdKernel.τ).loc Cert.MergeFwdKernel.main_arg3) = m ((c.tc : Thread Cert.MergeFwdKernel.nD Cert.MergeFwdKernel.τ).loc Cert.MergeFwdKernel.main_arg3)
      ∧ r.2.mem ((c.tc : Thread Cert.MergeFwdKernel.nD Cert.MergeFwdKernel.τ).loc Cert.MergeFwdKernel.main_arg4) = m ((c.tc : Thread Cert.MergeFwdKernel.nD Cert.MergeFwdKernel.τ).loc Cert.MergeFwdKernel.main_arg4)
      ∧ r.2.mem ((c.tc : Thread Cert.MergeFwdKernel.nD Cert.MergeFwdKernel.τ).loc Cert.MergeFwdKernel.main_arg5) = m ((c.tc : Thread Cert.MergeFwdKernel.nD Cert.MergeFwdKernel.τ).loc Cert.MergeFwdKernel.main_arg5)
      ∧ r.2.mem ((c.tc : Thread Cert.MergeFwdKernel.nD Cert.MergeFwdKernel.τ).loc Cert.MergeFwdKernel.main_arg6) = m ((c.tc : Thread Cert.MergeFwdKernel.nD Cert.MergeFwdKernel.τ).loc Cert.MergeFwdKernel.main_arg6)
      ∧ r.2.mem ((c.tc : Thread Cert.MergeFwdKernel.nD Cert.MergeFwdKernel.τ).loc Cert.MergeFwdKernel.main_arg7) = m ((c.tc : Thread Cert.MergeFwdKernel.nD Cert.MergeFwdKernel.τ).loc Cert.MergeFwdKernel.main_arg7))
      ∧ r.2.sem = fun _ => 0)

def quiescent_MergeFwdKernelIdeal [hMergeFwdKernelIdeal : Cert.MergeFwdKernelIdeal.Facts] : Prop :=
  ∀ (m : (ℓ : Loc Cert.MergeFwdKernelIdeal.nD Cert.MergeFwdKernelIdeal.τ Cert.MergeFwdKernelIdeal.sig) → Buf (Elt Ideal) ℓ) (g : Dev Cert.MergeFwdKernelIdeal.nD → PrngReg), Pre_MergeFwdKernelIdeal m →
    θ_run (Cert.MergeFwdKernelIdeal.defs (F := Ideal)) (onTc (τ := Cert.MergeFwdKernelIdeal.τ) (Cert.MergeFwdKernelIdeal.main (F := Ideal))) ⟨m, fun _ => 0, g⟩ (fun r => (∀ c : Dev Cert.MergeFwdKernelIdeal.nD,
      r.2.mem ((c.tc : Thread Cert.MergeFwdKernelIdeal.nD Cert.MergeFwdKernelIdeal.τ).loc Cert.MergeFwdKernelIdeal.main_arg0) = m ((c.tc : Thread Cert.MergeFwdKernelIdeal.nD Cert.MergeFwdKernelIdeal.τ).loc Cert.MergeFwdKernelIdeal.main_arg0)
      ∧ r.2.mem ((c.tc : Thread Cert.MergeFwdKernelIdeal.nD Cert.MergeFwdKernelIdeal.τ).loc Cert.MergeFwdKernelIdeal.main_arg1) = m ((c.tc : Thread Cert.MergeFwdKernelIdeal.nD Cert.MergeFwdKernelIdeal.τ).loc Cert.MergeFwdKernelIdeal.main_arg1)
      ∧ r.2.mem ((c.tc : Thread Cert.MergeFwdKernelIdeal.nD Cert.MergeFwdKernelIdeal.τ).loc Cert.MergeFwdKernelIdeal.main_arg2) = m ((c.tc : Thread Cert.MergeFwdKernelIdeal.nD Cert.MergeFwdKernelIdeal.τ).loc Cert.MergeFwdKernelIdeal.main_arg2)
      ∧ r.2.mem ((c.tc : Thread Cert.MergeFwdKernelIdeal.nD Cert.MergeFwdKernelIdeal.τ).loc Cert.MergeFwdKernelIdeal.main_arg3) = m ((c.tc : Thread Cert.MergeFwdKernelIdeal.nD Cert.MergeFwdKernelIdeal.τ).loc Cert.MergeFwdKernelIdeal.main_arg3)
      ∧ r.2.mem ((c.tc : Thread Cert.MergeFwdKernelIdeal.nD Cert.MergeFwdKernelIdeal.τ).loc Cert.MergeFwdKernelIdeal.main_arg4) = m ((c.tc : Thread Cert.MergeFwdKernelIdeal.nD Cert.MergeFwdKernelIdeal.τ).loc Cert.MergeFwdKernelIdeal.main_arg4)
      ∧ r.2.mem ((c.tc : Thread Cert.MergeFwdKernelIdeal.nD Cert.MergeFwdKernelIdeal.τ).loc Cert.MergeFwdKernelIdeal.main_arg5) = m ((c.tc : Thread Cert.MergeFwdKernelIdeal.nD Cert.MergeFwdKernelIdeal.τ).loc Cert.MergeFwdKernelIdeal.main_arg5)
      ∧ r.2.mem ((c.tc : Thread Cert.MergeFwdKernelIdeal.nD Cert.MergeFwdKernelIdeal.τ).loc Cert.MergeFwdKernelIdeal.main_arg6) = m ((c.tc : Thread Cert.MergeFwdKernelIdeal.nD Cert.MergeFwdKernelIdeal.τ).loc Cert.MergeFwdKernelIdeal.main_arg6)
      ∧ r.2.mem ((c.tc : Thread Cert.MergeFwdKernelIdeal.nD Cert.MergeFwdKernelIdeal.τ).loc Cert.MergeFwdKernelIdeal.main_arg7) = m ((c.tc : Thread Cert.MergeFwdKernelIdeal.nD Cert.MergeFwdKernelIdeal.τ).loc Cert.MergeFwdKernelIdeal.main_arg7))
      ∧ r.2.sem = fun _ => 0)

def quiescent_MergeFwdReferenceIdeal [hMergeFwdReferenceIdeal : Cert.MergeFwdReferenceIdeal.Facts] : Prop :=
  ∀ (m : (ℓ : Loc Cert.MergeFwdReferenceIdeal.nD Cert.MergeFwdReferenceIdeal.τ Cert.MergeFwdReferenceIdeal.sig) → Buf (Elt Ideal) ℓ) (g : Dev Cert.MergeFwdReferenceIdeal.nD → PrngReg), Pre_MergeFwdReferenceIdeal m →
    θ_run (Cert.MergeFwdReferenceIdeal.defs (F := Ideal)) (onTc (τ := Cert.MergeFwdReferenceIdeal.τ) (Cert.MergeFwdReferenceIdeal.main (F := Ideal))) ⟨m, fun _ => 0, g⟩ (fun r => (∀ c : Dev Cert.MergeFwdReferenceIdeal.nD,
      r.2.mem ((c.tc : Thread Cert.MergeFwdReferenceIdeal.nD Cert.MergeFwdReferenceIdeal.τ).loc Cert.MergeFwdReferenceIdeal.main_arg0) = m ((c.tc : Thread Cert.MergeFwdReferenceIdeal.nD Cert.MergeFwdReferenceIdeal.τ).loc Cert.MergeFwdReferenceIdeal.main_arg0)
      ∧ r.2.mem ((c.tc : Thread Cert.MergeFwdReferenceIdeal.nD Cert.MergeFwdReferenceIdeal.τ).loc Cert.MergeFwdReferenceIdeal.main_arg1) = m ((c.tc : Thread Cert.MergeFwdReferenceIdeal.nD Cert.MergeFwdReferenceIdeal.τ).loc Cert.MergeFwdReferenceIdeal.main_arg1)
      ∧ r.2.mem ((c.tc : Thread Cert.MergeFwdReferenceIdeal.nD Cert.MergeFwdReferenceIdeal.τ).loc Cert.MergeFwdReferenceIdeal.main_arg2) = m ((c.tc : Thread Cert.MergeFwdReferenceIdeal.nD Cert.MergeFwdReferenceIdeal.τ).loc Cert.MergeFwdReferenceIdeal.main_arg2)
      ∧ r.2.mem ((c.tc : Thread Cert.MergeFwdReferenceIdeal.nD Cert.MergeFwdReferenceIdeal.τ).loc Cert.MergeFwdReferenceIdeal.main_arg3) = m ((c.tc : Thread Cert.MergeFwdReferenceIdeal.nD Cert.MergeFwdReferenceIdeal.τ).loc Cert.MergeFwdReferenceIdeal.main_arg3)
      ∧ r.2.mem ((c.tc : Thread Cert.MergeFwdReferenceIdeal.nD Cert.MergeFwdReferenceIdeal.τ).loc Cert.MergeFwdReferenceIdeal.main_arg4) = m ((c.tc : Thread Cert.MergeFwdReferenceIdeal.nD Cert.MergeFwdReferenceIdeal.τ).loc Cert.MergeFwdReferenceIdeal.main_arg4)
      ∧ r.2.mem ((c.tc : Thread Cert.MergeFwdReferenceIdeal.nD Cert.MergeFwdReferenceIdeal.τ).loc Cert.MergeFwdReferenceIdeal.main_arg5) = m ((c.tc : Thread Cert.MergeFwdReferenceIdeal.nD Cert.MergeFwdReferenceIdeal.τ).loc Cert.MergeFwdReferenceIdeal.main_arg5)
      ∧ r.2.mem ((c.tc : Thread Cert.MergeFwdReferenceIdeal.nD Cert.MergeFwdReferenceIdeal.τ).loc Cert.MergeFwdReferenceIdeal.main_arg6) = m ((c.tc : Thread Cert.MergeFwdReferenceIdeal.nD Cert.MergeFwdReferenceIdeal.τ).loc Cert.MergeFwdReferenceIdeal.main_arg6)
      ∧ r.2.mem ((c.tc : Thread Cert.MergeFwdReferenceIdeal.nD Cert.MergeFwdReferenceIdeal.τ).loc Cert.MergeFwdReferenceIdeal.main_arg7) = m ((c.tc : Thread Cert.MergeFwdReferenceIdeal.nD Cert.MergeFwdReferenceIdeal.τ).loc Cert.MergeFwdReferenceIdeal.main_arg7))
      ∧ r.2.sem = fun _ => 0)

def quiescent_FfnFwdKernel [hFfnFwdKernel : Cert.FfnFwdKernel.Facts] : Prop :=
  ∀ (m : (ℓ : Loc Cert.FfnFwdKernel.nD Cert.FfnFwdKernel.τ Cert.FfnFwdKernel.sig) → Buf (Elt Bits) ℓ) (g : Dev Cert.FfnFwdKernel.nD → PrngReg), Pre_FfnFwdKernel m →
    θ_run (Cert.FfnFwdKernel.defs (F := Bits)) (onTc (τ := Cert.FfnFwdKernel.τ) (Cert.FfnFwdKernel.main (F := Bits))) ⟨m, fun _ => 0, g⟩ (fun r => (∀ c : Dev Cert.FfnFwdKernel.nD,
      r.2.mem ((c.tc : Thread Cert.FfnFwdKernel.nD Cert.FfnFwdKernel.τ).loc Cert.FfnFwdKernel.main_arg0) = m ((c.tc : Thread Cert.FfnFwdKernel.nD Cert.FfnFwdKernel.τ).loc Cert.FfnFwdKernel.main_arg0)
      ∧ r.2.mem ((c.tc : Thread Cert.FfnFwdKernel.nD Cert.FfnFwdKernel.τ).loc Cert.FfnFwdKernel.main_arg1) = m ((c.tc : Thread Cert.FfnFwdKernel.nD Cert.FfnFwdKernel.τ).loc Cert.FfnFwdKernel.main_arg1)
      ∧ r.2.mem ((c.tc : Thread Cert.FfnFwdKernel.nD Cert.FfnFwdKernel.τ).loc Cert.FfnFwdKernel.main_arg2) = m ((c.tc : Thread Cert.FfnFwdKernel.nD Cert.FfnFwdKernel.τ).loc Cert.FfnFwdKernel.main_arg2)
      ∧ r.2.mem ((c.tc : Thread Cert.FfnFwdKernel.nD Cert.FfnFwdKernel.τ).loc Cert.FfnFwdKernel.main_arg3) = m ((c.tc : Thread Cert.FfnFwdKernel.nD Cert.FfnFwdKernel.τ).loc Cert.FfnFwdKernel.main_arg3))
      ∧ r.2.sem = fun _ => 0)

def quiescent_FfnFwdKernelIdeal [hFfnFwdKernelIdeal : Cert.FfnFwdKernelIdeal.Facts] : Prop :=
  ∀ (m : (ℓ : Loc Cert.FfnFwdKernelIdeal.nD Cert.FfnFwdKernelIdeal.τ Cert.FfnFwdKernelIdeal.sig) → Buf (Elt Ideal) ℓ) (g : Dev Cert.FfnFwdKernelIdeal.nD → PrngReg), Pre_FfnFwdKernelIdeal m →
    θ_run (Cert.FfnFwdKernelIdeal.defs (F := Ideal)) (onTc (τ := Cert.FfnFwdKernelIdeal.τ) (Cert.FfnFwdKernelIdeal.main (F := Ideal))) ⟨m, fun _ => 0, g⟩ (fun r => (∀ c : Dev Cert.FfnFwdKernelIdeal.nD,
      r.2.mem ((c.tc : Thread Cert.FfnFwdKernelIdeal.nD Cert.FfnFwdKernelIdeal.τ).loc Cert.FfnFwdKernelIdeal.main_arg0) = m ((c.tc : Thread Cert.FfnFwdKernelIdeal.nD Cert.FfnFwdKernelIdeal.τ).loc Cert.FfnFwdKernelIdeal.main_arg0)
      ∧ r.2.mem ((c.tc : Thread Cert.FfnFwdKernelIdeal.nD Cert.FfnFwdKernelIdeal.τ).loc Cert.FfnFwdKernelIdeal.main_arg1) = m ((c.tc : Thread Cert.FfnFwdKernelIdeal.nD Cert.FfnFwdKernelIdeal.τ).loc Cert.FfnFwdKernelIdeal.main_arg1)
      ∧ r.2.mem ((c.tc : Thread Cert.FfnFwdKernelIdeal.nD Cert.FfnFwdKernelIdeal.τ).loc Cert.FfnFwdKernelIdeal.main_arg2) = m ((c.tc : Thread Cert.FfnFwdKernelIdeal.nD Cert.FfnFwdKernelIdeal.τ).loc Cert.FfnFwdKernelIdeal.main_arg2)
      ∧ r.2.mem ((c.tc : Thread Cert.FfnFwdKernelIdeal.nD Cert.FfnFwdKernelIdeal.τ).loc Cert.FfnFwdKernelIdeal.main_arg3) = m ((c.tc : Thread Cert.FfnFwdKernelIdeal.nD Cert.FfnFwdKernelIdeal.τ).loc Cert.FfnFwdKernelIdeal.main_arg3))
      ∧ r.2.sem = fun _ => 0)

def quiescent_FfnFwdReferenceIdeal [hFfnFwdReferenceIdeal : Cert.FfnFwdReferenceIdeal.Facts] : Prop :=
  ∀ (m : (ℓ : Loc Cert.FfnFwdReferenceIdeal.nD Cert.FfnFwdReferenceIdeal.τ Cert.FfnFwdReferenceIdeal.sig) → Buf (Elt Ideal) ℓ) (g : Dev Cert.FfnFwdReferenceIdeal.nD → PrngReg), Pre_FfnFwdReferenceIdeal m →
    θ_run (Cert.FfnFwdReferenceIdeal.defs (F := Ideal)) (onTc (τ := Cert.FfnFwdReferenceIdeal.τ) (Cert.FfnFwdReferenceIdeal.main (F := Ideal))) ⟨m, fun _ => 0, g⟩ (fun r => (∀ c : Dev Cert.FfnFwdReferenceIdeal.nD,
      r.2.mem ((c.tc : Thread Cert.FfnFwdReferenceIdeal.nD Cert.FfnFwdReferenceIdeal.τ).loc Cert.FfnFwdReferenceIdeal.main_arg0) = m ((c.tc : Thread Cert.FfnFwdReferenceIdeal.nD Cert.FfnFwdReferenceIdeal.τ).loc Cert.FfnFwdReferenceIdeal.main_arg0)
      ∧ r.2.mem ((c.tc : Thread Cert.FfnFwdReferenceIdeal.nD Cert.FfnFwdReferenceIdeal.τ).loc Cert.FfnFwdReferenceIdeal.main_arg1) = m ((c.tc : Thread Cert.FfnFwdReferenceIdeal.nD Cert.FfnFwdReferenceIdeal.τ).loc Cert.FfnFwdReferenceIdeal.main_arg1)
      ∧ r.2.mem ((c.tc : Thread Cert.FfnFwdReferenceIdeal.nD Cert.FfnFwdReferenceIdeal.τ).loc Cert.FfnFwdReferenceIdeal.main_arg2) = m ((c.tc : Thread Cert.FfnFwdReferenceIdeal.nD Cert.FfnFwdReferenceIdeal.τ).loc Cert.FfnFwdReferenceIdeal.main_arg2)
      ∧ r.2.mem ((c.tc : Thread Cert.FfnFwdReferenceIdeal.nD Cert.FfnFwdReferenceIdeal.τ).loc Cert.FfnFwdReferenceIdeal.main_arg3) = m ((c.tc : Thread Cert.FfnFwdReferenceIdeal.nD Cert.FfnFwdReferenceIdeal.τ).loc Cert.FfnFwdReferenceIdeal.main_arg3))
      ∧ r.2.sem = fun _ => 0)

def quiescent_LossKernel [hLossKernel : Cert.LossKernel.Facts] : Prop :=
  ∀ (m : (ℓ : Loc Cert.LossKernel.nD Cert.LossKernel.τ Cert.LossKernel.sig) → Buf (Elt Bits) ℓ) (g : Dev Cert.LossKernel.nD → PrngReg), Pre_LossKernel m →
    θ_run (Cert.LossKernel.defs (F := Bits)) (onTc (τ := Cert.LossKernel.τ) (Cert.LossKernel.main (F := Bits))) ⟨m, fun _ => 0, g⟩ (fun r => (∀ c : Dev Cert.LossKernel.nD,
      r.2.mem ((c.tc : Thread Cert.LossKernel.nD Cert.LossKernel.τ).loc Cert.LossKernel.main_arg0) = m ((c.tc : Thread Cert.LossKernel.nD Cert.LossKernel.τ).loc Cert.LossKernel.main_arg0)
      ∧ r.2.mem ((c.tc : Thread Cert.LossKernel.nD Cert.LossKernel.τ).loc Cert.LossKernel.main_arg1) = m ((c.tc : Thread Cert.LossKernel.nD Cert.LossKernel.τ).loc Cert.LossKernel.main_arg1)
      ∧ r.2.mem ((c.tc : Thread Cert.LossKernel.nD Cert.LossKernel.τ).loc Cert.LossKernel.main_arg2) = m ((c.tc : Thread Cert.LossKernel.nD Cert.LossKernel.τ).loc Cert.LossKernel.main_arg2)
      ∧ r.2.mem ((c.tc : Thread Cert.LossKernel.nD Cert.LossKernel.τ).loc Cert.LossKernel.main_arg3) = m ((c.tc : Thread Cert.LossKernel.nD Cert.LossKernel.τ).loc Cert.LossKernel.main_arg3)
      ∧ r.2.mem ((c.tc : Thread Cert.LossKernel.nD Cert.LossKernel.τ).loc Cert.LossKernel.main_arg4) = m ((c.tc : Thread Cert.LossKernel.nD Cert.LossKernel.τ).loc Cert.LossKernel.main_arg4)
      ∧ r.2.mem ((c.tc : Thread Cert.LossKernel.nD Cert.LossKernel.τ).loc Cert.LossKernel.main_arg5) = m ((c.tc : Thread Cert.LossKernel.nD Cert.LossKernel.τ).loc Cert.LossKernel.main_arg5))
      ∧ r.2.sem = fun _ => 0)

def quiescent_LossKernelIdeal [hLossKernelIdeal : Cert.LossKernelIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
      ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2)
      ∧ r.2.mem ((c.tc : Thread Cert.LossKernelIdeal.nD Cert.LossKernelIdeal.τ).loc Cert.LossKernelIdeal.main_arg3) = m ((c.tc : Thread Cert.LossKernelIdeal.nD Cert.LossKernelIdeal.τ).loc Cert.LossKernelIdeal.main_arg3)
      ∧ r.2.mem ((c.tc : Thread Cert.LossKernelIdeal.nD Cert.LossKernelIdeal.τ).loc Cert.LossKernelIdeal.main_arg4) = m ((c.tc : Thread Cert.LossKernelIdeal.nD Cert.LossKernelIdeal.τ).loc Cert.LossKernelIdeal.main_arg4)
      ∧ r.2.mem ((c.tc : Thread Cert.LossKernelIdeal.nD Cert.LossKernelIdeal.τ).loc Cert.LossKernelIdeal.main_arg5) = m ((c.tc : Thread Cert.LossKernelIdeal.nD Cert.LossKernelIdeal.τ).loc Cert.LossKernelIdeal.main_arg5))
      ∧ r.2.sem = fun _ => 0)

def quiescent_LossKernelIdeal_pre_finite_loss [hLossKernelIdeal : Cert.LossKernelIdeal.Facts] [hPre_finite_loss : Cert.Pre_finite_loss.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal_finite_loss m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
      ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2)
      ∧ r.2.mem ((c.tc : Thread Cert.LossKernelIdeal.nD Cert.LossKernelIdeal.τ).loc Cert.LossKernelIdeal.main_arg3) = m ((c.tc : Thread Cert.LossKernelIdeal.nD Cert.LossKernelIdeal.τ).loc Cert.LossKernelIdeal.main_arg3)
      ∧ r.2.mem ((c.tc : Thread Cert.LossKernelIdeal.nD Cert.LossKernelIdeal.τ).loc Cert.LossKernelIdeal.main_arg4) = m ((c.tc : Thread Cert.LossKernelIdeal.nD Cert.LossKernelIdeal.τ).loc Cert.LossKernelIdeal.main_arg4)
      ∧ r.2.mem ((c.tc : Thread Cert.LossKernelIdeal.nD Cert.LossKernelIdeal.τ).loc Cert.LossKernelIdeal.main_arg5) = m ((c.tc : Thread Cert.LossKernelIdeal.nD Cert.LossKernelIdeal.τ).loc Cert.LossKernelIdeal.main_arg5))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2)
      ∧ r.2.mem ((c.tc : Thread Cert.LossReferenceIdeal.nD Cert.LossReferenceIdeal.τ).loc Cert.LossReferenceIdeal.main_arg3) = m ((c.tc : Thread Cert.LossReferenceIdeal.nD Cert.LossReferenceIdeal.τ).loc Cert.LossReferenceIdeal.main_arg3)
      ∧ r.2.mem ((c.tc : Thread Cert.LossReferenceIdeal.nD Cert.LossReferenceIdeal.τ).loc Cert.LossReferenceIdeal.main_arg4) = m ((c.tc : Thread Cert.LossReferenceIdeal.nD Cert.LossReferenceIdeal.τ).loc Cert.LossReferenceIdeal.main_arg4)
      ∧ r.2.mem ((c.tc : Thread Cert.LossReferenceIdeal.nD Cert.LossReferenceIdeal.τ).loc Cert.LossReferenceIdeal.main_arg5) = m ((c.tc : Thread Cert.LossReferenceIdeal.nD Cert.LossReferenceIdeal.τ).loc Cert.LossReferenceIdeal.main_arg5))
      ∧ r.2.sem = fun _ => 0)

def quiescent_LossReferenceIdeal_pre_finite_loss [hLossReferenceIdeal : Cert.LossReferenceIdeal.Facts] [hPre_finite_loss : Cert.Pre_finite_loss.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal_finite_loss m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2)
      ∧ r.2.mem ((c.tc : Thread Cert.LossReferenceIdeal.nD Cert.LossReferenceIdeal.τ).loc Cert.LossReferenceIdeal.main_arg3) = m ((c.tc : Thread Cert.LossReferenceIdeal.nD Cert.LossReferenceIdeal.τ).loc Cert.LossReferenceIdeal.main_arg3)
      ∧ r.2.mem ((c.tc : Thread Cert.LossReferenceIdeal.nD Cert.LossReferenceIdeal.τ).loc Cert.LossReferenceIdeal.main_arg4) = m ((c.tc : Thread Cert.LossReferenceIdeal.nD Cert.LossReferenceIdeal.τ).loc Cert.LossReferenceIdeal.main_arg4)
      ∧ r.2.mem ((c.tc : Thread Cert.LossReferenceIdeal.nD Cert.LossReferenceIdeal.τ).loc Cert.LossReferenceIdeal.main_arg5) = m ((c.tc : Thread Cert.LossReferenceIdeal.nD Cert.LossReferenceIdeal.τ).loc Cert.LossReferenceIdeal.main_arg5))
      ∧ r.2.sem = fun _ => 0)

def quiescent_FirstKernel [hFirstKernel : Cert.FirstKernel.Facts] : Prop :=
  ∀ (m : (ℓ : Loc Cert.FirstKernel.nD Cert.FirstKernel.τ Cert.FirstKernel.sig) → Buf (Elt Bits) ℓ) (g : Dev Cert.FirstKernel.nD → PrngReg), Pre_FirstKernel m →
    θ_run (Cert.FirstKernel.defs (F := Bits)) (onTc (τ := Cert.FirstKernel.τ) (Cert.FirstKernel.main (F := Bits))) ⟨m, fun _ => 0, g⟩ (fun r => (∀ c : Dev Cert.FirstKernel.nD,
      r.2.mem ((c.tc : Thread Cert.FirstKernel.nD Cert.FirstKernel.τ).loc Cert.FirstKernel.main_arg0) = m ((c.tc : Thread Cert.FirstKernel.nD Cert.FirstKernel.τ).loc Cert.FirstKernel.main_arg0)
      ∧ r.2.mem ((c.tc : Thread Cert.FirstKernel.nD Cert.FirstKernel.τ).loc Cert.FirstKernel.main_arg1) = m ((c.tc : Thread Cert.FirstKernel.nD Cert.FirstKernel.τ).loc Cert.FirstKernel.main_arg1)
      ∧ r.2.mem ((c.tc : Thread Cert.FirstKernel.nD Cert.FirstKernel.τ).loc Cert.FirstKernel.main_arg2) = m ((c.tc : Thread Cert.FirstKernel.nD Cert.FirstKernel.τ).loc Cert.FirstKernel.main_arg2)
      ∧ r.2.mem ((c.tc : Thread Cert.FirstKernel.nD Cert.FirstKernel.τ).loc Cert.FirstKernel.main_arg3) = m ((c.tc : Thread Cert.FirstKernel.nD Cert.FirstKernel.τ).loc Cert.FirstKernel.main_arg3)
      ∧ r.2.mem ((c.tc : Thread Cert.FirstKernel.nD Cert.FirstKernel.τ).loc Cert.FirstKernel.main_arg4) = m ((c.tc : Thread Cert.FirstKernel.nD Cert.FirstKernel.τ).loc Cert.FirstKernel.main_arg4))
      ∧ r.2.sem = fun _ => 0)

def quiescent_FirstKernelIdeal [hFirstKernelIdeal : Cert.FirstKernelIdeal.Facts] : Prop :=
  ∀ (m : (ℓ : Loc Cert.FirstKernelIdeal.nD Cert.FirstKernelIdeal.τ Cert.FirstKernelIdeal.sig) → Buf (Elt Ideal) ℓ) (g : Dev Cert.FirstKernelIdeal.nD → PrngReg), Pre_FirstKernelIdeal m →
    θ_run (Cert.FirstKernelIdeal.defs (F := Ideal)) (onTc (τ := Cert.FirstKernelIdeal.τ) (Cert.FirstKernelIdeal.main (F := Ideal))) ⟨m, fun _ => 0, g⟩ (fun r => (∀ c : Dev Cert.FirstKernelIdeal.nD,
      r.2.mem ((c.tc : Thread Cert.FirstKernelIdeal.nD Cert.FirstKernelIdeal.τ).loc Cert.FirstKernelIdeal.main_arg0) = m ((c.tc : Thread Cert.FirstKernelIdeal.nD Cert.FirstKernelIdeal.τ).loc Cert.FirstKernelIdeal.main_arg0)
      ∧ r.2.mem ((c.tc : Thread Cert.FirstKernelIdeal.nD Cert.FirstKernelIdeal.τ).loc Cert.FirstKernelIdeal.main_arg1) = m ((c.tc : Thread Cert.FirstKernelIdeal.nD Cert.FirstKernelIdeal.τ).loc Cert.FirstKernelIdeal.main_arg1)
      ∧ r.2.mem ((c.tc : Thread Cert.FirstKernelIdeal.nD Cert.FirstKernelIdeal.τ).loc Cert.FirstKernelIdeal.main_arg2) = m ((c.tc : Thread Cert.FirstKernelIdeal.nD Cert.FirstKernelIdeal.τ).loc Cert.FirstKernelIdeal.main_arg2)
      ∧ r.2.mem ((c.tc : Thread Cert.FirstKernelIdeal.nD Cert.FirstKernelIdeal.τ).loc Cert.FirstKernelIdeal.main_arg3) = m ((c.tc : Thread Cert.FirstKernelIdeal.nD Cert.FirstKernelIdeal.τ).loc Cert.FirstKernelIdeal.main_arg3)
      ∧ r.2.mem ((c.tc : Thread Cert.FirstKernelIdeal.nD Cert.FirstKernelIdeal.τ).loc Cert.FirstKernelIdeal.main_arg4) = m ((c.tc : Thread Cert.FirstKernelIdeal.nD Cert.FirstKernelIdeal.τ).loc Cert.FirstKernelIdeal.main_arg4))
      ∧ r.2.sem = fun _ => 0)

def quiescent_FirstKernelIdeal_pre_finite [hFirstKernelIdeal : Cert.FirstKernelIdeal.Facts] [hPre_finite : Cert.Pre_finite.Facts] : Prop :=
  ∀ (m : (ℓ : Loc Cert.FirstKernelIdeal.nD Cert.FirstKernelIdeal.τ Cert.FirstKernelIdeal.sig) → Buf (Elt Ideal) ℓ) (g : Dev Cert.FirstKernelIdeal.nD → PrngReg), Pre_FirstKernelIdeal_finite m →
    θ_run (Cert.FirstKernelIdeal.defs (F := Ideal)) (onTc (τ := Cert.FirstKernelIdeal.τ) (Cert.FirstKernelIdeal.main (F := Ideal))) ⟨m, fun _ => 0, g⟩ (fun r => (∀ c : Dev Cert.FirstKernelIdeal.nD,
      r.2.mem ((c.tc : Thread Cert.FirstKernelIdeal.nD Cert.FirstKernelIdeal.τ).loc Cert.FirstKernelIdeal.main_arg0) = m ((c.tc : Thread Cert.FirstKernelIdeal.nD Cert.FirstKernelIdeal.τ).loc Cert.FirstKernelIdeal.main_arg0)
      ∧ r.2.mem ((c.tc : Thread Cert.FirstKernelIdeal.nD Cert.FirstKernelIdeal.τ).loc Cert.FirstKernelIdeal.main_arg1) = m ((c.tc : Thread Cert.FirstKernelIdeal.nD Cert.FirstKernelIdeal.τ).loc Cert.FirstKernelIdeal.main_arg1)
      ∧ r.2.mem ((c.tc : Thread Cert.FirstKernelIdeal.nD Cert.FirstKernelIdeal.τ).loc Cert.FirstKernelIdeal.main_arg2) = m ((c.tc : Thread Cert.FirstKernelIdeal.nD Cert.FirstKernelIdeal.τ).loc Cert.FirstKernelIdeal.main_arg2)
      ∧ r.2.mem ((c.tc : Thread Cert.FirstKernelIdeal.nD Cert.FirstKernelIdeal.τ).loc Cert.FirstKernelIdeal.main_arg3) = m ((c.tc : Thread Cert.FirstKernelIdeal.nD Cert.FirstKernelIdeal.τ).loc Cert.FirstKernelIdeal.main_arg3)
      ∧ r.2.mem ((c.tc : Thread Cert.FirstKernelIdeal.nD Cert.FirstKernelIdeal.τ).loc Cert.FirstKernelIdeal.main_arg4) = m ((c.tc : Thread Cert.FirstKernelIdeal.nD Cert.FirstKernelIdeal.τ).loc Cert.FirstKernelIdeal.main_arg4))
      ∧ r.2.sem = fun _ => 0)

def preserves_Kernel_KernelIdeal : Prop :=
  True

def algebraic_KernelIdeal_ReferenceIdeal_on_gate_columns [hKernelIdeal : Cert.KernelIdeal.Facts] [hReferenceIdeal : Cert.ReferenceIdeal.Facts] [hOn_gate_columns : Cert.On_gate_columns.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)) (v6 : (c : Dev Cert.KernelIdeal.nD) → Buf (Elt Ideal) ((c.tc : Thread Cert.KernelIdeal.nD Cert.KernelIdeal.τ).loc Cert.KernelIdeal.main_v0_6)) (v7 : (c : Dev Cert.KernelIdeal.nD) → Buf (Elt Ideal) ((c.tc : Thread Cert.KernelIdeal.nD Cert.KernelIdeal.τ).loc Cert.KernelIdeal.main_v0_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![4160, 1024]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 i = 1#1 → r.2.mem ((c.tc : Thread Cert.KernelIdeal.nD Cert.KernelIdeal.τ).loc Cert.KernelIdeal.main_v0_0) i = v0 c i)
          ∧ (∀ i : (⟨2, ![4160, 1024]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 i = 1#1 → r.2.mem ((c.tc : Thread Cert.KernelIdeal.nD Cert.KernelIdeal.τ).loc Cert.KernelIdeal.main_v0_1) i = v1 c i)
          ∧ (∀ i : (⟨2, ![4160, 6144]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 i = 1#1 → r.2.mem ((c.tc : Thread Cert.KernelIdeal.nD Cert.KernelIdeal.τ).loc Cert.KernelIdeal.main_v0_2) i = v2 c i)
          ∧ (∀ i : (⟨2, ![4160, 1024]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 i = 1#1 → r.2.mem ((c.tc : Thread Cert.KernelIdeal.nD Cert.KernelIdeal.τ).loc Cert.KernelIdeal.main_v0_3) i = v3 c i)
          ∧ (∀ i : (⟨2, ![4160, 1024]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 i = 1#1 → r.2.mem ((c.tc : Thread Cert.KernelIdeal.nD Cert.KernelIdeal.τ).loc Cert.KernelIdeal.main_v0_4) i = v4 c i)
          ∧ (∀ i : (⟨2, ![4160, 1024]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 i = 1#1 → r.2.mem ((c.tc : Thread Cert.KernelIdeal.nD Cert.KernelIdeal.τ).loc Cert.KernelIdeal.main_v0_5) i = v5 c i)
          ∧ (∀ i : (⟨2, ![4160, 1024]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.1 i = 1#1 → r.2.mem ((c.tc : Thread Cert.KernelIdeal.nD Cert.KernelIdeal.τ).loc Cert.KernelIdeal.main_v0_6) i = v6 c i)
          ∧ (∀ i : (⟨2, ![1, 1024]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.2 i = 1#1 → r.2.mem ((c.tc : Thread Cert.KernelIdeal.nD Cert.KernelIdeal.τ).loc Cert.KernelIdeal.main_v0_7) i = v7 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![4160, 1024]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 i = 1#1 → r.2.mem ((c.tc : Thread Cert.ReferenceIdeal.nD Cert.ReferenceIdeal.τ).loc Cert.ReferenceIdeal.main_v41) i = v0 c i)
          ∧ (∀ i : (⟨2, ![4160, 1024]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 i = 1#1 → r.2.mem ((c.tc : Thread Cert.ReferenceIdeal.nD Cert.ReferenceIdeal.τ).loc Cert.ReferenceIdeal.main_v47) i = v1 c i)
          ∧ (∀ i : (⟨2, ![4160, 6144]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 i = 1#1 → r.2.mem ((c.tc : Thread Cert.ReferenceIdeal.nD Cert.ReferenceIdeal.τ).loc Cert.ReferenceIdeal.main_v50) i = v2 c i)
          ∧ (∀ i : (⟨2, ![4160, 1024]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 i = 1#1 → r.2.mem ((c.tc : Thread Cert.ReferenceIdeal.nD Cert.ReferenceIdeal.τ).loc Cert.ReferenceIdeal.main_v51) i = v3 c i)
          ∧ (∀ i : (⟨2, ![4160, 1024]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 i = 1#1 → r.2.mem ((c.tc : Thread Cert.ReferenceIdeal.nD Cert.ReferenceIdeal.τ).loc Cert.ReferenceIdeal.main_v52) i = v4 c i)
          ∧ (∀ i : (⟨2, ![4160, 1024]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 i = 1#1 → r.2.mem ((c.tc : Thread Cert.ReferenceIdeal.nD Cert.ReferenceIdeal.τ).loc Cert.ReferenceIdeal.main_v53) i = v5 c i)
          ∧ (∀ i : (⟨2, ![4160, 1024]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.1 i = 1#1 → r.2.mem ((c.tc : Thread Cert.ReferenceIdeal.nD Cert.ReferenceIdeal.τ).loc Cert.ReferenceIdeal.main_v54) i = v6 c i)
          ∧ (∀ i : (⟨2, ![1, 1024]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.2 i = 1#1 → r.2.mem ((c.tc : Thread Cert.ReferenceIdeal.nD Cert.ReferenceIdeal.τ).loc Cert.ReferenceIdeal.main_v46) i = v7 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_FfnKernel_FfnKernelIdeal : Prop :=
  True

def algebraic_FfnKernelIdeal_FfnReferenceIdeal_pre_finite [hFfnKernelIdeal : Cert.FfnKernelIdeal.Facts] [hFfnReferenceIdeal : Cert.FfnReferenceIdeal.Facts] [hPre_finite : Cert.Pre_finite.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnKernelIdeal_finite m →
    (∀ c : Dev Cert.FfnKernelIdeal.nD,
      m' ((c.tc : Thread Cert.FfnReferenceIdeal.nD Cert.FfnReferenceIdeal.τ).loc Cert.FfnReferenceIdeal.main_arg0) = m ((c.tc : Thread Cert.FfnKernelIdeal.nD Cert.FfnKernelIdeal.τ).loc Cert.FfnKernelIdeal.main_arg0)
      ∧ m' ((c.tc : Thread Cert.FfnReferenceIdeal.nD Cert.FfnReferenceIdeal.τ).loc Cert.FfnReferenceIdeal.main_arg1) = m ((c.tc : Thread Cert.FfnKernelIdeal.nD Cert.FfnKernelIdeal.τ).loc Cert.FfnKernelIdeal.main_arg1)
      ∧ m' ((c.tc : Thread Cert.FfnReferenceIdeal.nD Cert.FfnReferenceIdeal.τ).loc Cert.FfnReferenceIdeal.main_arg2) = m ((c.tc : Thread Cert.FfnKernelIdeal.nD Cert.FfnKernelIdeal.τ).loc Cert.FfnKernelIdeal.main_arg2)
      ∧ m' ((c.tc : Thread Cert.FfnReferenceIdeal.nD Cert.FfnReferenceIdeal.τ).loc Cert.FfnReferenceIdeal.main_arg3) = m ((c.tc : Thread Cert.FfnKernelIdeal.nD Cert.FfnKernelIdeal.τ).loc Cert.FfnKernelIdeal.main_arg3)
      ∧ m' ((c.tc : Thread Cert.FfnReferenceIdeal.nD Cert.FfnReferenceIdeal.τ).loc Cert.FfnReferenceIdeal.main_arg4) = m ((c.tc : Thread Cert.FfnKernelIdeal.nD Cert.FfnKernelIdeal.τ).loc Cert.FfnKernelIdeal.main_arg4)) →
    ∃ (v0 : (c : Dev Cert.FfnKernelIdeal.nD) → Buf (Elt Ideal) ((c.tc : Thread Cert.FfnKernelIdeal.nD Cert.FfnKernelIdeal.τ).loc Cert.FfnKernelIdeal.main_v21_0)) (v1 : (c : Dev Cert.FfnKernelIdeal.nD) → Buf (Elt Ideal) ((c.tc : Thread Cert.FfnKernelIdeal.nD Cert.FfnKernelIdeal.τ).loc Cert.FfnKernelIdeal.main_v21_1)) (v2 : (c : Dev Cert.FfnKernelIdeal.nD) → Buf (Elt Ideal) ((c.tc : Thread Cert.FfnKernelIdeal.nD Cert.FfnKernelIdeal.τ).loc Cert.FfnKernelIdeal.main_v21_2)) (v3 : (c : Dev Cert.FfnKernelIdeal.nD) → Buf (Elt Ideal) ((c.tc : Thread Cert.FfnKernelIdeal.nD Cert.FfnKernelIdeal.τ).loc Cert.FfnKernelIdeal.main_v21_3)) (v4 : (c : Dev Cert.FfnKernelIdeal.nD) → Buf (Elt Ideal) ((c.tc : Thread Cert.FfnKernelIdeal.nD Cert.FfnKernelIdeal.τ).loc Cert.FfnKernelIdeal.main_v21_4)),
      θ_run (Cert.FfnKernelIdeal.defs (F := Ideal)) (onTc (τ := Cert.FfnKernelIdeal.τ) (Cert.FfnKernelIdeal.main (F := Ideal))) ⟨m, fun _ => 0, g⟩ (fun r => ∀ c : Dev Cert.FfnKernelIdeal.nD,
          r.2.mem ((c.tc : Thread Cert.FfnKernelIdeal.nD Cert.FfnKernelIdeal.τ).loc Cert.FfnKernelIdeal.main_v21_0) = v0 c
          ∧ r.2.mem ((c.tc : Thread Cert.FfnKernelIdeal.nD Cert.FfnKernelIdeal.τ).loc Cert.FfnKernelIdeal.main_v21_1) = v1 c
          ∧ r.2.mem ((c.tc : Thread Cert.FfnKernelIdeal.nD Cert.FfnKernelIdeal.τ).loc Cert.FfnKernelIdeal.main_v21_2) = v2 c
          ∧ r.2.mem ((c.tc : Thread Cert.FfnKernelIdeal.nD Cert.FfnKernelIdeal.τ).loc Cert.FfnKernelIdeal.main_v21_3) = v3 c
          ∧ r.2.mem ((c.tc : Thread Cert.FfnKernelIdeal.nD Cert.FfnKernelIdeal.τ).loc Cert.FfnKernelIdeal.main_v21_4) = v4 c
          ∧ r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
          ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
          ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
          ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
          ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v52) = v0 c
          ∧ r.2.mem ((c.tc : Thread Cert.FfnReferenceIdeal.nD Cert.FfnReferenceIdeal.τ).loc Cert.FfnReferenceIdeal.main_v53) = v1 c
          ∧ r.2.mem ((c.tc : Thread Cert.FfnReferenceIdeal.nD Cert.FfnReferenceIdeal.τ).loc Cert.FfnReferenceIdeal.main_v54) = v2 c
          ∧ r.2.mem ((c.tc : Thread Cert.FfnReferenceIdeal.nD Cert.FfnReferenceIdeal.τ).loc Cert.FfnReferenceIdeal.main_v57) = v3 c
          ∧ r.2.mem ((c.tc : Thread Cert.FfnReferenceIdeal.nD Cert.FfnReferenceIdeal.τ).loc Cert.FfnReferenceIdeal.main_v35) = v4 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4))

def preserves_InKernel_InKernelIdeal : Prop :=
  True

def algebraic_InKernelIdeal_InReferenceIdeal_pre_finite_in [hInKernelIdeal : Cert.InKernelIdeal.Facts] [hInReferenceIdeal : Cert.InReferenceIdeal.Facts] [hPre_finite_in : Cert.Pre_finite_in.Facts] : Prop :=
  ∀ (m : (ℓ : Loc Cert.InKernelIdeal.nD Cert.InKernelIdeal.τ Cert.InKernelIdeal.sig) → Buf (Elt Ideal) ℓ) (g : Dev Cert.InKernelIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InKernelIdeal_finite_in m →
    (∀ c : Dev Cert.InKernelIdeal.nD,
      m' ((c.tc : Thread Cert.InReferenceIdeal.nD Cert.InReferenceIdeal.τ).loc Cert.InReferenceIdeal.main_arg0) = m ((c.tc : Thread Cert.InKernelIdeal.nD Cert.InKernelIdeal.τ).loc Cert.InKernelIdeal.main_arg0)
      ∧ m' ((c.tc : Thread Cert.InReferenceIdeal.nD Cert.InReferenceIdeal.τ).loc Cert.InReferenceIdeal.main_arg1) = m ((c.tc : Thread Cert.InKernelIdeal.nD Cert.InKernelIdeal.τ).loc Cert.InKernelIdeal.main_arg1)
      ∧ m' ((c.tc : Thread Cert.InReferenceIdeal.nD Cert.InReferenceIdeal.τ).loc Cert.InReferenceIdeal.main_arg2) = m ((c.tc : Thread Cert.InKernelIdeal.nD Cert.InKernelIdeal.τ).loc Cert.InKernelIdeal.main_arg2)
      ∧ m' ((c.tc : Thread Cert.InReferenceIdeal.nD Cert.InReferenceIdeal.τ).loc Cert.InReferenceIdeal.main_arg3) = m ((c.tc : Thread Cert.InKernelIdeal.nD Cert.InKernelIdeal.τ).loc Cert.InKernelIdeal.main_arg3)
      ∧ m' ((c.tc : Thread Cert.InReferenceIdeal.nD Cert.InReferenceIdeal.τ).loc Cert.InReferenceIdeal.main_arg4) = m ((c.tc : Thread Cert.InKernelIdeal.nD Cert.InKernelIdeal.τ).loc Cert.InKernelIdeal.main_arg4)) →
    ∃ (v0 : (c : Dev Cert.InKernelIdeal.nD) → Buf (Elt Ideal) ((c.tc : Thread Cert.InKernelIdeal.nD Cert.InKernelIdeal.τ).loc Cert.InKernelIdeal.main_v2_0)) (v1 : (c : Dev Cert.InKernelIdeal.nD) → Buf (Elt Ideal) ((c.tc : Thread Cert.InKernelIdeal.nD Cert.InKernelIdeal.τ).loc Cert.InKernelIdeal.main_v2_1)) (v2 : (c : Dev Cert.InKernelIdeal.nD) → Buf (Elt Ideal) ((c.tc : Thread Cert.InKernelIdeal.nD Cert.InKernelIdeal.τ).loc Cert.InKernelIdeal.main_v2_2)),
      θ_run (Cert.InKernelIdeal.defs (F := Ideal)) (onTc (τ := Cert.InKernelIdeal.τ) (Cert.InKernelIdeal.main (F := Ideal))) ⟨m, fun _ => 0, g⟩ (fun r => ∀ c : Dev Cert.InKernelIdeal.nD,
          r.2.mem ((c.tc : Thread Cert.InKernelIdeal.nD Cert.InKernelIdeal.τ).loc Cert.InKernelIdeal.main_v2_0) = v0 c
          ∧ r.2.mem ((c.tc : Thread Cert.InKernelIdeal.nD Cert.InKernelIdeal.τ).loc Cert.InKernelIdeal.main_v2_1) = v1 c
          ∧ r.2.mem ((c.tc : Thread Cert.InKernelIdeal.nD Cert.InKernelIdeal.τ).loc Cert.InKernelIdeal.main_v2_2) = v2 c
          ∧ r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
          ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
          ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
          ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
          ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v43) = v0 c
          ∧ r.2.mem ((c.tc : Thread Cert.InReferenceIdeal.nD Cert.InReferenceIdeal.τ).loc Cert.InReferenceIdeal.main_v26) = v1 c
          ∧ r.2.mem ((c.tc : Thread Cert.InReferenceIdeal.nD Cert.InReferenceIdeal.τ).loc Cert.InReferenceIdeal.main_v44) = v2 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1)
          ∧ r.2.mem ((c.tc : Thread Cert.InReferenceIdeal.nD Cert.InReferenceIdeal.τ).loc Cert.InReferenceIdeal.main_arg2) = m' ((c.tc : Thread Cert.InReferenceIdeal.nD Cert.InReferenceIdeal.τ).loc Cert.InReferenceIdeal.main_arg2)
          ∧ r.2.mem ((c.tc : Thread Cert.InReferenceIdeal.nD Cert.InReferenceIdeal.τ).loc Cert.InReferenceIdeal.main_arg3) = m' ((c.tc : Thread Cert.InReferenceIdeal.nD Cert.InReferenceIdeal.τ).loc Cert.InReferenceIdeal.main_arg3)
          ∧ r.2.mem ((c.tc : Thread Cert.InReferenceIdeal.nD Cert.InReferenceIdeal.τ).loc Cert.InReferenceIdeal.main_arg4) = m' ((c.tc : Thread Cert.InReferenceIdeal.nD Cert.InReferenceIdeal.τ).loc Cert.InReferenceIdeal.main_arg4))

def preserves_GateKernel_GateKernelIdeal : Prop :=
  True

def algebraic_GateKernelIdeal_GateReferenceIdeal_on_gate_blocks [hGateKernelIdeal : Cert.GateKernelIdeal.Facts] [hGateReferenceIdeal : Cert.GateReferenceIdeal.Facts] [hOn_gate_blocks : Cert.On_gate_blocks.Facts] : Prop :=
  ∀ (m : (ℓ : Loc Cert.GateKernelIdeal.nD Cert.GateKernelIdeal.τ Cert.GateKernelIdeal.sig) → Buf (Elt Ideal) ℓ) (g : Dev Cert.GateKernelIdeal.nD → PrngReg)
    (m' : (ℓ : Loc Cert.GateReferenceIdeal.nD Cert.GateReferenceIdeal.τ Cert.GateReferenceIdeal.sig) → Buf (Elt Ideal) ℓ) (g' : Dev Cert.GateReferenceIdeal.nD → PrngReg), Pre_GateKernelIdeal m →
    (∀ c : Dev Cert.GateKernelIdeal.nD,
      m' ((c.tc : Thread Cert.GateReferenceIdeal.nD Cert.GateReferenceIdeal.τ).loc Cert.GateReferenceIdeal.main_arg0) = m ((c.tc : Thread Cert.GateKernelIdeal.nD Cert.GateKernelIdeal.τ).loc Cert.GateKernelIdeal.main_arg0)
      ∧ m' ((c.tc : Thread Cert.GateReferenceIdeal.nD Cert.GateReferenceIdeal.τ).loc Cert.GateReferenceIdeal.main_arg1) = m ((c.tc : Thread Cert.GateKernelIdeal.nD Cert.GateKernelIdeal.τ).loc Cert.GateKernelIdeal.main_arg1)) →
    ∃ (v0 : (c : Dev Cert.GateKernelIdeal.nD) → Buf (Elt Ideal) ((c.tc : Thread Cert.GateKernelIdeal.nD Cert.GateKernelIdeal.τ).loc Cert.GateKernelIdeal.main_v0)),
      θ_run (Cert.GateKernelIdeal.defs (F := Ideal)) (onTc (τ := Cert.GateKernelIdeal.τ) (Cert.GateKernelIdeal.main (F := Ideal))) ⟨m, fun _ => 0, g⟩ (fun r => ∀ c : Dev Cert.GateKernelIdeal.nD,
          (∀ i : (⟨3, ![4, 1024, 1408]⟩ : Shape).Idx, (Cert.On_gate_blocks.fn (F := Ideal) (m ((c.tc : Thread Cert.GateKernelIdeal.nD Cert.GateKernelIdeal.τ).loc Cert.GateKernelIdeal.main_arg0)) (m ((c.tc : Thread Cert.GateKernelIdeal.nD Cert.GateKernelIdeal.τ).loc Cert.GateKernelIdeal.main_arg1))) i = 1#1 → r.2.mem ((c.tc : Thread Cert.GateKernelIdeal.nD Cert.GateKernelIdeal.τ).loc Cert.GateKernelIdeal.main_v0) i = v0 c i)
          ∧ r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
          ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1))
      ∧ θ_run (Cert.GateReferenceIdeal.defs (F := Ideal)) (onTc (τ := Cert.GateReferenceIdeal.τ) (Cert.GateReferenceIdeal.main (F := Ideal))) ⟨m', fun _ => 0, g'⟩ (fun r => ∀ c : Dev Cert.GateReferenceIdeal.nD,
          (∀ i : (⟨3, ![4, 1024, 1408]⟩ : Shape).Idx, (Cert.On_gate_blocks.fn (F := Ideal) (m ((c.tc : Thread Cert.GateKernelIdeal.nD Cert.GateKernelIdeal.τ).loc Cert.GateKernelIdeal.main_arg0)) (m ((c.tc : Thread Cert.GateKernelIdeal.nD Cert.GateKernelIdeal.τ).loc Cert.GateKernelIdeal.main_arg1))) i = 1#1 → r.2.mem ((c.tc : Thread Cert.GateReferenceIdeal.nD Cert.GateReferenceIdeal.τ).loc Cert.GateReferenceIdeal.main_v10) i = v0 c i)
          ∧ r.2.mem ((c.tc : Thread Cert.GateReferenceIdeal.nD Cert.GateReferenceIdeal.τ).loc Cert.GateReferenceIdeal.main_arg0) = m' ((c.tc : Thread Cert.GateReferenceIdeal.nD Cert.GateReferenceIdeal.τ).loc Cert.GateReferenceIdeal.main_arg0)
          ∧ r.2.mem ((c.tc : Thread Cert.GateReferenceIdeal.nD Cert.GateReferenceIdeal.τ).loc Cert.GateReferenceIdeal.main_arg1) = m' ((c.tc : Thread Cert.GateReferenceIdeal.nD Cert.GateReferenceIdeal.τ).loc Cert.GateReferenceIdeal.main_arg1))

def preserves_UpKernel_UpKernelIdeal : Prop :=
  True

def algebraic_UpKernelIdeal_UpReferenceIdeal [hUpKernelIdeal : Cert.UpKernelIdeal.Facts] [hUpReferenceIdeal : Cert.UpReferenceIdeal.Facts] : Prop :=
  ∀ (m : (ℓ : Loc Cert.UpKernelIdeal.nD Cert.UpKernelIdeal.τ Cert.UpKernelIdeal.sig) → Buf (Elt Ideal) ℓ) (g : Dev Cert.UpKernelIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpKernelIdeal m →
    (∀ c : Dev Cert.UpKernelIdeal.nD,
      m' ((c.tc : Thread Cert.UpReferenceIdeal.nD Cert.UpReferenceIdeal.τ).loc Cert.UpReferenceIdeal.main_arg0) = m ((c.tc : Thread Cert.UpKernelIdeal.nD Cert.UpKernelIdeal.τ).loc Cert.UpKernelIdeal.main_arg0)
      ∧ m' ((c.tc : Thread Cert.UpReferenceIdeal.nD Cert.UpReferenceIdeal.τ).loc Cert.UpReferenceIdeal.main_arg1) = m ((c.tc : Thread Cert.UpKernelIdeal.nD Cert.UpKernelIdeal.τ).loc Cert.UpKernelIdeal.main_arg1)
      ∧ m' ((c.tc : Thread Cert.UpReferenceIdeal.nD Cert.UpReferenceIdeal.τ).loc Cert.UpReferenceIdeal.main_arg2) = m ((c.tc : Thread Cert.UpKernelIdeal.nD Cert.UpKernelIdeal.τ).loc Cert.UpKernelIdeal.main_arg2)) →
    ∃ (v0 : (c : Dev Cert.UpKernelIdeal.nD) → Buf (Elt Ideal) ((c.tc : Thread Cert.UpKernelIdeal.nD Cert.UpKernelIdeal.τ).loc Cert.UpKernelIdeal.main_v0)),
      θ_run (Cert.UpKernelIdeal.defs (F := Ideal)) (onTc (τ := Cert.UpKernelIdeal.τ) (Cert.UpKernelIdeal.main (F := Ideal))) ⟨m, fun _ => 0, g⟩ (fun r => ∀ c : Dev Cert.UpKernelIdeal.nD,
          r.2.mem ((c.tc : Thread Cert.UpKernelIdeal.nD Cert.UpKernelIdeal.τ).loc Cert.UpKernelIdeal.main_v0) = v0 c
          ∧ r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
          ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1)
          ∧ r.2.mem ((c.tc : Thread Cert.UpKernelIdeal.nD Cert.UpKernelIdeal.τ).loc Cert.UpKernelIdeal.main_arg2) = m ((c.tc : Thread Cert.UpKernelIdeal.nD Cert.UpKernelIdeal.τ).loc Cert.UpKernelIdeal.main_arg2))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v13) = v0 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1)
          ∧ r.2.mem ((c.tc : Thread Cert.UpReferenceIdeal.nD Cert.UpReferenceIdeal.τ).loc Cert.UpReferenceIdeal.main_arg2) = m' ((c.tc : Thread Cert.UpReferenceIdeal.nD Cert.UpReferenceIdeal.τ).loc Cert.UpReferenceIdeal.main_arg2))

def preserves_DownKernel_DownKernelIdeal : Prop :=
  True

def algebraic_DownKernelIdeal_DownReferenceIdeal [hDownKernelIdeal : Cert.DownKernelIdeal.Facts] [hDownReferenceIdeal : Cert.DownReferenceIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownKernelIdeal m →
    (∀ c : Dev Cert.DownKernelIdeal.nD,
      m' ((c.tc : Thread Cert.DownReferenceIdeal.nD Cert.DownReferenceIdeal.τ).loc Cert.DownReferenceIdeal.main_arg0) = m ((c.tc : Thread Cert.DownKernelIdeal.nD Cert.DownKernelIdeal.τ).loc Cert.DownKernelIdeal.main_arg0)
      ∧ m' ((c.tc : Thread Cert.DownReferenceIdeal.nD Cert.DownReferenceIdeal.τ).loc Cert.DownReferenceIdeal.main_arg1) = m ((c.tc : Thread Cert.DownKernelIdeal.nD Cert.DownKernelIdeal.τ).loc Cert.DownKernelIdeal.main_arg1)) →
    ∃ (v0 : (c : Dev Cert.DownKernelIdeal.nD) → Buf (Elt Ideal) ((c.tc : Thread Cert.DownKernelIdeal.nD Cert.DownKernelIdeal.τ).loc Cert.DownKernelIdeal.main_v0)),
      θ_run (Cert.DownKernelIdeal.defs (F := Ideal)) (onTc (τ := Cert.DownKernelIdeal.τ) (Cert.DownKernelIdeal.main (F := Ideal))) ⟨m, fun _ => 0, g⟩ (fun r => ∀ c : Dev Cert.DownKernelIdeal.nD,
          r.2.mem ((c.tc : Thread Cert.DownKernelIdeal.nD Cert.DownKernelIdeal.τ).loc Cert.DownKernelIdeal.main_v0) = v0 c
          ∧ r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
          ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v6) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1))

def preserves_SquareKernel_SquareKernelIdeal : Prop :=
  True

def algebraic_SquareKernelIdeal_SquareReferenceIdeal [hSquareKernelIdeal : Cert.SquareKernelIdeal.Facts] [hSquareReferenceIdeal : Cert.SquareReferenceIdeal.Facts] : Prop :=
  ∀ (m : (ℓ : Loc Cert.SquareKernelIdeal.nD Cert.SquareKernelIdeal.τ Cert.SquareKernelIdeal.sig) → Buf (Elt Ideal) ℓ) (g : Dev Cert.SquareKernelIdeal.nD → PrngReg)
    (m' : (ℓ : Loc Cert.SquareReferenceIdeal.nD Cert.SquareReferenceIdeal.τ Cert.SquareReferenceIdeal.sig) → Buf (Elt Ideal) ℓ) (g' : Dev Cert.SquareReferenceIdeal.nD → PrngReg), Pre_SquareKernelIdeal m →
    (∀ c : Dev Cert.SquareKernelIdeal.nD,
      m' ((c.tc : Thread Cert.SquareReferenceIdeal.nD Cert.SquareReferenceIdeal.τ).loc Cert.SquareReferenceIdeal.main_arg0) = m ((c.tc : Thread Cert.SquareKernelIdeal.nD Cert.SquareKernelIdeal.τ).loc Cert.SquareKernelIdeal.main_arg0)
      ∧ m' ((c.tc : Thread Cert.SquareReferenceIdeal.nD Cert.SquareReferenceIdeal.τ).loc Cert.SquareReferenceIdeal.main_arg1) = m ((c.tc : Thread Cert.SquareKernelIdeal.nD Cert.SquareKernelIdeal.τ).loc Cert.SquareKernelIdeal.main_arg1)) →
    ∃ (v0 : (c : Dev Cert.SquareKernelIdeal.nD) → Buf (Elt Ideal) ((c.tc : Thread Cert.SquareKernelIdeal.nD Cert.SquareKernelIdeal.τ).loc Cert.SquareKernelIdeal.main_v0)),
      θ_run (Cert.SquareKernelIdeal.defs (F := Ideal)) (onTc (τ := Cert.SquareKernelIdeal.τ) (Cert.SquareKernelIdeal.main (F := Ideal))) ⟨m, fun _ => 0, g⟩ (fun r => ∀ c : Dev Cert.SquareKernelIdeal.nD,
          r.2.mem ((c.tc : Thread Cert.SquareKernelIdeal.nD Cert.SquareKernelIdeal.τ).loc Cert.SquareKernelIdeal.main_v0) = v0 c
          ∧ r.2.mem ((c.tc : Thread Cert.SquareKernelIdeal.nD Cert.SquareKernelIdeal.τ).loc Cert.SquareKernelIdeal.main_arg0) = m ((c.tc : Thread Cert.SquareKernelIdeal.nD Cert.SquareKernelIdeal.τ).loc Cert.SquareKernelIdeal.main_arg0)
          ∧ r.2.mem ((c.tc : Thread Cert.SquareKernelIdeal.nD Cert.SquareKernelIdeal.τ).loc Cert.SquareKernelIdeal.main_arg1) = m ((c.tc : Thread Cert.SquareKernelIdeal.nD Cert.SquareKernelIdeal.τ).loc Cert.SquareKernelIdeal.main_arg1))
      ∧ θ_run (Cert.SquareReferenceIdeal.defs (F := Ideal)) (onTc (τ := Cert.SquareReferenceIdeal.τ) (Cert.SquareReferenceIdeal.main (F := Ideal))) ⟨m', fun _ => 0, g'⟩ (fun r => ∀ c : Dev Cert.SquareReferenceIdeal.nD,
          r.2.mem ((c.tc : Thread Cert.SquareReferenceIdeal.nD Cert.SquareReferenceIdeal.τ).loc Cert.SquareReferenceIdeal.main_v6) = v0 c
          ∧ r.2.mem ((c.tc : Thread Cert.SquareReferenceIdeal.nD Cert.SquareReferenceIdeal.τ).loc Cert.SquareReferenceIdeal.main_arg0) = m' ((c.tc : Thread Cert.SquareReferenceIdeal.nD Cert.SquareReferenceIdeal.τ).loc Cert.SquareReferenceIdeal.main_arg0)
          ∧ r.2.mem ((c.tc : Thread Cert.SquareReferenceIdeal.nD Cert.SquareReferenceIdeal.τ).loc Cert.SquareReferenceIdeal.main_arg1) = m' ((c.tc : Thread Cert.SquareReferenceIdeal.nD Cert.SquareReferenceIdeal.τ).loc Cert.SquareReferenceIdeal.main_arg1))

def preserves_WinKernel_WinKernelIdeal : Prop :=
  True

def algebraic_WinKernelIdeal_WinReferenceIdeal [hWinKernelIdeal : Cert.WinKernelIdeal.Facts] [hWinReferenceIdeal : Cert.WinReferenceIdeal.Facts] : Prop :=
  ∀ (m : (ℓ : Loc Cert.WinKernelIdeal.nD Cert.WinKernelIdeal.τ Cert.WinKernelIdeal.sig) → Buf (Elt Ideal) ℓ) (g : Dev Cert.WinKernelIdeal.nD → PrngReg)
    (m' : (ℓ : Loc Cert.WinReferenceIdeal.nD Cert.WinReferenceIdeal.τ Cert.WinReferenceIdeal.sig) → Buf (Elt Ideal) ℓ) (g' : Dev Cert.WinReferenceIdeal.nD → PrngReg), Pre_WinKernelIdeal m →
    (∀ c : Dev Cert.WinKernelIdeal.nD,
      m' ((c.tc : Thread Cert.WinReferenceIdeal.nD Cert.WinReferenceIdeal.τ).loc Cert.WinReferenceIdeal.main_arg0) = m ((c.tc : Thread Cert.WinKernelIdeal.nD Cert.WinKernelIdeal.τ).loc Cert.WinKernelIdeal.main_arg0)
      ∧ m' ((c.tc : Thread Cert.WinReferenceIdeal.nD Cert.WinReferenceIdeal.τ).loc Cert.WinReferenceIdeal.main_arg1) = m ((c.tc : Thread Cert.WinKernelIdeal.nD Cert.WinKernelIdeal.τ).loc Cert.WinKernelIdeal.main_arg1)) →
    ∃ (v0 : (c : Dev Cert.WinKernelIdeal.nD) → Buf (Elt Ideal) ((c.tc : Thread Cert.WinKernelIdeal.nD Cert.WinKernelIdeal.τ).loc Cert.WinKernelIdeal.main_v0)),
      θ_run (Cert.WinKernelIdeal.defs (F := Ideal)) (onTc (τ := Cert.WinKernelIdeal.τ) (Cert.WinKernelIdeal.main (F := Ideal))) ⟨m, fun _ => 0, g⟩ (fun r => ∀ c : Dev Cert.WinKernelIdeal.nD,
          r.2.mem ((c.tc : Thread Cert.WinKernelIdeal.nD Cert.WinKernelIdeal.τ).loc Cert.WinKernelIdeal.main_v0) = v0 c
          ∧ r.2.mem ((c.tc : Thread Cert.WinKernelIdeal.nD Cert.WinKernelIdeal.τ).loc Cert.WinKernelIdeal.main_arg0) = m ((c.tc : Thread Cert.WinKernelIdeal.nD Cert.WinKernelIdeal.τ).loc Cert.WinKernelIdeal.main_arg0)
          ∧ r.2.mem ((c.tc : Thread Cert.WinKernelIdeal.nD Cert.WinKernelIdeal.τ).loc Cert.WinKernelIdeal.main_arg1) = m ((c.tc : Thread Cert.WinKernelIdeal.nD Cert.WinKernelIdeal.τ).loc Cert.WinKernelIdeal.main_arg1))
      ∧ θ_run (Cert.WinReferenceIdeal.defs (F := Ideal)) (onTc (τ := Cert.WinReferenceIdeal.τ) (Cert.WinReferenceIdeal.main (F := Ideal))) ⟨m', fun _ => 0, g'⟩ (fun r => ∀ c : Dev Cert.WinReferenceIdeal.nD,
          r.2.mem ((c.tc : Thread Cert.WinReferenceIdeal.nD Cert.WinReferenceIdeal.τ).loc Cert.WinReferenceIdeal.main_v8) = v0 c
          ∧ r.2.mem ((c.tc : Thread Cert.WinReferenceIdeal.nD Cert.WinReferenceIdeal.τ).loc Cert.WinReferenceIdeal.main_arg0) = m' ((c.tc : Thread Cert.WinReferenceIdeal.nD Cert.WinReferenceIdeal.τ).loc Cert.WinReferenceIdeal.main_arg0)
          ∧ r.2.mem ((c.tc : Thread Cert.WinReferenceIdeal.nD Cert.WinReferenceIdeal.τ).loc Cert.WinReferenceIdeal.main_arg1) = m' ((c.tc : Thread Cert.WinReferenceIdeal.nD Cert.WinReferenceIdeal.τ).loc Cert.WinReferenceIdeal.main_arg1))

def preserves_InFwdKernel_InFwdKernelIdeal : Prop :=
  True

def algebraic_InFwdKernelIdeal_InFwdReferenceIdeal [hInFwdKernelIdeal : Cert.InFwdKernelIdeal.Facts] [hInFwdReferenceIdeal : Cert.InFwdReferenceIdeal.Facts] : Prop :=
  ∀ (m : (ℓ : Loc Cert.InFwdKernelIdeal.nD Cert.InFwdKernelIdeal.τ Cert.InFwdKernelIdeal.sig) → Buf (Elt Ideal) ℓ) (g : Dev Cert.InFwdKernelIdeal.nD → PrngReg)
    (m' : (ℓ : Loc Cert.InFwdReferenceIdeal.nD Cert.InFwdReferenceIdeal.τ Cert.InFwdReferenceIdeal.sig) → Buf (Elt Ideal) ℓ) (g' : Dev Cert.InFwdReferenceIdeal.nD → PrngReg), Pre_InFwdKernelIdeal m →
    (∀ c : Dev Cert.InFwdKernelIdeal.nD,
      m' ((c.tc : Thread Cert.InFwdReferenceIdeal.nD Cert.InFwdReferenceIdeal.τ).loc Cert.InFwdReferenceIdeal.main_arg0) = m ((c.tc : Thread Cert.InFwdKernelIdeal.nD Cert.InFwdKernelIdeal.τ).loc Cert.InFwdKernelIdeal.main_arg0)
      ∧ m' ((c.tc : Thread Cert.InFwdReferenceIdeal.nD Cert.InFwdReferenceIdeal.τ).loc Cert.InFwdReferenceIdeal.main_arg1) = m ((c.tc : Thread Cert.InFwdKernelIdeal.nD Cert.InFwdKernelIdeal.τ).loc Cert.InFwdKernelIdeal.main_arg1)
      ∧ m' ((c.tc : Thread Cert.InFwdReferenceIdeal.nD Cert.InFwdReferenceIdeal.τ).loc Cert.InFwdReferenceIdeal.main_arg2) = m ((c.tc : Thread Cert.InFwdKernelIdeal.nD Cert.InFwdKernelIdeal.τ).loc Cert.InFwdKernelIdeal.main_arg2)
      ∧ m' ((c.tc : Thread Cert.InFwdReferenceIdeal.nD Cert.InFwdReferenceIdeal.τ).loc Cert.InFwdReferenceIdeal.main_arg3) = m ((c.tc : Thread Cert.InFwdKernelIdeal.nD Cert.InFwdKernelIdeal.τ).loc Cert.InFwdKernelIdeal.main_arg3)) →
    ∃ (v0 : (c : Dev Cert.InFwdKernelIdeal.nD) → Buf (Elt Ideal) ((c.tc : Thread Cert.InFwdKernelIdeal.nD Cert.InFwdKernelIdeal.τ).loc Cert.InFwdKernelIdeal.main_v2_0)) (v1 : (c : Dev Cert.InFwdKernelIdeal.nD) → Buf (Elt Ideal) ((c.tc : Thread Cert.InFwdKernelIdeal.nD Cert.InFwdKernelIdeal.τ).loc Cert.InFwdKernelIdeal.main_v2_1)),
      θ_run (Cert.InFwdKernelIdeal.defs (F := Ideal)) (onTc (τ := Cert.InFwdKernelIdeal.τ) (Cert.InFwdKernelIdeal.main (F := Ideal))) ⟨m, fun _ => 0, g⟩ (fun r => ∀ c : Dev Cert.InFwdKernelIdeal.nD,
          r.2.mem ((c.tc : Thread Cert.InFwdKernelIdeal.nD Cert.InFwdKernelIdeal.τ).loc Cert.InFwdKernelIdeal.main_v2_0) = v0 c
          ∧ r.2.mem ((c.tc : Thread Cert.InFwdKernelIdeal.nD Cert.InFwdKernelIdeal.τ).loc Cert.InFwdKernelIdeal.main_v2_1) = v1 c
          ∧ r.2.mem ((c.tc : Thread Cert.InFwdKernelIdeal.nD Cert.InFwdKernelIdeal.τ).loc Cert.InFwdKernelIdeal.main_arg0) = m ((c.tc : Thread Cert.InFwdKernelIdeal.nD Cert.InFwdKernelIdeal.τ).loc Cert.InFwdKernelIdeal.main_arg0)
          ∧ r.2.mem ((c.tc : Thread Cert.InFwdKernelIdeal.nD Cert.InFwdKernelIdeal.τ).loc Cert.InFwdKernelIdeal.main_arg1) = m ((c.tc : Thread Cert.InFwdKernelIdeal.nD Cert.InFwdKernelIdeal.τ).loc Cert.InFwdKernelIdeal.main_arg1)
          ∧ r.2.mem ((c.tc : Thread Cert.InFwdKernelIdeal.nD Cert.InFwdKernelIdeal.τ).loc Cert.InFwdKernelIdeal.main_arg2) = m ((c.tc : Thread Cert.InFwdKernelIdeal.nD Cert.InFwdKernelIdeal.τ).loc Cert.InFwdKernelIdeal.main_arg2)
          ∧ r.2.mem ((c.tc : Thread Cert.InFwdKernelIdeal.nD Cert.InFwdKernelIdeal.τ).loc Cert.InFwdKernelIdeal.main_arg3) = m ((c.tc : Thread Cert.InFwdKernelIdeal.nD Cert.InFwdKernelIdeal.τ).loc Cert.InFwdKernelIdeal.main_arg3))
      ∧ θ_run (Cert.InFwdReferenceIdeal.defs (F := Ideal)) (onTc (τ := Cert.InFwdReferenceIdeal.τ) (Cert.InFwdReferenceIdeal.main (F := Ideal))) ⟨m', fun _ => 0, g'⟩ (fun r => ∀ c : Dev Cert.InFwdReferenceIdeal.nD,
          r.2.mem ((c.tc : Thread Cert.InFwdReferenceIdeal.nD Cert.InFwdReferenceIdeal.τ).loc Cert.InFwdReferenceIdeal.main_v15) = v0 c
          ∧ r.2.mem ((c.tc : Thread Cert.InFwdReferenceIdeal.nD Cert.InFwdReferenceIdeal.τ).loc Cert.InFwdReferenceIdeal.main_v16) = v1 c
          ∧ r.2.mem ((c.tc : Thread Cert.InFwdReferenceIdeal.nD Cert.InFwdReferenceIdeal.τ).loc Cert.InFwdReferenceIdeal.main_arg0) = m' ((c.tc : Thread Cert.InFwdReferenceIdeal.nD Cert.InFwdReferenceIdeal.τ).loc Cert.InFwdReferenceIdeal.main_arg0)
          ∧ r.2.mem ((c.tc : Thread Cert.InFwdReferenceIdeal.nD Cert.InFwdReferenceIdeal.τ).loc Cert.InFwdReferenceIdeal.main_arg1) = m' ((c.tc : Thread Cert.InFwdReferenceIdeal.nD Cert.InFwdReferenceIdeal.τ).loc Cert.InFwdReferenceIdeal.main_arg1)
          ∧ r.2.mem ((c.tc : Thread Cert.InFwdReferenceIdeal.nD Cert.InFwdReferenceIdeal.τ).loc Cert.InFwdReferenceIdeal.main_arg2) = m' ((c.tc : Thread Cert.InFwdReferenceIdeal.nD Cert.InFwdReferenceIdeal.τ).loc Cert.InFwdReferenceIdeal.main_arg2)
          ∧ r.2.mem ((c.tc : Thread Cert.InFwdReferenceIdeal.nD Cert.InFwdReferenceIdeal.τ).loc Cert.InFwdReferenceIdeal.main_arg3) = m' ((c.tc : Thread Cert.InFwdReferenceIdeal.nD Cert.InFwdReferenceIdeal.τ).loc Cert.InFwdReferenceIdeal.main_arg3))

def preserves_MergeFwdKernel_MergeFwdKernelIdeal : Prop :=
  True

def algebraic_MergeFwdKernelIdeal_MergeFwdReferenceIdeal [hMergeFwdKernelIdeal : Cert.MergeFwdKernelIdeal.Facts] [hMergeFwdReferenceIdeal : Cert.MergeFwdReferenceIdeal.Facts] : Prop :=
  ∀ (m : (ℓ : Loc Cert.MergeFwdKernelIdeal.nD Cert.MergeFwdKernelIdeal.τ Cert.MergeFwdKernelIdeal.sig) → Buf (Elt Ideal) ℓ) (g : Dev Cert.MergeFwdKernelIdeal.nD → PrngReg)
    (m' : (ℓ : Loc Cert.MergeFwdReferenceIdeal.nD Cert.MergeFwdReferenceIdeal.τ Cert.MergeFwdReferenceIdeal.sig) → Buf (Elt Ideal) ℓ) (g' : Dev Cert.MergeFwdReferenceIdeal.nD → PrngReg), Pre_MergeFwdKernelIdeal m →
    (∀ c : Dev Cert.MergeFwdKernelIdeal.nD,
      m' ((c.tc : Thread Cert.MergeFwdReferenceIdeal.nD Cert.MergeFwdReferenceIdeal.τ).loc Cert.MergeFwdReferenceIdeal.main_arg0) = m ((c.tc : Thread Cert.MergeFwdKernelIdeal.nD Cert.MergeFwdKernelIdeal.τ).loc Cert.MergeFwdKernelIdeal.main_arg0)
      ∧ m' ((c.tc : Thread Cert.MergeFwdReferenceIdeal.nD Cert.MergeFwdReferenceIdeal.τ).loc Cert.MergeFwdReferenceIdeal.main_arg1) = m ((c.tc : Thread Cert.MergeFwdKernelIdeal.nD Cert.MergeFwdKernelIdeal.τ).loc Cert.MergeFwdKernelIdeal.main_arg1)
      ∧ m' ((c.tc : Thread Cert.MergeFwdReferenceIdeal.nD Cert.MergeFwdReferenceIdeal.τ).loc Cert.MergeFwdReferenceIdeal.main_arg2) = m ((c.tc : Thread Cert.MergeFwdKernelIdeal.nD Cert.MergeFwdKernelIdeal.τ).loc Cert.MergeFwdKernelIdeal.main_arg2)
      ∧ m' ((c.tc : Thread Cert.MergeFwdReferenceIdeal.nD Cert.MergeFwdReferenceIdeal.τ).loc Cert.MergeFwdReferenceIdeal.main_arg3) = m ((c.tc : Thread Cert.MergeFwdKernelIdeal.nD Cert.MergeFwdKernelIdeal.τ).loc Cert.MergeFwdKernelIdeal.main_arg3)
      ∧ m' ((c.tc : Thread Cert.MergeFwdReferenceIdeal.nD Cert.MergeFwdReferenceIdeal.τ).loc Cert.MergeFwdReferenceIdeal.main_arg4) = m ((c.tc : Thread Cert.MergeFwdKernelIdeal.nD Cert.MergeFwdKernelIdeal.τ).loc Cert.MergeFwdKernelIdeal.main_arg4)
      ∧ m' ((c.tc : Thread Cert.MergeFwdReferenceIdeal.nD Cert.MergeFwdReferenceIdeal.τ).loc Cert.MergeFwdReferenceIdeal.main_arg5) = m ((c.tc : Thread Cert.MergeFwdKernelIdeal.nD Cert.MergeFwdKernelIdeal.τ).loc Cert.MergeFwdKernelIdeal.main_arg5)
      ∧ m' ((c.tc : Thread Cert.MergeFwdReferenceIdeal.nD Cert.MergeFwdReferenceIdeal.τ).loc Cert.MergeFwdReferenceIdeal.main_arg6) = m ((c.tc : Thread Cert.MergeFwdKernelIdeal.nD Cert.MergeFwdKernelIdeal.τ).loc Cert.MergeFwdKernelIdeal.main_arg6)
      ∧ m' ((c.tc : Thread Cert.MergeFwdReferenceIdeal.nD Cert.MergeFwdReferenceIdeal.τ).loc Cert.MergeFwdReferenceIdeal.main_arg7) = m ((c.tc : Thread Cert.MergeFwdKernelIdeal.nD Cert.MergeFwdKernelIdeal.τ).loc Cert.MergeFwdKernelIdeal.main_arg7)) →
    ∃ (v0 : (c : Dev Cert.MergeFwdKernelIdeal.nD) → Buf (Elt Ideal) ((c.tc : Thread Cert.MergeFwdKernelIdeal.nD Cert.MergeFwdKernelIdeal.τ).loc Cert.MergeFwdKernelIdeal.main_v0)),
      θ_run (Cert.MergeFwdKernelIdeal.defs (F := Ideal)) (onTc (τ := Cert.MergeFwdKernelIdeal.τ) (Cert.MergeFwdKernelIdeal.main (F := Ideal))) ⟨m, fun _ => 0, g⟩ (fun r => ∀ c : Dev Cert.MergeFwdKernelIdeal.nD,
          r.2.mem ((c.tc : Thread Cert.MergeFwdKernelIdeal.nD Cert.MergeFwdKernelIdeal.τ).loc Cert.MergeFwdKernelIdeal.main_v0) = v0 c
          ∧ r.2.mem ((c.tc : Thread Cert.MergeFwdKernelIdeal.nD Cert.MergeFwdKernelIdeal.τ).loc Cert.MergeFwdKernelIdeal.main_arg0) = m ((c.tc : Thread Cert.MergeFwdKernelIdeal.nD Cert.MergeFwdKernelIdeal.τ).loc Cert.MergeFwdKernelIdeal.main_arg0)
          ∧ r.2.mem ((c.tc : Thread Cert.MergeFwdKernelIdeal.nD Cert.MergeFwdKernelIdeal.τ).loc Cert.MergeFwdKernelIdeal.main_arg1) = m ((c.tc : Thread Cert.MergeFwdKernelIdeal.nD Cert.MergeFwdKernelIdeal.τ).loc Cert.MergeFwdKernelIdeal.main_arg1)
          ∧ r.2.mem ((c.tc : Thread Cert.MergeFwdKernelIdeal.nD Cert.MergeFwdKernelIdeal.τ).loc Cert.MergeFwdKernelIdeal.main_arg2) = m ((c.tc : Thread Cert.MergeFwdKernelIdeal.nD Cert.MergeFwdKernelIdeal.τ).loc Cert.MergeFwdKernelIdeal.main_arg2)
          ∧ r.2.mem ((c.tc : Thread Cert.MergeFwdKernelIdeal.nD Cert.MergeFwdKernelIdeal.τ).loc Cert.MergeFwdKernelIdeal.main_arg3) = m ((c.tc : Thread Cert.MergeFwdKernelIdeal.nD Cert.MergeFwdKernelIdeal.τ).loc Cert.MergeFwdKernelIdeal.main_arg3)
          ∧ r.2.mem ((c.tc : Thread Cert.MergeFwdKernelIdeal.nD Cert.MergeFwdKernelIdeal.τ).loc Cert.MergeFwdKernelIdeal.main_arg4) = m ((c.tc : Thread Cert.MergeFwdKernelIdeal.nD Cert.MergeFwdKernelIdeal.τ).loc Cert.MergeFwdKernelIdeal.main_arg4)
          ∧ r.2.mem ((c.tc : Thread Cert.MergeFwdKernelIdeal.nD Cert.MergeFwdKernelIdeal.τ).loc Cert.MergeFwdKernelIdeal.main_arg5) = m ((c.tc : Thread Cert.MergeFwdKernelIdeal.nD Cert.MergeFwdKernelIdeal.τ).loc Cert.MergeFwdKernelIdeal.main_arg5)
          ∧ r.2.mem ((c.tc : Thread Cert.MergeFwdKernelIdeal.nD Cert.MergeFwdKernelIdeal.τ).loc Cert.MergeFwdKernelIdeal.main_arg6) = m ((c.tc : Thread Cert.MergeFwdKernelIdeal.nD Cert.MergeFwdKernelIdeal.τ).loc Cert.MergeFwdKernelIdeal.main_arg6)
          ∧ r.2.mem ((c.tc : Thread Cert.MergeFwdKernelIdeal.nD Cert.MergeFwdKernelIdeal.τ).loc Cert.MergeFwdKernelIdeal.main_arg7) = m ((c.tc : Thread Cert.MergeFwdKernelIdeal.nD Cert.MergeFwdKernelIdeal.τ).loc Cert.MergeFwdKernelIdeal.main_arg7))
      ∧ θ_run (Cert.MergeFwdReferenceIdeal.defs (F := Ideal)) (onTc (τ := Cert.MergeFwdReferenceIdeal.τ) (Cert.MergeFwdReferenceIdeal.main (F := Ideal))) ⟨m', fun _ => 0, g'⟩ (fun r => ∀ c : Dev Cert.MergeFwdReferenceIdeal.nD,
          r.2.mem ((c.tc : Thread Cert.MergeFwdReferenceIdeal.nD Cert.MergeFwdReferenceIdeal.τ).loc Cert.MergeFwdReferenceIdeal.main_v27) = v0 c
          ∧ r.2.mem ((c.tc : Thread Cert.MergeFwdReferenceIdeal.nD Cert.MergeFwdReferenceIdeal.τ).loc Cert.MergeFwdReferenceIdeal.main_arg0) = m' ((c.tc : Thread Cert.MergeFwdReferenceIdeal.nD Cert.MergeFwdReferenceIdeal.τ).loc Cert.MergeFwdReferenceIdeal.main_arg0)
          ∧ r.2.mem ((c.tc : Thread Cert.MergeFwdReferenceIdeal.nD Cert.MergeFwdReferenceIdeal.τ).loc Cert.MergeFwdReferenceIdeal.main_arg1) = m' ((c.tc : Thread Cert.MergeFwdReferenceIdeal.nD Cert.MergeFwdReferenceIdeal.τ).loc Cert.MergeFwdReferenceIdeal.main_arg1)
          ∧ r.2.mem ((c.tc : Thread Cert.MergeFwdReferenceIdeal.nD Cert.MergeFwdReferenceIdeal.τ).loc Cert.MergeFwdReferenceIdeal.main_arg2) = m' ((c.tc : Thread Cert.MergeFwdReferenceIdeal.nD Cert.MergeFwdReferenceIdeal.τ).loc Cert.MergeFwdReferenceIdeal.main_arg2)
          ∧ r.2.mem ((c.tc : Thread Cert.MergeFwdReferenceIdeal.nD Cert.MergeFwdReferenceIdeal.τ).loc Cert.MergeFwdReferenceIdeal.main_arg3) = m' ((c.tc : Thread Cert.MergeFwdReferenceIdeal.nD Cert.MergeFwdReferenceIdeal.τ).loc Cert.MergeFwdReferenceIdeal.main_arg3)
          ∧ r.2.mem ((c.tc : Thread Cert.MergeFwdReferenceIdeal.nD Cert.MergeFwdReferenceIdeal.τ).loc Cert.MergeFwdReferenceIdeal.main_arg4) = m' ((c.tc : Thread Cert.MergeFwdReferenceIdeal.nD Cert.MergeFwdReferenceIdeal.τ).loc Cert.MergeFwdReferenceIdeal.main_arg4)
          ∧ r.2.mem ((c.tc : Thread Cert.MergeFwdReferenceIdeal.nD Cert.MergeFwdReferenceIdeal.τ).loc Cert.MergeFwdReferenceIdeal.main_arg5) = m' ((c.tc : Thread Cert.MergeFwdReferenceIdeal.nD Cert.MergeFwdReferenceIdeal.τ).loc Cert.MergeFwdReferenceIdeal.main_arg5)
          ∧ r.2.mem ((c.tc : Thread Cert.MergeFwdReferenceIdeal.nD Cert.MergeFwdReferenceIdeal.τ).loc Cert.MergeFwdReferenceIdeal.main_arg6) = m' ((c.tc : Thread Cert.MergeFwdReferenceIdeal.nD Cert.MergeFwdReferenceIdeal.τ).loc Cert.MergeFwdReferenceIdeal.main_arg6)
          ∧ r.2.mem ((c.tc : Thread Cert.MergeFwdReferenceIdeal.nD Cert.MergeFwdReferenceIdeal.τ).loc Cert.MergeFwdReferenceIdeal.main_arg7) = m' ((c.tc : Thread Cert.MergeFwdReferenceIdeal.nD Cert.MergeFwdReferenceIdeal.τ).loc Cert.MergeFwdReferenceIdeal.main_arg7))

def preserves_FfnFwdKernel_FfnFwdKernelIdeal : Prop :=
  True

def algebraic_FfnFwdKernelIdeal_FfnFwdReferenceIdeal [hFfnFwdKernelIdeal : Cert.FfnFwdKernelIdeal.Facts] [hFfnFwdReferenceIdeal : Cert.FfnFwdReferenceIdeal.Facts] : Prop :=
  ∀ (m : (ℓ : Loc Cert.FfnFwdKernelIdeal.nD Cert.FfnFwdKernelIdeal.τ Cert.FfnFwdKernelIdeal.sig) → Buf (Elt Ideal) ℓ) (g : Dev Cert.FfnFwdKernelIdeal.nD → PrngReg)
    (m' : (ℓ : Loc Cert.FfnFwdReferenceIdeal.nD Cert.FfnFwdReferenceIdeal.τ Cert.FfnFwdReferenceIdeal.sig) → Buf (Elt Ideal) ℓ) (g' : Dev Cert.FfnFwdReferenceIdeal.nD → PrngReg), Pre_FfnFwdKernelIdeal m →
    (∀ c : Dev Cert.FfnFwdKernelIdeal.nD,
      m' ((c.tc : Thread Cert.FfnFwdReferenceIdeal.nD Cert.FfnFwdReferenceIdeal.τ).loc Cert.FfnFwdReferenceIdeal.main_arg0) = m ((c.tc : Thread Cert.FfnFwdKernelIdeal.nD Cert.FfnFwdKernelIdeal.τ).loc Cert.FfnFwdKernelIdeal.main_arg0)
      ∧ m' ((c.tc : Thread Cert.FfnFwdReferenceIdeal.nD Cert.FfnFwdReferenceIdeal.τ).loc Cert.FfnFwdReferenceIdeal.main_arg1) = m ((c.tc : Thread Cert.FfnFwdKernelIdeal.nD Cert.FfnFwdKernelIdeal.τ).loc Cert.FfnFwdKernelIdeal.main_arg1)
      ∧ m' ((c.tc : Thread Cert.FfnFwdReferenceIdeal.nD Cert.FfnFwdReferenceIdeal.τ).loc Cert.FfnFwdReferenceIdeal.main_arg2) = m ((c.tc : Thread Cert.FfnFwdKernelIdeal.nD Cert.FfnFwdKernelIdeal.τ).loc Cert.FfnFwdKernelIdeal.main_arg2)
      ∧ m' ((c.tc : Thread Cert.FfnFwdReferenceIdeal.nD Cert.FfnFwdReferenceIdeal.τ).loc Cert.FfnFwdReferenceIdeal.main_arg3) = m ((c.tc : Thread Cert.FfnFwdKernelIdeal.nD Cert.FfnFwdKernelIdeal.τ).loc Cert.FfnFwdKernelIdeal.main_arg3)) →
    ∃ (v0 : (c : Dev Cert.FfnFwdKernelIdeal.nD) → Buf (Elt Ideal) ((c.tc : Thread Cert.FfnFwdKernelIdeal.nD Cert.FfnFwdKernelIdeal.τ).loc Cert.FfnFwdKernelIdeal.main_v3_0)) (v1 : (c : Dev Cert.FfnFwdKernelIdeal.nD) → Buf (Elt Ideal) ((c.tc : Thread Cert.FfnFwdKernelIdeal.nD Cert.FfnFwdKernelIdeal.τ).loc Cert.FfnFwdKernelIdeal.main_v3_1)) (v2 : (c : Dev Cert.FfnFwdKernelIdeal.nD) → Buf (Elt Ideal) ((c.tc : Thread Cert.FfnFwdKernelIdeal.nD Cert.FfnFwdKernelIdeal.τ).loc Cert.FfnFwdKernelIdeal.main_v3_2)) (v3 : (c : Dev Cert.FfnFwdKernelIdeal.nD) → Buf (Elt Ideal) ((c.tc : Thread Cert.FfnFwdKernelIdeal.nD Cert.FfnFwdKernelIdeal.τ).loc Cert.FfnFwdKernelIdeal.main_v3_3)) (v4 : (c : Dev Cert.FfnFwdKernelIdeal.nD) → Buf (Elt Ideal) ((c.tc : Thread Cert.FfnFwdKernelIdeal.nD Cert.FfnFwdKernelIdeal.τ).loc Cert.FfnFwdKernelIdeal.main_v3_4)),
      θ_run (Cert.FfnFwdKernelIdeal.defs (F := Ideal)) (onTc (τ := Cert.FfnFwdKernelIdeal.τ) (Cert.FfnFwdKernelIdeal.main (F := Ideal))) ⟨m, fun _ => 0, g⟩ (fun r => ∀ c : Dev Cert.FfnFwdKernelIdeal.nD,
          r.2.mem ((c.tc : Thread Cert.FfnFwdKernelIdeal.nD Cert.FfnFwdKernelIdeal.τ).loc Cert.FfnFwdKernelIdeal.main_v3_0) = v0 c
          ∧ r.2.mem ((c.tc : Thread Cert.FfnFwdKernelIdeal.nD Cert.FfnFwdKernelIdeal.τ).loc Cert.FfnFwdKernelIdeal.main_v3_1) = v1 c
          ∧ r.2.mem ((c.tc : Thread Cert.FfnFwdKernelIdeal.nD Cert.FfnFwdKernelIdeal.τ).loc Cert.FfnFwdKernelIdeal.main_v3_2) = v2 c
          ∧ r.2.mem ((c.tc : Thread Cert.FfnFwdKernelIdeal.nD Cert.FfnFwdKernelIdeal.τ).loc Cert.FfnFwdKernelIdeal.main_v3_3) = v3 c
          ∧ r.2.mem ((c.tc : Thread Cert.FfnFwdKernelIdeal.nD Cert.FfnFwdKernelIdeal.τ).loc Cert.FfnFwdKernelIdeal.main_v3_4) = v4 c
          ∧ r.2.mem ((c.tc : Thread Cert.FfnFwdKernelIdeal.nD Cert.FfnFwdKernelIdeal.τ).loc Cert.FfnFwdKernelIdeal.main_arg0) = m ((c.tc : Thread Cert.FfnFwdKernelIdeal.nD Cert.FfnFwdKernelIdeal.τ).loc Cert.FfnFwdKernelIdeal.main_arg0)
          ∧ r.2.mem ((c.tc : Thread Cert.FfnFwdKernelIdeal.nD Cert.FfnFwdKernelIdeal.τ).loc Cert.FfnFwdKernelIdeal.main_arg1) = m ((c.tc : Thread Cert.FfnFwdKernelIdeal.nD Cert.FfnFwdKernelIdeal.τ).loc Cert.FfnFwdKernelIdeal.main_arg1)
          ∧ r.2.mem ((c.tc : Thread Cert.FfnFwdKernelIdeal.nD Cert.FfnFwdKernelIdeal.τ).loc Cert.FfnFwdKernelIdeal.main_arg2) = m ((c.tc : Thread Cert.FfnFwdKernelIdeal.nD Cert.FfnFwdKernelIdeal.τ).loc Cert.FfnFwdKernelIdeal.main_arg2)
          ∧ r.2.mem ((c.tc : Thread Cert.FfnFwdKernelIdeal.nD Cert.FfnFwdKernelIdeal.τ).loc Cert.FfnFwdKernelIdeal.main_arg3) = m ((c.tc : Thread Cert.FfnFwdKernelIdeal.nD Cert.FfnFwdKernelIdeal.τ).loc Cert.FfnFwdKernelIdeal.main_arg3))
      ∧ θ_run (Cert.FfnFwdReferenceIdeal.defs (F := Ideal)) (onTc (τ := Cert.FfnFwdReferenceIdeal.τ) (Cert.FfnFwdReferenceIdeal.main (F := Ideal))) ⟨m', fun _ => 0, g'⟩ (fun r => ∀ c : Dev Cert.FfnFwdReferenceIdeal.nD,
          r.2.mem ((c.tc : Thread Cert.FfnFwdReferenceIdeal.nD Cert.FfnFwdReferenceIdeal.τ).loc Cert.FfnFwdReferenceIdeal.main_v22) = v0 c
          ∧ r.2.mem ((c.tc : Thread Cert.FfnFwdReferenceIdeal.nD Cert.FfnFwdReferenceIdeal.τ).loc Cert.FfnFwdReferenceIdeal.main_v23) = v1 c
          ∧ r.2.mem ((c.tc : Thread Cert.FfnFwdReferenceIdeal.nD Cert.FfnFwdReferenceIdeal.τ).loc Cert.FfnFwdReferenceIdeal.main_v24) = v2 c
          ∧ r.2.mem ((c.tc : Thread Cert.FfnFwdReferenceIdeal.nD Cert.FfnFwdReferenceIdeal.τ).loc Cert.FfnFwdReferenceIdeal.main_v25) = v3 c
          ∧ r.2.mem ((c.tc : Thread Cert.FfnFwdReferenceIdeal.nD Cert.FfnFwdReferenceIdeal.τ).loc Cert.FfnFwdReferenceIdeal.main_v26) = v4 c
          ∧ r.2.mem ((c.tc : Thread Cert.FfnFwdReferenceIdeal.nD Cert.FfnFwdReferenceIdeal.τ).loc Cert.FfnFwdReferenceIdeal.main_arg0) = m' ((c.tc : Thread Cert.FfnFwdReferenceIdeal.nD Cert.FfnFwdReferenceIdeal.τ).loc Cert.FfnFwdReferenceIdeal.main_arg0)
          ∧ r.2.mem ((c.tc : Thread Cert.FfnFwdReferenceIdeal.nD Cert.FfnFwdReferenceIdeal.τ).loc Cert.FfnFwdReferenceIdeal.main_arg1) = m' ((c.tc : Thread Cert.FfnFwdReferenceIdeal.nD Cert.FfnFwdReferenceIdeal.τ).loc Cert.FfnFwdReferenceIdeal.main_arg1)
          ∧ r.2.mem ((c.tc : Thread Cert.FfnFwdReferenceIdeal.nD Cert.FfnFwdReferenceIdeal.τ).loc Cert.FfnFwdReferenceIdeal.main_arg2) = m' ((c.tc : Thread Cert.FfnFwdReferenceIdeal.nD Cert.FfnFwdReferenceIdeal.τ).loc Cert.FfnFwdReferenceIdeal.main_arg2)
          ∧ r.2.mem ((c.tc : Thread Cert.FfnFwdReferenceIdeal.nD Cert.FfnFwdReferenceIdeal.τ).loc Cert.FfnFwdReferenceIdeal.main_arg3) = m' ((c.tc : Thread Cert.FfnFwdReferenceIdeal.nD Cert.FfnFwdReferenceIdeal.τ).loc Cert.FfnFwdReferenceIdeal.main_arg3))

def preserves_LossKernel_LossKernelIdeal : Prop :=
  True

def algebraic_LossKernelIdeal_LossReferenceIdeal_pre_finite_loss [hLossKernelIdeal : Cert.LossKernelIdeal.Facts] [hLossReferenceIdeal : Cert.LossReferenceIdeal.Facts] [hPre_finite_loss : Cert.Pre_finite_loss.Facts] : Prop :=
  ∀ (m : (ℓ : Loc Cert.LossKernelIdeal.nD Cert.LossKernelIdeal.τ Cert.LossKernelIdeal.sig) → Buf (Elt Ideal) ℓ) (g : Dev Cert.LossKernelIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossKernelIdeal_finite_loss m →
    (∀ c : Dev Cert.LossKernelIdeal.nD,
      m' ((c.tc : Thread Cert.LossReferenceIdeal.nD Cert.LossReferenceIdeal.τ).loc Cert.LossReferenceIdeal.main_arg0) = m ((c.tc : Thread Cert.LossKernelIdeal.nD Cert.LossKernelIdeal.τ).loc Cert.LossKernelIdeal.main_arg0)
      ∧ m' ((c.tc : Thread Cert.LossReferenceIdeal.nD Cert.LossReferenceIdeal.τ).loc Cert.LossReferenceIdeal.main_arg1) = m ((c.tc : Thread Cert.LossKernelIdeal.nD Cert.LossKernelIdeal.τ).loc Cert.LossKernelIdeal.main_arg1)
      ∧ m' ((c.tc : Thread Cert.LossReferenceIdeal.nD Cert.LossReferenceIdeal.τ).loc Cert.LossReferenceIdeal.main_arg2) = m ((c.tc : Thread Cert.LossKernelIdeal.nD Cert.LossKernelIdeal.τ).loc Cert.LossKernelIdeal.main_arg2)
      ∧ m' ((c.tc : Thread Cert.LossReferenceIdeal.nD Cert.LossReferenceIdeal.τ).loc Cert.LossReferenceIdeal.main_arg3) = m ((c.tc : Thread Cert.LossKernelIdeal.nD Cert.LossKernelIdeal.τ).loc Cert.LossKernelIdeal.main_arg3)
      ∧ m' ((c.tc : Thread Cert.LossReferenceIdeal.nD Cert.LossReferenceIdeal.τ).loc Cert.LossReferenceIdeal.main_arg4) = m ((c.tc : Thread Cert.LossKernelIdeal.nD Cert.LossKernelIdeal.τ).loc Cert.LossKernelIdeal.main_arg4)
      ∧ m' ((c.tc : Thread Cert.LossReferenceIdeal.nD Cert.LossReferenceIdeal.τ).loc Cert.LossReferenceIdeal.main_arg5) = m ((c.tc : Thread Cert.LossKernelIdeal.nD Cert.LossKernelIdeal.τ).loc Cert.LossKernelIdeal.main_arg5)) →
    ∃ (v0 : (c : Dev Cert.LossKernelIdeal.nD) → Buf (Elt Ideal) ((c.tc : Thread Cert.LossKernelIdeal.nD Cert.LossKernelIdeal.τ).loc Cert.LossKernelIdeal.main_v3_0)) (v1 : (c : Dev Cert.LossKernelIdeal.nD) → Buf (Elt Ideal) ((c.tc : Thread Cert.LossKernelIdeal.nD Cert.LossKernelIdeal.τ).loc Cert.LossKernelIdeal.main_v3_1)) (v2 : (c : Dev Cert.LossKernelIdeal.nD) → Buf (Elt Ideal) ((c.tc : Thread Cert.LossKernelIdeal.nD Cert.LossKernelIdeal.τ).loc Cert.LossKernelIdeal.main_v3_2)) (v3 : (c : Dev Cert.LossKernelIdeal.nD) → Buf (Elt Ideal) ((c.tc : Thread Cert.LossKernelIdeal.nD Cert.LossKernelIdeal.τ).loc Cert.LossKernelIdeal.main_v3_3)) (v4 : (c : Dev Cert.LossKernelIdeal.nD) → Buf (Elt Ideal) ((c.tc : Thread Cert.LossKernelIdeal.nD Cert.LossKernelIdeal.τ).loc Cert.LossKernelIdeal.main_v3_4)) (v5 : (c : Dev Cert.LossKernelIdeal.nD) → Buf (Elt Ideal) ((c.tc : Thread Cert.LossKernelIdeal.nD Cert.LossKernelIdeal.τ).loc Cert.LossKernelIdeal.main_v3_5)) (v6 : (c : Dev Cert.LossKernelIdeal.nD) → Buf (Elt Ideal) ((c.tc : Thread Cert.LossKernelIdeal.nD Cert.LossKernelIdeal.τ).loc Cert.LossKernelIdeal.main_v3_6)),
      θ_run (Cert.LossKernelIdeal.defs (F := Ideal)) (onTc (τ := Cert.LossKernelIdeal.τ) (Cert.LossKernelIdeal.main (F := Ideal))) ⟨m, fun _ => 0, g⟩ (fun r => ∀ c : Dev Cert.LossKernelIdeal.nD,
          r.2.mem ((c.tc : Thread Cert.LossKernelIdeal.nD Cert.LossKernelIdeal.τ).loc Cert.LossKernelIdeal.main_v3_0) = v0 c
          ∧ r.2.mem ((c.tc : Thread Cert.LossKernelIdeal.nD Cert.LossKernelIdeal.τ).loc Cert.LossKernelIdeal.main_v3_1) = v1 c
          ∧ r.2.mem ((c.tc : Thread Cert.LossKernelIdeal.nD Cert.LossKernelIdeal.τ).loc Cert.LossKernelIdeal.main_v3_2) = v2 c
          ∧ r.2.mem ((c.tc : Thread Cert.LossKernelIdeal.nD Cert.LossKernelIdeal.τ).loc Cert.LossKernelIdeal.main_v3_3) = v3 c
          ∧ r.2.mem ((c.tc : Thread Cert.LossKernelIdeal.nD Cert.LossKernelIdeal.τ).loc Cert.LossKernelIdeal.main_v3_4) = v4 c
          ∧ r.2.mem ((c.tc : Thread Cert.LossKernelIdeal.nD Cert.LossKernelIdeal.τ).loc Cert.LossKernelIdeal.main_v3_5) = v5 c
          ∧ r.2.mem ((c.tc : Thread Cert.LossKernelIdeal.nD Cert.LossKernelIdeal.τ).loc Cert.LossKernelIdeal.main_v3_6) = v6 c
          ∧ r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
          ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
          ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2)
          ∧ r.2.mem ((c.tc : Thread Cert.LossKernelIdeal.nD Cert.LossKernelIdeal.τ).loc Cert.LossKernelIdeal.main_arg3) = m ((c.tc : Thread Cert.LossKernelIdeal.nD Cert.LossKernelIdeal.τ).loc Cert.LossKernelIdeal.main_arg3)
          ∧ r.2.mem ((c.tc : Thread Cert.LossKernelIdeal.nD Cert.LossKernelIdeal.τ).loc Cert.LossKernelIdeal.main_arg4) = m ((c.tc : Thread Cert.LossKernelIdeal.nD Cert.LossKernelIdeal.τ).loc Cert.LossKernelIdeal.main_arg4)
          ∧ r.2.mem ((c.tc : Thread Cert.LossKernelIdeal.nD Cert.LossKernelIdeal.τ).loc Cert.LossKernelIdeal.main_arg5) = m ((c.tc : Thread Cert.LossKernelIdeal.nD Cert.LossKernelIdeal.τ).loc Cert.LossKernelIdeal.main_arg5))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v78) = v0 c
          ∧ r.2.mem ((c.tc : Thread Cert.LossReferenceIdeal.nD Cert.LossReferenceIdeal.τ).loc Cert.LossReferenceIdeal.main_v79) = v1 c
          ∧ r.2.mem ((c.tc : Thread Cert.LossReferenceIdeal.nD Cert.LossReferenceIdeal.τ).loc Cert.LossReferenceIdeal.main_v62) = v2 c
          ∧ r.2.mem ((c.tc : Thread Cert.LossReferenceIdeal.nD Cert.LossReferenceIdeal.τ).loc Cert.LossReferenceIdeal.main_v23) = v3 c
          ∧ r.2.mem ((c.tc : Thread Cert.LossReferenceIdeal.nD Cert.LossReferenceIdeal.τ).loc Cert.LossReferenceIdeal.main_v24) = v4 c
          ∧ r.2.mem ((c.tc : Thread Cert.LossReferenceIdeal.nD Cert.LossReferenceIdeal.τ).loc Cert.LossReferenceIdeal.main_v25) = v5 c
          ∧ r.2.mem ((c.tc : Thread Cert.LossReferenceIdeal.nD Cert.LossReferenceIdeal.τ).loc Cert.LossReferenceIdeal.main_v26) = v6 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1)
          ∧ r.2.mem ((c.tc : Thread Cert.LossReferenceIdeal.nD Cert.LossReferenceIdeal.τ).loc Cert.LossReferenceIdeal.main_arg2) = m' ((c.tc : Thread Cert.LossReferenceIdeal.nD Cert.LossReferenceIdeal.τ).loc Cert.LossReferenceIdeal.main_arg2)
          ∧ r.2.mem ((c.tc : Thread Cert.LossReferenceIdeal.nD Cert.LossReferenceIdeal.τ).loc Cert.LossReferenceIdeal.main_arg3) = m' ((c.tc : Thread Cert.LossReferenceIdeal.nD Cert.LossReferenceIdeal.τ).loc Cert.LossReferenceIdeal.main_arg3)
          ∧ r.2.mem ((c.tc : Thread Cert.LossReferenceIdeal.nD Cert.LossReferenceIdeal.τ).loc Cert.LossReferenceIdeal.main_arg4) = m' ((c.tc : Thread Cert.LossReferenceIdeal.nD Cert.LossReferenceIdeal.τ).loc Cert.LossReferenceIdeal.main_arg4)
          ∧ r.2.mem ((c.tc : Thread Cert.LossReferenceIdeal.nD Cert.LossReferenceIdeal.τ).loc Cert.LossReferenceIdeal.main_arg5) = m' ((c.tc : Thread Cert.LossReferenceIdeal.nD Cert.LossReferenceIdeal.τ).loc Cert.LossReferenceIdeal.main_arg5))

def preserves_FirstKernel_FirstKernelIdeal : Prop :=
  True

def algebraic_FirstKernelIdeal_FfnReferenceIdeal_pre_finite [hFirstKernelIdeal : Cert.FirstKernelIdeal.Facts] [hFfnReferenceIdeal : Cert.FfnReferenceIdeal.Facts] [hPre_finite : Cert.Pre_finite.Facts] : Prop :=
  ∀ (m : (ℓ : Loc Cert.FirstKernelIdeal.nD Cert.FirstKernelIdeal.τ Cert.FirstKernelIdeal.sig) → Buf (Elt Ideal) ℓ) (g : Dev Cert.FirstKernelIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FirstKernelIdeal_finite m →
    (∀ c : Dev Cert.FirstKernelIdeal.nD,
      m' ((c.tc : Thread Cert.FfnReferenceIdeal.nD Cert.FfnReferenceIdeal.τ).loc Cert.FfnReferenceIdeal.main_arg0) = m ((c.tc : Thread Cert.FirstKernelIdeal.nD Cert.FirstKernelIdeal.τ).loc Cert.FirstKernelIdeal.main_arg0)
      ∧ m' ((c.tc : Thread Cert.FfnReferenceIdeal.nD Cert.FfnReferenceIdeal.τ).loc Cert.FfnReferenceIdeal.main_arg1) = m ((c.tc : Thread Cert.FirstKernelIdeal.nD Cert.FirstKernelIdeal.τ).loc Cert.FirstKernelIdeal.main_arg1)
      ∧ m' ((c.tc : Thread Cert.FfnReferenceIdeal.nD Cert.FfnReferenceIdeal.τ).loc Cert.FfnReferenceIdeal.main_arg2) = m ((c.tc : Thread Cert.FirstKernelIdeal.nD Cert.FirstKernelIdeal.τ).loc Cert.FirstKernelIdeal.main_arg2)
      ∧ m' ((c.tc : Thread Cert.FfnReferenceIdeal.nD Cert.FfnReferenceIdeal.τ).loc Cert.FfnReferenceIdeal.main_arg3) = m ((c.tc : Thread Cert.FirstKernelIdeal.nD Cert.FirstKernelIdeal.τ).loc Cert.FirstKernelIdeal.main_arg3)
      ∧ m' ((c.tc : Thread Cert.FfnReferenceIdeal.nD Cert.FfnReferenceIdeal.τ).loc Cert.FfnReferenceIdeal.main_arg4) = m ((c.tc : Thread Cert.FirstKernelIdeal.nD Cert.FirstKernelIdeal.τ).loc Cert.FirstKernelIdeal.main_arg4)) →
    ∃ (v0 : (c : Dev Cert.FirstKernelIdeal.nD) → Buf (Elt Ideal) ((c.tc : Thread Cert.FirstKernelIdeal.nD Cert.FirstKernelIdeal.τ).loc Cert.FirstKernelIdeal.main_v21_0)) (v1 : (c : Dev Cert.FirstKernelIdeal.nD) → Buf (Elt Ideal) ((c.tc : Thread Cert.FirstKernelIdeal.nD Cert.FirstKernelIdeal.τ).loc Cert.FirstKernelIdeal.main_v21_1)) (v2 : (c : Dev Cert.FirstKernelIdeal.nD) → Buf (Elt Ideal) ((c.tc : Thread Cert.FirstKernelIdeal.nD Cert.FirstKernelIdeal.τ).loc Cert.FirstKernelIdeal.main_v21_2)) (v3 : (c : Dev Cert.FirstKernelIdeal.nD) → Buf (Elt Ideal) ((c.tc : Thread Cert.FirstKernelIdeal.nD Cert.FirstKernelIdeal.τ).loc Cert.FirstKernelIdeal.main_v21_3)) (v4 : (c : Dev Cert.FirstKernelIdeal.nD) → Buf (Elt Ideal) ((c.tc : Thread Cert.FirstKernelIdeal.nD Cert.FirstKernelIdeal.τ).loc Cert.FirstKernelIdeal.main_v21_4)),
      θ_run (Cert.FirstKernelIdeal.defs (F := Ideal)) (onTc (τ := Cert.FirstKernelIdeal.τ) (Cert.FirstKernelIdeal.main (F := Ideal))) ⟨m, fun _ => 0, g⟩ (fun r => ∀ c : Dev Cert.FirstKernelIdeal.nD,
          r.2.mem ((c.tc : Thread Cert.FirstKernelIdeal.nD Cert.FirstKernelIdeal.τ).loc Cert.FirstKernelIdeal.main_v21_0) = v0 c
          ∧ r.2.mem ((c.tc : Thread Cert.FirstKernelIdeal.nD Cert.FirstKernelIdeal.τ).loc Cert.FirstKernelIdeal.main_v21_1) = v1 c
          ∧ r.2.mem ((c.tc : Thread Cert.FirstKernelIdeal.nD Cert.FirstKernelIdeal.τ).loc Cert.FirstKernelIdeal.main_v21_2) = v2 c
          ∧ r.2.mem ((c.tc : Thread Cert.FirstKernelIdeal.nD Cert.FirstKernelIdeal.τ).loc Cert.FirstKernelIdeal.main_v21_3) = v3 c
          ∧ r.2.mem ((c.tc : Thread Cert.FirstKernelIdeal.nD Cert.FirstKernelIdeal.τ).loc Cert.FirstKernelIdeal.main_v21_4) = v4 c
          ∧ r.2.mem ((c.tc : Thread Cert.FirstKernelIdeal.nD Cert.FirstKernelIdeal.τ).loc Cert.FirstKernelIdeal.main_arg0) = m ((c.tc : Thread Cert.FirstKernelIdeal.nD Cert.FirstKernelIdeal.τ).loc Cert.FirstKernelIdeal.main_arg0)
          ∧ r.2.mem ((c.tc : Thread Cert.FirstKernelIdeal.nD Cert.FirstKernelIdeal.τ).loc Cert.FirstKernelIdeal.main_arg1) = m ((c.tc : Thread Cert.FirstKernelIdeal.nD Cert.FirstKernelIdeal.τ).loc Cert.FirstKernelIdeal.main_arg1)
          ∧ r.2.mem ((c.tc : Thread Cert.FirstKernelIdeal.nD Cert.FirstKernelIdeal.τ).loc Cert.FirstKernelIdeal.main_arg2) = m ((c.tc : Thread Cert.FirstKernelIdeal.nD Cert.FirstKernelIdeal.τ).loc Cert.FirstKernelIdeal.main_arg2)
          ∧ r.2.mem ((c.tc : Thread Cert.FirstKernelIdeal.nD Cert.FirstKernelIdeal.τ).loc Cert.FirstKernelIdeal.main_arg3) = m ((c.tc : Thread Cert.FirstKernelIdeal.nD Cert.FirstKernelIdeal.τ).loc Cert.FirstKernelIdeal.main_arg3)
          ∧ r.2.mem ((c.tc : Thread Cert.FirstKernelIdeal.nD Cert.FirstKernelIdeal.τ).loc Cert.FirstKernelIdeal.main_arg4) = m ((c.tc : Thread Cert.FirstKernelIdeal.nD Cert.FirstKernelIdeal.τ).loc Cert.FirstKernelIdeal.main_arg4))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v52) = v0 c
          ∧ r.2.mem ((c.tc : Thread Cert.FfnReferenceIdeal.nD Cert.FfnReferenceIdeal.τ).loc Cert.FfnReferenceIdeal.main_v53) = v1 c
          ∧ r.2.mem ((c.tc : Thread Cert.FfnReferenceIdeal.nD Cert.FfnReferenceIdeal.τ).loc Cert.FfnReferenceIdeal.main_v54) = v2 c
          ∧ r.2.mem ((c.tc : Thread Cert.FfnReferenceIdeal.nD Cert.FfnReferenceIdeal.τ).loc Cert.FfnReferenceIdeal.main_v57) = v3 c
          ∧ r.2.mem ((c.tc : Thread Cert.FfnReferenceIdeal.nD Cert.FfnReferenceIdeal.τ).loc Cert.FfnReferenceIdeal.main_v35) = v4 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4))

def Claim : Prop :=
  ∃ (hKernel : Cert.Kernel.Facts) (hKernelIdeal : Cert.KernelIdeal.Facts) (hReferenceIdeal : Cert.ReferenceIdeal.Facts) (hFfnKernel : Cert.FfnKernel.Facts) (hFfnKernelIdeal : Cert.FfnKernelIdeal.Facts) (hFfnReferenceIdeal : Cert.FfnReferenceIdeal.Facts) (hInKernel : Cert.InKernel.Facts) (hInKernelIdeal : Cert.InKernelIdeal.Facts) (hInReferenceIdeal : Cert.InReferenceIdeal.Facts) (hGateKernel : Cert.GateKernel.Facts) (hGateKernelIdeal : Cert.GateKernelIdeal.Facts) (hGateReferenceIdeal : Cert.GateReferenceIdeal.Facts) (hUpKernel : Cert.UpKernel.Facts) (hUpKernelIdeal : Cert.UpKernelIdeal.Facts) (hUpReferenceIdeal : Cert.UpReferenceIdeal.Facts) (hDownKernel : Cert.DownKernel.Facts) (hDownKernelIdeal : Cert.DownKernelIdeal.Facts) (hDownReferenceIdeal : Cert.DownReferenceIdeal.Facts) (hSquareKernel : Cert.SquareKernel.Facts) (hSquareKernelIdeal : Cert.SquareKernelIdeal.Facts) (hSquareReferenceIdeal : Cert.SquareReferenceIdeal.Facts) (hWinKernel : Cert.WinKernel.Facts) (hWinKernelIdeal : Cert.WinKernelIdeal.Facts) (hWinReferenceIdeal : Cert.WinReferenceIdeal.Facts) (hInFwdKernel : Cert.InFwdKernel.Facts) (hInFwdKernelIdeal : Cert.InFwdKernelIdeal.Facts) (hInFwdReferenceIdeal : Cert.InFwdReferenceIdeal.Facts) (hMergeFwdKernel : Cert.MergeFwdKernel.Facts) (hMergeFwdKernelIdeal : Cert.MergeFwdKernelIdeal.Facts) (hMergeFwdReferenceIdeal : Cert.MergeFwdReferenceIdeal.Facts) (hFfnFwdKernel : Cert.FfnFwdKernel.Facts) (hFfnFwdKernelIdeal : Cert.FfnFwdKernelIdeal.Facts) (hFfnFwdReferenceIdeal : Cert.FfnFwdReferenceIdeal.Facts) (hLossKernel : Cert.LossKernel.Facts) (hLossKernelIdeal : Cert.LossKernelIdeal.Facts) (hLossReferenceIdeal : Cert.LossReferenceIdeal.Facts) (hFirstKernel : Cert.FirstKernel.Facts) (hFirstKernelIdeal : Cert.FirstKernelIdeal.Facts) (hPre_finite : Cert.Pre_finite.Facts) (hPre_finite_in : Cert.Pre_finite_in.Facts) (hPre_finite_loss : Cert.Pre_finite_loss.Facts) (hOn_gate_columns : Cert.On_gate_columns.Facts) (hOn_gate_blocks : Cert.On_gate_blocks.Facts),
    quiescent_Kernel (hKernel := hKernel)
    ∧ quiescent_KernelIdeal (hKernelIdeal := hKernelIdeal)
    ∧ quiescent_ReferenceIdeal (hReferenceIdeal := hReferenceIdeal)
    ∧ quiescent_FfnKernel (hFfnKernel := hFfnKernel)
    ∧ quiescent_FfnKernelIdeal (hFfnKernelIdeal := hFfnKernelIdeal)
    ∧ quiescent_FfnKernelIdeal_pre_finite (hFfnKernelIdeal := hFfnKernelIdeal) (hPre_finite := hPre_finite)
    ∧ quiescent_FfnReferenceIdeal (hFfnReferenceIdeal := hFfnReferenceIdeal)
    ∧ quiescent_FfnReferenceIdeal_pre_finite (hFfnReferenceIdeal := hFfnReferenceIdeal) (hPre_finite := hPre_finite)
    ∧ quiescent_InKernel (hInKernel := hInKernel)
    ∧ quiescent_InKernelIdeal (hInKernelIdeal := hInKernelIdeal)
    ∧ quiescent_InKernelIdeal_pre_finite_in (hInKernelIdeal := hInKernelIdeal) (hPre_finite_in := hPre_finite_in)
    ∧ quiescent_InReferenceIdeal (hInReferenceIdeal := hInReferenceIdeal)
    ∧ quiescent_InReferenceIdeal_pre_finite_in (hInReferenceIdeal := hInReferenceIdeal) (hPre_finite_in := hPre_finite_in)
    ∧ quiescent_GateKernel (hGateKernel := hGateKernel)
    ∧ quiescent_GateKernelIdeal (hGateKernelIdeal := hGateKernelIdeal)
    ∧ quiescent_GateReferenceIdeal (hGateReferenceIdeal := hGateReferenceIdeal)
    ∧ quiescent_UpKernel (hUpKernel := hUpKernel)
    ∧ quiescent_UpKernelIdeal (hUpKernelIdeal := hUpKernelIdeal)
    ∧ quiescent_UpReferenceIdeal (hUpReferenceIdeal := hUpReferenceIdeal)
    ∧ quiescent_DownKernel (hDownKernel := hDownKernel)
    ∧ quiescent_DownKernelIdeal (hDownKernelIdeal := hDownKernelIdeal)
    ∧ quiescent_DownReferenceIdeal (hDownReferenceIdeal := hDownReferenceIdeal)
    ∧ quiescent_SquareKernel (hSquareKernel := hSquareKernel)
    ∧ quiescent_SquareKernelIdeal (hSquareKernelIdeal := hSquareKernelIdeal)
    ∧ quiescent_SquareReferenceIdeal (hSquareReferenceIdeal := hSquareReferenceIdeal)
    ∧ quiescent_WinKernel (hWinKernel := hWinKernel)
    ∧ quiescent_WinKernelIdeal (hWinKernelIdeal := hWinKernelIdeal)
    ∧ quiescent_WinReferenceIdeal (hWinReferenceIdeal := hWinReferenceIdeal)
    ∧ quiescent_InFwdKernel (hInFwdKernel := hInFwdKernel)
    ∧ quiescent_InFwdKernelIdeal (hInFwdKernelIdeal := hInFwdKernelIdeal)
    ∧ quiescent_InFwdReferenceIdeal (hInFwdReferenceIdeal := hInFwdReferenceIdeal)
    ∧ quiescent_MergeFwdKernel (hMergeFwdKernel := hMergeFwdKernel)
    ∧ quiescent_MergeFwdKernelIdeal (hMergeFwdKernelIdeal := hMergeFwdKernelIdeal)
    ∧ quiescent_MergeFwdReferenceIdeal (hMergeFwdReferenceIdeal := hMergeFwdReferenceIdeal)
    ∧ quiescent_FfnFwdKernel (hFfnFwdKernel := hFfnFwdKernel)
    ∧ quiescent_FfnFwdKernelIdeal (hFfnFwdKernelIdeal := hFfnFwdKernelIdeal)
    ∧ quiescent_FfnFwdReferenceIdeal (hFfnFwdReferenceIdeal := hFfnFwdReferenceIdeal)
    ∧ quiescent_LossKernel (hLossKernel := hLossKernel)
    ∧ quiescent_LossKernelIdeal (hLossKernelIdeal := hLossKernelIdeal)
    ∧ quiescent_LossKernelIdeal_pre_finite_loss (hLossKernelIdeal := hLossKernelIdeal) (hPre_finite_loss := hPre_finite_loss)
    ∧ quiescent_LossReferenceIdeal (hLossReferenceIdeal := hLossReferenceIdeal)
    ∧ quiescent_LossReferenceIdeal_pre_finite_loss (hLossReferenceIdeal := hLossReferenceIdeal) (hPre_finite_loss := hPre_finite_loss)
    ∧ quiescent_FirstKernel (hFirstKernel := hFirstKernel)
    ∧ quiescent_FirstKernelIdeal (hFirstKernelIdeal := hFirstKernelIdeal)
    ∧ quiescent_FirstKernelIdeal_pre_finite (hFirstKernelIdeal := hFirstKernelIdeal) (hPre_finite := hPre_finite)
    ∧ preserves_Kernel_KernelIdeal
    ∧ algebraic_KernelIdeal_ReferenceIdeal_on_gate_columns (hKernelIdeal := hKernelIdeal) (hReferenceIdeal := hReferenceIdeal) (hOn_gate_columns := hOn_gate_columns)
    ∧ preserves_FfnKernel_FfnKernelIdeal
    ∧ algebraic_FfnKernelIdeal_FfnReferenceIdeal_pre_finite (hFfnKernelIdeal := hFfnKernelIdeal) (hFfnReferenceIdeal := hFfnReferenceIdeal) (hPre_finite := hPre_finite)
    ∧ preserves_InKernel_InKernelIdeal
    ∧ algebraic_InKernelIdeal_InReferenceIdeal_pre_finite_in (hInKernelIdeal := hInKernelIdeal) (hInReferenceIdeal := hInReferenceIdeal) (hPre_finite_in := hPre_finite_in)
    ∧ preserves_GateKernel_GateKernelIdeal
    ∧ algebraic_GateKernelIdeal_GateReferenceIdeal_on_gate_blocks (hGateKernelIdeal := hGateKernelIdeal) (hGateReferenceIdeal := hGateReferenceIdeal) (hOn_gate_blocks := hOn_gate_blocks)
    ∧ preserves_UpKernel_UpKernelIdeal
    ∧ algebraic_UpKernelIdeal_UpReferenceIdeal (hUpKernelIdeal := hUpKernelIdeal) (hUpReferenceIdeal := hUpReferenceIdeal)
    ∧ preserves_DownKernel_DownKernelIdeal
    ∧ algebraic_DownKernelIdeal_DownReferenceIdeal (hDownKernelIdeal := hDownKernelIdeal) (hDownReferenceIdeal := hDownReferenceIdeal)
    ∧ preserves_SquareKernel_SquareKernelIdeal
    ∧ algebraic_SquareKernelIdeal_SquareReferenceIdeal (hSquareKernelIdeal := hSquareKernelIdeal) (hSquareReferenceIdeal := hSquareReferenceIdeal)
    ∧ preserves_WinKernel_WinKernelIdeal
    ∧ algebraic_WinKernelIdeal_WinReferenceIdeal (hWinKernelIdeal := hWinKernelIdeal) (hWinReferenceIdeal := hWinReferenceIdeal)
    ∧ preserves_InFwdKernel_InFwdKernelIdeal
    ∧ algebraic_InFwdKernelIdeal_InFwdReferenceIdeal (hInFwdKernelIdeal := hInFwdKernelIdeal) (hInFwdReferenceIdeal := hInFwdReferenceIdeal)
    ∧ preserves_MergeFwdKernel_MergeFwdKernelIdeal
    ∧ algebraic_MergeFwdKernelIdeal_MergeFwdReferenceIdeal (hMergeFwdKernelIdeal := hMergeFwdKernelIdeal) (hMergeFwdReferenceIdeal := hMergeFwdReferenceIdeal)
    ∧ preserves_FfnFwdKernel_FfnFwdKernelIdeal
    ∧ algebraic_FfnFwdKernelIdeal_FfnFwdReferenceIdeal (hFfnFwdKernelIdeal := hFfnFwdKernelIdeal) (hFfnFwdReferenceIdeal := hFfnFwdReferenceIdeal)
    ∧ preserves_LossKernel_LossKernelIdeal
    ∧ algebraic_LossKernelIdeal_LossReferenceIdeal_pre_finite_loss (hLossKernelIdeal := hLossKernelIdeal) (hLossReferenceIdeal := hLossReferenceIdeal) (hPre_finite_loss := hPre_finite_loss)
    ∧ preserves_FirstKernel_FirstKernelIdeal
    ∧ algebraic_FirstKernelIdeal_FfnReferenceIdeal_pre_finite (hFirstKernelIdeal := hFirstKernelIdeal) (hFfnReferenceIdeal := hFfnReferenceIdeal) (hPre_finite := hPre_finite)
-- ==== On_gate_blocks.lean ====
abbrev S4160x1024 : Shape := ⟨2, ![4160, 1024]⟩
abbrev S4160x2816 : Shape := ⟨2, ![4160, 2816]⟩
abbrev S4x1024x1408 : Shape := ⟨3, ![4, 1024, 1408]⟩
abbrev S_ : Shape := ⟨0, ![]⟩

class Facts : Prop where
  bcast_S_S4x1024x1408 : S_.BroadcastsInDim S4x1024x1408 (![] : Fin 0 → Fin S4x1024x1408.rank)

variable [Facts]

def fn {F : FTy → Type} [FloatOps F] (main_arg0 : FVec F S4160x1024 .bf16) (main_arg1 : FVec F S4160x2816 .bf16) : IVec S4x1024x1408 1 :=
  let main_v0 : IVec S4x1024x1408 32 := iotaInDim S4x1024x1408 32 0
  let main_c : IVec S_ 32 := constantI S_ 32 2#32
  let main_v1 : IVec S4x1024x1408 32 := broadcastInDim S4x1024x1408 ![] bcast_S_S4x1024x1408 main_c
  let main_v2 : IVec S4x1024x1408 1 := cmpi .slt main_v0 main_v1
  main_v2
-- ==== On_gate_columns.lean ====
abbrev S4160x1024 : Shape := ⟨2, ![4160, 1024]⟩
abbrev S4160x6144 : Shape := ⟨2, ![4160, 6144]⟩
abbrev S1024x1024 : Shape := ⟨2, ![1024, 1024]⟩
abbrev S1x1024 : Shape := ⟨2, ![1, 1024]⟩
abbrev S_ : Shape := ⟨0, ![]⟩

class Facts : Prop where
  bcast_S_S4160x6144 : S_.BroadcastsInDim S4160x6144 (![] : Fin 0 → Fin S4160x6144.rank)
  bcast_S_S4160x1024 : S_.BroadcastsInDim S4160x1024 (![] : Fin 0 → Fin S4160x1024.rank)
  bcast_S_S1x1024 : S_.BroadcastsInDim S1x1024 (![] : Fin 0 → Fin S1x1024.rank)

variable [Facts]

def fn {F : FTy → Type} [FloatOps F] (main_arg0 : FVec F S4160x1024 .f32) (main_arg1 : FVec F S4160x1024 .bf16) (main_arg2 : FVec F S4160x1024 .bf16) (main_arg3 : FVec F S4160x6144 .f32) (main_arg4 : FVec F S1024x1024 .bf16) (main_arg5 : FVec F S1024x1024 .bf16) (main_arg6 : FVec F S1x1024 .f32) (main_arg7 : FVec F S1024x1024 .bf16) : IVec S4160x1024 1 × IVec S4160x1024 1 × IVec S4160x6144 1 × IVec S4160x1024 1 × IVec S4160x1024 1 × IVec S4160x1024 1 × IVec S4160x1024 1 × IVec S1x1024 1 :=
  let main_v0 : IVec S4160x6144 32 := iotaInDim S4160x6144 32 1
  let main_c : IVec S_ 32 := constantI S_ 32 4096#32
  let main_v1 : IVec S4160x6144 32 := broadcastInDim S4160x6144 ![] bcast_S_S4160x6144 main_c
  let main_v2 : IVec S4160x6144 1 := cmpi .sge main_v0 main_v1
  let main_c_0 : IVec S_ 1 := constantI S_ 1 1#1
  let main_v3 : IVec S4160x1024 1 := broadcastInDim S4160x1024 ![] bcast_S_S4160x1024 main_c_0
  let main_c_1 : IVec S_ 1 := constantI S_ 1 1#1
  let main_v4 : IVec S4160x1024 1 := broadcastInDim S4160x1024 ![] bcast_S_S4160x1024 main_c_1
  let main_c_2 : IVec S_ 1 := constantI S_ 1 1#1
  let main_v5 : IVec S4160x1024 1 := broadcastInDim S4160x1024 ![] bcast_S_S4160x1024 main_c_2
  let main_c_3 : IVec S_ 1 := constantI S_ 1 1#1
  let main_v6 : IVec S4160x1024 1 := broadcastInDim S4160x1024 ![] bcast_S_S4160x1024 main_c_3
  let main_c_4 : IVec S_ 1 := constantI S_ 1 1#1
  let main_v7 : IVec S4160x1024 1 := broadcastInDim S4160x1024 ![] bcast_S_S4160x1024 main_c_4
  let main_c_5 : IVec S_ 1 := constantI S_ 1 1#1
  let main_v8 : IVec S4160x1024 1 := broadcastInDim S4160x1024 ![] bcast_S_S4160x1024 main_c_5
  let main_c_6 : IVec S_ 1 := constantI S_ 1 1#1
  let main_v9 : IVec S1x1024 1 := broadcastInDim S1x1024 ![] bcast_S_S1x1024 main_c_6
  (main_v3, main_v4, main_v2, main_v5, main_v6, main_v7, main_v8, main_v9)
-- ==== Pre_finite.lean ====
abbrev S4160x1024 : Shape := ⟨2, ![4160, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩

class Facts : Prop where
  bcast_S_S4160x1024 : S_.BroadcastsInDim S4160x1024 (![] : Fin 0 → Fin S4160x1024.rank)
  reducesTo_S4160x1024_S_d0_1 : S4160x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bitsLt_bf16_f32 : FTy.bits .bf16 < FTy.bits .f32
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S2816x1024 .bf16) (main_v3 : IVec S_ 1) (main_v7 : IVec S_ 1) (main_v11 : IVec S_ 1) (main_v15 : IVec S1024x5632 1) (main_c_5 : IVec S_ 1) : IVec S_ 1 × IVec S_ 1 × IVec S_ 1 × IVec S_ 1 × IVec S_ 1 :=
  let main_v16 : IVec S_ 1 := (fun x v => Host.reduce IntOp.andi x v reducesTo_S1024x5632_S_d0_1 h_S_) main_v15 main_c_5
  let main_v17 : FVec F S2816x1024 .f32 := (extf .f32 · bitsLt_bf16_f32) main_arg4
  let main_v18 : FVec F S2816x1024 .f32 := Host.absf main_v17
  let main_cst_6 : FVec F S_ .f32 := constant S_ .f32 0x7F800000#32
  let main_v19 : FVec F S2816x1024 .f32 := broadcastInDim S2816x1024 ![] bcast_S_S2816x1024 main_cst_6
  let main_v20 : IVec S2816x1024 1 := cmpf .olt main_v18 main_v19
  let main_c_7 : IVec S_ 1 := constantI S_ 1 1#1
  let main_v21 : IVec S_ 1 := (fun x v => Host.reduce IntOp.andi x v reducesTo_S2816x1024_S_d0_1 h_S_) main_v20 main_c_7
  (main_v3, main_v7, main_v11, main_v16, main_v21)

def fn {F : FTy → Type} [FloatOps F] (main_arg0 : FVec F S4160x1024 .f32) (main_arg1 : FVec F S4160x1024 .f32) (main_arg2 : FVec F S1x1024 .f32) (main_arg3 : FVec F S1024x5632 .bf16) (main_arg4 : FVec F S2816x1024 .bf16) : IVec S_ 1 × IVec S_ 1 × IVec S_ 1 × IVec S_ 1 × IVec S_ 1 :=
  let main_v0 : FVec F S4160x1024 .f32 := Host.absf main_arg0
  let main_cst : FVec F S_ .f32 := constant S_ .f32 0x7F800000#32
  let main_v1 : FVec F S4160x1024 .f32 := broadcastInDim S4160x1024 ![] bcast_S_S4160x1024 main_cst
  let main_v2 : IVec S4160x1024 1 := cmpf .olt main_v0 main_v1
  let main_c : IVec S_ 1 := constantI S_ 1 1#1
  let main_v3 : IVec S_ 1 := (fun x v => Host.reduce IntOp.andi x v reducesTo_S4160x1024_S_d0_1 h_S_) main_v2 main_c
  let main_v4 : FVec F S4160x1024 .f32 := Host.absf main_arg1
  let main_cst_0 : FVec F S_ .f32 := constant S_ .f32 0x7F800000#32
  let main_v5 : FVec F S4160x1024 .f32 := broadcastInDim S4160x1024 ![] bcast_S_S4160x1024 main_cst_0
  let main_v6 : IVec S4160x1024 1 := cmpf .olt main_v4 main_v5
  let main_c_1 : IVec S_ 1 := constantI S_ 1 1#1
  let main_v7 : IVec S_ 1 := (fun x v => Host.reduce IntOp.andi x v reducesTo_S4160x1024_S_d0_1 h_S_) main_v6 main_c_1
  let main_v8 : FVec F S1x1024 .f32 := Host.absf main_arg2
  let main_cst_2 : FVec F S_ .f32 := constant S_ .f32 0x7F800000#32
  let main_v9 : FVec F S1x1024 .f32 := broadcastInDim S1x1024 ![] bcast_S_S1x1024 main_cst_2
  let main_v10 : IVec S1x1024 1 := cmpf .olt main_v8 main_v9
  let main_c_3 : IVec S_ 1 := constantI S_ 1 1#1
  let main_v11 : IVec S_ 1 := (fun x v => Host.reduce IntOp.andi x v reducesTo_S1x1024_S_d0_1 h_S_) main_v10 main_c_3
  let main_v12 : FVec F S1024x5632 .f32 := (extf .f32 · bitsLt_bf16_f32) main_arg3
  let main_v13 : FVec F S1024x5632 .f32 := Host.absf main_v12
  let main_cst_4 : FVec F S_ .f32 := constant S_ .f32 0x7F800000#32
  let main_v14 : FVec F S1024x5632 .f32 := broadcastInDim S1024x5632 ![] bcast_S_S1024x5632 main_cst_4
  let main_v15 : IVec S1024x5632 1 := cmpf .olt main_v13 main_v14
  let main_c_5 : IVec S_ 1 := constantI S_ 1 1#1
  fn_part1 (F := F) main_arg4 main_v3 main_v7 main_v11 main_v15 main_c_5
-- ==== Pre_finite_in.lean ====
abbrev S4160x6144 : Shape := ⟨2, ![4160, 6144]⟩
abbrev S4160x1024 : Shape := ⟨2, ![4160, 1024]⟩
abbrev S1x1024 : Shape := ⟨2, ![1, 1024]⟩
abbrev S1024x6144 : Shape := ⟨2, ![1024, 6144]⟩
abbrev S_ : Shape := ⟨0, ![]⟩

class Facts : Prop where
  bitsLt_bf16_f32 : FTy.bits .bf16 < FTy.bits .f32
  bcast_S_S4160x6144 : S_.BroadcastsInDim S4160x6144 (![] : Fin 0 → Fin S4160x6144.rank)
  reducesTo_S4160x6144_S_d0_1 : S4160x6144.ReducesTo [0, 1] S_
  h_S_ : 0 < S_.numel
  bcast_S_S4160x1024 : S_.BroadcastsInDim S4160x1024 (![] : Fin 0 → Fin S4160x1024.rank)
  reducesTo_S4160x1024_S_d0_1 : S4160x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S1024x6144 : S_.BroadcastsInDim S1024x6144 (![] : Fin 0 → Fin S1024x6144.rank)
  reducesTo_S1024x6144_S_d0_1 : S1024x6144.ReducesTo [0, 1] S_

variable [Facts]

def fn_part1 {F : FTy → Type} [FloatOps F] (main_arg4 : FVec F S1024x6144 .bf16) (main_v4 : IVec S_ 1) (main_v8 : IVec S_ 1) (main_v12 : IVec S_ 1) (main_v15 : IVec S1x1024 1) (main_c_5 : IVec S_ 1) : IVec S_ 1 × IVec S_ 1 × IVec S_ 1 × IVec S_ 1 × IVec S_ 1 :=
  let main_v16 : IVec S_ 1 := (fun x v => Host.reduce IntOp.andi x v reducesTo_S1x1024_S_d0_1 h_S_) main_v15 main_c_5
  let main_v17 : FVec F S1024x6144 .f32 := (extf .f32 · bitsLt_bf16_f32) main_arg4
  let main_v18 : FVec F S1024x6144 .f32 := Host.absf main_v17
  let main_cst_6 : FVec F S_ .f32 := constant S_ .f32 0x7F800000#32
  let main_v19 : FVec F S1024x6144 .f32 := broadcastInDim S1024x6144 ![] bcast_S_S1024x6144 main_cst_6
  let main_v20 : IVec S1024x6144 1 := cmpf .olt main_v18 main_v19
  let main_c_7 : IVec S_ 1 := constantI S_ 1 1#1
  let main_v21 : IVec S_ 1 := (fun x v => Host.reduce IntOp.andi x v reducesTo_S1024x6144_S_d0_1 h_S_) main_v20 main_c_7
  (main_v4, main_v8, main_v12, main_v16, main_v21)

def fn {F : FTy → Type} [FloatOps F] (main_arg0 : FVec F S4160x6144 .bf16) (main_arg1 : FVec F S4160x1024 .f32) (main_arg2 : FVec F S4160x1024 .f32) (main_arg3 : FVec F S1x1024 .f32) (main_arg4 : FVec F S1024x6144 .bf16) : IVec S_ 1 × IVec S_ 1 × IVec S_ 1 × IVec S_ 1 × IVec S_ 1 :=
  let main_v0 : FVec F S4160x6144 .f32 := (extf .f32 · bitsLt_bf16_f32) main_arg0
  let main_v1 : FVec F S4160x6144 .f32 := Host.absf main_v0
  let main_cst : FVec F S_ .f32 := constant S_ .f32 0x7F800000#32
  let main_v2 : FVec F S4160x6144 .f32 := broadcastInDim S4160x6144 ![] bcast_S_S4160x6144 main_cst
  let main_v3 : IVec S4160x6144 1 := cmpf .olt main_v1 main_v2
  let main_c : IVec S_ 1 := constantI S_ 1 1#1
  let main_v4 : IVec S_ 1 := (fun x v => Host.reduce IntOp.andi x v reducesTo_S4160x6144_S_d0_1 h_S_) main_v3 main_c
  let main_v5 : FVec F S4160x1024 .f32 := Host.absf main_arg1
  let main_cst_0 : FVec F S_ .f32 := constant S_ .f32 0x7F800000#32
  let main_v6 : FVec F S4160x1024 .f32 := broadcastInDim S4160x1024 ![] bcast_S_S4160x1024 main_cst_0
  let main_v7 : IVec S4160x1024 1 := cmpf .olt main_v5 main_v6
  let main_c_1 : IVec S_ 1 := constantI S_ 1 1#1
  let main_v8 : IVec S_ 1 := (fun x v => Host.reduce IntOp.andi x v reducesTo_S4160x1024_S_d0_1 h_S_) main_v7 main_c_1
  let main_v9 : FVec F S4160x1024 .f32 := Host.absf main_arg2
  let main_cst_2 : FVec F S_ .f32 := constant S_ .f32 0x7F800000#32
  let main_v10 : FVec F S4160x1024 .f32 := broadcastInDim S4160x1024 ![] bcast_S_S4160x1024 main_cst_2
  let main_v11 : IVec S4160x1024 1 := cmpf .olt main_v9 main_v10
  let main_c_3 : IVec S_ 1 := constantI S_ 1 1#1
  let main_v12 : IVec S_ 1 := (fun x v => Host.reduce IntOp.andi x v reducesTo_S4160x1024_S_d0_1 h_S_) main_v11 main_c_3
  let main_v13 : FVec F S1x1024 .f32 := Host.absf main_arg3
  let main_cst_4 : FVec F S_ .f32 := constant S_ .f32 0x7F800000#32
  let main_v14 : FVec F S1x1024 .f32 := broadcastInDim S1x1024 ![] bcast_S_S1x1024 main_cst_4
  let main_v15 : IVec S1x1024 1 := cmpf .olt main_v13 main_v14
  let main_c_5 : IVec S_ 1 := constantI S_ 1 1#1
  fn_part1 (F := F) main_arg4 main_v4 main_v8 main_v12 main_v15 main_c_5
-- ==== Pre_finite_loss.lean ====
abbrev S4160x1024 : Shape := ⟨2, ![4160, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩

class Facts : Prop where
  bcast_S_S4160x1024 : S_.BroadcastsInDim S4160x1024 (![] : Fin 0 → Fin S4160x1024.rank)
  reducesTo_S4160x1024_S_d0_1 : S4160x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bitsLt_bf16_f32 : FTy.bits .bf16 < FTy.bits .f32
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S1x1024 .f32) (main_arg5 : FVec F S4160x1024 .f32) (main_v3 : IVec S_ 1) (main_v7 : IVec S_ 1) (main_v12 : IVec S_ 1) (main_v16 : IVec S2816x1024 1) : IVec S_ 1 × IVec S_ 1 × IVec S_ 1 × IVec S_ 1 × IVec S_ 1 × IVec S_ 1 :=
  let main_c_5 : IVec S_ 1 := constantI S_ 1 1#1
  let main_v17 : IVec S_ 1 := (fun x v => Host.reduce IntOp.andi x v reducesTo_S2816x1024_S_d0_1 h_S_) main_v16 main_c_5
  let main_v18 : FVec F S1x1024 .f32 := Host.absf main_arg4
  let main_cst_6 : FVec F S_ .f32 := constant S_ .f32 0x7F800000#32
  let main_v19 : FVec F S1x1024 .f32 := broadcastInDim S1x1024 ![] bcast_S_S1x1024 main_cst_6
  let main_v20 : IVec S1x1024 1 := cmpf .olt main_v18 main_v19
  let main_c_7 : IVec S_ 1 := constantI S_ 1 1#1
  let main_v21 : IVec S_ 1 := (fun x v => Host.reduce IntOp.andi x v reducesTo_S1x1024_S_d0_1 h_S_) main_v20 main_c_7
  let main_v22 : FVec F S4160x1024 .f32 := Host.absf main_arg5
  let main_cst_8 : FVec F S_ .f32 := constant S_ .f32 0x7F800000#32
  let main_v23 : FVec F S4160x1024 .f32 := broadcastInDim S4160x1024 ![] bcast_S_S4160x1024 main_cst_8
  let main_v24 : IVec S4160x1024 1 := cmpf .olt main_v22 main_v23
  let main_c_9 : IVec S_ 1 := constantI S_ 1 1#1
  let main_v25 : IVec S_ 1 := (fun x v => Host.reduce IntOp.andi x v reducesTo_S4160x1024_S_d0_1 h_S_) main_v24 main_c_9
  (main_v3, main_v7, main_v12, main_v17, main_v21, main_v25)

def fn {F : FTy → Type} [FloatOps F] (main_arg0 : FVec F S4160x1024 .f32) (main_arg1 : FVec F S1x1024 .f32) (main_arg2 : FVec F S1024x5632 .bf16) (main_arg3 : FVec F S2816x1024 .bf16) (main_arg4 : FVec F S1x1024 .f32) (main_arg5 : FVec F S4160x1024 .f32) : IVec S_ 1 × IVec S_ 1 × IVec S_ 1 × IVec S_ 1 × IVec S_ 1 × IVec S_ 1 :=
  let main_v0 : FVec F S4160x1024 .f32 := Host.absf main_arg0
  let main_cst : FVec F S_ .f32 := constant S_ .f32 0x7F800000#32
  let main_v1 : FVec F S4160x1024 .f32 := broadcastInDim S4160x1024 ![] bcast_S_S4160x1024 main_cst
  let main_v2 : IVec S4160x1024 1 := cmpf .olt main_v0 main_v1
  let main_c : IVec S_ 1 := constantI S_ 1 1#1
  let main_v3 : IVec S_ 1 := (fun x v => Host.reduce IntOp.andi x v reducesTo_S4160x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : FVec F S1024x5632 .f32 := (extf .f32 · bitsLt_bf16_f32) main_arg2
  let main_v9 : FVec F S1024x5632 .f32 := Host.absf main_v8
  let main_cst_2 : FVec F S_ .f32 := constant S_ .f32 0x7F800000#32
  let main_v10 : FVec F S1024x5632 .f32 := broadcastInDim S1024x5632 ![] bcast_S_S1024x5632 main_cst_2
  let main_v11 : IVec S1024x5632 1 := cmpf .olt main_v9 main_v10
  let main_c_3 : IVec S_ 1 := constantI S_ 1 1#1
  let main_v12 : IVec S_ 1 := (fun x v => Host.reduce IntOp.andi x v reducesTo_S1024x5632_S_d0_1 h_S_) main_v11 main_c_3
  let main_v13 : FVec F S2816x1024 .f32 := (extf .f32 · bitsLt_bf16_f32) main_arg3
  let main_v14 : FVec F S2816x1024 .f32 := Host.absf main_v13
  let main_cst_4 : FVec F S_ .f32 := constant S_ .f32 0x7F800000#32
  let main_v15 : FVec F S2816x1024 .f32 := broadcastInDim S2816x1024 ![] bcast_S_S2816x1024 main_cst_4
  let main_v16 : IVec S2816x1024 1 := cmpf .olt main_v14 main_v15
  fn_part1 (F := F) main_arg4 main_arg5 main_v3 main_v7 main_v12 main_v16
-- ==== Kernel.lean ====
abbrev S4160x1024 : Shape := ⟨2, ![4160, 1024]⟩
abbrev S4160x6144 : Shape := ⟨2, ![4160, 6144]⟩
abbrev S1024x1024 : Shape := ⟨2, ![1024, 1024]⟩
abbrev S1x1024 : Shape := ⟨2, ![1, 1024]⟩
abbrev S416x1024 : Shape := ⟨2, ![416, 1024]⟩
abbrev S416x2048 : Shape := ⟨2, ![416, 2048]⟩
abbrev S1024 : Shape := ⟨1, ![1024]⟩

abbrev nBuf : Space → Nat
  | .hbm => 16
  | .vmem => 29
  | .smem => 0
  | _ => 0

abbrev bufTy : (tb : Table) → Fin (tcTables nBuf tb) → BufTy
  | .hbm, ⟨0, _⟩ => ⟨S4160x1024, .f32⟩
  | .hbm, ⟨1, _⟩ => ⟨S4160x1024, .bf16⟩
  | .hbm, ⟨2, _⟩ => ⟨S4160x1024, .bf16⟩
  | .hbm, ⟨3, _⟩ => ⟨S4160x6144, .f32⟩
  | .hbm, ⟨4, _⟩ => ⟨S1024x1024, .bf16⟩
  | .hbm, ⟨5, _⟩ => ⟨S1024x1024, .bf16⟩
  | .hbm, ⟨6, _⟩ => ⟨S1x1024, .f32⟩
  | .hbm, ⟨7, _⟩ => ⟨S1024x1024, .bf16⟩
  | .hbm, ⟨8, _⟩ => ⟨S4160x1024, .f32⟩
  | .hbm, ⟨9, _⟩ => ⟨S4160x1024, .f32⟩
  | .hbm, ⟨10, _⟩ => ⟨S4160x6144, .bf16⟩
  | .hbm, ⟨11, _⟩ => ⟨S4160x1024, .bf16⟩
  | .hbm, ⟨12, _⟩ => ⟨S4160x1024, .bf16⟩
  | .hbm, ⟨13, _⟩ => ⟨S4160x1024, .bf16⟩
  | .hbm, ⟨14, _⟩ => ⟨S4160x1024, .bf16⟩
  | .hbm, ⟨15, _⟩ => ⟨S1x1024, .f32⟩
  | .local _ .vmem, ⟨0, _⟩ => ⟨S416x1024, .f32⟩
  | .local _ .vmem, ⟨1, _⟩ => ⟨S416x1024, .f32⟩
  | .local _ .vmem, ⟨2, _⟩ => ⟨S416x1024, .bf16⟩
  | .local _ .vmem, ⟨3, _⟩ => ⟨S416x1024, .bf16⟩
  | .local _ .vmem, ⟨4, _⟩ => ⟨S416x1024, .bf16⟩
  | .local _ .vmem, ⟨5, _⟩ => ⟨S416x1024, .bf16⟩
  | .local _ .vmem, ⟨6, _⟩ => ⟨S416x1024, .f32⟩
  | .local _ .vmem, ⟨7, _⟩ => ⟨S416x1024, .f32⟩
  | .local _ .vmem, ⟨8, _⟩ => ⟨S416x1024, .f32⟩
  | .local _ .vmem, ⟨9, _⟩ => ⟨S416x1024, .f32⟩
  | .local _ .vmem, ⟨10, _⟩ => ⟨S1024x1024, .bf16⟩
  | .local _ .vmem, ⟨11, _⟩ => ⟨S1024x1024, .bf16⟩
  | .local _ .vmem, ⟨12, _⟩ => ⟨S1x1024, .f32⟩
  | .local _ .vmem, ⟨13, _⟩ => ⟨S1024x1024, .bf16⟩
  | .local _ .vmem, ⟨14, _⟩ => ⟨S416x1024, .f32⟩
  | .local _ .vmem, ⟨15, _⟩ => ⟨S416x1024, .f32⟩
  | .local _ .vmem, ⟨16, _⟩ => ⟨S416x1024, .f32⟩
  | .local _ .vmem, ⟨17, _⟩ => ⟨S416x1024, .f32⟩
  | .local _ .vmem, ⟨18, _⟩ => ⟨S416x2048, .bf16⟩
  | .local _ .vmem, ⟨19, _⟩ => ⟨S416x2048, .bf16⟩
  | .local _ .vmem, ⟨20, _⟩ => ⟨S416x1024, .bf16⟩
  | .local _ .vmem, ⟨21, _⟩ => ⟨S416x1024, .bf16⟩
  | .local _ .vmem, ⟨22, _⟩ => ⟨S416x1024, .bf16⟩
  | .local _ .vmem, ⟨23, _⟩ => ⟨S416x1024, .bf16⟩
  | .local _ .vmem, ⟨24, _⟩ => ⟨S416x1024, .bf16⟩
  | .local _ .vmem, ⟨25, _⟩ => ⟨S416x1024, .bf16⟩
  | .local _ .vmem, ⟨26, _⟩ => ⟨S416x1024, .bf16⟩
  | .local _ .vmem, ⟨27, _⟩ => ⟨S416x1024, .bf16⟩
  | .local _ .vmem, ⟨28, _⟩ => ⟨S1x1024, .f32⟩
  | _, _ => ⟨S4160x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev main_v0_6 : Ref sig .tc := ⟨.hbm, 14, rfl⟩
abbrev main_v0_7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_4 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S416x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S416x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S416x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S416x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S416x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S416x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S416x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S416x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S416x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S416x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S416x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S416x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== ReferenceIdeal.lean ====
abbrev S4160x1024 : Shape := ⟨2, ![4160, 1024]⟩
abbrev S4160x6144 : Shape := ⟨2, ![4160, 6144]⟩
abbrev S1024x1024 : Shape := ⟨2, ![1024, 1024]⟩
abbrev S1x1024 : Shape := ⟨2, ![1, 1024]⟩
abbrev S_ : Shape := ⟨0, ![]⟩
abbrev S1024 : Shape := ⟨1, ![1024]⟩
abbrev S4160x4096 : Shape := ⟨2, ![4160, 4096]⟩

abbrev nBuf : Space → Nat
  | .hbm => 71
  | .vmem => 0
  | .smem => 0
  | _ => 0

abbrev bufTy : (tb : Table) → Fin (tcTables nBuf tb) → BufTy
  | .hbm, ⟨0, _⟩ => ⟨S4160x1024, .f32⟩
  | .hbm, ⟨1, _⟩ => ⟨S4160x1024, .bf16⟩
  | .hbm, ⟨2, _⟩ => ⟨S4160x1024, .bf16⟩
  | .hbm, ⟨3, _⟩ => ⟨S4160x6144, .f32⟩
  | .hbm, ⟨4, _⟩ => ⟨S1024x1024, .bf16⟩
  | .hbm, ⟨5, _⟩ => ⟨S1024x1024, .bf16⟩
  | .hbm, ⟨6, _⟩ => ⟨S1x1024, .f32⟩
  | .hbm, ⟨7, _⟩ => ⟨S1024x1024, .bf16⟩
  | .hbm, ⟨8, _⟩ => ⟨S4160x1024, .f32⟩
  | .hbm, ⟨9, _⟩ => ⟨S4160x1024, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S4160x1024, .f32⟩
  | .hbm, ⟨14, _⟩ => ⟨S4160x1024, .f32⟩
  | .hbm, ⟨15, _⟩ => ⟨S4160x1024, .f32⟩
  | .hbm, ⟨16, _⟩ => ⟨S4160x1024, .f32⟩
  | .hbm, ⟨17, _⟩ => ⟨S4160x1024, .f32⟩
  | .hbm, ⟨18, _⟩ => ⟨S4160x1024, .f32⟩
  | .hbm, ⟨19, _⟩ => ⟨S4160x1024, .f32⟩
  | .hbm, ⟨20, _⟩ => ⟨S4160x1024, .f32⟩
  | .hbm, ⟨21, _⟩ => ⟨S_, .f32⟩
  | .hbm, ⟨22, _⟩ => ⟨S4160x1024, .f32⟩
  | .hbm, ⟨23, _⟩ => ⟨S4160x1024, .f32⟩
  | .hbm, ⟨24, _⟩ => ⟨S_, .f32⟩
  | .hbm, ⟨25, _⟩ => ⟨S4160x1024, .f32⟩
  | .hbm, ⟨26, _⟩ => ⟨S4160x1024, .f32⟩
  | .hbm, ⟨27, _⟩ => ⟨S_, .f32⟩
  | .hbm, ⟨28, _⟩ => ⟨S4160x1024, .f32⟩
  | .hbm, ⟨29, _⟩ => ⟨S4160x1024, .f32⟩
  | .hbm, ⟨30, _⟩ => ⟨S4160x1024, .f32⟩
  | .hbm, ⟨31, _⟩ => ⟨S4160x1024, .f32⟩
  | .hbm, ⟨32, _⟩ => ⟨S4160x1024, .f32⟩
  | .hbm, ⟨33, _⟩ => ⟨S4160x1024, .f32⟩
  | .hbm, ⟨34, _⟩ => ⟨S_, .f32⟩
  | .hbm, ⟨35, _⟩ => ⟨S4160x1024, .f32⟩
  | .hbm, ⟨36, _⟩ => ⟨S4160x1024, .f32⟩
  | .hbm, ⟨37, _⟩ => ⟨S_, .f32⟩
  | .hbm, ⟨38, _⟩ => ⟨S4160x1024, .f32⟩
  | .hbm, ⟨39, _⟩ => ⟨S4160x1024, .f32⟩
  | .hbm, ⟨40, _⟩ => ⟨S_, .f32⟩
  | .hbm, ⟨41, _⟩ => ⟨S4160x1024, .f32⟩
  | .hbm, ⟨42, _⟩ => ⟨S4160x1024, .f32⟩
  | .hbm, ⟨43, _⟩ => ⟨S4160x1024, .f32⟩
  | .hbm, ⟨44, _⟩ => ⟨S4160x1024, .f32⟩
  | .hbm, ⟨45, _⟩ => ⟨S4160x1024, .f32⟩
  | .hbm, ⟨46, _⟩ => ⟨S4160x1024, .f32⟩
  | .hbm, ⟨47, _⟩ => ⟨S4160x1024, .f32⟩
  | .hbm, ⟨48, _⟩ => ⟨S4160x1024, .f32⟩
  | .hbm, ⟨49, _⟩ => ⟨S4160x1024, .f32⟩
  | .hbm, ⟨50, _⟩ => ⟨S4160x1024, .f32⟩
  | .hbm, ⟨51, _⟩ => ⟨S4160x1024, .f32⟩
  | .hbm, ⟨52, _⟩ => ⟨S4160x1024, .f32⟩
  | .hbm, ⟨53, _⟩ => ⟨S4160x1024, .f32⟩
  | .hbm, ⟨54, _⟩ => ⟨S4160x1024, .f32⟩
  | .hbm, ⟨55, _⟩ => ⟨S4160x1024, .f32⟩
  | .hbm, ⟨56, _⟩ => ⟨S4160x1024, .f32⟩
  | .hbm, ⟨57, _⟩ => ⟨S4160x1024, .f32⟩
  | .hbm, ⟨58, _⟩ => ⟨S4160x1024, .f32⟩
  | .hbm, ⟨59, _⟩ => ⟨S_, .f32⟩
  | .hbm, ⟨60, _⟩ => ⟨S1024, .f32⟩
  | .hbm, ⟨61, _⟩ => ⟨S1x1024, .f32⟩
  | .hbm, ⟨62, _⟩ => ⟨S4160x1024, .f32⟩
  | .hbm, ⟨63, _⟩ => ⟨S_, .f32⟩
  | .hbm, ⟨64, _⟩ => ⟨S4160x4096, .f32⟩
  | .hbm, ⟨65, _⟩ => ⟨S4160x6144, .f32⟩
  | .hbm, ⟨66, _⟩ => ⟨S4160x6144, .bf16⟩
  | .hbm, ⟨67, _⟩ => ⟨S4160x1024, .bf16⟩
  | .hbm, ⟨68, _⟩ => ⟨S4160x1024, .bf16⟩
  | .hbm, ⟨69, _⟩ => ⟨S4160x1024, .bf16⟩
  | .hbm, ⟨70, _⟩ => ⟨S4160x1024, .bf16⟩
  | _, _ => ⟨S4160x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_5 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_6 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩

abbrev nD : Nat := 1
abbrev τ : Topo := Topo.v7x

variable {F : FTy → Type} [FloatOps F]
-- ==== FfnKernel.lean ====
abbrev S4160x1024 : Shape := ⟨2, ![4160, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S4160 : Shape := ⟨1, ![4160]⟩
abbrev S4160x1 : Shape := ⟨2, ![4160, 1]⟩
abbrev S4160x5632 : Shape := ⟨2, ![4160, 5632]⟩
abbrev S4160x2816 : Shape := ⟨2, ![4160, 2816]⟩
abbrev S1024x4x1408 : Shape := ⟨3, ![1024, 4, 1408]⟩
abbrev S4x1024x1408 : Shape := ⟨3, ![4, 1024, 1408]⟩
abbrev S2x1408x1024 : Shape := ⟨3, ![2, 1408, 1024]⟩
abbrev S416x1024 : Shape := ⟨2, ![416, 1024]⟩
abbrev S416x2816 : Shape := ⟨2, ![416, 2816]⟩
abbrev S1x256x1024 : Shape := ⟨3, ![1, 256, 1024]⟩
abbrev S256x1024 : Shape := ⟨2, ![256, 1024]⟩
abbrev S416x256 : Shape := ⟨2, ![416, 256]⟩
abbrev S1x128x1024 : Shape := ⟨3, ![1, 128, 1024]⟩
abbrev S128x1024 : Shape := ⟨2, ![128, 1024]⟩
abbrev S416x128 : Shape := ⟨2, ![416, 128]⟩
abbrev S416x1408 : Shape := ⟨2, ![416, 1408]⟩
abbrev S1x1024x1408 : Shape := ⟨3, ![1, 1024, 1408]⟩
abbrev S1024x1408 : Shape := ⟨2, ![1024, 1408]⟩
abbrev S416 : Shape := ⟨1, ![416]⟩
abbrev S416x1 : Shape := ⟨2, ![416, 1]⟩
abbrev S1024 : Shape := ⟨1, ![1024]⟩

abbrev nBuf : Space → Nat
  | .hbm => 34
  | .vmem => 20
  | .smem => 0
  | _ => 0

abbrev bufTy : (tb : Table) → Fin (tcTables nBuf tb) → BufTy
  | .hbm, ⟨0, _⟩ => ⟨S4160x1024, .f32⟩
  | .hbm, ⟨1, _⟩ => ⟨S4160x1024, .f32⟩
  | .hbm, ⟨2, _⟩ => ⟨S1x1024, .f32⟩
  | .hbm, ⟨3, _⟩ => ⟨S1024x5632, .bf16⟩
  | .hbm, ⟨4, _⟩ => ⟨S2816x1024, .bf16⟩
  | .hbm, ⟨5, _⟩ => ⟨S1024x5632, .f32⟩
  | .hbm, ⟨6, _⟩ => ⟨S4160x1024, .f32⟩
  | .hbm, ⟨7, _⟩ => ⟨S_, .f32⟩
  | .hbm, ⟨8, _⟩ => ⟨S4160, .f32⟩
  | .hbm, ⟨9, _⟩ => ⟨S4160x1, .f32⟩
  | .hbm, ⟨10, _⟩ => ⟨S_, .f32⟩
  | .hbm, ⟨11, _⟩ => ⟨S4160x1, .f32⟩
  | .hbm, ⟨12, _⟩ => ⟨S4160x1, .f32⟩
  | .hbm, ⟨13, _⟩ => ⟨S_, .f32⟩
  | .hbm, ⟨14, _⟩ => ⟨S4160x1, .f32⟩
  | .hbm, ⟨15, _⟩ => ⟨S4160x1, .f32⟩
  | .hbm, ⟨16, _⟩ => ⟨S4160x1, .f32⟩
  | .hbm, ⟨17, _⟩ => ⟨S4160x1024, .f32⟩
  | .hbm, ⟨18, _⟩ => ⟨S4160x1024, .f32⟩
  | .hbm, ⟨19, _⟩ => ⟨S4160x1024, .f32⟩
  | .hbm, ⟨20, _⟩ => ⟨S4160x1024, .f32⟩
  | .hbm, ⟨21, _⟩ => ⟨S4160x5632, .f32⟩
  | .hbm, ⟨22, _⟩ => ⟨S4160x2816, .f32⟩
  | .hbm, ⟨23, _⟩ => ⟨S4160x2816, .f32⟩
  | .hbm, ⟨24, _⟩ => ⟨S1024x4x1408, .bf16⟩
  | .hbm, ⟨25, _⟩ => ⟨S4x1024x1408, .bf16⟩
  | .hbm, ⟨26, _⟩ => ⟨S4160x2816, .bf16⟩
  | .hbm, ⟨27, _⟩ => ⟨S4160x2816, .bf16⟩
  | .hbm, ⟨28, _⟩ => ⟨S2x1408x1024, .bf16⟩
  | .hbm, ⟨29, _⟩ => ⟨S4160x1024, .f32⟩
  | .hbm, ⟨30, _⟩ => ⟨S4160x2816, .bf16⟩
  | .hbm, ⟨31, _⟩ => ⟨S4160x2816, .bf16⟩
  | .hbm, ⟨32, _⟩ => ⟨S4160x1024, .bf16⟩
  | .hbm, ⟨33, _⟩ => ⟨S1x1024, .f32⟩
  | .local _ .vmem, ⟨0, _⟩ => ⟨S416x1024, .f32⟩
  | .local _ .vmem, ⟨1, _⟩ => ⟨S416x1024, .f32⟩
  | .local _ .vmem, ⟨2, _⟩ => ⟨S416x1024, .f32⟩
  | .local _ .vmem, ⟨3, _⟩ => ⟨S416x1024, .f32⟩
  | .local _ .vmem, ⟨4, _⟩ => ⟨S1x1024, .f32⟩
  | .local _ .vmem, ⟨5, _⟩ => ⟨S416x2816, .bf16⟩
  | .local _ .vmem, ⟨6, _⟩ => ⟨S416x2816, .bf16⟩
  | .local _ .vmem, ⟨7, _⟩ => ⟨S416x2816, .bf16⟩
  | .local _ .vmem, ⟨8, _⟩ => ⟨S416x2816, .bf16⟩
  | .local _ .vmem, ⟨9, _⟩ => ⟨S4x1024x1408, .bf16⟩
  | .local _ .vmem, ⟨10, _⟩ => ⟨S2x1408x1024, .bf16⟩
  | .local _ .vmem, ⟨11, _⟩ => ⟨S416x1024, .f32⟩
  | .local _ .vmem, ⟨12, _⟩ => ⟨S416x1024, .f32⟩
  | .local _ .vmem, ⟨13, _⟩ => ⟨S416x2816, .bf16⟩
  | .local _ .vmem, ⟨14, _⟩ => ⟨S416x2816, .bf16⟩
  | .local _ .vmem, ⟨15, _⟩ => ⟨S416x2816, .bf16⟩
  | .local _ .vmem, ⟨16, _⟩ => ⟨S416x2816, .bf16⟩
  | .local _ .vmem, ⟨17, _⟩ => ⟨S416x1024, .bf16⟩
  | .local _ .vmem, ⟨18, _⟩ => ⟨S416x1024, .bf16⟩
  | .local _ .vmem, ⟨19, _⟩ => ⟨S1x1024, .f32⟩
  | _, _ => ⟨S4160x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21_0 : Ref sig .tc := ⟨.hbm, 29, rfl⟩
abbrev main_v21_1 : Ref sig .tc := ⟨.hbm, 30, rfl⟩
abbrev main_v21_2 : Ref sig .tc := ⟨.hbm, 31, rfl⟩
abbrev main_v21_3 : Ref sig .tc := ⟨.hbm, 32, rfl⟩
abbrev main_v21_4 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S416x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S416x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S416x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S416x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x1024x1408 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x1408x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S416x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S416x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S416x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S416x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== FfnReferenceIdeal.lean ====
abbrev S4160x1024 : Shape := ⟨2, ![4160, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S4160 : Shape := ⟨1, ![4160]⟩
abbrev S4160x1 : Shape := ⟨2, ![4160, 1]⟩
abbrev S4160x5632 : Shape := ⟨2, ![4160, 5632]⟩
abbrev S4160x2816 : Shape := ⟨2, ![4160, 2816]⟩
abbrev S1024 : Shape := ⟨1, ![1024]⟩

abbrev nBuf : Space → Nat
  | .hbm => 89
  | .vmem => 0
  | .smem => 0
  | _ => 0

abbrev bufTy : (tb : Table) → Fin (tcTables nBuf tb) → BufTy
  | .hbm, ⟨0, _⟩ => ⟨S4160x1024, .f32⟩
  | .hbm, ⟨1, _⟩ => ⟨S4160x1024, .f32⟩
  | .hbm, ⟨2, _⟩ => ⟨S1x1024, .f32⟩
  | .hbm, ⟨3, _⟩ => ⟨S1024x5632, .bf16⟩
  | .hbm, ⟨4, _⟩ => ⟨S2816x1024, .bf16⟩
  | .hbm, ⟨5, _⟩ => ⟨S1024x5632, .f32⟩
  | .hbm, ⟨6, _⟩ => ⟨S2816x1024, .f32⟩
  | .hbm, ⟨7, _⟩ => ⟨S4160x1024, .f32⟩
  | .hbm, ⟨8, _⟩ => ⟨S_, .f32⟩
  | .hbm, ⟨9, _⟩ => ⟨S4160, .f32⟩
  | .hbm, ⟨10, _⟩ => ⟨S4160x1, .f32⟩
  | .hbm, ⟨11, _⟩ => ⟨S_, .f32⟩
  | .hbm, ⟨12, _⟩ => ⟨S4160x1, .f32⟩
  | .hbm, ⟨13, _⟩ => ⟨S4160x1, .f32⟩
  | .hbm, ⟨14, _⟩ => ⟨S_, .f32⟩
  | .hbm, ⟨15, _⟩ => ⟨S4160x1, .f32⟩
  | .hbm, ⟨16, _⟩ => ⟨S4160x1, .f32⟩
  | .hbm, ⟨17, _⟩ => ⟨S4160x1, .f32⟩
  | .hbm, ⟨18, _⟩ => ⟨S4160x1, .f32⟩
  | .hbm, ⟨19, _⟩ => ⟨S_, .f32⟩
  | .hbm, ⟨20, _⟩ => ⟨S4160x1, .f32⟩
  | .hbm, ⟨21, _⟩ => ⟨S4160x1, .f32⟩
  | .hbm, ⟨22, _⟩ => ⟨S4160x1024, .f32⟩
  | .hbm, ⟨23, _⟩ => ⟨S4160x1024, .f32⟩
  | .hbm, ⟨24, _⟩ => ⟨S4160x1024, .f32⟩
  | .hbm, ⟨25, _⟩ => ⟨S4160x1024, .f32⟩
  | .hbm, ⟨26, _⟩ => ⟨S4160x5632, .f32⟩
  | .hbm, ⟨27, _⟩ => ⟨S4160x2816, .f32⟩
  | .hbm, ⟨28, _⟩ => ⟨S4160x2816, .f32⟩
  | .hbm, ⟨29, _⟩ => ⟨S4160x2816, .f32⟩
  | .hbm, ⟨30, _⟩ => ⟨S4160x2816, .f32⟩
  | .hbm, ⟨31, _⟩ => ⟨S_, .f32⟩
  | .hbm, ⟨32, _⟩ => ⟨S4160x2816, .f32⟩
  | .hbm, ⟨33, _⟩ => ⟨S4160x2816, .f32⟩
  | .hbm, ⟨34, _⟩ => ⟨S_, .f32⟩
  | .hbm, ⟨35, _⟩ => ⟨S4160x2816, .f32⟩
  | .hbm, ⟨36, _⟩ => ⟨S4160x2816, .f32⟩
  | .hbm, ⟨37, _⟩ => ⟨S_, .f32⟩
  | .hbm, ⟨38, _⟩ => ⟨S4160x2816, .f32⟩
  | .hbm, ⟨39, _⟩ => ⟨S4160x2816, .f32⟩
  | .hbm, ⟨40, _⟩ => ⟨S4160x2816, .f32⟩
  | .hbm, ⟨41, _⟩ => ⟨S4160x2816, .f32⟩
  | .hbm, ⟨42, _⟩ => ⟨S4160x2816, .f32⟩
  | .hbm, ⟨43, _⟩ => ⟨S4160x1024, .f32⟩
  | .hbm, ⟨44, _⟩ => ⟨S_, .f32⟩
  | .hbm, ⟨45, _⟩ => ⟨S4160x1024, .f32⟩
  | .hbm, ⟨46, _⟩ => ⟨S4160x1024, .f32⟩
  | .hbm, ⟨47, _⟩ => ⟨S_, .f32⟩
  | .hbm, ⟨48, _⟩ => ⟨S4160x1024, .f32⟩
  | .hbm, ⟨49, _⟩ => ⟨S4160x1024, .f32⟩
  | .hbm, ⟨50, _⟩ => ⟨S4160x2816, .f32⟩
  | .hbm, ⟨51, _⟩ => ⟨S4160x2816, .f32⟩
  | .hbm, ⟨52, _⟩ => ⟨S4160x2816, .f32⟩
  | .hbm, ⟨53, _⟩ => ⟨S4160x2816, .f32⟩
  | .hbm, ⟨54, _⟩ => ⟨S4160x2816, .f32⟩
  | .hbm, ⟨55, _⟩ => ⟨S4160x2816, .f32⟩
  | .hbm, ⟨56, _⟩ => ⟨S4160x2816, .f32⟩
  | .hbm, ⟨57, _⟩ => ⟨S4160x5632, .f32⟩
  | .hbm, ⟨58, _⟩ => ⟨S4160x1024, .f32⟩
  | .hbm, ⟨59, _⟩ => ⟨S4160x1024, .f32⟩
  | .hbm, ⟨60, _⟩ => ⟨S_, .f32⟩
  | .hbm, ⟨61, _⟩ => ⟨S1024, .f32⟩
  | .hbm, ⟨62, _⟩ => ⟨S1x1024, .f32⟩
  | .hbm, ⟨63, _⟩ => ⟨S4160x1024, .f32⟩
  | .hbm, ⟨64, _⟩ => ⟨S4160x1024, .f32⟩
  | .hbm, ⟨65, _⟩ => ⟨S4160x1024, .f32⟩
  | .hbm, ⟨66, _⟩ => ⟨S_, .f32⟩
  | .hbm, ⟨67, _⟩ => ⟨S4160, .f32⟩
  | .hbm, ⟨68, _⟩ => ⟨S4160x1, .f32⟩
  | .hbm, ⟨69, _⟩ => ⟨S4160x1024, .f32⟩
  | .hbm, ⟨70, _⟩ => ⟨S4160x1024, .f32⟩
  | .hbm, ⟨71, _⟩ => ⟨S4160x1, .f32⟩
  | .hbm, ⟨72, _⟩ => ⟨S_, .f32⟩
  | .hbm, ⟨73, _⟩ => ⟨S4160x1, .f32⟩
  | .hbm, ⟨74, _⟩ => ⟨S4160x1, .f32⟩
  | .hbm, ⟨75, _⟩ => ⟨S_, .f32⟩
  | .hbm, ⟨76, _⟩ => ⟨S4160, .f32⟩
  | .hbm, ⟨77, _⟩ => ⟨S4160x1024, .f32⟩
  | .hbm, ⟨78, _⟩ => ⟨S4160x1024, .f32⟩
  | .hbm, ⟨79, _⟩ => ⟨S4160x1024, .f32⟩
  | .hbm, ⟨80, _⟩ => ⟨S4160x1024, .f32⟩
  | .hbm, ⟨81, _⟩ => ⟨S4160x1024, .f32⟩
  | .hbm, ⟨82, _⟩ => ⟨S4160x1024, .f32⟩
  | .hbm, ⟨83, _⟩ => ⟨S4160x2816, .bf16⟩
  | .hbm, ⟨84, _⟩ => ⟨S4160x2816, .bf16⟩
  | .hbm, ⟨85, _⟩ => ⟨S_, .f32⟩
  | .hbm, ⟨86, _⟩ => ⟨S4160x1024, .f32⟩
  | .hbm, ⟨87, _⟩ => ⟨S4160x1024, .f32⟩
  | .hbm, ⟨88, _⟩ => ⟨S4160x1024, .bf16⟩
  | _, _ => ⟨S4160x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_v20_2 : Ref sig .tc := ⟨.hbm, 36, rfl⟩
abbrev main_call0_cst_1 : Ref sig .tc := ⟨.hbm, 37, rfl⟩
abbrev main_call0_v6 : Ref sig .tc := ⟨.hbm, 38, rfl⟩
abbrev main_call0_v7 : Ref sig .tc := ⟨.hbm, 39, rfl⟩
abbrev main_v20_1 : Ref sig .tc := ⟨.hbm, 40, rfl⟩
abbrev main_v20_0 : Ref sig .tc := ⟨.hbm, 41, rfl⟩
abbrev main_v21 : Ref sig .tc := ⟨.hbm, 42, rfl⟩
abbrev main_v22 : Ref sig .tc := ⟨.hbm, 43, rfl⟩
abbrev main_cst_3 : Ref sig .tc := ⟨.hbm, 44, rfl⟩
abbrev main_v23 : Ref sig .tc := ⟨.hbm, 45, rfl⟩
abbrev main_v24 : Ref sig .tc := ⟨.hbm, 46, rfl⟩
abbrev main_cst_4 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_5 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_6 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_cst_7 : Ref sig .tc := ⟨.hbm, 72, rfl⟩
abbrev main_v44 : Ref sig .tc := ⟨.hbm, 73, rfl⟩
abbrev main_v45 : Ref sig .tc := ⟨.hbm, 74, rfl⟩
abbrev main_cst_8 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_cst_9 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩

abbrev nD : Nat := 1
abbrev τ : Topo := Topo.v7x

variable {F : FTy → Type} [FloatOps F]
-- ==== InKernel.lean ====
abbrev S4160x6144 : Shape := ⟨2, ![4160, 6144]⟩
abbrev S4160x1024 : Shape := ⟨2, ![4160, 1024]⟩
abbrev S1x1024 : Shape := ⟨2, ![1, 1024]⟩
abbrev S1024x6144 : Shape := ⟨2, ![1024, 6144]⟩
abbrev S1024x4x1536 : Shape := ⟨3, ![1024, 4, 1536]⟩
abbrev S4x1024x1536 : Shape := ⟨3, ![4, 1024, 1536]⟩
abbrev S4x1x1536 : Shape := ⟨3, ![4, 1, 1536]⟩
abbrev S416x6144 : Shape := ⟨2, ![416, 6144]⟩
abbrev S416x1024 : Shape := ⟨2, ![416, 1024]⟩
abbrev S416x1536 : Shape := ⟨2, ![416, 1536]⟩
abbrev S1x1024x1536 : Shape := ⟨3, ![1, 1024, 1536]⟩
abbrev S1024x1536 : Shape := ⟨2, ![1024, 1536]⟩
abbrev S1x1x1536 : Shape := ⟨3, ![1, 1, 1536]⟩
abbrev S1x1536 : Shape := ⟨2, ![1, 1536]⟩
abbrev S1536 : Shape := ⟨1, ![1536]⟩
abbrev S416 : Shape := ⟨1, ![416]⟩
abbrev S416x1 : Shape := ⟨2, ![416, 1]⟩
abbrev S1024 : Shape := ⟨1, ![1024]⟩

abbrev nBuf : Space → Nat
  | .hbm => 10
  | .vmem => 12
  | .smem => 0
  | _ => 0

abbrev bufTy : (tb : Table) → Fin (tcTables nBuf tb) → BufTy
  | .hbm, ⟨0, _⟩ => ⟨S4160x6144, .bf16⟩
  | .hbm, ⟨1, _⟩ => ⟨S4160x1024, .f32⟩
  | .hbm, ⟨2, _⟩ => ⟨S4160x1024, .f32⟩
  | .hbm, ⟨3, _⟩ => ⟨S1x1024, .f32⟩
  | .hbm, ⟨4, _⟩ => ⟨S1024x6144, .bf16⟩
  | .hbm, ⟨5, _⟩ => ⟨S1024x4x1536, .bf16⟩
  | .hbm, ⟨6, _⟩ => ⟨S4x1024x1536, .bf16⟩
  | .hbm, ⟨7, _⟩ => ⟨S4160x1024, .f32⟩
  | .hbm, ⟨8, _⟩ => ⟨S1x1024, .f32⟩
  | .hbm, ⟨9, _⟩ => ⟨S4x1x1536, .f32⟩
  | .local _ .vmem, ⟨0, _⟩ => ⟨S416x6144, .bf16⟩
  | .local _ .vmem, ⟨1, _⟩ => ⟨S416x6144, .bf16⟩
  | .local _ .vmem, ⟨2, _⟩ => ⟨S416x1024, .f32⟩
  | .local _ .vmem, ⟨3, _⟩ => ⟨S416x1024, .f32⟩
  | .local _ .vmem, ⟨4, _⟩ => ⟨S416x1024, .f32⟩
  | .local _ .vmem, ⟨5, _⟩ => ⟨S416x1024, .f32⟩
  | .local _ .vmem, ⟨6, _⟩ => ⟨S1x1024, .f32⟩
  | .local _ .vmem, ⟨7, _⟩ => ⟨S4x1024x1536, .bf16⟩
  | .local _ .vmem, ⟨8, _⟩ => ⟨S416x1024, .f32⟩
  | .local _ .vmem, ⟨9, _⟩ => ⟨S416x1024, .f32⟩
  | .local _ .vmem, ⟨10, _⟩ => ⟨S1x1024, .f32⟩
  | .local _ .vmem, ⟨11, _⟩ => ⟨S4x1x1536, .f32⟩
  | _, _ => ⟨S4160x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S416x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S416x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S416x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S416x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x1x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== InReferenceIdeal.lean ====
abbrev S4160x6144 : Shape := ⟨2, ![4160, 6144]⟩
abbrev S4160x1024 : Shape := ⟨2, ![4160, 1024]⟩
abbrev S1x1024 : Shape := ⟨2, ![1, 1024]⟩
abbrev S1024x6144 : Shape := ⟨2, ![1024, 6144]⟩
abbrev S_ : Shape := ⟨0, ![]⟩
abbrev S1x6144 : Shape := ⟨2, ![1, 6144]⟩
abbrev S4160 : Shape := ⟨1, ![4160]⟩
abbrev S4160x1 : Shape := ⟨2, ![4160, 1]⟩
abbrev S6144 : Shape := ⟨1, ![6144]⟩
abbrev S1024 : Shape := ⟨1, ![1024]⟩
abbrev S4x1x1536 : Shape := ⟨3, ![4, 1, 1536]⟩

abbrev nBuf : Space → Nat
  | .hbm => 60
  | .vmem => 0
  | .smem => 0
  | _ => 0

abbrev bufTy : (tb : Table) → Fin (tcTables nBuf tb) → BufTy
  | .hbm, ⟨0, _⟩ => ⟨S4160x6144, .bf16⟩
  | .hbm, ⟨1, _⟩ => ⟨S4160x1024, .f32⟩
  | .hbm, ⟨2, _⟩ => ⟨S4160x1024, .f32⟩
  | .hbm, ⟨3, _⟩ => ⟨S1x1024, .f32⟩
  | .hbm, ⟨4, _⟩ => ⟨S1024x6144, .bf16⟩
  | .hbm, ⟨5, _⟩ => ⟨S4160x6144, .f32⟩
  | .hbm, ⟨6, _⟩ => ⟨S1024x6144, .f32⟩
  | .hbm, ⟨7, _⟩ => ⟨S_, .f32⟩
  | .hbm, ⟨8, _⟩ => ⟨S1x6144, .f32⟩
  | .hbm, ⟨9, _⟩ => ⟨S4160x1024, .f32⟩
  | .hbm, ⟨10, _⟩ => ⟨S_, .f32⟩
  | .hbm, ⟨11, _⟩ => ⟨S4160, .f32⟩
  | .hbm, ⟨12, _⟩ => ⟨S4160x1, .f32⟩
  | .hbm, ⟨13, _⟩ => ⟨S_, .f32⟩
  | .hbm, ⟨14, _⟩ => ⟨S4160x1, .f32⟩
  | .hbm, ⟨15, _⟩ => ⟨S4160x1, .f32⟩
  | .hbm, ⟨16, _⟩ => ⟨S_, .f32⟩
  | .hbm, ⟨17, _⟩ => ⟨S4160x1, .f32⟩
  | .hbm, ⟨18, _⟩ => ⟨S4160x1, .f32⟩
  | .hbm, ⟨19, _⟩ => ⟨S4160x1, .f32⟩
  | .hbm, ⟨20, _⟩ => ⟨S4160x1, .f32⟩
  | .hbm, ⟨21, _⟩ => ⟨S_, .f32⟩
  | .hbm, ⟨22, _⟩ => ⟨S4160x1, .f32⟩
  | .hbm, ⟨23, _⟩ => ⟨S4160x1, .f32⟩
  | .hbm, ⟨24, _⟩ => ⟨S4160x1024, .f32⟩
  | .hbm, ⟨25, _⟩ => ⟨S4160x1024, .f32⟩
  | .hbm, ⟨26, _⟩ => ⟨S4160x1024, .f32⟩
  | .hbm, ⟨27, _⟩ => ⟨S4160x1024, .f32⟩
  | .hbm, ⟨28, _⟩ => ⟨S4160x6144, .f32⟩
  | .hbm, ⟨29, _⟩ => ⟨S4160x6144, .f32⟩
  | .hbm, ⟨30, _⟩ => ⟨S4160x6144, .f32⟩
  | .hbm, ⟨31, _⟩ => ⟨S_, .f32⟩
  | .hbm, ⟨32, _⟩ => ⟨S6144, .f32⟩
  | .hbm, ⟨33, _⟩ => ⟨S1x6144, .f32⟩
  | .hbm, ⟨34, _⟩ => ⟨S4160x1024, .f32⟩
  | .hbm, ⟨35, _⟩ => ⟨S4160x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S4160x1024, .f32⟩
  | .hbm, ⟨40, _⟩ => ⟨S4160x1024, .f32⟩
  | .hbm, ⟨41, _⟩ => ⟨S4160x1024, .f32⟩
  | .hbm, ⟨42, _⟩ => ⟨S_, .f32⟩
  | .hbm, ⟨43, _⟩ => ⟨S4160, .f32⟩
  | .hbm, ⟨44, _⟩ => ⟨S4160x1, .f32⟩
  | .hbm, ⟨45, _⟩ => ⟨S4160x1024, .f32⟩
  | .hbm, ⟨46, _⟩ => ⟨S4160x1024, .f32⟩
  | .hbm, ⟨47, _⟩ => ⟨S4160x1, .f32⟩
  | .hbm, ⟨48, _⟩ => ⟨S_, .f32⟩
  | .hbm, ⟨49, _⟩ => ⟨S4160x1, .f32⟩
  | .hbm, ⟨50, _⟩ => ⟨S4160x1, .f32⟩
  | .hbm, ⟨51, _⟩ => ⟨S_, .f32⟩
  | .hbm, ⟨52, _⟩ => ⟨S4160, .f32⟩
  | .hbm, ⟨53, _⟩ => ⟨S4160x1024, .f32⟩
  | .hbm, ⟨54, _⟩ => ⟨S4160x1024, .f32⟩
  | .hbm, ⟨55, _⟩ => ⟨S4160x1024, .f32⟩
  | .hbm, ⟨56, _⟩ => ⟨S4160x1024, .f32⟩
  | .hbm, ⟨57, _⟩ => ⟨S4160x1024, .f32⟩
  | .hbm, ⟨58, _⟩ => ⟨S4160x1024, .f32⟩
  | .hbm, ⟨59, _⟩ => ⟨S4x1x1536, .f32⟩
  | _, _ => ⟨S4160x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_cst_8 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩

abbrev nD : Nat := 1
abbrev τ : Topo := Topo.v7x

variable {F : FTy → Type} [FloatOps F]
-- ==== GateKernel.lean ====
abbrev S4160x1024 : Shape := ⟨2, ![4160, 1024]⟩
abbrev S4160x2816 : Shape := ⟨2, ![4160, 2816]⟩
abbrev S4x1024x1408 : Shape := ⟨3, ![4, 1024, 1408]⟩
abbrev S2080x1024 : Shape := ⟨2, ![2080, 1024]⟩
abbrev S2080x1408 : Shape := ⟨2, ![2080, 1408]⟩
abbrev S1x1024x1408 : Shape := ⟨3, ![1, 1024, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4160x1024, .bf16⟩
  | .hbm, ⟨1, _⟩ => ⟨S4160x2816, .bf16⟩
  | .hbm, ⟨2, _⟩ => ⟨S4x1024x1408, .bf16⟩
  | .local _ .vmem, ⟨0, _⟩ => ⟨S2080x1024, .bf16⟩
  | .local _ .vmem, ⟨1, _⟩ => ⟨S2080x1024, .bf16⟩
  | .local _ .vmem, ⟨2, _⟩ => ⟨S2080x1408, .bf16⟩
  | .local _ .vmem, ⟨3, _⟩ => ⟨S2080x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S4160x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

abbrev stage0_0 : Fin 2 → Memref sig .tc .vmem S2080x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2080x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== GateReferenceIdeal.lean ====
abbrev S4160x1024 : Shape := ⟨2, ![4160, 1024]⟩
abbrev S4160x2816 : Shape := ⟨2, ![4160, 2816]⟩
abbrev S_ : Shape := ⟨0, ![]⟩
abbrev S4160x5632 : Shape := ⟨2, ![4160, 5632]⟩
abbrev S1024x5632 : Shape := ⟨2, ![1024, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 15
  | .vmem => 0
  | .smem => 0
  | _ => 0

abbrev bufTy : (tb : Table) → Fin (tcTables nBuf tb) → BufTy
  | .hbm, ⟨0, _⟩ => ⟨S4160x1024, .bf16⟩
  | .hbm, ⟨1, _⟩ => ⟨S4160x2816, .bf16⟩
  | .hbm, ⟨2, _⟩ => ⟨S_, .bf16⟩
  | .hbm, ⟨3, _⟩ => ⟨S4160x2816, .bf16⟩
  | .hbm, ⟨4, _⟩ => ⟨S4160x5632, .bf16⟩
  | .hbm, ⟨5, _⟩ => ⟨S4160x1024, .f32⟩
  | .hbm, ⟨6, _⟩ => ⟨S4160x5632, .f32⟩
  | .hbm, ⟨7, _⟩ => ⟨S_, .f32⟩
  | .hbm, ⟨8, _⟩ => ⟨S1024x5632, .f32⟩
  | .hbm, ⟨9, _⟩ => ⟨S4160x5632, .f32⟩
  | .hbm, ⟨10, _⟩ => ⟨S5632x1024, .f32⟩
  | .hbm, ⟨11, _⟩ => ⟨S1024x5632, .f32⟩
  | .hbm, ⟨12, _⟩ => ⟨S1024x5632, .bf16⟩
  | .hbm, ⟨13, _⟩ => ⟨S1024x4x1408, .bf16⟩
  | .hbm, ⟨14, _⟩ => ⟨S4x1024x1408, .bf16⟩
  | _, _ => ⟨S4160x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== UpKernel.lean ====
abbrev S4160x1024 : Shape := ⟨2, ![4160, 1024]⟩
abbrev S4160x2816 : Shape := ⟨2, ![4160, 2816]⟩
abbrev S4x1024x1408 : Shape := ⟨3, ![4, 1024, 1408]⟩
abbrev S2080x1024 : Shape := ⟨2, ![2080, 1024]⟩
abbrev S2080x1408 : Shape := ⟨2, ![2080, 1408]⟩
abbrev S1x1024x1408 : Shape := ⟨3, ![1, 1024, 1408]⟩
abbrev S1024x1408 : Shape := ⟨2, ![1024, 1408]⟩

abbrev nBuf : Space → Nat
  | .hbm => 4
  | .vmem => 7
  | .smem => 0
  | _ => 0

abbrev bufTy : (tb : Table) → Fin (tcTables nBuf tb) → BufTy
  | .hbm, ⟨0, _⟩ => ⟨S4160x1024, .bf16⟩
  | .hbm, ⟨1, _⟩ => ⟨S4160x2816, .bf16⟩
  | .hbm, ⟨2, _⟩ => ⟨S4x1024x1408, .bf16⟩
  | .hbm, ⟨3, _⟩ => ⟨S4x1024x1408, .bf16⟩
  | .local _ .vmem, ⟨0, _⟩ => ⟨S2080x1024, .bf16⟩
  | .local _ .vmem, ⟨1, _⟩ => ⟨S2080x1024, .bf16⟩
  | .local _ .vmem, ⟨2, _⟩ => ⟨S2080x1408, .bf16⟩
  | .local _ .vmem, ⟨3, _⟩ => ⟨S2080x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S4160x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  let c0_i32_0 : BitVec 32 := 0#32
  let c0_i32_1 : BitVec 32 := 0#32
  ![v0.toNat, c0_i32.toNat, c0_i32_0.toNat]

abbrev stage0_0 : Fin 2 → Memref sig .tc .vmem S2080x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2080x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== UpReferenceIdeal.lean ====
abbrev S4160x1024 : Shape := ⟨2, ![4160, 1024]⟩
abbrev S4160x2816 : Shape := ⟨2, ![4160, 2816]⟩
abbrev S4x1024x1408 : Shape := ⟨3, ![4, 1024, 1408]⟩
abbrev S2x1024x1408 : Shape := ⟨3, ![2, 1024, 1408]⟩
abbrev S_ : Shape := ⟨0, ![]⟩
abbrev S4160x5632 : Shape := ⟨2, ![4160, 5632]⟩
abbrev S1024x5632 : Shape := ⟨2, ![1024, 5632]⟩
abbrev S5632x1024 : Shape := ⟨2, ![5632, 1024]⟩
abbrev S1024x4x1408 : Shape := ⟨3, ![1024, 4, 1408]⟩

abbrev nBuf : Space → Nat
  | .hbm => 19
  | .vmem => 0
  | .smem => 0
  | _ => 0

abbrev bufTy : (tb : Table) → Fin (tcTables nBuf tb) → BufTy
  | .hbm, ⟨0, _⟩ => ⟨S4160x1024, .bf16⟩
  | .hbm, ⟨1, _⟩ => ⟨S4160x2816, .bf16⟩
  | .hbm, ⟨2, _⟩ => ⟨S4x1024x1408, .bf16⟩
  | .hbm, ⟨3, _⟩ => ⟨S2x1024x1408, .bf16⟩
  | .hbm, ⟨4, _⟩ => ⟨S_, .bf16⟩
  | .hbm, ⟨5, _⟩ => ⟨S4160x2816, .bf16⟩
  | .hbm, ⟨6, _⟩ => ⟨S4160x5632, .bf16⟩
  | .hbm, ⟨7, _⟩ => ⟨S4160x1024, .f32⟩
  | .hbm, ⟨8, _⟩ => ⟨S4160x5632, .f32⟩
  | .hbm, ⟨9, _⟩ => ⟨S_, .f32⟩
  | .hbm, ⟨10, _⟩ => ⟨S1024x5632, .f32⟩
  | .hbm, ⟨11, _⟩ => ⟨S4160x5632, .f32⟩
  | .hbm, ⟨12, _⟩ => ⟨S5632x1024, .f32⟩
  | .hbm, ⟨13, _⟩ => ⟨S1024x5632, .f32⟩
  | .hbm, ⟨14, _⟩ => ⟨S1024x5632, .bf16⟩
  | .hbm, ⟨15, _⟩ => ⟨S1024x4x1408, .bf16⟩
  | .hbm, ⟨16, _⟩ => ⟨S4x1024x1408, .bf16⟩
  | .hbm, ⟨17, _⟩ => ⟨S2x1024x1408, .bf16⟩
  | .hbm, ⟨18, _⟩ => ⟨S4x1024x1408, .bf16⟩
  | _, _ => ⟨S4160x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== DownKernel.lean ====
abbrev S4160x2816 : Shape := ⟨2, ![4160, 2816]⟩
abbrev S4160x1024 : Shape := ⟨2, ![4160, 1024]⟩
abbrev S2816x1024 : Shape := ⟨2, ![2816, 1024]⟩
abbrev S2080x1408 : Shape := ⟨2, ![2080, 1408]⟩
abbrev S2080x1024 : Shape := ⟨2, ![2080, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4160x2816, .bf16⟩
  | .hbm, ⟨1, _⟩ => ⟨S4160x1024, .bf16⟩
  | .hbm, ⟨2, _⟩ => ⟨S2816x1024, .bf16⟩
  | .local _ .vmem, ⟨0, _⟩ => ⟨S2080x1408, .bf16⟩
  | .local _ .vmem, ⟨1, _⟩ => ⟨S2080x1408, .bf16⟩
  | .local _ .vmem, ⟨2, _⟩ => ⟨S2080x1024, .bf16⟩
  | .local _ .vmem, ⟨3, _⟩ => ⟨S2080x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4160x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S2080x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2080x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== DownReferenceIdeal.lean ====
abbrev S4160x2816 : Shape := ⟨2, ![4160, 2816]⟩
abbrev S4160x1024 : Shape := ⟨2, ![4160, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4160x2816, .bf16⟩
  | .hbm, ⟨1, _⟩ => ⟨S4160x1024, .bf16⟩
  | .hbm, ⟨2, _⟩ => ⟨S4160x2816, .f32⟩
  | .hbm, ⟨3, _⟩ => ⟨S4160x1024, .f32⟩
  | .hbm, ⟨4, _⟩ => ⟨S_, .f32⟩
  | .hbm, ⟨5, _⟩ => ⟨S2816x1024, .f32⟩
  | .hbm, ⟨6, _⟩ => ⟨S4160x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S4160x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== SquareKernel.lean ====
abbrev S4160x1024 : Shape := ⟨2, ![4160, 1024]⟩
abbrev S1024x1024 : Shape := ⟨2, ![1024, 1024]⟩
abbrev S2080x1024 : Shape := ⟨2, ![2080, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4160x1024, .bf16⟩
  | .hbm, ⟨1, _⟩ => ⟨S4160x1024, .bf16⟩
  | .hbm, ⟨2, _⟩ => ⟨S1024x1024, .bf16⟩
  | .local _ .vmem, ⟨0, _⟩ => ⟨S2080x1024, .bf16⟩
  | .local _ .vmem, ⟨1, _⟩ => ⟨S2080x1024, .bf16⟩
  | .local _ .vmem, ⟨2, _⟩ => ⟨S2080x1024, .bf16⟩
  | .local _ .vmem, ⟨3, _⟩ => ⟨S2080x1024, .bf16⟩
  | .local _ .vmem, ⟨4, _⟩ => ⟨S1024x1024, .bf16⟩
  | .local _ .vmem, ⟨5, _⟩ => ⟨S1024x1024, .f32⟩
  | _, _ => ⟨S4160x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2080x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2080x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]
-- ==== SquareReferenceIdeal.lean ====
abbrev S4160x1024 : Shape := ⟨2, ![4160, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4160x1024, .bf16⟩
  | .hbm, ⟨1, _⟩ => ⟨S4160x1024, .bf16⟩
  | .hbm, ⟨2, _⟩ => ⟨S4160x1024, .f32⟩
  | .hbm, ⟨3, _⟩ => ⟨S4160x1024, .f32⟩
  | .hbm, ⟨4, _⟩ => ⟨S_, .f32⟩
  | .hbm, ⟨5, _⟩ => ⟨S1024x1024, .f32⟩
  | .hbm, ⟨6, _⟩ => ⟨S4160x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4160x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== WinKernel.lean ====
abbrev S4160x1024 : Shape := ⟨2, ![4160, 1024]⟩
abbrev S4160x6144 : Shape := ⟨2, ![4160, 6144]⟩
abbrev S4x1024x1536 : Shape := ⟨3, ![4, 1024, 1536]⟩
abbrev S2080x1024 : Shape := ⟨2, ![2080, 1024]⟩
abbrev S2080x1536 : Shape := ⟨2, ![2080, 1536]⟩
abbrev S1x1024x1536 : Shape := ⟨3, ![1, 1024, 1536]⟩
abbrev S1024x1536 : Shape := ⟨2, ![1024, 1536]⟩

abbrev nBuf : Space → Nat
  | .hbm => 3
  | .vmem => 7
  | .smem => 0
  | _ => 0

abbrev bufTy : (tb : Table) → Fin (tcTables nBuf tb) → BufTy
  | .hbm, ⟨0, _⟩ => ⟨S4160x1024, .bf16⟩
  | .hbm, ⟨1, _⟩ => ⟨S4160x6144, .bf16⟩
  | .hbm, ⟨2, _⟩ => ⟨S4x1024x1536, .bf16⟩
  | .local _ .vmem, ⟨0, _⟩ => ⟨S2080x1024, .bf16⟩
  | .local _ .vmem, ⟨1, _⟩ => ⟨S2080x1024, .bf16⟩
  | .local _ .vmem, ⟨2, _⟩ => ⟨S2080x1536, .bf16⟩
  | .local _ .vmem, ⟨3, _⟩ => ⟨S2080x1536, .bf16⟩
  | .local _ .vmem, ⟨4, _⟩ => ⟨S1x1024x1536, .bf16⟩
  | .local _ .vmem, ⟨5, _⟩ => ⟨S1x1024x1536, .bf16⟩
  | .local _ .vmem, ⟨6, _⟩ => ⟨S1024x1536, .f32⟩
  | _, _ => ⟨S4160x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

abbrev stage0_0 : Fin 2 → Memref sig .tc .vmem S2080x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2080x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== WinReferenceIdeal.lean ====
abbrev S4160x1024 : Shape := ⟨2, ![4160, 1024]⟩
abbrev S4160x6144 : Shape := ⟨2, ![4160, 6144]⟩
abbrev S_ : Shape := ⟨0, ![]⟩
abbrev S1024x6144 : Shape := ⟨2, ![1024, 6144]⟩
abbrev S6144x1024 : Shape := ⟨2, ![6144, 1024]⟩
abbrev S1024x4x1536 : Shape := ⟨3, ![1024, 4, 1536]⟩
abbrev S4x1024x1536 : Shape := ⟨3, ![4, 1024, 1536]⟩

abbrev nBuf : Space → Nat
  | .hbm => 12
  | .vmem => 0
  | .smem => 0
  | _ => 0

abbrev bufTy : (tb : Table) → Fin (tcTables nBuf tb) → BufTy
  | .hbm, ⟨0, _⟩ => ⟨S4160x1024, .bf16⟩
  | .hbm, ⟨1, _⟩ => ⟨S4160x6144, .bf16⟩
  | .hbm, ⟨2, _⟩ => ⟨S4160x1024, .f32⟩
  | .hbm, ⟨3, _⟩ => ⟨S4160x6144, .f32⟩
  | .hbm, ⟨4, _⟩ => ⟨S_, .f32⟩
  | .hbm, ⟨5, _⟩ => ⟨S1024x6144, .f32⟩
  | .hbm, ⟨6, _⟩ => ⟨S4160x6144, .f32⟩
  | .hbm, ⟨7, _⟩ => ⟨S6144x1024, .f32⟩
  | .hbm, ⟨8, _⟩ => ⟨S1024x6144, .f32⟩
  | .hbm, ⟨9, _⟩ => ⟨S1024x6144, .bf16⟩
  | .hbm, ⟨10, _⟩ => ⟨S1024x4x1536, .bf16⟩
  | .hbm, ⟨11, _⟩ => ⟨S4x1024x1536, .bf16⟩
  | _, _ => ⟨S4160x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== InFwdKernel.lean ====
abbrev S4160x1024 : Shape := ⟨2, ![4160, 1024]⟩
abbrev S1x1024 : Shape := ⟨2, ![1, 1024]⟩
abbrev S1024x6144 : Shape := ⟨2, ![1024, 6144]⟩
abbrev S1x6144 : Shape := ⟨2, ![1, 6144]⟩
abbrev S1024x4x1536 : Shape := ⟨3, ![1024, 4, 1536]⟩
abbrev S4x1024x1536 : Shape := ⟨3, ![4, 1024, 1536]⟩
abbrev S4160x6144 : Shape := ⟨2, ![4160, 6144]⟩
abbrev S416x1024 : Shape := ⟨2, ![416, 1024]⟩
abbrev S416x6144 : Shape := ⟨2, ![416, 6144]⟩
abbrev S416 : Shape := ⟨1, ![416]⟩
abbrev S416x1 : Shape := ⟨2, ![416, 1]⟩
abbrev S1x1024x1536 : Shape := ⟨3, ![1, 1024, 1536]⟩
abbrev S1024x1536 : Shape := ⟨2, ![1024, 1536]⟩
abbrev S416x1536 : Shape := ⟨2, ![416, 1536]⟩
abbrev S1x1536 : Shape := ⟨2, ![1, 1536]⟩

abbrev nBuf : Space → Nat
  | .hbm => 8
  | .vmem => 9
  | .smem => 0
  | _ => 0

abbrev bufTy : (tb : Table) → Fin (tcTables nBuf tb) → BufTy
  | .hbm, ⟨0, _⟩ => ⟨S4160x1024, .f32⟩
  | .hbm, ⟨1, _⟩ => ⟨S1x1024, .f32⟩
  | .hbm, ⟨2, _⟩ => ⟨S1024x6144, .bf16⟩
  | .hbm, ⟨3, _⟩ => ⟨S1x6144, .f32⟩
  | .hbm, ⟨4, _⟩ => ⟨S1024x4x1536, .bf16⟩
  | .hbm, ⟨5, _⟩ => ⟨S4x1024x1536, .bf16⟩
  | .hbm, ⟨6, _⟩ => ⟨S4160x6144, .f32⟩
  | .hbm, ⟨7, _⟩ => ⟨S4160x1024, .bf16⟩
  | .local _ .vmem, ⟨0, _⟩ => ⟨S416x1024, .f32⟩
  | .local _ .vmem, ⟨1, _⟩ => ⟨S416x1024, .f32⟩
  | .local _ .vmem, ⟨2, _⟩ => ⟨S1x1024, .f32⟩
  | .local _ .vmem, ⟨3, _⟩ => ⟨S4x1024x1536, .bf16⟩
  | .local _ .vmem, ⟨4, _⟩ => ⟨S1x6144, .f32⟩
  | .local _ .vmem, ⟨5, _⟩ => ⟨S416x6144, .f32⟩
  | .local _ .vmem, ⟨6, _⟩ => ⟨S416x6144, .f32⟩
  | .local _ .vmem, ⟨7, _⟩ => ⟨S416x1024, .bf16⟩
  | .local _ .vmem, ⟨8, _⟩ => ⟨S416x1024, .bf16⟩
  | _, _ => ⟨S4160x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S416x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S416x6144 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S416x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== InFwdReferenceIdeal.lean ====
abbrev S4160x1024 : Shape := ⟨2, ![4160, 1024]⟩
abbrev S1x1024 : Shape := ⟨2, ![1, 1024]⟩
abbrev S1024x6144 : Shape := ⟨2, ![1024, 6144]⟩
abbrev S1x6144 : Shape := ⟨2, ![1, 6144]⟩
abbrev S_ : Shape := ⟨0, ![]⟩
abbrev S4160 : Shape := ⟨1, ![4160]⟩
abbrev S4160x1 : Shape := ⟨2, ![4160, 1]⟩
abbrev S4160x6144 : Shape := ⟨2, ![4160, 6144]⟩

abbrev nBuf : Space → Nat
  | .hbm => 24
  | .vmem => 0
  | .smem => 0
  | _ => 0

abbrev bufTy : (tb : Table) → Fin (tcTables nBuf tb) → BufTy
  | .hbm, ⟨0, _⟩ => ⟨S4160x1024, .f32⟩
  | .hbm, ⟨1, _⟩ => ⟨S1x1024, .f32⟩
  | .hbm, ⟨2, _⟩ => ⟨S1024x6144, .bf16⟩
  | .hbm, ⟨3, _⟩ => ⟨S1x6144, .f32⟩
  | .hbm, ⟨4, _⟩ => ⟨S4160x1024, .f32⟩
  | .hbm, ⟨5, _⟩ => ⟨S_, .f32⟩
  | .hbm, ⟨6, _⟩ => ⟨S4160, .f32⟩
  | .hbm, ⟨7, _⟩ => ⟨S4160x1, .f32⟩
  | .hbm, ⟨8, _⟩ => ⟨S_, .f32⟩
  | .hbm, ⟨9, _⟩ => ⟨S4160x1, .f32⟩
  | .hbm, ⟨10, _⟩ => ⟨S4160x1, .f32⟩
  | .hbm, ⟨11, _⟩ => ⟨S_, .f32⟩
  | .hbm, ⟨12, _⟩ => ⟨S4160x1, .f32⟩
  | .hbm, ⟨13, _⟩ => ⟨S4160x1, .f32⟩
  | .hbm, ⟨14, _⟩ => ⟨S4160x1, .f32⟩
  | .hbm, ⟨15, _⟩ => ⟨S4160x1024, .f32⟩
  | .hbm, ⟨16, _⟩ => ⟨S4160x1024, .f32⟩
  | .hbm, ⟨17, _⟩ => ⟨S4160x1024, .f32⟩
  | .hbm, ⟨18, _⟩ => ⟨S4160x1024, .f32⟩
  | .hbm, ⟨19, _⟩ => ⟨S1024x6144, .f32⟩
  | .hbm, ⟨20, _⟩ => ⟨S4160x6144, .f32⟩
  | .hbm, ⟨21, _⟩ => ⟨S4160x6144, .f32⟩
  | .hbm, ⟨22, _⟩ => ⟨S4160x6144, .f32⟩
  | .hbm, ⟨23, _⟩ => ⟨S4160x1024, .bf16⟩
  | _, _ => ⟨S4160x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== MergeFwdKernel.lean ====
abbrev S4160x1024 : Shape := ⟨2, ![4160, 1024]⟩
abbrev S4160x6144 : Shape := ⟨2, ![4160, 6144]⟩
abbrev S1024x1024 : Shape := ⟨2, ![1024, 1024]⟩
abbrev S1x1024 : Shape := ⟨2, ![1, 1024]⟩
abbrev S416x1024 : Shape := ⟨2, ![416, 1024]⟩

abbrev nBuf : Space → Nat
  | .hbm => 9
  | .vmem => 16
  | .smem => 0
  | _ => 0

abbrev bufTy : (tb : Table) → Fin (tcTables nBuf tb) → BufTy
  | .hbm, ⟨0, _⟩ => ⟨S4160x1024, .f32⟩
  | .hbm, ⟨1, _⟩ => ⟨S4160x1024, .bf16⟩
  | .hbm, ⟨2, _⟩ => ⟨S4160x1024, .bf16⟩
  | .hbm, ⟨3, _⟩ => ⟨S4160x6144, .f32⟩
  | .hbm, ⟨4, _⟩ => ⟨S1024x1024, .bf16⟩
  | .hbm, ⟨5, _⟩ => ⟨S1024x1024, .bf16⟩
  | .hbm, ⟨6, _⟩ => ⟨S1x1024, .f32⟩
  | .hbm, ⟨7, _⟩ => ⟨S1024x1024, .bf16⟩
  | .hbm, ⟨8, _⟩ => ⟨S4160x1024, .f32⟩
  | .local _ .vmem, ⟨0, _⟩ => ⟨S416x1024, .f32⟩
  | .local _ .vmem, ⟨1, _⟩ => ⟨S416x1024, .f32⟩
  | .local _ .vmem, ⟨2, _⟩ => ⟨S416x1024, .bf16⟩
  | .local _ .vmem, ⟨3, _⟩ => ⟨S416x1024, .bf16⟩
  | .local _ .vmem, ⟨4, _⟩ => ⟨S416x1024, .bf16⟩
  | .local _ .vmem, ⟨5, _⟩ => ⟨S416x1024, .bf16⟩
  | .local _ .vmem, ⟨6, _⟩ => ⟨S416x1024, .f32⟩
  | .local _ .vmem, ⟨7, _⟩ => ⟨S416x1024, .f32⟩
  | .local _ .vmem, ⟨8, _⟩ => ⟨S416x1024, .f32⟩
  | .local _ .vmem, ⟨9, _⟩ => ⟨S416x1024, .f32⟩
  | .local _ .vmem, ⟨10, _⟩ => ⟨S1024x1024, .bf16⟩
  | .local _ .vmem, ⟨11, _⟩ => ⟨S1024x1024, .bf16⟩
  | .local _ .vmem, ⟨12, _⟩ => ⟨S1x1024, .f32⟩
  | .local _ .vmem, ⟨13, _⟩ => ⟨S1024x1024, .bf16⟩
  | .local _ .vmem, ⟨14, _⟩ => ⟨S416x1024, .f32⟩
  | .local _ .vmem, ⟨15, _⟩ => ⟨S416x1024, .f32⟩
  | _, _ => ⟨S4160x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_4 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S416x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S416x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S416x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S416x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S416x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S416x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MergeFwdReferenceIdeal.lean ====
abbrev S4160x1024 : Shape := ⟨2, ![4160, 1024]⟩
abbrev S4160x6144 : Shape := ⟨2, ![4160, 6144]⟩
abbrev S1024x1024 : Shape := ⟨2, ![1024, 1024]⟩
abbrev S1x1024 : Shape := ⟨2, ![1, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4160x1024, .f32⟩
  | .hbm, ⟨1, _⟩ => ⟨S4160x1024, .bf16⟩
  | .hbm, ⟨2, _⟩ => ⟨S4160x1024, .bf16⟩
  | .hbm, ⟨3, _⟩ => ⟨S4160x6144, .f32⟩
  | .hbm, ⟨4, _⟩ => ⟨S1024x1024, .bf16⟩
  | .hbm, ⟨5, _⟩ => ⟨S1024x1024, .bf16⟩
  | .hbm, ⟨6, _⟩ => ⟨S1x1024, .f32⟩
  | .hbm, ⟨7, _⟩ => ⟨S1024x1024, .bf16⟩
  | .hbm, ⟨8, _⟩ => ⟨S4160x1024, .f32⟩
  | .hbm, ⟨9, _⟩ => ⟨S4160x1024, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S4160x1024, .f32⟩
  | .hbm, ⟨14, _⟩ => ⟨S4160x1024, .f32⟩
  | .hbm, ⟨15, _⟩ => ⟨S4160x1024, .f32⟩
  | .hbm, ⟨16, _⟩ => ⟨S4160x1024, .f32⟩
  | .hbm, ⟨17, _⟩ => ⟨S4160x1024, .f32⟩
  | .hbm, ⟨18, _⟩ => ⟨S4160x1024, .f32⟩
  | .hbm, ⟨19, _⟩ => ⟨S4160x1024, .f32⟩
  | .hbm, ⟨20, _⟩ => ⟨S4160x1024, .f32⟩
  | .hbm, ⟨21, _⟩ => ⟨S_, .f32⟩
  | .hbm, ⟨22, _⟩ => ⟨S4160x1024, .f32⟩
  | .hbm, ⟨23, _⟩ => ⟨S4160x1024, .f32⟩
  | .hbm, ⟨24, _⟩ => ⟨S_, .f32⟩
  | .hbm, ⟨25, _⟩ => ⟨S4160x1024, .f32⟩
  | .hbm, ⟨26, _⟩ => ⟨S4160x1024, .f32⟩
  | .hbm, ⟨27, _⟩ => ⟨S4160x1024, .f32⟩
  | .hbm, ⟨28, _⟩ => ⟨S4160x1024, .f32⟩
  | .hbm, ⟨29, _⟩ => ⟨S4160x1024, .f32⟩
  | .hbm, ⟨30, _⟩ => ⟨S_, .f32⟩
  | .hbm, ⟨31, _⟩ => ⟨S4160x1024, .f32⟩
  | .hbm, ⟨32, _⟩ => ⟨S4160x1024, .f32⟩
  | .hbm, ⟨33, _⟩ => ⟨S_, .f32⟩
  | .hbm, ⟨34, _⟩ => ⟨S4160x1024, .f32⟩
  | .hbm, ⟨35, _⟩ => ⟨S4160x1024, .f32⟩
  | .hbm, ⟨36, _⟩ => ⟨S4160x1024, .f32⟩
  | .hbm, ⟨37, _⟩ => ⟨S4160x1024, .f32⟩
  | .hbm, ⟨38, _⟩ => ⟨S4160x1024, .f32⟩
  | .hbm, ⟨39, _⟩ => ⟨S4160x1024, .f32⟩
  | _, _ => ⟨S4160x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩

abbrev nD : Nat := 1
abbrev τ : Topo := Topo.v7x

variable {F : FTy → Type} [FloatOps F]
-- ==== FfnFwdKernel.lean ====
abbrev S4160x1024 : Shape := ⟨2, ![4160, 1024]⟩
abbrev S1x1024 : Shape := ⟨2, ![1, 1024]⟩
abbrev S1024x5632 : Shape := ⟨2, ![1024, 5632]⟩
abbrev S2816x1024 : Shape := ⟨2, ![2816, 1024]⟩
abbrev S1024x4x1408 : Shape := ⟨3, ![1024, 4, 1408]⟩
abbrev S4x1024x1408 : Shape := ⟨3, ![4, 1024, 1408]⟩
abbrev S2x1408x1024 : Shape := ⟨3, ![2, 1408, 1024]⟩
abbrev S4160x2816 : Shape := ⟨2, ![4160, 2816]⟩
abbrev S416x1024 : Shape := ⟨2, ![416, 1024]⟩
abbrev S416x2816 : Shape := ⟨2, ![416, 2816]⟩
abbrev S416 : Shape := ⟨1, ![416]⟩
abbrev S416x1 : Shape := ⟨2, ![416, 1]⟩
abbrev S1x1024x256 : Shape := ⟨3, ![1, 1024, 256]⟩
abbrev S1024x256 : Shape := ⟨2, ![1024, 256]⟩
abbrev S416x256 : Shape := ⟨2, ![416, 256]⟩
abbrev S1x1024x128 : Shape := ⟨3, ![1, 1024, 128]⟩
abbrev S1024x128 : Shape := ⟨2, ![1024, 128]⟩
abbrev S416x128 : Shape := ⟨2, ![416, 128]⟩
abbrev S416x1408 : Shape := ⟨2, ![416, 1408]⟩
abbrev S1x1408x1024 : Shape := ⟨3, ![1, 1408, 1024]⟩
abbrev S1408x1024 : Shape := ⟨2, ![1408, 1024]⟩

abbrev nBuf : Space → Nat
  | .hbm => 12
  | .vmem => 15
  | .smem => 0
  | _ => 0

abbrev bufTy : (tb : Table) → Fin (tcTables nBuf tb) → BufTy
  | .hbm, ⟨0, _⟩ => ⟨S4160x1024, .f32⟩
  | .hbm, ⟨1, _⟩ => ⟨S1x1024, .f32⟩
  | .hbm, ⟨2, _⟩ => ⟨S1024x5632, .bf16⟩
  | .hbm, ⟨3, _⟩ => ⟨S2816x1024, .bf16⟩
  | .hbm, ⟨4, _⟩ => ⟨S1024x4x1408, .bf16⟩
  | .hbm, ⟨5, _⟩ => ⟨S4x1024x1408, .bf16⟩
  | .hbm, ⟨6, _⟩ => ⟨S2x1408x1024, .bf16⟩
  | .hbm, ⟨7, _⟩ => ⟨S4160x1024, .f32⟩
  | .hbm, ⟨8, _⟩ => ⟨S4160x2816, .bf16⟩
  | .hbm, ⟨9, _⟩ => ⟨S4160x2816, .bf16⟩
  | .hbm, ⟨10, _⟩ => ⟨S4160x2816, .bf16⟩
  | .hbm, ⟨11, _⟩ => ⟨S4160x1024, .bf16⟩
  | .local _ .vmem, ⟨0, _⟩ => ⟨S416x1024, .f32⟩
  | .local _ .vmem, ⟨1, _⟩ => ⟨S416x1024, .f32⟩
  | .local _ .vmem, ⟨2, _⟩ => ⟨S1x1024, .f32⟩
  | .local _ .vmem, ⟨3, _⟩ => ⟨S4x1024x1408, .bf16⟩
  | .local _ .vmem, ⟨4, _⟩ => ⟨S2x1408x1024, .bf16⟩
  | .local _ .vmem, ⟨5, _⟩ => ⟨S416x1024, .f32⟩
  | .local _ .vmem, ⟨6, _⟩ => ⟨S416x1024, .f32⟩
  | .local _ .vmem, ⟨7, _⟩ => ⟨S416x2816, .bf16⟩
  | .local _ .vmem, ⟨8, _⟩ => ⟨S416x2816, .bf16⟩
  | .local _ .vmem, ⟨9, _⟩ => ⟨S416x2816, .bf16⟩
  | .local _ .vmem, ⟨10, _⟩ => ⟨S416x2816, .bf16⟩
  | .local _ .vmem, ⟨11, _⟩ => ⟨S416x2816, .bf16⟩
  | .local _ .vmem, ⟨12, _⟩ => ⟨S416x2816, .bf16⟩
  | .local _ .vmem, ⟨13, _⟩ => ⟨S416x1024, .bf16⟩
  | .local _ .vmem, ⟨14, _⟩ => ⟨S416x1024, .bf16⟩
  | _, _ => ⟨S4160x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_v3_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S416x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x1408 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x1408x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S416x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S416x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S416x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S416x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S416x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FfnFwdReferenceIdeal.lean ====
abbrev S4160x1024 : Shape := ⟨2, ![4160, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S4160 : Shape := ⟨1, ![4160]⟩
abbrev S4160x1 : Shape := ⟨2, ![4160, 1]⟩
abbrev S4160x5632 : Shape := ⟨2, ![4160, 5632]⟩
abbrev S4160x2816 : Shape := ⟨2, ![4160, 2816]⟩

abbrev nBuf : Space → Nat
  | .hbm => 43
  | .vmem => 0
  | .smem => 0
  | _ => 0

abbrev bufTy : (tb : Table) → Fin (tcTables nBuf tb) → BufTy
  | .hbm, ⟨0, _⟩ => ⟨S4160x1024, .f32⟩
  | .hbm, ⟨1, _⟩ => ⟨S1x1024, .f32⟩
  | .hbm, ⟨2, _⟩ => ⟨S1024x5632, .bf16⟩
  | .hbm, ⟨3, _⟩ => ⟨S2816x1024, .bf16⟩
  | .hbm, ⟨4, _⟩ => ⟨S4160x1024, .f32⟩
  | .hbm, ⟨5, _⟩ => ⟨S_, .f32⟩
  | .hbm, ⟨6, _⟩ => ⟨S4160, .f32⟩
  | .hbm, ⟨7, _⟩ => ⟨S4160x1, .f32⟩
  | .hbm, ⟨8, _⟩ => ⟨S_, .f32⟩
  | .hbm, ⟨9, _⟩ => ⟨S4160x1, .f32⟩
  | .hbm, ⟨10, _⟩ => ⟨S4160x1, .f32⟩
  | .hbm, ⟨11, _⟩ => ⟨S_, .f32⟩
  | .hbm, ⟨12, _⟩ => ⟨S4160x1, .f32⟩
  | .hbm, ⟨13, _⟩ => ⟨S4160x1, .f32⟩
  | .hbm, ⟨14, _⟩ => ⟨S4160x1, .f32⟩
  | .hbm, ⟨15, _⟩ => ⟨S4160x1024, .f32⟩
  | .hbm, ⟨16, _⟩ => ⟨S4160x1024, .f32⟩
  | .hbm, ⟨17, _⟩ => ⟨S4160x1024, .f32⟩
  | .hbm, ⟨18, _⟩ => ⟨S4160x1024, .f32⟩
  | .hbm, ⟨19, _⟩ => ⟨S1024x5632, .f32⟩
  | .hbm, ⟨20, _⟩ => ⟨S4160x5632, .f32⟩
  | .hbm, ⟨21, _⟩ => ⟨S4160x2816, .f32⟩
  | .hbm, ⟨22, _⟩ => ⟨S4160x2816, .f32⟩
  | .hbm, ⟨23, _⟩ => ⟨S4160x2816, .f32⟩
  | .hbm, ⟨24, _⟩ => ⟨S4160x2816, .f32⟩
  | .hbm, ⟨25, _⟩ => ⟨S_, .f32⟩
  | .hbm, ⟨26, _⟩ => ⟨S4160x2816, .f32⟩
  | .hbm, ⟨27, _⟩ => ⟨S4160x2816, .f32⟩
  | .hbm, ⟨28, _⟩ => ⟨S_, .f32⟩
  | .hbm, ⟨29, _⟩ => ⟨S4160x2816, .f32⟩
  | .hbm, ⟨30, _⟩ => ⟨S4160x2816, .f32⟩
  | .hbm, ⟨31, _⟩ => ⟨S4160x2816, .f32⟩
  | .hbm, ⟨32, _⟩ => ⟨S4160x2816, .f32⟩
  | .hbm, ⟨33, _⟩ => ⟨S2816x1024, .f32⟩
  | .hbm, ⟨34, _⟩ => ⟨S4160x1024, .f32⟩
  | .hbm, ⟨35, _⟩ => ⟨S_, .f32⟩
  | .hbm, ⟨36, _⟩ => ⟨S4160x1024, .f32⟩
  | .hbm, ⟨37, _⟩ => ⟨S4160x1024, .f32⟩
  | .hbm, ⟨38, _⟩ => ⟨S4160x1024, .f32⟩
  | .hbm, ⟨39, _⟩ => ⟨S4160x2816, .bf16⟩
  | .hbm, ⟨40, _⟩ => ⟨S4160x2816, .bf16⟩
  | .hbm, ⟨41, _⟩ => ⟨S4160x2816, .bf16⟩
  | .hbm, ⟨42, _⟩ => ⟨S4160x1024, .bf16⟩
  | _, _ => ⟨S4160x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_2 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩

abbrev nD : Nat := 1
abbrev τ : Topo := Topo.v7x

variable {F : FTy → Type} [FloatOps F]
-- ==== LossKernel.lean ====
abbrev S4160x1024 : Shape := ⟨2, ![4160, 1024]⟩
abbrev S1x1024 : Shape := ⟨2, ![1, 1024]⟩
abbrev S1024x5632 : Shape := ⟨2, ![1024, 5632]⟩
abbrev S2816x1024 : Shape := ⟨2, ![2816, 1024]⟩
abbrev S1024x4x1408 : Shape := ⟨3, ![1024, 4, 1408]⟩
abbrev S4x1024x1408 : Shape := ⟨3, ![4, 1024, 1408]⟩
abbrev S2x1408x1024 : Shape := ⟨3, ![2, 1408, 1024]⟩
abbrev S8x128 : Shape := ⟨2, ![8, 128]⟩
abbrev S4160x2816 : Shape := ⟨2, ![4160, 2816]⟩
abbrev S416x1024 : Shape := ⟨2, ![416, 1024]⟩
abbrev S416x2816 : Shape := ⟨2, ![416, 2816]⟩
abbrev S416 : Shape := ⟨1, ![416]⟩
abbrev S416x1 : Shape := ⟨2, ![416, 1]⟩
abbrev S1x1024x256 : Shape := ⟨3, ![1, 1024, 256]⟩
abbrev S1024x256 : Shape := ⟨2, ![1024, 256]⟩
abbrev S416x256 : Shape := ⟨2, ![416, 256]⟩
abbrev S1x1024x128 : Shape := ⟨3, ![1, 1024, 128]⟩
abbrev S1024x128 : Shape := ⟨2, ![1024, 128]⟩
abbrev S416x128 : Shape := ⟨2, ![416, 128]⟩
abbrev S416x1408 : Shape := ⟨2, ![416, 1408]⟩
abbrev S1x1408x1024 : Shape := ⟨3, ![1, 1408, 1024]⟩
abbrev S1408x1024 : Shape := ⟨2, ![1408, 1024]⟩
abbrev S1x416x1024 : Shape := ⟨3, ![1, 416, 1024]⟩
abbrev S1 : Shape := ⟨1, ![1]⟩
abbrev S1x1x1 : Shape := ⟨3, ![1, 1, 1]⟩
abbrev S1024 : Shape := ⟨1, ![1024]⟩

abbrev nBuf : Space → Nat
  | .hbm => 16
  | .vmem => 20
  | .smem => 0
  | _ => 0

abbrev bufTy : (tb : Table) → Fin (tcTables nBuf tb) → BufTy
  | .hbm, ⟨0, _⟩ => ⟨S4160x1024, .f32⟩
  | .hbm, ⟨1, _⟩ => ⟨S1x1024, .f32⟩
  | .hbm, ⟨2, _⟩ => ⟨S1024x5632, .bf16⟩
  | .hbm, ⟨3, _⟩ => ⟨S2816x1024, .bf16⟩
  | .hbm, ⟨4, _⟩ => ⟨S1x1024, .f32⟩
  | .hbm, ⟨5, _⟩ => ⟨S4160x1024, .f32⟩
  | .hbm, ⟨6, _⟩ => ⟨S1024x4x1408, .bf16⟩
  | .hbm, ⟨7, _⟩ => ⟨S4x1024x1408, .bf16⟩
  | .hbm, ⟨8, _⟩ => ⟨S2x1408x1024, .bf16⟩
  | .hbm, ⟨9, _⟩ => ⟨S4160x1024, .f32⟩
  | .hbm, ⟨10, _⟩ => ⟨S8x128, .f32⟩
  | .hbm, ⟨11, _⟩ => ⟨S1x1024, .f32⟩
  | .hbm, ⟨12, _⟩ => ⟨S4160x2816, .bf16⟩
  | .hbm, ⟨13, _⟩ => ⟨S4160x2816, .bf16⟩
  | .hbm, ⟨14, _⟩ => ⟨S4160x2816, .bf16⟩
  | .hbm, ⟨15, _⟩ => ⟨S4160x1024, .bf16⟩
  | .local _ .vmem, ⟨0, _⟩ => ⟨S416x1024, .f32⟩
  | .local _ .vmem, ⟨1, _⟩ => ⟨S416x1024, .f32⟩
  | .local _ .vmem, ⟨2, _⟩ => ⟨S1x1024, .f32⟩
  | .local _ .vmem, ⟨3, _⟩ => ⟨S4x1024x1408, .bf16⟩
  | .local _ .vmem, ⟨4, _⟩ => ⟨S2x1408x1024, .bf16⟩
  | .local _ .vmem, ⟨5, _⟩ => ⟨S1x1024, .f32⟩
  | .local _ .vmem, ⟨6, _⟩ => ⟨S416x1024, .f32⟩
  | .local _ .vmem, ⟨7, _⟩ => ⟨S416x1024, .f32⟩
  | .local _ .vmem, ⟨8, _⟩ => ⟨S416x1024, .f32⟩
  | .local _ .vmem, ⟨9, _⟩ => ⟨S416x1024, .f32⟩
  | .local _ .vmem, ⟨10, _⟩ => ⟨S8x128, .f32⟩
  | .local _ .vmem, ⟨11, _⟩ => ⟨S1x1024, .f32⟩
  | .local _ .vmem, ⟨12, _⟩ => ⟨S416x2816, .bf16⟩
  | .local _ .vmem, ⟨13, _⟩ => ⟨S416x2816, .bf16⟩
  | .local _ .vmem, ⟨14, _⟩ => ⟨S416x2816, .bf16⟩
  | .local _ .vmem, ⟨15, _⟩ => ⟨S416x2816, .bf16⟩
  | .local _ .vmem, ⟨16, _⟩ => ⟨S416x2816, .bf16⟩
  | .local _ .vmem, ⟨17, _⟩ => ⟨S416x2816, .bf16⟩
  | .local _ .vmem, ⟨18, _⟩ => ⟨S416x1024, .bf16⟩
  | .local _ .vmem, ⟨19, _⟩ => ⟨S416x1024, .bf16⟩
  | _, _ => ⟨S4160x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev main_v3_5 : Ref sig .tc := ⟨.hbm, 14, rfl⟩
abbrev main_v3_6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S416x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x1408 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x1408x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S416x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S416x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S416x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S416x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S416x2816 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S416x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== LossReferenceIdeal.lean ====
abbrev S4160x1024 : Shape := ⟨2, ![4160, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S4160 : Shape := ⟨1, ![4160]⟩
abbrev S4160x1 : Shape := ⟨2, ![4160, 1]⟩
abbrev S4160x5632 : Shape := ⟨2, ![4160, 5632]⟩
abbrev S4160x2816 : Shape := ⟨2, ![4160, 2816]⟩
abbrev S4096x1024 : Shape := ⟨2, ![4096, 1024]⟩
abbrev S4096 : Shape := ⟨1, ![4096]⟩
abbrev S1024 : Shape := ⟨1, ![1024]⟩
abbrev S8x128 : Shape := ⟨2, ![8, 128]⟩

abbrev nBuf : Space → Nat
  | .hbm => 115
  | .vmem => 0
  | .smem => 0
  | _ => 0

abbrev bufTy : (tb : Table) → Fin (tcTables nBuf tb) → BufTy
  | .hbm, ⟨0, _⟩ => ⟨S4160x1024, .f32⟩
  | .hbm, ⟨1, _⟩ => ⟨S1x1024, .f32⟩
  | .hbm, ⟨2, _⟩ => ⟨S1024x5632, .bf16⟩
  | .hbm, ⟨3, _⟩ => ⟨S2816x1024, .bf16⟩
  | .hbm, ⟨4, _⟩ => ⟨S1x1024, .f32⟩
  | .hbm, ⟨5, _⟩ => ⟨S4160x1024, .f32⟩
  | .hbm, ⟨6, _⟩ => ⟨S4160x1024, .f32⟩
  | .hbm, ⟨7, _⟩ => ⟨S_, .f32⟩
  | .hbm, ⟨8, _⟩ => ⟨S4160, .f32⟩
  | .hbm, ⟨9, _⟩ => ⟨S4160x1, .f32⟩
  | .hbm, ⟨10, _⟩ => ⟨S_, .f32⟩
  | .hbm, ⟨11, _⟩ => ⟨S4160x1, .f32⟩
  | .hbm, ⟨12, _⟩ => ⟨S4160x1, .f32⟩
  | .hbm, ⟨13, _⟩ => ⟨S_, .f32⟩
  | .hbm, ⟨14, _⟩ => ⟨S4160x1, .f32⟩
  | .hbm, ⟨15, _⟩ => ⟨S4160x1, .f32⟩
  | .hbm, ⟨16, _⟩ => ⟨S4160x1, .f32⟩
  | .hbm, ⟨17, _⟩ => ⟨S4160x1024, .f32⟩
  | .hbm, ⟨18, _⟩ => ⟨S4160x1024, .f32⟩
  | .hbm, ⟨19, _⟩ => ⟨S4160x1024, .f32⟩
  | .hbm, ⟨20, _⟩ => ⟨S4160x1024, .f32⟩
  | .hbm, ⟨21, _⟩ => ⟨S1024x5632, .f32⟩
  | .hbm, ⟨22, _⟩ => ⟨S4160x5632, .f32⟩
  | .hbm, ⟨23, _⟩ => ⟨S4160x2816, .f32⟩
  | .hbm, ⟨24, _⟩ => ⟨S4160x2816, .f32⟩
  | .hbm, ⟨25, _⟩ => ⟨S4160x2816, .f32⟩
  | .hbm, ⟨26, _⟩ => ⟨S4160x2816, .f32⟩
  | .hbm, ⟨27, _⟩ => ⟨S_, .f32⟩
  | .hbm, ⟨28, _⟩ => ⟨S4160x2816, .f32⟩
  | .hbm, ⟨29, _⟩ => ⟨S4160x2816, .f32⟩
  | .hbm, ⟨30, _⟩ => ⟨S_, .f32⟩
  | .hbm, ⟨31, _⟩ => ⟨S4160x2816, .f32⟩
  | .hbm, ⟨32, _⟩ => ⟨S4160x2816, .f32⟩
  | .hbm, ⟨33, _⟩ => ⟨S4160x2816, .f32⟩
  | .hbm, ⟨34, _⟩ => ⟨S4160x2816, .f32⟩
  | .hbm, ⟨35, _⟩ => ⟨S2816x1024, .f32⟩
  | .hbm, ⟨36, _⟩ => ⟨S4160x1024, .f32⟩
  | .hbm, ⟨37, _⟩ => ⟨S_, .f32⟩
  | .hbm, ⟨38, _⟩ => ⟨S4160x1024, .f32⟩
  | .hbm, ⟨39, _⟩ => ⟨S4160x1024, .f32⟩
  | .hbm, ⟨40, _⟩ => ⟨S4160x1024, .f32⟩
  | .hbm, ⟨41, _⟩ => ⟨S4160x2816, .bf16⟩
  | .hbm, ⟨42, _⟩ => ⟨S4160x2816, .bf16⟩
  | .hbm, ⟨43, _⟩ => ⟨S4160x2816, .bf16⟩
  | .hbm, ⟨44, _⟩ => ⟨S4160x1024, .bf16⟩
  | .hbm, ⟨45, _⟩ => ⟨S4160x1024, .f32⟩
  | .hbm, ⟨46, _⟩ => ⟨S_, .f32⟩
  | .hbm, ⟨47, _⟩ => ⟨S4160, .f32⟩
  | .hbm, ⟨48, _⟩ => ⟨S4160x1, .f32⟩
  | .hbm, ⟨49, _⟩ => ⟨S_, .f32⟩
  | .hbm, ⟨50, _⟩ => ⟨S4160x1, .f32⟩
  | .hbm, ⟨51, _⟩ => ⟨S4160x1, .f32⟩
  | .hbm, ⟨52, _⟩ => ⟨S_, .f32⟩
  | .hbm, ⟨53, _⟩ => ⟨S4160x1, .f32⟩
  | .hbm, ⟨54, _⟩ => ⟨S4160x1, .f32⟩
  | .hbm, ⟨55, _⟩ => ⟨S4160x1, .f32⟩
  | .hbm, ⟨56, _⟩ => ⟨S4160x1, .f32⟩
  | .hbm, ⟨57, _⟩ => ⟨S_, .f32⟩
  | .hbm, ⟨58, _⟩ => ⟨S4160x1, .f32⟩
  | .hbm, ⟨59, _⟩ => ⟨S4160x1, .f32⟩
  | .hbm, ⟨60, _⟩ => ⟨S4160x1024, .f32⟩
  | .hbm, ⟨61, _⟩ => ⟨S4160x1024, .f32⟩
  | .hbm, ⟨62, _⟩ => ⟨S4160x1024, .f32⟩
  | .hbm, ⟨63, _⟩ => ⟨S4160x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S_, .f32⟩
  | .hbm, ⟨69, _⟩ => ⟨S4096x1024, .f32⟩
  | .hbm, ⟨70, _⟩ => ⟨S4096x1024, .f32⟩
  | .hbm, ⟨71, _⟩ => ⟨S_, .f32⟩
  | .hbm, ⟨72, _⟩ => ⟨S4096, .f32⟩
  | .hbm, ⟨73, _⟩ => ⟨S_, .f32⟩
  | .hbm, ⟨74, _⟩ => ⟨S4096, .f32⟩
  | .hbm, ⟨75, _⟩ => ⟨S4096, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S4096, .f32⟩
  | .hbm, ⟨84, _⟩ => ⟨S_, .f32⟩
  | .hbm, ⟨85, _⟩ => ⟨S4096, .f32⟩
  | .hbm, ⟨86, _⟩ => ⟨S4096, .f32⟩
  | .hbm, ⟨87, _⟩ => ⟨S4096x1024, .f32⟩
  | .hbm, ⟨88, _⟩ => ⟨S4096x1024, .f32⟩
  | .hbm, ⟨89, _⟩ => ⟨S_, .f32⟩
  | .hbm, ⟨90, _⟩ => ⟨S4160x1024, .f32⟩
  | .hbm, ⟨91, _⟩ => ⟨S4160x1024, .f32⟩
  | .hbm, ⟨92, _⟩ => ⟨S_, .f32⟩
  | .hbm, ⟨93, _⟩ => ⟨S1024, .f32⟩
  | .hbm, ⟨94, _⟩ => ⟨S1x1024, .f32⟩
  | .hbm, ⟨95, _⟩ => ⟨S4160x1024, .f32⟩
  | .hbm, ⟨96, _⟩ => ⟨S4160x1024, .f32⟩
  | .hbm, ⟨97, _⟩ => ⟨S4160x1024, .f32⟩
  | .hbm, ⟨98, _⟩ => ⟨S_, .f32⟩
  | .hbm, ⟨99, _⟩ => ⟨S4160, .f32⟩
  | .hbm, ⟨100, _⟩ => ⟨S4160x1, .f32⟩
  | .hbm, ⟨101, _⟩ => ⟨S4160x1024, .f32⟩
  | .hbm, ⟨102, _⟩ => ⟨S4160x1024, .f32⟩
  | .hbm, ⟨103, _⟩ => ⟨S4160x1, .f32⟩
  | .hbm, ⟨104, _⟩ => ⟨S_, .f32⟩
  | .hbm, ⟨105, _⟩ => ⟨S4160x1, .f32⟩
  | .hbm, ⟨106, _⟩ => ⟨S4160x1, .f32⟩
  | .hbm, ⟨107, _⟩ => ⟨S_, .f32⟩
  | .hbm, ⟨108, _⟩ => ⟨S4160, .f32⟩
  | .hbm, ⟨109, _⟩ => ⟨S4160x1024, .f32⟩
  | .hbm, ⟨110, _⟩ => ⟨S4160x1024, .f32⟩
  | .hbm, ⟨111, _⟩ => ⟨S4160x1024, .f32⟩
  | .hbm, ⟨112, _⟩ => ⟨S4160x1024, .f32⟩
  | .hbm, ⟨113, _⟩ => ⟨S4160x1024, .f32⟩
  | .hbm, ⟨114, _⟩ => ⟨S8x128, .f32⟩
  | _, _ => ⟨S4160x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_2 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_3 : Ref sig .tc := ⟨.hbm, 46, rfl⟩
abbrev main_v28 : Ref sig .tc := ⟨.hbm, 47, rfl⟩
abbrev main_v29 : Ref sig .tc := ⟨.hbm, 48, rfl⟩
abbrev main_cst_4 : Ref sig .tc := ⟨.hbm, 49, rfl⟩
abbrev main_v30 : Ref sig .tc := ⟨.hbm, 50, rfl⟩
abbrev main_v31 : Ref sig .tc := ⟨.hbm, 51, rfl⟩
abbrev main_cst_5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_6 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_7 : Ref sig .tc := ⟨.hbm, 68, rfl⟩
abbrev main_v46 : Ref sig .tc := ⟨.hbm, 69, rfl⟩
abbrev main_v47 : Ref sig .tc := ⟨.hbm, 70, rfl⟩
abbrev main_cst_8 : Ref sig .tc := ⟨.hbm, 71, rfl⟩
abbrev main_v48 : Ref sig .tc := ⟨.hbm, 72, rfl⟩
abbrev main_cst_9 : Ref sig .tc := ⟨.hbm, 73, rfl⟩
abbrev main_v49 : Ref sig .tc := ⟨.hbm, 74, rfl⟩
abbrev main_v50 : Ref sig .tc := ⟨.hbm, 75, rfl⟩
abbrev main_cst_10 : Ref sig .tc := ⟨.hbm, 76, rfl⟩
abbrev main_v51 : Ref sig .tc := ⟨.hbm, 77, rfl⟩
abbrev main_cst_11 : Ref sig .tc := ⟨.hbm, 78, rfl⟩
abbrev main_v52 : Ref sig .tc := ⟨.hbm, 79, rfl⟩
abbrev main_cst_12 : Ref sig .tc := ⟨.hbm, 80, rfl⟩
abbrev main_cst_13 : Ref sig .tc := ⟨.hbm, 81, rfl⟩
abbrev main_v53 : Ref sig .tc := ⟨.hbm, 82, rfl⟩
abbrev main_v54 : Ref sig .tc := ⟨.hbm, 83, rfl⟩
abbrev main_cst_14 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_15 : Ref sig .tc := ⟨.hbm, 89, rfl⟩
abbrev main_v59 : Ref sig .tc := ⟨.hbm, 90, rfl⟩
abbrev main_v60 : Ref sig .tc := ⟨.hbm, 91, rfl⟩
abbrev main_cst_16 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_cst_17 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_cst_18 : Ref sig .tc := ⟨.hbm, 104, rfl⟩
abbrev main_v71 : Ref sig .tc := ⟨.hbm, 105, rfl⟩
abbrev main_v72 : Ref sig .tc := ⟨.hbm, 106, rfl⟩
abbrev main_cst_19 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩

abbrev nD : Nat := 1
abbrev τ : Topo := Topo.v7x

variable {F : FTy → Type} [FloatOps F]
-- ==== FirstKernel.lean ====
abbrev S4160x1024 : Shape := ⟨2, ![4160, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S4160 : Shape := ⟨1, ![4160]⟩
abbrev S4160x1 : Shape := ⟨2, ![4160, 1]⟩
abbrev S4160x5632 : Shape := ⟨2, ![4160, 5632]⟩
abbrev S4160x2816 : Shape := ⟨2, ![4160, 2816]⟩
abbrev S1024x4x1408 : Shape := ⟨3, ![1024, 4, 1408]⟩
abbrev S4x1024x1408 : Shape := ⟨3, ![4, 1024, 1408]⟩
abbrev S2x1408x1024 : Shape := ⟨3, ![2, 1408, 1024]⟩
abbrev S4096x1024 : Shape := ⟨2, ![4096, 1024]⟩
abbrev S416x1024 : Shape := ⟨2, ![416, 1024]⟩
abbrev S416x2816 : Shape := ⟨2, ![416, 2816]⟩
abbrev S1 : Shape := ⟨1, ![1]⟩
abbrev S1x256x1024 : Shape := ⟨3, ![1, 256, 1024]⟩
abbrev S256x1024 : Shape := ⟨2, ![256, 1024]⟩
abbrev S416x256 : Shape := ⟨2, ![416, 256]⟩
abbrev S1x128x1024 : Shape := ⟨3, ![1, 128, 1024]⟩
abbrev S128x1024 : Shape := ⟨2, ![128, 1024]⟩
abbrev S416x128 : Shape := ⟨2, ![416, 128]⟩
abbrev S416x1408 : Shape := ⟨2, ![416, 1408]⟩
abbrev S1x1024x1408 : Shape := ⟨3, ![1, 1024, 1408]⟩
abbrev S1024x1408 : Shape := ⟨2, ![1024, 1408]⟩
abbrev S416 : Shape := ⟨1, ![416]⟩
abbrev S416x1 : Shape := ⟨2, ![416, 1]⟩
abbrev S1024 : Shape := ⟨1, ![1024]⟩
abbrev S400x1024 : Shape := ⟨2, ![400, 1024]⟩
abbrev S368x1024 : Shape := ⟨2, ![368, 1024]⟩

abbrev nBuf : Space → Nat
  | .hbm => 35
  | .vmem => 21
  | .smem => 0
  | _ => 0

abbrev bufTy : (tb : Table) → Fin (tcTables nBuf tb) → BufTy
  | .hbm, ⟨0, _⟩ => ⟨S4160x1024, .f32⟩
  | .hbm, ⟨1, _⟩ => ⟨S4160x1024, .f32⟩
  | .hbm, ⟨2, _⟩ => ⟨S1x1024, .f32⟩
  | .hbm, ⟨3, _⟩ => ⟨S1024x5632, .bf16⟩
  | .hbm, ⟨4, _⟩ => ⟨S2816x1024, .bf16⟩
  | .hbm, ⟨5, _⟩ => ⟨S1024x5632, .f32⟩
  | .hbm, ⟨6, _⟩ => ⟨S4160x1024, .f32⟩
  | .hbm, ⟨7, _⟩ => ⟨S_, .f32⟩
  | .hbm, ⟨8, _⟩ => ⟨S4160, .f32⟩
  | .hbm, ⟨9, _⟩ => ⟨S4160x1, .f32⟩
  | .hbm, ⟨10, _⟩ => ⟨S_, .f32⟩
  | .hbm, ⟨11, _⟩ => ⟨S4160x1, .f32⟩
  | .hbm, ⟨12, _⟩ => ⟨S4160x1, .f32⟩
  | .hbm, ⟨13, _⟩ => ⟨S_, .f32⟩
  | .hbm, ⟨14, _⟩ => ⟨S4160x1, .f32⟩
  | .hbm, ⟨15, _⟩ => ⟨S4160x1, .f32⟩
  | .hbm, ⟨16, _⟩ => ⟨S4160x1, .f32⟩
  | .hbm, ⟨17, _⟩ => ⟨S4160x1024, .f32⟩
  | .hbm, ⟨18, _⟩ => ⟨S4160x1024, .f32⟩
  | .hbm, ⟨19, _⟩ => ⟨S4160x1024, .f32⟩
  | .hbm, ⟨20, _⟩ => ⟨S4160x1024, .f32⟩
  | .hbm, ⟨21, _⟩ => ⟨S4160x5632, .f32⟩
  | .hbm, ⟨22, _⟩ => ⟨S4160x2816, .f32⟩
  | .hbm, ⟨23, _⟩ => ⟨S4160x2816, .f32⟩
  | .hbm, ⟨24, _⟩ => ⟨S1024x4x1408, .bf16⟩
  | .hbm, ⟨25, _⟩ => ⟨S4x1024x1408, .bf16⟩
  | .hbm, ⟨26, _⟩ => ⟨S4160x2816, .bf16⟩
  | .hbm, ⟨27, _⟩ => ⟨S4160x2816, .bf16⟩
  | .hbm, ⟨28, _⟩ => ⟨S2x1408x1024, .bf16⟩
  | .hbm, ⟨29, _⟩ => ⟨S4160x1024, .f32⟩
  | .hbm, ⟨30, _⟩ => ⟨S4160x2816, .bf16⟩
  | .hbm, ⟨31, _⟩ => ⟨S4160x2816, .bf16⟩
  | .hbm, ⟨32, _⟩ => ⟨S4160x1024, .bf16⟩
  | .hbm, ⟨33, _⟩ => ⟨S1x1024, .f32⟩
  | .hbm, ⟨34, _⟩ => ⟨S4096x1024, .f32⟩
  | .local _ .vmem, ⟨0, _⟩ => ⟨S416x1024, .f32⟩
  | .local _ .vmem, ⟨1, _⟩ => ⟨S416x1024, .f32⟩
  | .local _ .vmem, ⟨2, _⟩ => ⟨S416x1024, .f32⟩
  | .local _ .vmem, ⟨3, _⟩ => ⟨S416x1024, .f32⟩
  | .local _ .vmem, ⟨4, _⟩ => ⟨S1x1024, .f32⟩
  | .local _ .vmem, ⟨5, _⟩ => ⟨S416x2816, .bf16⟩
  | .local _ .vmem, ⟨6, _⟩ => ⟨S416x2816, .bf16⟩
  | .local _ .vmem, ⟨7, _⟩ => ⟨S416x2816, .bf16⟩
  | .local _ .vmem, ⟨8, _⟩ => ⟨S416x2816, .bf16⟩
  | .local _ .vmem, ⟨9, _⟩ => ⟨S4x1024x1408, .bf16⟩
  | .local _ .vmem, ⟨10, _⟩ => ⟨S2x1408x1024, .bf16⟩
  | .local _ .vmem, ⟨11, _⟩ => ⟨S416x1024, .f32⟩
  | .local _ .vmem, ⟨12, _⟩ => ⟨S416x1024, .f32⟩
  | .local _ .vmem, ⟨13, _⟩ => ⟨S416x2816, .bf16⟩
  | .local _ .vmem, ⟨14, _⟩ => ⟨S416x2816, .bf16⟩
  | .local _ .vmem, ⟨15, _⟩ => ⟨S416x2816, .bf16⟩
  | .local _ .vmem, ⟨16, _⟩ => ⟨S416x2816, .bf16⟩
  | .local _ .vmem, ⟨17, _⟩ => ⟨S416x1024, .bf16⟩
  | .local _ .vmem, ⟨18, _⟩ => ⟨S416x1024, .bf16⟩
  | .local _ .vmem, ⟨19, _⟩ => ⟨S1x1024, .f32⟩
  | .local _ .vmem, ⟨20, _⟩ => ⟨S416x1024, .f32⟩
  | _, _ => ⟨S4160x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21_0 : Ref sig .tc := ⟨.hbm, 29, rfl⟩
abbrev main_v21_1 : Ref sig .tc := ⟨.hbm, 30, rfl⟩
abbrev main_v21_2 : Ref sig .tc := ⟨.hbm, 31, rfl⟩
abbrev main_v21_3 : Ref sig .tc := ⟨.hbm, 32, rfl⟩
abbrev main_v21_4 : Ref sig .tc := ⟨.hbm, 33, rfl⟩
abbrev main_v21_5 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19

abbrev nD : Nat := 1
abbrev τ : Topo := Topo.v7x

variable {F : FTy → Type} [FloatOps F]

abbrev grid0 : Pipeline.Grid := ⟨1, ![10], ![false]⟩

def k0_cond2 (i : grid0.Coords) : BitVec 1 :=
  let arg0 : BitVec 32 := BitVec.ofNat 32 (i 0).val
  let c0_i32_236 : BitVec 32 := 0#32
  let v427 : BitVec 1 := Scalar.cmpi .eq arg0 c0_i32_236
  let v428 : BitVec 32 := Scalar.extui v427
  let c0_i32_237 : BitVec 32 := 0#32
  let v429 : BitVec 1 := Scalar.cmpi .ne v428 c0_i32_237
  v429

def k0_mult1 : BitVec 32 :=
  let c0_i32_242 : BitVec 32 := 0#32
  c0_i32_242
def k0_cond3 (i : grid0.Coords) : BitVec 1 :=
  let arg0 : BitVec 32 := BitVec.ofNat 32 (i 0).val
  let c0_i32_238 : BitVec 32 := 0#32
  let v430 : BitVec 1 := Scalar.cmpi .sgt arg0 c0_i32_238
  let c9_i32 : BitVec 32 := 9#32
  let v431 : BitVec 1 := Scalar.cmpi .slt arg0 c9_i32
  let v432 : BitVec 1 := Scalar.andi v430 v431
  let v433 : BitVec 32 := Scalar.extui v432
  let c0_i32_239 : BitVec 32 := 0#32
  let v434 : BitVec 1 := Scalar.cmpi .ne v433 c0_i32_239
  v434

def k0_mult2 (i : grid0.Coords) : BitVec 32 :=
  let arg0 : BitVec 32 := BitVec.ofNat 32 (i 0).val
  let c416_i32 : BitVec 32 := 416#32
  let v438 : BitVec 32 := Scalar.muli arg0 c416_i32
  let c0_i32_242 : BitVec 32 := 0#32
  let v439 : BitVec 32 := Scalar.addi v438 c0_i32_242
  let c16_i32 : BitVec 32 := 16#32
  let v440 : BitVec 32 := Scalar.subi v439 c16_i32
  v440
def k0_off1 (i : grid0.Coords) : Fin 2 → Nat :=
  let arg0 : BitVec 32 := BitVec.ofNat 32 (i 0).val
  let c416_i32 : BitVec 32 := 416#32
  let v438 : BitVec 32 := Scalar.muli arg0 c416_i32
  let c0_i32_242 : BitVec 32 := 0#32
  let v439 : BitVec 32 := Scalar.addi v438 c0_i32_242
  let c16_i32 : BitVec 32 := 16#32
  let v440 : BitVec 32 := Scalar.subi v439 c16_i32
  let v441 : BitVec 32 := v440
  let c0_i32_244 : BitVec 32 := 0#32
  ![v441.toNat, 0]
def k0_cond4 (i : grid0.Coords) : BitVec 1 :=
  let arg0 : BitVec 32 := BitVec.ofNat 32 (i 0).val
  let c9_i32_240 : BitVec 32 := 9#32
  let v435 : BitVec 1 := Scalar.cmpi .eq arg0 c9_i32_240
  let v436 : BitVec 32 := Scalar.extui v435
  let c0_i32_241 : BitVec 32 := 0#32
  let v437 : BitVec 1 := Scalar.cmpi .ne v436 c0_i32_241
  v437

def k0_mult3 : BitVec 32 :=
  let c3728_i32 : BitVec 32 := 3728#32
  c3728_i32
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S416x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S416x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S416x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S416x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x1024x1408 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x1408x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S416x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S416x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S416x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S416x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Proof.Pieces.lean ====
module

public import proofs.«01_k».proof.Proof.Gen.KernelIdeal.Value

@[expose] public section

/-! What the kernel's body leaves in each output's block, as the named payload functions of the blocks it loads.
The body fills each output by whole-block stores (the gate gradients by two half-width ones), so the block is the
stored payload; the bias gradient's block is the payload on top of zero at the first point and on top of what it
held before at the others.  All of this holds in every float model. -/

set_option maxRecDepth 16384

noncomputable section

namespace Cert.Proof.Pieces

open Cert.KernelIdeal Cert.KernelIdeal.Gen Cert.KernelIdeal.Value Idealize.ShloMosaic Idealize.ShloMosaic.TcCoe
  Idealize.SL.Sem

variable {F : FTy → Type} [FloatOps F]

theorem hz : (![0, 0] : Fin 2 → Nat) = fun _ => 0 := funext fun a => by fin_cases a <;> rfl

section Body

variable (c : Dev nD) (i : grid0.Coords) (arg1 : Memref sig .tc .vmem S416x1024 .f32) (harg1 : arg1.IsWhole) (arg2 : Memref sig .tc .vmem S416x1024 .bf16) (harg2 : arg2.IsWhole) (arg3 : Memref sig .tc .vmem S416x1024 .bf16) (harg3 : arg3.IsWhole) (arg4 : Memref sig .tc .vmem S416x1024 .f32) (harg4 : arg4.IsWhole) (arg5 : Memref sig .tc .vmem S416x1024 .f32) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S416x1024 .f32) (harg10 : arg10.IsWhole) (arg11 : Memref sig .tc .vmem S416x1024 .f32) (harg11 : arg11.IsWhole) (arg12 : Memref sig .tc .vmem S416x2048 .bf16) (harg12 : arg12.IsWhole) (arg13 : Memref sig .tc .vmem S416x1024 .bf16) (harg13 : arg13.IsWhole) (arg14 : Memref sig .tc .vmem S416x1024 .bf16) (harg14 : arg14.IsWhole) (arg15 : Memref sig .tc .vmem S416x1024 .bf16) (harg15 : arg15.IsWhole) (arg16 : Memref sig .tc .vmem S416x1024 .bf16) (harg16 : arg16.IsWhole) (arg17 : Memref sig .tc .vmem S1x1024 .f32) (harg17 : arg17.IsWhole)  (x0 : Vec F S416x1024 .f32) (x1 : Vec F S416x1024 .bf16) (x2 : Vec F S416x1024 .bf16) (x3 : Vec F S416x1024 .f32) (x4 : Vec F S416x1024 .f32) (x5 : Vec F S1024x1024 .bf16) (x6 : Vec F S1024x1024 .bf16) (x7 : Vec F S1x1024 .f32) (x8 : Vec F S1024x1024 .bf16)

/-- Both halves of the gate gradients' block: the first gate's in the left 1024 columns, the second's in the right. -/
def gates (x0 : Vec F S416x1024 .f32) (x1 x2 : Vec F S416x1024 .bf16) (x3 x4 : Vec F S416x1024 .f32)
    (x5 x6 : Vec F S1024x1024 .bf16) (x7 : Vec F S1x1024 .f32) (x8 : Vec F S1024x1024 .bf16) : Vec F S416x2048 .bf16 :=
  View.canon (Val := Elt F)
    [⟨Rect.unit ![0, 1024] S416x1024.size (by decide), k0_pay13 (k0_pay5 x0 x8) (k0_pay7 x2 x6 x7) (k0_pay9 x4)⟩,
     ⟨Rect.unit ![0, 0] S416x1024.size (by decide), k0_pay12 (k0_pay5 x0 x8) (k0_pay6 x1 x5) (k0_pay8 x3)⟩]

/-- At the first point: the gradient of the recurrent branch `z`. -/
theorem outA_9 (hc0 : cond0_0 i) :
    out0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8
      = k0_pay1 (k0_pay16 (k0_pay5 x0 x8) (k0_pay8 x3)) x5 := by
  unfold out0_A_9
  rw [View.read_writes_junk_eq_canon]
  unfold kernelRun0_A
  dsimp only
  sl_unfold_words
  simp only [View.readAt_eq_ld, Memref.IsWhole.read_unread, View.ld_unit_zero (S := S416x1024) hz,
    View.ld_unit_zero (S := S1024x1024) hz, View.ld_unit_zero (S := S1x1024) hz, View.canon_cons_unit_zero (S := S416x1024) hz,
    View.readCov_unit_zero (S := S1x1024) _ hz]

/-- At the first point: the gradient of the convolution branch `s`. -/
theorem outA_10 (hc0 : cond0_0 i) :
    out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8
      = k0_pay2 (k0_pay17 (k0_pay5 x0 x8) (k0_pay9 x4)) x6 := by
  unfold out0_A_10
  rw [View.read_writes_junk_eq_canon]
  unfold kernelRun0_A
  dsimp only
  sl_unfold_words
  simp only [View.readAt_eq_ld, Memref.IsWhole.read_unread, View.ld_unit_zero (S := S416x1024) hz,
    View.ld_unit_zero (S := S1024x1024) hz, View.ld_unit_zero (S := S1x1024) hz, View.canon_cons_unit_zero (S := S416x1024) hz,
    View.readCov_unit_zero (S := S1x1024) _ hz]

/-- At the first point: the incoming gradient, rounded. -/
theorem outA_12 (hc0 : cond0_0 i) :
    out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8
      = k0_pay4 x0 := by
  unfold out0_A_12
  rw [View.read_writes_junk_eq_canon]
  unfold kernelRun0_A
  dsimp only
  sl_unfold_words
  simp only [View.readAt_eq_ld, Memref.IsWhole.read_unread, View.ld_unit_zero (S := S416x1024) hz,
    View.ld_unit_zero (S := S1024x1024) hz, View.ld_unit_zero (S := S1x1024) hz, View.canon_cons_unit_zero (S := S416x1024) hz,
    View.readCov_unit_zero (S := S1x1024) _ hz]

/-- At the first point: the merged branches. -/
theorem outA_13 (hc0 : cond0_0 i) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8
      = k0_pay11 (k0_pay6 x1 x5) (k0_pay7 x2 x6 x7) (k0_pay8 x3) (k0_pay9 x4) := by
  unfold out0_A_13
  rw [View.read_writes_junk_eq_canon]
  unfold kernelRun0_A
  dsimp only
  sl_unfold_words
  simp only [View.readAt_eq_ld, Memref.IsWhole.read_unread, View.ld_unit_zero (S := S416x1024) hz,
    View.ld_unit_zero (S := S1024x1024) hz, View.ld_unit_zero (S := S1x1024) hz, View.canon_cons_unit_zero (S := S416x1024) hz,
    View.readCov_unit_zero (S := S1x1024) _ hz]

/-- At the first point: the gradient of the first product. -/
theorem outA_14 (hc0 : cond0_0 i) :
    out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8
      = k0_pay16 (k0_pay5 x0 x8) (k0_pay8 x3) := by
  unfold out0_A_14
  rw [View.read_writes_junk_eq_canon]
  unfold kernelRun0_A
  dsimp only
  sl_unfold_words
  simp only [View.readAt_eq_ld, Memref.IsWhole.read_unread, View.ld_unit_zero (S := S416x1024) hz,
    View.ld_unit_zero (S := S1024x1024) hz, View.ld_unit_zero (S := S1x1024) hz, View.canon_cons_unit_zero (S := S416x1024) hz,
    View.readCov_unit_zero (S := S1x1024) _ hz]

/-- At the first point: the gradient of the second product. -/
theorem outA_15 (hc0 : cond0_0 i) :
    out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8
      = k0_pay17 (k0_pay5 x0 x8) (k0_pay9 x4) := by
  unfold out0_A_15
  rw [View.read_writes_junk_eq_canon]
  unfold kernelRun0_A
  dsimp only
  sl_unfold_words
  simp only [View.readAt_eq_ld, Memref.IsWhole.read_unread, View.ld_unit_zero (S := S416x1024) hz,
    View.ld_unit_zero (S := S1024x1024) hz, View.ld_unit_zero (S := S1x1024) hz, View.canon_cons_unit_zero (S := S416x1024) hz,
    View.readCov_unit_zero (S := S1x1024) _ hz]

/-- At the first point: the gate gradients. -/
theorem outA_11 (hc0 : cond0_0 i) :
    out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8
      = gates x0 x1 x2 x3 x4 x5 x6 x7 x8 := by
  unfold out0_A_11
  rw [View.read_writes_junk_eq_canon]
  unfold kernelRun0_A
  dsimp only
  sl_unfold_words
  simp only [View.readAt_eq_ld, Memref.IsWhole.read_unread, View.ld_unit_zero (S := S416x1024) hz,
    View.ld_unit_zero (S := S1024x1024) hz, View.ld_unit_zero (S := S1x1024) hz, View.canon_cons_unit_zero (S := S416x1024) hz,
    View.readCov_unit_zero (S := S1x1024) _ hz]
  rfl

/-- At the first point: the bias gradient. -/
theorem outA_16 (hc0 : cond0_0 i) :
    out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8
      = k0_pay15 (k0_pay5 x0 x8) (k0_pay9 x4) k0_pay3 := by
  unfold out0_A_16
  rw [View.read_writes_junk_eq_canon]
  unfold kernelRun0_A
  dsimp only
  sl_unfold_words
  simp only [View.readAt_eq_ld, Memref.IsWhole.read_unread, View.ld_unit_zero (S := S416x1024) hz,
    View.ld_unit_zero (S := S1024x1024) hz, View.ld_unit_zero (S := S1x1024) hz, View.canon_cons_unit_zero (S := S1x1024) hz,
    View.readCov_unit_zero (S := S1x1024) _ hz]

/-- At a later point: the gradient of the recurrent branch `z`. -/
theorem outB_9 (hc0 : ¬cond0_0 i) (xo16 : Vec F S1x1024 .f32) :
    out0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xo16
      = k0_pay1 (k0_pay16 (k0_pay5 x0 x8) (k0_pay8 x3)) x5 := by
  unfold out0_B_9
  rw [View.read_writes_junk_eq_canon]
  unfold kernelRun0_B
  dsimp only
  sl_unfold_words
  simp only [View.readAt_eq_ld, Memref.IsWhole.read_unread, View.ld_unit_zero (S := S416x1024) hz,
    View.ld_unit_zero (S := S1024x1024) hz, View.ld_unit_zero (S := S1x1024) hz, View.canon_cons_unit_zero (S := S416x1024) hz,
    View.readCov_unit_zero (S := S1x1024) _ hz]

/-- At a later point: the gradient of the convolution branch `s`. -/
theorem outB_10 (hc0 : ¬cond0_0 i) (xo16 : Vec F S1x1024 .f32) :
    out0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xo16
      = k0_pay2 (k0_pay17 (k0_pay5 x0 x8) (k0_pay9 x4)) x6 := by
  unfold out0_B_10
  rw [View.read_writes_junk_eq_canon]
  unfold kernelRun0_B
  dsimp only
  sl_unfold_words
  simp only [View.readAt_eq_ld, Memref.IsWhole.read_unread, View.ld_unit_zero (S := S416x1024) hz,
    View.ld_unit_zero (S := S1024x1024) hz, View.ld_unit_zero (S := S1x1024) hz, View.canon_cons_unit_zero (S := S416x1024) hz,
    View.readCov_unit_zero (S := S1x1024) _ hz]

/-- At a later point: the incoming gradient, rounded. -/
theorem outB_12 (hc0 : ¬cond0_0 i) (xo16 : Vec F S1x1024 .f32) :
    out0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xo16
      = k0_pay4 x0 := by
  unfold out0_B_12
  rw [View.read_writes_junk_eq_canon]
  unfold kernelRun0_B
  dsimp only
  sl_unfold_words
  simp only [View.readAt_eq_ld, Memref.IsWhole.read_unread, View.ld_unit_zero (S := S416x1024) hz,
    View.ld_unit_zero (S := S1024x1024) hz, View.ld_unit_zero (S := S1x1024) hz, View.canon_cons_unit_zero (S := S416x1024) hz,
    View.readCov_unit_zero (S := S1x1024) _ hz]

/-- At a later point: the merged branches. -/
theorem outB_13 (hc0 : ¬cond0_0 i) (xo16 : Vec F S1x1024 .f32) :
    out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xo16
      = k0_pay11 (k0_pay6 x1 x5) (k0_pay7 x2 x6 x7) (k0_pay8 x3) (k0_pay9 x4) := by
  unfold out0_B_13
  rw [View.read_writes_junk_eq_canon]
  unfold kernelRun0_B
  dsimp only
  sl_unfold_words
  simp only [View.readAt_eq_ld, Memref.IsWhole.read_unread, View.ld_unit_zero (S := S416x1024) hz,
    View.ld_unit_zero (S := S1024x1024) hz, View.ld_unit_zero (S := S1x1024) hz, View.canon_cons_unit_zero (S := S416x1024) hz,
    View.readCov_unit_zero (S := S1x1024) _ hz]

/-- At a later point: the gradient of the first product. -/
theorem outB_14 (hc0 : ¬cond0_0 i) (xo16 : Vec F S1x1024 .f32) :
    out0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xo16
      = k0_pay16 (k0_pay5 x0 x8) (k0_pay8 x3) := by
  unfold out0_B_14
  rw [View.read_writes_junk_eq_canon]
  unfold kernelRun0_B
  dsimp only
  sl_unfold_words
  simp only [View.readAt_eq_ld, Memref.IsWhole.read_unread, View.ld_unit_zero (S := S416x1024) hz,
    View.ld_unit_zero (S := S1024x1024) hz, View.ld_unit_zero (S := S1x1024) hz, View.canon_cons_unit_zero (S := S416x1024) hz,
    View.readCov_unit_zero (S := S1x1024) _ hz]

/-- At a later point: the gradient of the second product. -/
theorem outB_15 (hc0 : ¬cond0_0 i) (xo16 : Vec F S1x1024 .f32) :
    out0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xo16
      = k0_pay17 (k0_pay5 x0 x8) (k0_pay9 x4) := by
  unfold out0_B_15
  rw [View.read_writes_junk_eq_canon]
  unfold kernelRun0_B
  dsimp only
  sl_unfold_words
  simp only [View.readAt_eq_ld, Memref.IsWhole.read_unread, View.ld_unit_zero (S := S416x1024) hz,
    View.ld_unit_zero (S := S1024x1024) hz, View.ld_unit_zero (S := S1x1024) hz, View.canon_cons_unit_zero (S := S416x1024) hz,
    View.readCov_unit_zero (S := S1x1024) _ hz]

/-- At a later point: the gate gradients. -/
theorem outB_11 (hc0 : ¬cond0_0 i) (xo16 : Vec F S1x1024 .f32) :
    out0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xo16
      = gates x0 x1 x2 x3 x4 x5 x6 x7 x8 := by
  unfold out0_B_11
  rw [View.read_writes_junk_eq_canon]
  unfold kernelRun0_B
  dsimp only
  sl_unfold_words
  simp only [View.readAt_eq_ld, Memref.IsWhole.read_unread, View.ld_unit_zero (S := S416x1024) hz,
    View.ld_unit_zero (S := S1024x1024) hz, View.ld_unit_zero (S := S1x1024) hz, View.canon_cons_unit_zero (S := S416x1024) hz,
    View.readCov_unit_zero (S := S1x1024) _ hz]
  rfl

/-- At a later point: the bias gradient. -/
theorem outB_16 (hc0 : ¬cond0_0 i) (xo16 : Vec F S1x1024 .f32) :
    out0_B_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xo16
      = k0_pay15 (k0_pay5 x0 x8) (k0_pay9 x4) xo16 := by
  unfold out0_B_16
  rw [View.read_writes_junk_eq_canon]
  unfold kernelRun0_B
  dsimp only
  sl_unfold_words
  simp only [View.readAt_eq_ld, Memref.IsWhole.read_unread, View.ld_unit_zero (S := S416x1024) hz,
    View.ld_unit_zero (S := S1024x1024) hz, View.ld_unit_zero (S := S1x1024) hz, View.canon_cons_unit_zero (S := S1x1024) hz,
    View.readCov_unit_zero (S := S1x1024) _ hz]

end Body

variable (m : ∀ l, Buf (Elt F) l) (c : Dev nD) (t : Fin cfg0.N)

/-- What every point sends to output 9: the gradient of the recurrent branch `z`. -/
theorem flush9 : (dats m 0 c).flushed 9 t
    = (cfg0.win 9).cut (grid0.coords t) (k0_pay1 (k0_pay16 (k0_pay5 (iblk m c 0 t) (iblk m c 8 t)) (k0_pay8 (iblk m c 3 t))) (iblk m c 5 t)) := by
  by_cases h0 : t.val % 10 = 0
  · rw [flushed9_A m c t h0, outA_9]
  · rw [flushed9_B m c t h0, outB_9]

/-- What every point sends to output 10: the gradient of the convolution branch `s`. -/
theorem flush10 : (dats m 0 c).flushed 10 t
    = (cfg0.win 10).cut (grid0.coords t) (k0_pay2 (k0_pay17 (k0_pay5 (iblk m c 0 t) (iblk m c 8 t)) (k0_pay9 (iblk m c 4 t))) (iblk m c 6 t)) := by
  by_cases h0 : t.val % 10 = 0
  · rw [flushed10_A m c t h0, outA_10]
  · rw [flushed10_B m c t h0, outB_10]

/-- What every point sends to output 12: the incoming gradient, rounded. -/
theorem flush12 : (dats m 0 c).flushed 12 t
    = (cfg0.win 12).cut (grid0.coords t) (k0_pay4 (iblk m c 0 t)) := by
  by_cases h0 : t.val % 10 = 0
  · rw [flushed12_A m c t h0, outA_12]
  · rw [flushed12_B m c t h0, outB_12]

/-- What every point sends to output 13: the merged branches. -/
theorem flush13 : (dats m 0 c).flushed 13 t
    = (cfg0.win 13).cut (grid0.coords t) (k0_pay11 (k0_pay6 (iblk m c 1 t) (iblk m c 5 t)) (k0_pay7 (iblk m c 2 t) (iblk m c 6 t) (iblk m c 7 t)) (k0_pay8 (iblk m c 3 t)) (k0_pay9 (iblk m c 4 t))) := by
  by_cases h0 : t.val % 10 = 0
  · rw [flushed13_A m c t h0, outA_13]
  · rw [flushed13_B m c t h0, outB_13]

/-- What every point sends to output 14: the gradient of the first product. -/
theorem flush14 : (dats m 0 c).flushed 14 t
    = (cfg0.win 14).cut (grid0.coords t) (k0_pay16 (k0_pay5 (iblk m c 0 t) (iblk m c 8 t)) (k0_pay8 (iblk m c 3 t))) := by
  by_cases h0 : t.val % 10 = 0
  · rw [flushed14_A m c t h0, outA_14]
  · rw [flushed14_B m c t h0, outB_14]

/-- What every point sends to output 15: the gradient of the second product. -/
theorem flush15 : (dats m 0 c).flushed 15 t
    = (cfg0.win 15).cut (grid0.coords t) (k0_pay17 (k0_pay5 (iblk m c 0 t) (iblk m c 8 t)) (k0_pay9 (iblk m c 4 t))) := by
  by_cases h0 : t.val % 10 = 0
  · rw [flushed15_A m c t h0, outA_15]
  · rw [flushed15_B m c t h0, outB_15]

/-- What every point sends to output 11: the gate gradients. -/
theorem flush11 : (dats m 0 c).flushed 11 t
    = (cfg0.win 11).cut (grid0.coords t) (gates (iblk m c 0 t) (iblk m c 1 t) (iblk m c 2 t) (iblk m c 3 t) (iblk m c 4 t) (iblk m c 5 t) (iblk m c 6 t) (iblk m c 7 t) (iblk m c 8 t)) := by
  by_cases h0 : t.val % 10 = 0
  · rw [flushed11_A m c t h0, outA_11]
  · rw [flushed11_B m c t h0, outB_11]

/-- The bias gradient's block after the first point. -/
theorem acc_first (h0 : t.val % 10 = 0) : (outsAt0 m c t.val t.isLt).2.2.2.2.2.2.2
    = k0_pay15 (k0_pay5 (iblk m c 0 t) (iblk m c 8 t)) (k0_pay9 (iblk m c 4 t)) k0_pay3 := by
  rw [outsAt0_A m c t h0]
  dsimp only
  rw [outA_16]

/-- The bias gradient's block after a later point, from the block after the point before. -/
theorem acc_next (h0 : ¬t.val % 10 = 0) (hp : t.val - 1 < cfg0.N) : (outsAt0 m c t.val t.isLt).2.2.2.2.2.2.2
    = k0_pay15 (k0_pay5 (iblk m c 0 t) (iblk m c 8 t)) (k0_pay9 (iblk m c 4 t)) (outsAt0 m c (t.val - 1) hp).2.2.2.2.2.2.2 := by
  rw [outsAt0_B m c t h0]
  dsimp only
  rw [outB_16]

end Cert.Proof.Pieces
-- ==== Proof.Blocks.lean ====
module

public import proofs.«01_k».proof.Proof.Gen.KernelIdeal.Frame.Runs
public import Idealize.ShloMosaic.Lib.Pointwise

@[expose] public section

/-! Which rows of the arrays a grid point's blocks are: point `t` takes the rows `416 t … 416 t + 415` of every
array cut into tiles, and the weights and the bias whole.  The two gates' blocks are the fifth and the sixth group
of 1024 columns of the projections, and their gradients' block is the third group of 2048. -/

set_option maxRecDepth 16384

noncomputable section

namespace Cert.Proof.Blocks

open Cert.KernelIdeal Cert.KernelIdeal.Gen Idealize.ShloMosaic Idealize.ShloMosaic.TcCoe Idealize.SL.Sem

variable {F : FTy → Type} [FloatOps F] (m : ∀ l, Buf (Elt F) l) (c : Dev nD) (t : Fin cfg0.N)

theorem lt_ten (t : Fin cfg0.N) : t.val < 10 := t.isLt

/-- The row of the arrays that row `r` of point `t`'s tile is. -/
def row (t : Fin cfg0.N) (r : Fin 416) : Fin 4160 :=
  ⟨t.val * 416 + r.val, by have := lt_ten t; have := r.isLt; omega⟩

/-- Column `j` of the `k`-th group of `w` columns out of 6144. -/
def col (w k : Nat) (h : k * w + w ≤ 6144) (j : Fin w) : Fin 6144 := ⟨k * w + j.val, by have := j.isLt; omega⟩

/-- Every row is some tile's. -/
theorem exists_row (R : Fin 4160) : ∃ (t : Fin cfg0.N) (r : Fin 416), R = row t r :=
  ⟨(⟨R.val / 416, by have := R.isLt; omega⟩ : Fin 10), ⟨R.val % 416, Nat.mod_lt _ (by decide)⟩,
    Fin.ext (by show R.val = R.val / 416 * 416 + R.val % 416; omega)⟩

theorem index0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- Where window 0's block lies in its array. -/
theorem emb0 (r : Fin 416) (j : Fin 1024) :
    ((cfg0.win 0).blk t).view.emb (ix2 r j) = ix2 (row t r) (j) := by
  funext a
  apply Fin.ext
  match a with
  | ⟨0, _⟩ => show win0_0.index t (0 : Fin 2) * 416 + 1 * r.val = t.val * 416 + r.val; rw [(index0 t).1, Nat.one_mul]
  | ⟨1, _⟩ => show win0_0.index t (1 : Fin 2) * 1024 + 1 * j.val = j.val; rw [(index0 t).2]; omega

theorem index1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

/-- Where window 1's block lies in its array. -/
theorem emb1 (r : Fin 416) (j : Fin 1024) :
    ((cfg0.win 1).blk t).view.emb (ix2 r j) = ix2 (row t r) (j) := by
  funext a
  apply Fin.ext
  match a with
  | ⟨0, _⟩ => show win0_1.index t (0 : Fin 2) * 416 + 1 * r.val = t.val * 416 + r.val; rw [(index1 t).1, Nat.one_mul]
  | ⟨1, _⟩ => show win0_1.index t (1 : Fin 2) * 1024 + 1 * j.val = j.val; rw [(index1 t).2]; omega

theorem index2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)

/-- Where window 2's block lies in its array. -/
theorem emb2 (r : Fin 416) (j : Fin 1024) :
    ((cfg0.win 2).blk t).view.emb (ix2 r j) = ix2 (row t r) (j) := by
  funext a
  apply Fin.ext
  match a with
  | ⟨0, _⟩ => show win0_2.index t (0 : Fin 2) * 416 + 1 * r.val = t.val * 416 + r.val; rw [(index2 t).1, Nat.one_mul]
  | ⟨1, _⟩ => show win0_2.index t (1 : Fin 2) * 1024 + 1 * j.val = j.val; rw [(index2 t).2]; omega

theorem index3 : ∀ t : Fin cfg0.N, win0_3.index t (0 : Fin 2) = t.val ∧ win0_3.index t (1 : Fin 2) = 4 :=
  (by decide +kernel : ∀ t : Fin grid0.N, win0_3.index t (0 : Fin 2) = t.val ∧ win0_3.index t (1 : Fin 2) = 4)

/-- Where window 3's block lies in its array. -/
theorem emb3 (r : Fin 416) (j : Fin 1024) :
    ((cfg0.win 3).blk t).view.emb (ix2 r j) = ix2 (row t r) (col 1024 4 (by decide) j) := by
  funext a
  apply Fin.ext
  match a with
  | ⟨0, _⟩ => show win0_3.index t (0 : Fin 2) * 416 + 1 * r.val = t.val * 416 + r.val; rw [(index3 t).1, Nat.one_mul]
  | ⟨1, _⟩ => show win0_3.index t (1 : Fin 2) * 1024 + 1 * j.val = 4 * 1024 + j.val; rw [(index3 t).2]; omega

theorem index4 : ∀ t : Fin cfg0.N, win0_4.index t (0 : Fin 2) = t.val ∧ win0_4.index t (1 : Fin 2) = 5 :=
  (by decide +kernel : ∀ t : Fin grid0.N, win0_4.index t (0 : Fin 2) = t.val ∧ win0_4.index t (1 : Fin 2) = 5)

/-- Where window 4's block lies in its array. -/
theorem emb4 (r : Fin 416) (j : Fin 1024) :
    ((cfg0.win 4).blk t).view.emb (ix2 r j) = ix2 (row t r) (col 1024 5 (by decide) j) := by
  funext a
  apply Fin.ext
  match a with
  | ⟨0, _⟩ => show win0_4.index t (0 : Fin 2) * 416 + 1 * r.val = t.val * 416 + r.val; rw [(index4 t).1, Nat.one_mul]
  | ⟨1, _⟩ => show win0_4.index t (1 : Fin 2) * 1024 + 1 * j.val = 5 * 1024 + j.val; rw [(index4 t).2]; omega

theorem index9 : ∀ t : Fin cfg0.N, win0_9.index t (0 : Fin 2) = t.val ∧ win0_9.index t (1 : Fin 2) = 0 :=
  (by decide +kernel : ∀ t : Fin grid0.N, win0_9.index t (0 : Fin 2) = t.val ∧ win0_9.index t (1 : Fin 2) = 0)

/-- Where window 9's block lies in its array. -/
theorem emb9 (r : Fin 416) (j : Fin 1024) :
    ((cfg0.win 9).blk t).view.emb (ix2 r j) = ix2 (row t r) (j) := by
  funext a
  apply Fin.ext
  match a with
  | ⟨0, _⟩ => show win0_9.index t (0 : Fin 2) * 416 + 1 * r.val = t.val * 416 + r.val; rw [(index9 t).1, Nat.one_mul]
  | ⟨1, _⟩ => show win0_9.index t (1 : Fin 2) * 1024 + 1 * j.val = j.val; rw [(index9 t).2]; omega

theorem index10 : ∀ t : Fin cfg0.N, win0_10.index t (0 : Fin 2) = t.val ∧ win0_10.index t (1 : Fin 2) = 0 :=
  (by decide +kernel : ∀ t : Fin grid0.N, win0_10.index t (0 : Fin 2) = t.val ∧ win0_10.index t (1 : Fin 2) = 0)

/-- Where window 10's block lies in its array. -/
theorem emb10 (r : Fin 416) (j : Fin 1024) :
    ((cfg0.win 10).blk t).view.emb (ix2 r j) = ix2 (row t r) (j) := by
  funext a
  apply Fin.ext
  match a with
  | ⟨0, _⟩ => show win0_10.index t (0 : Fin 2) * 416 + 1 * r.val = t.val * 416 + r.val; rw [(index10 t).1, Nat.one_mul]
  | ⟨1, _⟩ => show win0_10.index t (1 : Fin 2) * 1024 + 1 * j.val = j.val; rw [(index10 t).2]; omega

theorem index11 : ∀ t : Fin cfg0.N, win0_11.index t (0 : Fin 2) = t.val ∧ win0_11.index t (1 : Fin 2) = 2 :=
  (by decide +kernel : ∀ t : Fin grid0.N, win0_11.index t (0 : Fin 2) = t.val ∧ win0_11.index t (1 : Fin 2) = 2)

/-- Where window 11's block lies in its array. -/
theorem emb11 (r : Fin 416) (j : Fin 2048) :
    ((cfg0.win 11).blk t).view.emb (ix2 r j) = ix2 (row t r) (col 2048 2 (by decide) j) := by
  funext a
  apply Fin.ext
  match a with
  | ⟨0, _⟩ => show win0_11.index t (0 : Fin 2) * 416 + 1 * r.val = t.val * 416 + r.val; rw [(index11 t).1, Nat.one_mul]
  | ⟨1, _⟩ => show win0_11.index t (1 : Fin 2) * 2048 + 1 * j.val = 2 * 2048 + j.val; rw [(index11 t).2]; omega

theorem index12 : ∀ t : Fin cfg0.N, win0_12.index t (0 : Fin 2) = t.val ∧ win0_12.index t (1 : Fin 2) = 0 :=
  (by decide +kernel : ∀ t : Fin grid0.N, win0_12.index t (0 : Fin 2) = t.val ∧ win0_12.index t (1 : Fin 2) = 0)

/-- Where window 12's block lies in its array. -/
theorem emb12 (r : Fin 416) (j : Fin 1024) :
    ((cfg0.win 12).blk t).view.emb (ix2 r j) = ix2 (row t r) (j) := by
  funext a
  apply Fin.ext
  match a with
  | ⟨0, _⟩ => show win0_12.index t (0 : Fin 2) * 416 + 1 * r.val = t.val * 416 + r.val; rw [(index12 t).1, Nat.one_mul]
  | ⟨1, _⟩ => show win0_12.index t (1 : Fin 2) * 1024 + 1 * j.val = j.val; rw [(index12 t).2]; omega

theorem index13 : ∀ t : Fin cfg0.N, win0_13.index t (0 : Fin 2) = t.val ∧ win0_13.index t (1 : Fin 2) = 0 :=
  (by decide +kernel : ∀ t : Fin grid0.N, win0_13.index t (0 : Fin 2) = t.val ∧ win0_13.index t (1 : Fin 2) = 0)

/-- Where window 13's block lies in its array. -/
theorem emb13 (r : Fin 416) (j : Fin 1024) :
    ((cfg0.win 13).blk t).view.emb (ix2 r j) = ix2 (row t r) (j) := by
  funext a
  apply Fin.ext
  match a with
  | ⟨0, _⟩ => show win0_13.index t (0 : Fin 2) * 416 + 1 * r.val = t.val * 416 + r.val; rw [(index13 t).1, Nat.one_mul]
  | ⟨1, _⟩ => show win0_13.index t (1 : Fin 2) * 1024 + 1 * j.val = j.val; rw [(index13 t).2]; omega

theorem index14 : ∀ t : Fin cfg0.N, win0_14.index t (0 : Fin 2) = t.val ∧ win0_14.index t (1 : Fin 2) = 0 :=
  (by decide +kernel : ∀ t : Fin grid0.N, win0_14.index t (0 : Fin 2) = t.val ∧ win0_14.index t (1 : Fin 2) = 0)

/-- Where window 14's block lies in its array. -/
theorem emb14 (r : Fin 416) (j : Fin 1024) :
    ((cfg0.win 14).blk t).view.emb (ix2 r j) = ix2 (row t r) (j) := by
  funext a
  apply Fin.ext
  match a with
  | ⟨0, _⟩ => show win0_14.index t (0 : Fin 2) * 416 + 1 * r.val = t.val * 416 + r.val; rw [(index14 t).1, Nat.one_mul]
  | ⟨1, _⟩ => show win0_14.index t (1 : Fin 2) * 1024 + 1 * j.val = j.val; rw [(index14 t).2]; omega

theorem index15 : ∀ t : Fin cfg0.N, win0_15.index t (0 : Fin 2) = t.val ∧ win0_15.index t (1 : Fin 2) = 0 :=
  (by decide +kernel : ∀ t : Fin grid0.N, win0_15.index t (0 : Fin 2) = t.val ∧ win0_15.index t (1 : Fin 2) = 0)

/-- Where window 15's block lies in its array. -/
theorem emb15 (r : Fin 416) (j : Fin 1024) :
    ((cfg0.win 15).blk t).view.emb (ix2 r j) = ix2 (row t r) (j) := by
  funext a
  apply Fin.ext
  match a with
  | ⟨0, _⟩ => show win0_15.index t (0 : Fin 2) * 416 + 1 * r.val = t.val * 416 + r.val; rw [(index15 t).1, Nat.one_mul]
  | ⟨1, _⟩ => show win0_15.index t (1 : Fin 2) * 1024 + 1 * j.val = j.val; rw [(index15 t).2]; omega

/-- Input window 0's block at an index. -/
theorem in0 (r : Fin 416) (j : Fin 1024) :
    iblk m c 0 t (ix2 r j) = m ((c : Thread nD τ).loc main_arg0) (ix2 (row t r) (j)) := by
  show V m c main_arg0 (((cfg0.win 0).blk t).view.emb (ix2 r j)) = _
  rw [emb0]

/-- Input window 1's block at an index. -/
theorem in1 (r : Fin 416) (j : Fin 1024) :
    iblk m c 1 t (ix2 r j) = m ((c : Thread nD τ).loc main_arg1) (ix2 (row t r) (j)) := by
  show V m c main_arg1 (((cfg0.win 1).blk t).view.emb (ix2 r j)) = _
  rw [emb1]

/-- Input window 2's block at an index. -/
theorem in2 (r : Fin 416) (j : Fin 1024) :
    iblk m c 2 t (ix2 r j) = m ((c : Thread nD τ).loc main_arg2) (ix2 (row t r) (j)) := by
  show V m c main_arg2 (((cfg0.win 2).blk t).view.emb (ix2 r j)) = _
  rw [emb2]

/-- Input window 3's block at an index. -/
theorem in3 (r : Fin 416) (j : Fin 1024) :
    iblk m c 3 t (ix2 r j) = m ((c : Thread nD τ).loc main_arg3) (ix2 (row t r) (col 1024 4 (by decide) j)) := by
  show V m c main_arg3 (((cfg0.win 3).blk t).view.emb (ix2 r j)) = _
  rw [emb3]

/-- Input window 4's block at an index. -/
theorem in4 (r : Fin 416) (j : Fin 1024) :
    iblk m c 4 t (ix2 r j) = m ((c : Thread nD τ).loc main_arg3) (ix2 (row t r) (col 1024 5 (by decide) j)) := by
  show V m c main_arg3 (((cfg0.win 4).blk t).view.emb (ix2 r j)) = _
  rw [emb4]

theorem index5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)

/-- Window 5's block is its whole array. -/
theorem emb5 (j : S1024x1024.Idx) : ((cfg0.win 5).blk t).view.emb j = j := by
  funext a
  apply Fin.ext
  match a with
  | ⟨0, _⟩ => show win0_5.index t (0 : Fin 2) * 1024 + 1 * (j 0).val = (j 0).val; rw [(index5 t).1]; omega
  | ⟨1, _⟩ => show win0_5.index t (1 : Fin 2) * 1024 + 1 * (j 1).val = (j 1).val; rw [(index5 t).2]; omega

theorem in5 : iblk m c 5 t = m ((c : Thread nD τ).loc main_arg4) := by
  funext j
  show V m c main_arg4 (((cfg0.win 5).blk t).view.emb j) = _
  rw [emb5]

theorem index6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)

/-- Window 6's block is its whole array. -/
theorem emb6 (j : S1024x1024.Idx) : ((cfg0.win 6).blk t).view.emb j = j := by
  funext a
  apply Fin.ext
  match a with
  | ⟨0, _⟩ => show win0_6.index t (0 : Fin 2) * 1024 + 1 * (j 0).val = (j 0).val; rw [(index6 t).1]; omega
  | ⟨1, _⟩ => show win0_6.index t (1 : Fin 2) * 1024 + 1 * (j 1).val = (j 1).val; rw [(index6 t).2]; omega

theorem in6 : iblk m c 6 t = m ((c : Thread nD τ).loc main_arg5) := by
  funext j
  show V m c main_arg5 (((cfg0.win 6).blk t).view.emb j) = _
  rw [emb6]

theorem index7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)

/-- Window 7's block is its whole array. -/
theorem emb7 (j : S1x1024.Idx) : ((cfg0.win 7).blk t).view.emb j = j := by
  funext a
  apply Fin.ext
  match a with
  | ⟨0, _⟩ => show win0_7.index t (0 : Fin 2) * 1 + 1 * (j 0).val = (j 0).val; rw [(index7 t).1]; omega
  | ⟨1, _⟩ => show win0_7.index t (1 : Fin 2) * 1024 + 1 * (j 1).val = (j 1).val; rw [(index7 t).2]; omega

theorem in7 : iblk m c 7 t = m ((c : Thread nD τ).loc main_arg6) := by
  funext j
  show V m c main_arg6 (((cfg0.win 7).blk t).view.emb j) = _
  rw [emb7]

theorem index8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)

/-- Window 8's block is its whole array. -/
theorem emb8 (j : S1024x1024.Idx) : ((cfg0.win 8).blk t).view.emb j = j := by
  funext a
  apply Fin.ext
  match a with
  | ⟨0, _⟩ => show win0_8.index t (0 : Fin 2) * 1024 + 1 * (j 0).val = (j 0).val; rw [(index8 t).1]; omega
  | ⟨1, _⟩ => show win0_8.index t (1 : Fin 2) * 1024 + 1 * (j 1).val = (j 1).val; rw [(index8 t).2]; omega

theorem in8 : iblk m c 8 t = m ((c : Thread nD τ).loc main_arg7) := by
  funext j
  show V m c main_arg7 (((cfg0.win 8).blk t).view.emb j) = _
  rw [emb8]

theorem index16 : ∀ t : Fin cfg0.N, win0_16.index t (0 : Fin 2) = 0 ∧ win0_16.index t (1 : Fin 2) = 0 :=
  (by decide +kernel : ∀ t : Fin grid0.N, win0_16.index t (0 : Fin 2) = 0 ∧ win0_16.index t (1 : Fin 2) = 0)

/-- Window 16's block is its whole array. -/
theorem emb16 (j : S1x1024.Idx) : ((cfg0.win 16).blk t).view.emb j = j := by
  funext a
  apply Fin.ext
  match a with
  | ⟨0, _⟩ => show win0_16.index t (0 : Fin 2) * 1 + 1 * (j 0).val = (j 0).val; rw [(index16 t).1]; omega
  | ⟨1, _⟩ => show win0_16.index t (1 : Fin 2) * 1024 + 1 * (j 1).val = (j 1).val; rw [(index16 t).2]; omega

end Cert.Proof.Blocks
-- ==== Proof.Sigmoid.lean ====
/- Hand-written: the sigmoid as the kernel writes it, `½ · tanh (½ · x) + ½`, is the logistic function on every extended
   real. The kernel's halves are the binary32 pattern of one half. -/
module

public import Idealize.ShloMosaic.Lib.IdealHost

@[expose] public section

noncomputable section

namespace Cert.Proof.Sigmoid

open Idealize.ShloMosaic

/-- The binary32 pattern `0x3F000000` denotes one half. -/
theorem ofBits_half : Ideal.ofBits .f32 0x3F000000#32 = ((2⁻¹ : ℝ) : EReal) := by
  simp [Ideal.ofBits, Ideal.ieee, -EReal.coe_mul]; norm_num

/-- On the reals, `½ · tanh (½ · r) + ½ = 1 / (1 + e⁻ʳ)`. -/
theorem half_tanh_real (r : ℝ) : 2⁻¹ * Real.tanh (2⁻¹ * r) + 2⁻¹ = (1 + Real.exp (-r))⁻¹ := by
  have hu : 0 < Real.exp (2⁻¹ * r) := Real.exp_pos _
  have h1 : Real.exp (-(2⁻¹ * r)) = (Real.exp (2⁻¹ * r))⁻¹ := Real.exp_neg _
  have h2 : Real.exp (-r) = (Real.exp (2⁻¹ * r))⁻¹ * (Real.exp (2⁻¹ * r))⁻¹ := by
    rw [← h1, ← Real.exp_add]; congr 1; ring
  rw [Real.tanh_eq_sinh_div_cosh, Real.sinh_eq, Real.cosh_eq, h1, h2]
  generalize Real.exp (2⁻¹ * r) = u at hu
  field_simp
  ring

/-- The same on the extended reals: at `-∞` both are `0`, at `+∞` both are `1`. -/
theorem half_tanh (x : EReal) :
    Ideal.ofBits .f32 0x3F000000#32 * Ideal.tanh (Ideal.ofBits .f32 0x3F000000#32 * x) + Ideal.ofBits .f32 0x3F000000#32
      = Ideal.logistic x := by
  have hp : (0 : ℝ) < 2⁻¹ := by norm_num
  have e : ((2⁻¹ : ℝ) : EReal) * (1 : EReal) = ((2⁻¹ : ℝ) : EReal) := mul_one _
  rw [ofBits_half]
  induction x with
  | bot =>
    rw [EReal.coe_mul_bot_of_pos hp, Ideal.tanh_bot, Ideal.logistic_bot, ← EReal.coe_one, ← EReal.coe_neg, ← EReal.coe_mul,
      ← EReal.coe_add, ← EReal.coe_zero]
    norm_num
  | top =>
    rw [EReal.coe_mul_top_of_pos hp, Ideal.tanh_top, Ideal.logistic_top, e, ← EReal.coe_add, ← EReal.coe_one]
    norm_num
  | coe r =>
    rw [← EReal.coe_mul, Ideal.tanh_coe, ← EReal.coe_mul, ← EReal.coe_add, Ideal.logistic_coe, half_tanh_real]

end Cert.Proof.Sigmoid

end
-- ==== Proof.Payloads.lean ====
module

public import proofs.«01_k».proof.Proof.Gen.KernelIdeal.Skeleton
public import proofs.«01_k».proof.Proof.Sigmoid
public import Idealize.ShloMosaic.Lib.Pointwise

@[expose] public section

/-! The kernel's stored values at an index, over the extended reals: matrix products as sums, the kernel's sigmoid
`½ tanh (½ x) + ½` as the logistic function. -/

set_option maxRecDepth 16384

noncomputable section

namespace Cert.Proof.Payloads

open Cert.KernelIdeal Cert.KernelIdeal.Gen Idealize.ShloMosaic Idealize.SL.Sem

/-- The product of the incoming gradient with the transposed output projection. -/
theorem pay5 (x0 : Vec Ideal S416x1024 .f32) (x8 : Vec Ideal S1024x1024 .bf16) (r : Fin 416) (j : Fin 1024) :
    k0_pay5 (F := Ideal) x0 x8 (ix2 r j) = ∑ k : Fin 1024, x0 (ix2 r k) * x8 (ix2 j k) := by
  pointwise [k0_pay5, k0_pay4]

/-- The recurrent branch through its projection. -/
theorem pay6 (x1 : Vec Ideal S416x1024 .bf16) (x5 : Vec Ideal S1024x1024 .bf16) (r : Fin 416) (j : Fin 1024) :
    k0_pay6 (F := Ideal) x1 x5 (ix2 r j) = ∑ k : Fin 1024, x1 (ix2 r k) * x5 (ix2 k j) := by
  pointwise [k0_pay6]

/-- The convolution branch through its projection, with its bias. -/
theorem pay7 (x2 : Vec Ideal S416x1024 .bf16) (x6 : Vec Ideal S1024x1024 .bf16) (x7 : Vec Ideal S1x1024 .f32)
    (r : Fin 416) (j : Fin 1024) :
    k0_pay7 (F := Ideal) x2 x6 x7 (ix2 r j) = (∑ k : Fin 1024, x2 (ix2 r k) * x6 (ix2 k j)) + x7 (ix2 0 j) := by
  pointwise [k0_pay7]

/-- The first gate's sigmoid. -/
theorem pay8 (x3 : Vec Ideal S416x1024 .f32) (r : Fin 416) (j : Fin 1024) :
    k0_pay8 (F := Ideal) x3 (ix2 r j) = Ideal.logistic (x3 (ix2 r j)) := by
  pointwise [k0_pay8]
  exact Sigmoid.half_tanh _

/-- The second gate's sigmoid. -/
theorem pay10 (x4 : Vec Ideal S416x1024 .f32) (r : Fin 416) (j : Fin 1024) :
    k0_pay10 (F := Ideal) (k0_pay9 x4) (ix2 r j) = Ideal.logistic (x4 (ix2 r j)) := by
  pointwise [k0_pay10, k0_pay9]
  exact Sigmoid.half_tanh _

/-- The gradient of the first branch's product. -/
theorem pay16 (v7 v24 : Vec Ideal S416x1024 .f32) (r : Fin 416) (j : Fin 1024) :
    k0_pay16 (F := Ideal) v7 v24 (ix2 r j) = v7 (ix2 r j) * v24 (ix2 r j) := by
  pointwise [k0_pay16]

/-- The gradient of the second branch's product. -/
theorem pay17 (v7 v27 : Vec Ideal S416x1024 .f32) (r : Fin 416) (j : Fin 1024) :
    k0_pay17 (F := Ideal) v7 v27 (ix2 r j) = v7 (ix2 r j) * k0_pay10 (F := Ideal) v27 (ix2 r j) := by
  pointwise [k0_pay17, k0_pay14]

/-- The gradient of the recurrent branch. -/
theorem pay1 (v60 : Vec Ideal S416x1024 .bf16) (x5 : Vec Ideal S1024x1024 .bf16) (r : Fin 416) (j : Fin 1024) :
    k0_pay1 (F := Ideal) v60 x5 (ix2 r j) = ∑ k : Fin 1024, v60 (ix2 r k) * x5 (ix2 j k) := by
  pointwise [k0_pay1]

/-- The gradient of the convolution branch. -/
theorem pay2 (v61 : Vec Ideal S416x1024 .bf16) (x6 : Vec Ideal S1024x1024 .bf16) (r : Fin 416) (j : Fin 1024) :
    k0_pay2 (F := Ideal) v61 x6 (ix2 r j) = ∑ k : Fin 1024, v61 (ix2 r k) * x6 (ix2 j k) := by
  pointwise [k0_pay2]

/-- The merged branches. -/
theorem pay11 (v10 v16 v24 v27 : Vec Ideal S416x1024 .f32) (r : Fin 416) (j : Fin 1024) :
    k0_pay11 (F := Ideal) v10 v16 v24 v27 (ix2 r j)
      = v24 (ix2 r j) * v10 (ix2 r j) + k0_pay10 (F := Ideal) v27 (ix2 r j) * v16 (ix2 r j) := by
  pointwise [k0_pay11]

/-- The gradient of the first gate: the kernel's `s - s²` is not yet the reference's `s (1 - s)`. -/
theorem pay12 (v7 v10 v24 : Vec Ideal S416x1024 .f32) (r : Fin 416) (j : Fin 1024) :
    k0_pay12 (F := Ideal) v7 v10 v24 (ix2 r j) = v7 (ix2 r j) * v10 (ix2 r j) * (v24 (ix2 r j) * (1 - v24 (ix2 r j))) := by
  pointwise [k0_pay12]
  exact mul_assoc _ _ _
theorem pay13 (v7 v10 v24 : Vec Ideal S416x1024 .f32) (r : Fin 416) (j : Fin 1024) :
    k0_pay13 (F := Ideal) v7 v10 v24 (ix2 r j) = v7 (ix2 r j) * v10 (ix2 r j) * (k0_pay10 (F := Ideal) v24 (ix2 r j) * (1 - k0_pay10 (F := Ideal) v24 (ix2 r j))) := by
  pointwise [k0_pay13]
  exact mul_assoc _ _ _

/-- The bias gradient: the tile's column sum on top of what was there. -/
theorem pay15 (v7 v27 : Vec Ideal S416x1024 .f32) (v54 : Vec Ideal S1x1024 .f32) (j : Fin 1024) :
    k0_pay15 (F := Ideal) v7 v27 v54 (ix2 0 j)
      = v54 (ix2 0 j) + ∑ r : Fin 416, v7 (ix2 r j) * k0_pay10 (F := Ideal) v27 (ix2 r j) := by
  pointwise [k0_pay15, k0_pay14]

theorem pay3 (j : Fin 1024) : k0_pay3 (F := Ideal) (ix2 0 j) = 0 := by
  pointwise [k0_pay3]

theorem pay4 (x0 : Vec Ideal S416x1024 .f32) (r : Fin 416) (j : Fin 1024) : k0_pay4 (F := Ideal) x0 (ix2 r j) = x0 (ix2 r j) := by
  pointwise [k0_pay4]
end Cert.Proof.Payloads
-- ==== Proof.Reference.lean ====
module

public import proofs.«01_k».proof.Proof.Gen.ReferenceIdeal.Read
public import Idealize.ShloMosaic.Lib.Pointwise

@[expose] public section

/-! The reference's results at an index, over the extended reals: matrix products as sums, sigmoids as the logistic
function. -/

set_option maxRecDepth 16384

noncomputable section

namespace Cert.Proof.Reference

open Cert.ReferenceIdeal Cert.ReferenceIdeal.Gen Cert.ReferenceIdeal.Read Idealize.ShloMosaic Idealize.SL.Sem

/-- Column `j` of the `k`-th group of 1024 columns out of 6144. -/
def at5 (j : Fin 1024) : Fin 6144 := ⟨4096 + j.val, by have := j.isLt; omega⟩
def at6 (j : Fin 1024) : Fin 6144 := ⟨5120 + j.val, by have := j.isLt; omega⟩

variable (x0 : FVec Ideal S4160x1024 .f32) (x1 x2 : FVec Ideal S4160x1024 .bf16) (x3 : FVec Ideal S4160x6144 .f32)
  (x4 x5 : FVec Ideal S1024x1024 .bf16) (x6 : FVec Ideal S1x1024 .f32) (x7 : FVec Ideal S1024x1024 .bf16)
  (r : Fin 4160) (j : Fin 1024)

/-- The first gate. -/
theorem ref16 : val_main_v16 (F := Ideal) x3 (ix2 r j) = Ideal.logistic (x3 (ix2 r (at5 j))) := by
  pointwise [val_main_v16, val_main_v15, val_main_v14, val_main_v13, val_main_v12, val_main_v11, val_main_v5, val_main_cst_0, val_main_cst]
  rfl

/-- The second gate. -/
theorem ref26 : val_main_v26 (F := Ideal) x3 (ix2 r j) = Ideal.logistic (x3 (ix2 r (at6 j))) := by
  pointwise [val_main_v26, val_main_v25, val_main_v24, val_main_v23, val_main_v22, val_main_v21, val_main_v6, val_main_cst_3, val_main_cst_2]
  rfl

/-- The recurrent branch through its projection. -/
theorem ref7 : val_main_v7 (F := Ideal) x1 x4 (ix2 r j) = ∑ k : Fin 1024, x1 (ix2 r k) * x4 (ix2 k j) := by
  pointwise [val_main_v7, val_main_v0, val_main_v2]

/-- The convolution branch through its projection, with its bias. -/
theorem ref10 : val_main_v10 (F := Ideal) x2 x5 x6 (ix2 r j) = (∑ k : Fin 1024, x2 (ix2 r k) * x5 (ix2 k j)) + x6 (ix2 0 j) := by
  pointwise [val_main_v10, val_main_v9, val_main_v8, val_main_v1, val_main_v3]

/-- The gradient of the merged branches. -/
theorem ref33 : val_main_v33 (F := Ideal) x0 x7 (ix2 r j) = ∑ k : Fin 1024, x0 (ix2 r k) * x7 (ix2 j k) := by
  pointwise [val_main_v33, val_main_v4]

/-- The gradient of the first branch. -/
theorem ref37 : val_main_v37 (F := Ideal) x0 x3 x7 (ix2 r j) = val_main_v16 (F := Ideal) x3 (ix2 r j) * val_main_v33 (F := Ideal) x0 x7 (ix2 r j) := by
  pointwise [val_main_v37]

/-- The gradient of the second branch. -/
theorem ref34 : val_main_v34 (F := Ideal) x0 x3 x7 (ix2 r j) = val_main_v26 (F := Ideal) x3 (ix2 r j) * val_main_v33 (F := Ideal) x0 x7 (ix2 r j) := by
  pointwise [val_main_v34]

/-- The gradient of `z`. -/
theorem ref41 : val_main_v41 (F := Ideal) x0 x3 x4 x7 (ix2 r j) = ∑ k : Fin 1024, val_main_v37 (F := Ideal) x0 x3 x7 (ix2 r k) * x4 (ix2 j k) := by
  pointwise [val_main_v41, val_main_v2]

/-- The gradient of `s`. -/
theorem ref47 : val_main_v47 (F := Ideal) x0 x3 x5 x7 (ix2 r j) = ∑ k : Fin 1024, val_main_v34 (F := Ideal) x0 x3 x7 (ix2 r k) * x5 (ix2 j k) := by
  pointwise [val_main_v47, val_main_v3]

/-- The merged branches. -/
theorem ref31 : val_main_v31 (F := Ideal) x1 x2 x3 x4 x5 x6 (ix2 r j) = val_main_v16 (F := Ideal) x3 (ix2 r j) * val_main_v7 (F := Ideal) x1 x4 (ix2 r j) + val_main_v26 (F := Ideal) x3 (ix2 r j) * val_main_v10 (F := Ideal) x2 x5 x6 (ix2 r j) := by
  pointwise [val_main_v31, val_main_v20, val_main_v30]

/-- The gradient of the first gate. -/
theorem ref39 : val_main_v39 (F := Ideal) x0 x1 x3 x4 x7 (ix2 r j) = val_main_v33 (F := Ideal) x0 x7 (ix2 r j) * val_main_v7 (F := Ideal) x1 x4 (ix2 r j) * (val_main_v16 (F := Ideal) x3 (ix2 r j) * (1 - val_main_v16 (F := Ideal) x3 (ix2 r j))) := by
  pointwise [val_main_v39, val_main_v38, val_main_v19, val_main_v18, val_main_v17, val_main_cst_1]

/-- The gradient of the second gate. -/
theorem ref36 : val_main_v36 (F := Ideal) x0 x2 x3 x5 x6 x7 (ix2 r j) = val_main_v33 (F := Ideal) x0 x7 (ix2 r j) * val_main_v10 (F := Ideal) x2 x5 x6 (ix2 r j) * (val_main_v26 (F := Ideal) x3 (ix2 r j) * (1 - val_main_v26 (F := Ideal) x3 (ix2 r j))) := by
  pointwise [val_main_v36, val_main_v35, val_main_v29, val_main_v28, val_main_v27, val_main_cst_4]

/-- The bias gradient. -/
theorem ref46 : val_main_v46 (F := Ideal) x0 x3 x7 (ix2 0 j) = ∑ R : Fin 4160, val_main_v34 (F := Ideal) x0 x3 x7 (ix2 R j) := by
  pointwise [val_main_v46, val_main_v45, val_main_cst_5]

/-- The gate gradients in their columns. -/
theorem ref50a : val_main_v50 (F := Ideal) x0 x1 x2 x3 x4 x5 x6 x7 (ix2 r (at5 j))
    = val_main_v39 (F := Ideal) x0 x1 x3 x4 x7 (ix2 r j) := by
  pointwise [val_main_v50, val_main_v49, at5]

theorem ref50b : val_main_v50 (F := Ideal) x0 x1 x2 x3 x4 x5 x6 x7 (ix2 r (at6 j))
    = val_main_v36 (F := Ideal) x0 x2 x3 x5 x6 x7 (ix2 r j) := by
  pointwise [val_main_v50, val_main_v49, at6]
  rw [dif_neg (by omega), dif_neg (by omega)]
  exact congrArg (fun q => val_main_v36 (F := Ideal) x0 x2 x3 x5 x6 x7 (ix2 r q)) (Fin.ext (by show 5120 + j.val - 4096 - 1024 = j.val; omega))

end Cert.Proof.Reference
-- ==== Proof.Values.lean ====
module

public import proofs.«01_k».proof.Proof.Pieces
public import proofs.«01_k».proof.Proof.Blocks
public import proofs.«01_k».proof.Proof.Payloads
public import proofs.«01_k».proof.Proof.Reference

@[expose] public section

/-! Each result of the kernel, at an index, is the reference's. -/

set_option maxRecDepth 16384

noncomputable section

namespace Cert.Proof.Values

open Cert.KernelIdeal Cert.KernelIdeal.Gen Cert.KernelIdeal.Value Idealize.ShloMosaic Idealize.ShloMosaic.TcCoe
  Idealize.SL.Sem
open Cert.Proof.Pieces Cert.Proof.Blocks Cert.Proof.Payloads Cert.Proof.Reference Cert.ReferenceIdeal.Read

variable (m : ∀ l, Buf (Elt Ideal) l) (c : Dev nD) (t : Fin cfg0.N) (r : Fin 416) (j : Fin 1024)

/-- The arguments. -/
abbrev A0 : FVec Ideal S4160x1024 .f32 := m ((c : Thread nD τ).loc main_arg0)
abbrev A1 : FVec Ideal S4160x1024 .bf16 := m ((c : Thread nD τ).loc main_arg1)
abbrev A2 : FVec Ideal S4160x1024 .bf16 := m ((c : Thread nD τ).loc main_arg2)
abbrev A3 : FVec Ideal S4160x6144 .f32 := m ((c : Thread nD τ).loc main_arg3)
abbrev A4 : FVec Ideal S1024x1024 .bf16 := m ((c : Thread nD τ).loc main_arg4)
abbrev A5 : FVec Ideal S1024x1024 .bf16 := m ((c : Thread nD τ).loc main_arg5)
abbrev A6 : FVec Ideal S1x1024 .f32 := m ((c : Thread nD τ).loc main_arg6)
abbrev A7 : FVec Ideal S1024x1024 .bf16 := m ((c : Thread nD τ).loc main_arg7)

/-- The gradient of the merged branches, in a tile. -/
theorem du : k0_pay5 (F := Ideal) (iblk m c 0 t) (iblk m c 8 t) (ix2 r j)
    = val_main_v33 (F := Ideal) (A0 m c) (A7 m c) (ix2 (row t r) j) := by
  rw [pay5, ref33, in8]
  exact Finset.sum_congr rfl fun k _ => by rw [in0]

/-- The first gate, in a tile. -/
theorem sa : k0_pay8 (F := Ideal) (iblk m c 3 t) (ix2 r j)
    = val_main_v16 (F := Ideal) (A3 m c) (ix2 (row t r) j) := by
  rw [pay8, ref16, in3]; rfl

/-- The second gate, in a tile. -/
theorem sb : k0_pay10 (F := Ideal) (k0_pay9 (iblk m c 4 t)) (ix2 r j)
    = val_main_v26 (F := Ideal) (A3 m c) (ix2 (row t r) j) := by
  rw [pay10, ref26, in4]; rfl

/-- The first branch, in a tile. -/
theorem ya : k0_pay6 (F := Ideal) (iblk m c 1 t) (iblk m c 5 t) (ix2 r j)
    = val_main_v7 (F := Ideal) (A1 m c) (A4 m c) (ix2 (row t r) j) := by
  rw [pay6, ref7, in5]
  exact Finset.sum_congr rfl fun k _ => by rw [in1]

/-- The second branch, in a tile. -/
theorem yb : k0_pay7 (F := Ideal) (iblk m c 2 t) (iblk m c 6 t) (iblk m c 7 t) (ix2 r j)
    = val_main_v10 (F := Ideal) (A2 m c) (A5 m c) (A6 m c) (ix2 (row t r) j) := by
  rw [pay7, ref10, in6, in7]
  exact congrArg (· + _) (Finset.sum_congr rfl fun k _ => by rw [in2])

/-- The first branch's gradient, in a tile. -/
theorem dya : k0_pay16 (F := Ideal) (k0_pay5 (iblk m c 0 t) (iblk m c 8 t)) (k0_pay8 (iblk m c 3 t)) (ix2 r j)
    = val_main_v37 (F := Ideal) (A0 m c) (A3 m c) (A7 m c) (ix2 (row t r) j) := by
  rw [pay16, ref37, du, sa, mul_comm]

/-- The second branch's gradient, in a tile. -/
theorem dyb : k0_pay17 (F := Ideal) (k0_pay5 (iblk m c 0 t) (iblk m c 8 t)) (k0_pay9 (iblk m c 4 t)) (ix2 r j)
    = val_main_v34 (F := Ideal) (A0 m c) (A3 m c) (A7 m c) (ix2 (row t r) j) := by
  rw [pay17, ref34, du, sb, mul_comm]

/-- The gradient of the recurrent branch. -/
theorem out9 : (dats m 0 c).arrAt 9 cfg0.N (ix2 (row t r) j)
    = val_main_v41 (F := Ideal) (A0 m c) (A3 m c) (A4 m c) (A7 m c) (ix2 (row t r) j) := by
  have e : k0_pay1 (F := Ideal) (k0_pay16 (k0_pay5 (iblk m c 0 t) (iblk m c 8 t)) (k0_pay8 (iblk m c 3 t))) (iblk m c 5 t) (ix2 r j)
      = val_main_v41 (F := Ideal) (A0 m c) (A3 m c) (A4 m c) (A7 m c) (ix2 (row t r) j) := by
    rw [pay1, ref41, in5]
    exact Finset.sum_congr rfl fun k _ => by rw [dya]
  have h := congrFun ((blocks9 m c t (flush0_9 t)).trans (flush9 m c t)) (ix2 r j)
  change (dats m 0 c).arrAt 9 cfg0.N (((cfg0.win 9).blk t).view.emb (ix2 r j)) = k0_pay1 (F := Ideal) (k0_pay16 (k0_pay5 (iblk m c 0 t) (iblk m c 8 t)) (k0_pay8 (iblk m c 3 t))) (iblk m c 5 t) (ix2 r j) at h
  rw [emb9] at h
  exact h.trans e

/-- The gradient of the convolution branch. -/
theorem out10 : (dats m 0 c).arrAt 10 cfg0.N (ix2 (row t r) j)
    = val_main_v47 (F := Ideal) (A0 m c) (A3 m c) (A5 m c) (A7 m c) (ix2 (row t r) j) := by
  have e : k0_pay2 (F := Ideal) (k0_pay17 (k0_pay5 (iblk m c 0 t) (iblk m c 8 t)) (k0_pay9 (iblk m c 4 t))) (iblk m c 6 t) (ix2 r j)
      = val_main_v47 (F := Ideal) (A0 m c) (A3 m c) (A5 m c) (A7 m c) (ix2 (row t r) j) := by
    rw [pay2, ref47, in6]
    exact Finset.sum_congr rfl fun k _ => by rw [dyb]
  have h := congrFun ((blocks10 m c t (flush0_10 t)).trans (flush10 m c t)) (ix2 r j)
  change (dats m 0 c).arrAt 10 cfg0.N (((cfg0.win 10).blk t).view.emb (ix2 r j)) = k0_pay2 (F := Ideal) (k0_pay17 (k0_pay5 (iblk m c 0 t) (iblk m c 8 t)) (k0_pay9 (iblk m c 4 t))) (iblk m c 6 t) (ix2 r j) at h
  rw [emb10] at h
  exact h.trans e

/-- The incoming gradient, rounded. -/
theorem out12 : (dats m 0 c).arrAt 12 cfg0.N (ix2 (row t r) j)
    = val_main_v51 (F := Ideal) (A0 m c) (ix2 (row t r) j) := by
  have h := congrFun ((blocks12 m c t (flush0_12 t)).trans (flush12 m c t)) (ix2 r j)
  change (dats m 0 c).arrAt 12 cfg0.N (((cfg0.win 12).blk t).view.emb (ix2 r j)) = k0_pay4 (F := Ideal) _ (ix2 r j) at h
  rw [emb12, pay4, in0] at h
  exact h

/-- The merged branches. -/
theorem out13 : (dats m 0 c).arrAt 13 cfg0.N (ix2 (row t r) j)
    = val_main_v52 (F := Ideal) (A1 m c) (A2 m c) (A3 m c) (A4 m c) (A5 m c) (A6 m c) (ix2 (row t r) j) := by
  have h := congrFun ((blocks13 m c t (flush0_13 t)).trans (flush13 m c t)) (ix2 r j)
  change (dats m 0 c).arrAt 13 cfg0.N (((cfg0.win 13).blk t).view.emb (ix2 r j)) = k0_pay11 (F := Ideal) _ _ _ _ (ix2 r j) at h
  rw [emb13, pay11, sa, sb, ya, yb] at h
  exact h.trans (ref31 _ _ _ _ _ _ _ _).symm

/-- The first branch's gradient. -/
theorem out14 : (dats m 0 c).arrAt 14 cfg0.N (ix2 (row t r) j)
    = val_main_v53 (F := Ideal) (A0 m c) (A3 m c) (A7 m c) (ix2 (row t r) j) := by
  have h := congrFun ((blocks14 m c t (flush0_14 t)).trans (flush14 m c t)) (ix2 r j)
  change (dats m 0 c).arrAt 14 cfg0.N (((cfg0.win 14).blk t).view.emb (ix2 r j)) = k0_pay16 (F := Ideal) _ _ (ix2 r j) at h
  rw [emb14, dya] at h
  exact h

/-- The second branch's gradient. -/
theorem out15 : (dats m 0 c).arrAt 15 cfg0.N (ix2 (row t r) j)
    = val_main_v54 (F := Ideal) (A0 m c) (A3 m c) (A7 m c) (ix2 (row t r) j) := by
  have h := congrFun ((blocks15 m c t (flush0_15 t)).trans (flush15 m c t)) (ix2 r j)
  change (dats m 0 c).arrAt 15 cfg0.N (((cfg0.win 15).blk t).view.emb (ix2 r j)) = k0_pay17 (F := Ideal) _ _ (ix2 r j) at h
  rw [emb15, dyb] at h
  exact h

/-- The gates' gradients: the left half of the block. -/
theorem gates_left (x0 : Vec Ideal S416x1024 .f32) (x1 x2 : Vec Ideal S416x1024 .bf16) (x3 x4 : Vec Ideal S416x1024 .f32)
    (x5 x6 : Vec Ideal S1024x1024 .bf16) (x7 : Vec Ideal S1x1024 .f32) (x8 : Vec Ideal S1024x1024 .bf16) :
    gates x0 x1 x2 x3 x4 x5 x6 x7 x8 (ix2 r (⟨j.val, by have := j.isLt; omega⟩ : Fin 2048))
      = k0_pay12 (F := Ideal) (k0_pay5 x0 x8) (k0_pay6 x1 x5) (k0_pay8 x3) (ix2 r j) := by
  unfold gates
  rw [View.canon_cons_of_not_mem]
  · refine Eq.trans ?_ (View.canon_cons_emb (Val := Elt Ideal) (Rect.unit (s := S416x2048) ![0, 0] S416x1024.size (by decide)) _ [] (ix2 r j))
    congr 1
    funext a
    match a with
    | ⟨0, _⟩ => exact Fin.ext (show r.val = 0 + 1 * r.val by omega)
    | ⟨1, _⟩ => exact Fin.ext (show j.val = 0 + 1 * j.val by omega)
  · rw [← Rect.map_emb_univ, Finset.mem_map]
    rintro ⟨x, -, hx⟩
    have h1 := congrArg (fun q : S416x2048.Idx => (q 1).val) hx
    have h2 : 1024 + 1 * (x 1).val = j.val := h1
    have := j.isLt
    omega

/-- The right half. -/
theorem gates_right (x0 : Vec Ideal S416x1024 .f32) (x1 x2 : Vec Ideal S416x1024 .bf16) (x3 x4 : Vec Ideal S416x1024 .f32)
    (x5 x6 : Vec Ideal S1024x1024 .bf16) (x7 : Vec Ideal S1x1024 .f32) (x8 : Vec Ideal S1024x1024 .bf16) :
    gates x0 x1 x2 x3 x4 x5 x6 x7 x8 (ix2 r (⟨1024 + j.val, by have := j.isLt; omega⟩ : Fin 2048))
      = k0_pay13 (F := Ideal) (k0_pay5 x0 x8) (k0_pay7 x2 x6 x7) (k0_pay9 x4) (ix2 r j) := by
  unfold gates
  refine Eq.trans ?_ (View.canon_cons_emb (Val := Elt Ideal) (Rect.unit (s := S416x2048) ![0, 1024] S416x1024.size (by decide)) _
    [⟨Rect.unit ![0, 0] S416x1024.size (by decide), k0_pay12 (k0_pay5 x0 x8) (k0_pay6 x1 x5) (k0_pay8 x3)⟩] (ix2 r j))
  congr 1
  funext a
  match a with
  | ⟨0, _⟩ => exact Fin.ext (show r.val = 0 + 1 * r.val by omega)
  | ⟨1, _⟩ => exact Fin.ext (show 1024 + j.val = 1024 + 1 * j.val by omega)

/-- The gradient of the first gate, in its columns of the projections' gradient. -/
theorem out11a : (dats m 0 c).arrAt 11 cfg0.N (ix2 (row t r) (at5 j))
    = val_main_v50 (F := Ideal) (A0 m c) (A1 m c) (A2 m c) (A3 m c) (A4 m c) (A5 m c) (A6 m c) (A7 m c) (ix2 (row t r) (at5 j)) := by
  have h := congrFun ((blocks11 m c t (flush0_11 t)).trans (flush11 m c t)) (ix2 r (⟨j.val, by have := j.isLt; omega⟩ : Fin 2048))
  change (dats m 0 c).arrAt 11 cfg0.N (((cfg0.win 11).blk t).view.emb (ix2 r (⟨j.val, by have := j.isLt; omega⟩ : Fin 2048)))
    = gates _ _ _ _ _ _ _ _ _ (ix2 r (⟨j.val, by have := j.isLt; omega⟩ : Fin 2048)) at h
  rw [emb11, gates_left, pay12, du, sa, ya] at h
  exact h.trans ((ref50a ..).trans (ref39 ..)).symm

/-- The gradient of the second gate, in its columns. -/
theorem out11b : (dats m 0 c).arrAt 11 cfg0.N (ix2 (row t r) (at6 j))
    = val_main_v50 (F := Ideal) (A0 m c) (A1 m c) (A2 m c) (A3 m c) (A4 m c) (A5 m c) (A6 m c) (A7 m c) (ix2 (row t r) (at6 j)) := by
  have h := congrFun ((blocks11 m c t (flush0_11 t)).trans (flush11 m c t)) (ix2 r (⟨1024 + j.val, by have := j.isLt; omega⟩ : Fin 2048))
  change (dats m 0 c).arrAt 11 cfg0.N (((cfg0.win 11).blk t).view.emb (ix2 r (⟨1024 + j.val, by have := j.isLt; omega⟩ : Fin 2048)))
    = gates _ _ _ _ _ _ _ _ _ (ix2 r (⟨1024 + j.val, by have := j.isLt; omega⟩ : Fin 2048)) at h
  rw [emb11, gates_right, pay13, du, sb, yb] at h
  have e : col 2048 2 (by decide) (⟨1024 + j.val, by have := j.isLt; omega⟩ : Fin 2048) = at6 j :=
    Fin.ext (show 2 * 2048 + (1024 + j.val) = 5120 + j.val by omega)
  rw [e] at h
  exact h.trans ((ref50b ..).trans (ref36 ..)).symm

/-! The bias gradient, accumulated over the ten tiles. -/

/-- What tile `n` adds. -/
def part (n : Nat) : EReal :=
  if h : n < 10 then ∑ r : Fin 416, val_main_v34 (F := Ideal) (A0 m c) (A3 m c) (A7 m c) (ix2 (row (⟨n, h⟩ : Fin 10) r) j) else 0

/-- A tile's addition to the bias gradient. -/
theorem bias_step (v : Vec Ideal S1x1024 .f32) :
    k0_pay15 (F := Ideal) (k0_pay5 (iblk m c 0 t) (iblk m c 8 t)) (k0_pay9 (iblk m c 4 t)) v (ix2 0 j)
      = v (ix2 0 j) + part m c j t.val := by
  rw [pay15, part, dif_pos (lt_ten t)]
  refine congrArg _ (Finset.sum_congr rfl fun r _ => ?_)
  rw [du, sb, ref34, mul_comm]
  rfl

/-- After tile `n` the block holds the sum of the tiles so far. -/
theorem bias_acc (n : Nat) : ∀ hn : n < cfg0.N, (outsAt0 m c n hn).2.2.2.2.2.2.2 (ix2 0 j) = ∑ i ∈ Finset.range (n + 1), part m c j i := by
  induction n with
  | zero =>
    intro hn
    rw [acc_first m c ⟨0, hn⟩ (Nat.zero_mod _), bias_step, pay3, zero_add]
    simp
  | succ n ih =>
    intro hn
    have h0 : ¬ (n + 1) % 10 = 0 := by have := lt_ten ⟨n + 1, hn⟩; simp only at this; omega
    rw [acc_next m c ⟨n + 1, hn⟩ h0 (Nat.lt_of_succ_lt hn), bias_step, Finset.sum_range_succ]
    exact congrArg (· + _) (ih _)

/-- A sum over all rows is the sum over the tiles of the sums over a tile's rows. -/
theorem sum_rows (f : Fin 4160 → EReal) : ∑ R : Fin 4160, f R = ∑ n : Fin 10, ∑ r : Fin 416, f (row n r) := by
  rw [← Fintype.sum_prod_type' (f := fun (n : Fin 10) (r : Fin 416) => f (row n r))]
  refine (Fintype.sum_equiv (finProdFinEquiv (m := 10) (n := 416)) _ _ fun x => ?_).symm
  exact congrArg f (Fin.ext (show x.1.val * 416 + x.2.val = x.2.val + 416 * x.1.val by omega))

/-- The bias gradient. -/
theorem out16 : (dats m 0 c).arrAt 16 cfg0.N (ix2 0 j)
    = val_main_v46 (F := Ideal) (A0 m c) (A3 m c) (A7 m c) (ix2 0 j) := by
  have hd : ∀ t t' : Fin cfg0.N, (cfg0.win 16).flush t = true → (cfg0.win 16).flush t' = true → t ≠ t' →
      Disjoint ((cfg0.win 16).blk t).view.set ((cfg0.win 16).blk t').view.set := fun t t' h h' hne => by
    have a := (flush0_16 t).mp h
    have b := (flush0_16 t').mp h'
    have := lt_ten t
    have := lt_ten t'
    exact absurd (Fin.ext (by omega)) hne
  have hl : (9 : Nat) < cfg0.N := by decide
  have h := congrFun (((dats m 0 c).read_blk_arrAt_eq_flushed 16 hd cfg0.N ⟨9, hl⟩ hl ((flush0_16 _).mpr rfl)).trans (flushed16 m c ⟨9, hl⟩)) (ix2 0 j)
  change (dats m 0 c).arrAt 16 cfg0.N (((cfg0.win 16).blk ⟨9, hl⟩).view.emb (ix2 0 j)) = (outsAt0 m c 9 hl).2.2.2.2.2.2.2 (ix2 0 j) at h
  rw [emb16, bias_acc] at h
  have e : ∑ i ∈ Finset.range (9 + 1), part m c j i = val_main_v46 (F := Ideal) (A0 m c) (A3 m c) (A7 m c) (ix2 0 j) := by
    rw [ref46, sum_rows, Finset.sum_range]
    exact Finset.sum_congr rfl fun n _ => by rw [part, dif_pos n.isLt]
  exact h.trans e

end Cert.Proof.Values
-- ==== Proof.Algebraic.lean ====
module

public import proofs.«01_k».proof.Defs
public import proofs.«01_k».proof.Proof.Values
public import proofs.«01_k».proof.Proof.Gen.ReferenceIdeal.Run
public import proofs.«01_k».proof.Proof.Gen.ReferenceIdeal
public import proofs.«01_k».proof.Proof.Gen.On_gate_columns

@[expose] public section

/-! The value claim of the merge's backward call: the kernel's arrays are the reference's, the projections' gradient
in the gates' columns (the call leaves the others to the recurrence and the convolution). -/

set_option maxRecDepth 16384

noncomputable section

namespace Cert.Proof.Algebraic

open Idealize.ShloMosaic Idealize.ShloMosaic.TcCoe Idealize.SL.Sem Cert.Proof.Values Cert.Proof.Blocks
  Cert.Proof.Reference Cert.ReferenceIdeal.Read

/-- The column test holds only from column 4096 on. -/
theorem column (X : IVec Cert.On_gate_columns.S4160x6144 1)
    (hX : X = cmpi .sge (iotaInDim Cert.On_gate_columns.S4160x6144 32 1) (fun _ => 4096#32))
    (R : Fin 4160) (C : Fin 6144) (h : X (ix2 R C) = 1#1) : 4096 ≤ C.val := by
  subst hX
  by_contra hc
  have hn : C.val < 4096 := by omega
  pointwise at h
  exact absurd h ((by decide +kernel : ∀ k : Fin 4096,
    IntOp.cmpi CmpIPredicate.sge (BitVec.ofNat 32 k.val) 4096#32 ≠ 1#1) ⟨C.val, hn⟩)

/-- A column of the last two groups of 1024 is in the first or the second of them. -/
theorem gate_col (C : Fin 6144) (h : 4096 ≤ C.val) : ∃ j : Fin 1024, C = at5 j ∨ C = at6 j := by
  have := C.isLt
  by_cases hc : C.val < 5120
  · exact ⟨⟨C.val - 4096, by omega⟩, .inl (Fin.ext (by show C.val = 4096 + (C.val - 4096); omega))⟩
  · exact ⟨⟨C.val - 5120, by omega⟩, .inr (Fin.ext (by show C.val = 5120 + (C.val - 5120); omega))⟩

/-- Two arrays of 4160 rows that agree in every tile are one. -/
theorem ext_rows {e : EltTy} (f g : Vec Ideal (⟨2, ![4160, 1024]⟩ : Shape) e)
    (h : ∀ (t : Fin Cert.KernelIdeal.cfg0.N) (r : Fin 416) (j : Fin 1024), f (ix2 (row t r) j) = g (ix2 (row t r) j)) : f = g := by
  funext i
  obtain ⟨R, C, rfl⟩ : ∃ R C, i = ix2 R C := ⟨_, _, eq_ix2 i⟩
  obtain ⟨t, r, rfl⟩ := exists_row R
  exact h t r C

/-- The kernel's results are the reference's: the projections' gradient in the gates' columns, the others everywhere. -/
theorem algebraic : Cert.algebraic_KernelIdeal_ReferenceIdeal_on_gate_columns := by
  intro m g m' g' _ hm
  refine ⟨fun c => val_main_v41 (F := Ideal) (A0 m c) (A3 m c) (A4 m c) (A7 m c),
    fun c => val_main_v47 (F := Ideal) (A0 m c) (A3 m c) (A5 m c) (A7 m c),
    fun c => val_main_v50 (F := Ideal) (A0 m c) (A1 m c) (A2 m c) (A3 m c) (A4 m c) (A5 m c) (A6 m c) (A7 m c),
    fun c => val_main_v51 (F := Ideal) (A0 m c),
    fun c => val_main_v52 (F := Ideal) (A1 m c) (A2 m c) (A3 m c) (A4 m c) (A5 m c) (A6 m c),
    fun c => val_main_v53 (F := Ideal) (A0 m c) (A3 m c) (A7 m c),
    fun c => val_main_v54 (F := Ideal) (A0 m c) (A3 m c) (A7 m c),
    fun c => val_main_v46 (F := Ideal) (A0 m c) (A3 m c) (A7 m c), ?_, ?_⟩
  · refine (θ_run Cert.KernelIdeal.defs _ _).mono (fun r h c => ?_) (Cert.KernelIdeal.Value.run_blocks (F := Ideal) m g)
    obtain ⟨h0, h1, h2, h3, h4, h5, h6, h7, ha⟩ := h c
    refine ⟨fun i _ => ?_, fun i _ => ?_, fun i hi => ?_, fun i _ => ?_, fun i _ => ?_, fun i _ => ?_, fun i _ => ?_, fun i _ => ?_, ha⟩
    · exact congrFun (h0.trans (ext_rows (e := .f32) _ _ fun t r j => out9 m c t r j)) i
    · exact congrFun (h1.trans (ext_rows (e := .f32) _ _ fun t r j => out10 m c t r j)) i
    · obtain ⟨R, C, rfl⟩ : ∃ R C, i = ix2 R C := ⟨_, _, eq_ix2 i⟩
      refine (congrFun h2 _).trans ?_
      obtain ⟨t, r, rfl⟩ := exists_row R
      obtain ⟨j, rfl | rfl⟩ := gate_col C (column _ rfl _ _ hi)
      · exact out11a m c t r j
      · exact out11b m c t r j
    · exact congrFun (h3.trans (ext_rows (e := .bf16) _ _ fun t r j => out12 m c t r j)) i
    · exact congrFun (h4.trans (ext_rows (e := .bf16) _ _ fun t r j => out13 m c t r j)) i
    · exact congrFun (h5.trans (ext_rows (e := .bf16) _ _ fun t r j => out14 m c t r j)) i
    · exact congrFun (h6.trans (ext_rows (e := .bf16) _ _ fun t r j => out15 m c t r j)) i
    · obtain ⟨R, C, rfl⟩ : ∃ R C, i = ix2 R C := ⟨_, _, eq_ix2 i⟩
      refine (congrFun h7 _).trans ?_
      obtain rfl : R = 0 := Subsingleton.elim _ _
      exact out16 m c C
  · refine (θ_run Cert.ReferenceIdeal.defs _ _).mono (fun r h c => ?_) (Cert.ReferenceIdeal.Value.run (F := Ideal) m' g')
    obtain ⟨a0, a1, a2, a3, a4, a5, a6, a7⟩ := hm c
    obtain ⟨h0, h1, h2, h3, h4, h5, h6, h7, ha⟩ := h c
    rw [a0, a3, a4, a7] at h0
    rw [a0, a3, a5, a7] at h1
    rw [a0, a1, a2, a3, a4, a5, a6, a7] at h2
    rw [a0] at h3
    rw [a1, a2, a3, a4, a5, a6] at h4
    rw [a0, a3, a7] at h5 h6 h7
    exact ⟨fun i _ => congrFun h0 i, fun i _ => congrFun h1 i, fun i _ => congrFun h2 i, fun i _ => congrFun h3 i,
      fun i _ => congrFun h4 i, fun i _ => congrFun h5 i, fun i _ => congrFun h6 i, fun i _ => congrFun h7 i, ha⟩

end Cert.Proof.Algebraic
-- ==== Proof.Ffn.Pieces.lean ====
module

public import proofs.«01_k».proof.Proof.Gen.FfnKernelIdeal.Value
public import Idealize.ShloMosaic.Lib.Pipeline.FrameBody

@[expose] public section

/-! What the body of the feed-forward backward call leaves in each output's block, as the named payload functions of
the blocks it loads.  The gradients of the two halves of the wide product are stored in twelve column pieces each
(five of 256 columns and one of 128 in each half of 1408); the input gradient is computed from what these stores
left, so the pieces enter it as a list.  All of this holds in every float model. -/

set_option maxRecDepth 16384

noncomputable section

namespace Cert.Proof.Ffn

open Cert.FfnKernelIdeal Cert.FfnKernelIdeal.Gen Cert.FfnKernelIdeal.Value Idealize.ShloMosaic Idealize.ShloMosaic.TcCoe
  Idealize.SL.Sem

variable {F : FTy → Type} [FloatOps F]

theorem hz : (![0, 0] : Fin 2 → Nat) = fun _ => 0 := funext fun a => by fin_cases a <;> rfl

/-- The 1408 columns at offset `o` of a block filled by the pieces `L`. -/
def cols (L : List (View.Piece (Elt F) S416x2816 .bf16)) (o : Fin 2 → Nat)
    (h : ∀ a, o a + S416x1408.size a ≤ S416x2816.size a) : Vec F S416x1408 .bf16 :=
  fun j => View.canon (Val := Elt F) L ((Rect.unit (s := S416x2816) o S416x1408.size h).emb j)

/-- The pieces of the gradient of the gate half, the columns of half 1, the last one first. -/
def gate1 (x0 : Vec F S416x1024 .f32) (x3 x4 : Vec F S416x2816 .bf16) (x6 : Vec F S2x1408x1024 .bf16) : List (View.Piece (Elt F) S416x2816 .bf16) :=
  [⟨Rect.unit ![0, 1280] S416x128.size (by decide), (k0_pay39 (k0_pay38 (k0_pay6 x0) (View.ld x6 (Rect.unit ![0, 1280, 0] S1x128x1024.size (by decide))) (View.ld x3 (Rect.unit ![0, 1280] S416x128.size (by decide))) (View.ld x4 (Rect.unit ![0, 1280] S416x128.size (by decide)))))⟩,
   ⟨Rect.unit ![0, 1024] S416x256.size (by decide), (k0_pay33 (k0_pay27 (k0_pay6 x0) (View.ld x6 (Rect.unit ![0, 1024, 0] S1x256x1024.size (by decide)))) (k0_pay28 (View.ld x3 (Rect.unit ![0, 1024] S416x256.size (by decide)))) (k0_pay29 (View.ld x4 (Rect.unit ![0, 1024] S416x256.size (by decide)))) (k0_pay30 (View.ld x3 (Rect.unit ![0, 1024] S416x256.size (by decide)))) (k0_pay31))⟩,
   ⟨Rect.unit ![0, 768] S416x256.size (by decide), (k0_pay25 (k0_pay22 (k0_pay6 x0) (View.ld x6 (Rect.unit ![0, 768, 0] S1x256x1024.size (by decide)))) (k0_pay23 (View.ld x3 (Rect.unit ![0, 768] S416x256.size (by decide)))) (View.ld x4 (Rect.unit ![0, 768] S416x256.size (by decide))))⟩,
   ⟨Rect.unit ![0, 512] S416x256.size (by decide), (k0_pay20 (k0_pay6 x0) (View.ld x6 (Rect.unit ![0, 512, 0] S1x256x1024.size (by decide))) (View.ld x3 (Rect.unit ![0, 512] S416x256.size (by decide))) (View.ld x4 (Rect.unit ![0, 512] S416x256.size (by decide))))⟩,
   ⟨Rect.unit ![0, 256] S416x256.size (by decide), (k0_pay15 (k0_pay6 x0) (View.ld x6 (Rect.unit ![0, 256, 0] S1x256x1024.size (by decide))) (View.ld x3 (Rect.unit ![0, 256] S416x256.size (by decide))) (View.ld x4 (Rect.unit ![0, 256] S416x256.size (by decide))))⟩,
   ⟨Rect.unit ![0, 0] S416x256.size (by decide), (k0_pay10 x0 (View.ld x6 (Rect.unit ![0, 0, 0] S1x256x1024.size (by decide))) (View.ld x3 (Rect.unit ![0, 0] S416x256.size (by decide))) (View.ld x4 (Rect.unit ![0, 0] S416x256.size (by decide))))⟩]

/-- The pieces of the gradient of the gate half, the columns of half 2, the last one first. -/
def gate2 (x0 : Vec F S416x1024 .f32) (x3 x4 : Vec F S416x2816 .bf16) (x6 : Vec F S2x1408x1024 .bf16) : List (View.Piece (Elt F) S416x2816 .bf16) :=
  [⟨Rect.unit ![0, 2688] S416x128.size (by decide), (k0_pay76 (k0_pay71 (k0_pay6 x0) (View.ld x6 (Rect.unit ![1, 1280, 0] S1x128x1024.size (by decide)))) (k0_pay72 (View.ld x3 (Rect.unit ![0, 2688] S416x128.size (by decide)))) (k0_pay73 (View.ld x4 (Rect.unit ![0, 2688] S416x128.size (by decide)))) (k0_pay74 (View.ld x3 (Rect.unit ![0, 2688] S416x128.size (by decide)))))⟩,
   ⟨Rect.unit ![0, 2432] S416x256.size (by decide), (k0_pay69 ((k0_pay66 (k0_pay6 x0) (View.ld x6 (Rect.unit ![1, 1024, 0] S1x256x1024.size (by decide))))) (View.ld x3 (Rect.unit ![0, 2432] S416x256.size (by decide))) (View.ld x4 (Rect.unit ![0, 2432] S416x256.size (by decide))))⟩,
   ⟨Rect.unit ![0, 2176] S416x256.size (by decide), (k0_pay64 (k0_pay6 x0) (View.ld x6 (Rect.unit ![1, 768, 0] S1x256x1024.size (by decide))) (View.ld x3 (Rect.unit ![0, 2176] S416x256.size (by decide))) (View.ld x4 (Rect.unit ![0, 2176] S416x256.size (by decide))))⟩,
   ⟨Rect.unit ![0, 1920] S416x256.size (by decide), (k0_pay59 (k0_pay6 x0) (View.ld x6 (Rect.unit ![1, 512, 0] S1x256x1024.size (by decide))) (View.ld x3 (Rect.unit ![0, 1920] S416x256.size (by decide))) (View.ld x4 (Rect.unit ![0, 1920] S416x256.size (by decide))))⟩,
   ⟨Rect.unit ![0, 1664] S416x256.size (by decide), (k0_pay54 (k0_pay52 (k0_pay6 x0) (View.ld x6 (Rect.unit ![1, 256, 0] S1x256x1024.size (by decide))) (View.ld x4 (Rect.unit ![0, 1664] S416x256.size (by decide)))) (k0_pay53 (View.ld x3 (Rect.unit ![0, 1664] S416x256.size (by decide)))))⟩,
   ⟨Rect.unit ![0, 1408] S416x256.size (by decide), (k0_pay47 (k0_pay42 (k0_pay6 x0) (View.ld x6 (Rect.unit ![1, 0, 0] S1x256x1024.size (by decide)))) (k0_pay43 (View.ld x3 (Rect.unit ![0, 1408] S416x256.size (by decide)))) (k0_pay44 (View.ld x4 (Rect.unit ![0, 1408] S416x256.size (by decide)))) (k0_pay45 (View.ld x3 (Rect.unit ![0, 1408] S416x256.size (by decide)))) (Scalar.ofBits .f32 0x3F000000#32))⟩]

/-- The pieces of the gradient of the other half, the columns of half 1, the last one first. -/
def up1 (x0 : Vec F S416x1024 .f32) (x3 : Vec F S416x2816 .bf16) (x6 : Vec F S2x1408x1024 .bf16) : List (View.Piece (Elt F) S416x2816 .bf16) :=
  [⟨Rect.unit ![0, 1280] S416x128.size (by decide), (k0_pay40 (k0_pay35 (k0_pay6 x0) (View.ld x6 (Rect.unit ![0, 1280, 0] S1x128x1024.size (by decide)))) (k0_pay36 (View.ld x3 (Rect.unit ![0, 1280] S416x128.size (by decide)))) (k0_pay37 (View.ld x3 (Rect.unit ![0, 1280] S416x128.size (by decide)))))⟩,
   ⟨Rect.unit ![0, 1024] S416x256.size (by decide), (k0_pay34 (k0_pay27 (k0_pay6 x0) (View.ld x6 (Rect.unit ![0, 1024, 0] S1x256x1024.size (by decide)))) (k0_pay28 (View.ld x3 (Rect.unit ![0, 1024] S416x256.size (by decide)))) (k0_pay30 (View.ld x3 (Rect.unit ![0, 1024] S416x256.size (by decide)))) (k0_pay31))⟩,
   ⟨Rect.unit ![0, 768] S416x256.size (by decide), (k0_pay26 (k0_pay22 (k0_pay6 x0) (View.ld x6 (Rect.unit ![0, 768, 0] S1x256x1024.size (by decide)))) (k0_pay23 (View.ld x3 (Rect.unit ![0, 768] S416x256.size (by decide)))))⟩,
   ⟨Rect.unit ![0, 512] S416x256.size (by decide), (k0_pay21 (k0_pay6 x0) (View.ld x6 (Rect.unit ![0, 512, 0] S1x256x1024.size (by decide))) (View.ld x3 (Rect.unit ![0, 512] S416x256.size (by decide))))⟩,
   ⟨Rect.unit ![0, 256] S416x256.size (by decide), (k0_pay16 (k0_pay6 x0) (View.ld x6 (Rect.unit ![0, 256, 0] S1x256x1024.size (by decide))) (View.ld x3 (Rect.unit ![0, 256] S416x256.size (by decide))))⟩,
   ⟨Rect.unit ![0, 0] S416x256.size (by decide), (k0_pay11 (k0_pay7 x0 (View.ld x6 (Rect.unit ![0, 0, 0] S1x256x1024.size (by decide)))) (k0_pay8 (View.ld x3 (Rect.unit ![0, 0] S416x256.size (by decide)))) (k0_pay9 (View.ld x3 (Rect.unit ![0, 0] S416x256.size (by decide)))))⟩]

/-- The pieces of the gradient of the other half, the columns of half 2, the last one first. -/
def up2 (x0 : Vec F S416x1024 .f32) (x3 : Vec F S416x2816 .bf16) (x6 : Vec F S2x1408x1024 .bf16) : List (View.Piece (Elt F) S416x2816 .bf16) :=
  [⟨Rect.unit ![0, 2688] S416x128.size (by decide), (k0_pay77 (k0_pay71 (k0_pay6 x0) (View.ld x6 (Rect.unit ![1, 1280, 0] S1x128x1024.size (by decide)))) (k0_pay72 (View.ld x3 (Rect.unit ![0, 2688] S416x128.size (by decide)))) (k0_pay74 (View.ld x3 (Rect.unit ![0, 2688] S416x128.size (by decide)))))⟩,
   ⟨Rect.unit ![0, 2432] S416x256.size (by decide), (k0_pay70 ((k0_pay66 (k0_pay6 x0) (View.ld x6 (Rect.unit ![1, 1024, 0] S1x256x1024.size (by decide))))) (View.ld x3 (Rect.unit ![0, 2432] S416x256.size (by decide))))⟩,
   ⟨Rect.unit ![0, 2176] S416x256.size (by decide), (k0_pay65 (k0_pay6 x0) (View.ld x6 (Rect.unit ![1, 768, 0] S1x256x1024.size (by decide))) (View.ld x3 (Rect.unit ![0, 2176] S416x256.size (by decide))))⟩,
   ⟨Rect.unit ![0, 1920] S416x256.size (by decide), ((k0_pay60 (k0_pay6 x0) (View.ld x6 (Rect.unit ![1, 512, 0] S1x256x1024.size (by decide))) (View.ld x3 (Rect.unit ![0, 1920] S416x256.size (by decide)))))⟩,
   ⟨Rect.unit ![0, 1664] S416x256.size (by decide), (k0_pay55 (k0_pay49 (k0_pay6 x0) (View.ld x6 (Rect.unit ![1, 256, 0] S1x256x1024.size (by decide)))) (k0_pay50 (View.ld x3 (Rect.unit ![0, 1664] S416x256.size (by decide)))) (k0_pay51 (View.ld x3 (Rect.unit ![0, 1664] S416x256.size (by decide)))))⟩,
   ⟨Rect.unit ![0, 1408] S416x256.size (by decide), (k0_pay48 (k0_pay42 (k0_pay6 x0) (View.ld x6 (Rect.unit ![1, 0, 0] S1x256x1024.size (by decide)))) (k0_pay43 (View.ld x3 (Rect.unit ![0, 1408] S416x256.size (by decide)))) (k0_pay45 (View.ld x3 (Rect.unit ![0, 1408] S416x256.size (by decide)))) (Scalar.ofBits .f32 0x3F000000#32))⟩]

/-- The gradient of the normalised rows: the four products of 1408 columns. -/
def dn (x0 : Vec F S416x1024 .f32) (x3 x4 : Vec F S416x2816 .bf16) (x6 : Vec F S2x1408x1024 .bf16) (x5 : Vec F S4x1024x1408 .bf16) : Vec F S416x1024 .f32 :=
  k0_pay78
    (k0_pay41 (cols (gate1 x0 x3 x4 x6) ![0, 0] (by decide)) (View.ld x5 (Rect.unit ![0, 0, 0] S1x1024x1408.size (by decide)))
      (cols (up1 x0 x3 x6) ![0, 0] (by decide)) (View.ld x5 (Rect.unit ![2, 0, 0] S1x1024x1408.size (by decide))))
    (cols (gate2 x0 x3 x4 x6 ++ gate1 x0 x3 x4 x6) ![0, 1408] (by decide)) (View.ld x5 (Rect.unit ![1, 0, 0] S1x1024x1408.size (by decide)))
    (cols (up2 x0 x3 x6 ++ up1 x0 x3 x6) ![0, 1408] (by decide)) (View.ld x5 (Rect.unit ![3, 0, 0] S1x1024x1408.size (by decide)))

section Body

variable (c : Dev nD) (i : grid0.Coords) (arg1 : Memref sig .tc .vmem S416x1024 .f32) (harg1 : arg1.IsWhole) (arg2 : Memref sig .tc .vmem S416x1024 .f32) (harg2 : arg2.IsWhole) (arg3 : Memref sig .tc .vmem S1x1024 .f32) (harg3 : arg3.IsWhole) (arg4 : Memref sig .tc .vmem S416x2816 .bf16) (harg4 : arg4.IsWhole) (arg5 : Memref sig .tc .vmem S416x2816 .bf16) (harg5 : arg5.IsWhole) (arg6 : Memref sig .tc .vmem S4x1024x1408 .bf16) (harg6 : arg6.IsWhole) (arg7 : Memref sig .tc .vmem S2x1408x1024 .bf16) (harg7 : arg7.IsWhole) (arg8 : Memref sig .tc .vmem S416x1024 .f32) (harg8 : arg8.IsWhole) (arg9 : Memref sig .tc .vmem S416x2816 .bf16) (harg9 : arg9.IsWhole) (arg10 : Memref sig .tc .vmem S416x2816 .bf16) (harg10 : arg10.IsWhole) (arg11 : Memref sig .tc .vmem S416x1024 .bf16) (harg11 : arg11.IsWhole) (arg12 : Memref sig .tc .vmem S1x1024 .f32) (harg12 : arg12.IsWhole) (x0 : Vec F S416x1024 .f32) (x1 : Vec F S416x1024 .f32) (x2 : Vec F S1x1024 .f32) (x3 : Vec F S416x2816 .bf16) (x4 : Vec F S416x2816 .bf16) (x5 : Vec F S4x1024x1408 .bf16) (x6 : Vec F S2x1408x1024 .bf16)

/-- At the first point: the gradient of the input. -/
theorem outA_7 (hc0 : cond0_0 i) :
    out0_A_7 c i arg1 harg1 arg2 harg2 arg3 harg3 arg4 harg4 arg5 harg5 arg6 harg6 arg7 harg7 arg8 harg8 arg9 harg9 arg10 harg10 arg11 harg11 arg12 harg12 hc0 x0 x1 x2 x3 x4 x5 x6
      = k0_pay4 x0 (dn x0 x3 x4 x6 x5) x1 x2 (k0_pay79 x1) := by
  unfold out0_A_7
  rw [View.read_writes_junk_eq_canon]
  unfold kernelRun0_A
  dsimp only
  sl_unfold_words
  simp only [View.readAt_eq_ld, Memref.IsWhole.read_unread, View.ld_unit_zero (S := S416x1024) hz, View.ld_unit_zero (S := S1x1024) hz,
    View.canon_cons_unit_zero (S := S416x1024) hz, View.canon_cons_unit_zero (S := S1x1024) hz, View.readCov_unit_zero (S := S1x1024) _ hz,
    View.readCov_eq_canon']
  rfl

/-- At the first point: the gradient of the gate half. -/
theorem outA_8 (hc0 : cond0_0 i) :
    out0_A_8 c i arg1 harg1 arg2 harg2 arg3 harg3 arg4 harg4 arg5 harg5 arg6 harg6 arg7 harg7 arg8 harg8 arg9 harg9 arg10 harg10 arg11 harg11 arg12 harg12 hc0 x0 x1 x2 x3 x4 x5 x6
      = View.canon (Val := Elt F) (gate2 x0 x3 x4 x6 ++ gate1 x0 x3 x4 x6) := by
  unfold out0_A_8
  rw [View.read_writes_junk_eq_canon]
  unfold kernelRun0_A
  dsimp only
  sl_unfold_words
  simp only [View.readAt_eq_ld, Memref.IsWhole.read_unread, View.ld_unit_zero (S := S416x1024) hz, View.ld_unit_zero (S := S1x1024) hz,
    View.canon_cons_unit_zero (S := S416x1024) hz, View.canon_cons_unit_zero (S := S1x1024) hz, View.readCov_unit_zero (S := S1x1024) _ hz,
    View.readCov_eq_canon']
  rfl

/-- At the first point: the gradient of the other half. -/
theorem outA_9 (hc0 : cond0_0 i) :
    out0_A_9 c i arg1 harg1 arg2 harg2 arg3 harg3 arg4 harg4 arg5 harg5 arg6 harg6 arg7 harg7 arg8 harg8 arg9 harg9 arg10 harg10 arg11 harg11 arg12 harg12 hc0 x0 x1 x2 x3 x4 x5 x6
      = View.canon (Val := Elt F) (up2 x0 x3 x6 ++ up1 x0 x3 x6) := by
  unfold out0_A_9
  rw [View.read_writes_junk_eq_canon]
  unfold kernelRun0_A
  dsimp only
  sl_unfold_words
  simp only [View.readAt_eq_ld, Memref.IsWhole.read_unread, View.ld_unit_zero (S := S416x1024) hz, View.ld_unit_zero (S := S1x1024) hz,
    View.canon_cons_unit_zero (S := S416x1024) hz, View.canon_cons_unit_zero (S := S1x1024) hz, View.readCov_unit_zero (S := S1x1024) _ hz,
    View.readCov_eq_canon']
  rfl

/-- At the first point: the halved incoming gradient. -/
theorem outA_10 (hc0 : cond0_0 i) :
    out0_A_10 c i arg1 harg1 arg2 harg2 arg3 harg3 arg4 harg4 arg5 harg5 arg6 harg6 arg7 harg7 arg8 harg8 arg9 harg9 arg10 harg10 arg11 harg11 arg12 harg12 hc0 x0 x1 x2 x3 x4 x5 x6
      = k0_pay6 x0 := by
  unfold out0_A_10
  rw [View.read_writes_junk_eq_canon]
  unfold kernelRun0_A
  dsimp only
  sl_unfold_words
  simp only [View.readAt_eq_ld, Memref.IsWhole.read_unread, View.ld_unit_zero (S := S416x1024) hz, View.ld_unit_zero (S := S1x1024) hz,
    View.canon_cons_unit_zero (S := S416x1024) hz, View.canon_cons_unit_zero (S := S1x1024) hz, View.readCov_unit_zero (S := S1x1024) _ hz,
    View.readCov_eq_canon']

/-- At the first point: the gradient of the scale. -/
theorem outA_11 (hc0 : cond0_0 i) :
    out0_A_11 c i arg1 harg1 arg2 harg2 arg3 harg3 arg4 harg4 arg5 harg5 arg6 harg6 arg7 harg7 arg8 harg8 arg9 harg9 arg10 harg10 arg11 harg11 arg12 harg12 hc0 x0 x1 x2 x3 x4 x5 x6
      = k0_pay3 (dn x0 x3 x4 x6 x5) x1 (k0_pay79 x1) k0_pay5 := by
  unfold out0_A_11
  rw [View.read_writes_junk_eq_canon]
  unfold kernelRun0_A
  dsimp only
  sl_unfold_words
  simp only [View.readAt_eq_ld, Memref.IsWhole.read_unread, View.ld_unit_zero (S := S416x1024) hz, View.ld_unit_zero (S := S1x1024) hz,
    View.canon_cons_unit_zero (S := S416x1024) hz, View.canon_cons_unit_zero (S := S1x1024) hz, View.readCov_unit_zero (S := S1x1024) _ hz,
    View.readCov_eq_canon']
  rfl

/-- At a later point: the gradient of the input. -/
theorem outB_7 (hc0 : ¬cond0_0 i) (xo11 : Vec F S1x1024 .f32) :
    out0_B_7 c i arg1 harg1 arg2 harg2 arg3 harg3 arg4 harg4 arg5 harg5 arg6 harg6 arg7 harg7 arg8 harg8 arg9 harg9 arg10 harg10 arg11 harg11 arg12 harg12 hc0 x0 x1 x2 x3 x4 x5 x6 xo11
      = k0_pay4 x0 (dn x0 x3 x4 x6 x5) x1 x2 (k0_pay79 x1) := by
  unfold out0_B_7
  rw [View.read_writes_junk_eq_canon]
  unfold kernelRun0_B
  dsimp only
  sl_unfold_words
  simp only [View.readAt_eq_ld, Memref.IsWhole.read_unread, View.ld_unit_zero (S := S416x1024) hz, View.ld_unit_zero (S := S1x1024) hz,
    View.canon_cons_unit_zero (S := S416x1024) hz, View.canon_cons_unit_zero (S := S1x1024) hz, View.readCov_unit_zero (S := S1x1024) _ hz,
    View.readCov_eq_canon']
  rfl

/-- At a later point: the gradient of the gate half. -/
theorem outB_8 (hc0 : ¬cond0_0 i) (xo11 : Vec F S1x1024 .f32) :
    out0_B_8 c i arg1 harg1 arg2 harg2 arg3 harg3 arg4 harg4 arg5 harg5 arg6 harg6 arg7 harg7 arg8 harg8 arg9 harg9 arg10 harg10 arg11 harg11 arg12 harg12 hc0 x0 x1 x2 x3 x4 x5 x6 xo11
      = View.canon (Val := Elt F) (gate2 x0 x3 x4 x6 ++ gate1 x0 x3 x4 x6) := by
  unfold out0_B_8
  rw [View.read_writes_junk_eq_canon]
  unfold kernelRun0_B
  dsimp only
  sl_unfold_words
  simp only [View.readAt_eq_ld, Memref.IsWhole.read_unread, View.ld_unit_zero (S := S416x1024) hz, View.ld_unit_zero (S := S1x1024) hz,
    View.canon_cons_unit_zero (S := S416x1024) hz, View.canon_cons_unit_zero (S := S1x1024) hz, View.readCov_unit_zero (S := S1x1024) _ hz,
    View.readCov_eq_canon']
  rfl

/-- At a later point: the gradient of the other half. -/
theorem outB_9 (hc0 : ¬cond0_0 i) (xo11 : Vec F S1x1024 .f32) :
    out0_B_9 c i arg1 harg1 arg2 harg2 arg3 harg3 arg4 harg4 arg5 harg5 arg6 harg6 arg7 harg7 arg8 harg8 arg9 harg9 arg10 harg10 arg11 harg11 arg12 harg12 hc0 x0 x1 x2 x3 x4 x5 x6 xo11
      = View.canon (Val := Elt F) (up2 x0 x3 x6 ++ up1 x0 x3 x6) := by
  unfold out0_B_9
  rw [View.read_writes_junk_eq_canon]
  unfold kernelRun0_B
  dsimp only
  sl_unfold_words
  simp only [View.readAt_eq_ld, Memref.IsWhole.read_unread, View.ld_unit_zero (S := S416x1024) hz, View.ld_unit_zero (S := S1x1024) hz,
    View.canon_cons_unit_zero (S := S416x1024) hz, View.canon_cons_unit_zero (S := S1x1024) hz, View.readCov_unit_zero (S := S1x1024) _ hz,
    View.readCov_eq_canon']
  rfl

/-- At a later point: the halved incoming gradient. -/
theorem outB_10 (hc0 : ¬cond0_0 i) (xo11 : Vec F S1x1024 .f32) :
    out0_B_10 c i arg1 harg1 arg2 harg2 arg3 harg3 arg4 harg4 arg5 harg5 arg6 harg6 arg7 harg7 arg8 harg8 arg9 harg9 arg10 harg10 arg11 harg11 arg12 harg12 hc0 x0 x1 x2 x3 x4 x5 x6 xo11
      = k0_pay6 x0 := by
  unfold out0_B_10
  rw [View.read_writes_junk_eq_canon]
  unfold kernelRun0_B
  dsimp only
  sl_unfold_words
  simp only [View.readAt_eq_ld, Memref.IsWhole.read_unread, View.ld_unit_zero (S := S416x1024) hz, View.ld_unit_zero (S := S1x1024) hz,
    View.canon_cons_unit_zero (S := S416x1024) hz, View.canon_cons_unit_zero (S := S1x1024) hz, View.readCov_unit_zero (S := S1x1024) _ hz,
    View.readCov_eq_canon']

/-- At a later point: the gradient of the scale. -/
theorem outB_11 (hc0 : ¬cond0_0 i) (xo11 : Vec F S1x1024 .f32) :
    out0_B_11 c i arg1 harg1 arg2 harg2 arg3 harg3 arg4 harg4 arg5 harg5 arg6 harg6 arg7 harg7 arg8 harg8 arg9 harg9 arg10 harg10 arg11 harg11 arg12 harg12 hc0 x0 x1 x2 x3 x4 x5 x6 xo11
      = k0_pay3 (dn x0 x3 x4 x6 x5) x1 (k0_pay79 x1) xo11 := by
  unfold out0_B_11
  rw [View.read_writes_junk_eq_canon]
  unfold kernelRun0_B
  dsimp only
  sl_unfold_words
  simp only [View.readAt_eq_ld, Memref.IsWhole.read_unread, View.ld_unit_zero (S := S416x1024) hz, View.ld_unit_zero (S := S1x1024) hz,
    View.canon_cons_unit_zero (S := S416x1024) hz, View.canon_cons_unit_zero (S := S1x1024) hz, View.readCov_unit_zero (S := S1x1024) _ hz,
    View.readCov_eq_canon']
  rfl

end Body

variable (m : ∀ l, Buf (Elt F) l) (c : Dev nD) (t : Fin cfg0.N)

/-- What every point sends to output 7: the gradient of the input. -/
theorem flush7 : (dats m 0 c).flushed 7 t
    = (cfg0.win 7).cut (grid0.coords t) (k0_pay4 (iblk m c 0 t) (dn (iblk m c 0 t) (iblk m c 3 t) (iblk m c 4 t) (iblk m c 6 t) (iblk m c 5 t)) (iblk m c 1 t) (iblk m c 2 t) (k0_pay79 (iblk m c 1 t))) := by
  by_cases h0 : t.val % 10 = 0
  · rw [flushed7_A m c t h0, outA_7]
  · rw [flushed7_B m c t h0, outB_7]

/-- What every point sends to output 8: the gradient of the gate half. -/
theorem flush8 : (dats m 0 c).flushed 8 t
    = (cfg0.win 8).cut (grid0.coords t) (View.canon (Val := Elt F) (gate2 (iblk m c 0 t) (iblk m c 3 t) (iblk m c 4 t) (iblk m c 6 t) ++ gate1 (iblk m c 0 t) (iblk m c 3 t) (iblk m c 4 t) (iblk m c 6 t))) := by
  by_cases h0 : t.val % 10 = 0
  · rw [flushed8_A m c t h0, outA_8]
  · rw [flushed8_B m c t h0, outB_8]

/-- What every point sends to output 9: the gradient of the other half. -/
theorem flush9 : (dats m 0 c).flushed 9 t
    = (cfg0.win 9).cut (grid0.coords t) (View.canon (Val := Elt F) (up2 (iblk m c 0 t) (iblk m c 3 t) (iblk m c 6 t) ++ up1 (iblk m c 0 t) (iblk m c 3 t) (iblk m c 6 t))) := by
  by_cases h0 : t.val % 10 = 0
  · rw [flushed9_A m c t h0, outA_9]
  · rw [flushed9_B m c t h0, outB_9]

/-- What every point sends to output 10: the halved incoming gradient. -/
theorem flush10 : (dats m 0 c).flushed 10 t
    = (cfg0.win 10).cut (grid0.coords t) (k0_pay6 (iblk m c 0 t)) := by
  by_cases h0 : t.val % 10 = 0
  · rw [flushed10_A m c t h0, outA_10]
  · rw [flushed10_B m c t h0, outB_10]

/-- The scale's gradient after the first point. -/
theorem acc_first (h0 : t.val % 10 = 0) : (outsAt0 m c t.val t.isLt).2.2.2.2
    = k0_pay3 (dn (iblk m c 0 t) (iblk m c 3 t) (iblk m c 4 t) (iblk m c 6 t) (iblk m c 5 t)) (iblk m c 1 t) (k0_pay79 (iblk m c 1 t)) k0_pay5 := by
  rw [outsAt0_A m c t h0]
  dsimp only
  rw [outA_11]

/-- The scale's gradient after a later point, from what stood there after the point before. -/
theorem acc_next (h0 : ¬t.val % 10 = 0) (hp : t.val - 1 < cfg0.N) : (outsAt0 m c t.val t.isLt).2.2.2.2
    = k0_pay3 (dn (iblk m c 0 t) (iblk m c 3 t) (iblk m c 4 t) (iblk m c 6 t) (iblk m c 5 t)) (iblk m c 1 t) (k0_pay79 (iblk m c 1 t)) (outsAt0 m c (t.val - 1) hp).2.2.2.2 := by
  rw [outsAt0_B m c t h0]
  dsimp only
  rw [outB_11]

end Cert.Proof.Ffn
-- ==== Proof.RmsGrad.lean ====
module

public import Idealize.ShloMosaic.Lib.IdealHost

@[expose] public section

/-! The gradient of the root-mean-square norm of one row of 1024 numbers, `x ↦ x · (mean x² + ε)^(-1/2) · γ`.  The
kernel writes it as `ρ (δγ - n · mean (δγ n))` with `ρ` the reciprocal root and `n = x ρ`; the chain rule writes it as
`δγ ρ + x t + t x` with `t = (∑ x δγ) · (-½ ρ / (mean x² + ε)) / 1024`.  The two agree wherever every number is finite:
both sums are then sums of real numbers, and `ρ³ = ρ / (mean x² + ε)`. -/

noncomputable section

namespace Cert.Proof.RmsGrad

open Idealize.ShloMosaic

/-- The number of columns, as the programs' binary32 pattern. -/
def width : EReal := Ideal.ofBits .f32 0x44800000#32

/-- The norm's epsilon, as the programs' binary32 pattern. -/
def eps : EReal := Ideal.ofBits .f32 0x358637BD#32

/-- Minus one half, as the reference's binary32 pattern. -/
def negHalf : EReal := Ideal.ofBits .f32 0xBF000000#32

/-- The mean of the squares plus epsilon. -/
def meanSq (x : Fin 1024 → EReal) : EReal := Ideal.div (∑ k, x k * x k) width + eps

/-- The reciprocal root of the mean square. -/
def rstd (x : Fin 1024 → EReal) : EReal := Ideal.rsqrt (meanSq x)

/-- The kernel's gradient of the norm at column `k`, for the output's gradient `δ` and the scale `γ`. -/
def byKernel (x γ δ : Fin 1024 → EReal) (k : Fin 1024) : EReal :=
  rstd x * (δ k * γ k - x k * rstd x * Ideal.div (∑ j, δ j * γ j * (x j * rstd x)) width)

/-- The gradient that reaches the row through the mean square, per unit of `x`. -/
def through (x γ δ : Fin 1024 → EReal) : EReal :=
  Ideal.div ((∑ j, x j * (δ j * γ j)) * (negHalf * Ideal.div (rstd x) (meanSq x))) width

/-- The chain rule's gradient of the norm at column `k`. -/
def byRule (x γ δ : Fin 1024 → EReal) (k : Fin 1024) : EReal :=
  δ k * γ k * rstd x + x k * through x γ δ + through x γ δ * x k

theorem width_eq : width = ((1024 : ℝ) : EReal) := by
  simp [width, Ideal.ofBits, Ideal.ieee, -EReal.coe_mul]; norm_num

theorem negHalf_eq : negHalf = ((-(1 / 2) : ℝ) : EReal) := by
  simp [negHalf, Ideal.ofBits, Ideal.ieee, -EReal.coe_mul]; norm_num

theorem eps_eq : ∃ e : ℝ, 0 < e ∧ eps = (e : EReal) := by
  refine ⟨(8796093 : ℝ) * (2 ^ 43)⁻¹, by positivity, ?_⟩
  simp [eps, Ideal.ofBits, Ideal.ieee, -EReal.coe_mul]

/-- A finite sum of real numbers is a real number. -/
theorem coe_sum {ι : Type} [Fintype ι] (f : ι → ℝ) : (∑ k, (f k : EReal)) = ((∑ k, f k : ℝ) : EReal) := by
  classical
  induction (Finset.univ : Finset ι) using Finset.induction_on with
  | empty => simp
  | insert a s ha ih => rw [Finset.sum_insert ha, Finset.sum_insert ha, ih, EReal.coe_add]

/-- The mean square of a real row is a positive real number. -/
theorem meanSq_coe (x : Fin 1024 → ℝ) : ∃ v : ℝ, 0 < v ∧ meanSq (fun k => (x k : EReal)) = (v : EReal) := by
  obtain ⟨e, he, hee⟩ := eps_eq
  refine ⟨(∑ k, x k * x k) * (1 / 1024) + e, by
    have : 0 ≤ ∑ k, x k * x k := Finset.sum_nonneg fun k _ => mul_self_nonneg _
    positivity, ?_⟩
  simp only [meanSq, hee, width_eq, ← EReal.coe_mul, coe_sum]
  rw [Ideal.div_coe (by norm_num), ← EReal.coe_mul, ← EReal.coe_add]

/-- The reciprocal root of a real row is a real number. -/
theorem rstd_coe (x : Fin 1024 → ℝ) {v : ℝ} (hv : 0 < v) (h : meanSq (fun k => (x k : EReal)) = (v : EReal)) :
    rstd (fun k => (x k : EReal)) = (((√v)⁻¹ : ℝ) : EReal) := by
  rw [rstd, h, Ideal.rsqrt_coe, if_neg (not_lt.mpr hv.le), if_neg hv.ne']

/-- The kernel's gradient is the chain rule's on real numbers. -/
theorem byKernel_coe (x γ δ : Fin 1024 → ℝ) (k : Fin 1024) :
    byKernel (fun k => (x k : EReal)) (fun k => (γ k : EReal)) (fun k => (δ k : EReal)) k
      = byRule (fun k => (x k : EReal)) (fun k => (γ k : EReal)) (fun k => (δ k : EReal)) k := by
  obtain ⟨v, hv, h⟩ := meanSq_coe x
  simp only [byKernel, byRule, through, rstd_coe x hv h, h, width_eq, negHalf_eq, ← EReal.coe_mul, coe_sum]
  rw [Ideal.div_coe (by norm_num), Ideal.div_coe hv.ne']
  simp only [← EReal.coe_mul]
  rw [Ideal.div_coe (by norm_num)]
  simp only [← EReal.coe_mul, ← EReal.coe_add, ← EReal.coe_sub]
  refine congrArg _ ?_
  have hs : ∑ j, δ j * γ j * (x j * (√v)⁻¹) = (∑ j, x j * (δ j * γ j)) * (√v)⁻¹ := by
    rw [Finset.sum_mul]; exact Finset.sum_congr rfl fun j _ => by ring
  rw [hs]
  generalize (∑ j, x j * (δ j * γ j)) = S
  have hq : √v * √v = v := Real.mul_self_sqrt hv.le
  have hp : 0 < √v := Real.sqrt_pos.mpr hv
  generalize √v = q at hq hp
  subst hq
  field_simp
  ring

/-- The kernel's gradient is the chain rule's wherever row, scale and incoming gradient are finite. -/
theorem byKernel_eq (x γ δ : Fin 1024 → EReal) (hx : ∀ k, ∃ r : ℝ, x k = r) (hγ : ∀ k, ∃ r : ℝ, γ k = r)
    (hδ : ∀ k, ∃ r : ℝ, δ k = r) : byKernel x γ δ = byRule x γ δ := by
  choose x' hx using hx
  choose γ' hγ using hγ
  choose δ' hδ using hδ
  obtain rfl : x = fun k => (x' k : EReal) := funext hx
  obtain rfl : γ = fun k => (γ' k : EReal) := funext hγ
  obtain rfl : δ = fun k => (δ' k : EReal) := funext hδ
  exact funext (byKernel_coe x' γ' δ')

end Cert.Proof.RmsGrad
-- ==== Proof.Ffn.Payloads.lean ====
module

public import proofs.«01_k».proof.Proof.Gen.FfnKernelIdeal.Skeleton
public import proofs.«01_k».proof.Proof.Sigmoid
public import proofs.«01_k».proof.Proof.RmsGrad
public import Idealize.ShloMosaic.Lib.Pointwise

@[expose] public section

/-! The stored values of the feed-forward backward call at an index, over the extended reals.  A column piece of the
gate half is `da · u · (s · (1 + g · (1 - s)))` and one of the other half `da · (g · s)`, with `s` the sigmoid of the
gate `g` and `da` the halved incoming row against a row of the second projection. -/

set_option maxRecDepth 16384

noncomputable section

namespace Cert.Proof.Ffn

open Cert.FfnKernelIdeal Cert.FfnKernelIdeal.Gen Idealize.ShloMosaic Idealize.SL.Sem

/-- One half, as the programs' binary32 pattern. -/
def half : EReal := Ideal.ofBits .f32 0x3F000000#32

/-- The gradient of one hidden number: the halved incoming row against its row of the second projection. -/
def da (a w : Fin 1024 → EReal) : EReal := ∑ k : Fin 1024, half * a k * w k

/-- The gradient of the gate `g`, as the kernel computes it. -/
def dgate (da g u : EReal) : EReal := da * u * (Ideal.logistic g * (1 + g * (1 - Ideal.logistic g)))

/-- The gradient of the other factor. -/
def dup (da g : EReal) : EReal := da * (g * Ideal.logistic g)

/-- The column piece of the gate half at offset 0. -/
theorem gate_0 (x0 : Vec Ideal S416x1024 .f32) (w : Vec Ideal S1x256x1024 .bf16) (g u : Vec Ideal S416x256 .bf16) (r : Fin 416) (j : Fin 256) :
    (k0_pay10 (F := Ideal) x0 w g u) (ix2 r j)
      = dgate (da (fun k => x0 (ix2 r k)) (fun k => w (ix3 0 j k))) (g (ix2 r j)) (u (ix2 r j)) := by
  pointwise [k0_pay10, k0_pay7, k0_pay9, k0_pay8, k0_pay6]
  simp only [Sigmoid.half_tanh]
  rfl

/-- The column piece of the gate half at offset 256. -/
theorem gate_256 (x0 : Vec Ideal S416x1024 .f32) (w : Vec Ideal S1x256x1024 .bf16) (g u : Vec Ideal S416x256 .bf16) (r : Fin 416) (j : Fin 256) :
    (k0_pay15 (F := Ideal) (k0_pay6 x0) w g u) (ix2 r j)
      = dgate (da (fun k => x0 (ix2 r k)) (fun k => w (ix3 0 j k))) (g (ix2 r j)) (u (ix2 r j)) := by
  pointwise [k0_pay15, k0_pay6, k0_pay12, k0_pay14, k0_pay13]
  simp only [Sigmoid.half_tanh]
  rfl

/-- The column piece of the gate half at offset 512. -/
theorem gate_512 (x0 : Vec Ideal S416x1024 .f32) (w : Vec Ideal S1x256x1024 .bf16) (g u : Vec Ideal S416x256 .bf16) (r : Fin 416) (j : Fin 256) :
    (k0_pay20 (F := Ideal) (k0_pay6 x0) w g u) (ix2 r j)
      = dgate (da (fun k => x0 (ix2 r k)) (fun k => w (ix3 0 j k))) (g (ix2 r j)) (u (ix2 r j)) := by
  pointwise [k0_pay20, k0_pay6, k0_pay17, k0_pay19, k0_pay18]
  simp only [Sigmoid.half_tanh]
  rfl

/-- The column piece of the gate half at offset 768. -/
theorem gate_768 (x0 : Vec Ideal S416x1024 .f32) (w : Vec Ideal S1x256x1024 .bf16) (g u : Vec Ideal S416x256 .bf16) (r : Fin 416) (j : Fin 256) :
    (k0_pay25 (F := Ideal) (k0_pay22 (k0_pay6 x0) w) (k0_pay23 g) u) (ix2 r j)
      = dgate (da (fun k => x0 (ix2 r k)) (fun k => w (ix3 0 j k))) (g (ix2 r j)) (u (ix2 r j)) := by
  pointwise [k0_pay25, k0_pay22, k0_pay6, k0_pay23, k0_pay24]
  simp only [Sigmoid.half_tanh]
  rfl

/-- The column piece of the gate half at offset 1024. -/
theorem gate_1024 (x0 : Vec Ideal S416x1024 .f32) (w : Vec Ideal S1x256x1024 .bf16) (g u : Vec Ideal S416x256 .bf16) (r : Fin 416) (j : Fin 256) :
    (k0_pay33 (F := Ideal) (k0_pay27 (k0_pay6 x0) w) (k0_pay28 g) (k0_pay29 u) (k0_pay30 g) (k0_pay31)) (ix2 r j)
      = dgate (da (fun k => x0 (ix2 r k)) (fun k => w (ix3 0 j k))) (g (ix2 r j)) (u (ix2 r j)) := by
  pointwise [k0_pay33, k0_pay27, k0_pay6, k0_pay28, k0_pay29, k0_pay30, k0_pay31, k0_pay32]
  simp only [Sigmoid.half_tanh]
  rfl

/-- The column piece of the gate half at offset 1280. -/
theorem gate_1280 (x0 : Vec Ideal S416x1024 .f32) (w : Vec Ideal S1x128x1024 .bf16) (g u : Vec Ideal S416x128 .bf16) (r : Fin 416) (j : Fin 128) :
    (k0_pay39 (F := Ideal) (k0_pay38 (k0_pay6 x0) w g u)) (ix2 r j)
      = dgate (da (fun k => x0 (ix2 r k)) (fun k => w (ix3 0 j k))) (g (ix2 r j)) (u (ix2 r j)) := by
  pointwise [k0_pay39, k0_pay38, k0_pay6, k0_pay35, k0_pay37, k0_pay36]
  simp only [Sigmoid.half_tanh]
  rfl

/-- The column piece of the gate half at offset 1408. -/
theorem gate_1408 (x0 : Vec Ideal S416x1024 .f32) (w : Vec Ideal S1x256x1024 .bf16) (g u : Vec Ideal S416x256 .bf16) (r : Fin 416) (j : Fin 256) :
    (k0_pay47 (F := Ideal) (k0_pay42 (k0_pay6 x0) w) (k0_pay43 g) (k0_pay44 u) (k0_pay45 g) (Scalar.ofBits .f32 0x3F000000#32)) (ix2 r j)
      = dgate (da (fun k => x0 (ix2 r k)) (fun k => w (ix3 0 j k))) (g (ix2 r j)) (u (ix2 r j)) := by
  pointwise [k0_pay47, k0_pay42, k0_pay6, k0_pay43, k0_pay44, k0_pay45, k0_pay46]
  simp only [Sigmoid.half_tanh]
  rfl

/-- The column piece of the gate half at offset 1664. -/
theorem gate_1664 (x0 : Vec Ideal S416x1024 .f32) (w : Vec Ideal S1x256x1024 .bf16) (g u : Vec Ideal S416x256 .bf16) (r : Fin 416) (j : Fin 256) :
    (k0_pay54 (F := Ideal) (k0_pay52 (k0_pay6 x0) w u) (k0_pay53 g)) (ix2 r j)
      = dgate (da (fun k => x0 (ix2 r k)) (fun k => w (ix3 0 j k))) (g (ix2 r j)) (u (ix2 r j)) := by
  pointwise [k0_pay54, k0_pay52, k0_pay6, k0_pay53, k0_pay49, k0_pay51, k0_pay50]
  simp only [Sigmoid.half_tanh]
  rfl

/-- The column piece of the gate half at offset 1920. -/
theorem gate_1920 (x0 : Vec Ideal S416x1024 .f32) (w : Vec Ideal S1x256x1024 .bf16) (g u : Vec Ideal S416x256 .bf16) (r : Fin 416) (j : Fin 256) :
    (k0_pay59 (F := Ideal) (k0_pay6 x0) w g u) (ix2 r j)
      = dgate (da (fun k => x0 (ix2 r k)) (fun k => w (ix3 0 j k))) (g (ix2 r j)) (u (ix2 r j)) := by
  pointwise [k0_pay59, k0_pay6, k0_pay56, k0_pay58, k0_pay57]
  simp only [Sigmoid.half_tanh]
  rfl

/-- The column piece of the gate half at offset 2176. -/
theorem gate_2176 (x0 : Vec Ideal S416x1024 .f32) (w : Vec Ideal S1x256x1024 .bf16) (g u : Vec Ideal S416x256 .bf16) (r : Fin 416) (j : Fin 256) :
    (k0_pay64 (F := Ideal) (k0_pay6 x0) w g u) (ix2 r j)
      = dgate (da (fun k => x0 (ix2 r k)) (fun k => w (ix3 0 j k))) (g (ix2 r j)) (u (ix2 r j)) := by
  pointwise [k0_pay64, k0_pay6, k0_pay61, k0_pay63, k0_pay62]
  simp only [Sigmoid.half_tanh]
  rfl

/-- The column piece of the gate half at offset 2432. -/
theorem gate_2432 (x0 : Vec Ideal S416x1024 .f32) (w : Vec Ideal S1x256x1024 .bf16) (g u : Vec Ideal S416x256 .bf16) (r : Fin 416) (j : Fin 256) :
    (k0_pay69 (F := Ideal) ((k0_pay66 (k0_pay6 x0) w)) g u) (ix2 r j)
      = dgate (da (fun k => x0 (ix2 r k)) (fun k => w (ix3 0 j k))) (g (ix2 r j)) (u (ix2 r j)) := by
  pointwise [k0_pay69, k0_pay66, k0_pay6, k0_pay68, k0_pay67]
  simp only [Sigmoid.half_tanh]
  rfl

/-- The column piece of the gate half at offset 2688. -/
theorem gate_2688 (x0 : Vec Ideal S416x1024 .f32) (w : Vec Ideal S1x128x1024 .bf16) (g u : Vec Ideal S416x128 .bf16) (r : Fin 416) (j : Fin 128) :
    (k0_pay76 (F := Ideal) (k0_pay71 (k0_pay6 x0) w) (k0_pay72 g) (k0_pay73 u) (k0_pay74 g)) (ix2 r j)
      = dgate (da (fun k => x0 (ix2 r k)) (fun k => w (ix3 0 j k))) (g (ix2 r j)) (u (ix2 r j)) := by
  pointwise [k0_pay76, k0_pay71, k0_pay6, k0_pay72, k0_pay73, k0_pay74, k0_pay75]
  simp only [Sigmoid.half_tanh]
  rfl

/-- The column piece of the other half at offset 0. -/
theorem up_0 (x0 : Vec Ideal S416x1024 .f32) (w : Vec Ideal S1x256x1024 .bf16) (g : Vec Ideal S416x256 .bf16) (r : Fin 416) (j : Fin 256) :
    (k0_pay11 (F := Ideal) (k0_pay7 x0 w) (k0_pay8 g) (k0_pay9 g)) (ix2 r j)
      = dup (da (fun k => x0 (ix2 r k)) (fun k => w (ix3 0 j k))) (g (ix2 r j)) := by
  pointwise [k0_pay11, k0_pay7, k0_pay8, k0_pay9, k0_pay6]
  simp only [Sigmoid.half_tanh]
  rfl

/-- The column piece of the other half at offset 256. -/
theorem up_256 (x0 : Vec Ideal S416x1024 .f32) (w : Vec Ideal S1x256x1024 .bf16) (g : Vec Ideal S416x256 .bf16) (r : Fin 416) (j : Fin 256) :
    (k0_pay16 (F := Ideal) (k0_pay6 x0) w g) (ix2 r j)
      = dup (da (fun k => x0 (ix2 r k)) (fun k => w (ix3 0 j k))) (g (ix2 r j)) := by
  pointwise [k0_pay16, k0_pay6, k0_pay13, k0_pay14, k0_pay12]
  simp only [Sigmoid.half_tanh]
  rfl

/-- The column piece of the other half at offset 512. -/
theorem up_512 (x0 : Vec Ideal S416x1024 .f32) (w : Vec Ideal S1x256x1024 .bf16) (g : Vec Ideal S416x256 .bf16) (r : Fin 416) (j : Fin 256) :
    (k0_pay21 (F := Ideal) (k0_pay6 x0) w g) (ix2 r j)
      = dup (da (fun k => x0 (ix2 r k)) (fun k => w (ix3 0 j k))) (g (ix2 r j)) := by
  pointwise [k0_pay21, k0_pay6, k0_pay18, k0_pay19, k0_pay17]
  simp only [Sigmoid.half_tanh]
  rfl

/-- The column piece of the other half at offset 768. -/
theorem up_768 (x0 : Vec Ideal S416x1024 .f32) (w : Vec Ideal S1x256x1024 .bf16) (g : Vec Ideal S416x256 .bf16) (r : Fin 416) (j : Fin 256) :
    (k0_pay26 (F := Ideal) (k0_pay22 (k0_pay6 x0) w) (k0_pay23 g)) (ix2 r j)
      = dup (da (fun k => x0 (ix2 r k)) (fun k => w (ix3 0 j k))) (g (ix2 r j)) := by
  pointwise [k0_pay26, k0_pay22, k0_pay6, k0_pay23, k0_pay24]
  simp only [Sigmoid.half_tanh]
  rfl

/-- The column piece of the other half at offset 1024. -/
theorem up_1024 (x0 : Vec Ideal S416x1024 .f32) (w : Vec Ideal S1x256x1024 .bf16) (g : Vec Ideal S416x256 .bf16) (r : Fin 416) (j : Fin 256) :
    (k0_pay34 (F := Ideal) (k0_pay27 (k0_pay6 x0) w) (k0_pay28 g) (k0_pay30 g) (k0_pay31)) (ix2 r j)
      = dup (da (fun k => x0 (ix2 r k)) (fun k => w (ix3 0 j k))) (g (ix2 r j)) := by
  pointwise [k0_pay34, k0_pay27, k0_pay6, k0_pay28, k0_pay30, k0_pay31, k0_pay32]
  simp only [Sigmoid.half_tanh]
  rfl

/-- The column piece of the other half at offset 1280. -/
theorem up_1280 (x0 : Vec Ideal S416x1024 .f32) (w : Vec Ideal S1x128x1024 .bf16) (g : Vec Ideal S416x128 .bf16) (r : Fin 416) (j : Fin 128) :
    (k0_pay40 (F := Ideal) (k0_pay35 (k0_pay6 x0) w) (k0_pay36 g) (k0_pay37 g)) (ix2 r j)
      = dup (da (fun k => x0 (ix2 r k)) (fun k => w (ix3 0 j k))) (g (ix2 r j)) := by
  pointwise [k0_pay40, k0_pay35, k0_pay6, k0_pay36, k0_pay37]
  simp only [Sigmoid.half_tanh]
  rfl

/-- The column piece of the other half at offset 1408. -/
theorem up_1408 (x0 : Vec Ideal S416x1024 .f32) (w : Vec Ideal S1x256x1024 .bf16) (g : Vec Ideal S416x256 .bf16) (r : Fin 416) (j : Fin 256) :
    (k0_pay48 (F := Ideal) (k0_pay42 (k0_pay6 x0) w) (k0_pay43 g) (k0_pay45 g) (Scalar.ofBits .f32 0x3F000000#32)) (ix2 r j)
      = dup (da (fun k => x0 (ix2 r k)) (fun k => w (ix3 0 j k))) (g (ix2 r j)) := by
  pointwise [k0_pay48, k0_pay42, k0_pay6, k0_pay43, k0_pay45, k0_pay46]
  simp only [Sigmoid.half_tanh]
  rfl

/-- The column piece of the other half at offset 1664. -/
theorem up_1664 (x0 : Vec Ideal S416x1024 .f32) (w : Vec Ideal S1x256x1024 .bf16) (g : Vec Ideal S416x256 .bf16) (r : Fin 416) (j : Fin 256) :
    (k0_pay55 (F := Ideal) (k0_pay49 (k0_pay6 x0) w) (k0_pay50 g) (k0_pay51 g)) (ix2 r j)
      = dup (da (fun k => x0 (ix2 r k)) (fun k => w (ix3 0 j k))) (g (ix2 r j)) := by
  pointwise [k0_pay55, k0_pay49, k0_pay6, k0_pay50, k0_pay51]
  simp only [Sigmoid.half_tanh]
  rfl

/-- The column piece of the other half at offset 1920. -/
theorem up_1920 (x0 : Vec Ideal S416x1024 .f32) (w : Vec Ideal S1x256x1024 .bf16) (g : Vec Ideal S416x256 .bf16) (r : Fin 416) (j : Fin 256) :
    (k0_pay60 (F := Ideal) (k0_pay6 x0) w g) (ix2 r j)
      = dup (da (fun k => x0 (ix2 r k)) (fun k => w (ix3 0 j k))) (g (ix2 r j)) := by
  pointwise [k0_pay60, k0_pay6, k0_pay57, k0_pay58, k0_pay56]
  simp only [Sigmoid.half_tanh]
  rfl

/-- The column piece of the other half at offset 2176. -/
theorem up_2176 (x0 : Vec Ideal S416x1024 .f32) (w : Vec Ideal S1x256x1024 .bf16) (g : Vec Ideal S416x256 .bf16) (r : Fin 416) (j : Fin 256) :
    (k0_pay65 (F := Ideal) (k0_pay6 x0) w g) (ix2 r j)
      = dup (da (fun k => x0 (ix2 r k)) (fun k => w (ix3 0 j k))) (g (ix2 r j)) := by
  pointwise [k0_pay65, k0_pay6, k0_pay62, k0_pay63, k0_pay61]
  simp only [Sigmoid.half_tanh]
  rfl

/-- The column piece of the other half at offset 2432. -/
theorem up_2432 (x0 : Vec Ideal S416x1024 .f32) (w : Vec Ideal S1x256x1024 .bf16) (g : Vec Ideal S416x256 .bf16) (r : Fin 416) (j : Fin 256) :
    (k0_pay70 (F := Ideal) ((k0_pay66 (k0_pay6 x0) w)) g) (ix2 r j)
      = dup (da (fun k => x0 (ix2 r k)) (fun k => w (ix3 0 j k))) (g (ix2 r j)) := by
  pointwise [k0_pay70, k0_pay66, k0_pay6, k0_pay67, k0_pay68]
  simp only [Sigmoid.half_tanh]
  rfl

/-- The column piece of the other half at offset 2688. -/
theorem up_2688 (x0 : Vec Ideal S416x1024 .f32) (w : Vec Ideal S1x128x1024 .bf16) (g : Vec Ideal S416x128 .bf16) (r : Fin 416) (j : Fin 128) :
    (k0_pay77 (F := Ideal) (k0_pay71 (k0_pay6 x0) w) (k0_pay72 g) (k0_pay74 g)) (ix2 r j)
      = dup (da (fun k => x0 (ix2 r k)) (fun k => w (ix3 0 j k))) (g (ix2 r j)) := by
  pointwise [k0_pay77, k0_pay71, k0_pay6, k0_pay72, k0_pay74, k0_pay75]
  simp only [Sigmoid.half_tanh]
  rfl

/-- The halved incoming gradient. -/
theorem pay6 (x0 : Vec Ideal S416x1024 .f32) (r : Fin 416) (k : Fin 1024) :
    k0_pay6 (F := Ideal) x0 (ix2 r k) = half * x0 (ix2 r k) := by
  pointwise [k0_pay6]
  rfl

/-- The normalised row's gradient through the first half of the columns. -/
theorem pay41 (dg du : Vec Ideal S416x1408 .bf16) (wg wu : Vec Ideal S1x1024x1408 .bf16) (r : Fin 416) (k : Fin 1024) :
    k0_pay41 (F := Ideal) dg wg du wu (ix2 r k)
      = (∑ j : Fin 1408, dg (ix2 r j) * wg (ix3 0 k j)) + ∑ j : Fin 1408, du (ix2 r j) * wu (ix3 0 k j) := by
  pointwise [k0_pay41]

/-- and through the second half on top of it. -/
theorem pay78 (p : Vec Ideal S416x1024 .f32) (dg du : Vec Ideal S416x1408 .bf16) (wg wu : Vec Ideal S1x1024x1408 .bf16)
    (r : Fin 416) (k : Fin 1024) :
    k0_pay78 (F := Ideal) p dg wg du wu (ix2 r k)
      = p (ix2 r k) + ((∑ j : Fin 1408, dg (ix2 r j) * wg (ix3 0 k j)) + ∑ j : Fin 1408, du (ix2 r j) * wu (ix3 0 k j)) := by
  pointwise [k0_pay78]

/-- The reciprocal root of a row's mean square. -/
theorem pay1 (x1 : Vec Ideal S416x1024 .f32) (r : Fin 416) :
    k0_pay1 (F := Ideal) (k0_pay79 x1) (ix2 r 0) = RmsGrad.rstd (fun k => x1 (ix2 r k)) := by
  pointwise [k0_pay1, k0_pay79]
  rfl

/-- The normalised row. -/
theorem pay2 (x1 : Vec Ideal S416x1024 .f32) (r : Fin 416) (k : Fin 1024) :
    k0_pay2 (F := Ideal) x1 (k0_pay79 x1) (ix2 r k) = x1 (ix2 r k) * RmsGrad.rstd (fun k => x1 (ix2 r k)) := by
  rw [← pay1]
  pointwise [k0_pay2]

/-- The input's gradient: the residual's and the norm's. -/
theorem pay4 (dn x0 x1 : Vec Ideal S416x1024 .f32) (x2 : Vec Ideal S1x1024 .f32) (r : Fin 416) (k : Fin 1024) :
    k0_pay4 (F := Ideal) x0 dn x1 x2 (k0_pay79 x1) (ix2 r k)
      = x0 (ix2 r k) + RmsGrad.byKernel (fun k => x1 (ix2 r k)) (fun k => x2 (ix2 0 k)) (fun k => dn (ix2 r k)) k := by
  have h1 := pay1 x1 r
  have h2 := pay2 x1 r
  generalize k0_pay79 (F := Ideal) x1 = v at h1 h2
  pointwise [k0_pay4]
  simp only [h1, h2]
  rfl

/-- The scale's gradient: a block's rows on top of what stood there. -/
theorem pay3 (dn x1 : Vec Ideal S416x1024 .f32) (p : Vec Ideal S1x1024 .f32) (k : Fin 1024) :
    k0_pay3 (F := Ideal) dn x1 (k0_pay79 x1) p (ix2 0 k)
      = p (ix2 0 k) + ∑ r : Fin 416, dn (ix2 r k) * (x1 (ix2 r k) * RmsGrad.rstd (fun k => x1 (ix2 r k))) := by
  have h2 := fun r => pay2 x1 r k
  generalize k0_pay79 (F := Ideal) x1 = v at h2
  pointwise [k0_pay3]
  simp only [h2]

/-- The scale's gradient starts at zero. -/
theorem pay5 (k : Fin 1024) : k0_pay5 (F := Ideal) (ix2 0 k) = 0 := by
  pointwise [k0_pay5]

end Cert.Proof.Ffn
-- ==== Proof.Ffn.Hidden.lean ====
module

public import proofs.«01_k».proof.Proof.Ffn.Pieces
public import proofs.«01_k».proof.Proof.Ffn.Payloads
public import Idealize.ShloMosaic.Lib.Pipeline.ReadBack

@[expose] public section

/-! The twelve column pieces of each half's gradient are the columns of one function, so the block they fill is that
function, and so is what the later products read of it. -/

set_option maxRecDepth 16384

noncomputable section

namespace Cert.Proof.Ffn

open Cert.FfnKernelIdeal Cert.FfnKernelIdeal.Gen Idealize.ShloMosaic Idealize.SL.Sem

/-- Column `c` of 2816 is column `pos c` of the group `grp c` of 1408. -/
def grp (c : Fin 2816) : Fin 2 := ⟨c.val / 1408, by have := c.isLt; omega⟩
def pos (c : Fin 2816) : Fin 1408 := ⟨c.val % 1408, Nat.mod_lt _ (by decide)⟩

variable (x0 : Vec Ideal S416x1024 .f32) (x3 x4 : Vec Ideal S416x2816 .bf16) (x5 : Vec Ideal S4x1024x1408 .bf16)
  (x6 : Vec Ideal S2x1408x1024 .bf16)

/-- The gradient of the hidden number at row `r` and column `c` of a block. -/
def daAt (r : Fin 416) (c : Fin 2816) : EReal := da (fun k => x0 (ix2 r k)) (fun k => x6 (ix3 (grp c) (pos c) k))

/-- The gate half's gradient in a block. -/
def gateAt (r : Fin 416) (c : Fin 2816) : EReal := dgate (daAt x0 x6 r c) (x3 (ix2 r c)) (x4 (ix2 r c))

/-- The other half's. -/
def upAt (r : Fin 416) (c : Fin 2816) : EReal := dup (daAt x0 x6 r c) (x3 (ix2 r c))

/-- The place of a piece's entry in the block. -/
theorem place (o W : Nat) (h : ∀ a, (![0, o] : Fin 2 → Nat) a + (![416, W] : Fin 2 → Nat) a ≤ S416x2816.size a) (r : Fin 416) (j : Fin W) :
    (Rect.unit (s := S416x2816) ![0, o] ![416, W] h).emb (ix2 r j)
      = ix2 r (⟨o + j.val, by have := h 1; have := j.isLt; simp at *; omega⟩ : Fin 2816) := by
  funext a
  match a with
  | ⟨0, _⟩ => exact Fin.ext (show 0 + 1 * r.val = r.val by omega)
  | ⟨1, _⟩ => exact Fin.ext (show o + 1 * j.val = o + j.val by omega)

/-- The place of a row of the second weight that a piece uses. -/
theorem wplace (s o p W : Nat) (ho : o = s * 1408 + p) (hp : p + W ≤ 1408)
    (h : ∀ a, (![s, p, 0] : Fin 3 → Nat) a + (![1, W, 1024] : Fin 3 → Nat) a ≤ S2x1408x1024.size a)
    (j : Fin W) (hj : o + j.val < 2816) (k : Fin 1024) :
    (Rect.unit (s := S2x1408x1024) ![s, p, 0] ![1, W, 1024] h).emb (ix3 0 j k) = ix3 (grp ⟨o + j.val, hj⟩) (pos ⟨o + j.val, hj⟩) k := by
  funext a
  have := j.isLt
  match a with
  | ⟨0, _⟩ => exact Fin.ext (show s + 1 * 0 = (o + j.val) / 1408 by omega)
  | ⟨1, _⟩ => exact Fin.ext (show p + 1 * j.val = (o + j.val) % 1408 by omega)
  | ⟨2, _⟩ => exact Fin.ext (show 0 + 1 * k.val = k.val by omega)

/-- A piece of the gate half at its place. -/
theorem gate_place (s o p W : Nat) (ho : o = s * 1408 + p) (hp : p + W ≤ 1408)
    (h : ∀ a, (![0, o] : Fin 2 → Nat) a + (![416, W] : Fin 2 → Nat) a ≤ S416x2816.size a)
    (hw : ∀ a, (![s, p, 0] : Fin 3 → Nat) a + (![1, W, 1024] : Fin 3 → Nat) a ≤ S2x1408x1024.size a) (r : Fin 416) (j : Fin W) :
    dgate (da (fun k => x0 (ix2 r k)) (fun k => x6 ((Rect.unit (s := S2x1408x1024) ![s, p, 0] ![1, W, 1024] hw).emb (ix3 0 j k))))
        (x3 ((Rect.unit (s := S416x2816) ![0, o] ![416, W] h).emb (ix2 r j))) (x4 ((Rect.unit (s := S416x2816) ![0, o] ![416, W] h).emb (ix2 r j)))
      = (fun y : S416x2816.Idx => gateAt x0 x3 x4 x6 (y 0) (y 1)) ((Rect.unit (s := S416x2816) ![0, o] ![416, W] h).emb (ix2 r j)) := by
  rw [place]
  simp only [wplace s o p W ho hp hw j (by have := h 1; have := j.isLt; simp at *; omega)]
  rfl

/-- A piece of the other half at its place. -/
theorem up_place (s o p W : Nat) (ho : o = s * 1408 + p) (hp : p + W ≤ 1408)
    (h : ∀ a, (![0, o] : Fin 2 → Nat) a + (![416, W] : Fin 2 → Nat) a ≤ S416x2816.size a)
    (hw : ∀ a, (![s, p, 0] : Fin 3 → Nat) a + (![1, W, 1024] : Fin 3 → Nat) a ≤ S2x1408x1024.size a) (r : Fin 416) (j : Fin W) :
    dup (da (fun k => x0 (ix2 r k)) (fun k => x6 ((Rect.unit (s := S2x1408x1024) ![s, p, 0] ![1, W, 1024] hw).emb (ix3 0 j k))))
        (x3 ((Rect.unit (s := S416x2816) ![0, o] ![416, W] h).emb (ix2 r j)))
      = (fun y : S416x2816.Idx => upAt x0 x3 x6 (y 0) (y 1)) ((Rect.unit (s := S416x2816) ![0, o] ![416, W] h).emb (ix2 r j)) := by
  rw [place]
  simp only [wplace s o p W ho hp hw j (by have := h 1; have := j.isLt; simp at *; omega)]
  rfl

theorem gate1_pieces : View.PiecesOf (Val := Elt Ideal) (fun y : S416x2816.Idx => gateAt x0 x3 x4 x6 (y 0) (y 1)) (gate1 x0 x3 x4 x6) := by
  unfold gate1
  refine ⟨?_, ?_, ?_, ?_, ?_, ?_, trivial⟩
  · intro (x : S416x128.Idx)
    obtain ⟨r, j, rfl⟩ : ∃ (r : Fin 416) (j : Fin 128), x = ix2 r j := ⟨_, _, eq_ix2 x⟩
    exact (gate_1280 _ _ _ _ r j).trans (gate_place x0 x3 x4 x6 0 1280 1280 128 (by decide) (by decide) _ _ r j)
  · intro (x : S416x256.Idx)
    obtain ⟨r, j, rfl⟩ : ∃ (r : Fin 416) (j : Fin 256), x = ix2 r j := ⟨_, _, eq_ix2 x⟩
    exact (gate_1024 _ _ _ _ r j).trans (gate_place x0 x3 x4 x6 0 1024 1024 256 (by decide) (by decide) _ _ r j)
  · intro (x : S416x256.Idx)
    obtain ⟨r, j, rfl⟩ : ∃ (r : Fin 416) (j : Fin 256), x = ix2 r j := ⟨_, _, eq_ix2 x⟩
    exact (gate_768 _ _ _ _ r j).trans (gate_place x0 x3 x4 x6 0 768 768 256 (by decide) (by decide) _ _ r j)
  · intro (x : S416x256.Idx)
    obtain ⟨r, j, rfl⟩ : ∃ (r : Fin 416) (j : Fin 256), x = ix2 r j := ⟨_, _, eq_ix2 x⟩
    exact (gate_512 _ _ _ _ r j).trans (gate_place x0 x3 x4 x6 0 512 512 256 (by decide) (by decide) _ _ r j)
  · intro (x : S416x256.Idx)
    obtain ⟨r, j, rfl⟩ : ∃ (r : Fin 416) (j : Fin 256), x = ix2 r j := ⟨_, _, eq_ix2 x⟩
    exact (gate_256 _ _ _ _ r j).trans (gate_place x0 x3 x4 x6 0 256 256 256 (by decide) (by decide) _ _ r j)
  · intro (x : S416x256.Idx)
    obtain ⟨r, j, rfl⟩ : ∃ (r : Fin 416) (j : Fin 256), x = ix2 r j := ⟨_, _, eq_ix2 x⟩
    exact (gate_0 _ _ _ _ r j).trans (gate_place x0 x3 x4 x6 0 0 0 256 (by decide) (by decide) _ _ r j)

theorem gate2_pieces : View.PiecesOf (Val := Elt Ideal) (fun y : S416x2816.Idx => gateAt x0 x3 x4 x6 (y 0) (y 1)) (gate2 x0 x3 x4 x6) := by
  unfold gate2
  refine ⟨?_, ?_, ?_, ?_, ?_, ?_, trivial⟩
  · intro (x : S416x128.Idx)
    obtain ⟨r, j, rfl⟩ : ∃ (r : Fin 416) (j : Fin 128), x = ix2 r j := ⟨_, _, eq_ix2 x⟩
    exact (gate_2688 _ _ _ _ r j).trans (gate_place x0 x3 x4 x6 1 2688 1280 128 (by decide) (by decide) _ _ r j)
  · intro (x : S416x256.Idx)
    obtain ⟨r, j, rfl⟩ : ∃ (r : Fin 416) (j : Fin 256), x = ix2 r j := ⟨_, _, eq_ix2 x⟩
    exact (gate_2432 _ _ _ _ r j).trans (gate_place x0 x3 x4 x6 1 2432 1024 256 (by decide) (by decide) _ _ r j)
  · intro (x : S416x256.Idx)
    obtain ⟨r, j, rfl⟩ : ∃ (r : Fin 416) (j : Fin 256), x = ix2 r j := ⟨_, _, eq_ix2 x⟩
    exact (gate_2176 _ _ _ _ r j).trans (gate_place x0 x3 x4 x6 1 2176 768 256 (by decide) (by decide) _ _ r j)
  · intro (x : S416x256.Idx)
    obtain ⟨r, j, rfl⟩ : ∃ (r : Fin 416) (j : Fin 256), x = ix2 r j := ⟨_, _, eq_ix2 x⟩
    exact (gate_1920 _ _ _ _ r j).trans (gate_place x0 x3 x4 x6 1 1920 512 256 (by decide) (by decide) _ _ r j)
  · intro (x : S416x256.Idx)
    obtain ⟨r, j, rfl⟩ : ∃ (r : Fin 416) (j : Fin 256), x = ix2 r j := ⟨_, _, eq_ix2 x⟩
    exact (gate_1664 _ _ _ _ r j).trans (gate_place x0 x3 x4 x6 1 1664 256 256 (by decide) (by decide) _ _ r j)
  · intro (x : S416x256.Idx)
    obtain ⟨r, j, rfl⟩ : ∃ (r : Fin 416) (j : Fin 256), x = ix2 r j := ⟨_, _, eq_ix2 x⟩
    exact (gate_1408 _ _ _ _ r j).trans (gate_place x0 x3 x4 x6 1 1408 0 256 (by decide) (by decide) _ _ r j)

theorem up1_pieces : View.PiecesOf (Val := Elt Ideal) (fun y : S416x2816.Idx => upAt x0 x3 x6 (y 0) (y 1)) (up1 x0 x3 x6) := by
  unfold up1
  refine ⟨?_, ?_, ?_, ?_, ?_, ?_, trivial⟩
  · intro (x : S416x128.Idx)
    obtain ⟨r, j, rfl⟩ : ∃ (r : Fin 416) (j : Fin 128), x = ix2 r j := ⟨_, _, eq_ix2 x⟩
    exact (up_1280 _ _ _ r j).trans (up_place x0 x3 x6 0 1280 1280 128 (by decide) (by decide) _ _ r j)
  · intro (x : S416x256.Idx)
    obtain ⟨r, j, rfl⟩ : ∃ (r : Fin 416) (j : Fin 256), x = ix2 r j := ⟨_, _, eq_ix2 x⟩
    exact (up_1024 _ _ _ r j).trans (up_place x0 x3 x6 0 1024 1024 256 (by decide) (by decide) _ _ r j)
  · intro (x : S416x256.Idx)
    obtain ⟨r, j, rfl⟩ : ∃ (r : Fin 416) (j : Fin 256), x = ix2 r j := ⟨_, _, eq_ix2 x⟩
    exact (up_768 _ _ _ r j).trans (up_place x0 x3 x6 0 768 768 256 (by decide) (by decide) _ _ r j)
  · intro (x : S416x256.Idx)
    obtain ⟨r, j, rfl⟩ : ∃ (r : Fin 416) (j : Fin 256), x = ix2 r j := ⟨_, _, eq_ix2 x⟩
    exact (up_512 _ _ _ r j).trans (up_place x0 x3 x6 0 512 512 256 (by decide) (by decide) _ _ r j)
  · intro (x : S416x256.Idx)
    obtain ⟨r, j, rfl⟩ : ∃ (r : Fin 416) (j : Fin 256), x = ix2 r j := ⟨_, _, eq_ix2 x⟩
    exact (up_256 _ _ _ r j).trans (up_place x0 x3 x6 0 256 256 256 (by decide) (by decide) _ _ r j)
  · intro (x : S416x256.Idx)
    obtain ⟨r, j, rfl⟩ : ∃ (r : Fin 416) (j : Fin 256), x = ix2 r j := ⟨_, _, eq_ix2 x⟩
    exact (up_0 _ _ _ r j).trans (up_place x0 x3 x6 0 0 0 256 (by decide) (by decide) _ _ r j)

theorem up2_pieces : View.PiecesOf (Val := Elt Ideal) (fun y : S416x2816.Idx => upAt x0 x3 x6 (y 0) (y 1)) (up2 x0 x3 x6) := by
  unfold up2
  refine ⟨?_, ?_, ?_, ?_, ?_, ?_, trivial⟩
  · intro (x : S416x128.Idx)
    obtain ⟨r, j, rfl⟩ : ∃ (r : Fin 416) (j : Fin 128), x = ix2 r j := ⟨_, _, eq_ix2 x⟩
    exact (up_2688 _ _ _ r j).trans (up_place x0 x3 x6 1 2688 1280 128 (by decide) (by decide) _ _ r j)
  · intro (x : S416x256.Idx)
    obtain ⟨r, j, rfl⟩ : ∃ (r : Fin 416) (j : Fin 256), x = ix2 r j := ⟨_, _, eq_ix2 x⟩
    exact (up_2432 _ _ _ r j).trans (up_place x0 x3 x6 1 2432 1024 256 (by decide) (by decide) _ _ r j)
  · intro (x : S416x256.Idx)
    obtain ⟨r, j, rfl⟩ : ∃ (r : Fin 416) (j : Fin 256), x = ix2 r j := ⟨_, _, eq_ix2 x⟩
    exact (up_2176 _ _ _ r j).trans (up_place x0 x3 x6 1 2176 768 256 (by decide) (by decide) _ _ r j)
  · intro (x : S416x256.Idx)
    obtain ⟨r, j, rfl⟩ : ∃ (r : Fin 416) (j : Fin 256), x = ix2 r j := ⟨_, _, eq_ix2 x⟩
    exact (up_1920 _ _ _ r j).trans (up_place x0 x3 x6 1 1920 512 256 (by decide) (by decide) _ _ r j)
  · intro (x : S416x256.Idx)
    obtain ⟨r, j, rfl⟩ : ∃ (r : Fin 416) (j : Fin 256), x = ix2 r j := ⟨_, _, eq_ix2 x⟩
    exact (up_1664 _ _ _ r j).trans (up_place x0 x3 x6 1 1664 256 256 (by decide) (by decide) _ _ r j)
  · intro (x : S416x256.Idx)
    obtain ⟨r, j, rfl⟩ : ∃ (r : Fin 416) (j : Fin 256), x = ix2 r j := ⟨_, _, eq_ix2 x⟩
    exact (up_1408 _ _ _ r j).trans (up_place x0 x3 x6 1 1408 0 256 (by decide) (by decide) _ _ r j)

/-- A piece that stands for the columns not yet written when the first products read. -/
def rest : View.Piece (Elt Ideal) S416x2816 .bf16 :=
  ⟨Rect.unit (s := S416x2816) ![0, 1408] ![416, 1408] (by decide), fun _ => (0 : EReal)⟩

theorem not_mem_rest (y : S416x2816.Idx) (hy : (y 1).val < 1408) : y ∉ rest.1.set := fun hm => by
  change y ∈ (Rect.unit (s := S416x2816) ![0, 1408] ![416, 1408] (by decide)).set at hm
  have h1 := (Rect.mem_set_unit.mp hm) 1
  have h2 : 1408 ≤ (y 1).val := h1.1
  omega

/-- Where the left columns' pieces cover. -/
theorem left_cover (L : List (View.Piece (Elt Ideal) S416x2816 .bf16)) (h : View.Piece.tiledBy (rest :: L) ![416, 128] = true)
    (y : S416x2816.Idx) (hy : (y 1).val < 1408) : ∃ p ∈ L, y ∈ p.1.set := by
  obtain ⟨p, hp, hm⟩ := View.cover_of_tiledBy _ _ h y
  rcases List.mem_cons.mp hp with e | hp
  · subst e
    exact absurd hm (not_mem_rest y hy)
  · exact ⟨p, hp, hm⟩

/-- The block of the gate half's gradient. -/
theorem gate_block (y : S416x2816.Idx) :
    View.canon (Val := Elt Ideal) (gate2 x0 x3 x4 x6 ++ gate1 x0 x3 x4 x6) y = gateAt x0 x3 x4 x6 (y 0) (y 1) := by
  have hp : View.PiecesOf (Val := Elt Ideal) (fun y : S416x2816.Idx => gateAt x0 x3 x4 x6 (y 0) (y 1)) (gate2 x0 x3 x4 x6 ++ gate1 x0 x3 x4 x6) := by
    obtain ⟨a, b, c, d, e, f, -⟩ := gate2_pieces x0 x3 x4 x6
    exact ⟨a, b, c, d, e, f, gate1_pieces x0 x3 x4 x6⟩
  have h := View.canon_append_of_piecesOf (Val := Elt Ideal) _ [] _ hp y (View.cover_of_tiledBy _ ![416, 128] (by sl_kernel_rfl) y)
  rwa [List.append_nil] at h

/-- What the first products read of it. -/
theorem gate_left (r : Fin 416) (j : Fin 1408) (h : ∀ a, (![0, 0] : Fin 2 → Nat) a + S416x1408.size a ≤ S416x2816.size a) :
    cols (gate1 x0 x3 x4 x6) ![0, 0] h (ix2 r j) = gateAt x0 x3 x4 x6 r ⟨0 + j.val, by have := j.isLt; omega⟩ := by
  have e := place 0 1408 h r j
  have g := View.canon_append_of_piecesOf (Val := Elt Ideal) _ [] _ (gate1_pieces x0 x3 x4 x6) (ix2 r (⟨0 + j.val, by have := j.isLt; omega⟩ : Fin 2816))
    (left_cover _ (by sl_kernel_rfl) _ (by have := j.isLt; show 0 + j.val < 1408; omega))
  rw [List.append_nil] at g
  exact (congrArg (View.canon (Val := Elt Ideal) (gate1 x0 x3 x4 x6)) e).trans g

/-- What the last products read of it. -/
theorem gate_right (r : Fin 416) (j : Fin 1408) (h : ∀ a, (![0, 1408] : Fin 2 → Nat) a + S416x1408.size a ≤ S416x2816.size a) :
    cols (gate2 x0 x3 x4 x6 ++ gate1 x0 x3 x4 x6) ![0, 1408] h (ix2 r j) = gateAt x0 x3 x4 x6 r ⟨1408 + j.val, by have := j.isLt; omega⟩ :=
  (congrArg (View.canon (Val := Elt Ideal) (gate2 x0 x3 x4 x6 ++ gate1 x0 x3 x4 x6)) (place 1408 1408 h r j)).trans (gate_block x0 x3 x4 x6 _)

/-- The block of the other half's gradient. -/
theorem up_block (y : S416x2816.Idx) :
    View.canon (Val := Elt Ideal) (up2 x0 x3 x6 ++ up1 x0 x3 x6) y = upAt x0 x3 x6 (y 0) (y 1) := by
  have hp : View.PiecesOf (Val := Elt Ideal) (fun y : S416x2816.Idx => upAt x0 x3 x6 (y 0) (y 1)) (up2 x0 x3 x6 ++ up1 x0 x3 x6) := by
    obtain ⟨a, b, c, d, e, f, -⟩ := up2_pieces x0 x3 x6
    exact ⟨a, b, c, d, e, f, up1_pieces x0 x3 x6⟩
  have h := View.canon_append_of_piecesOf (Val := Elt Ideal) _ [] _ hp y (View.cover_of_tiledBy _ ![416, 128] (by sl_kernel_rfl) y)
  rwa [List.append_nil] at h

/-- What the first products read of it. -/
theorem up_left (r : Fin 416) (j : Fin 1408) (h : ∀ a, (![0, 0] : Fin 2 → Nat) a + S416x1408.size a ≤ S416x2816.size a) :
    cols (up1 x0 x3 x6) ![0, 0] h (ix2 r j) = upAt x0 x3 x6 r ⟨0 + j.val, by have := j.isLt; omega⟩ := by
  have e := place 0 1408 h r j
  have g := View.canon_append_of_piecesOf (Val := Elt Ideal) _ [] _ (up1_pieces x0 x3 x6) (ix2 r (⟨0 + j.val, by have := j.isLt; omega⟩ : Fin 2816))
    (left_cover _ (by sl_kernel_rfl) _ (by have := j.isLt; show 0 + j.val < 1408; omega))
  rw [List.append_nil] at g
  exact (congrArg (View.canon (Val := Elt Ideal) (up1 x0 x3 x6)) e).trans g

/-- What the last products read of it. -/
theorem up_right (r : Fin 416) (j : Fin 1408) (h : ∀ a, (![0, 1408] : Fin 2 → Nat) a + S416x1408.size a ≤ S416x2816.size a) :
    cols (up2 x0 x3 x6 ++ up1 x0 x3 x6) ![0, 1408] h (ix2 r j) = upAt x0 x3 x6 r ⟨1408 + j.val, by have := j.isLt; omega⟩ :=
  (congrArg (View.canon (Val := Elt Ideal) (up2 x0 x3 x6 ++ up1 x0 x3 x6)) (place 1408 1408 h r j)).trans (up_block x0 x3 x6 _)

/-- The place of a group of the first weight's columns. -/
theorem vplace (s : Nat) (hs : s < 4) (h : ∀ a, (![s, 0, 0] : Fin 3 → Nat) a + S1x1024x1408.size a ≤ S4x1024x1408.size a) (k : Fin 1024) (j : Fin 1408) :
    (Rect.unit (s := S4x1024x1408) ![s, 0, 0] S1x1024x1408.size h).emb (ix3 0 k j) = ix3 (⟨s, hs⟩ : Fin 4) k j := by
  funext a
  match a with
  | ⟨0, _⟩ => exact Fin.ext (show s + 1 * 0 = s by omega)
  | ⟨1, _⟩ => exact Fin.ext (show 0 + 1 * k.val = k.val by omega)
  | ⟨2, _⟩ => exact Fin.ext (show 0 + 1 * j.val = j.val by omega)

/-- The normalised row's gradient in a block: four sums of 1408 products. -/
theorem dn_block (r : Fin 416) (k : Fin 1024) : dn x0 x3 x4 x6 x5 (ix2 r k)
    = ((∑ j : Fin 1408, gateAt x0 x3 x4 x6 r ⟨0 + j.val, by have := j.isLt; omega⟩ * x5 (ix3 0 k j))
        + ∑ j : Fin 1408, upAt x0 x3 x6 r ⟨0 + j.val, by have := j.isLt; omega⟩ * x5 (ix3 2 k j))
      + ((∑ j : Fin 1408, gateAt x0 x3 x4 x6 r ⟨1408 + j.val, by have := j.isLt; omega⟩ * x5 (ix3 1 k j))
        + ∑ j : Fin 1408, upAt x0 x3 x6 r ⟨1408 + j.val, by have := j.isLt; omega⟩ * x5 (ix3 3 k j)) := by
  unfold dn
  rw [pay78, pay41]
  simp only [gate_left, up_left, gate_right, up_right]
  refine congrArg₂ (· + ·) (congrArg₂ (· + ·) ?_ ?_) (congrArg₂ (· + ·) ?_ ?_) <;>
    refine Finset.sum_congr rfl fun j _ => congrArg₂ (· * ·) rfl ?_
  · exact congrArg x5 (vplace 0 (by decide) _ k j)
  · exact congrArg x5 (vplace 2 (by decide) _ k j)
  · exact congrArg x5 (vplace 1 (by decide) _ k j)
  · exact congrArg x5 (vplace 3 (by decide) _ k j)

end Cert.Proof.Ffn
-- ==== Proof.Ffn.Reference.lean ====
module

public import proofs.«01_k».proof.Proof.Gen.FfnReferenceIdeal.Read
public import proofs.«01_k».proof.Proof.Ffn.Payloads

@[expose] public section

/-! The reference's results at an index, over the extended reals. -/

set_option maxRecDepth 16384

noncomputable section

namespace Cert.Proof.Ffn.Reference

open Cert.FfnReferenceIdeal Cert.FfnReferenceIdeal.Gen Cert.FfnReferenceIdeal.Read Idealize.ShloMosaic Idealize.SL.Sem

variable (x0 x1 : FVec Ideal S4160x1024 .f32) (x2 : FVec Ideal S1x1024 .f32) (x3 : FVec Ideal S1024x5632 .bf16)
  (x4 : FVec Ideal S2816x1024 .bf16) (r : Fin 4160) (k : Fin 1024) (j : Fin 2816)

/-- Column `j` of the left half of the wide product. -/
def left (j : Fin 2816) : Fin 5632 := ⟨j.val, by have := j.isLt; omega⟩

/-- Column `j` of its right half. -/
def right (j : Fin 2816) : Fin 5632 := ⟨2816 + j.val, by have := j.isLt; omega⟩

/-- The wide product of the normalised rows at column `c`. -/
def wide (c : Fin 5632) : EReal :=
  ∑ k : Fin 1024, x1 (ix2 r k) * RmsGrad.rstd (fun k => x1 (ix2 r k)) * x2 (ix2 0 k) * x3 (ix2 k c)

/-- The mean square of a row. -/
theorem ref8 : val_main_v8 (F := Ideal) x1 (ix2 r 0) = RmsGrad.meanSq (fun k => x1 (ix2 r k)) := by
  pointwise [val_main_v8, val_main_v7, val_main_v6, val_main_v5, val_main_v4, val_main_v3, val_main_v2, val_main_cst, val_main_cst_0, val_main_cst_1]
  rfl

/-- Its reciprocal root. -/
theorem ref9 : val_main_v9 (F := Ideal) x1 (ix2 r 0) = RmsGrad.rstd (fun k => x1 (ix2 r k)) := by
  rw [RmsGrad.rstd, ← ref8]
  pointwise [val_main_v9]

/-- The normalised row. -/
theorem ref14 : val_main_v14 (F := Ideal) x1 (ix2 r k) = x1 (ix2 r k) * RmsGrad.rstd (fun k => x1 (ix2 r k)) := by
  rw [← ref9]
  pointwise [val_main_v14, val_main_v13]

/-- The wide product. -/
theorem ref17 (c : Fin 5632) : val_main_v17 (F := Ideal) x1 x2 x3 (ix2 r c) = wide x1 x2 x3 r c := by
  unfold wide
  simp only [← ref14]
  pointwise [val_main_v17, val_main_v16, val_main_v15, val_main_v0]

/-- The gates. -/
theorem ref18 : val_main_v18 (F := Ideal) x1 x2 x3 (ix2 r j) = wide x1 x2 x3 r (left j) := by
  rw [← ref17]
  pointwise [val_main_v18]
  rfl

/-- The other half. -/
theorem ref19 : val_main_v19 (F := Ideal) x1 x2 x3 (ix2 r j) = wide x1 x2 x3 r (right j) := by
  rw [← ref17]
  pointwise [val_main_v19]
  rfl

/-- The gates' sigmoids. -/
theorem ref20 : val_main_v20_2 (F := Ideal) x1 x2 x3 (ix2 r j) = Ideal.logistic (wide x1 x2 x3 r (left j)) := by
  rw [← ref18]
  pointwise [val_main_v20_2, val_main_call0_v4, val_main_call0_v3, val_main_call0_v2, val_main_call0_v1, val_main_call0_v0, val_main_call0_cst, val_main_call0_cst_0]
  rfl

/-- The gradient of the hidden numbers. -/
theorem ref27 : val_main_v27 (F := Ideal) x0 x4 (ix2 r j) = da (fun k => x0 (ix2 r k)) (fun k => x4 (ix2 j k)) := by
  pointwise [val_main_v27, val_main_v26, val_main_v25, val_main_cst_4, val_main_v1]
  rfl

/-- The other half's gradient at row `r` and column `j`. -/
def upGrad : EReal :=
  wide x1 x2 x3 r (left j) * Ideal.logistic (wide x1 x2 x3 r (left j)) * da (fun k => x0 (ix2 r k)) (fun k => x4 (ix2 j k))

theorem ref28 : val_main_v28 (F := Ideal) x0 x1 x2 x3 x4 (ix2 r j) = upGrad x0 x1 x2 x3 x4 r j := by
  rw [upGrad, ← ref20, ← ref18, ← ref27]
  pointwise [val_main_v28, val_main_v20_0]

/-- The gates' gradient at row `r` and column `j`, by the product rule. -/
def gateGrad : EReal :=
  da (fun k => x0 (ix2 r k)) (fun k => x4 (ix2 j k)) * wide x1 x2 x3 r (right j) * Ideal.logistic (wide x1 x2 x3 r (left j))
    + wide x1 x2 x3 r (left j) * (da (fun k => x0 (ix2 r k)) (fun k => x4 (ix2 j k)) * wide x1 x2 x3 r (right j))
      * (Ideal.logistic (wide x1 x2 x3 r (left j)) * (1 - Ideal.logistic (wide x1 x2 x3 r (left j))))

theorem ref30 : val_main_v30 (F := Ideal) x0 x1 x2 x3 x4 (ix2 r j) = gateGrad x0 x1 x2 x3 x4 r j := by
  pointwise [val_main_v30, val_main_call1_v2, val_main_call1_v1, val_main_call1_v0, val_main_v29, val_main_v20_1, val_main_call0_v7, val_main_call0_v6, val_main_call0_cst_1]
  simp only [ref20, ref18, ref19, ref27]
  rfl

/-- The gradient of the normalised rows. -/
def normGrad : EReal :=
  (∑ j : Fin 2816, gateGrad x0 x1 x2 x3 x4 r j * x3 (ix2 k (left j)))
    + ∑ j : Fin 2816, upGrad x0 x1 x2 x3 x4 r j * x3 (ix2 k (right j))

theorem ref32 : val_main_v32 (F := Ideal) x0 x1 x2 x3 x4 (ix2 r k) = normGrad x0 x1 x2 x3 x4 r k := by
  simp only [normGrad, ← ref30, ← ref28]
  pointwise [val_main_v32, val_main_v31, val_main_v0]
  rfl

/-- The scale's gradient. -/
theorem ref35 : val_main_v35 (F := Ideal) x0 x1 x2 x3 x4 (ix2 0 k)
    = ∑ r : Fin 4160, x1 (ix2 r k) * RmsGrad.rstd (fun k => x1 (ix2 r k)) * normGrad x0 x1 x2 x3 x4 r k := by
  simp only [← ref14, ← ref32]
  pointwise [val_main_v35, val_main_v34, val_main_v33, val_main_cst_5]

/-- What reaches a row through its mean square, per unit of the row. -/
theorem ref46 : val_main_v46 (F := Ideal) x0 x1 x2 x3 x4 (ix1 r)
    = RmsGrad.through (fun k => x1 (ix2 r k)) (fun k => x2 (ix2 0 k)) (fun k => normGrad x0 x1 x2 x3 x4 r k) := by
  simp only [RmsGrad.through, ← ref8, ← ref9, ← ref32]
  pointwise [val_main_v46, val_main_v45, val_main_v44, val_main_v43, val_main_v40, val_main_v39, val_main_v38, val_main_v37, val_main_v36, val_main_v12, val_main_v11, val_main_v10, val_main_cst_2, val_main_cst_6, val_main_cst_7, val_main_cst_8]
  exact Fin.sum_univ_one _

/-- The input's gradient. -/
theorem ref52 : val_main_v52 (F := Ideal) x0 x1 x2 x3 x4 (ix2 r k)
    = x0 (ix2 r k) + RmsGrad.byRule (fun k => x1 (ix2 r k)) (fun k => x2 (ix2 0 k)) (fun k => normGrad x0 x1 x2 x3 x4 r k) k := by
  pointwise [val_main_v52, val_main_v51, val_main_v50, val_main_v49, val_main_v48, val_main_v47, val_main_v42, val_main_v41, val_main_v37, val_main_v36]
  simp only [ref46, ref9, ref32]
  rfl

/-- The gates' gradient, as returned. -/
theorem ref53 : val_main_v53 (F := Ideal) x0 x1 x2 x3 x4 (ix2 r j) = gateGrad x0 x1 x2 x3 x4 r j := by
  rw [← ref30]
  pointwise [val_main_v53]

/-- The other half's gradient, as returned. -/
theorem ref54 : val_main_v54 (F := Ideal) x0 x1 x2 x3 x4 (ix2 r j) = upGrad x0 x1 x2 x3 x4 r j := by
  rw [← ref28]
  pointwise [val_main_v54]

/-- The halved incoming gradient. -/
theorem ref57 : val_main_v57 (F := Ideal) x0 (ix2 r k) = half * x0 (ix2 r k) := by
  pointwise [val_main_v57, val_main_v56, val_main_v55, val_main_cst_9]
  rfl

end Cert.Proof.Ffn.Reference
-- ==== Proof.Ffn.Blocks.lean ====
module

public import proofs.«01_k».proof.Proof.Gen.FfnKernelIdeal.Frame.Runs
public import proofs.«01_k».proof.Proof.Ffn.Reference

@[expose] public section

/-! Which entries of the arrays a grid point's blocks are: point `t` takes the rows `416 t … 416 t + 415` of every
array cut into tiles, and the scale and the two weights whole.  The weights reach the call reshaped (the first one in
four groups of 1408 columns, the second in two groups of 1408 rows), the gate and the other half of the wide product
as the forward pass leaves them. -/

set_option maxRecDepth 16384

noncomputable section

namespace Cert.Proof.Ffn.Blocks

open Cert.FfnKernelIdeal Cert.FfnKernelIdeal.Gen Idealize.ShloMosaic Idealize.ShloMosaic.TcCoe Idealize.SL.Sem
open Cert.Proof.Ffn.Reference

section Places

variable (t : Fin cfg0.N)

theorem lt_ten (t : Fin cfg0.N) : t.val < 10 := t.isLt

/-- The row of the arrays that row `r` of point `t`'s tile is. -/
def row (t : Fin cfg0.N) (r : Fin 416) : Fin 4160 :=
  ⟨t.val * 416 + r.val, by have := lt_ten t; have := r.isLt; omega⟩

/-- Every row is some tile's. -/
theorem exists_row (R : Fin 4160) : ∃ (t : Fin cfg0.N) (r : Fin 416), R = row t r :=
  ⟨(⟨R.val / 416, by have := R.isLt; omega⟩ : Fin 10), ⟨R.val % 416, Nat.mod_lt _ (by decide)⟩,
    Fin.ext (by show R.val = R.val / 416 * 416 + R.val % 416; omega)⟩

theorem index0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- Where window 0's block lies in its array. -/
theorem emb0 (r : Fin 416) (j : Fin 1024) : ((cfg0.win 0).blk t).view.emb (ix2 r j) = ix2 (row t r) j := by
  funext a
  apply Fin.ext
  match a with
  | ⟨0, _⟩ => show win0_0.index t (0 : Fin 2) * 416 + 1 * r.val = t.val * 416 + r.val; rw [(index0 t).1, Nat.one_mul]
  | ⟨1, _⟩ => show win0_0.index t (1 : Fin 2) * 1024 + 1 * j.val = j.val; rw [(index0 t).2]; omega

theorem index1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

/-- Where window 1's block lies in its array. -/
theorem emb1 (r : Fin 416) (j : Fin 1024) : ((cfg0.win 1).blk t).view.emb (ix2 r j) = ix2 (row t r) j := by
  funext a
  apply Fin.ext
  match a with
  | ⟨0, _⟩ => show win0_1.index t (0 : Fin 2) * 416 + 1 * r.val = t.val * 416 + r.val; rw [(index1 t).1, Nat.one_mul]
  | ⟨1, _⟩ => show win0_1.index t (1 : Fin 2) * 1024 + 1 * j.val = j.val; rw [(index1 t).2]; omega

theorem index3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)

/-- Where window 3's block lies in its array. -/
theorem emb3 (r : Fin 416) (j : Fin 2816) : ((cfg0.win 3).blk t).view.emb (ix2 r j) = ix2 (row t r) j := by
  funext a
  apply Fin.ext
  match a with
  | ⟨0, _⟩ => show win0_3.index t (0 : Fin 2) * 416 + 1 * r.val = t.val * 416 + r.val; rw [(index3 t).1, Nat.one_mul]
  | ⟨1, _⟩ => show win0_3.index t (1 : Fin 2) * 2816 + 1 * j.val = j.val; rw [(index3 t).2]; omega

theorem index4 : ∀ t : Fin cfg0.N, win0_4.index t (0 : Fin 2) = t.val ∧ win0_4.index t (1 : Fin 2) = 0 :=
  (by decide +kernel : ∀ t : Fin grid0.N, win0_4.index t (0 : Fin 2) = t.val ∧ win0_4.index t (1 : Fin 2) = 0)

/-- Where window 4's block lies in its array. -/
theorem emb4 (r : Fin 416) (j : Fin 2816) : ((cfg0.win 4).blk t).view.emb (ix2 r j) = ix2 (row t r) j := by
  funext a
  apply Fin.ext
  match a with
  | ⟨0, _⟩ => show win0_4.index t (0 : Fin 2) * 416 + 1 * r.val = t.val * 416 + r.val; rw [(index4 t).1, Nat.one_mul]
  | ⟨1, _⟩ => show win0_4.index t (1 : Fin 2) * 2816 + 1 * j.val = j.val; rw [(index4 t).2]; omega

theorem index7 : ∀ t : Fin cfg0.N, win0_7.index t (0 : Fin 2) = t.val ∧ win0_7.index t (1 : Fin 2) = 0 :=
  (by decide +kernel : ∀ t : Fin grid0.N, win0_7.index t (0 : Fin 2) = t.val ∧ win0_7.index t (1 : Fin 2) = 0)

/-- Where window 7's block lies in its array. -/
theorem emb7 (r : Fin 416) (j : Fin 1024) : ((cfg0.win 7).blk t).view.emb (ix2 r j) = ix2 (row t r) j := by
  funext a
  apply Fin.ext
  match a with
  | ⟨0, _⟩ => show win0_7.index t (0 : Fin 2) * 416 + 1 * r.val = t.val * 416 + r.val; rw [(index7 t).1, Nat.one_mul]
  | ⟨1, _⟩ => show win0_7.index t (1 : Fin 2) * 1024 + 1 * j.val = j.val; rw [(index7 t).2]; omega

theorem index8 : ∀ t : Fin cfg0.N, win0_8.index t (0 : Fin 2) = t.val ∧ win0_8.index t (1 : Fin 2) = 0 :=
  (by decide +kernel : ∀ t : Fin grid0.N, win0_8.index t (0 : Fin 2) = t.val ∧ win0_8.index t (1 : Fin 2) = 0)

/-- Where window 8's block lies in its array. -/
theorem emb8 (r : Fin 416) (j : Fin 2816) : ((cfg0.win 8).blk t).view.emb (ix2 r j) = ix2 (row t r) j := by
  funext a
  apply Fin.ext
  match a with
  | ⟨0, _⟩ => show win0_8.index t (0 : Fin 2) * 416 + 1 * r.val = t.val * 416 + r.val; rw [(index8 t).1, Nat.one_mul]
  | ⟨1, _⟩ => show win0_8.index t (1 : Fin 2) * 2816 + 1 * j.val = j.val; rw [(index8 t).2]; omega

theorem index9 : ∀ t : Fin cfg0.N, win0_9.index t (0 : Fin 2) = t.val ∧ win0_9.index t (1 : Fin 2) = 0 :=
  (by decide +kernel : ∀ t : Fin grid0.N, win0_9.index t (0 : Fin 2) = t.val ∧ win0_9.index t (1 : Fin 2) = 0)

/-- Where window 9's block lies in its array. -/
theorem emb9 (r : Fin 416) (j : Fin 2816) : ((cfg0.win 9).blk t).view.emb (ix2 r j) = ix2 (row t r) j := by
  funext a
  apply Fin.ext
  match a with
  | ⟨0, _⟩ => show win0_9.index t (0 : Fin 2) * 416 + 1 * r.val = t.val * 416 + r.val; rw [(index9 t).1, Nat.one_mul]
  | ⟨1, _⟩ => show win0_9.index t (1 : Fin 2) * 2816 + 1 * j.val = j.val; rw [(index9 t).2]; omega

theorem index10 : ∀ t : Fin cfg0.N, win0_10.index t (0 : Fin 2) = t.val ∧ win0_10.index t (1 : Fin 2) = 0 :=
  (by decide +kernel : ∀ t : Fin grid0.N, win0_10.index t (0 : Fin 2) = t.val ∧ win0_10.index t (1 : Fin 2) = 0)

/-- Where window 10's block lies in its array. -/
theorem emb10 (r : Fin 416) (j : Fin 1024) : ((cfg0.win 10).blk t).view.emb (ix2 r j) = ix2 (row t r) j := by
  funext a
  apply Fin.ext
  match a with
  | ⟨0, _⟩ => show win0_10.index t (0 : Fin 2) * 416 + 1 * r.val = t.val * 416 + r.val; rw [(index10 t).1, Nat.one_mul]
  | ⟨1, _⟩ => show win0_10.index t (1 : Fin 2) * 1024 + 1 * j.val = j.val; rw [(index10 t).2]; omega

theorem index2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

/-- Window 2's block is its whole array. -/
theorem emb2 (j : S1x1024.Idx) : ((cfg0.win 2).blk t).view.emb j = j := by
  funext a
  apply Fin.ext
  match a with
  | ⟨0, _⟩ => show win0_2.index t (0 : Fin 2) * 1 + 1 * (j 0).val = (j 0).val; rw [(index2 t).1]; omega
  | ⟨1, _⟩ => show win0_2.index t (1 : Fin 2) * 1024 + 1 * (j 1).val = (j 1).val; rw [(index2 t).2]; omega

theorem index11 : ∀ t : Fin cfg0.N, win0_11.index t (0 : Fin 2) = 0 ∧ win0_11.index t (1 : Fin 2) = 0 :=
  (by decide +kernel : ∀ t : Fin grid0.N, win0_11.index t (0 : Fin 2) = 0 ∧ win0_11.index t (1 : Fin 2) = 0)

/-- Window 11's block is its whole array. -/
theorem emb11 (j : S1x1024.Idx) : ((cfg0.win 11).blk t).view.emb j = j := by
  funext a
  apply Fin.ext
  match a with
  | ⟨0, _⟩ => show win0_11.index t (0 : Fin 2) * 1 + 1 * (j 0).val = (j 0).val; rw [(index11 t).1]; omega
  | ⟨1, _⟩ => show win0_11.index t (1 : Fin 2) * 1024 + 1 * (j 1).val = (j 1).val; rw [(index11 t).2]; omega

theorem index5 : ∀ t : Fin cfg0.N, win0_5.index t (0 : Fin 3) = 0 ∧ win0_5.index t (1 : Fin 3) = 0 ∧ win0_5.index t (2 : Fin 3) = 0 :=
  (by decide +kernel : ∀ t : Fin grid0.N, win0_5.index t (0 : Fin 3) = 0 ∧ win0_5.index t (1 : Fin 3) = 0 ∧ win0_5.index t (2 : Fin 3) = 0)

/-- Window 5's block is its whole array. -/
theorem emb5 (j : S4x1024x1408.Idx) : ((cfg0.win 5).blk t).view.emb j = j := by
  funext a
  apply Fin.ext
  match a with
  | ⟨0, _⟩ => show win0_5.index t (0 : Fin 3) * 4 + 1 * (j 0).val = (j 0).val; rw [(index5 t).1]; omega
  | ⟨1, _⟩ => show win0_5.index t (1 : Fin 3) * 1024 + 1 * (j 1).val = (j 1).val; rw [(index5 t).2.1]; omega
  | ⟨2, _⟩ => show win0_5.index t (2 : Fin 3) * 1408 + 1 * (j 2).val = (j 2).val; rw [(index5 t).2.2]; omega

theorem index6 : ∀ t : Fin cfg0.N, win0_6.index t (0 : Fin 3) = 0 ∧ win0_6.index t (1 : Fin 3) = 0 ∧ win0_6.index t (2 : Fin 3) = 0 :=
  (by decide +kernel : ∀ t : Fin grid0.N, win0_6.index t (0 : Fin 3) = 0 ∧ win0_6.index t (1 : Fin 3) = 0 ∧ win0_6.index t (2 : Fin 3) = 0)

/-- Window 6's block is its whole array. -/
theorem emb6 (j : S2x1408x1024.Idx) : ((cfg0.win 6).blk t).view.emb j = j := by
  funext a
  apply Fin.ext
  match a with
  | ⟨0, _⟩ => show win0_6.index t (0 : Fin 3) * 2 + 1 * (j 0).val = (j 0).val; rw [(index6 t).1]; omega
  | ⟨1, _⟩ => show win0_6.index t (1 : Fin 3) * 1408 + 1 * (j 1).val = (j 1).val; rw [(index6 t).2.1]; omega
  | ⟨2, _⟩ => show win0_6.index t (2 : Fin 3) * 1024 + 1 * (j 2).val = (j 2).val; rw [(index6 t).2.2]; omega

end Places

variable (m : ∀ l, Buf (Elt Ideal) l) (c : Dev nD) (t : Fin cfg0.N)

/-- The arguments. -/
abbrev A0 : FVec Ideal S4160x1024 .f32 := m ((c : Thread nD τ).loc main_arg0)
abbrev A1 : FVec Ideal S4160x1024 .f32 := m ((c : Thread nD τ).loc main_arg1)
abbrev A2 : FVec Ideal S1x1024 .f32 := m ((c : Thread nD τ).loc main_arg2)
abbrev A3 : FVec Ideal S1024x5632 .bf16 := m ((c : Thread nD τ).loc main_arg3)
abbrev A4 : FVec Ideal S2816x1024 .bf16 := m ((c : Thread nD τ).loc main_arg4)

/-- The gates the call reads are the forward pass's. -/
theorem V18 : V m c main_v18 = fun i => Cert.FfnReferenceIdeal.Read.val_main_v18 (F := Ideal) (A1 m c) (A2 m c) (A3 m c) i := by
  show StableHlo.after hostOps0 (fun b => m (c, b)) main_v18 = _
  simp only [hostOps0]
  after_results_simp <;> rfl

/-- and so is the other half of the wide product. -/
theorem V19 : V m c main_v19 = fun i => Cert.FfnReferenceIdeal.Read.val_main_v19 (F := Ideal) (A1 m c) (A2 m c) (A3 m c) i := by
  show StableHlo.after hostOps0 (fun b => m (c, b)) main_v19 = _
  simp only [hostOps0]
  after_results_simp <;> rfl

/-- The first weight in its groups of columns. -/
theorem V17 : V m c main_v17 = transpose S4x1024x1408 [1, 0, 2]
    (shapeCast S1024x4x1408 (A3 m c) shapeCasts_S1024x5632_S1024x4x1408) transposes_S1024x4x1408_S4x1024x1408_1_0_2 := by
  show StableHlo.after hostOps0 (fun b => m (c, b)) main_v17 = _
  simp only [hostOps0]
  after_results_simp <;> rfl

/-- The second weight in its groups of rows. -/
theorem V20 : V m c main_v20 = shapeCast S2x1408x1024 (A4 m c) shapeCasts_S2816x1024_S2x1408x1024 := by
  show StableHlo.after hostOps0 (fun b => m (c, b)) main_v20 = _
  simp only [hostOps0]
  after_results_simp <;> rfl

/-- Input blocks at an index. -/
theorem in0 (r : Fin 416) (j : Fin 1024) : iblk m c 0 t (ix2 r j) = A0 m c (ix2 (row t r) j) := by
  show V m c main_arg0 (((cfg0.win 0).blk t).view.emb (ix2 r j)) = _
  rw [emb0, V_main_arg0]

theorem in1 (r : Fin 416) (j : Fin 1024) : iblk m c 1 t (ix2 r j) = A1 m c (ix2 (row t r) j) := by
  show V m c main_arg1 (((cfg0.win 1).blk t).view.emb (ix2 r j)) = _
  rw [emb1, V_main_arg1]

theorem in2 (j : Fin 1024) : iblk m c 2 t (ix2 0 j) = A2 m c (ix2 0 j) := by
  show V m c main_arg2 (((cfg0.win 2).blk t).view.emb (ix2 0 j)) = _
  rw [emb2, V_main_arg2]

/-- The gates. -/
theorem in3 (r : Fin 416) (j : Fin 2816) : iblk m c 3 t (ix2 r j) = wide (A1 m c) (A2 m c) (A3 m c) (row t r) (left j) := by
  show V m c main_v18 (((cfg0.win 3).blk t).view.emb (ix2 r j)) = _
  rw [emb3, V18]
  exact ref18 _ _ _ _ _

/-- The other half. -/
theorem in4 (r : Fin 416) (j : Fin 2816) : iblk m c 4 t (ix2 r j) = wide (A1 m c) (A2 m c) (A3 m c) (row t r) (right j) := by
  show V m c main_v19 (((cfg0.win 4).blk t).view.emb (ix2 r j)) = _
  rw [emb4, V19]
  exact ref19 _ _ _ _ _

/-- Group `s` of the first weight's columns. -/
theorem in5 (s : Fin 4) (k : Fin 1024) (j : Fin 1408) :
    iblk m c 5 t (ix3 s k j) = A3 m c (ix2 k (⟨s.val * 1408 + j.val, by have := s.isLt; have := j.isLt; omega⟩ : Fin 5632)) := by
  show V m c main_v17 (((cfg0.win 5).blk t).view.emb (ix3 s k j)) = _
  rw [emb5, V17]
  pointwise

/-- Group `s` of the second weight's rows. -/
theorem in6 (s : Fin 2) (j : Fin 1408) (k : Fin 1024) :
    iblk m c 6 t (ix3 s j k) = A4 m c (ix2 (⟨s.val * 1408 + j.val, by have := s.isLt; have := j.isLt; omega⟩ : Fin 2816) k) := by
  show V m c main_v20 (((cfg0.win 6).blk t).view.emb (ix3 s j k)) = _
  rw [emb6, V20]
  pointwise

end Cert.Proof.Ffn.Blocks
-- ==== Proof.Finite.lean ====
module

public import proofs.«01_k».proof.Proof.RmsGrad
public import Idealize.ShloMosaic.Lib.ReduceAll
public import Idealize.ShloMosaic.Lib.IdealHost

@[expose] public section

/-! Real numbers among the extended reals: what is computed from them is real again, and what it means that an array
passes the test `all (|x| < ∞)`. -/

noncomputable section

namespace Cert.Proof

open Idealize.ShloMosaic Idealize.SL.Sem

/-- An extended real that is a real number. -/
def IsReal (x : EReal) : Prop := ∃ r : ℝ, x = r

namespace IsReal

theorem add {x y : EReal} (hx : IsReal x) (hy : IsReal y) : IsReal (x + y) := by
  obtain ⟨a, rfl⟩ := hx
  obtain ⟨b, rfl⟩ := hy
  exact ⟨a + b, (EReal.coe_add a b).symm⟩

theorem sub {x y : EReal} (hx : IsReal x) (hy : IsReal y) : IsReal (x - y) := by
  obtain ⟨a, rfl⟩ := hx
  obtain ⟨b, rfl⟩ := hy
  exact ⟨a - b, (EReal.coe_sub a b).symm⟩

theorem mul {x y : EReal} (hx : IsReal x) (hy : IsReal y) : IsReal (x * y) := by
  obtain ⟨a, rfl⟩ := hx
  obtain ⟨b, rfl⟩ := hy
  exact ⟨a * b, (EReal.coe_mul a b).symm⟩

theorem one : IsReal 1 := ⟨1, rfl⟩

theorem sum {ι : Type} [Fintype ι] {f : ι → EReal} (h : ∀ i, IsReal (f i)) : IsReal (∑ i, f i) := by
  choose g hg using h
  exact ⟨∑ i, g i, by rw [← RmsGrad.coe_sum]; exact Finset.sum_congr rfl fun i _ => hg i⟩

theorem logistic {x : EReal} (h : IsReal x) : IsReal (Ideal.logistic x) := by
  obtain ⟨a, rfl⟩ := h
  exact ⟨_, Ideal.logistic_coe a⟩

theorem rstd {x : Fin 1024 → EReal} (h : ∀ k, IsReal (x k)) : IsReal (RmsGrad.rstd x) := by
  choose g hg using h
  obtain rfl : x = fun k => (g k : EReal) := funext hg
  obtain ⟨v, hv, e⟩ := RmsGrad.meanSq_coe g
  exact ⟨_, RmsGrad.rstd_coe g hv e⟩

/-- An extended real whose absolute value is below infinity. -/
theorem of_abs_lt {x : EReal} (h : max x (-x) < ⊤) : IsReal x := by
  induction x with
  | bot => simp at h
  | coe r => exact ⟨r, rfl⟩
  | top => simp at h

end IsReal

/-- Infinity, as the programs' binary32 pattern. -/
theorem inf_eq : Ideal.ofBits .f32 0x7F800000#32 = ⊤ := by
  simp [Ideal.ofBits, Ideal.ieee]

/-- Every entry of an array that passes the test is a real number. -/
theorem real_of_all {s t u : Shape} {axes : List (Fin s.rank)} [Subsingleton t.Idx] (X B : FVec Ideal s .f32)
    (hB : ∀ i, B i = Ideal.ofBits .f32 0x7F800000#32) (init : u.Idx → BitVec 1) (h : s.ReducesTo axes t) (hu : 0 < u.numel) (j : t.Idx)
    (e : Host.reduce IntOp.andi (cmpf .olt (Host.absf X) B) init h hu j = 1#1) (i : s.Idx) : IsReal (X i) := by
  have h1 := Host.reduce_andi_all _ _ _ _ j e i
  have h2 : BitVec.ofBool (decide (max (X i : EReal) (-(X i : EReal)) < (B i : EReal))) = 1#1 := h1
  rw [hB, inf_eq] at h2
  refine IsReal.of_abs_lt ?_
  by_contra hn
  rw [decide_eq_false hn] at h2
  exact absurd h2 (by decide)

end Cert.Proof
-- ==== Proof.Ffn.Finite.lean ====
module

public import proofs.«01_k».proof.Defs
public import proofs.«01_k».proof.Proof.Gen.Pre_finite
public import proofs.«01_k».proof.Proof.Ffn.Reference
public import proofs.«01_k».proof.Proof.Finite

@[expose] public section

/-! Finite arguments: every number of the backward pass is real, and the two forms of each half's gradient agree. -/

set_option maxRecDepth 16384

noncomputable section

namespace Cert.Proof.Ffn

open Idealize.ShloMosaic Idealize.SL.Sem

/-- What the precondition says of the five arrays. -/
theorem args_real (x0 x1 : FVec Ideal Cert.Pre_finite.S4160x1024 .f32) (x2 : FVec Ideal Cert.Pre_finite.S1x1024 .f32)
    (x3 : FVec Ideal Cert.Pre_finite.S1024x5632 .bf16) (x4 : FVec Ideal Cert.Pre_finite.S2816x1024 .bf16)
    (h : (Cert.Pre_finite.fn (F := Ideal) x0 x1 x2 x3 x4).1 = (fun _ => 1#1)
      ∧ (Cert.Pre_finite.fn (F := Ideal) x0 x1 x2 x3 x4).2.1 = (fun _ => 1#1)
      ∧ (Cert.Pre_finite.fn (F := Ideal) x0 x1 x2 x3 x4).2.2.1 = (fun _ => 1#1)
      ∧ (Cert.Pre_finite.fn (F := Ideal) x0 x1 x2 x3 x4).2.2.2.1 = (fun _ => 1#1)
      ∧ (Cert.Pre_finite.fn (F := Ideal) x0 x1 x2 x3 x4).2.2.2.2 = (fun _ => 1#1)) :
    (∀ i, IsReal (x0 i)) ∧ (∀ i, IsReal (x1 i)) ∧ (∀ i, IsReal (x2 i)) ∧ (∀ i, IsReal (x3 i)) ∧ ∀ i, IsReal (x4 i) := by
  dsimp only [Cert.Pre_finite.fn, Cert.Pre_finite.fn_part1] at h
  obtain ⟨h0, h1, h2, h3, h4⟩ := h
  haveI : Subsingleton Cert.Pre_finite.S_.Idx := ⟨fun a b => funext fun k => k.elim0⟩
  have j : Cert.Pre_finite.S_.Idx := fun k => k.elim0
  exact ⟨real_of_all _ _ (fun _ => rfl) _ _ _ j (congrFun h0 j), real_of_all _ _ (fun _ => rfl) _ _ _ j (congrFun h1 j),
    real_of_all _ _ (fun _ => rfl) _ _ _ j (congrFun h2 j), real_of_all (extf .f32 x3 _) _ (fun _ => rfl) _ _ _ j (congrFun h3 j),
    real_of_all (extf .f32 x4 _) _ (fun _ => rfl) _ _ _ j (congrFun h4 j)⟩

/-- The gate half's gradient, the kernel's form and the product rule's, on real numbers. -/
theorem dgate_eq {a g u : EReal} (ha : IsReal a) (hg : IsReal g) (hu : IsReal u) :
    dgate a g u = a * u * Ideal.logistic g + g * (a * u) * (Ideal.logistic g * (1 - Ideal.logistic g)) := by
  obtain ⟨s, hs⟩ := hg.logistic
  obtain ⟨a, rfl⟩ := ha
  obtain ⟨g, rfl⟩ := hg
  obtain ⟨u, rfl⟩ := hu
  rw [dgate, hs, show (1 : EReal) = ((1 : ℝ) : EReal) from rfl]
  simp only [← EReal.coe_mul, ← EReal.coe_add, ← EReal.coe_sub]
  exact congrArg _ (by ring)

/-- The other half's. -/
theorem dup_eq (a g : EReal) : dup a g = g * Ideal.logistic g * a := mul_comm _ _

/-- One half is a real number. -/
theorem half_real : IsReal half := ⟨1 / 2, by simp [half, Ideal.ofBits, Ideal.ieee, -EReal.coe_mul]; norm_num⟩

theorem da_real {a w : Fin 1024 → EReal} (ha : ∀ k, IsReal (a k)) (hw : ∀ k, IsReal (w k)) : IsReal (da a w) :=
  .sum fun k => (half_real.mul (ha k)).mul (hw k)

namespace Reference

variable {x0 x1 : FVec Ideal Cert.FfnReferenceIdeal.S4160x1024 .f32} {x2 : FVec Ideal Cert.FfnReferenceIdeal.S1x1024 .f32}
  {x3 : FVec Ideal Cert.FfnReferenceIdeal.S1024x5632 .bf16} {x4 : FVec Ideal Cert.FfnReferenceIdeal.S2816x1024 .bf16}
  (h0 : ∀ i, IsReal (x0 i)) (h1 : ∀ i, IsReal (x1 i)) (h2 : ∀ i, IsReal (x2 i)) (h3 : ∀ i, IsReal (x3 i)) (h4 : ∀ i, IsReal (x4 i))
  (r : Fin 4160)

include h1 h2 h3 in
theorem wide_real (c : Fin 5632) : IsReal (wide x1 x2 x3 r c) :=
  .sum fun k => (((h1 _).mul (.rstd fun _ => h1 _)).mul (h2 _)).mul (h3 _)

include h0 h1 h2 h3 h4 in
theorem gateGrad_eq (j : Fin 2816) : dgate (da (fun k => x0 (ix2 r k)) (fun k => x4 (ix2 j k))) (wide x1 x2 x3 r (left j)) (wide x1 x2 x3 r (right j))
    = gateGrad x0 x1 x2 x3 x4 r j :=
  dgate_eq (da_real (fun _ => h0 _) fun _ => h4 _) (wide_real h1 h2 h3 r _) (wide_real h1 h2 h3 r _)

include h0 h1 h2 h3 h4 in
theorem gateGrad_real (j : Fin 2816) : IsReal (gateGrad x0 x1 x2 x3 x4 r j) := by
  have a := da_real (fun k => h0 (ix2 r k)) fun k => h4 (ix2 j k)
  have w := wide_real h1 h2 h3 r
  exact ((a.mul (w _)).mul (w _).logistic).add (((w _).mul (a.mul (w _))).mul ((w _).logistic.mul (.sub .one (w _).logistic)))

include h0 h1 h2 h3 h4 in
theorem upGrad_real (j : Fin 2816) : IsReal (upGrad x0 x1 x2 x3 x4 r j) :=
  ((wide_real h1 h2 h3 r _).mul (wide_real h1 h2 h3 r _).logistic).mul (da_real (fun _ => h0 _) fun _ => h4 _)

include h0 h1 h2 h3 h4 in
theorem normGrad_real (k : Fin 1024) : IsReal (normGrad x0 x1 x2 x3 x4 r k) :=
  .add (.sum fun j => (gateGrad_real h0 h1 h2 h3 h4 r j).mul (h3 _)) (.sum fun j => (upGrad_real h0 h1 h2 h3 h4 r j).mul (h3 _))

end Reference

end Cert.Proof.Ffn
-- ==== Proof.Ffn.Values.lean ====
module

public import proofs.«01_k».proof.Proof.Ffn.Hidden
public import proofs.«01_k».proof.Proof.Ffn.Blocks
public import proofs.«01_k».proof.Proof.Ffn.Finite

@[expose] public section

/-! Each result of the feed-forward backward call, at an index, is the reference's. -/

set_option maxRecDepth 16384

noncomputable section

namespace Cert.Proof.Ffn.Values

open Cert.FfnKernelIdeal Cert.FfnKernelIdeal.Gen Cert.FfnKernelIdeal.Value Idealize.ShloMosaic Idealize.ShloMosaic.TcCoe
  Idealize.SL.Sem
open Cert.Proof.Ffn Cert.Proof.Ffn.Blocks Cert.Proof.Ffn.Reference Cert.FfnReferenceIdeal.Read

variable (m : ∀ l, Buf (Elt Ideal) l) (c : Dev nD)
  (f0 : ∀ i, IsReal (A0 m c i)) (f1 : ∀ i, IsReal (A1 m c i)) (f2 : ∀ i, IsReal (A2 m c i)) (f3 : ∀ i, IsReal (A3 m c i))
  (f4 : ∀ i, IsReal (A4 m c i)) (t : Fin cfg0.N) (r : Fin 416)

/-- The hidden numbers' gradient, in a tile. -/
theorem da_tile (j : Fin 2816) : daAt (iblk m c 0 t) (iblk m c 6 t) r j
    = da (fun k => A0 m c (ix2 (row t r) k)) (fun k => A4 m c (ix2 j k)) := by
  have e : (⟨(grp j).val * 1408 + (pos j).val, by have := (grp j).isLt; have := (pos j).isLt; omega⟩ : Fin 2816) = j :=
    Fin.ext (show j.val / 1408 * 1408 + j.val % 1408 = j.val by omega)
  simp only [daAt, in0, in6, e]

include f0 f1 f2 f3 f4 in
/-- The gates' gradient, in a tile. -/
theorem gate_tile (j : Fin 2816) : gateAt (iblk m c 0 t) (iblk m c 3 t) (iblk m c 4 t) (iblk m c 6 t) r j
    = gateGrad (A0 m c) (A1 m c) (A2 m c) (A3 m c) (A4 m c) (row t r) j := by
  rw [gateAt, da_tile, in3, in4]
  exact gateGrad_eq f0 f1 f2 f3 f4 _ _

/-- The other half's gradient, in a tile. -/
theorem up_tile (j : Fin 2816) : upAt (iblk m c 0 t) (iblk m c 3 t) (iblk m c 6 t) r j
    = upGrad (A0 m c) (A1 m c) (A2 m c) (A3 m c) (A4 m c) (row t r) j := by
  rw [upAt, da_tile, in3, dup_eq]
  rfl

/-- A sum over 2816 columns in two groups. -/
theorem sum_halves (f : Fin 2816 → EReal) : ∑ j, f j
    = (∑ j : Fin 1408, f ⟨0 + j.val, by have := j.isLt; omega⟩) + ∑ j : Fin 1408, f ⟨1408 + j.val, by have := j.isLt; omega⟩ := by
  refine (Fin.sum_univ_add (a := 1408) (b := 1408) f).trans (congrArg (· + _) (Finset.sum_congr rfl fun j _ => congrArg f ?_))
  exact Fin.ext (show j.val = 0 + j.val by omega)

include f0 f1 f2 f3 f4 in
/-- The normalised rows' gradient, in a tile. -/
theorem dn_tile (k : Fin 1024) : dn (iblk m c 0 t) (iblk m c 3 t) (iblk m c 4 t) (iblk m c 6 t) (iblk m c 5 t) (ix2 r k)
    = normGrad (A0 m c) (A1 m c) (A2 m c) (A3 m c) (A4 m c) (row t r) k := by
  rw [dn_block, normGrad, sum_halves, sum_halves, add_add_add_comm]
  simp only [gate_tile m c f0 f1 f2 f3 f4, up_tile, in5]
  refine congrArg₂ (· + ·) (congrArg₂ (· + ·) ?_ ?_) (congrArg₂ (· + ·) ?_ ?_) <;>
    refine Finset.sum_congr rfl fun j _ => congrArg₂ (· * ·) rfl (congrArg (fun q => A3 m c (ix2 k q)) (Fin.ext ?_))
  · show 0 * 1408 + j.val = 0 + j.val; omega
  · show 1 * 1408 + j.val = 1408 + j.val; omega
  · show 2 * 1408 + j.val = 2816 + (0 + j.val); omega
  · show 3 * 1408 + j.val = 2816 + (1408 + j.val); omega

include f0 f1 f2 f3 f4 in
/-- The input's gradient. -/
theorem out7 (k : Fin 1024) : (dats m 0 c).arrAt 7 cfg0.N (ix2 (row t r) k)
    = val_main_v52 (F := Ideal) (A0 m c) (A1 m c) (A2 m c) (A3 m c) (A4 m c) (ix2 (row t r) k) := by
  have e : k0_pay4 (F := Ideal) (iblk m c 0 t) (dn (iblk m c 0 t) (iblk m c 3 t) (iblk m c 4 t) (iblk m c 6 t) (iblk m c 5 t)) (iblk m c 1 t) (iblk m c 2 t) (k0_pay79 (iblk m c 1 t)) (ix2 r k)
      = val_main_v52 (F := Ideal) (A0 m c) (A1 m c) (A2 m c) (A3 m c) (A4 m c) (ix2 (row t r) k) := by
    rw [pay4, ref52]
    simp only [dn_tile m c f0 f1 f2 f3 f4, in0, in1, in2]
    rw [RmsGrad.byKernel_eq _ _ _ (fun _ => f1 _) (fun _ => f2 _) (fun _ => normGrad_real f0 f1 f2 f3 f4 _ _)]
  have h := congrFun ((blocks7 m c t (flush0_7 t)).trans (flush7 m c t)) (ix2 r k)
  change (dats m 0 c).arrAt 7 cfg0.N (((cfg0.win 7).blk t).view.emb (ix2 r k)) = k0_pay4 (F := Ideal) _ _ _ _ _ (ix2 r k) at h
  rw [emb7] at h
  exact h.trans e

include f0 f1 f2 f3 f4 in
/-- The gates' gradient. -/
theorem out8 (j : Fin 2816) : (dats m 0 c).arrAt 8 cfg0.N (ix2 (row t r) j)
    = val_main_v53 (F := Ideal) (A0 m c) (A1 m c) (A2 m c) (A3 m c) (A4 m c) (ix2 (row t r) j) := by
  have h := congrFun ((blocks8 m c t (flush0_8 t)).trans (flush8 m c t)) (ix2 r j)
  change (dats m 0 c).arrAt 8 cfg0.N (((cfg0.win 8).blk t).view.emb (ix2 r j)) = View.canon (Val := Elt Ideal) _ (ix2 r j) at h
  rw [emb8, gate_block] at h
  exact h.trans ((gate_tile m c f0 f1 f2 f3 f4 t r j).trans (ref53 ..).symm)

/-- The other half's gradient. -/
theorem out9 (j : Fin 2816) : (dats m 0 c).arrAt 9 cfg0.N (ix2 (row t r) j)
    = val_main_v54 (F := Ideal) (A0 m c) (A1 m c) (A2 m c) (A3 m c) (A4 m c) (ix2 (row t r) j) := by
  have h := congrFun ((blocks9 m c t (flush0_9 t)).trans (flush9 m c t)) (ix2 r j)
  change (dats m 0 c).arrAt 9 cfg0.N (((cfg0.win 9).blk t).view.emb (ix2 r j)) = View.canon (Val := Elt Ideal) _ (ix2 r j) at h
  rw [emb9, up_block] at h
  exact h.trans ((up_tile m c t r j).trans (ref54 ..).symm)

/-- The halved incoming gradient. -/
theorem out10 (k : Fin 1024) : (dats m 0 c).arrAt 10 cfg0.N (ix2 (row t r) k)
    = val_main_v57 (F := Ideal) (A0 m c) (ix2 (row t r) k) := by
  have h := congrFun ((blocks10 m c t (flush0_10 t)).trans (flush10 m c t)) (ix2 r k)
  change (dats m 0 c).arrAt 10 cfg0.N (((cfg0.win 10).blk t).view.emb (ix2 r k)) = k0_pay6 (F := Ideal) _ (ix2 r k) at h
  rw [emb10, pay6, in0] at h
  exact h.trans (ref57 ..).symm

/-! The scale's gradient, accumulated over the ten tiles. -/

/-- What one row adds. -/
def term (k : Fin 1024) (R : Fin 4160) : EReal :=
  A1 m c (ix2 R k) * RmsGrad.rstd (fun k => A1 m c (ix2 R k)) * normGrad (A0 m c) (A1 m c) (A2 m c) (A3 m c) (A4 m c) R k

/-- What tile `n` adds. -/
def part (k : Fin 1024) (n : Nat) : EReal :=
  if h : n < 10 then ∑ r : Fin 416, term m c k (row (⟨n, h⟩ : Fin 10) r) else 0

include f0 f1 f2 f3 f4 in
theorem scale_step (k : Fin 1024) (v : Vec Ideal S1x1024 .f32) :
    k0_pay3 (F := Ideal) (dn (iblk m c 0 t) (iblk m c 3 t) (iblk m c 4 t) (iblk m c 6 t) (iblk m c 5 t)) (iblk m c 1 t) (k0_pay79 (iblk m c 1 t)) v (ix2 0 k)
      = v (ix2 0 k) + part m c k t.val := by
  rw [pay3, part, dif_pos (lt_ten t)]
  simp only [dn_tile m c f0 f1 f2 f3 f4, in1]
  exact congrArg _ (Finset.sum_congr rfl fun r _ => mul_comm _ _)

include f0 f1 f2 f3 f4 in
/-- After tile `n` the block holds the sum of the tiles so far. -/
theorem scale_acc (k : Fin 1024) (n : Nat) : ∀ hn : n < cfg0.N, (outsAt0 m c n hn).2.2.2.2 (ix2 0 k) = ∑ i ∈ Finset.range (n + 1), part m c k i := by
  induction n with
  | zero =>
    intro hn
    rw [acc_first m c ⟨0, hn⟩ (Nat.zero_mod _), scale_step m c f0 f1 f2 f3 f4, pay5, zero_add]
    simp
  | succ n ih =>
    intro hn
    have h0 : ¬ (n + 1) % 10 = 0 := by have := lt_ten ⟨n + 1, hn⟩; simp only at this; omega
    rw [acc_next m c ⟨n + 1, hn⟩ h0 (Nat.lt_of_succ_lt hn), scale_step m c f0 f1 f2 f3 f4, Finset.sum_range_succ]
    exact congrArg (· + _) (ih _)

/-- A sum over all rows is the sum over the tiles of the sums over a tile's rows. -/
theorem sum_rows (f : Fin 4160 → EReal) : ∑ R : Fin 4160, f R = ∑ n : Fin 10, ∑ r : Fin 416, f (row n r) := by
  rw [← Fintype.sum_prod_type' (f := fun (n : Fin 10) (r : Fin 416) => f (row n r))]
  refine (Fintype.sum_equiv (finProdFinEquiv (m := 10) (n := 416)) _ _ fun x => ?_).symm
  exact congrArg f (Fin.ext (show x.1.val * 416 + x.2.val = x.2.val + 416 * x.1.val by omega))

include f0 f1 f2 f3 f4 in
/-- The scale's gradient. -/
theorem out11 (k : Fin 1024) : (dats m 0 c).arrAt 11 cfg0.N (ix2 0 k)
    = val_main_v35 (F := Ideal) (A0 m c) (A1 m c) (A2 m c) (A3 m c) (A4 m c) (ix2 0 k) := by
  have hd : ∀ t t' : Fin cfg0.N, (cfg0.win 11).flush t = true → (cfg0.win 11).flush t' = true → t ≠ t' →
      Disjoint ((cfg0.win 11).blk t).view.set ((cfg0.win 11).blk t').view.set := fun t t' h h' hne => by
    have a := (flush0_11 t).mp h
    have b := (flush0_11 t').mp h'
    have := lt_ten t
    have := lt_ten t'
    exact absurd (Fin.ext (by omega)) hne
  have hl : (9 : Nat) < cfg0.N := by decide
  have h := congrFun (((dats m 0 c).read_blk_arrAt_eq_flushed 11 hd cfg0.N ⟨9, hl⟩ hl ((flush0_11 _).mpr rfl)).trans (flushed11 m c ⟨9, hl⟩)) (ix2 0 k)
  change (dats m 0 c).arrAt 11 cfg0.N (((cfg0.win 11).blk ⟨9, hl⟩).view.emb (ix2 0 k)) = (outsAt0 m c 9 hl).2.2.2.2 (ix2 0 k) at h
  rw [emb11, scale_acc m c f0 f1 f2 f3 f4] at h
  have e : ∑ i ∈ Finset.range (9 + 1), part m c k i = val_main_v35 (F := Ideal) (A0 m c) (A1 m c) (A2 m c) (A3 m c) (A4 m c) (ix2 0 k) := by
    rw [ref35, sum_rows, Finset.sum_range]
    exact Finset.sum_congr rfl fun n _ => by rw [part, dif_pos n.isLt]; rfl
  exact h.trans e

end Cert.Proof.Ffn.Values
-- ==== Proof.Ffn.Algebraic.lean ====
module

public import proofs.«01_k».proof.Defs
public import proofs.«01_k».proof.Proof.Ffn.Values
public import proofs.«01_k».proof.Proof.Gen.FfnReferenceIdeal.Run
public import proofs.«01_k».proof.Proof.Gen.FfnReferenceIdeal

@[expose] public section

/-! The value claim of the feed-forward block's backward call: on finite arguments the kernel's arrays are the
reference's. -/

set_option maxRecDepth 16384

noncomputable section

namespace Cert.Proof.Ffn.Algebraic

open Idealize.ShloMosaic Idealize.ShloMosaic.TcCoe Idealize.SL.Sem Cert.Proof.Ffn.Values Cert.Proof.Ffn.Blocks
  Cert.FfnReferenceIdeal.Read

/-- Two arrays of 4160 rows that agree in every tile are one. -/
theorem ext_rows {n : Nat} {e : EltTy} (f g : Vec Ideal (⟨2, ![4160, n]⟩ : Shape) e)
    (h : ∀ (t : Fin Cert.FfnKernelIdeal.cfg0.N) (r : Fin 416) (j : Fin n), f (ix2 (row t r) j) = g (ix2 (row t r) j)) : f = g := by
  funext i
  obtain ⟨R, C, rfl⟩ : ∃ R C, i = ix2 R C := ⟨_, _, eq_ix2 i⟩
  obtain ⟨t, r, rfl⟩ := exists_row R
  exact h t r C

/-- Two arrays of one row. -/
theorem ext_one {e : EltTy} (f g : Vec Ideal (⟨2, ![1, 1024]⟩ : Shape) e) (h : ∀ k : Fin 1024, f (ix2 0 k) = g (ix2 0 k)) : f = g := by
  funext i
  obtain ⟨R, C, rfl⟩ : ∃ R C, i = ix2 R C := ⟨_, _, eq_ix2 i⟩
  obtain rfl : R = 0 := Subsingleton.elim _ _
  exact h C

/-- The kernel's results are the reference's. -/
theorem algebraic : Cert.algebraic_FfnKernelIdeal_FfnReferenceIdeal_pre_finite := by
  intro m g m' g' hp hm
  have hf := fun c => Cert.Proof.Ffn.args_real (A0 m c) (A1 m c) (A2 m c) (A3 m c) (A4 m c) (hp c)
  refine ⟨fun c => val_main_v52 (F := Ideal) (A0 m c) (A1 m c) (A2 m c) (A3 m c) (A4 m c),
    fun c => val_main_v53 (F := Ideal) (A0 m c) (A1 m c) (A2 m c) (A3 m c) (A4 m c),
    fun c => val_main_v54 (F := Ideal) (A0 m c) (A1 m c) (A2 m c) (A3 m c) (A4 m c),
    fun c => val_main_v57 (F := Ideal) (A0 m c),
    fun c => val_main_v35 (F := Ideal) (A0 m c) (A1 m c) (A2 m c) (A3 m c) (A4 m c), ?_, ?_⟩
  · refine (θ_run Cert.FfnKernelIdeal.defs _ _).mono (fun r h c => ?_) (Cert.FfnKernelIdeal.Value.run_blocks (F := Ideal) m g)
    obtain ⟨h0, h1, h2, h3, h4, ha⟩ := h c
    obtain ⟨f0, f1, f2, f3, f4⟩ := hf c
    exact ⟨h0.trans (ext_rows (e := .f32) _ _ fun t r k => out7 m c f0 f1 f2 f3 f4 t r k),
      h1.trans (ext_rows (e := .bf16) _ _ fun t r k => out8 m c f0 f1 f2 f3 f4 t r k),
      h2.trans (ext_rows (e := .bf16) _ _ fun t r k => out9 m c t r k),
      h3.trans (ext_rows (e := .bf16) _ _ fun t r k => out10 m c t r k),
      h4.trans (ext_one (e := .f32) _ _ fun k => out11 m c f0 f1 f2 f3 f4 k), ha⟩
  · refine (θ_run Cert.FfnReferenceIdeal.defs _ _).mono (fun r h c => ?_) (Cert.FfnReferenceIdeal.Value.run (F := Ideal) m' g')
    obtain ⟨a0, a1, a2, a3, a4⟩ := hm c
    obtain ⟨h0, h1, h2, h3, h4, ha⟩ := h c
    replace h0 := h0.trans (show _ = val_main_v52 (F := Ideal) (m' ((c : Thread Cert.FfnReferenceIdeal.nD Cert.FfnReferenceIdeal.τ).loc Cert.FfnReferenceIdeal.main_arg0)) (m' ((c : Thread Cert.FfnReferenceIdeal.nD Cert.FfnReferenceIdeal.τ).loc Cert.FfnReferenceIdeal.main_arg1)) (m' ((c : Thread Cert.FfnReferenceIdeal.nD Cert.FfnReferenceIdeal.τ).loc Cert.FfnReferenceIdeal.main_arg2)) (m' ((c : Thread Cert.FfnReferenceIdeal.nD Cert.FfnReferenceIdeal.τ).loc Cert.FfnReferenceIdeal.main_arg3)) (m' ((c : Thread Cert.FfnReferenceIdeal.nD Cert.FfnReferenceIdeal.τ).loc Cert.FfnReferenceIdeal.main_arg4)) from rfl)
    replace h1 := h1.trans (show _ = val_main_v53 (F := Ideal) (m' ((c : Thread Cert.FfnReferenceIdeal.nD Cert.FfnReferenceIdeal.τ).loc Cert.FfnReferenceIdeal.main_arg0)) (m' ((c : Thread Cert.FfnReferenceIdeal.nD Cert.FfnReferenceIdeal.τ).loc Cert.FfnReferenceIdeal.main_arg1)) (m' ((c : Thread Cert.FfnReferenceIdeal.nD Cert.FfnReferenceIdeal.τ).loc Cert.FfnReferenceIdeal.main_arg2)) (m' ((c : Thread Cert.FfnReferenceIdeal.nD Cert.FfnReferenceIdeal.τ).loc Cert.FfnReferenceIdeal.main_arg3)) (m' ((c : Thread Cert.FfnReferenceIdeal.nD Cert.FfnReferenceIdeal.τ).loc Cert.FfnReferenceIdeal.main_arg4)) from rfl)
    replace h2 := h2.trans (show _ = val_main_v54 (F := Ideal) (m' ((c : Thread Cert.FfnReferenceIdeal.nD Cert.FfnReferenceIdeal.τ).loc Cert.FfnReferenceIdeal.main_arg0)) (m' ((c : Thread Cert.FfnReferenceIdeal.nD Cert.FfnReferenceIdeal.τ).loc Cert.FfnReferenceIdeal.main_arg1)) (m' ((c : Thread Cert.FfnReferenceIdeal.nD Cert.FfnReferenceIdeal.τ).loc Cert.FfnReferenceIdeal.main_arg2)) (m' ((c : Thread Cert.FfnReferenceIdeal.nD Cert.FfnReferenceIdeal.τ).loc Cert.FfnReferenceIdeal.main_arg3)) (m' ((c : Thread Cert.FfnReferenceIdeal.nD Cert.FfnReferenceIdeal.τ).loc Cert.FfnReferenceIdeal.main_arg4)) from rfl)
    replace h3 := h3.trans (show _ = val_main_v57 (F := Ideal) (m' ((c : Thread Cert.FfnReferenceIdeal.nD Cert.FfnReferenceIdeal.τ).loc Cert.FfnReferenceIdeal.main_arg0)) from rfl)
    replace h4 := h4.trans (show _ = val_main_v35 (F := Ideal) (m' ((c : Thread Cert.FfnReferenceIdeal.nD Cert.FfnReferenceIdeal.τ).loc Cert.FfnReferenceIdeal.main_arg0)) (m' ((c : Thread Cert.FfnReferenceIdeal.nD Cert.FfnReferenceIdeal.τ).loc Cert.FfnReferenceIdeal.main_arg1)) (m' ((c : Thread Cert.FfnReferenceIdeal.nD Cert.FfnReferenceIdeal.τ).loc Cert.FfnReferenceIdeal.main_arg2)) (m' ((c : Thread Cert.FfnReferenceIdeal.nD Cert.FfnReferenceIdeal.τ).loc Cert.FfnReferenceIdeal.main_arg3)) (m' ((c : Thread Cert.FfnReferenceIdeal.nD Cert.FfnReferenceIdeal.τ).loc Cert.FfnReferenceIdeal.main_arg4)) from rfl)
    rw [a0, a1, a2, a3, a4] at h0 h1 h2 h4
    rw [a0] at h3
    exact ⟨h0, h1, h2, h3, h4, ha⟩

end Cert.Proof.Ffn.Algebraic
-- ==== Proof.In.Pieces.lean ====
module

public import proofs.«01_k».proof.Proof.Gen.InKernelIdeal.Value
public import Idealize.ShloMosaic.Lib.Pipeline.FrameBody
public import Idealize.ShloMosaic.Lib.Pipeline.ReadBack

@[expose] public section

/-! What the body of the input projection's backward call leaves in each output's block, as the named payload functions
of the blocks it loads.  The bias's gradient is stored in four groups of 1536 columns.  All of this holds in every float
model. -/

set_option maxRecDepth 16384

noncomputable section

namespace Cert.Proof.In

open Cert.InKernelIdeal Cert.InKernelIdeal.Gen Cert.InKernelIdeal.Value Idealize.ShloMosaic Idealize.ShloMosaic.TcCoe
  Idealize.SL.Sem

variable {F : FTy → Type} [FloatOps F]

theorem hz : (![0, 0] : Fin 2 → Nat) = fun _ => 0 := funext fun a => by fin_cases a <;> rfl

theorem hz3 : ∀ a, (![0, 0, 0] : Fin 3 → Nat) a = 0 := fun a => by fin_cases a <;> rfl

/-- The gradient of the normalised rows. -/
def dn (x0 : Vec F S416x6144 .bf16) (x4 : Vec F S4x1024x1536 .bf16) : Vec F S416x1024 .f32 :=
  k0_pay12 (k0_pay8 (View.ld x0 (Rect.unit ![0, 0] S416x1536.size (by decide))) (View.ld x4 (Rect.unit ![0, 0, 0] S1x1024x1536.size (by decide))) (View.ld x0 (Rect.unit ![0, 1536] S416x1536.size (by decide))) (View.ld x4 (Rect.unit ![1, 0, 0] S1x1024x1536.size (by decide))))
    (View.ld x0 (Rect.unit ![0, 3072] S416x1536.size (by decide))) (View.ld x4 (Rect.unit ![2, 0, 0] S1x1024x1536.size (by decide))) (View.ld x0 (Rect.unit ![0, 4608] S416x1536.size (by decide))) (View.ld x4 (Rect.unit ![3, 0, 0] S1x1024x1536.size (by decide)))

/-- The stores of the bias's gradient on top of what stood there, the last one first. -/
def bias (x0 : Vec F S416x6144 .bf16) (acc : Vec F S4x1x1536 .f32) : List (View.Piece (Elt F) S4x1x1536 .f32) :=
  [⟨Rect.unit ![3, 0, 0] S1x1x1536.size (by decide), k0_pay13 (View.ld x0 (Rect.unit ![0, 4608] S416x1536.size (by decide))) (View.ld acc (Rect.unit ![3, 0, 0] S1x1x1536.size (by decide)))⟩,
   ⟨Rect.unit ![2, 0, 0] S1x1x1536.size (by decide), k0_pay11 (View.ld x0 (Rect.unit ![0, 3072] S416x1536.size (by decide))) (View.ld acc (Rect.unit ![2, 0, 0] S1x1x1536.size (by decide)))⟩,
   ⟨Rect.unit ![1, 0, 0] S1x1x1536.size (by decide), k0_pay10 (k0_pay9 (View.ld x0 (Rect.unit ![0, 1536] S416x1536.size (by decide))) (View.ld acc (Rect.unit ![1, 0, 0] S1x1x1536.size (by decide))))⟩,
   ⟨Rect.unit ![0, 0, 0] S1x1x1536.size (by decide), k0_pay7 (View.ld x0 (Rect.unit ![0, 0] S416x1536.size (by decide))) (View.ld acc (Rect.unit ![0, 0, 0] S1x1x1536.size (by decide)))⟩]

section Body

variable (c : Dev nD) (i : grid0.Coords) (arg1 : Memref sig .tc .vmem S416x6144 .bf16) (harg1 : arg1.IsWhole) (arg2 : Memref sig .tc .vmem S416x1024 .f32) (harg2 : arg2.IsWhole) (arg3 : Memref sig .tc .vmem S416x1024 .f32) (harg3 : arg3.IsWhole) (arg4 : Memref sig .tc .vmem S1x1024 .f32) (harg4 : arg4.IsWhole) (arg5 : Memref sig .tc .vmem S4x1024x1536 .bf16) (harg5 : arg5.IsWhole) (arg6 : Memref sig .tc .vmem S416x1024 .f32) (harg6 : arg6.IsWhole) (arg7 : Memref sig .tc .vmem S1x1024 .f32) (harg7 : arg7.IsWhole) (arg8 : Memref sig .tc .vmem S4x1x1536 .f32) (harg8 : arg8.IsWhole) (x0 : Vec F S416x6144 .bf16) (x1 : Vec F S416x1024 .f32) (x2 : Vec F S416x1024 .f32) (x3 : Vec F S1x1024 .f32) (x4 : Vec F S4x1024x1536 .bf16)

/-- At the first point: the gradient of the input. -/
theorem outA_5 (hc0 : cond0_0 i) :
    out0_A_5 c i arg1 harg1 arg2 harg2 arg3 harg3 arg4 harg4 arg5 harg5 arg6 harg6 arg7 harg7 arg8 harg8 hc0 x0 x1 x2 x3 x4
      = k0_pay3 (dn x0 x4) x2 x3 x1 := by
  unfold out0_A_5
  rw [View.read_writes_junk_eq_canon]
  unfold kernelRun0_A
  dsimp only
  sl_unfold_words
  simp only [View.readAt_eq_ld, Memref.IsWhole.read_unread, View.ld_unit_zero (S := S416x1024) hz, View.ld_unit_zero (S := S1x1024) hz,
    View.canon_cons_unit_zero (S := S416x1024) hz, View.canon_cons_unit_zero (S := S1x1024) hz, View.readCov_unit_zero (S := S1x1024) _ hz,
    View.readCov_eq_canon']
  rfl

/-- At the first point: the scale's gradient. -/
theorem outA_6 (hc0 : cond0_0 i) :
    out0_A_6 c i arg1 harg1 arg2 harg2 arg3 harg3 arg4 harg4 arg5 harg5 arg6 harg6 arg7 harg7 arg8 harg8 hc0 x0 x1 x2 x3 x4
      = k0_pay4 (dn x0 x4) x2 k0_pay5 := by
  unfold out0_A_6
  rw [View.read_writes_junk_eq_canon]
  unfold kernelRun0_A
  dsimp only
  sl_unfold_words
  simp only [View.readAt_eq_ld, Memref.IsWhole.read_unread, View.ld_unit_zero (S := S416x1024) hz, View.ld_unit_zero (S := S1x1024) hz,
    View.canon_cons_unit_zero (S := S416x1024) hz, View.canon_cons_unit_zero (S := S1x1024) hz, View.readCov_unit_zero (S := S1x1024) _ hz,
    View.readCov_eq_canon']
  rfl

/-- At the first point: the bias's gradient. -/
theorem outA_7 (hc0 : cond0_0 i) :
    out0_A_7 c i arg1 harg1 arg2 harg2 arg3 harg3 arg4 harg4 arg5 harg5 arg6 harg6 arg7 harg7 arg8 harg8 hc0 x0 x1 x2 x3 x4
      = View.canon (Val := Elt F) (bias x0 k0_pay6 ++ [⟨Rect.unit ![0, 0, 0] S4x1x1536.size (by decide), k0_pay6⟩]) := by
  unfold out0_A_7
  rw [View.read_writes_junk_eq_canon]
  unfold kernelRun0_A
  dsimp only
  sl_unfold_words
  simp (discharger := first | decide | exact hz3) only [↓View.readCov_skip, ↓View.readCov_fill]
  simp only [View.readAt_eq_ld, Memref.IsWhole.read_unread, View.ld_unit_zero (S := S416x1024) hz, View.ld_unit_zero (S := S1x1024) hz,
    View.canon_cons_unit_zero (S := S416x1024) hz, View.canon_cons_unit_zero (S := S1x1024) hz, View.readCov_unit_zero (S := S1x1024) _ hz,
    View.readCov_eq_canon']
  rfl

/-- At a later point: the gradient of the input. -/
theorem outB_5 (hc0 : ¬cond0_0 i) (xo6 : Vec F S1x1024 .f32) (xo7 : Vec F S4x1x1536 .f32) :
    out0_B_5 c i arg1 harg1 arg2 harg2 arg3 harg3 arg4 harg4 arg5 harg5 arg6 harg6 arg7 harg7 arg8 harg8 hc0 x0 x1 x2 x3 x4 xo6 xo7
      = k0_pay3 (dn x0 x4) x2 x3 x1 := by
  unfold out0_B_5
  rw [View.read_writes_junk_eq_canon]
  unfold kernelRun0_B
  dsimp only
  sl_unfold_words
  simp only [View.readAt_eq_ld, Memref.IsWhole.read_unread, View.ld_unit_zero (S := S416x1024) hz, View.ld_unit_zero (S := S1x1024) hz,
    View.canon_cons_unit_zero (S := S416x1024) hz, View.canon_cons_unit_zero (S := S1x1024) hz, View.readCov_unit_zero (S := S1x1024) _ hz,
    View.readCov_eq_canon']
  rfl

/-- At a later point: the scale's gradient. -/
theorem outB_6 (hc0 : ¬cond0_0 i) (xo6 : Vec F S1x1024 .f32) (xo7 : Vec F S4x1x1536 .f32) :
    out0_B_6 c i arg1 harg1 arg2 harg2 arg3 harg3 arg4 harg4 arg5 harg5 arg6 harg6 arg7 harg7 arg8 harg8 hc0 x0 x1 x2 x3 x4 xo6 xo7
      = k0_pay4 (dn x0 x4) x2 xo6 := by
  unfold out0_B_6
  rw [View.read_writes_junk_eq_canon]
  unfold kernelRun0_B
  dsimp only
  sl_unfold_words
  simp only [View.readAt_eq_ld, Memref.IsWhole.read_unread, View.ld_unit_zero (S := S416x1024) hz, View.ld_unit_zero (S := S1x1024) hz,
    View.canon_cons_unit_zero (S := S416x1024) hz, View.canon_cons_unit_zero (S := S1x1024) hz, View.readCov_unit_zero (S := S1x1024) _ hz,
    View.readCov_eq_canon']
  rfl

/-- At a later point: the bias's gradient. -/
theorem outB_7 (hc0 : ¬cond0_0 i) (xo6 : Vec F S1x1024 .f32) (xo7 : Vec F S4x1x1536 .f32) :
    out0_B_7 c i arg1 harg1 arg2 harg2 arg3 harg3 arg4 harg4 arg5 harg5 arg6 harg6 arg7 harg7 arg8 harg8 hc0 x0 x1 x2 x3 x4 xo6 xo7
      = View.canon (Val := Elt F) (bias x0 xo7) := by
  unfold out0_B_7
  rw [View.read_writes_junk_eq_canon]
  unfold kernelRun0_B
  dsimp only
  sl_unfold_words
  simp only [View.readAt_eq_ld, Memref.IsWhole.read_unread, View.ld_unit_zero (S := S416x1024) hz, View.ld_unit_zero (S := S1x1024) hz,
    View.canon_cons_unit_zero (S := S416x1024) hz, View.canon_cons_unit_zero (S := S1x1024) hz, View.readCov_unit_zero (S := S1x1024) _ hz,
    View.readCov_eq_canon']
  rfl

end Body

variable (m : ∀ l, Buf (Elt F) l) (c : Dev nD) (t : Fin cfg0.N)

/-- What every point sends to the input's gradient. -/
theorem flush5 : (dats m 0 c).flushed 5 t
    = (cfg0.win 5).cut (grid0.coords t) (k0_pay3 (dn (iblk m c 0 t) (iblk m c 4 t)) (iblk m c 2 t) (iblk m c 3 t) (iblk m c 1 t)) := by
  by_cases h0 : t.val % 10 = 0
  · rw [flushed5_A m c t h0, outA_5]
  · rw [flushed5_B m c t h0, outB_5]

/-- The scale's gradient after the first point. -/
theorem scale_first (h0 : t.val % 10 = 0) : (outsAt0 m c t.val t.isLt).2.1 = k0_pay4 (dn (iblk m c 0 t) (iblk m c 4 t)) (iblk m c 2 t) k0_pay5 := by
  rw [outsAt0_A m c t h0]
  dsimp only
  rw [outA_6]

/-- The scale's gradient after a later point. -/
theorem scale_next (h0 : ¬t.val % 10 = 0) (hp : t.val - 1 < cfg0.N) : (outsAt0 m c t.val t.isLt).2.1
    = k0_pay4 (dn (iblk m c 0 t) (iblk m c 4 t)) (iblk m c 2 t) (outsAt0 m c (t.val - 1) hp).2.1 := by
  rw [outsAt0_B m c t h0]
  dsimp only
  rw [outB_6]

/-- The bias's gradient after the first point. -/
theorem bias_first (h0 : t.val % 10 = 0) : (outsAt0 m c t.val t.isLt).2.2
    = View.canon (Val := Elt F) (bias (iblk m c 0 t) k0_pay6 ++ [⟨Rect.unit ![0, 0, 0] S4x1x1536.size (by decide), k0_pay6⟩]) := by
  rw [outsAt0_A m c t h0]
  dsimp only
  rw [outA_7]

/-- The bias's gradient after a later point. -/
theorem bias_next (h0 : ¬t.val % 10 = 0) (hp : t.val - 1 < cfg0.N) : (outsAt0 m c t.val t.isLt).2.2
    = View.canon (Val := Elt F) (bias (iblk m c 0 t) (outsAt0 m c (t.val - 1) hp).2.2) := by
  rw [outsAt0_B m c t h0]
  dsimp only
  rw [outB_7]

end Cert.Proof.In
-- ==== Proof.Rows.lean ====
module

public import Idealize.ShloMosaic.Lib.Pointwise

@[expose] public section

/-! The 4160 rows of one device in ten tiles of 416 rows. -/

noncomputable section

namespace Cert.Proof.Rows

open Idealize.ShloMosaic Idealize.SL.Sem

/-- Row `r` of tile `t`. -/
def row (t : Fin 10) (r : Fin 416) : Fin 4160 := ⟨t.val * 416 + r.val, by have := t.isLt; have := r.isLt; omega⟩

/-- Every row is some tile's. -/
theorem exists_row (R : Fin 4160) : ∃ (t : Fin 10) (r : Fin 416), R = row t r :=
  ⟨⟨R.val / 416, by have := R.isLt; omega⟩, ⟨R.val % 416, Nat.mod_lt _ (by decide)⟩,
    Fin.ext (by show R.val = R.val / 416 * 416 + R.val % 416; omega)⟩

/-- A sum over all rows is the sum over the tiles of the sums over a tile's rows. -/
theorem sum_rows (f : Fin 4160 → EReal) : ∑ R : Fin 4160, f R = ∑ n : Fin 10, ∑ r : Fin 416, f (row n r) := by
  rw [← Fintype.sum_prod_type' (f := fun (n : Fin 10) (r : Fin 416) => f (row n r))]
  refine (Fintype.sum_equiv (finProdFinEquiv (m := 10) (n := 416)) _ _ fun x => ?_).symm
  exact congrArg f (Fin.ext (show x.1.val * 416 + x.2.val = x.2.val + 416 * x.1.val by omega))

/-- What tile `n` adds to a sum over the rows. -/
def part (f : Fin 4160 → EReal) (n : Nat) : EReal := if h : n < 10 then ∑ r : Fin 416, f (row ⟨n, h⟩ r) else 0

theorem part_tile (f : Fin 4160 → EReal) (t : Fin 10) : part f t.val = ∑ r : Fin 416, f (row t r) := by
  rw [part, dif_pos t.isLt]

/-- The ten tiles' parts are the sum over the rows. -/
theorem sum_part (f : Fin 4160 → EReal) : ∑ n ∈ Finset.range 10, part f n = ∑ R : Fin 4160, f R := by
  rw [sum_rows, Finset.sum_range]
  exact Finset.sum_congr rfl fun n _ => part_tile f n

/-- Two arrays of 4160 rows that agree in every tile are one. -/
theorem ext_rows {n : Nat} {e : EltTy} (f g : Vec Ideal (⟨2, ![4160, n]⟩ : Shape) e)
    (h : ∀ (t : Fin 10) (r : Fin 416) (j : Fin n), f (ix2 (row t r) j) = g (ix2 (row t r) j)) : f = g := by
  funext i
  obtain ⟨R, C, rfl⟩ : ∃ R C, i = ix2 R C := ⟨_, _, eq_ix2 i⟩
  obtain ⟨t, r, rfl⟩ := exists_row R
  exact h t r C

/-- Two arrays of one row. -/
theorem ext_one {e : EltTy} (f g : Vec Ideal (⟨2, ![1, 1024]⟩ : Shape) e) (h : ∀ k : Fin 1024, f (ix2 0 k) = g (ix2 0 k)) : f = g := by
  funext i
  obtain ⟨R, C, rfl⟩ : ∃ R C, i = ix2 R C := ⟨_, _, eq_ix2 i⟩
  obtain rfl : R = 0 := Subsingleton.elim _ _
  exact h C

/-- Two arrays of groups of one row. -/
theorem ext_groups {a n : Nat} {e : EltTy} (f g : Vec Ideal (⟨3, ![a, 1, n]⟩ : Shape) e)
    (h : ∀ (s : Fin a) (k : Fin n), f (ix3 s 0 k) = g (ix3 s 0 k)) : f = g := by
  funext i
  obtain ⟨S, R, C, rfl⟩ : ∃ S R C, i = ix3 S R C := ⟨_, _, _, eq_ix3 i⟩
  obtain rfl : R = 0 := Subsingleton.elim _ _
  exact h S C

end Cert.Proof.Rows
-- ==== Proof.In.Blocks.lean ====
module

public import proofs.«01_k».proof.Proof.Gen.InKernelIdeal.Frame.Runs
public import proofs.«01_k».proof.Proof.Rows
public import Idealize.ShloMosaic.Lib.Pointwise

@[expose] public section

/-! Which entries of the arrays a grid point's blocks are: point `t` takes the rows `416 t … 416 t + 415` of every array
cut into tiles, and the scale and the weight whole.  The weight reaches the call in four groups of 1536 columns. -/

set_option maxRecDepth 16384

noncomputable section

namespace Cert.Proof.In.Blocks

open Cert.InKernelIdeal Cert.InKernelIdeal.Gen Idealize.ShloMosaic Idealize.ShloMosaic.TcCoe Idealize.SL.Sem
open Cert.Proof.Rows

section Places

variable (t : Fin cfg0.N)

theorem index0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- Where window 0's block lies in its array. -/
theorem emb0 (r : Fin 416) (j : Fin 6144) : ((cfg0.win 0).blk t).view.emb (ix2 r j) = ix2 (row t r) j := by
  funext a
  apply Fin.ext
  match a with
  | ⟨0, _⟩ => show win0_0.index t (0 : Fin 2) * 416 + 1 * r.val = t.val * 416 + r.val; rw [(index0 t).1, Nat.one_mul]
  | ⟨1, _⟩ => show win0_0.index t (1 : Fin 2) * 6144 + 1 * j.val = j.val; rw [(index0 t).2]; omega

theorem index1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

/-- Where window 1's block lies in its array. -/
theorem emb1 (r : Fin 416) (j : Fin 1024) : ((cfg0.win 1).blk t).view.emb (ix2 r j) = ix2 (row t r) j := by
  funext a
  apply Fin.ext
  match a with
  | ⟨0, _⟩ => show win0_1.index t (0 : Fin 2) * 416 + 1 * r.val = t.val * 416 + r.val; rw [(index1 t).1, Nat.one_mul]
  | ⟨1, _⟩ => show win0_1.index t (1 : Fin 2) * 1024 + 1 * j.val = j.val; rw [(index1 t).2]; omega

theorem index2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)

/-- Where window 2's block lies in its array. -/
theorem emb2 (r : Fin 416) (j : Fin 1024) : ((cfg0.win 2).blk t).view.emb (ix2 r j) = ix2 (row t r) j := by
  funext a
  apply Fin.ext
  match a with
  | ⟨0, _⟩ => show win0_2.index t (0 : Fin 2) * 416 + 1 * r.val = t.val * 416 + r.val; rw [(index2 t).1, Nat.one_mul]
  | ⟨1, _⟩ => show win0_2.index t (1 : Fin 2) * 1024 + 1 * j.val = j.val; rw [(index2 t).2]; omega

theorem index5 : ∀ t : Fin cfg0.N, win0_5.index t (0 : Fin 2) = t.val ∧ win0_5.index t (1 : Fin 2) = 0 :=
  (by decide +kernel : ∀ t : Fin grid0.N, win0_5.index t (0 : Fin 2) = t.val ∧ win0_5.index t (1 : Fin 2) = 0)

/-- Where window 5's block lies in its array. -/
theorem emb5 (r : Fin 416) (j : Fin 1024) : ((cfg0.win 5).blk t).view.emb (ix2 r j) = ix2 (row t r) j := by
  funext a
  apply Fin.ext
  match a with
  | ⟨0, _⟩ => show win0_5.index t (0 : Fin 2) * 416 + 1 * r.val = t.val * 416 + r.val; rw [(index5 t).1, Nat.one_mul]
  | ⟨1, _⟩ => show win0_5.index t (1 : Fin 2) * 1024 + 1 * j.val = j.val; rw [(index5 t).2]; omega

theorem index3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)

/-- Window 3's block is its whole array. -/
theorem emb3 (j : S1x1024.Idx) : ((cfg0.win 3).blk t).view.emb j = j := by
  funext a
  apply Fin.ext
  match a with
  | ⟨0, _⟩ => show win0_3.index t (0 : Fin 2) * 1 + 1 * (j 0).val = (j 0).val; rw [(index3 t).1]; omega
  | ⟨1, _⟩ => show win0_3.index t (1 : Fin 2) * 1024 + 1 * (j 1).val = (j 1).val; rw [(index3 t).2]; omega

theorem index6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)

/-- Window 6's block is its whole array. -/
theorem emb6 (j : S1x1024.Idx) : ((cfg0.win 6).blk t).view.emb j = j := by
  funext a
  apply Fin.ext
  match a with
  | ⟨0, _⟩ => show win0_6.index t (0 : Fin 2) * 1 + 1 * (j 0).val = (j 0).val; rw [(index6 t).1]; omega
  | ⟨1, _⟩ => show win0_6.index t (1 : Fin 2) * 1024 + 1 * (j 1).val = (j 1).val; rw [(index6 t).2]; omega

theorem index4 : ∀ t : Fin cfg0.N, win0_4.index t (0 : Fin 3) = 0 ∧ win0_4.index t (1 : Fin 3) = 0 ∧ win0_4.index t (2 : Fin 3) = 0 :=
  (by decide +kernel : ∀ t : Fin grid0.N, win0_4.index t (0 : Fin 3) = 0 ∧ win0_4.index t (1 : Fin 3) = 0 ∧ win0_4.index t (2 : Fin 3) = 0)

/-- Window 4's block is its whole array. -/
theorem emb4 (j : S4x1024x1536.Idx) : ((cfg0.win 4).blk t).view.emb j = j := by
  funext a
  apply Fin.ext
  match a with
  | ⟨0, _⟩ => show win0_4.index t (0 : Fin 3) * 4 + 1 * (j 0).val = (j 0).val; rw [(index4 t).1]; omega
  | ⟨1, _⟩ => show win0_4.index t (1 : Fin 3) * 1024 + 1 * (j 1).val = (j 1).val; rw [(index4 t).2.1]; omega
  | ⟨2, _⟩ => show win0_4.index t (2 : Fin 3) * 1536 + 1 * (j 2).val = (j 2).val; rw [(index4 t).2.2]; omega

theorem index7 : ∀ t : Fin cfg0.N, win0_7.index t (0 : Fin 3) = 0 ∧ win0_7.index t (1 : Fin 3) = 0 ∧ win0_7.index t (2 : Fin 3) = 0 :=
  (by decide +kernel : ∀ t : Fin grid0.N, win0_7.index t (0 : Fin 3) = 0 ∧ win0_7.index t (1 : Fin 3) = 0 ∧ win0_7.index t (2 : Fin 3) = 0)

/-- Window 7's block is its whole array. -/
theorem emb7 (j : S4x1x1536.Idx) : ((cfg0.win 7).blk t).view.emb j = j := by
  funext a
  apply Fin.ext
  match a with
  | ⟨0, _⟩ => show win0_7.index t (0 : Fin 3) * 4 + 1 * (j 0).val = (j 0).val; rw [(index7 t).1]; omega
  | ⟨1, _⟩ => show win0_7.index t (1 : Fin 3) * 1 + 1 * (j 1).val = (j 1).val; rw [(index7 t).2.1]; omega
  | ⟨2, _⟩ => show win0_7.index t (2 : Fin 3) * 1536 + 1 * (j 2).val = (j 2).val; rw [(index7 t).2.2]; omega

end Places

variable (m : ∀ l, Buf (Elt Ideal) l) (c : Dev nD) (t : Fin cfg0.N)

/-- The arguments. -/
abbrev A0 : FVec Ideal S4160x6144 .bf16 := m ((c : Thread nD τ).loc main_arg0)
abbrev A1 : FVec Ideal S4160x1024 .f32 := m ((c : Thread nD τ).loc main_arg1)
abbrev A2 : FVec Ideal S4160x1024 .f32 := m ((c : Thread nD τ).loc main_arg2)
abbrev A3 : FVec Ideal S1x1024 .f32 := m ((c : Thread nD τ).loc main_arg3)
abbrev A4 : FVec Ideal S1024x6144 .bf16 := m ((c : Thread nD τ).loc main_arg4)

/-- The weight in its groups of columns. -/
theorem V1 : V m c main_v1 = transpose S4x1024x1536 [1, 0, 2]
    (shapeCast S1024x4x1536 (A4 m c) shapeCasts_S1024x6144_S1024x4x1536) transposes_S1024x4x1536_S4x1024x1536_1_0_2 := by
  show StableHlo.after hostOps0 (fun b => m (c, b)) main_v1 = _
  simp only [hostOps0]
  after_results_simp <;> rfl

theorem in0 (r : Fin 416) (j : Fin 6144) : iblk m c 0 t (ix2 r j) = A0 m c (ix2 (row t r) j) := by
  show V m c main_arg0 (((cfg0.win 0).blk t).view.emb (ix2 r j)) = _
  rw [emb0, V_main_arg0]

theorem in1 (r : Fin 416) (j : Fin 1024) : iblk m c 1 t (ix2 r j) = A1 m c (ix2 (row t r) j) := by
  show V m c main_arg1 (((cfg0.win 1).blk t).view.emb (ix2 r j)) = _
  rw [emb1, V_main_arg1]

theorem in2 (r : Fin 416) (j : Fin 1024) : iblk m c 2 t (ix2 r j) = A2 m c (ix2 (row t r) j) := by
  show V m c main_arg2 (((cfg0.win 2).blk t).view.emb (ix2 r j)) = _
  rw [emb2, V_main_arg2]

theorem in3 (j : Fin 1024) : iblk m c 3 t (ix2 0 j) = A3 m c (ix2 0 j) := by
  show V m c main_arg3 (((cfg0.win 3).blk t).view.emb (ix2 0 j)) = _
  rw [emb3, V_main_arg3]

/-- Group `s` of the weight's columns. -/
theorem in4 (s : Fin 4) (k : Fin 1024) (j : Fin 1536) :
    iblk m c 4 t (ix3 s k j) = A4 m c (ix2 k (⟨s.val * 1536 + j.val, by have := s.isLt; have := j.isLt; omega⟩ : Fin 6144)) := by
  show V m c main_v1 (((cfg0.win 4).blk t).view.emb (ix3 s k j)) = _
  rw [emb4, V1]
  pointwise

end Cert.Proof.In.Blocks
-- ==== Proof.In.Payloads.lean ====
module

public import proofs.«01_k».proof.Proof.Gen.InKernelIdeal.Skeleton
public import proofs.«01_k».proof.Proof.RmsGrad
public import Idealize.ShloMosaic.Lib.Pointwise

@[expose] public section

/-! The stored values of the input projection's backward call at an index, over the extended reals. -/

set_option maxRecDepth 16384

noncomputable section

namespace Cert.Proof.In

open Cert.InKernelIdeal Cert.InKernelIdeal.Gen Idealize.ShloMosaic Idealize.SL.Sem

/-- The gradient of the normalised rows: the four products of 1536 columns. -/
theorem products (d0 d1 d2 d3 : Vec Ideal S416x1536 .bf16) (w0 w1 w2 w3 : Vec Ideal S1x1024x1536 .bf16) (r : Fin 416) (k : Fin 1024) :
    k0_pay12 (F := Ideal) (k0_pay8 (F := Ideal) d0 w0 d1 w1) d2 w2 d3 w3 (ix2 r k)
      = (((∑ j : Fin 1536, d0 (ix2 r j) * w0 (ix3 0 k j)) + ∑ j : Fin 1536, d1 (ix2 r j) * w1 (ix3 0 k j))
        + ∑ j : Fin 1536, d2 (ix2 r j) * w2 (ix3 0 k j)) + ∑ j : Fin 1536, d3 (ix2 r j) * w3 (ix3 0 k j) := by
  pointwise [k0_pay12, k0_pay8]

/-- The reciprocal root of a row's mean square. -/
theorem pay1 (h : Vec Ideal S416x1024 .f32) (r : Fin 416) :
    k0_pay1 (F := Ideal) h (ix2 r 0) = RmsGrad.rstd (fun k => h (ix2 r k)) := by
  pointwise [k0_pay1]
  rfl

/-- The normalised row. -/
theorem pay2 (h : Vec Ideal S416x1024 .f32) (r : Fin 416) (k : Fin 1024) :
    k0_pay2 (F := Ideal) h (ix2 r k) = h (ix2 r k) * RmsGrad.rstd (fun k => h (ix2 r k)) := by
  rw [← pay1]
  pointwise [k0_pay2]

/-- The input's gradient: the residual's and the norm's. -/
theorem pay3 (dn h dh : Vec Ideal S416x1024 .f32) (g : Vec Ideal S1x1024 .f32) (r : Fin 416) (k : Fin 1024) :
    k0_pay3 (F := Ideal) dn h g dh (ix2 r k)
      = dh (ix2 r k) + RmsGrad.byKernel (fun k => h (ix2 r k)) (fun k => g (ix2 0 k)) (fun k => dn (ix2 r k)) k := by
  have h1 := pay1 h r
  have h2 := pay2 h r
  pointwise [k0_pay3]
  simp only [h1, h2]
  rfl

/-- The scale's gradient: a block's rows on top of what stood there. -/
theorem pay4 (dn h : Vec Ideal S416x1024 .f32) (p : Vec Ideal S1x1024 .f32) (k : Fin 1024) :
    k0_pay4 (F := Ideal) dn h p (ix2 0 k)
      = p (ix2 0 k) + ∑ r : Fin 416, dn (ix2 r k) * (h (ix2 r k) * RmsGrad.rstd (fun k => h (ix2 r k))) := by
  have h2 := fun r => pay2 h r k
  pointwise [k0_pay4]
  simp only [h2]

/-- The scale's gradient starts at zero. -/
theorem pay5 (k : Fin 1024) : k0_pay5 (F := Ideal) (ix2 0 k) = 0 := by
  pointwise [k0_pay5]

/-- The bias's gradient starts at zero. -/
theorem pay6 (s : Fin 4) (j : Fin 1536) : k0_pay6 (F := Ideal) (ix3 s 0 j) = 0 := by
  pointwise [k0_pay6]

/-- The bias's gradient, a group of columns: a block's rows on top of what stood there. -/
theorem pay7 (d : Vec Ideal S416x1536 .bf16) (p : Vec Ideal S1x1x1536 .f32) (j : Fin 1536) :
    k0_pay7 (F := Ideal) d p (ix3 0 0 j) = p (ix3 0 0 j) + ∑ r : Fin 416, d (ix2 r j) := by
  pointwise [k0_pay7]

/-- The bias's gradient, a group of columns: a block's rows on top of what stood there. -/
theorem pay10 (d : Vec Ideal S416x1536 .bf16) (p : Vec Ideal S1x1x1536 .f32) (j : Fin 1536) :
    k0_pay10 (F := Ideal) (k0_pay9 (F := Ideal) d p) (ix3 0 0 j) = p (ix3 0 0 j) + ∑ r : Fin 416, d (ix2 r j) := by
  pointwise [k0_pay10, k0_pay9]

/-- The bias's gradient, a group of columns: a block's rows on top of what stood there. -/
theorem pay11 (d : Vec Ideal S416x1536 .bf16) (p : Vec Ideal S1x1x1536 .f32) (j : Fin 1536) :
    k0_pay11 (F := Ideal) d p (ix3 0 0 j) = p (ix3 0 0 j) + ∑ r : Fin 416, d (ix2 r j) := by
  pointwise [k0_pay11]

/-- The bias's gradient, a group of columns: a block's rows on top of what stood there. -/
theorem pay13 (d : Vec Ideal S416x1536 .bf16) (p : Vec Ideal S1x1x1536 .f32) (j : Fin 1536) :
    k0_pay13 (F := Ideal) d p (ix3 0 0 j) = p (ix3 0 0 j) + ∑ r : Fin 416, d (ix2 r j) := by
  pointwise [k0_pay13]

end Cert.Proof.In
-- ==== Proof.In.Reference.lean ====
module

public import proofs.«01_k».proof.Proof.Gen.InReferenceIdeal.Read
public import proofs.«01_k».proof.Proof.In.Payloads

@[expose] public section

/-! The reference's results at an index, over the extended reals. -/

set_option maxRecDepth 16384

noncomputable section

namespace Cert.Proof.In.Reference

open Cert.InReferenceIdeal Cert.InReferenceIdeal.Gen Cert.InReferenceIdeal.Read Idealize.ShloMosaic Idealize.SL.Sem

variable (x0 : FVec Ideal S4160x6144 .bf16) (x1 x2 : FVec Ideal S4160x1024 .f32) (x3 : FVec Ideal S1x1024 .f32)
  (x4 : FVec Ideal S1024x6144 .bf16) (r : Fin 4160) (k : Fin 1024)

/-- The mean square of a row. -/
theorem ref9 : val_main_v9 (F := Ideal) x2 (ix2 r 0) = RmsGrad.meanSq (fun k => x2 (ix2 r k)) := by
  pointwise [val_main_v9, val_main_v8, val_main_v7, val_main_v6, val_main_v5, val_main_v4, val_main_v3, val_main_cst_0, val_main_cst_1, val_main_cst_2]
  rfl

/-- Its reciprocal root. -/
theorem ref10 : val_main_v10 (F := Ideal) x2 (ix2 r 0) = RmsGrad.rstd (fun k => x2 (ix2 r k)) := by
  rw [RmsGrad.rstd, ← ref9]
  pointwise [val_main_v10]

/-- The normalised row. -/
theorem ref15 : val_main_v15 (F := Ideal) x2 (ix2 r k) = x2 (ix2 r k) * RmsGrad.rstd (fun k => x2 (ix2 r k)) := by
  rw [← ref10]
  pointwise [val_main_v15, val_main_v14]

/-- The gradient of the normalised rows. -/
def normGrad : EReal := ∑ j : Fin 6144, x0 (ix2 r j) * x4 (ix2 k j)

theorem ref23 : val_main_v23 (F := Ideal) x0 x4 (ix2 r k) = normGrad x0 x4 r k := by
  pointwise [val_main_v23, val_main_v0, val_main_v1]
  rfl

/-- The scale's gradient. -/
theorem ref26 : val_main_v26 (F := Ideal) x0 x2 x4 (ix2 0 k)
    = ∑ r : Fin 4160, x2 (ix2 r k) * RmsGrad.rstd (fun k => x2 (ix2 r k)) * normGrad x0 x4 r k := by
  simp only [← ref15, ← ref23]
  pointwise [val_main_v26, val_main_v25, val_main_v24, val_main_cst_5]

/-- What reaches a row through its mean square, per unit of the row. -/
theorem ref37 : val_main_v37 (F := Ideal) x0 x2 x3 x4 (ix1 r)
    = RmsGrad.through (fun k => x2 (ix2 r k)) (fun k => x3 (ix2 0 k)) (fun k => normGrad x0 x4 r k) := by
  simp only [RmsGrad.through, ← ref9, ← ref10, ← ref23]
  pointwise [val_main_v37, val_main_v36, val_main_v35, val_main_v34, val_main_v31, val_main_v30, val_main_v29, val_main_v28, val_main_v27, val_main_v13, val_main_v12, val_main_v11, val_main_cst_3, val_main_cst_6, val_main_cst_7, val_main_cst_8]
  exact Fin.sum_univ_one _

/-- The input's gradient. -/
theorem ref43 : val_main_v43 (F := Ideal) x0 x1 x2 x3 x4 (ix2 r k)
    = x1 (ix2 r k) + RmsGrad.byRule (fun k => x2 (ix2 r k)) (fun k => x3 (ix2 0 k)) (fun k => normGrad x0 x4 r k) k := by
  pointwise [val_main_v43, val_main_v42, val_main_v41, val_main_v40, val_main_v39, val_main_v38, val_main_v33, val_main_v32, val_main_v28, val_main_v27]
  simp only [ref37, ref10, ref23]
  rfl

/-- The bias's gradient. -/
theorem ref44 (s : Fin 4) (j : Fin 1536) : val_main_v44 (F := Ideal) x0 (ix3 s 0 j)
    = ∑ r : Fin 4160, x0 (ix2 r (⟨s.val * 1536 + j.val, by have := s.isLt; have := j.isLt; omega⟩ : Fin 6144)) := by
  pointwise [val_main_v44, val_main_v22, val_main_v21, val_main_v0, val_main_cst_4]

end Cert.Proof.In.Reference
-- ==== Proof.In.Finite.lean ====
module

public import proofs.«01_k».proof.Defs
public import proofs.«01_k».proof.Proof.Gen.Pre_finite_in
public import proofs.«01_k».proof.Proof.In.Reference
public import proofs.«01_k».proof.Proof.Finite

@[expose] public section

/-! Finite arguments: every number of the backward pass is real. -/

set_option maxRecDepth 16384

noncomputable section

namespace Cert.Proof.In

open Idealize.ShloMosaic Idealize.SL.Sem

/-- What the precondition says of the five arrays. -/
theorem args_real (x0 : FVec Ideal Cert.Pre_finite_in.S4160x6144 .bf16) (x1 x2 : FVec Ideal Cert.Pre_finite_in.S4160x1024 .f32)
    (x3 : FVec Ideal Cert.Pre_finite_in.S1x1024 .f32) (x4 : FVec Ideal Cert.Pre_finite_in.S1024x6144 .bf16)
    (h : (Cert.Pre_finite_in.fn (F := Ideal) x0 x1 x2 x3 x4).1 = (fun _ => 1#1) ∧ (Cert.Pre_finite_in.fn (F := Ideal) x0 x1 x2 x3 x4).2.1 = (fun _ => 1#1) ∧ (Cert.Pre_finite_in.fn (F := Ideal) x0 x1 x2 x3 x4).2.2.1 = (fun _ => 1#1)
      ∧ (Cert.Pre_finite_in.fn (F := Ideal) x0 x1 x2 x3 x4).2.2.2.1 = (fun _ => 1#1) ∧ (Cert.Pre_finite_in.fn (F := Ideal) x0 x1 x2 x3 x4).2.2.2.2 = (fun _ => 1#1)) :
    (∀ i, IsReal (x0 i)) ∧ (∀ i, IsReal (x1 i)) ∧ (∀ i, IsReal (x2 i)) ∧ (∀ i, IsReal (x3 i)) ∧ ∀ i, IsReal (x4 i) := by
  dsimp only [Cert.Pre_finite_in.fn, Cert.Pre_finite_in.fn_part1] at h
  obtain ⟨h0, h1, h2, h3, h4⟩ := h
  haveI : Subsingleton Cert.Pre_finite_in.S_.Idx := ⟨fun a b => funext fun k => k.elim0⟩
  have j : Cert.Pre_finite_in.S_.Idx := fun k => k.elim0
  exact ⟨real_of_all (extf .f32 x0 _) _ (fun _ => rfl) _ _ _ j (congrFun h0 j), real_of_all _ _ (fun _ => rfl) _ _ _ j (congrFun h1 j),
    real_of_all _ _ (fun _ => rfl) _ _ _ j (congrFun h2 j), real_of_all _ _ (fun _ => rfl) _ _ _ j (congrFun h3 j),
    real_of_all (extf .f32 x4 _) _ (fun _ => rfl) _ _ _ j (congrFun h4 j)⟩

/-- The gradient of the normalised rows is real. -/
theorem Reference.normGrad_real {x0 : FVec Ideal Cert.InReferenceIdeal.S4160x6144 .bf16} {x4 : FVec Ideal Cert.InReferenceIdeal.S1024x6144 .bf16}
    (h0 : ∀ i, IsReal (x0 i)) (h4 : ∀ i, IsReal (x4 i)) (r : Fin 4160) (k : Fin 1024) : IsReal (Reference.normGrad x0 x4 r k) :=
  .sum fun _ => (h0 _).mul (h4 _)

end Cert.Proof.In
-- ==== Proof.In.Values.lean ====
module

public import proofs.«01_k».proof.Proof.In.Pieces
public import proofs.«01_k».proof.Proof.In.Blocks
public import proofs.«01_k».proof.Proof.In.Finite

@[expose] public section

/-! Each result of the input projection's backward call, at an index, is the reference's. -/

set_option maxRecDepth 16384

noncomputable section

namespace Cert.Proof.In.Values

open Cert.InKernelIdeal Cert.InKernelIdeal.Gen Cert.InKernelIdeal.Value Idealize.ShloMosaic Idealize.ShloMosaic.TcCoe
  Idealize.SL.Sem
open Cert.Proof.In Cert.Proof.In.Blocks Cert.Proof.In.Reference Cert.Proof.Rows Cert.InReferenceIdeal.Read

theorem lt_ten (t : Fin cfg0.N) : t.val < 10 := t.isLt

/-- A sum over 6144 columns in four groups. -/
theorem sum_groups (f : Fin 6144 → EReal) : ∑ j, f j
    = (((∑ j : Fin 1536, f ⟨0 * 1536 + j.val, by have := j.isLt; omega⟩) + ∑ j : Fin 1536, f ⟨1 * 1536 + j.val, by have := j.isLt; omega⟩)
      + ∑ j : Fin 1536, f ⟨2 * 1536 + j.val, by have := j.isLt; omega⟩) + ∑ j : Fin 1536, f ⟨3 * 1536 + j.val, by have := j.isLt; omega⟩ := by
  refine (Fintype.sum_equiv (finProdFinEquiv (m := 4) (n := 1536)).symm _ (fun x : Fin 4 × Fin 1536 => f ⟨x.1.val * 1536 + x.2.val, by have := x.1.isLt; have := x.2.isLt; omega⟩) fun j => ?_).trans ?_
  · refine congrArg f (Fin.ext ?_)
    show j.val = j.val / 1536 * 1536 + j.val % 1536
    omega
  · rw [Fintype.sum_prod_type, Fin.sum_univ_four]
    rfl

/-- Group `s` of the bias's columns after a block's stores: the block's rows on top of what stood there. -/
def biasAt (x0 : Vec Ideal S416x6144 .bf16) (acc : Vec Ideal S4x1x1536 .f32) (y : S4x1x1536.Idx) : EReal :=
  acc y + ∑ r : Fin 416, x0 (ix2 r (⟨(y 0).val * 1536 + (y 2).val, by have : (y 0).val < 4 := (y 0).isLt; have : (y 2).val < 1536 := (y 2).isLt; omega⟩ : Fin 6144))

theorem bias_pieces (x0 : Vec Ideal S416x6144 .bf16) (acc : Vec Ideal S4x1x1536 .f32) :
    View.PiecesOf (Val := Elt Ideal) (biasAt x0 acc) (bias x0 acc) := by
  unfold bias
  refine ⟨?_, ?_, ?_, ?_, trivial⟩
  · intro (x : S1x1x1536.Idx)
    obtain ⟨a, b, j, rfl⟩ : ∃ (a b : Fin 1) (j : Fin 1536), x = ix3 a b j := ⟨_, _, _, eq_ix3 x⟩
    obtain rfl : a = 0 := Subsingleton.elim _ _
    obtain rfl : b = 0 := Subsingleton.elim _ _
    refine (pay13 _ _ j).trans (congrArg₂ (· + ·) rfl (Finset.sum_congr rfl fun r _ => congrArg x0 ?_))
    funext a
    apply Fin.ext
    match a with
    | ⟨0, _⟩ => show 0 + 1 * r.val = r.val; omega
    | ⟨1, _⟩ => show 4608 + 1 * j.val = (3 + 1 * 0) * 1536 + (0 + 1 * j.val); omega
  · intro (x : S1x1x1536.Idx)
    obtain ⟨a, b, j, rfl⟩ : ∃ (a b : Fin 1) (j : Fin 1536), x = ix3 a b j := ⟨_, _, _, eq_ix3 x⟩
    obtain rfl : a = 0 := Subsingleton.elim _ _
    obtain rfl : b = 0 := Subsingleton.elim _ _
    refine (pay11 _ _ j).trans (congrArg₂ (· + ·) rfl (Finset.sum_congr rfl fun r _ => congrArg x0 ?_))
    funext a
    apply Fin.ext
    match a with
    | ⟨0, _⟩ => show 0 + 1 * r.val = r.val; omega
    | ⟨1, _⟩ => show 3072 + 1 * j.val = (2 + 1 * 0) * 1536 + (0 + 1 * j.val); omega
  · intro (x : S1x1x1536.Idx)
    obtain ⟨a, b, j, rfl⟩ : ∃ (a b : Fin 1) (j : Fin 1536), x = ix3 a b j := ⟨_, _, _, eq_ix3 x⟩
    obtain rfl : a = 0 := Subsingleton.elim _ _
    obtain rfl : b = 0 := Subsingleton.elim _ _
    refine (pay10 _ _ j).trans (congrArg₂ (· + ·) rfl (Finset.sum_congr rfl fun r _ => congrArg x0 ?_))
    funext a
    apply Fin.ext
    match a with
    | ⟨0, _⟩ => show 0 + 1 * r.val = r.val; omega
    | ⟨1, _⟩ => show 1536 + 1 * j.val = (1 + 1 * 0) * 1536 + (0 + 1 * j.val); omega
  · intro (x : S1x1x1536.Idx)
    obtain ⟨a, b, j, rfl⟩ : ∃ (a b : Fin 1) (j : Fin 1536), x = ix3 a b j := ⟨_, _, _, eq_ix3 x⟩
    obtain rfl : a = 0 := Subsingleton.elim _ _
    obtain rfl : b = 0 := Subsingleton.elim _ _
    refine (pay7 _ _ j).trans (congrArg₂ (· + ·) rfl (Finset.sum_congr rfl fun r _ => congrArg x0 ?_))
    funext a
    apply Fin.ext
    match a with
    | ⟨0, _⟩ => show 0 + 1 * r.val = r.val; omega
    | ⟨1, _⟩ => show 0 + 1 * j.val = (0 + 1 * 0) * 1536 + (0 + 1 * j.val); omega

/-- The bias's block after a body's stores. -/
theorem bias_block (x0 : Vec Ideal S416x6144 .bf16) (acc : Vec Ideal S4x1x1536 .f32) (L : List (View.Piece (Elt Ideal) S4x1x1536 .f32)) (y : S4x1x1536.Idx) :
    View.canon (Val := Elt Ideal) (bias x0 acc ++ L) y = biasAt x0 acc y :=
  View.canon_append_of_piecesOf (Val := Elt Ideal) _ L _ (bias_pieces x0 acc) y (View.cover_of_tiledBy _ ![1, 1, 1536] (by sl_kernel_rfl) y)

variable (m : ∀ l, Buf (Elt Ideal) l) (c : Dev nD)
  (f0 : ∀ i, IsReal (A0 m c i)) (f2 : ∀ i, IsReal (A2 m c i)) (f3 : ∀ i, IsReal (A3 m c i))
  (f4 : ∀ i, IsReal (A4 m c i)) (t : Fin cfg0.N) (r : Fin 416)

/-- The normalised rows' gradient, in a tile. -/
theorem dn_tile (k : Fin 1024) : dn (iblk m c 0 t) (iblk m c 4 t) (ix2 r k) = normGrad (A0 m c) (A4 m c) (row t r) k := by
  rw [dn, products, normGrad, sum_groups]
  refine congrArg₂ (· + ·) (congrArg₂ (· + ·) (congrArg₂ (· + ·) ?_ ?_) ?_) ?_ <;>
    refine Finset.sum_congr rfl fun j _ => congrArg₂ (· * ·) ?_ ?_
  · exact (congrArg (iblk m c 0 t) (show (Rect.unit (s := S416x6144) ![0, 0] S416x1536.size (by decide)).emb (ix2 r j) = ix2 r (⟨0 * 1536 + j.val, by have := j.isLt; omega⟩ : Fin 6144) from by
      funext a; apply Fin.ext
      match a with
      | ⟨0, _⟩ => show 0 + 1 * r.val = r.val; omega
      | ⟨1, _⟩ => show 0 + 1 * j.val = 0 * 1536 + j.val; omega)).trans (in0 m c t r _)
  · exact (congrArg (iblk m c 4 t) (show (Rect.unit (s := S4x1024x1536) ![0, 0, 0] S1x1024x1536.size (by decide)).emb (ix3 0 k j) = ix3 (⟨0, by decide⟩ : Fin 4) k j from by
      funext a; apply Fin.ext
      match a with
      | ⟨0, _⟩ => show 0 + 1 * 0 = 0; omega
      | ⟨1, _⟩ => show 0 + 1 * k.val = k.val; omega
      | ⟨2, _⟩ => show 0 + 1 * j.val = j.val; omega)).trans (in4 m c t _ k j)
  · exact (congrArg (iblk m c 0 t) (show (Rect.unit (s := S416x6144) ![0, 1536] S416x1536.size (by decide)).emb (ix2 r j) = ix2 r (⟨1 * 1536 + j.val, by have := j.isLt; omega⟩ : Fin 6144) from by
      funext a; apply Fin.ext
      match a with
      | ⟨0, _⟩ => show 0 + 1 * r.val = r.val; omega
      | ⟨1, _⟩ => show 1536 + 1 * j.val = 1 * 1536 + j.val; omega)).trans (in0 m c t r _)
  · exact (congrArg (iblk m c 4 t) (show (Rect.unit (s := S4x1024x1536) ![1, 0, 0] S1x1024x1536.size (by decide)).emb (ix3 0 k j) = ix3 (⟨1, by decide⟩ : Fin 4) k j from by
      funext a; apply Fin.ext
      match a with
      | ⟨0, _⟩ => show 1 + 1 * 0 = 1; omega
      | ⟨1, _⟩ => show 0 + 1 * k.val = k.val; omega
      | ⟨2, _⟩ => show 0 + 1 * j.val = j.val; omega)).trans (in4 m c t _ k j)
  · exact (congrArg (iblk m c 0 t) (show (Rect.unit (s := S416x6144) ![0, 3072] S416x1536.size (by decide)).emb (ix2 r j) = ix2 r (⟨2 * 1536 + j.val, by have := j.isLt; omega⟩ : Fin 6144) from by
      funext a; apply Fin.ext
      match a with
      | ⟨0, _⟩ => show 0 + 1 * r.val = r.val; omega
      | ⟨1, _⟩ => show 3072 + 1 * j.val = 2 * 1536 + j.val; omega)).trans (in0 m c t r _)
  · exact (congrArg (iblk m c 4 t) (show (Rect.unit (s := S4x1024x1536) ![2, 0, 0] S1x1024x1536.size (by decide)).emb (ix3 0 k j) = ix3 (⟨2, by decide⟩ : Fin 4) k j from by
      funext a; apply Fin.ext
      match a with
      | ⟨0, _⟩ => show 2 + 1 * 0 = 2; omega
      | ⟨1, _⟩ => show 0 + 1 * k.val = k.val; omega
      | ⟨2, _⟩ => show 0 + 1 * j.val = j.val; omega)).trans (in4 m c t _ k j)
  · exact (congrArg (iblk m c 0 t) (show (Rect.unit (s := S416x6144) ![0, 4608] S416x1536.size (by decide)).emb (ix2 r j) = ix2 r (⟨3 * 1536 + j.val, by have := j.isLt; omega⟩ : Fin 6144) from by
      funext a; apply Fin.ext
      match a with
      | ⟨0, _⟩ => show 0 + 1 * r.val = r.val; omega
      | ⟨1, _⟩ => show 4608 + 1 * j.val = 3 * 1536 + j.val; omega)).trans (in0 m c t r _)
  · exact (congrArg (iblk m c 4 t) (show (Rect.unit (s := S4x1024x1536) ![3, 0, 0] S1x1024x1536.size (by decide)).emb (ix3 0 k j) = ix3 (⟨3, by decide⟩ : Fin 4) k j from by
      funext a; apply Fin.ext
      match a with
      | ⟨0, _⟩ => show 3 + 1 * 0 = 3; omega
      | ⟨1, _⟩ => show 0 + 1 * k.val = k.val; omega
      | ⟨2, _⟩ => show 0 + 1 * j.val = j.val; omega)).trans (in4 m c t _ k j)

include f0 f2 f3 f4 in
/-- The input's gradient. -/
theorem out5 (k : Fin 1024) : (dats m 0 c).arrAt 5 cfg0.N (ix2 (row t r) k)
    = val_main_v43 (F := Ideal) (A0 m c) (A1 m c) (A2 m c) (A3 m c) (A4 m c) (ix2 (row t r) k) := by
  have e : k0_pay3 (F := Ideal) (dn (iblk m c 0 t) (iblk m c 4 t)) (iblk m c 2 t) (iblk m c 3 t) (iblk m c 1 t) (ix2 r k)
      = val_main_v43 (F := Ideal) (A0 m c) (A1 m c) (A2 m c) (A3 m c) (A4 m c) (ix2 (row t r) k) := by
    rw [pay3, ref43]
    simp only [dn_tile, in1, in2, in3]
    rw [RmsGrad.byKernel_eq _ _ _ (fun _ => f2 _) (fun _ => f3 _) (fun _ => normGrad_real f0 f4 _ _)]
  have h := congrFun ((blocks5 m c t (flush0_5 t)).trans (flush5 m c t)) (ix2 r k)
  change (dats m 0 c).arrAt 5 cfg0.N (((cfg0.win 5).blk t).view.emb (ix2 r k)) = k0_pay3 (F := Ideal) _ _ _ _ (ix2 r k) at h
  rw [emb5] at h
  exact h.trans e

/-- What one row adds to the scale's gradient. -/
def scaleTerm (k : Fin 1024) (R : Fin 4160) : EReal :=
  A2 m c (ix2 R k) * RmsGrad.rstd (fun k => A2 m c (ix2 R k)) * normGrad (A0 m c) (A4 m c) R k

theorem scale_step (k : Fin 1024) (v : Vec Ideal S1x1024 .f32) :
    k0_pay4 (F := Ideal) (dn (iblk m c 0 t) (iblk m c 4 t)) (iblk m c 2 t) v (ix2 0 k) = v (ix2 0 k) + part (scaleTerm m c k) t.val := by
  refine (pay4 _ _ _ k).trans (congrArg _ (Eq.trans ?_ (part_tile _ t).symm))
  simp only [dn_tile, in2]
  exact Finset.sum_congr rfl fun r _ => mul_comm _ _

/-- After tile `n` the scale's block holds the sum of the tiles so far. -/
theorem scale_acc (k : Fin 1024) (n : Nat) : ∀ hn : n < cfg0.N, (outsAt0 m c n hn).2.1 (ix2 0 k) = ∑ i ∈ Finset.range (n + 1), part (scaleTerm m c k) i := by
  induction n with
  | zero =>
    intro hn
    rw [scale_first m c ⟨0, hn⟩ (Nat.zero_mod _), scale_step, pay5, zero_add]
    simp
  | succ n ih =>
    intro hn
    have h0 : ¬ (n + 1) % 10 = 0 := by have : n + 1 < 10 := hn; omega
    rw [scale_next m c ⟨n + 1, hn⟩ h0 (Nat.lt_of_succ_lt hn), scale_step, Finset.sum_range_succ]
    exact congrArg (· + _) (ih _)

/-- What one row adds to the bias's gradient. -/
def biasTerm (s : Fin 4) (j : Fin 1536) (R : Fin 4160) : EReal :=
  A0 m c (ix2 R (⟨s.val * 1536 + j.val, by have := s.isLt; have := j.isLt; omega⟩ : Fin 6144))

theorem bias_step (s : Fin 4) (j : Fin 1536) (v : Vec Ideal S4x1x1536 .f32) :
    biasAt (iblk m c 0 t) v (ix3 s 0 j) = v (ix3 s 0 j) + part (biasTerm m c s j) t.val := by
  refine congrArg _ (Eq.trans ?_ (part_tile _ t).symm)
  exact Finset.sum_congr rfl fun r _ => in0 m c t r _

/-- After tile `n` the bias's block holds the sum of the tiles so far. -/
theorem bias_acc (s : Fin 4) (j : Fin 1536) (n : Nat) : ∀ hn : n < cfg0.N, (outsAt0 m c n hn).2.2 (ix3 s 0 j) = ∑ i ∈ Finset.range (n + 1), part (biasTerm m c s j) i := by
  induction n with
  | zero =>
    intro hn
    rw [bias_first m c ⟨0, hn⟩ (Nat.zero_mod _), bias_block, bias_step, pay6, zero_add]
    simp
  | succ n ih =>
    intro hn
    have h0 : ¬ (n + 1) % 10 = 0 := by have : n + 1 < 10 := hn; omega
    have h := bias_block (iblk m c 0 ⟨n + 1, hn⟩) (outsAt0 m c n (Nat.lt_of_succ_lt hn)).2.2 [] (ix3 s 0 j)
    rw [List.append_nil] at h
    rw [bias_next m c ⟨n + 1, hn⟩ h0 (Nat.lt_of_succ_lt hn)]
    refine h.trans ?_
    rw [bias_step, Finset.sum_range_succ]
    exact congrArg (· + _) (ih _)

/-- The scale's gradient. -/
theorem out6 (k : Fin 1024) : (dats m 0 c).arrAt 6 cfg0.N (ix2 0 k) = val_main_v26 (F := Ideal) (A0 m c) (A2 m c) (A4 m c) (ix2 0 k) := by
  have hd : ∀ t t' : Fin cfg0.N, (cfg0.win 6).flush t = true → (cfg0.win 6).flush t' = true → t ≠ t' →
      Disjoint ((cfg0.win 6).blk t).view.set ((cfg0.win 6).blk t').view.set := fun t t' h h' hne => by
    have a := (flush0_6 t).mp h
    have b := (flush0_6 t').mp h'
    have := lt_ten t
    have := lt_ten t'
    exact absurd (Fin.ext (by omega)) hne
  have h : ∀ t : Fin cfg0.N, t.val % 10 = 9 → (dats m 0 c).arrAt 6 cfg0.N (ix2 0 k) = ∑ i ∈ Finset.range (t.val + 1), part (scaleTerm m c k) i := fun t ht => by
    have h := congrFun (((dats m 0 c).read_blk_arrAt_eq_flushed 6 hd cfg0.N t t.isLt ((flush0_6 t).mpr ht)).trans (flushed6 m c t)) (ix2 0 k)
    change (dats m 0 c).arrAt 6 cfg0.N (((cfg0.win 6).blk t).view.emb (ix2 0 k)) = (outsAt0 m c t.val t.isLt).2.1 (ix2 0 k) at h
    rw [emb6, scale_acc] at h
    exact h
  have e : ∑ i ∈ Finset.range (9 + 1), part (scaleTerm m c k) i = val_main_v26 (F := Ideal) (A0 m c) (A2 m c) (A4 m c) (ix2 0 k) := by
    rw [ref26]
    exact sum_part (scaleTerm m c k)
  exact (h ⟨9, by decide⟩ rfl).trans e

/-- The bias's gradient. -/
theorem out7 (s : Fin 4) (k : Fin 1536) : (dats m 0 c).arrAt 7 cfg0.N (ix3 s 0 k) = val_main_v44 (F := Ideal) (A0 m c) (ix3 s 0 k) := by
  have hd : ∀ t t' : Fin cfg0.N, (cfg0.win 7).flush t = true → (cfg0.win 7).flush t' = true → t ≠ t' →
      Disjoint ((cfg0.win 7).blk t).view.set ((cfg0.win 7).blk t').view.set := fun t t' h h' hne => by
    have a := (flush0_7 t).mp h
    have b := (flush0_7 t').mp h'
    have := lt_ten t
    have := lt_ten t'
    exact absurd (Fin.ext (by omega)) hne
  have h : ∀ t : Fin cfg0.N, t.val % 10 = 9 → (dats m 0 c).arrAt 7 cfg0.N (ix3 s 0 k) = ∑ i ∈ Finset.range (t.val + 1), part (biasTerm m c s k) i := fun t ht => by
    have h := congrFun (((dats m 0 c).read_blk_arrAt_eq_flushed 7 hd cfg0.N t t.isLt ((flush0_7 t).mpr ht)).trans (flushed7 m c t)) (ix3 s 0 k)
    change (dats m 0 c).arrAt 7 cfg0.N (((cfg0.win 7).blk t).view.emb (ix3 s 0 k)) = (outsAt0 m c t.val t.isLt).2.2 (ix3 s 0 k) at h
    rw [emb7, bias_acc] at h
    exact h
  have e : ∑ i ∈ Finset.range (9 + 1), part (biasTerm m c s k) i = val_main_v44 (F := Ideal) (A0 m c) (ix3 s 0 k) := by
    rw [ref44]
    exact sum_part (biasTerm m c s k)
  exact (h ⟨9, by decide⟩ rfl).trans e

end Cert.Proof.In.Values
-- ==== Proof.In.Algebraic.lean ====
module

public import proofs.«01_k».proof.Defs
public import proofs.«01_k».proof.Proof.In.Values
public import proofs.«01_k».proof.Proof.Gen.InReferenceIdeal.Run
public import proofs.«01_k».proof.Proof.Gen.InReferenceIdeal

@[expose] public section

/-! The value claim of the input projection's backward call: on finite arguments the kernel's arrays are the reference's. -/

set_option maxRecDepth 16384

noncomputable section

namespace Cert.Proof.In.Algebraic

open Idealize.ShloMosaic Idealize.ShloMosaic.TcCoe Idealize.SL.Sem Cert.Proof.Rows Cert.Proof.In.Values Cert.Proof.In.Blocks
  Cert.InReferenceIdeal.Read

/-- The kernel's results are the reference's. -/
theorem algebraic : Cert.algebraic_InKernelIdeal_InReferenceIdeal_pre_finite_in := by
  intro m g m' g' hp hm
  have hf := fun c => Cert.Proof.In.args_real (A0 m c) (A1 m c) (A2 m c) (A3 m c) (A4 m c) (hp c)
  refine ⟨fun c => val_main_v43 (F := Ideal) (A0 m c) (A1 m c) (A2 m c) (A3 m c) (A4 m c),
    fun c => val_main_v26 (F := Ideal) (A0 m c) (A2 m c) (A4 m c),
    fun c => val_main_v44 (F := Ideal) (A0 m c), ?_, ?_⟩
  · refine (θ_run Cert.InKernelIdeal.defs _ _).mono (fun r h c => ?_) (Cert.InKernelIdeal.Value.run_blocks (F := Ideal) m g)
    obtain ⟨h0, h1, h2, ha⟩ := h c
    obtain ⟨f0, f1, f2, f3, f4⟩ := hf c
    exact ⟨h0.trans (ext_rows (e := .f32) _ _ fun t r k => out5 m c f0 f2 f3 f4 t r k),
      h1.trans (ext_one (e := .f32) _ _ fun k => out6 m c k),
      h2.trans (ext_groups (e := .f32) _ _ fun s k => out7 m c s k), ha⟩
  · refine (θ_run Cert.InReferenceIdeal.defs _ _).mono (fun r h c => ?_) (Cert.InReferenceIdeal.Value.run (F := Ideal) m' g')
    obtain ⟨a0, a1, a2, a3, a4⟩ := hm c
    obtain ⟨h0, h1, h2, ha⟩ := h c
    replace h0 := h0.trans (show _ = val_main_v43 (F := Ideal) (m' ((c : Thread Cert.InReferenceIdeal.nD Cert.InReferenceIdeal.τ).loc Cert.InReferenceIdeal.main_arg0)) (m' ((c : Thread Cert.InReferenceIdeal.nD Cert.InReferenceIdeal.τ).loc Cert.InReferenceIdeal.main_arg1)) (m' ((c : Thread Cert.InReferenceIdeal.nD Cert.InReferenceIdeal.τ).loc Cert.InReferenceIdeal.main_arg2)) (m' ((c : Thread Cert.InReferenceIdeal.nD Cert.InReferenceIdeal.τ).loc Cert.InReferenceIdeal.main_arg3)) (m' ((c : Thread Cert.InReferenceIdeal.nD Cert.InReferenceIdeal.τ).loc Cert.InReferenceIdeal.main_arg4)) from rfl)
    rw [a0, a1, a2, a3, a4] at h0
    replace h1 := h1.trans (show _ = val_main_v26 (F := Ideal) (m' ((c : Thread Cert.InReferenceIdeal.nD Cert.InReferenceIdeal.τ).loc Cert.InReferenceIdeal.main_arg0)) (m' ((c : Thread Cert.InReferenceIdeal.nD Cert.InReferenceIdeal.τ).loc Cert.InReferenceIdeal.main_arg2)) (m' ((c : Thread Cert.InReferenceIdeal.nD Cert.InReferenceIdeal.τ).loc Cert.InReferenceIdeal.main_arg4)) from rfl)
    rw [a0, a2, a4] at h1
    replace h2 := h2.trans (show _ = val_main_v44 (F := Ideal) (m' ((c : Thread Cert.InReferenceIdeal.nD Cert.InReferenceIdeal.τ).loc Cert.InReferenceIdeal.main_arg0)) from rfl)
    rw [a0] at h2
    exact ⟨h0, h1, h2, ha⟩

end Cert.Proof.In.Algebraic
-- ==== Proof.WeightGrad.lean ====
module

public import Idealize.ShloMosaic.Lib.Pointwise

@[expose] public section

/-! What the weight-gradient calls share: the 4160 rows are summed in two blocks of 2080, in either order of the
factors. -/

noncomputable section

namespace Cert.Proof.WeightGrad

/-- The row of the arrays that row `r` of block `b` is. -/
def row (b : Nat) (hb : b < 2) (r : Fin 2080) : Fin 4160 := ⟨b * 2080 + r.val, by have := r.isLt; omega⟩

/-- The product of two columns, block by block, with the factors exchanged. -/
theorem sum_blocks (x y : Fin 4160 → EReal) :
    (0 + ∑ r, x (row 0 (by decide) r) * y (row 0 (by decide) r)) + ∑ r, x (row 1 (by decide) r) * y (row 1 (by decide) r)
      = ∑ R, y R * x R := by
  rw [zero_add]
  refine ((Fin.sum_univ_add (a := 2080) (b := 2080) fun R => y R * x R).trans (congrArg₂ (· + ·) ?_ ?_)).symm <;>
    refine Finset.sum_congr rfl fun r _ => (mul_comm _ _).trans (congrArg (fun R => x R * y R) (Fin.ext ?_))
  · show r.val = 0 * 2080 + r.val; omega
  · show 2080 + r.val = 1 * 2080 + r.val; omega

end Cert.Proof.WeightGrad
-- ==== Proof.Gate.Values.lean ====
module

public import proofs.«01_k».proof.Proof.Gen.GateKernelIdeal.Value
public import proofs.«01_k».proof.Proof.Gen.GateReferenceIdeal.Read
public import Idealize.ShloMosaic.Lib.Pipeline.FrameBody
public import proofs.«01_k».proof.Proof.WeightGrad

@[expose] public section

/-! The gradient of the gate half of the feed-forward block's first weight, in two groups of columns. -/

set_option maxRecDepth 16384

noncomputable section

namespace Cert.Proof.Gate

open Cert.GateKernelIdeal Cert.GateKernelIdeal.Gen Cert.GateKernelIdeal.Value Idealize.ShloMosaic Idealize.ShloMosaic.TcCoe
  Idealize.SL.Sem
open Cert.Proof.WeightGrad

theorem hz : (![0, 0] : Fin 2 → Nat) = fun _ => 0 := funext fun a => by fin_cases a <;> rfl
theorem hz3 : (![0, 0, 0] : Fin 3 → Nat) = fun _ => 0 := funext fun a => by fin_cases a <;> rfl

section Body

variable {F : FTy → Type} [FloatOps F]
variable (c : Dev nD) (i : grid0.Coords) (arg3 : Memref sig .tc .vmem S2080x1024 .bf16) (harg3 : arg3.IsWhole) (arg4 : Memref sig .tc .vmem S2080x1408 .bf16) (harg4 : arg4.IsWhole) (arg5 : Memref sig .tc .vmem S1x1024x1408 .bf16) (harg5 : arg5.IsWhole) (arg6 : Memref sig .tc .vmem S1024x1408 .f32) (harg6 : arg6.IsWhole)
  (x0 : Vec F S2080x1024 .bf16) (x1 : Vec F S2080x1408 .bf16)

/-- The first block of rows starts the sum. -/
theorem sumA (hc0 : cond0_0 i) (hc1 : ¬cond0_1 i) :
    sout0_A_0 c i arg3 harg3 arg4 harg4 arg5 harg5 arg6 harg6 hc0 hc1 x0 x1 = k0_pay2 k0_pay1 x0 x1 := by
  unfold sout0_A_0
  rw [View.read_writes_junk_eq_canon]
  unfold kernelRun0_A
  dsimp only
  sl_unfold_words
  simp only [View.readAt_eq_ld, Memref.IsWhole.read_unread, View.ld_unit_zero (S := S2080x1024) hz, View.ld_unit_zero (S := S2080x1408) hz, View.ld_unit_zero (S := S1024x1408) hz,
    View.canon_cons_unit_zero (S := S1024x1408) hz, View.readCov_unit_zero (S := S1024x1408) _ hz]

/-- The second block adds to it, and the rounded sum is stored. -/
theorem outB (hc0 : ¬cond0_0 i) (hc1 : cond0_1 i) (xs : Vec F S1024x1408 .f32) :
    out0_B_2 c i arg3 harg3 arg4 harg4 arg5 harg5 arg6 harg6 hc0 hc1 x0 x1 xs = k0_pay3 (k0_pay2 xs x0 x1) := by
  unfold out0_B_2
  rw [View.read_writes_junk_eq_canon]
  unfold kernelRun0_B
  dsimp only
  sl_unfold_words
  simp only [View.readAt_eq_ld, Memref.IsWhole.read_unread, View.ld_unit_zero (S := S2080x1024) hz, View.ld_unit_zero (S := S2080x1408) hz, View.ld_unit_zero (S := S1024x1408) hz,
    View.canon_cons_unit_zero (S := S1x1024x1408) hz3, View.readCov_unit_zero (S := S1024x1408) _ hz]

end Body

section Blocks

variable (m : ∀ l, Buf (Elt Ideal) l) (c : Dev nD)

abbrev A0 : FVec Ideal S4160x1024 .bf16 := m ((c : Thread nD τ).loc main_arg0)
abbrev A1 : FVec Ideal S4160x2816 .bf16 := m ((c : Thread nD τ).loc main_arg1)

variable (t : Fin cfg0.N)

theorem lt_points (t : Fin cfg0.N) : t.val < 4 := lt_of_lt_of_eq t.isLt N_0

theorem pos_lt (t : Fin cfg0.N) : t.val % 2 < 2 := Nat.mod_lt _ (by decide)

/-- The block of columns a point computes. -/
def blockOf (t : Fin cfg0.N) : Fin 2 := ⟨t.val / 2, by have := lt_points t; omega⟩

/-- Column `j` of block `s`. -/
def colOf (s : Fin 2) (j : Fin 1408) : Fin 2816 := ⟨s.val * 1408 + j.val, by have := s.isLt; have := j.isLt; omega⟩

/-- The group of columns that block `s` is written to. -/
def slot (s : Fin 2) : Fin 4 := ⟨s.val, by have := s.isLt; omega⟩

/-- The points that sum block `s`: over the first rows, and over the last. -/
def first (s : Fin 2) : Fin cfg0.N := ⟨2 * s.val, lt_of_lt_of_eq (by have := s.isLt; omega) N_0.symm⟩
def last (s : Fin 2) : Fin cfg0.N := ⟨2 * s.val + 1, lt_of_lt_of_eq (by have := s.isLt; omega) N_0.symm⟩

theorem first_mod (s : Fin 2) : (first s).val % 2 = 0 := by show 2 * s.val % 2 = 0; omega
theorem last_mod (s : Fin 2) : (last s).val % 2 = 1 := by show (2 * s.val + 1) % 2 = 1; omega
theorem last_div (s : Fin 2) : (last s).val / 2 = s.val := by show (2 * s.val + 1) / 2 = s.val; omega
theorem blockOf_first (s : Fin 2) : blockOf (first s) = s := Fin.ext (by show 2 * s.val / 2 = s.val; omega)
theorem blockOf_last (s : Fin 2) : blockOf (last s) = s := Fin.ext (last_div s)

theorem index0 : ∀ t : Fin cfg0.N, win0_0.index t (0 : Fin 2) = t.val % 2 ∧ win0_0.index t (1 : Fin 2) = 0 :=
  (by decide +kernel : ∀ t : Fin grid0.N, win0_0.index t (0 : Fin 2) = t.val % 2 ∧ win0_0.index t (1 : Fin 2) = 0)

/-- Input 0's block. -/
theorem in0 (r : Fin 2080) (j : Fin 1024) : iblk m c 0 t (ix2 r j) = A0 m c (ix2 (row (t.val % 2) (pos_lt t) r) j) := by
  show A0 m c (((cfg0.win 0).blk t).view.emb (ix2 r j)) = _
  congr 1
  funext a
  apply Fin.ext
  match a with
  | ⟨0, _⟩ => show win0_0.index t (0 : Fin 2) * 2080 + 1 * r.val = t.val % 2 * 2080 + r.val; rw [(index0 t).1, Nat.one_mul]
  | ⟨1, _⟩ => show win0_0.index t (1 : Fin 2) * 1024 + 1 * j.val = j.val; rw [(index0 t).2]; omega

theorem index1 : ∀ t : Fin cfg0.N, win0_1.index t (0 : Fin 2) = t.val % 2 ∧ win0_1.index t (1 : Fin 2) = t.val / 2 :=
  (by decide +kernel : ∀ t : Fin grid0.N, win0_1.index t (0 : Fin 2) = t.val % 2 ∧ win0_1.index t (1 : Fin 2) = t.val / 2)

/-- Input 1's block. -/
theorem in1 (r : Fin 2080) (j : Fin 1408) : iblk m c 1 t (ix2 r j) = A1 m c (ix2 (row (t.val % 2) (pos_lt t) r) (colOf (blockOf t) j)) := by
  show A1 m c (((cfg0.win 1).blk t).view.emb (ix2 r j)) = _
  congr 1
  funext a
  apply Fin.ext
  match a with
  | ⟨0, _⟩ => show win0_1.index t (0 : Fin 2) * 2080 + 1 * r.val = t.val % 2 * 2080 + r.val; rw [(index1 t).1, Nat.one_mul]
  | ⟨1, _⟩ => show win0_1.index t (1 : Fin 2) * 1408 + 1 * j.val = t.val / 2 * 1408 + j.val; rw [(index1 t).2, Nat.one_mul]

theorem index2 : ∀ t : Fin cfg0.N, win0_2.index t (0 : Fin 3) = t.val / 2 ∧ win0_2.index t (1 : Fin 3) = 0 ∧ win0_2.index t (2 : Fin 3) = 0 :=
  (by decide +kernel : ∀ t : Fin grid0.N, win0_2.index t (0 : Fin 3) = t.val / 2 ∧ win0_2.index t (1 : Fin 3) = 0 ∧ win0_2.index t (2 : Fin 3) = 0)

/-- Where the output's block lies in its array. -/
theorem emb2 (s : Fin 2) (i : Fin 1024) (j : Fin 1408) : ((cfg0.win 2).blk (last s)).view.emb (ix3 0 i j) = (ix3 (slot s) i j) := by
  funext a
  apply Fin.ext
  match a with
  | ⟨0, _⟩ => show win0_2.index (last s) (0 : Fin 3) * 1 + 1 * 0 = s.val; rw [(index2 _).1, last_div]; omega
  | ⟨1, _⟩ => show win0_2.index (last s) (1 : Fin 3) * 1024 + 1 * i.val = i.val; rw [(index2 _).2.1]; omega
  | ⟨2, _⟩ => show win0_2.index (last s) (2 : Fin 3) * 1408 + 1 * j.val = j.val; rw [(index2 _).2.2]; omega

/-- What one block of rows adds. -/
theorem pay2 (v : Vec Ideal S1024x1408 .f32) (x0 : Vec Ideal S2080x1024 .bf16) (x1 : Vec Ideal S2080x1408 .bf16) (i : Fin 1024) (j : Fin 1408) :
    k0_pay2 (F := Ideal) v x0 x1 (ix2 i j) = v (ix2 i j) + ∑ r : Fin 2080, x0 (ix2 r i) * x1 (ix2 r j) := by
  pointwise [k0_pay2]

/-- The sum starts from nothing. -/
theorem pay1 (i : Fin 1024) (j : Fin 1408) : k0_pay1 (F := Ideal) (ix2 i j) = 0 := by
  pointwise [k0_pay1]

/-- The stored sum. -/
theorem pay3 (v : Vec Ideal S1024x1408 .f32) (i : Fin 1024) (j : Fin 1408) : k0_pay3 (F := Ideal) v (ix3 0 i j) = v (ix2 i j) := by
  pointwise [k0_pay3]

/-- What is written back for block `s`: the rounded sum over both blocks of rows. -/
theorem flush_last (s : Fin 2) : (dats m 0 c).flushed 2 (last s) = (cfg0.win 2).cut (grid0.coords (last s))
    (k0_pay3 (F := Ideal) (k0_pay2 (F := Ideal) (k0_pay2 (F := Ideal) (k0_pay1 (F := Ideal)) (iblk m c 0 (first s)) (iblk m c 1 (first s))) (iblk m c 0 (last s)) (iblk m c 1 (last s)))) := by
  have e : (outsAt0 m c (first s).val (first s).isLt).2 = k0_pay2 (F := Ideal) (k0_pay1 (F := Ideal)) (iblk m c 0 (first s)) (iblk m c 1 (first s)) := by
    rw [outsAt0_A m c (first s) (first_mod s) (by rw [first_mod]; decide)]
    dsimp only
    rw [sumA]
  rw [flushed2_B m c (last s) (by rw [last_mod]; decide) (last_mod s), outB, ← e]
  rfl

/-- No two blocks overlap. -/
theorem disjoint2 : ∀ t t' : Fin cfg0.N, (cfg0.win 2).flush t = true → (cfg0.win 2).flush t' = true → t ≠ t' →
    Disjoint ((cfg0.win 2).blk t).view.set ((cfg0.win 2).blk t').view.set := fun t t' h h' hne =>
  (cfg0.win 2).disjoint_blk fun e => hne (Fin.ext (by
    have a := (flush0_2 t).mp h
    have b := (flush0_2 t').mp h'
    have d : win0_2.index t (0 : Fin 3) = win0_2.index t' (0 : Fin 3) := congrFun e 0
    rw [(index2 t).1, (index2 t').1] at d
    omega))

/-- The reference's result. -/
theorem ref_at (x0 : FVec Ideal S4160x1024 .bf16) (x1 : FVec Ideal S4160x2816 .bf16) (s : Fin 2) (i : Fin 1024) (j : Fin 1408) :
    Cert.GateReferenceIdeal.Read.val_main_v10 (F := Ideal) x0 x1 (ix3 (slot s) i j) = ∑ R : Fin 4160, x1 (ix2 R (colOf s j)) * x0 (ix2 R i) := by
  pointwise [Cert.GateReferenceIdeal.Read.val_main_v10, Cert.GateReferenceIdeal.Read.val_main_v9, Cert.GateReferenceIdeal.Read.val_main_v8, Cert.GateReferenceIdeal.Read.val_main_v7, Cert.GateReferenceIdeal.Read.val_main_v6, Cert.GateReferenceIdeal.Read.val_main_v3, Cert.GateReferenceIdeal.Read.val_main_v2, Cert.GateReferenceIdeal.Read.val_main_v1, Cert.GateReferenceIdeal.Read.val_main_v0, Cert.GateReferenceIdeal.Read.val_main_cst]
  refine Finset.sum_congr rfl fun R _ => ?_
  rw [dif_pos (show (slot s).val * 1408 + j.val < 2816 by have h1 := s.isLt; have h2 := j.isLt; show s.val * 1408 + j.val < 2816; omega)]
  rfl

/-- The result, at an index, is the reference's. -/
theorem out2 (s : Fin 2) (i : Fin 1024) (j : Fin 1408) : (dats m 0 c).arrAt 2 cfg0.N (ix3 (slot s) i j) = Cert.GateReferenceIdeal.Read.val_main_v10 (F := Ideal) (A0 m c) (A1 m c) (ix3 (slot s) i j) := by
  have h := congrFun (((dats m 0 c).read_blk_arrAt_eq_flushed 2 disjoint2 cfg0.N (last s) (last s).isLt ((flush0_2 _).mpr (last_mod s))).trans (flush_last m c s)) (ix3 0 i j)
  change (dats m 0 c).arrAt 2 cfg0.N (((cfg0.win 2).blk (last s)).view.emb (ix3 0 i j)) = k0_pay3 (F := Ideal) (k0_pay2 (F := Ideal) (k0_pay2 (F := Ideal) _ _ _) _ _) (ix3 0 i j) at h
  rw [emb2, pay3, pay2, pay2, pay1] at h
  simp only [in0, in1, blockOf_first, blockOf_last, first_mod, last_mod] at h
  rw [h, ref_at]
  exact sum_blocks (fun R => A0 m c (ix2 R i)) (fun R => A1 m c (ix2 R (colOf s j)))

end Blocks

end Cert.Proof.Gate
-- ==== Proof.Gate.Algebraic.lean ====
module

public import proofs.«01_k».proof.Defs
public import proofs.«01_k».proof.Proof.Gate.Values
public import proofs.«01_k».proof.Proof.Gen.GateReferenceIdeal.Run
public import proofs.«01_k».proof.Proof.Gen.GateReferenceIdeal
public import proofs.«01_k».proof.Proof.Gen.On_gate_blocks

@[expose] public section

/-! The value claim of the gradient of the gate half of the feed-forward block's first weight. -/

set_option maxRecDepth 16384

noncomputable section

namespace Cert.Proof.Gate.Algebraic

open Idealize.ShloMosaic Idealize.ShloMosaic.TcCoe Idealize.SL.Sem Cert.GateReferenceIdeal.Read

/-- The groups the claim speaks of are the two groups of the gate half. -/
theorem slot_lt (X : IVec Cert.On_gate_blocks.S4x1024x1408 1)
    (hX : X = cmpi .slt (iotaInDim Cert.On_gate_blocks.S4x1024x1408 32 0) (fun _ => 2#32))
    (s : Fin 4) (R : Fin 1024) (C : Fin 1408) (h : X (ix3 s R C) = 1#1) : s.val < 2 := by
  subst hX
  have h' : BitVec.ofBool ((BitVec.ofNat 32 s.val).slt 2#32) = 1#1 := h
  clear h
  revert s
  decide

/-- The kernel's result is the reference's. -/
theorem algebraic : Cert.algebraic_GateKernelIdeal_GateReferenceIdeal_on_gate_blocks := by
  intro m g m' g' _ hm
  refine ⟨fun c => val_main_v10 (F := Ideal) (A0 m c) (A1 m c), ?_, ?_⟩
  · refine (θ_run Cert.GateKernelIdeal.defs _ _).mono (fun r h c => ?_) (Cert.GateKernelIdeal.Value.run_blocks (F := Ideal) m g)
    obtain ⟨h0, ha⟩ := h c
    refine ⟨fun i hi => ?_, ha⟩
    obtain ⟨s, R, C, rfl⟩ : ∃ s R C, i = ix3 s R C := ⟨_, _, _, eq_ix3 i⟩
    have hs := slot_lt _ rfl _ _ _ hi
    exact (congrFun h0 _).trans (out2 m c ⟨s.val, hs⟩ R C)
  · refine (θ_run Cert.GateReferenceIdeal.defs _ _).mono (fun r h c => ?_) (Cert.GateReferenceIdeal.Value.run (F := Ideal) m' g')
    obtain ⟨a0, a1⟩ := hm c
    obtain ⟨h0, ha⟩ := h c
    replace h0 := h0.trans (show _ = val_main_v10 (F := Ideal) (m' ((c : Thread Cert.GateReferenceIdeal.nD Cert.GateReferenceIdeal.τ).loc Cert.GateReferenceIdeal.main_arg0)) (m' ((c : Thread Cert.GateReferenceIdeal.nD Cert.GateReferenceIdeal.τ).loc Cert.GateReferenceIdeal.main_arg1)) from rfl)
    rw [a0, a1] at h0
    exact ⟨fun i _ => congrFun h0 i, ha⟩

end Cert.Proof.Gate.Algebraic
-- ==== Proof.Up.Values.lean ====
module

public import proofs.«01_k».proof.Proof.Gen.UpKernelIdeal.Value
public import proofs.«01_k».proof.Proof.Gen.UpReferenceIdeal.Read
public import Idealize.ShloMosaic.Lib.Pipeline.FrameBody
public import proofs.«01_k».proof.Proof.WeightGrad

@[expose] public section

/-! The gradient of the other half of the feed-forward block's first weight, in two groups of columns, written beside the
groups of the gate half. -/

set_option maxRecDepth 16384

noncomputable section

namespace Cert.Proof.Up

open Cert.UpKernelIdeal Cert.UpKernelIdeal.Gen Cert.UpKernelIdeal.Value Idealize.ShloMosaic Idealize.ShloMosaic.TcCoe
  Idealize.SL.Sem
open Cert.Proof.WeightGrad

theorem hz : (![0, 0] : Fin 2 → Nat) = fun _ => 0 := funext fun a => by fin_cases a <;> rfl
theorem hz3 : (![0, 0, 0] : Fin 3 → Nat) = fun _ => 0 := funext fun a => by fin_cases a <;> rfl

section Body

variable {F : FTy → Type} [FloatOps F]
variable (c : Dev nD) (i : grid0.Coords) (arg3 : Memref sig .tc .vmem S2080x1024 .bf16) (harg3 : arg3.IsWhole) (arg4 : Memref sig .tc .vmem S2080x1408 .bf16) (harg4 : arg4.IsWhole) (arg6 : Memref sig .tc .vmem S1x1024x1408 .bf16) (harg6 : arg6.IsWhole) (arg7 : Memref sig .tc .vmem S1024x1408 .f32) (harg7 : arg7.IsWhole)
  (x0 : Vec F S2080x1024 .bf16) (x1 : Vec F S2080x1408 .bf16)

/-- The first block of rows starts the sum. -/
theorem sumA (hc0 : cond0_0 i) (hc1 : ¬cond0_1 i) :
    sout0_A_0 c i arg3 harg3 arg4 harg4 arg6 harg6 arg7 harg7 hc0 hc1 x0 x1 = k0_pay2 k0_pay1 x0 x1 := by
  unfold sout0_A_0
  rw [View.read_writes_junk_eq_canon]
  unfold kernelRun0_A
  dsimp only
  sl_unfold_words
  simp only [View.readAt_eq_ld, Memref.IsWhole.read_unread, View.ld_unit_zero (S := S2080x1024) hz, View.ld_unit_zero (S := S2080x1408) hz, View.ld_unit_zero (S := S1024x1408) hz,
    View.canon_cons_unit_zero (S := S1024x1408) hz, View.readCov_unit_zero (S := S1024x1408) _ hz]

/-- The second block adds to it, and the rounded sum is stored. -/
theorem outB (hc0 : ¬cond0_0 i) (hc1 : cond0_1 i) (xs : Vec F S1024x1408 .f32) :
    out0_B_2 c i arg3 harg3 arg4 harg4 arg6 harg6 arg7 harg7 hc0 hc1 x0 x1 xs = k0_pay3 (k0_pay2 xs x0 x1) := by
  unfold out0_B_2
  rw [View.read_writes_junk_eq_canon]
  unfold kernelRun0_B
  dsimp only
  sl_unfold_words
  simp only [View.readAt_eq_ld, Memref.IsWhole.read_unread, View.ld_unit_zero (S := S2080x1024) hz, View.ld_unit_zero (S := S2080x1408) hz, View.ld_unit_zero (S := S1024x1408) hz,
    View.canon_cons_unit_zero (S := S1x1024x1408) hz3, View.readCov_unit_zero (S := S1024x1408) _ hz]

end Body

section Blocks

variable (m : ∀ l, Buf (Elt Ideal) l) (c : Dev nD)

abbrev A0 : FVec Ideal S4160x1024 .bf16 := m ((c : Thread nD τ).loc main_arg0)
abbrev A1 : FVec Ideal S4160x2816 .bf16 := m ((c : Thread nD τ).loc main_arg1)
abbrev A2 : FVec Ideal S4x1024x1408 .bf16 := m ((c : Thread nD τ).loc main_arg2)

variable (t : Fin cfg0.N)

theorem lt_points (t : Fin cfg0.N) : t.val < 4 := lt_of_lt_of_eq t.isLt N_0

theorem pos_lt (t : Fin cfg0.N) : t.val % 2 < 2 := Nat.mod_lt _ (by decide)

/-- The block of columns a point computes. -/
def blockOf (t : Fin cfg0.N) : Fin 2 := ⟨t.val / 2, by have := lt_points t; omega⟩

/-- Column `j` of block `s`. -/
def colOf (s : Fin 2) (j : Fin 1408) : Fin 2816 := ⟨s.val * 1408 + j.val, by have := s.isLt; have := j.isLt; omega⟩

/-- The group of columns that block `s` is written to. -/
def slot (s : Fin 2) : Fin 4 := ⟨2 + s.val, by have := s.isLt; omega⟩

/-- The points that sum block `s`: over the first rows, and over the last. -/
def first (s : Fin 2) : Fin cfg0.N := ⟨2 * s.val, lt_of_lt_of_eq (by have := s.isLt; omega) N_0.symm⟩
def last (s : Fin 2) : Fin cfg0.N := ⟨2 * s.val + 1, lt_of_lt_of_eq (by have := s.isLt; omega) N_0.symm⟩

theorem first_mod (s : Fin 2) : (first s).val % 2 = 0 := by show 2 * s.val % 2 = 0; omega
theorem last_mod (s : Fin 2) : (last s).val % 2 = 1 := by show (2 * s.val + 1) % 2 = 1; omega
theorem last_div (s : Fin 2) : (last s).val / 2 = s.val := by show (2 * s.val + 1) / 2 = s.val; omega
theorem blockOf_first (s : Fin 2) : blockOf (first s) = s := Fin.ext (by show 2 * s.val / 2 = s.val; omega)
theorem blockOf_last (s : Fin 2) : blockOf (last s) = s := Fin.ext (last_div s)

theorem index0 : ∀ t : Fin cfg0.N, win0_0.index t (0 : Fin 2) = t.val % 2 ∧ win0_0.index t (1 : Fin 2) = 0 :=
  (by decide +kernel : ∀ t : Fin grid0.N, win0_0.index t (0 : Fin 2) = t.val % 2 ∧ win0_0.index t (1 : Fin 2) = 0)

/-- Input 0's block. -/
theorem in0 (r : Fin 2080) (j : Fin 1024) : iblk m c 0 t (ix2 r j) = A0 m c (ix2 (row (t.val % 2) (pos_lt t) r) j) := by
  show A0 m c (((cfg0.win 0).blk t).view.emb (ix2 r j)) = _
  congr 1
  funext a
  apply Fin.ext
  match a with
  | ⟨0, _⟩ => show win0_0.index t (0 : Fin 2) * 2080 + 1 * r.val = t.val % 2 * 2080 + r.val; rw [(index0 t).1, Nat.one_mul]
  | ⟨1, _⟩ => show win0_0.index t (1 : Fin 2) * 1024 + 1 * j.val = j.val; rw [(index0 t).2]; omega

theorem index1 : ∀ t : Fin cfg0.N, win0_1.index t (0 : Fin 2) = t.val % 2 ∧ win0_1.index t (1 : Fin 2) = t.val / 2 :=
  (by decide +kernel : ∀ t : Fin grid0.N, win0_1.index t (0 : Fin 2) = t.val % 2 ∧ win0_1.index t (1 : Fin 2) = t.val / 2)

/-- Input 1's block. -/
theorem in1 (r : Fin 2080) (j : Fin 1408) : iblk m c 1 t (ix2 r j) = A1 m c (ix2 (row (t.val % 2) (pos_lt t) r) (colOf (blockOf t) j)) := by
  show A1 m c (((cfg0.win 1).blk t).view.emb (ix2 r j)) = _
  congr 1
  funext a
  apply Fin.ext
  match a with
  | ⟨0, _⟩ => show win0_1.index t (0 : Fin 2) * 2080 + 1 * r.val = t.val % 2 * 2080 + r.val; rw [(index1 t).1, Nat.one_mul]
  | ⟨1, _⟩ => show win0_1.index t (1 : Fin 2) * 1408 + 1 * j.val = t.val / 2 * 1408 + j.val; rw [(index1 t).2, Nat.one_mul]

theorem index2 : ∀ t : Fin cfg0.N, win0_2.index t (0 : Fin 3) = 2 + t.val / 2 ∧ win0_2.index t (1 : Fin 3) = 0 ∧ win0_2.index t (2 : Fin 3) = 0 :=
  (by decide +kernel : ∀ t : Fin grid0.N, win0_2.index t (0 : Fin 3) = 2 + t.val / 2 ∧ win0_2.index t (1 : Fin 3) = 0 ∧ win0_2.index t (2 : Fin 3) = 0)

/-- Where the output's block lies in its array. -/
theorem emb2 (s : Fin 2) (i : Fin 1024) (j : Fin 1408) : ((cfg0.win 2).blk (last s)).view.emb (ix3 0 i j) = (ix3 (slot s) i j) := by
  funext a
  apply Fin.ext
  match a with
  | ⟨0, _⟩ => show win0_2.index (last s) (0 : Fin 3) * 1 + 1 * 0 = 2 + s.val; rw [(index2 _).1, last_div]; omega
  | ⟨1, _⟩ => show win0_2.index (last s) (1 : Fin 3) * 1024 + 1 * i.val = i.val; rw [(index2 _).2.1]; omega
  | ⟨2, _⟩ => show win0_2.index (last s) (2 : Fin 3) * 1408 + 1 * j.val = j.val; rw [(index2 _).2.2]; omega

/-- What one block of rows adds. -/
theorem pay2 (v : Vec Ideal S1024x1408 .f32) (x0 : Vec Ideal S2080x1024 .bf16) (x1 : Vec Ideal S2080x1408 .bf16) (i : Fin 1024) (j : Fin 1408) :
    k0_pay2 (F := Ideal) v x0 x1 (ix2 i j) = v (ix2 i j) + ∑ r : Fin 2080, x0 (ix2 r i) * x1 (ix2 r j) := by
  pointwise [k0_pay2]

/-- The sum starts from nothing. -/
theorem pay1 (i : Fin 1024) (j : Fin 1408) : k0_pay1 (F := Ideal) (ix2 i j) = 0 := by
  pointwise [k0_pay1]

/-- The stored sum. -/
theorem pay3 (v : Vec Ideal S1024x1408 .f32) (i : Fin 1024) (j : Fin 1408) : k0_pay3 (F := Ideal) v (ix3 0 i j) = v (ix2 i j) := by
  pointwise [k0_pay3]

/-- What is written back for block `s`: the rounded sum over both blocks of rows. -/
theorem flush_last (s : Fin 2) : (dats m 0 c).flushed 2 (last s) = (cfg0.win 2).cut (grid0.coords (last s))
    (k0_pay3 (F := Ideal) (k0_pay2 (F := Ideal) (k0_pay2 (F := Ideal) (k0_pay1 (F := Ideal)) (iblk m c 0 (first s)) (iblk m c 1 (first s))) (iblk m c 0 (last s)) (iblk m c 1 (last s)))) := by
  have e : (outsAt0 m c (first s).val (first s).isLt).2 = k0_pay2 (F := Ideal) (k0_pay1 (F := Ideal)) (iblk m c 0 (first s)) (iblk m c 1 (first s)) := by
    rw [outsAt0_A m c (first s) (first_mod s) (by rw [first_mod]; decide)]
    dsimp only
    rw [sumA]
  rw [flushed2_B m c (last s) (by rw [last_mod]; decide) (last_mod s), outB, ← e]
  rfl

/-- No two blocks overlap. -/
theorem disjoint2 : ∀ t t' : Fin cfg0.N, (cfg0.win 2).flush t = true → (cfg0.win 2).flush t' = true → t ≠ t' →
    Disjoint ((cfg0.win 2).blk t).view.set ((cfg0.win 2).blk t').view.set := fun t t' h h' hne =>
  (cfg0.win 2).disjoint_blk fun e => hne (Fin.ext (by
    have a := (flush0_2 t).mp h
    have b := (flush0_2 t').mp h'
    have d : win0_2.index t (0 : Fin 3) = win0_2.index t' (0 : Fin 3) := congrFun e 0
    rw [(index2 t).1, (index2 t').1] at d
    omega))

/-- The reference's result. -/
theorem ref_at (x0 : FVec Ideal S4160x1024 .bf16) (x1 : FVec Ideal S4160x2816 .bf16) (x2 : FVec Ideal S4x1024x1408 .bf16) (s : Fin 2) (i : Fin 1024) (j : Fin 1408) :
    Cert.UpReferenceIdeal.Read.val_main_v13 (F := Ideal) x0 x1 x2 (ix3 (slot s) i j) = ∑ R : Fin 4160, x1 (ix2 R (colOf s j)) * x0 (ix2 R i) := by
  pointwise [Cert.UpReferenceIdeal.Read.val_main_v13, Cert.UpReferenceIdeal.Read.val_main_v12, Cert.UpReferenceIdeal.Read.val_main_v11, Cert.UpReferenceIdeal.Read.val_main_v10, Cert.UpReferenceIdeal.Read.val_main_v9, Cert.UpReferenceIdeal.Read.val_main_v8, Cert.UpReferenceIdeal.Read.val_main_v7, Cert.UpReferenceIdeal.Read.val_main_v4, Cert.UpReferenceIdeal.Read.val_main_v3, Cert.UpReferenceIdeal.Read.val_main_v2, Cert.UpReferenceIdeal.Read.val_main_v1, Cert.UpReferenceIdeal.Read.val_main_v0, Cert.UpReferenceIdeal.Read.val_main_cst]
  have hs : (slot s).val = 2 + s.val := rfl
  have h2 := s.isLt
  have h3 := j.isLt
  rw [dif_neg (by omega)]
  refine Finset.sum_congr rfl fun R _ => ?_
  rw [dif_neg (by omega)]
  refine congrArg₂ (· * ·) (congrArg (fun q => x1 (ix2 R q)) (Fin.ext ?_)) rfl
  show (2 + ((slot s).val - 2)) * 1408 + j.val - 2816 = s.val * 1408 + j.val
  omega

/-- The groups of the gate half are as they came. -/
theorem ref_kept (x0 : FVec Ideal S4160x1024 .bf16) (x1 : FVec Ideal S4160x2816 .bf16) (x2 : FVec Ideal S4x1024x1408 .bf16)
    (s : Fin 4) (hs : s.val < 2) (i : Fin 1024) (j : Fin 1408) :
    Cert.UpReferenceIdeal.Read.val_main_v13 (F := Ideal) x0 x1 x2 (ix3 s i j) = x2 (ix3 s i j) := by
  pointwise [Cert.UpReferenceIdeal.Read.val_main_v13, Cert.UpReferenceIdeal.Read.val_main_v12, Cert.UpReferenceIdeal.Read.val_main_v0]
  rw [dif_pos hs]

/-- Those groups of the output are not written. -/
theorem kept2 (s : Fin 4) (hs : s.val < 2) (i : Fin 1024) (j : Fin 1408) : (dats m 0 c).arrAt 2 cfg0.N (ix3 s i j) = A2 m c (ix3 s i j) := by
  refine (entry2 m c _ fun t hf hm => ?_).trans rfl
  have h : ix3 s i j ∈ ((View.whole main_v0).slice (win0_2.rect t)).set := hm
  rw [View.set_slice_whole, Rect.mem_set_unit] at h
  have h0 : win0_2.index t (0 : Fin 3) * 1 ≤ s.val ∧ s.val < win0_2.index t (0 : Fin 3) * 1 + 1 := h 0
  rw [(index2 t).1] at h0
  omega

/-- The result, at an index, is the reference's. -/
theorem out2 (s : Fin 2) (i : Fin 1024) (j : Fin 1408) : (dats m 0 c).arrAt 2 cfg0.N (ix3 (slot s) i j) = Cert.UpReferenceIdeal.Read.val_main_v13 (F := Ideal) (A0 m c) (A1 m c) (A2 m c) (ix3 (slot s) i j) := by
  have h := congrFun (((dats m 0 c).read_blk_arrAt_eq_flushed 2 disjoint2 cfg0.N (last s) (last s).isLt ((flush0_2 _).mpr (last_mod s))).trans (flush_last m c s)) (ix3 0 i j)
  change (dats m 0 c).arrAt 2 cfg0.N (((cfg0.win 2).blk (last s)).view.emb (ix3 0 i j)) = k0_pay3 (F := Ideal) (k0_pay2 (F := Ideal) (k0_pay2 (F := Ideal) _ _ _) _ _) (ix3 0 i j) at h
  rw [emb2, pay3, pay2, pay2, pay1] at h
  simp only [in0, in1, blockOf_first, blockOf_last, first_mod, last_mod] at h
  rw [h, ref_at]
  exact sum_blocks (fun R => A0 m c (ix2 R i)) (fun R => A1 m c (ix2 R (colOf s j)))

end Blocks

end Cert.Proof.Up
-- ==== Proof.Up.Algebraic.lean ====
module

public import proofs.«01_k».proof.Defs
public import proofs.«01_k».proof.Proof.Up.Values
public import proofs.«01_k».proof.Proof.Gen.UpReferenceIdeal.Run
public import proofs.«01_k».proof.Proof.Gen.UpReferenceIdeal

@[expose] public section

/-! The value claim of the gradient of the other half of the feed-forward block's first weight. -/

set_option maxRecDepth 16384

noncomputable section

namespace Cert.Proof.Up.Algebraic

open Idealize.ShloMosaic Idealize.ShloMosaic.TcCoe Idealize.SL.Sem Cert.UpReferenceIdeal.Read

/-- The kernel's result is the reference's. -/
theorem algebraic : Cert.algebraic_UpKernelIdeal_UpReferenceIdeal := by
  intro m g m' g' _ hm
  refine ⟨fun c => val_main_v13 (F := Ideal) (A0 m c) (A1 m c) (A2 m c), ?_, ?_⟩
  · refine (θ_run Cert.UpKernelIdeal.defs _ _).mono (fun r h c => ?_) (Cert.UpKernelIdeal.Value.run_blocks (F := Ideal) m g)
    obtain ⟨h0, ha⟩ := h c
    refine ⟨funext fun i => ?_, ha⟩
    obtain ⟨s, R, C, rfl⟩ : ∃ s R C, i = ix3 s R C := ⟨_, _, _, eq_ix3 i⟩
    refine (congrFun h0 _).trans ?_
    by_cases hs : s.val < 2
    · exact (kept2 m c s hs R C).trans (ref_kept _ _ _ s hs R C).symm
    · obtain ⟨q, rfl⟩ : ∃ q : Fin 2, s = slot q := ⟨⟨s.val - 2, by have := s.isLt; omega⟩, Fin.ext (by show s.val = 2 + (s.val - 2); omega)⟩
      exact out2 m c q R C
  · refine (θ_run Cert.UpReferenceIdeal.defs _ _).mono (fun r h c => ?_) (Cert.UpReferenceIdeal.Value.run (F := Ideal) m' g')
    obtain ⟨a0, a1, a2⟩ := hm c
    obtain ⟨h0, ha⟩ := h c
    replace h0 := h0.trans (show _ = val_main_v13 (F := Ideal) (m' ((c : Thread Cert.UpReferenceIdeal.nD Cert.UpReferenceIdeal.τ).loc Cert.UpReferenceIdeal.main_arg0)) (m' ((c : Thread Cert.UpReferenceIdeal.nD Cert.UpReferenceIdeal.τ).loc Cert.UpReferenceIdeal.main_arg1)) (m' ((c : Thread Cert.UpReferenceIdeal.nD Cert.UpReferenceIdeal.τ).loc Cert.UpReferenceIdeal.main_arg2)) from rfl)
    rw [a0, a1, a2] at h0
    exact ⟨h0, ha⟩

end Cert.Proof.Up.Algebraic
-- ==== Proof.Down.Values.lean ====
module

public import proofs.«01_k».proof.Proof.Gen.DownKernelIdeal.Value
public import proofs.«01_k».proof.Proof.Gen.DownReferenceIdeal.Read
public import Idealize.ShloMosaic.Lib.Pipeline.FrameBody
public import proofs.«01_k».proof.Proof.WeightGrad

@[expose] public section

/-! The gradient of the feed-forward block's second weight. -/

set_option maxRecDepth 16384

noncomputable section

namespace Cert.Proof.Down

open Cert.DownKernelIdeal Cert.DownKernelIdeal.Gen Cert.DownKernelIdeal.Value Idealize.ShloMosaic Idealize.ShloMosaic.TcCoe
  Idealize.SL.Sem
open Cert.Proof.WeightGrad

theorem hz : (![0, 0] : Fin 2 → Nat) = fun _ => 0 := funext fun a => by fin_cases a <;> rfl

section Body

variable {F : FTy → Type} [FloatOps F]
variable (c : Dev nD) (i : grid0.Coords) (arg3 : Memref sig .tc .vmem S2080x1408 .bf16) (harg3 : arg3.IsWhole) (arg4 : Memref sig .tc .vmem S2080x1024 .bf16) (harg4 : arg4.IsWhole) (arg5 : Memref sig .tc .vmem S1408x1024 .bf16) (harg5 : arg5.IsWhole) (arg6 : Memref sig .tc .vmem S1408x1024 .f32) (harg6 : arg6.IsWhole)
  (x0 : Vec F S2080x1408 .bf16) (x1 : Vec F S2080x1024 .bf16)

/-- The first block of rows starts the sum. -/
theorem sumA (hc0 : cond0_0 i) (hc1 : ¬cond0_1 i) :
    sout0_A_0 c i arg3 harg3 arg4 harg4 arg5 harg5 arg6 harg6 hc0 hc1 x0 x1 = k0_pay2 k0_pay1 x0 x1 := by
  unfold sout0_A_0
  rw [View.read_writes_junk_eq_canon]
  unfold kernelRun0_A
  dsimp only
  sl_unfold_words
  simp only [View.readAt_eq_ld, Memref.IsWhole.read_unread, View.ld_unit_zero (S := S2080x1408) hz, View.ld_unit_zero (S := S2080x1024) hz, View.ld_unit_zero (S := S1408x1024) hz,
    View.canon_cons_unit_zero (S := S1408x1024) hz, View.readCov_unit_zero (S := S1408x1024) _ hz]

/-- The second block adds to it, and the rounded sum is stored. -/
theorem outB (hc0 : ¬cond0_0 i) (hc1 : cond0_1 i) (xs : Vec F S1408x1024 .f32) :
    out0_B_2 c i arg3 harg3 arg4 harg4 arg5 harg5 arg6 harg6 hc0 hc1 x0 x1 xs = k0_pay3 (k0_pay2 xs x0 x1) := by
  unfold out0_B_2
  rw [View.read_writes_junk_eq_canon]
  unfold kernelRun0_B
  dsimp only
  sl_unfold_words
  simp only [View.readAt_eq_ld, Memref.IsWhole.read_unread, View.ld_unit_zero (S := S2080x1408) hz, View.ld_unit_zero (S := S2080x1024) hz, View.ld_unit_zero (S := S1408x1024) hz,
    View.canon_cons_unit_zero (S := S1408x1024) hz, View.readCov_unit_zero (S := S1408x1024) _ hz]

end Body

section Blocks

variable (m : ∀ l, Buf (Elt Ideal) l) (c : Dev nD)

abbrev A0 : FVec Ideal S4160x2816 .bf16 := m ((c : Thread nD τ).loc main_arg0)
abbrev A1 : FVec Ideal S4160x1024 .bf16 := m ((c : Thread nD τ).loc main_arg1)

variable (t : Fin cfg0.N)

theorem lt_points (t : Fin cfg0.N) : t.val < 4 := lt_of_lt_of_eq t.isLt N_0

theorem pos_lt (t : Fin cfg0.N) : t.val % 2 < 2 := Nat.mod_lt _ (by decide)

/-- The block of columns a point computes. -/
def blockOf (t : Fin cfg0.N) : Fin 2 := ⟨t.val / 2, by have := lt_points t; omega⟩

/-- Column `j` of block `s`. -/
def colOf (s : Fin 2) (j : Fin 1408) : Fin 2816 := ⟨s.val * 1408 + j.val, by have := s.isLt; have := j.isLt; omega⟩

/-- The points that sum block `s`: over the first rows, and over the last. -/
def first (s : Fin 2) : Fin cfg0.N := ⟨2 * s.val, lt_of_lt_of_eq (by have := s.isLt; omega) N_0.symm⟩
def last (s : Fin 2) : Fin cfg0.N := ⟨2 * s.val + 1, lt_of_lt_of_eq (by have := s.isLt; omega) N_0.symm⟩

theorem first_mod (s : Fin 2) : (first s).val % 2 = 0 := by show 2 * s.val % 2 = 0; omega
theorem last_mod (s : Fin 2) : (last s).val % 2 = 1 := by show (2 * s.val + 1) % 2 = 1; omega
theorem last_div (s : Fin 2) : (last s).val / 2 = s.val := by show (2 * s.val + 1) / 2 = s.val; omega
theorem blockOf_first (s : Fin 2) : blockOf (first s) = s := Fin.ext (by show 2 * s.val / 2 = s.val; omega)
theorem blockOf_last (s : Fin 2) : blockOf (last s) = s := Fin.ext (last_div s)

theorem index0 : ∀ t : Fin cfg0.N, win0_0.index t (0 : Fin 2) = t.val % 2 ∧ win0_0.index t (1 : Fin 2) = t.val / 2 :=
  (by decide +kernel : ∀ t : Fin grid0.N, win0_0.index t (0 : Fin 2) = t.val % 2 ∧ win0_0.index t (1 : Fin 2) = t.val / 2)

/-- Input 0's block. -/
theorem in0 (r : Fin 2080) (j : Fin 1408) : iblk m c 0 t (ix2 r j) = A0 m c (ix2 (row (t.val % 2) (pos_lt t) r) (colOf (blockOf t) j)) := by
  show A0 m c (((cfg0.win 0).blk t).view.emb (ix2 r j)) = _
  congr 1
  funext a
  apply Fin.ext
  match a with
  | ⟨0, _⟩ => show win0_0.index t (0 : Fin 2) * 2080 + 1 * r.val = t.val % 2 * 2080 + r.val; rw [(index0 t).1, Nat.one_mul]
  | ⟨1, _⟩ => show win0_0.index t (1 : Fin 2) * 1408 + 1 * j.val = t.val / 2 * 1408 + j.val; rw [(index0 t).2, Nat.one_mul]

theorem index1 : ∀ t : Fin cfg0.N, win0_1.index t (0 : Fin 2) = t.val % 2 ∧ win0_1.index t (1 : Fin 2) = 0 :=
  (by decide +kernel : ∀ t : Fin grid0.N, win0_1.index t (0 : Fin 2) = t.val % 2 ∧ win0_1.index t (1 : Fin 2) = 0)

/-- Input 1's block. -/
theorem in1 (r : Fin 2080) (j : Fin 1024) : iblk m c 1 t (ix2 r j) = A1 m c (ix2 (row (t.val % 2) (pos_lt t) r) j) := by
  show A1 m c (((cfg0.win 1).blk t).view.emb (ix2 r j)) = _
  congr 1
  funext a
  apply Fin.ext
  match a with
  | ⟨0, _⟩ => show win0_1.index t (0 : Fin 2) * 2080 + 1 * r.val = t.val % 2 * 2080 + r.val; rw [(index1 t).1, Nat.one_mul]
  | ⟨1, _⟩ => show win0_1.index t (1 : Fin 2) * 1024 + 1 * j.val = j.val; rw [(index1 t).2]; omega

theorem index2 : ∀ t : Fin cfg0.N, win0_2.index t (0 : Fin 2) = t.val / 2 ∧ win0_2.index t (1 : Fin 2) = 0 :=
  (by decide +kernel : ∀ t : Fin grid0.N, win0_2.index t (0 : Fin 2) = t.val / 2 ∧ win0_2.index t (1 : Fin 2) = 0)

/-- Where the output's block lies in its array. -/
theorem emb2 (s : Fin 2) (i : Fin 1408) (j : Fin 1024) : ((cfg0.win 2).blk (last s)).view.emb (ix2 i j) = (ix2 (colOf s i) j) := by
  funext a
  apply Fin.ext
  match a with
  | ⟨0, _⟩ => show win0_2.index (last s) (0 : Fin 2) * 1408 + 1 * i.val = s.val * 1408 + i.val; rw [(index2 _).1, last_div, Nat.one_mul]
  | ⟨1, _⟩ => show win0_2.index (last s) (1 : Fin 2) * 1024 + 1 * j.val = j.val; rw [(index2 _).2]; omega

/-- What one block of rows adds. -/
theorem pay2 (v : Vec Ideal S1408x1024 .f32) (x0 : Vec Ideal S2080x1408 .bf16) (x1 : Vec Ideal S2080x1024 .bf16) (i : Fin 1408) (j : Fin 1024) :
    k0_pay2 (F := Ideal) v x0 x1 (ix2 i j) = v (ix2 i j) + ∑ r : Fin 2080, x0 (ix2 r i) * x1 (ix2 r j) := by
  pointwise [k0_pay2]

/-- The sum starts from nothing. -/
theorem pay1 (i : Fin 1408) (j : Fin 1024) : k0_pay1 (F := Ideal) (ix2 i j) = 0 := by
  pointwise [k0_pay1]

/-- The stored sum. -/
theorem pay3 (v : Vec Ideal S1408x1024 .f32) (i : Fin 1408) (j : Fin 1024) : k0_pay3 (F := Ideal) v (ix2 i j) = v (ix2 i j) := by
  pointwise [k0_pay3]

/-- What is written back for block `s`: the rounded sum over both blocks of rows. -/
theorem flush_last (s : Fin 2) : (dats m 0 c).flushed 2 (last s) = (cfg0.win 2).cut (grid0.coords (last s))
    (k0_pay3 (F := Ideal) (k0_pay2 (F := Ideal) (k0_pay2 (F := Ideal) (k0_pay1 (F := Ideal)) (iblk m c 0 (first s)) (iblk m c 1 (first s))) (iblk m c 0 (last s)) (iblk m c 1 (last s)))) := by
  have e : (outsAt0 m c (first s).val (first s).isLt).2 = k0_pay2 (F := Ideal) (k0_pay1 (F := Ideal)) (iblk m c 0 (first s)) (iblk m c 1 (first s)) := by
    rw [outsAt0_A m c (first s) (first_mod s) (by rw [first_mod]; decide)]
    dsimp only
    rw [sumA]
  rw [flushed2_B m c (last s) (by rw [last_mod]; decide) (last_mod s), outB, ← e]
  rfl

/-- No two blocks overlap. -/
theorem disjoint2 : ∀ t t' : Fin cfg0.N, (cfg0.win 2).flush t = true → (cfg0.win 2).flush t' = true → t ≠ t' →
    Disjoint ((cfg0.win 2).blk t).view.set ((cfg0.win 2).blk t').view.set := fun t t' h h' hne =>
  (cfg0.win 2).disjoint_blk fun e => hne (Fin.ext (by
    have a := (flush0_2 t).mp h
    have b := (flush0_2 t').mp h'
    have d : win0_2.index t (0 : Fin 2) = win0_2.index t' (0 : Fin 2) := congrFun e 0
    rw [(index2 t).1, (index2 t').1] at d
    omega))

/-- The reference's result. -/
theorem ref_at (x0 : FVec Ideal S4160x2816 .bf16) (x1 : FVec Ideal S4160x1024 .bf16) (s : Fin 2) (i : Fin 1408) (j : Fin 1024) :
    Cert.DownReferenceIdeal.Read.val_main_v6 (F := Ideal) x0 x1 (ix2 (colOf s i) j) = ∑ R : Fin 4160, x1 (ix2 R j) * x0 (ix2 R (colOf s i)) := by
  pointwise [Cert.DownReferenceIdeal.Read.val_main_v6, Cert.DownReferenceIdeal.Read.val_main_v5, Cert.DownReferenceIdeal.Read.val_main_v4, Cert.DownReferenceIdeal.Read.val_main_v1, Cert.DownReferenceIdeal.Read.val_main_v0]

/-- The result, at an index, is the reference's. -/
theorem out2 (s : Fin 2) (i : Fin 1408) (j : Fin 1024) : (dats m 0 c).arrAt 2 cfg0.N (ix2 (colOf s i) j) = Cert.DownReferenceIdeal.Read.val_main_v6 (F := Ideal) (A0 m c) (A1 m c) (ix2 (colOf s i) j) := by
  have h := congrFun (((dats m 0 c).read_blk_arrAt_eq_flushed 2 disjoint2 cfg0.N (last s) (last s).isLt ((flush0_2 _).mpr (last_mod s))).trans (flush_last m c s)) (ix2 i j)
  change (dats m 0 c).arrAt 2 cfg0.N (((cfg0.win 2).blk (last s)).view.emb (ix2 i j)) = k0_pay3 (F := Ideal) (k0_pay2 (F := Ideal) (k0_pay2 (F := Ideal) _ _ _) _ _) (ix2 i j) at h
  rw [emb2, pay3, pay2, pay2, pay1] at h
  simp only [in0, in1, blockOf_first, blockOf_last, first_mod, last_mod] at h
  rw [h, ref_at]
  exact sum_blocks (fun R => A0 m c (ix2 R (colOf s i))) (fun R => A1 m c (ix2 R j))

end Blocks

end Cert.Proof.Down
-- ==== Proof.Down.Algebraic.lean ====
module

public import proofs.«01_k».proof.Defs
public import proofs.«01_k».proof.Proof.Down.Values
public import proofs.«01_k».proof.Proof.Gen.DownReferenceIdeal.Run
public import proofs.«01_k».proof.Proof.Gen.DownReferenceIdeal

@[expose] public section

/-! The value claim of the gradient of the feed-forward block's second weight. -/

set_option maxRecDepth 16384

noncomputable section

namespace Cert.Proof.Down.Algebraic

open Idealize.ShloMosaic Idealize.ShloMosaic.TcCoe Idealize.SL.Sem Cert.DownReferenceIdeal.Read

/-- Every row of the gradient is in one of the two blocks. -/
theorem exists_col (R : Fin 2816) : ∃ (s : Fin 2) (r : Fin 1408), R = colOf s r :=
  ⟨⟨R.val / 1408, by have := R.isLt; omega⟩, ⟨R.val % 1408, Nat.mod_lt _ (by decide)⟩,
    Fin.ext (by show R.val = R.val / 1408 * 1408 + R.val % 1408; omega)⟩

/-- The kernel's result is the reference's. -/
theorem algebraic : Cert.algebraic_DownKernelIdeal_DownReferenceIdeal := by
  intro m g m' g' _ hm
  refine ⟨fun c => val_main_v6 (F := Ideal) (A0 m c) (A1 m c), ?_, ?_⟩
  · refine (θ_run Cert.DownKernelIdeal.defs _ _).mono (fun r h c => ?_) (Cert.DownKernelIdeal.Value.run_blocks (F := Ideal) m g)
    obtain ⟨h0, ha⟩ := h c
    refine ⟨funext fun i => ?_, ha⟩
    obtain ⟨R, C, rfl⟩ : ∃ R C, i = ix2 R C := ⟨_, _, eq_ix2 i⟩
    obtain ⟨s, r, rfl⟩ := exists_col R
    exact (congrFun h0 _).trans (out2 m c s r C)
  · refine (θ_run Cert.DownReferenceIdeal.defs _ _).mono (fun r h c => ?_) (Cert.DownReferenceIdeal.Value.run (F := Ideal) m' g')
    obtain ⟨a0, a1⟩ := hm c
    obtain ⟨h0, ha⟩ := h c
    replace h0 := h0.trans (show _ = val_main_v6 (F := Ideal) (m' ((c : Thread Cert.DownReferenceIdeal.nD Cert.DownReferenceIdeal.τ).loc Cert.DownReferenceIdeal.main_arg0)) (m' ((c : Thread Cert.DownReferenceIdeal.nD Cert.DownReferenceIdeal.τ).loc Cert.DownReferenceIdeal.main_arg1)) from rfl)
    rw [a0, a1] at h0
    exact ⟨h0, ha⟩

end Cert.Proof.Down.Algebraic
-- ==== Proof.Square.Values.lean ====
module

public import proofs.«01_k».proof.Proof.Gen.SquareKernelIdeal.Value
public import proofs.«01_k».proof.Proof.Gen.SquareReferenceIdeal.Read
public import Idealize.ShloMosaic.Lib.Pipeline.FrameBody
public import proofs.«01_k».proof.Proof.WeightGrad

@[expose] public section

/-! The gradient of a square weight. -/

set_option maxRecDepth 16384

noncomputable section

namespace Cert.Proof.Square

open Cert.SquareKernelIdeal Cert.SquareKernelIdeal.Gen Cert.SquareKernelIdeal.Value Idealize.ShloMosaic Idealize.ShloMosaic.TcCoe
  Idealize.SL.Sem
open Cert.Proof.WeightGrad

theorem hz : (![0, 0] : Fin 2 → Nat) = fun _ => 0 := funext fun a => by fin_cases a <;> rfl

section Body

variable {F : FTy → Type} [FloatOps F]
variable (c : Dev nD) (i : grid0.Coords) (arg3 : Memref sig .tc .vmem S2080x1024 .bf16) (harg3 : arg3.IsWhole) (arg4 : Memref sig .tc .vmem S2080x1024 .bf16) (harg4 : arg4.IsWhole) (arg5 : Memref sig .tc .vmem S1024x1024 .bf16) (harg5 : arg5.IsWhole) (arg6 : Memref sig .tc .vmem S1024x1024 .f32) (harg6 : arg6.IsWhole)
  (x0 x1 : Vec F S2080x1024 .bf16)

/-- The first block of rows starts the sum. -/
theorem sumA (hc0 : cond0_0 i) (hc1 : ¬cond0_1 i) :
    sout0_A_0 c i arg3 harg3 arg4 harg4 arg5 harg5 arg6 harg6 hc0 hc1 x0 x1 = k0_pay2 k0_pay1 x0 x1 := by
  unfold sout0_A_0
  rw [View.read_writes_junk_eq_canon]
  unfold kernelRun0_A
  dsimp only
  sl_unfold_words
  simp only [View.readAt_eq_ld, Memref.IsWhole.read_unread, View.ld_unit_zero (S := S2080x1024) hz, View.ld_unit_zero (S := S1024x1024) hz,
    View.canon_cons_unit_zero (S := S1024x1024) hz, View.readCov_unit_zero (S := S1024x1024) _ hz]

/-- The second block adds to it, and the rounded sum is stored. -/
theorem outB (hc0 : ¬cond0_0 i) (hc1 : cond0_1 i) (xs : Vec F S1024x1024 .f32) :
    out0_B_2 c i arg3 harg3 arg4 harg4 arg5 harg5 arg6 harg6 hc0 hc1 x0 x1 xs = k0_pay3 (k0_pay2 xs x0 x1) := by
  unfold out0_B_2
  rw [View.read_writes_junk_eq_canon]
  unfold kernelRun0_B
  dsimp only
  sl_unfold_words
  simp only [View.readAt_eq_ld, Memref.IsWhole.read_unread, View.ld_unit_zero (S := S2080x1024) hz, View.ld_unit_zero (S := S1024x1024) hz,
    View.canon_cons_unit_zero (S := S1024x1024) hz, View.readCov_unit_zero (S := S1024x1024) _ hz]

end Body

section Blocks

variable (m : ∀ l, Buf (Elt Ideal) l) (c : Dev nD)

abbrev A0 : FVec Ideal S4160x1024 .bf16 := m ((c : Thread nD τ).loc main_arg0)
abbrev A1 : FVec Ideal S4160x1024 .bf16 := m ((c : Thread nD τ).loc main_arg1)

variable (t : Fin cfg0.N)

theorem pos_lt (t : Fin cfg0.N) : t.val % 2 < 2 := Nat.mod_lt _ (by decide)

theorem index0 : ∀ t : Fin cfg0.N, win0_0.index t (0 : Fin 2) = t.val % 2 ∧ win0_0.index t (1 : Fin 2) = 0 :=
  (by decide +kernel : ∀ t : Fin grid0.N, win0_0.index t (0 : Fin 2) = t.val % 2 ∧ win0_0.index t (1 : Fin 2) = 0)

/-- Input 0's block. -/
theorem in0 (r : Fin 2080) (j : Fin 1024) : iblk m c 0 t (ix2 r j) = A0 m c (ix2 (row (t.val % 2) (pos_lt t) r) j) := by
  show A0 m c (((cfg0.win 0).blk t).view.emb (ix2 r j)) = _
  congr 1
  funext a
  apply Fin.ext
  match a with
  | ⟨0, _⟩ => show win0_0.index t (0 : Fin 2) * 2080 + 1 * r.val = t.val % 2 * 2080 + r.val; rw [(index0 t).1, Nat.one_mul]
  | ⟨1, _⟩ => show win0_0.index t (1 : Fin 2) * 1024 + 1 * j.val = j.val; rw [(index0 t).2]; omega

theorem index1 : ∀ t : Fin cfg0.N, win0_1.index t (0 : Fin 2) = t.val % 2 ∧ win0_1.index t (1 : Fin 2) = 0 :=
  (by decide +kernel : ∀ t : Fin grid0.N, win0_1.index t (0 : Fin 2) = t.val % 2 ∧ win0_1.index t (1 : Fin 2) = 0)

/-- Input 1's block. -/
theorem in1 (r : Fin 2080) (j : Fin 1024) : iblk m c 1 t (ix2 r j) = A1 m c (ix2 (row (t.val % 2) (pos_lt t) r) j) := by
  show A1 m c (((cfg0.win 1).blk t).view.emb (ix2 r j)) = _
  congr 1
  funext a
  apply Fin.ext
  match a with
  | ⟨0, _⟩ => show win0_1.index t (0 : Fin 2) * 2080 + 1 * r.val = t.val % 2 * 2080 + r.val; rw [(index1 t).1, Nat.one_mul]
  | ⟨1, _⟩ => show win0_1.index t (1 : Fin 2) * 1024 + 1 * j.val = j.val; rw [(index1 t).2]; omega

/-- What one block of rows adds. -/
theorem pay2 (v : Vec Ideal S1024x1024 .f32) (x0 x1 : Vec Ideal S2080x1024 .bf16) (i j : Fin 1024) :
    k0_pay2 (F := Ideal) v x0 x1 (ix2 i j) = v (ix2 i j) + ∑ r : Fin 2080, x0 (ix2 r i) * x1 (ix2 r j) := by
  pointwise [k0_pay2]

/-- The sum starts from nothing. -/
theorem pay1 (i j : Fin 1024) : k0_pay1 (F := Ideal) (ix2 i j) = 0 := by
  pointwise [k0_pay1]

/-- The stored sum. -/
theorem pay3 (v : Vec Ideal S1024x1024 .f32) (i j : Fin 1024) : k0_pay3 (F := Ideal) v (ix2 i j) = v (ix2 i j) := by
  pointwise [k0_pay3]

/-- The reference's result. -/
theorem ref6 (x0 x1 : FVec Ideal S4160x1024 .bf16) (i j : Fin 1024) :
    Cert.SquareReferenceIdeal.Read.val_main_v6 (F := Ideal) x0 x1 (ix2 i j) = ∑ R : Fin 4160, x1 (ix2 R j) * x0 (ix2 R i) := by
  pointwise [Cert.SquareReferenceIdeal.Read.val_main_v6, Cert.SquareReferenceIdeal.Read.val_main_v5, Cert.SquareReferenceIdeal.Read.val_main_v4, Cert.SquareReferenceIdeal.Read.val_main_v1, Cert.SquareReferenceIdeal.Read.val_main_v0]

/-- Where the output's block lies in its array. -/
theorem emb2 (i j : Fin 1024) : ((cfg0.win 2).blk t).view.emb (ix2 i j) = ix2 i j := by
  have h := idx_facts2 t
  funext a
  apply Fin.ext
  match a with
  | ⟨0, _⟩ => show win0_2.index t (0 : Fin 2) * 1024 + 1 * i.val = i.val; omega
  | ⟨1, _⟩ => show win0_2.index t (1 : Fin 2) * 1024 + 1 * j.val = j.val; omega

/-- The result, at an index, is the reference's. -/
theorem out2 (i j : Fin 1024) : G2 m c (ix2 i j) = Cert.SquareReferenceIdeal.Read.val_main_v6 (F := Ideal) (A0 m c) (A1 m c) (ix2 i j) := by
  have hl : 1 < cfg0.N := lt_of_lt_of_eq (by decide) N_0.symm
  have hf := congrFun ((flushed2_eq m c ⟨1, hl⟩ ((flush0_2 _).mpr rfl)).symm.trans (flushed2_B m c ⟨1, hl⟩ (show ¬1 % 2 = 0 by decide) rfl)) (ix2 i j)
  rw [outB] at hf
  change G2 m c (((cfg0.win 2).blk ⟨1, hl⟩).view.emb (ix2 i j)) = k0_pay3 (F := Ideal) (k0_pay2 (outsAt0 m c 0 _).2 _ _) (ix2 i j) at hf
  rw [emb2, pay3, pay2, outsAt0_A m c ⟨0, by omega⟩ rfl (show ¬0 % 2 = 1 by decide)] at hf
  dsimp only at hf
  rw [sumA, pay2, pay1] at hf
  simp only [in0, in1] at hf
  rw [hf, ref6]
  exact sum_blocks (fun R => A0 m c (ix2 R i)) (fun R => A1 m c (ix2 R j))

end Blocks

end Cert.Proof.Square
-- ==== Proof.Square.Algebraic.lean ====
module

public import proofs.«01_k».proof.Defs
public import proofs.«01_k».proof.Proof.Square.Values
public import proofs.«01_k».proof.Proof.Gen.SquareReferenceIdeal.Run
public import proofs.«01_k».proof.Proof.Gen.SquareReferenceIdeal

@[expose] public section

/-! The value claim of the gradient of a square weight. -/

set_option maxRecDepth 16384

noncomputable section

namespace Cert.Proof.Square.Algebraic

open Idealize.ShloMosaic Idealize.ShloMosaic.TcCoe Idealize.SL.Sem Cert.SquareReferenceIdeal.Read

/-- The kernel's result is the reference's. -/
theorem algebraic : Cert.algebraic_SquareKernelIdeal_SquareReferenceIdeal := by
  intro m g m' g' _ hm
  refine ⟨fun c => val_main_v6 (F := Ideal) (A0 m c) (A1 m c), ?_, ?_⟩
  · refine (θ_run Cert.SquareKernelIdeal.defs _ _).mono (fun r h c => ?_) (Cert.SquareKernelIdeal.Value.run (F := Ideal) m g)
    obtain ⟨h0, ha⟩ := h c
    refine ⟨funext fun i => ?_, ha⟩
    obtain ⟨R, C, rfl⟩ : ∃ R C, i = ix2 R C := ⟨_, _, eq_ix2 i⟩
    exact (congrFun h0 _).trans (out2 m c R C)
  · refine (θ_run Cert.SquareReferenceIdeal.defs _ _).mono (fun r h c => ?_) (Cert.SquareReferenceIdeal.Value.run (F := Ideal) m' g')
    obtain ⟨a0, a1⟩ := hm c
    obtain ⟨h0, ha⟩ := h c
    replace h0 := h0.trans (show _ = val_main_v6 (F := Ideal) (m' ((c : Thread Cert.SquareReferenceIdeal.nD Cert.SquareReferenceIdeal.τ).loc Cert.SquareReferenceIdeal.main_arg0)) (m' ((c : Thread Cert.SquareReferenceIdeal.nD Cert.SquareReferenceIdeal.τ).loc Cert.SquareReferenceIdeal.main_arg1)) from rfl)
    rw [a0, a1] at h0
    exact ⟨h0, ha⟩

end Cert.Proof.Square.Algebraic
-- ==== Proof.Win.Values.lean ====
module

public import proofs.«01_k».proof.Proof.Gen.WinKernelIdeal.Value
public import proofs.«01_k».proof.Proof.Gen.WinReferenceIdeal.Read
public import Idealize.ShloMosaic.Lib.Pipeline.FrameBody
public import proofs.«01_k».proof.Proof.WeightGrad

@[expose] public section

/-! The gradient of the wide input projection's weight, in four groups of columns. -/

set_option maxRecDepth 16384

noncomputable section

namespace Cert.Proof.Win

open Cert.WinKernelIdeal Cert.WinKernelIdeal.Gen Cert.WinKernelIdeal.Value Idealize.ShloMosaic Idealize.ShloMosaic.TcCoe
  Idealize.SL.Sem
open Cert.Proof.WeightGrad

theorem hz : (![0, 0] : Fin 2 → Nat) = fun _ => 0 := funext fun a => by fin_cases a <;> rfl
theorem hz3 : (![0, 0, 0] : Fin 3 → Nat) = fun _ => 0 := funext fun a => by fin_cases a <;> rfl

section Body

variable {F : FTy → Type} [FloatOps F]
variable (c : Dev nD) (i : grid0.Coords) (arg3 : Memref sig .tc .vmem S2080x1024 .bf16) (harg3 : arg3.IsWhole) (arg4 : Memref sig .tc .vmem S2080x1536 .bf16) (harg4 : arg4.IsWhole) (arg5 : Memref sig .tc .vmem S1x1024x1536 .bf16) (harg5 : arg5.IsWhole) (arg6 : Memref sig .tc .vmem S1024x1536 .f32) (harg6 : arg6.IsWhole)
  (x0 : Vec F S2080x1024 .bf16) (x1 : Vec F S2080x1536 .bf16)

/-- The first block of rows starts the sum. -/
theorem sumA (hc0 : cond0_0 i) (hc1 : ¬cond0_1 i) :
    sout0_A_0 c i arg3 harg3 arg4 harg4 arg5 harg5 arg6 harg6 hc0 hc1 x0 x1 = k0_pay2 k0_pay1 x0 x1 := by
  unfold sout0_A_0
  rw [View.read_writes_junk_eq_canon]
  unfold kernelRun0_A
  dsimp only
  sl_unfold_words
  simp only [View.readAt_eq_ld, Memref.IsWhole.read_unread, View.ld_unit_zero (S := S2080x1024) hz, View.ld_unit_zero (S := S2080x1536) hz, View.ld_unit_zero (S := S1024x1536) hz,
    View.canon_cons_unit_zero (S := S1024x1536) hz, View.readCov_unit_zero (S := S1024x1536) _ hz]

/-- The second block adds to it, and the rounded sum is stored. -/
theorem outB (hc0 : ¬cond0_0 i) (hc1 : cond0_1 i) (xs : Vec F S1024x1536 .f32) :
    out0_B_2 c i arg3 harg3 arg4 harg4 arg5 harg5 arg6 harg6 hc0 hc1 x0 x1 xs = k0_pay3 (k0_pay2 xs x0 x1) := by
  unfold out0_B_2
  rw [View.read_writes_junk_eq_canon]
  unfold kernelRun0_B
  dsimp only
  sl_unfold_words
  simp only [View.readAt_eq_ld, Memref.IsWhole.read_unread, View.ld_unit_zero (S := S2080x1024) hz, View.ld_unit_zero (S := S2080x1536) hz, View.ld_unit_zero (S := S1024x1536) hz,
    View.canon_cons_unit_zero (S := S1x1024x1536) hz3, View.readCov_unit_zero (S := S1024x1536) _ hz]

end Body

section Blocks

variable (m : ∀ l, Buf (Elt Ideal) l) (c : Dev nD)

abbrev A0 : FVec Ideal S4160x1024 .bf16 := m ((c : Thread nD τ).loc main_arg0)
abbrev A1 : FVec Ideal S4160x6144 .bf16 := m ((c : Thread nD τ).loc main_arg1)

variable (t : Fin cfg0.N)

theorem lt_points (t : Fin cfg0.N) : t.val < 8 := lt_of_lt_of_eq t.isLt N_0

theorem pos_lt (t : Fin cfg0.N) : t.val % 2 < 2 := Nat.mod_lt _ (by decide)

/-- The block of columns a point computes. -/
def blockOf (t : Fin cfg0.N) : Fin 4 := ⟨t.val / 2, by have := lt_points t; omega⟩

/-- Column `j` of block `s`. -/
def colOf (s : Fin 4) (j : Fin 1536) : Fin 6144 := ⟨s.val * 1536 + j.val, by have := s.isLt; have := j.isLt; omega⟩

/-- The group of columns that block `s` is written to. -/
def slot (s : Fin 4) : Fin 4 := ⟨s.val, by have := s.isLt; omega⟩

/-- The points that sum block `s`: over the first rows, and over the last. -/
def first (s : Fin 4) : Fin cfg0.N := ⟨2 * s.val, lt_of_lt_of_eq (by have := s.isLt; omega) N_0.symm⟩
def last (s : Fin 4) : Fin cfg0.N := ⟨2 * s.val + 1, lt_of_lt_of_eq (by have := s.isLt; omega) N_0.symm⟩

theorem first_mod (s : Fin 4) : (first s).val % 2 = 0 := by show 2 * s.val % 2 = 0; omega
theorem last_mod (s : Fin 4) : (last s).val % 2 = 1 := by show (2 * s.val + 1) % 2 = 1; omega
theorem last_div (s : Fin 4) : (last s).val / 2 = s.val := by show (2 * s.val + 1) / 2 = s.val; omega
theorem blockOf_first (s : Fin 4) : blockOf (first s) = s := Fin.ext (by show 2 * s.val / 2 = s.val; omega)
theorem blockOf_last (s : Fin 4) : blockOf (last s) = s := Fin.ext (last_div s)

theorem index0 : ∀ t : Fin cfg0.N, win0_0.index t (0 : Fin 2) = t.val % 2 ∧ win0_0.index t (1 : Fin 2) = 0 :=
  (by decide +kernel : ∀ t : Fin grid0.N, win0_0.index t (0 : Fin 2) = t.val % 2 ∧ win0_0.index t (1 : Fin 2) = 0)

/-- Input 0's block. -/
theorem in0 (r : Fin 2080) (j : Fin 1024) : iblk m c 0 t (ix2 r j) = A0 m c (ix2 (row (t.val % 2) (pos_lt t) r) j) := by
  show A0 m c (((cfg0.win 0).blk t).view.emb (ix2 r j)) = _
  congr 1
  funext a
  apply Fin.ext
  match a with
  | ⟨0, _⟩ => show win0_0.index t (0 : Fin 2) * 2080 + 1 * r.val = t.val % 2 * 2080 + r.val; rw [(index0 t).1, Nat.one_mul]
  | ⟨1, _⟩ => show win0_0.index t (1 : Fin 2) * 1024 + 1 * j.val = j.val; rw [(index0 t).2]; omega

theorem index1 : ∀ t : Fin cfg0.N, win0_1.index t (0 : Fin 2) = t.val % 2 ∧ win0_1.index t (1 : Fin 2) = t.val / 2 :=
  (by decide +kernel : ∀ t : Fin grid0.N, win0_1.index t (0 : Fin 2) = t.val % 2 ∧ win0_1.index t (1 : Fin 2) = t.val / 2)

/-- Input 1's block. -/
theorem in1 (r : Fin 2080) (j : Fin 1536) : iblk m c 1 t (ix2 r j) = A1 m c (ix2 (row (t.val % 2) (pos_lt t) r) (colOf (blockOf t) j)) := by
  show A1 m c (((cfg0.win 1).blk t).view.emb (ix2 r j)) = _
  congr 1
  funext a
  apply Fin.ext
  match a with
  | ⟨0, _⟩ => show win0_1.index t (0 : Fin 2) * 2080 + 1 * r.val = t.val % 2 * 2080 + r.val; rw [(index1 t).1, Nat.one_mul]
  | ⟨1, _⟩ => show win0_1.index t (1 : Fin 2) * 1536 + 1 * j.val = t.val / 2 * 1536 + j.val; rw [(index1 t).2, Nat.one_mul]

theorem index2 : ∀ t : Fin cfg0.N, win0_2.index t (0 : Fin 3) = t.val / 2 ∧ win0_2.index t (1 : Fin 3) = 0 ∧ win0_2.index t (2 : Fin 3) = 0 :=
  (by decide +kernel : ∀ t : Fin grid0.N, win0_2.index t (0 : Fin 3) = t.val / 2 ∧ win0_2.index t (1 : Fin 3) = 0 ∧ win0_2.index t (2 : Fin 3) = 0)

/-- Where the output's block lies in its array. -/
theorem emb2 (s : Fin 4) (i : Fin 1024) (j : Fin 1536) : ((cfg0.win 2).blk (last s)).view.emb (ix3 0 i j) = (ix3 (slot s) i j) := by
  funext a
  apply Fin.ext
  match a with
  | ⟨0, _⟩ => show win0_2.index (last s) (0 : Fin 3) * 1 + 1 * 0 = s.val; rw [(index2 _).1, last_div]; omega
  | ⟨1, _⟩ => show win0_2.index (last s) (1 : Fin 3) * 1024 + 1 * i.val = i.val; rw [(index2 _).2.1]; omega
  | ⟨2, _⟩ => show win0_2.index (last s) (2 : Fin 3) * 1536 + 1 * j.val = j.val; rw [(index2 _).2.2]; omega

/-- What one block of rows adds. -/
theorem pay2 (v : Vec Ideal S1024x1536 .f32) (x0 : Vec Ideal S2080x1024 .bf16) (x1 : Vec Ideal S2080x1536 .bf16) (i : Fin 1024) (j : Fin 1536) :
    k0_pay2 (F := Ideal) v x0 x1 (ix2 i j) = v (ix2 i j) + ∑ r : Fin 2080, x0 (ix2 r i) * x1 (ix2 r j) := by
  pointwise [k0_pay2]

/-- The sum starts from nothing. -/
theorem pay1 (i : Fin 1024) (j : Fin 1536) : k0_pay1 (F := Ideal) (ix2 i j) = 0 := by
  pointwise [k0_pay1]

/-- The stored sum. -/
theorem pay3 (v : Vec Ideal S1024x1536 .f32) (i : Fin 1024) (j : Fin 1536) : k0_pay3 (F := Ideal) v (ix3 0 i j) = v (ix2 i j) := by
  pointwise [k0_pay3]

/-- What is written back for block `s`: the rounded sum over both blocks of rows. -/
theorem flush_last (s : Fin 4) : (dats m 0 c).flushed 2 (last s) = (cfg0.win 2).cut (grid0.coords (last s))
    (k0_pay3 (F := Ideal) (k0_pay2 (F := Ideal) (k0_pay2 (F := Ideal) (k0_pay1 (F := Ideal)) (iblk m c 0 (first s)) (iblk m c 1 (first s))) (iblk m c 0 (last s)) (iblk m c 1 (last s)))) := by
  have e : (outsAt0 m c (first s).val (first s).isLt).2 = k0_pay2 (F := Ideal) (k0_pay1 (F := Ideal)) (iblk m c 0 (first s)) (iblk m c 1 (first s)) := by
    rw [outsAt0_A m c (first s) (first_mod s) (by rw [first_mod]; decide)]
    dsimp only
    rw [sumA]
  rw [flushed2_B m c (last s) (by rw [last_mod]; decide) (last_mod s), outB, ← e]
  rfl

/-- No two blocks overlap. -/
theorem disjoint2 : ∀ t t' : Fin cfg0.N, (cfg0.win 2).flush t = true → (cfg0.win 2).flush t' = true → t ≠ t' →
    Disjoint ((cfg0.win 2).blk t).view.set ((cfg0.win 2).blk t').view.set := fun t t' h h' hne =>
  (cfg0.win 2).disjoint_blk fun e => hne (Fin.ext (by
    have a := (flush0_2 t).mp h
    have b := (flush0_2 t').mp h'
    have d : win0_2.index t (0 : Fin 3) = win0_2.index t' (0 : Fin 3) := congrFun e 0
    rw [(index2 t).1, (index2 t').1] at d
    omega))

/-- The reference's result. -/
theorem ref_at (x0 : FVec Ideal S4160x1024 .bf16) (x1 : FVec Ideal S4160x6144 .bf16) (s : Fin 4) (i : Fin 1024) (j : Fin 1536) :
    Cert.WinReferenceIdeal.Read.val_main_v8 (F := Ideal) x0 x1 (ix3 (slot s) i j) = ∑ R : Fin 4160, x1 (ix2 R (colOf s j)) * x0 (ix2 R i) := by
  pointwise [Cert.WinReferenceIdeal.Read.val_main_v8, Cert.WinReferenceIdeal.Read.val_main_v7, Cert.WinReferenceIdeal.Read.val_main_v6, Cert.WinReferenceIdeal.Read.val_main_v5, Cert.WinReferenceIdeal.Read.val_main_v4, Cert.WinReferenceIdeal.Read.val_main_v1, Cert.WinReferenceIdeal.Read.val_main_v0]
  rfl

/-- The result, at an index, is the reference's. -/
theorem out2 (s : Fin 4) (i : Fin 1024) (j : Fin 1536) : (dats m 0 c).arrAt 2 cfg0.N (ix3 (slot s) i j) = Cert.WinReferenceIdeal.Read.val_main_v8 (F := Ideal) (A0 m c) (A1 m c) (ix3 (slot s) i j) := by
  have h := congrFun (((dats m 0 c).read_blk_arrAt_eq_flushed 2 disjoint2 cfg0.N (last s) (last s).isLt ((flush0_2 _).mpr (last_mod s))).trans (flush_last m c s)) (ix3 0 i j)
  change (dats m 0 c).arrAt 2 cfg0.N (((cfg0.win 2).blk (last s)).view.emb (ix3 0 i j)) = k0_pay3 (F := Ideal) (k0_pay2 (F := Ideal) (k0_pay2 (F := Ideal) _ _ _) _ _) (ix3 0 i j) at h
  rw [emb2, pay3, pay2, pay2, pay1] at h
  simp only [in0, in1, blockOf_first, blockOf_last, first_mod, last_mod] at h
  rw [h, ref_at]
  exact sum_blocks (fun R => A0 m c (ix2 R i)) (fun R => A1 m c (ix2 R (colOf s j)))

end Blocks

end Cert.Proof.Win
-- ==== Proof.Win.Algebraic.lean ====
module

public import proofs.«01_k».proof.Defs
public import proofs.«01_k».proof.Proof.Win.Values
public import proofs.«01_k».proof.Proof.Gen.WinReferenceIdeal.Run
public import proofs.«01_k».proof.Proof.Gen.WinReferenceIdeal

@[expose] public section

/-! The value claim of the gradient of the wide input projection's weight. -/

set_option maxRecDepth 16384

noncomputable section

namespace Cert.Proof.Win.Algebraic

open Idealize.ShloMosaic Idealize.ShloMosaic.TcCoe Idealize.SL.Sem Cert.WinReferenceIdeal.Read

/-- The kernel's result is the reference's. -/
theorem algebraic : Cert.algebraic_WinKernelIdeal_WinReferenceIdeal := by
  intro m g m' g' _ hm
  refine ⟨fun c => val_main_v8 (F := Ideal) (A0 m c) (A1 m c), ?_, ?_⟩
  · refine (θ_run Cert.WinKernelIdeal.defs _ _).mono (fun r h c => ?_) (Cert.WinKernelIdeal.Value.run_blocks (F := Ideal) m g)
    obtain ⟨h0, ha⟩ := h c
    refine ⟨funext fun i => ?_, ha⟩
    obtain ⟨s, R, C, rfl⟩ : ∃ s R C, i = ix3 s R C := ⟨_, _, _, eq_ix3 i⟩
    exact (congrFun h0 _).trans (out2 m c s R C)
  · refine (θ_run Cert.WinReferenceIdeal.defs _ _).mono (fun r h c => ?_) (Cert.WinReferenceIdeal.Value.run (F := Ideal) m' g')
    obtain ⟨a0, a1⟩ := hm c
    obtain ⟨h0, ha⟩ := h c
    replace h0 := h0.trans (show _ = val_main_v8 (F := Ideal) (m' ((c : Thread Cert.WinReferenceIdeal.nD Cert.WinReferenceIdeal.τ).loc Cert.WinReferenceIdeal.main_arg0)) (m' ((c : Thread Cert.WinReferenceIdeal.nD Cert.WinReferenceIdeal.τ).loc Cert.WinReferenceIdeal.main_arg1)) from rfl)
    rw [a0, a1] at h0
    exact ⟨h0, ha⟩

end Cert.Proof.Win.Algebraic
-- ==== Proof.InFwd.Payloads.lean ====
module

public import proofs.«01_k».proof.Proof.Gen.InFwdKernelIdeal.Value
public import proofs.«01_k».proof.Proof.RmsGrad
public import Idealize.ShloMosaic.Lib.Pointwise
public import Idealize.ShloMosaic.Lib.Pipeline.FrameBody
public import Idealize.ShloMosaic.Lib.Pipeline.ReadBack

@[expose] public section

/-! The input projection's body at an index, over the extended reals: the row divided by the root of its mean square and
scaled, times the weight, plus the bias, in four groups of 1536 columns. -/

set_option maxRecDepth 16384

noncomputable section

namespace Cert.Proof.InFwd

open Cert.InFwdKernelIdeal Cert.InFwdKernelIdeal.Gen Idealize.ShloMosaic Idealize.ShloMosaic.TcCoe Idealize.SL.Sem

theorem hz : (![0, 0] : Fin 2 → Nat) = fun _ => 0 := funext fun a => by fin_cases a <;> rfl

variable (x0 : Vec Ideal S416x1024 .f32) (x1 : Vec Ideal S1x1024 .f32) (x2 : Vec Ideal S4x1024x1536 .bf16) (x3 : Vec Ideal S1x6144 .f32)
  (n : FVec Ideal S416x1024 .bf16) (w : Vec Ideal S1x1024x1536 .bf16) (b : Vec Ideal S1x1536 .f32) (r : Fin 416)

/-- A normalised row. -/
theorem pay3 (k : Fin 1024) : k0_pay3 (F := Ideal) x0 x1 (ix2 r k)
    = x0 (ix2 r k) * RmsGrad.rstd (fun k => x0 (ix2 r k)) * x1 (ix2 0 k) := by
  pointwise [k0_pay3]
  rfl

theorem pay4 (j : Fin 1536) : k0_pay4 (F := Ideal) x0 x1 w b (ix2 r j)
    = (∑ k : Fin 1024, k0_pay3 (F := Ideal) x0 x1 (ix2 r k) * w (ix3 0 k j)) + b (ix2 0 j) := by
  pointwise [k0_pay4]

theorem pay5 (j : Fin 1536) : k0_pay5 (F := Ideal) x0 x1 w b (ix2 r j)
    = (∑ k : Fin 1024, k0_pay3 (F := Ideal) x0 x1 (ix2 r k) * w (ix3 0 k j)) + b (ix2 0 j) := by
  pointwise [k0_pay5]

theorem pay1 (j : Fin 1536) : k0_pay1 (F := Ideal) n w b (ix2 r j)
    = (∑ k : Fin 1024, n (ix2 r k) * w (ix3 0 k j)) + b (ix2 0 j) := by
  pointwise [k0_pay1]

theorem pay2 (j : Fin 1536) : k0_pay2 (F := Ideal) n w b (ix2 r j)
    = (∑ k : Fin 1024, n (ix2 r k) * w (ix3 0 k j)) + b (ix2 0 j) := by
  pointwise [k0_pay2]

/-- The normalised rows' block. -/
theorem block5 : out0_5 (F := Ideal) x0 x1 x2 x3 = k0_pay3 x0 x1 := by
  unfold out0_5
  simp only [View.ld_unit_zero (S := S416x1024) hz, View.ld_unit_zero (S := S1x1024) hz, View.canon_cons_unit_zero (S := S416x1024) hz]

/-- The projection's block at an index. -/
def projAt (y : S416x6144.Idx) : EReal :=
  (∑ k : Fin 1024, k0_pay3 (F := Ideal) x0 x1 (ix2 (y 0) k)
    * x2 (ix3 (⟨(y 1).val / 1536, by have : (y 1).val < 6144 := (y 1).isLt; omega⟩ : Fin 4) k (⟨(y 1).val % 1536, Nat.mod_lt _ (by decide)⟩ : Fin 1536)))
    + x3 (ix2 0 (y 1))

/-- The four stores of the projection's block. -/
def stores : List (View.Piece (Elt Ideal) S416x6144 .f32) :=
  [⟨r0_13, k0_pay2 (k0_pay3 (F := Ideal) x0 x1) (View.ld x2 r0_11) (View.ld x3 r0_12)⟩,
   ⟨r0_10, k0_pay1 (k0_pay3 (F := Ideal) x0 x1) (View.ld x2 r0_8) (View.ld x3 r0_9)⟩,
   ⟨r0_7, k0_pay5 (F := Ideal) x0 x1 (View.ld x2 r0_5) (View.ld x3 r0_6)⟩,
   ⟨r0_4, k0_pay4 (F := Ideal) x0 x1 (View.ld x2 r0_2) (View.ld x3 r0_3)⟩]

theorem stores_pieces : View.PiecesOf (Val := Elt Ideal) (projAt x0 x1 x2 x3) (stores x0 x1 x2 x3) := by
  unfold stores
  refine ⟨?_, ?_, ?_, ?_, trivial⟩
  · intro (x : S416x1536.Idx)
    obtain ⟨r, j, rfl⟩ : ∃ (r : Fin 416) (j : Fin 1536), x = ix2 r j := ⟨_, _, eq_ix2 x⟩
    refine (pay2 _ _ _ r j).trans (congrArg₂ (· + ·) (Finset.sum_congr rfl fun k _ => congrArg₂ (· * ·) (congrArg (k0_pay3 (F := Ideal) x0 x1) ?_) (congrArg x2 ?_)) (congrArg x3 ?_))
    · funext a
      apply Fin.ext
      match a with
      | ⟨0, _⟩ => show r.val = 0 + 1 * r.val; omega
      | ⟨1, _⟩ => rfl
    · funext a
      apply Fin.ext
      match a with
      | ⟨0, _⟩ => show 3 + 1 * 0 = (4608 + 1 * j.val) / 1536; have := j.isLt; omega
      | ⟨1, _⟩ => show 0 + 1 * k.val = k.val; omega
      | ⟨2, _⟩ => show 0 + 1 * j.val = (4608 + 1 * j.val) % 1536; have := j.isLt; omega
    · funext a
      apply Fin.ext
      match a with
      | ⟨0, _⟩ => rfl
      | ⟨1, _⟩ => rfl
  · intro (x : S416x1536.Idx)
    obtain ⟨r, j, rfl⟩ : ∃ (r : Fin 416) (j : Fin 1536), x = ix2 r j := ⟨_, _, eq_ix2 x⟩
    refine (pay1 _ _ _ r j).trans (congrArg₂ (· + ·) (Finset.sum_congr rfl fun k _ => congrArg₂ (· * ·) (congrArg (k0_pay3 (F := Ideal) x0 x1) ?_) (congrArg x2 ?_)) (congrArg x3 ?_))
    · funext a
      apply Fin.ext
      match a with
      | ⟨0, _⟩ => show r.val = 0 + 1 * r.val; omega
      | ⟨1, _⟩ => rfl
    · funext a
      apply Fin.ext
      match a with
      | ⟨0, _⟩ => show 2 + 1 * 0 = (3072 + 1 * j.val) / 1536; have := j.isLt; omega
      | ⟨1, _⟩ => show 0 + 1 * k.val = k.val; omega
      | ⟨2, _⟩ => show 0 + 1 * j.val = (3072 + 1 * j.val) % 1536; have := j.isLt; omega
    · funext a
      apply Fin.ext
      match a with
      | ⟨0, _⟩ => rfl
      | ⟨1, _⟩ => rfl
  · intro (x : S416x1536.Idx)
    obtain ⟨r, j, rfl⟩ : ∃ (r : Fin 416) (j : Fin 1536), x = ix2 r j := ⟨_, _, eq_ix2 x⟩
    refine (pay5 x0 x1 _ _ r j).trans (congrArg₂ (· + ·) (Finset.sum_congr rfl fun k _ => congrArg₂ (· * ·) (congrArg (k0_pay3 (F := Ideal) x0 x1) ?_) (congrArg x2 ?_)) (congrArg x3 ?_))
    · funext a
      apply Fin.ext
      match a with
      | ⟨0, _⟩ => show r.val = 0 + 1 * r.val; omega
      | ⟨1, _⟩ => rfl
    · funext a
      apply Fin.ext
      match a with
      | ⟨0, _⟩ => show 1 + 1 * 0 = (1536 + 1 * j.val) / 1536; have := j.isLt; omega
      | ⟨1, _⟩ => show 0 + 1 * k.val = k.val; omega
      | ⟨2, _⟩ => show 0 + 1 * j.val = (1536 + 1 * j.val) % 1536; have := j.isLt; omega
    · funext a
      apply Fin.ext
      match a with
      | ⟨0, _⟩ => rfl
      | ⟨1, _⟩ => rfl
  · intro (x : S416x1536.Idx)
    obtain ⟨r, j, rfl⟩ : ∃ (r : Fin 416) (j : Fin 1536), x = ix2 r j := ⟨_, _, eq_ix2 x⟩
    refine (pay4 x0 x1 _ _ r j).trans (congrArg₂ (· + ·) (Finset.sum_congr rfl fun k _ => congrArg₂ (· * ·) (congrArg (k0_pay3 (F := Ideal) x0 x1) ?_) (congrArg x2 ?_)) (congrArg x3 ?_))
    · funext a
      apply Fin.ext
      match a with
      | ⟨0, _⟩ => show r.val = 0 + 1 * r.val; omega
      | ⟨1, _⟩ => rfl
    · funext a
      apply Fin.ext
      match a with
      | ⟨0, _⟩ => show 0 + 1 * 0 = (0 + 1 * j.val) / 1536; have := j.isLt; omega
      | ⟨1, _⟩ => show 0 + 1 * k.val = k.val; omega
      | ⟨2, _⟩ => show 0 + 1 * j.val = (0 + 1 * j.val) % 1536; have := j.isLt; omega
    · funext a
      apply Fin.ext
      match a with
      | ⟨0, _⟩ => rfl
      | ⟨1, _⟩ => rfl

/-- The projection's block. -/
theorem block4 (y : S416x6144.Idx) : out0_4 (F := Ideal) x0 x1 x2 x3 y = projAt x0 x1 x2 x3 y := by
  have e : out0_4 (F := Ideal) x0 x1 x2 x3 = View.canon (Val := Elt Ideal) (stores x0 x1 x2 x3) := by
    unfold out0_4 k0_pay6 stores
    simp only [View.ld_unit_zero (S := S416x1024) hz, View.ld_unit_zero (S := S1x1024) hz]
  have h := View.canon_append_of_piecesOf (Val := Elt Ideal) _ [] _ (stores_pieces x0 x1 x2 x3) y (View.cover_of_tiledBy _ ![416, 1536] (by sl_kernel_rfl) y)
  rw [List.append_nil] at h
  rw [e, h]

end Cert.Proof.InFwd
-- ==== Proof.InFwd.Blocks.lean ====
module

public import proofs.«01_k».proof.Proof.Gen.InFwdKernelIdeal.Frame
public import proofs.«01_k».proof.Proof.Rows
public import Idealize.ShloMosaic.Lib.Pointwise

@[expose] public section

/-! Which entries of the arrays a grid point's blocks are: point `t` takes the rows `416 t … 416 t + 415` of every array
cut into tiles, and the scale, the weight and the bias whole.  The weight reaches the call in four groups of 1536 columns. -/

set_option maxRecDepth 16384

noncomputable section

namespace Cert.Proof.InFwd.Blocks

open Cert.InFwdKernelIdeal Cert.InFwdKernelIdeal.Gen Idealize.ShloMosaic Idealize.ShloMosaic.TcCoe Idealize.SL.Sem
open Cert.Proof.Rows

section Places

variable (t : Fin cfg0.N)

theorem index0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- Where window 0's block lies in its array. -/
theorem emb0 (r : Fin 416) (j : Fin 1024) : ((cfg0.win 0).blk t).view.emb (ix2 r j) = ix2 (row t r) j := by
  funext a
  apply Fin.ext
  match a with
  | ⟨0, _⟩ => show win0_0.index t (0 : Fin 2) * 416 + 1 * r.val = t.val * 416 + r.val; rw [(index0 t).1, Nat.one_mul]
  | ⟨1, _⟩ => show win0_0.index t (1 : Fin 2) * 1024 + 1 * j.val = j.val; rw [(index0 t).2]; omega

theorem index1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)

/-- Window 1's block is its whole array. -/
theorem emb1 (j : S1x1024.Idx) : ((cfg0.win 1).blk t).view.emb j = j := by
  funext a
  apply Fin.ext
  match a with
  | ⟨0, _⟩ => show win0_1.index t (0 : Fin 2) * 1 + 1 * (j 0).val = (j 0).val; rw [(index1 t).1]; omega
  | ⟨1, _⟩ => show win0_1.index t (1 : Fin 2) * 1024 + 1 * (j 1).val = (j 1).val; rw [(index1 t).2]; omega

theorem index2 : ∀ t : Fin cfg0.N, win0_2.index t (0 : Fin 3) = 0 ∧ win0_2.index t (1 : Fin 3) = 0 ∧ win0_2.index t (2 : Fin 3) = 0 :=
  (by decide +kernel : ∀ t : Fin grid0.N, win0_2.index t (0 : Fin 3) = 0 ∧ win0_2.index t (1 : Fin 3) = 0 ∧ win0_2.index t (2 : Fin 3) = 0)

/-- Window 2's block is its whole array. -/
theorem emb2 (j : S4x1024x1536.Idx) : ((cfg0.win 2).blk t).view.emb j = j := by
  funext a
  apply Fin.ext
  match a with
  | ⟨0, _⟩ => show win0_2.index t (0 : Fin 3) * 4 + 1 * (j 0).val = (j 0).val; rw [(index2 t).1]; omega
  | ⟨1, _⟩ => show win0_2.index t (1 : Fin 3) * 1024 + 1 * (j 1).val = (j 1).val; rw [(index2 t).2.1]; omega
  | ⟨2, _⟩ => show win0_2.index t (2 : Fin 3) * 1536 + 1 * (j 2).val = (j 2).val; rw [(index2 t).2.2]; omega

theorem index3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)

/-- Window 3's block is its whole array. -/
theorem emb3 (j : S1x6144.Idx) : ((cfg0.win 3).blk t).view.emb j = j := by
  funext a
  apply Fin.ext
  match a with
  | ⟨0, _⟩ => show win0_3.index t (0 : Fin 2) * 1 + 1 * (j 0).val = (j 0).val; rw [(index3 t).1]; omega
  | ⟨1, _⟩ => show win0_3.index t (1 : Fin 2) * 6144 + 1 * (j 1).val = (j 1).val; rw [(index3 t).2]; omega

theorem index4 : ∀ t : Fin cfg0.N, win0_4.index t (0 : Fin 2) = t.val ∧ win0_4.index t (1 : Fin 2) = 0 :=
  (by decide +kernel : ∀ t : Fin grid0.N, win0_4.index t (0 : Fin 2) = t.val ∧ win0_4.index t (1 : Fin 2) = 0)

/-- Where window 4's block lies in its array. -/
theorem emb4 (r : Fin 416) (j : Fin 6144) : ((cfg0.win 4).blk t).view.emb (ix2 r j) = ix2 (row t r) j := by
  funext a
  apply Fin.ext
  match a with
  | ⟨0, _⟩ => show win0_4.index t (0 : Fin 2) * 416 + 1 * r.val = t.val * 416 + r.val; rw [(index4 t).1, Nat.one_mul]
  | ⟨1, _⟩ => show win0_4.index t (1 : Fin 2) * 6144 + 1 * j.val = j.val; rw [(index4 t).2]; omega

theorem index5 : ∀ t : Fin cfg0.N, win0_5.index t (0 : Fin 2) = t.val ∧ win0_5.index t (1 : Fin 2) = 0 :=
  (by decide +kernel : ∀ t : Fin grid0.N, win0_5.index t (0 : Fin 2) = t.val ∧ win0_5.index t (1 : Fin 2) = 0)

/-- Where window 5's block lies in its array. -/
theorem emb5 (r : Fin 416) (j : Fin 1024) : ((cfg0.win 5).blk t).view.emb (ix2 r j) = ix2 (row t r) j := by
  funext a
  apply Fin.ext
  match a with
  | ⟨0, _⟩ => show win0_5.index t (0 : Fin 2) * 416 + 1 * r.val = t.val * 416 + r.val; rw [(index5 t).1, Nat.one_mul]
  | ⟨1, _⟩ => show win0_5.index t (1 : Fin 2) * 1024 + 1 * j.val = j.val; rw [(index5 t).2]; omega

end Places

variable (m : ∀ l, Buf (Elt Ideal) l) (c : Dev nD) (t : Fin cfg0.N)

/-- The arguments. -/
abbrev A0 : FVec Ideal S4160x1024 .f32 := m ((c : Thread nD τ).loc main_arg0)
abbrev A1 : FVec Ideal S1x1024 .f32 := m ((c : Thread nD τ).loc main_arg1)
abbrev A2 : FVec Ideal S1024x6144 .bf16 := m ((c : Thread nD τ).loc main_arg2)
abbrev A3 : FVec Ideal S1x6144 .f32 := m ((c : Thread nD τ).loc main_arg3)

/-- The weight in its groups of columns. -/
theorem V1 : V m c main_v1 = transpose S4x1024x1536 [1, 0, 2]
    (shapeCast S1024x4x1536 (A2 m c) shapeCasts_S1024x6144_S1024x4x1536) transposes_S1024x4x1536_S4x1024x1536_1_0_2 := by
  show StableHlo.after hostOps0 (fun b => m (c, b)) main_v1 = _
  simp only [hostOps0]
  after_results_simp <;> rfl

theorem in0 (r : Fin 416) (j : Fin 1024) : iblk m c 0 t (ix2 r j) = A0 m c (ix2 (row t r) j) := by
  show V m c main_arg0 (((cfg0.win 0).blk t).view.emb (ix2 r j)) = _
  rw [emb0, V_main_arg0]

theorem in1 (j : Fin 1024) : iblk m c 1 t (ix2 0 j) = A1 m c (ix2 0 j) := by
  show V m c main_arg1 (((cfg0.win 1).blk t).view.emb (ix2 0 j)) = _
  rw [emb1, V_main_arg1]

/-- Group `s` of the weight's columns. -/
theorem in2 (s : Fin 4) (k : Fin 1024) (j : Fin 1536) :
    iblk m c 2 t (ix3 s k j) = A2 m c (ix2 k (⟨s.val * 1536 + j.val, by have := s.isLt; have := j.isLt; omega⟩ : Fin 6144)) := by
  show V m c main_v1 (((cfg0.win 2).blk t).view.emb (ix3 s k j)) = _
  rw [emb2, V1]
  pointwise

theorem in3 (j : Fin 6144) : iblk m c 3 t (ix2 0 j) = A3 m c (ix2 0 j) := by
  show V m c main_arg3 (((cfg0.win 3).blk t).view.emb (ix2 0 j)) = _
  rw [emb3, V_main_arg3]

end Cert.Proof.InFwd.Blocks
-- ==== Proof.InFwd.Reference.lean ====
module

public import proofs.«01_k».proof.Proof.Gen.InFwdReferenceIdeal.Read
public import proofs.«01_k».proof.Proof.RmsGrad
public import Idealize.ShloMosaic.Lib.Pointwise
public import Idealize.ShloMosaic.Lib.IdealHost

@[expose] public section

/-! The reference's results at an index, over the extended reals. -/

set_option maxRecDepth 16384

noncomputable section

namespace Cert.Proof.InFwd.Reference

open Cert.InFwdReferenceIdeal Cert.InFwdReferenceIdeal.Gen Cert.InFwdReferenceIdeal.Read Idealize.ShloMosaic Idealize.SL.Sem

variable (x0 : FVec Ideal S4160x1024 .f32) (x1 : FVec Ideal S1x1024 .f32) (x2 : FVec Ideal S1024x6144 .bf16) (x3 : FVec Ideal S1x6144 .f32)
  (r : Fin 4160)

/-- The reciprocal root of a row's mean square. -/
theorem ref7 : val_main_v7 (F := Ideal) x0 (ix2 r 0) = RmsGrad.rstd (fun k => x0 (ix2 r k)) := by
  pointwise [val_main_v7, val_main_v6, val_main_v5, val_main_v4, val_main_v3, val_main_v2, val_main_v1, val_main_v0, val_main_cst, val_main_cst_0, val_main_cst_1]
  rfl

/-- The normalised row. -/
theorem ref11 (k : Fin 1024) : val_main_v11 (F := Ideal) x0 x1 (ix2 r k)
    = x0 (ix2 r k) * RmsGrad.rstd (fun k => x0 (ix2 r k)) * x1 (ix2 0 k) := by
  rw [← ref7]
  pointwise [val_main_v11, val_main_v10, val_main_v9, val_main_v8]

theorem ref16 (k : Fin 1024) : val_main_v16 (F := Ideal) x0 x1 (ix2 r k) = val_main_v11 (F := Ideal) x0 x1 (ix2 r k) := by
  pointwise [val_main_v16]

/-- The projection. -/
theorem ref15 (j : Fin 6144) : val_main_v15 (F := Ideal) x0 x1 x2 x3 (ix2 r j)
    = (∑ k : Fin 1024, val_main_v11 (F := Ideal) x0 x1 (ix2 r k) * x2 (ix2 k j)) + x3 (ix2 0 j) := by
  pointwise [val_main_v15, val_main_v14, val_main_v13, val_main_v12]

end Cert.Proof.InFwd.Reference
-- ==== Proof.InFwd.Values.lean ====
module

public import proofs.«01_k».proof.Proof.InFwd.Payloads
public import proofs.«01_k».proof.Proof.InFwd.Blocks
public import proofs.«01_k».proof.Proof.InFwd.Reference

@[expose] public section

/-! Each result of the input projection, at an index, is the reference's. -/

set_option maxRecDepth 16384

noncomputable section

namespace Cert.Proof.InFwd.Values

open Cert.InFwdKernelIdeal Cert.InFwdKernelIdeal.Gen Cert.InFwdKernelIdeal.Value Idealize.ShloMosaic Idealize.ShloMosaic.TcCoe
  Idealize.SL.Sem
open Cert.Proof.InFwd Cert.Proof.InFwd.Blocks Cert.Proof.InFwd.Reference Cert.Proof.Rows Cert.InFwdReferenceIdeal.Read

variable (m : ∀ l, Buf (Elt Ideal) l) (c : Dev nD) (t : Fin cfg0.N) (r : Fin 416)

/-- The normalised rows, in a tile. -/
theorem norm_tile (k : Fin 1024) : k0_pay3 (F := Ideal) (iblk m c 0 t) (iblk m c 1 t) (ix2 r k)
    = val_main_v11 (F := Ideal) (A0 m c) (A1 m c) (ix2 (row t r) k) := by
  rw [pay3, ref11]
  simp only [in0, in1]

/-- The projection. -/
theorem out4 (j : Fin 6144) : (dats m 0 c).arrAt 4 cfg0.N (ix2 (row t r) j)
    = val_main_v15 (F := Ideal) (A0 m c) (A1 m c) (A2 m c) (A3 m c) (ix2 (row t r) j) := by
  have h := congrFun ((blocks4 m c t (flush0_4 t)).trans (flushed4 m c t)) (ix2 r j)
  change (dats m 0 c).arrAt 4 cfg0.N (((cfg0.win 4).blk t).view.emb (ix2 r j)) = out0_4 (F := Ideal) _ _ _ _ (ix2 r j) at h
  rw [emb4, block4] at h
  refine h.trans ?_
  rw [ref15, projAt]
  refine congrArg₂ (· + ·) (Finset.sum_congr rfl fun k _ => congrArg₂ (· * ·) (norm_tile m c t r k) ((in2 m c t _ k _).trans (congrArg (A2 m c) ?_))) (in3 m c t j)
  exact congrArg (ix2 k) (Fin.ext (show j.val / 1536 * 1536 + j.val % 1536 = j.val by omega))

/-- The normalised rows. -/
theorem out5 (j : Fin 1024) : (dats m 0 c).arrAt 5 cfg0.N (ix2 (row t r) j)
    = val_main_v16 (F := Ideal) (A0 m c) (A1 m c) (ix2 (row t r) j) := by
  have h := congrFun ((blocks5 m c t (flush0_5 t)).trans (flushed5 m c t)) (ix2 r j)
  change (dats m 0 c).arrAt 5 cfg0.N (((cfg0.win 5).blk t).view.emb (ix2 r j)) = out0_5 (F := Ideal) _ _ _ _ (ix2 r j) at h
  rw [emb5, block5, norm_tile, ← ref16] at h
  exact h

end Cert.Proof.InFwd.Values
-- ==== Proof.InFwd.Algebraic.lean ====
module

public import proofs.«01_k».proof.Defs
public import proofs.«01_k».proof.Proof.InFwd.Values
public import proofs.«01_k».proof.Proof.Gen.InFwdReferenceIdeal.Run
public import proofs.«01_k».proof.Proof.Gen.InFwdReferenceIdeal

@[expose] public section

/-! The value claim of the input projection: the kernel's arrays are the reference's. -/

set_option maxRecDepth 16384

noncomputable section

namespace Cert.Proof.InFwd.Algebraic

open Idealize.ShloMosaic Idealize.ShloMosaic.TcCoe Idealize.SL.Sem Cert.Proof.Rows Cert.Proof.InFwd.Values Cert.Proof.InFwd.Blocks
  Cert.InFwdReferenceIdeal.Read

/-- The kernel's results are the reference's. -/
theorem algebraic : Cert.algebraic_InFwdKernelIdeal_InFwdReferenceIdeal := by
  intro m g m' g' _ hm
  refine ⟨fun c => val_main_v15 (F := Ideal) (A0 m c) (A1 m c) (A2 m c) (A3 m c),
    fun c => val_main_v16 (F := Ideal) (A0 m c) (A1 m c), ?_, ?_⟩
  · refine (θ_run Cert.InFwdKernelIdeal.defs _ _).mono (fun r h c => ?_) (Cert.InFwdKernelIdeal.Value.run_blocks (F := Ideal) m g)
    obtain ⟨h0, h1, ha⟩ := h c
    exact ⟨h0.trans (ext_rows (e := .f32) _ _ fun t r k => out4 m c t r k),
      h1.trans (ext_rows (e := .bf16) _ _ fun t r k => out5 m c t r k), ha⟩
  · refine (θ_run Cert.InFwdReferenceIdeal.defs _ _).mono (fun r h c => ?_) (Cert.InFwdReferenceIdeal.Value.run (F := Ideal) m' g')
    obtain ⟨a0, a1, a2, a3⟩ := hm c
    obtain ⟨h0, h1, ha⟩ := h c
    replace h0 := h0.trans (show _ = val_main_v15 (F := Ideal) (m' ((c : Thread Cert.InFwdReferenceIdeal.nD Cert.InFwdReferenceIdeal.τ).loc Cert.InFwdReferenceIdeal.main_arg0)) (m' ((c : Thread Cert.InFwdReferenceIdeal.nD Cert.InFwdReferenceIdeal.τ).loc Cert.InFwdReferenceIdeal.main_arg1)) (m' ((c : Thread Cert.InFwdReferenceIdeal.nD Cert.InFwdReferenceIdeal.τ).loc Cert.InFwdReferenceIdeal.main_arg2)) (m' ((c : Thread Cert.InFwdReferenceIdeal.nD Cert.InFwdReferenceIdeal.τ).loc Cert.InFwdReferenceIdeal.main_arg3)) from rfl)
    rw [a0, a1, a2, a3] at h0
    replace h1 := h1.trans (show _ = val_main_v16 (F := Ideal) (m' ((c : Thread Cert.InFwdReferenceIdeal.nD Cert.InFwdReferenceIdeal.τ).loc Cert.InFwdReferenceIdeal.main_arg0)) (m' ((c : Thread Cert.InFwdReferenceIdeal.nD Cert.InFwdReferenceIdeal.τ).loc Cert.InFwdReferenceIdeal.main_arg1)) from rfl)
    rw [a0, a1] at h1
    exact ⟨h0, h1, ha⟩

end Cert.Proof.InFwd.Algebraic
-- ==== Proof.MergeFwd.Payloads.lean ====
module

public import proofs.«01_k».proof.Proof.Gen.MergeFwdKernelIdeal.Value
public import proofs.«01_k».proof.Proof.Sigmoid
public import Idealize.ShloMosaic.Lib.Pointwise

@[expose] public section

/-! The merge call's body at an index, over the extended reals: the two branches through their projections, each under its
gate, added, projected and added to the layer's input. -/

set_option maxRecDepth 16384

noncomputable section

namespace Cert.Proof.MergeFwd

open Cert.MergeFwdKernelIdeal Cert.MergeFwdKernelIdeal.Gen Idealize.ShloMosaic Idealize.ShloMosaic.TcCoe Idealize.SL.Sem

theorem hz : (![0, 0] : Fin 2 → Nat) = fun _ => 0 := funext fun a => by fin_cases a <;> rfl

variable (x0 : Vec Ideal S416x1024 .f32) (x1 x2 : Vec Ideal S416x1024 .bf16) (x3 x4 : Vec Ideal S416x1024 .f32)
  (x5 x6 : Vec Ideal S1024x1024 .bf16) (x7 : Vec Ideal S1x1024 .f32) (x8 : Vec Ideal S1024x1024 .bf16) (r : Fin 416)

/-- The merged branches of a block. -/
def merged (j : Fin 1024) : EReal :=
  Ideal.logistic (x3 (ix2 r j)) * (∑ k : Fin 1024, x1 (ix2 r k) * x5 (ix2 k j))
    + Ideal.logistic (x4 (ix2 r j)) * ((∑ k : Fin 1024, x2 (ix2 r k) * x6 (ix2 k j)) + x7 (ix2 0 j))

theorem pay2 (j : Fin 1024) : k0_pay2 (F := Ideal) x1 x5 x2 x6 x7 x3 x4 x8 (ix2 r j)
    = ∑ k : Fin 1024, merged x1 x2 x3 x4 x5 x6 x7 r k * x8 (ix2 k j) := by
  simp only [merged, ← Sigmoid.half_tanh]
  pointwise [k0_pay2]

/-- What the body leaves in the output's block. -/
theorem block9 (j : Fin 1024) : out0_9 (F := Ideal) x0 x1 x2 x3 x4 x5 x6 x7 x8 (ix2 r j)
    = x0 (ix2 r j) + ∑ k : Fin 1024, merged x1 x2 x3 x4 x5 x6 x7 r k * x8 (ix2 k j) := by
  unfold out0_9
  simp only [View.ld_unit_zero (S := S416x1024) hz, View.ld_unit_zero (S := S1024x1024) hz, View.ld_unit_zero (S := S1x1024) hz,
    View.canon_cons_unit_zero (S := S416x1024) hz]
  rw [← pay2]
  pointwise [k0_pay1]

end Cert.Proof.MergeFwd
-- ==== Proof.MergeFwd.Blocks.lean ====
module

public import proofs.«01_k».proof.Proof.Gen.MergeFwdKernelIdeal.Frame
public import proofs.«01_k».proof.Proof.Rows
public import Idealize.ShloMosaic.Lib.Pointwise

@[expose] public section

/-! Which entries of the arrays a grid point's blocks are: point `t` takes the rows `416 t … 416 t + 415` of every array
cut into tiles (of the projections' output the columns of the two gates), and the weights and the bias whole. -/

set_option maxRecDepth 16384

noncomputable section

namespace Cert.Proof.MergeFwd.Blocks

open Cert.MergeFwdKernelIdeal Cert.MergeFwdKernelIdeal.Gen Idealize.ShloMosaic Idealize.ShloMosaic.TcCoe Idealize.SL.Sem
open Cert.Proof.Rows

section Places

variable (t : Fin cfg0.N)

theorem index0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- Where window 0's block lies in its array. -/
theorem emb0 (r : Fin 416) (j : Fin 1024) : ((cfg0.win 0).blk t).view.emb (ix2 r j) = ix2 (row t r) j := by
  funext a
  apply Fin.ext
  match a with
  | ⟨0, _⟩ => show win0_0.index t (0 : Fin 2) * 416 + 1 * r.val = t.val * 416 + r.val; rw [(index0 t).1, Nat.one_mul]
  | ⟨1, _⟩ => show win0_0.index t (1 : Fin 2) * 1024 + 1 * j.val = j.val; rw [(index0 t).2]; omega

theorem index1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

/-- Where window 1's block lies in its array. -/
theorem emb1 (r : Fin 416) (j : Fin 1024) : ((cfg0.win 1).blk t).view.emb (ix2 r j) = ix2 (row t r) j := by
  funext a
  apply Fin.ext
  match a with
  | ⟨0, _⟩ => show win0_1.index t (0 : Fin 2) * 416 + 1 * r.val = t.val * 416 + r.val; rw [(index1 t).1, Nat.one_mul]
  | ⟨1, _⟩ => show win0_1.index t (1 : Fin 2) * 1024 + 1 * j.val = j.val; rw [(index1 t).2]; omega

theorem index2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)

/-- Where window 2's block lies in its array. -/
theorem emb2 (r : Fin 416) (j : Fin 1024) : ((cfg0.win 2).blk t).view.emb (ix2 r j) = ix2 (row t r) j := by
  funext a
  apply Fin.ext
  match a with
  | ⟨0, _⟩ => show win0_2.index t (0 : Fin 2) * 416 + 1 * r.val = t.val * 416 + r.val; rw [(index2 t).1, Nat.one_mul]
  | ⟨1, _⟩ => show win0_2.index t (1 : Fin 2) * 1024 + 1 * j.val = j.val; rw [(index2 t).2]; omega

theorem index3 : ∀ t : Fin cfg0.N, win0_3.index t (0 : Fin 2) = t.val ∧ win0_3.index t (1 : Fin 2) = 4 :=
  (by decide +kernel : ∀ t : Fin grid0.N, win0_3.index t (0 : Fin 2) = t.val ∧ win0_3.index t (1 : Fin 2) = 4)

/-- Where window 3's block lies in its array: in the columns from 4096. -/
theorem emb3 (r : Fin 416) (j : Fin 1024) : ((cfg0.win 3).blk t).view.emb (ix2 r j)
    = ix2 (row t r) (⟨4096 + j.val, by have := j.isLt; omega⟩ : Fin 6144) := by
  funext a
  apply Fin.ext
  match a with
  | ⟨0, _⟩ => show win0_3.index t (0 : Fin 2) * 416 + 1 * r.val = t.val * 416 + r.val; rw [(index3 t).1, Nat.one_mul]
  | ⟨1, _⟩ => show win0_3.index t (1 : Fin 2) * 1024 + 1 * j.val = 4096 + j.val; rw [(index3 t).2]; omega

theorem index4 : ∀ t : Fin cfg0.N, win0_4.index t (0 : Fin 2) = t.val ∧ win0_4.index t (1 : Fin 2) = 5 :=
  (by decide +kernel : ∀ t : Fin grid0.N, win0_4.index t (0 : Fin 2) = t.val ∧ win0_4.index t (1 : Fin 2) = 5)

/-- Where window 4's block lies in its array: in the columns from 5120. -/
theorem emb4 (r : Fin 416) (j : Fin 1024) : ((cfg0.win 4).blk t).view.emb (ix2 r j)
    = ix2 (row t r) (⟨5120 + j.val, by have := j.isLt; omega⟩ : Fin 6144) := by
  funext a
  apply Fin.ext
  match a with
  | ⟨0, _⟩ => show win0_4.index t (0 : Fin 2) * 416 + 1 * r.val = t.val * 416 + r.val; rw [(index4 t).1, Nat.one_mul]
  | ⟨1, _⟩ => show win0_4.index t (1 : Fin 2) * 1024 + 1 * j.val = 5120 + j.val; rw [(index4 t).2]; omega

theorem index5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)

/-- Window 5's block is its whole array. -/
theorem emb5 (j : S1024x1024.Idx) : ((cfg0.win 5).blk t).view.emb j = j := by
  funext a
  apply Fin.ext
  match a with
  | ⟨0, _⟩ => show win0_5.index t (0 : Fin 2) * 1024 + 1 * (j 0).val = (j 0).val; rw [(index5 t).1]; omega
  | ⟨1, _⟩ => show win0_5.index t (1 : Fin 2) * 1024 + 1 * (j 1).val = (j 1).val; rw [(index5 t).2]; omega

theorem index6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)

/-- Window 6's block is its whole array. -/
theorem emb6 (j : S1024x1024.Idx) : ((cfg0.win 6).blk t).view.emb j = j := by
  funext a
  apply Fin.ext
  match a with
  | ⟨0, _⟩ => show win0_6.index t (0 : Fin 2) * 1024 + 1 * (j 0).val = (j 0).val; rw [(index6 t).1]; omega
  | ⟨1, _⟩ => show win0_6.index t (1 : Fin 2) * 1024 + 1 * (j 1).val = (j 1).val; rw [(index6 t).2]; omega

theorem index7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)

/-- Window 7's block is its whole array. -/
theorem emb7 (j : S1x1024.Idx) : ((cfg0.win 7).blk t).view.emb j = j := by
  funext a
  apply Fin.ext
  match a with
  | ⟨0, _⟩ => show win0_7.index t (0 : Fin 2) * 1 + 1 * (j 0).val = (j 0).val; rw [(index7 t).1]; omega
  | ⟨1, _⟩ => show win0_7.index t (1 : Fin 2) * 1024 + 1 * (j 1).val = (j 1).val; rw [(index7 t).2]; omega

theorem index8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)

/-- Window 8's block is its whole array. -/
theorem emb8 (j : S1024x1024.Idx) : ((cfg0.win 8).blk t).view.emb j = j := by
  funext a
  apply Fin.ext
  match a with
  | ⟨0, _⟩ => show win0_8.index t (0 : Fin 2) * 1024 + 1 * (j 0).val = (j 0).val; rw [(index8 t).1]; omega
  | ⟨1, _⟩ => show win0_8.index t (1 : Fin 2) * 1024 + 1 * (j 1).val = (j 1).val; rw [(index8 t).2]; omega

theorem index9 : ∀ t : Fin cfg0.N, win0_9.index t (0 : Fin 2) = t.val ∧ win0_9.index t (1 : Fin 2) = 0 :=
  (by decide +kernel : ∀ t : Fin grid0.N, win0_9.index t (0 : Fin 2) = t.val ∧ win0_9.index t (1 : Fin 2) = 0)

/-- Where window 9's block lies in its array. -/
theorem emb9 (r : Fin 416) (j : Fin 1024) : ((cfg0.win 9).blk t).view.emb (ix2 r j) = ix2 (row t r) j := by
  funext a
  apply Fin.ext
  match a with
  | ⟨0, _⟩ => show win0_9.index t (0 : Fin 2) * 416 + 1 * r.val = t.val * 416 + r.val; rw [(index9 t).1, Nat.one_mul]
  | ⟨1, _⟩ => show win0_9.index t (1 : Fin 2) * 1024 + 1 * j.val = j.val; rw [(index9 t).2]; omega

end Places

variable (m : ∀ l, Buf (Elt Ideal) l) (c : Dev nD) (t : Fin cfg0.N)

/-- The arguments. -/
abbrev A0 : FVec Ideal S4160x1024 .f32 := m ((c : Thread nD τ).loc main_arg0)
abbrev A1 : FVec Ideal S4160x1024 .bf16 := m ((c : Thread nD τ).loc main_arg1)
abbrev A2 : FVec Ideal S4160x1024 .bf16 := m ((c : Thread nD τ).loc main_arg2)
abbrev A3 : FVec Ideal S4160x6144 .f32 := m ((c : Thread nD τ).loc main_arg3)
abbrev A4 : FVec Ideal S1024x1024 .bf16 := m ((c : Thread nD τ).loc main_arg4)
abbrev A5 : FVec Ideal S1024x1024 .bf16 := m ((c : Thread nD τ).loc main_arg5)
abbrev A6 : FVec Ideal S1x1024 .f32 := m ((c : Thread nD τ).loc main_arg6)
abbrev A7 : FVec Ideal S1024x1024 .bf16 := m ((c : Thread nD τ).loc main_arg7)

theorem in0 (r : Fin 416) (j : Fin 1024) : iblk m c 0 t (ix2 r j) = A0 m c (ix2 (row t r) j) := by
  show V m c main_arg0 (((cfg0.win 0).blk t).view.emb (ix2 r j)) = _
  rw [emb0, V_main_arg0]

theorem in1 (r : Fin 416) (j : Fin 1024) : iblk m c 1 t (ix2 r j) = A1 m c (ix2 (row t r) j) := by
  show V m c main_arg1 (((cfg0.win 1).blk t).view.emb (ix2 r j)) = _
  rw [emb1, V_main_arg1]

theorem in2 (r : Fin 416) (j : Fin 1024) : iblk m c 2 t (ix2 r j) = A2 m c (ix2 (row t r) j) := by
  show V m c main_arg2 (((cfg0.win 2).blk t).view.emb (ix2 r j)) = _
  rw [emb2, V_main_arg2]

theorem in3 (r : Fin 416) (j : Fin 1024) : iblk m c 3 t (ix2 r j) = A3 m c (ix2 (row t r) (⟨4096 + j.val, by have := j.isLt; omega⟩ : Fin 6144)) := by
  show V m c main_arg3 (((cfg0.win 3).blk t).view.emb (ix2 r j)) = _
  rw [emb3, V_main_arg3]

theorem in4 (r : Fin 416) (j : Fin 1024) : iblk m c 4 t (ix2 r j) = A3 m c (ix2 (row t r) (⟨5120 + j.val, by have := j.isLt; omega⟩ : Fin 6144)) := by
  show V m c main_arg3 (((cfg0.win 4).blk t).view.emb (ix2 r j)) = _
  rw [emb4, V_main_arg3]

theorem in5 (i j : Fin 1024) : iblk m c 5 t (ix2 i j) = A4 m c (ix2 i j) := by
  show V m c main_arg4 (((cfg0.win 5).blk t).view.emb (ix2 i j)) = _
  rw [emb5, V_main_arg4]

theorem in6 (i j : Fin 1024) : iblk m c 6 t (ix2 i j) = A5 m c (ix2 i j) := by
  show V m c main_arg5 (((cfg0.win 6).blk t).view.emb (ix2 i j)) = _
  rw [emb6, V_main_arg5]

theorem in7 (j : Fin 1024) : iblk m c 7 t (ix2 0 j) = A6 m c (ix2 0 j) := by
  show V m c main_arg6 (((cfg0.win 7).blk t).view.emb (ix2 0 j)) = _
  rw [emb7, V_main_arg6]

theorem in8 (i j : Fin 1024) : iblk m c 8 t (ix2 i j) = A7 m c (ix2 i j) := by
  show V m c main_arg7 (((cfg0.win 8).blk t).view.emb (ix2 i j)) = _
  rw [emb8, V_main_arg7]

end Cert.Proof.MergeFwd.Blocks
-- ==== Proof.MergeFwd.Reference.lean ====
module

public import proofs.«01_k».proof.Proof.Gen.MergeFwdReferenceIdeal.Read
public import Idealize.ShloMosaic.Lib.Pointwise
public import Idealize.ShloMosaic.Lib.IdealHost

@[expose] public section

/-! The reference's result at an index, over the extended reals. -/

set_option maxRecDepth 16384

noncomputable section

namespace Cert.Proof.MergeFwd.Reference

open Cert.MergeFwdReferenceIdeal Cert.MergeFwdReferenceIdeal.Gen Cert.MergeFwdReferenceIdeal.Read Idealize.ShloMosaic Idealize.SL.Sem

variable (x0 : FVec Ideal S4160x1024 .f32) (x1 x2 : FVec Ideal S4160x1024 .bf16) (x3 : FVec Ideal S4160x6144 .f32)
  (x4 x5 : FVec Ideal S1024x1024 .bf16) (x6 : FVec Ideal S1x1024 .f32) (x7 : FVec Ideal S1024x1024 .bf16)
  (r : Fin 4160) (j : Fin 1024)

/-- The first gate. -/
theorem ref16 : val_main_v16 (F := Ideal) x3 (ix2 r j) = Ideal.logistic (x3 (ix2 r (⟨4096 + j.val, by have := j.isLt; omega⟩ : Fin 6144))) := by
  pointwise [val_main_v16, val_main_v15, val_main_v14, val_main_v13, val_main_v12, val_main_v11, val_main_v5, val_main_cst_0, val_main_cst]
  rfl

/-- The second gate. -/
theorem ref23 : val_main_v23 (F := Ideal) x3 (ix2 r j) = Ideal.logistic (x3 (ix2 r (⟨5120 + j.val, by have := j.isLt; omega⟩ : Fin 6144))) := by
  pointwise [val_main_v23, val_main_v22, val_main_v21, val_main_v20, val_main_v19, val_main_v18, val_main_v6, val_main_cst_1, val_main_cst_2]
  rfl

/-- The merged branches. -/
theorem ref25 : val_main_v25 (F := Ideal) x1 x2 x3 x4 x5 x6 (ix2 r j)
    = Ideal.logistic (x3 (ix2 r (⟨4096 + j.val, by have := j.isLt; omega⟩ : Fin 6144))) * (∑ k : Fin 1024, x1 (ix2 r k) * x4 (ix2 k j))
      + Ideal.logistic (x3 (ix2 r (⟨5120 + j.val, by have := j.isLt; omega⟩ : Fin 6144))) * ((∑ k : Fin 1024, x2 (ix2 r k) * x5 (ix2 k j)) + x6 (ix2 0 j)) := by
  rw [← ref16, ← ref23]
  pointwise [val_main_v25, val_main_v24, val_main_v17, val_main_v7, val_main_v10, val_main_v8, val_main_v9, val_main_v0, val_main_v1, val_main_v2, val_main_v3]

/-- The layer's output. -/
theorem ref27 : val_main_v27 (F := Ideal) x0 x1 x2 x3 x4 x5 x6 x7 (ix2 r j)
    = x0 (ix2 r j) + ∑ k : Fin 1024, val_main_v25 (F := Ideal) x1 x2 x3 x4 x5 x6 (ix2 r k) * x7 (ix2 k j) := by
  pointwise [val_main_v27, val_main_v26, val_main_v4]

end Cert.Proof.MergeFwd.Reference
-- ==== Proof.MergeFwd.Values.lean ====
module

public import proofs.«01_k».proof.Proof.MergeFwd.Payloads
public import proofs.«01_k».proof.Proof.MergeFwd.Blocks
public import proofs.«01_k».proof.Proof.MergeFwd.Reference

@[expose] public section

/-! The merge call's result, at an index, is the reference's. -/

set_option maxRecDepth 16384

noncomputable section

namespace Cert.Proof.MergeFwd.Values

open Cert.MergeFwdKernelIdeal Cert.MergeFwdKernelIdeal.Gen Cert.MergeFwdKernelIdeal.Value Idealize.ShloMosaic Idealize.ShloMosaic.TcCoe
  Idealize.SL.Sem
open Cert.Proof.MergeFwd Cert.Proof.MergeFwd.Blocks Cert.Proof.MergeFwd.Reference Cert.Proof.Rows Cert.MergeFwdReferenceIdeal.Read

variable (m : ∀ l, Buf (Elt Ideal) l) (c : Dev nD) (t : Fin cfg0.N) (r : Fin 416)

/-- The merged branches, in a tile. -/
theorem merged_tile (j : Fin 1024) : merged (iblk m c 1 t) (iblk m c 2 t) (iblk m c 3 t) (iblk m c 4 t) (iblk m c 5 t) (iblk m c 6 t) (iblk m c 7 t) r j
    = val_main_v25 (F := Ideal) (A1 m c) (A2 m c) (A3 m c) (A4 m c) (A5 m c) (A6 m c) (ix2 (row t r) j) := by
  rw [ref25, merged]
  simp only [in1, in2, in3, in4, in5, in6, in7]

/-- The layer's output. -/
theorem out9 (j : Fin 1024) : (dats m 0 c).arrAt 9 cfg0.N (ix2 (row t r) j)
    = val_main_v27 (F := Ideal) (A0 m c) (A1 m c) (A2 m c) (A3 m c) (A4 m c) (A5 m c) (A6 m c) (A7 m c) (ix2 (row t r) j) := by
  have h := congrFun ((blocks9 m c t (flush0_9 t)).trans (flushed9 m c t)) (ix2 r j)
  change (dats m 0 c).arrAt 9 cfg0.N (((cfg0.win 9).blk t).view.emb (ix2 r j)) = out0_9 (F := Ideal) _ _ _ _ _ _ _ _ _ (ix2 r j) at h
  rw [emb9, block9] at h
  refine h.trans ?_
  rw [ref27]
  simp only [merged_tile, in0, in8]

end Cert.Proof.MergeFwd.Values
-- ==== Proof.MergeFwd.Algebraic.lean ====
module

public import proofs.«01_k».proof.Defs
public import proofs.«01_k».proof.Proof.MergeFwd.Values
public import proofs.«01_k».proof.Proof.Gen.MergeFwdReferenceIdeal.Run
public import proofs.«01_k».proof.Proof.Gen.MergeFwdReferenceIdeal

@[expose] public section

/-! The value claim of the merge call: its array is the reference's. -/

set_option maxRecDepth 16384

noncomputable section

namespace Cert.Proof.MergeFwd.Algebraic

open Idealize.ShloMosaic Idealize.ShloMosaic.TcCoe Idealize.SL.Sem Cert.Proof.Rows Cert.Proof.MergeFwd.Values Cert.Proof.MergeFwd.Blocks
  Cert.MergeFwdReferenceIdeal.Read

/-- The kernel's results are the reference's. -/
theorem algebraic : Cert.algebraic_MergeFwdKernelIdeal_MergeFwdReferenceIdeal := by
  intro m g m' g' _ hm
  refine ⟨fun c => val_main_v27 (F := Ideal) (A0 m c) (A1 m c) (A2 m c) (A3 m c) (A4 m c) (A5 m c) (A6 m c) (A7 m c), ?_, ?_⟩
  · refine (θ_run Cert.MergeFwdKernelIdeal.defs _ _).mono (fun r h c => ?_) (Cert.MergeFwdKernelIdeal.Value.run_blocks (F := Ideal) m g)
    obtain ⟨h0, ha⟩ := h c
    exact ⟨h0.trans (ext_rows (e := .f32) _ _ fun t r k => out9 m c t r k), ha⟩
  · refine (θ_run Cert.MergeFwdReferenceIdeal.defs _ _).mono (fun r h c => ?_) (Cert.MergeFwdReferenceIdeal.Value.run (F := Ideal) m' g')
    obtain ⟨a0, a1, a2, a3, a4, a5, a6, a7⟩ := hm c
    obtain ⟨h0, ha⟩ := h c
    replace h0 := h0.trans (show _ = val_main_v27 (F := Ideal) (m' ((c : Thread Cert.MergeFwdReferenceIdeal.nD Cert.MergeFwdReferenceIdeal.τ).loc Cert.MergeFwdReferenceIdeal.main_arg0)) (m' ((c : Thread Cert.MergeFwdReferenceIdeal.nD Cert.MergeFwdReferenceIdeal.τ).loc Cert.MergeFwdReferenceIdeal.main_arg1)) (m' ((c : Thread Cert.MergeFwdReferenceIdeal.nD Cert.MergeFwdReferenceIdeal.τ).loc Cert.MergeFwdReferenceIdeal.main_arg2)) (m' ((c : Thread Cert.MergeFwdReferenceIdeal.nD Cert.MergeFwdReferenceIdeal.τ).loc Cert.MergeFwdReferenceIdeal.main_arg3)) (m' ((c : Thread Cert.MergeFwdReferenceIdeal.nD Cert.MergeFwdReferenceIdeal.τ).loc Cert.MergeFwdReferenceIdeal.main_arg4)) (m' ((c : Thread Cert.MergeFwdReferenceIdeal.nD Cert.MergeFwdReferenceIdeal.τ).loc Cert.MergeFwdReferenceIdeal.main_arg5)) (m' ((c : Thread Cert.MergeFwdReferenceIdeal.nD Cert.MergeFwdReferenceIdeal.τ).loc Cert.MergeFwdReferenceIdeal.main_arg6)) (m' ((c : Thread Cert.MergeFwdReferenceIdeal.nD Cert.MergeFwdReferenceIdeal.τ).loc Cert.MergeFwdReferenceIdeal.main_arg7)) from rfl)
    rw [a0, a1, a2, a3, a4, a5, a6, a7] at h0
    exact ⟨h0, ha⟩

end Cert.Proof.MergeFwd.Algebraic
-- ==== Proof.FfnFwd.Pieces.lean ====
module

public import proofs.«01_k».proof.Proof.Gen.FfnFwdKernelIdeal.Value
public import Idealize.ShloMosaic.Lib.Pipeline.FrameBody

@[expose] public section

/-! What the body of the feed-forward forward call leaves in each output's block, as the named payload functions of the
blocks it loads.  The two halves of the wide product and the hidden numbers are stored in twelve column pieces each
(five of 256 columns and one of 128 in each half of 1408); the output is computed from what these stores left, so the
pieces of the hidden numbers enter it as a list.  All of this holds in every float model. -/

set_option maxRecDepth 16384

noncomputable section

namespace Cert.Proof.FfnFwd

open Cert.FfnFwdKernelIdeal Cert.FfnFwdKernelIdeal.Gen Cert.FfnFwdKernelIdeal.Value Idealize.ShloMosaic Idealize.ShloMosaic.TcCoe Idealize.SL.Sem

variable {F : FTy → Type} [FloatOps F]

theorem hz : (![0, 0] : Fin 2 → Nat) = fun _ => 0 := funext fun a => by fin_cases a <;> rfl

/-- The 1408 columns at offset `o` of a block filled by the pieces `L`. -/
def cols (L : List (View.Piece (Elt F) S416x2816 .bf16)) (o : Fin 2 → Nat)
    (h : ∀ a, o a + S416x1408.size a ≤ S416x2816.size a) : Vec F S416x1408 .bf16 :=
  fun j => View.canon (Val := Elt F) L ((Rect.unit (s := S416x2816) o S416x1408.size h).emb j)

/-- The pieces of the gate half, the columns of half 1, the last one first. -/
def gate1 (x0 : Vec F S416x1024 .f32) (x1 : Vec F S1x1024 .f32) (x2 : Vec F S4x1024x1408 .bf16) : List (View.Piece (Elt F) S416x2816 .bf16) :=
  [⟨Rect.unit ![0, 1280] S416x128.size (by decide), k0_pay34 (k0_pay32 (k0_pay2 x0 x1) (View.ld x2 (Rect.unit ![0, 0, 1280] S1x1024x128.size (by decide))))⟩,
   ⟨Rect.unit ![0, 1024] S416x256.size (by decide), k0_pay29 (k0_pay2 x0 x1) (View.ld x2 (Rect.unit ![0, 0, 1024] S1x1024x256.size (by decide)))⟩,
   ⟨Rect.unit ![0, 768] S416x256.size (by decide), k0_pay22 (k0_pay2 x0 x1) (View.ld x2 (Rect.unit ![0, 0, 768] S1x1024x256.size (by decide)))⟩,
   ⟨Rect.unit ![0, 512] S416x256.size (by decide), k0_pay17 (k0_pay15 (k0_pay2 x0 x1) (View.ld x2 (Rect.unit ![0, 0, 512] S1x1024x256.size (by decide))))⟩,
   ⟨Rect.unit ![0, 256] S416x256.size (by decide), k0_pay12 (k0_pay2 x0 x1) (View.ld x2 (Rect.unit ![0, 0, 256] S1x1024x256.size (by decide)))⟩,
   ⟨Rect.unit ![0, 0] S416x256.size (by decide), k0_pay5 x0 x1 (View.ld x2 (Rect.unit ![0, 0, 0] S1x1024x256.size (by decide)))⟩]

/-- The pieces of the gate half, the columns of half 2, the last one first. -/
def gate2 (x0 : Vec F S416x1024 .f32) (x1 : Vec F S1x1024 .f32) (x2 : Vec F S4x1024x1408 .bf16) : List (View.Piece (Elt F) S416x2816 .bf16) :=
  [⟨Rect.unit ![0, 2688] S416x128.size (by decide), k0_pay68 (k0_pay2 x0 x1) (View.ld x2 (Rect.unit ![1, 0, 1280] S1x1024x128.size (by decide)))⟩,
   ⟨Rect.unit ![0, 2432] S416x256.size (by decide), k0_pay62 (k0_pay2 x0 x1) (View.ld x2 (Rect.unit ![1, 0, 1024] S1x1024x256.size (by decide)))⟩,
   ⟨Rect.unit ![0, 2176] S416x256.size (by decide), k0_pay57 (k0_pay54 (k0_pay2 x0 x1) (View.ld x2 (Rect.unit ![1, 0, 768] S1x1024x256.size (by decide))))⟩,
   ⟨Rect.unit ![0, 1920] S416x256.size (by decide), k0_pay51 (k0_pay2 x0 x1) (View.ld x2 (Rect.unit ![1, 0, 512] S1x1024x256.size (by decide)))⟩,
   ⟨Rect.unit ![0, 1664] S416x256.size (by decide), k0_pay45 (k0_pay2 x0 x1) (View.ld x2 (Rect.unit ![1, 0, 256] S1x1024x256.size (by decide)))⟩,
   ⟨Rect.unit ![0, 1408] S416x256.size (by decide), k0_pay40 (k0_pay2 x0 x1) (View.ld x2 (Rect.unit ![1, 0, 0] S1x1024x256.size (by decide)))⟩]

/-- The pieces of the other half, the columns of half 1, the last one first. -/
def up1 (x0 : Vec F S416x1024 .f32) (x1 : Vec F S1x1024 .f32) (x2 : Vec F S4x1024x1408 .bf16) : List (View.Piece (Elt F) S416x2816 .bf16) :=
  [⟨Rect.unit ![0, 1280] S416x128.size (by decide), k0_pay35 (k0_pay2 x0 x1) (View.ld x2 (Rect.unit ![2, 0, 1280] S1x1024x128.size (by decide)))⟩,
   ⟨Rect.unit ![0, 1024] S416x256.size (by decide), k0_pay30 (k0_pay2 x0 x1) (View.ld x2 (Rect.unit ![2, 0, 1024] S1x1024x256.size (by decide)))⟩,
   ⟨Rect.unit ![0, 768] S416x256.size (by decide), k0_pay23 (k0_pay2 x0 x1) (View.ld x2 (Rect.unit ![2, 0, 768] S1x1024x256.size (by decide)))⟩,
   ⟨Rect.unit ![0, 512] S416x256.size (by decide), k0_pay18 (k0_pay2 x0 x1) (View.ld x2 (Rect.unit ![2, 0, 512] S1x1024x256.size (by decide)))⟩,
   ⟨Rect.unit ![0, 256] S416x256.size (by decide), k0_pay13 (k0_pay2 x0 x1) (View.ld x2 (Rect.unit ![2, 0, 256] S1x1024x256.size (by decide)))⟩,
   ⟨Rect.unit ![0, 0] S416x256.size (by decide), k0_pay6 x0 x1 (View.ld x2 (Rect.unit ![2, 0, 0] S1x1024x256.size (by decide)))⟩]

/-- The pieces of the other half, the columns of half 2, the last one first. -/
def up2 (x0 : Vec F S416x1024 .f32) (x1 : Vec F S1x1024 .f32) (x2 : Vec F S4x1024x1408 .bf16) : List (View.Piece (Elt F) S416x2816 .bf16) :=
  [⟨Rect.unit ![0, 2688] S416x128.size (by decide), k0_pay69 (k0_pay2 x0 x1) (View.ld x2 (Rect.unit ![3, 0, 1280] S1x1024x128.size (by decide)))⟩,
   ⟨Rect.unit ![0, 2432] S416x256.size (by decide), k0_pay63 (k0_pay2 x0 x1) (View.ld x2 (Rect.unit ![3, 0, 1024] S1x1024x256.size (by decide)))⟩,
   ⟨Rect.unit ![0, 2176] S416x256.size (by decide), k0_pay58 (k0_pay2 x0 x1) (k0_pay55 (View.ld x2 (Rect.unit ![3, 0, 768] S1x1024x256.size (by decide)))) (constant S416x256 .f32 0x00000000#32)⟩,
   ⟨Rect.unit ![0, 1920] S416x256.size (by decide), k0_pay52 (k0_pay2 x0 x1) (View.ld x2 (Rect.unit ![3, 0, 512] S1x1024x256.size (by decide)))⟩,
   ⟨Rect.unit ![0, 1664] S416x256.size (by decide), k0_pay46 (k0_pay2 x0 x1) (View.ld x2 (Rect.unit ![3, 0, 256] S1x1024x256.size (by decide)))⟩,
   ⟨Rect.unit ![0, 1408] S416x256.size (by decide), k0_pay41 (k0_pay39 (k0_pay2 x0 x1) (View.ld x2 (Rect.unit ![3, 0, 0] S1x1024x256.size (by decide))))⟩]

/-- The pieces of the hidden numbers, the columns of half 1, the last one first. -/
def hids1 (x0 : Vec F S416x1024 .f32) (x1 : Vec F S1x1024 .f32) (x2 : Vec F S4x1024x1408 .bf16) : List (View.Piece (Elt F) S416x2816 .bf16) :=
  [⟨Rect.unit ![0, 1280] S416x128.size (by decide), k0_pay36 (k0_pay2 x0 x1) (k0_pay32 (k0_pay2 x0 x1) (View.ld x2 (Rect.unit ![0, 0, 1280] S1x1024x128.size (by decide)))) (View.ld x2 (Rect.unit ![2, 0, 1280] S1x1024x128.size (by decide)))⟩,
   ⟨Rect.unit ![0, 1024] S416x256.size (by decide), k0_pay31 (k0_pay2 x0 x1) (View.ld x2 (Rect.unit ![0, 0, 1024] S1x1024x256.size (by decide))) (View.ld x2 (Rect.unit ![2, 0, 1024] S1x1024x256.size (by decide)))⟩,
   ⟨Rect.unit ![0, 768] S416x256.size (by decide), k0_pay26 (k0_pay20 (k0_pay2 x0 x1) (View.ld x2 (Rect.unit ![0, 0, 768] S1x1024x256.size (by decide)))) (k0_pay21 (k0_pay2 x0 x1) (View.ld x2 (Rect.unit ![2, 0, 768] S1x1024x256.size (by decide)))) (k0_pay24 (k0_pay2 x0 x1) (View.ld x2 (Rect.unit ![0, 0, 768] S1x1024x256.size (by decide)))) (k0_pay25)⟩,
   ⟨Rect.unit ![0, 512] S416x256.size (by decide), k0_pay19 (k0_pay2 x0 x1) (k0_pay15 (k0_pay2 x0 x1) (View.ld x2 (Rect.unit ![0, 0, 512] S1x1024x256.size (by decide)))) (View.ld x2 (Rect.unit ![2, 0, 512] S1x1024x256.size (by decide)))⟩,
   ⟨Rect.unit ![0, 256] S416x256.size (by decide), k0_pay14 (k0_pay2 x0 x1) (View.ld x2 (Rect.unit ![0, 0, 256] S1x1024x256.size (by decide))) (View.ld x2 (Rect.unit ![2, 0, 256] S1x1024x256.size (by decide)))⟩,
   ⟨Rect.unit ![0, 0] S416x256.size (by decide), k0_pay9 (k0_pay3 x0 x1 (View.ld x2 (Rect.unit ![0, 0, 0] S1x1024x256.size (by decide)))) (k0_pay4 x0 x1 (View.ld x2 (Rect.unit ![2, 0, 0] S1x1024x256.size (by decide)))) (k0_pay7 x0 x1 (View.ld x2 (Rect.unit ![0, 0, 0] S1x1024x256.size (by decide)))) (k0_pay8)⟩]

/-- The pieces of the hidden numbers, the columns of half 2, the last one first. -/
def hids2 (x0 : Vec F S416x1024 .f32) (x1 : Vec F S1x1024 .f32) (x2 : Vec F S4x1024x1408 .bf16) : List (View.Piece (Elt F) S416x2816 .bf16) :=
  [⟨Rect.unit ![0, 2688] S416x128.size (by decide), k0_pay70 (k0_pay2 x0 x1) (View.ld x2 (Rect.unit ![1, 0, 1280] S1x1024x128.size (by decide))) (View.ld x2 (Rect.unit ![3, 0, 1280] S1x1024x128.size (by decide)))⟩,
   ⟨Rect.unit ![0, 2432] S416x256.size (by decide), k0_pay65 (k0_pay60 (k0_pay2 x0 x1) (View.ld x2 (Rect.unit ![1, 0, 1024] S1x1024x256.size (by decide)))) (k0_pay61 (k0_pay2 x0 x1) (View.ld x2 (Rect.unit ![3, 0, 1024] S1x1024x256.size (by decide)))) (k0_pay64 (k0_pay2 x0 x1) (View.ld x2 (Rect.unit ![1, 0, 1024] S1x1024x256.size (by decide)))) (Scalar.ofBits .f32 0x3F000000#32)⟩,
   ⟨Rect.unit ![0, 2176] S416x256.size (by decide), k0_pay59 (k0_pay2 x0 x1) (k0_pay54 (k0_pay2 x0 x1) (View.ld x2 (Rect.unit ![1, 0, 768] S1x1024x256.size (by decide)))) (k0_pay55 (View.ld x2 (Rect.unit ![3, 0, 768] S1x1024x256.size (by decide)))) (constant S416x256 .f32 0x00000000#32)⟩,
   ⟨Rect.unit ![0, 1920] S416x256.size (by decide), k0_pay53 (k0_pay2 x0 x1) (View.ld x2 (Rect.unit ![1, 0, 512] S1x1024x256.size (by decide))) (View.ld x2 (Rect.unit ![3, 0, 512] S1x1024x256.size (by decide)))⟩,
   ⟨Rect.unit ![0, 1664] S416x256.size (by decide), k0_pay48 (k0_pay44 (k0_pay2 x0 x1) (View.ld x2 (Rect.unit ![3, 0, 256] S1x1024x256.size (by decide)))) (k0_pay47 (k0_pay2 x0 x1) (View.ld x2 (Rect.unit ![1, 0, 256] S1x1024x256.size (by decide))))⟩,
   ⟨Rect.unit ![0, 1408] S416x256.size (by decide), k0_pay42 (k0_pay38 (k0_pay2 x0 x1) (View.ld x2 (Rect.unit ![1, 0, 0] S1x1024x256.size (by decide)))) (k0_pay39 (k0_pay2 x0 x1) (View.ld x2 (Rect.unit ![3, 0, 0] S1x1024x256.size (by decide))))⟩]

/-- The output's block. -/
def result (x0 : Vec F S416x1024 .f32) (x1 : Vec F S1x1024 .f32) (x2 : Vec F S4x1024x1408 .bf16) (x3 : Vec F S2x1408x1024 .bf16) : Vec F S416x1024 .f32 :=
  k0_pay1 x0
    (k0_pay37 (cols (hids1 x0 x1 x2) ![0, 0] (by decide)) (View.ld x3 (Rect.unit ![0, 0, 0] S1x1408x1024.size (by decide))))
    (k0_pay71 (cols (hids2 x0 x1 x2 ++ hids1 x0 x1 x2) ![0, 1408] (by decide)))
    (k0_pay72 (View.ld x3 (Rect.unit ![1, 0, 0] S1x1408x1024.size (by decide)))) (constant S416x1024 .f32 0x00000000#32)

/-- the output in its block. -/
theorem outA_4 (c : Dev nD) (i : grid0.Coords) (arg1 : Memref sig .tc .vmem S416x1024 .f32) (harg1 : arg1.IsWhole) (arg2 : Memref sig .tc .vmem S1x1024 .f32) (harg2 : arg2.IsWhole) (arg3 : Memref sig .tc .vmem S4x1024x1408 .bf16) (harg3 : arg3.IsWhole) (arg4 : Memref sig .tc .vmem S2x1408x1024 .bf16) (harg4 : arg4.IsWhole) (arg5 : Memref sig .tc .vmem S416x1024 .f32) (harg5 : arg5.IsWhole) (arg6 : Memref sig .tc .vmem S416x2816 .bf16) (harg6 : arg6.IsWhole) (arg7 : Memref sig .tc .vmem S416x2816 .bf16) (harg7 : arg7.IsWhole) (arg8 : Memref sig .tc .vmem S416x2816 .bf16) (harg8 : arg8.IsWhole) (arg9 : Memref sig .tc .vmem S416x1024 .bf16) (harg9 : arg9.IsWhole) (x0 : Vec F S416x1024 .f32) (x1 : Vec F S1x1024 .f32) (x2 : Vec F S4x1024x1408 .bf16) (x3 : Vec F S2x1408x1024 .bf16) :
    out0_A_4 c i arg1 harg1 arg2 harg2 arg3 harg3 arg4 harg4 arg5 harg5 arg6 harg6 arg7 harg7 arg8 harg8 arg9 harg9 x0 x1 x2 x3 = result x0 x1 x2 x3 := by
  unfold out0_A_4
  rw [View.read_writes_junk_eq_canon]
  unfold kernelRun0_A
  dsimp only
  sl_unfold_words
  simp only [View.readAt_eq_ld, Memref.IsWhole.read_unread, View.ld_unit_zero (S := S416x1024) hz, View.ld_unit_zero (S := S1x1024) hz,
    View.canon_cons_unit_zero (S := S416x1024) hz, View.canon_cons_unit_zero (S := S1x1024) hz, View.readCov_unit_zero (S := S1x1024) _ hz,
    View.readCov_eq_canon']
  rfl

/-- the gate half in its block. -/
theorem outA_5 (c : Dev nD) (i : grid0.Coords) (arg1 : Memref sig .tc .vmem S416x1024 .f32) (harg1 : arg1.IsWhole) (arg2 : Memref sig .tc .vmem S1x1024 .f32) (harg2 : arg2.IsWhole) (arg3 : Memref sig .tc .vmem S4x1024x1408 .bf16) (harg3 : arg3.IsWhole) (arg4 : Memref sig .tc .vmem S2x1408x1024 .bf16) (harg4 : arg4.IsWhole) (arg5 : Memref sig .tc .vmem S416x1024 .f32) (harg5 : arg5.IsWhole) (arg6 : Memref sig .tc .vmem S416x2816 .bf16) (harg6 : arg6.IsWhole) (arg7 : Memref sig .tc .vmem S416x2816 .bf16) (harg7 : arg7.IsWhole) (arg8 : Memref sig .tc .vmem S416x2816 .bf16) (harg8 : arg8.IsWhole) (arg9 : Memref sig .tc .vmem S416x1024 .bf16) (harg9 : arg9.IsWhole) (x0 : Vec F S416x1024 .f32) (x1 : Vec F S1x1024 .f32) (x2 : Vec F S4x1024x1408 .bf16) (x3 : Vec F S2x1408x1024 .bf16) :
    out0_A_5 c i arg1 harg1 arg2 harg2 arg3 harg3 arg4 harg4 arg5 harg5 arg6 harg6 arg7 harg7 arg8 harg8 arg9 harg9 x0 x1 x2 x3 = View.canon (Val := Elt F) (gate2 x0 x1 x2 ++ gate1 x0 x1 x2) := by
  unfold out0_A_5
  rw [View.read_writes_junk_eq_canon]
  unfold kernelRun0_A
  dsimp only
  sl_unfold_words
  simp only [View.readAt_eq_ld, Memref.IsWhole.read_unread, View.ld_unit_zero (S := S416x1024) hz, View.ld_unit_zero (S := S1x1024) hz,
    View.canon_cons_unit_zero (S := S416x1024) hz, View.canon_cons_unit_zero (S := S1x1024) hz, View.readCov_unit_zero (S := S1x1024) _ hz,
    View.readCov_eq_canon']
  rfl

/-- the other half in its block. -/
theorem outA_6 (c : Dev nD) (i : grid0.Coords) (arg1 : Memref sig .tc .vmem S416x1024 .f32) (harg1 : arg1.IsWhole) (arg2 : Memref sig .tc .vmem S1x1024 .f32) (harg2 : arg2.IsWhole) (arg3 : Memref sig .tc .vmem S4x1024x1408 .bf16) (harg3 : arg3.IsWhole) (arg4 : Memref sig .tc .vmem S2x1408x1024 .bf16) (harg4 : arg4.IsWhole) (arg5 : Memref sig .tc .vmem S416x1024 .f32) (harg5 : arg5.IsWhole) (arg6 : Memref sig .tc .vmem S416x2816 .bf16) (harg6 : arg6.IsWhole) (arg7 : Memref sig .tc .vmem S416x2816 .bf16) (harg7 : arg7.IsWhole) (arg8 : Memref sig .tc .vmem S416x2816 .bf16) (harg8 : arg8.IsWhole) (arg9 : Memref sig .tc .vmem S416x1024 .bf16) (harg9 : arg9.IsWhole) (x0 : Vec F S416x1024 .f32) (x1 : Vec F S1x1024 .f32) (x2 : Vec F S4x1024x1408 .bf16) (x3 : Vec F S2x1408x1024 .bf16) :
    out0_A_6 c i arg1 harg1 arg2 harg2 arg3 harg3 arg4 harg4 arg5 harg5 arg6 harg6 arg7 harg7 arg8 harg8 arg9 harg9 x0 x1 x2 x3 = View.canon (Val := Elt F) (up2 x0 x1 x2 ++ up1 x0 x1 x2) := by
  unfold out0_A_6
  rw [View.read_writes_junk_eq_canon]
  unfold kernelRun0_A
  dsimp only
  sl_unfold_words
  simp only [View.readAt_eq_ld, Memref.IsWhole.read_unread, View.ld_unit_zero (S := S416x1024) hz, View.ld_unit_zero (S := S1x1024) hz,
    View.canon_cons_unit_zero (S := S416x1024) hz, View.canon_cons_unit_zero (S := S1x1024) hz, View.readCov_unit_zero (S := S1x1024) _ hz,
    View.readCov_eq_canon']
  rfl

/-- the hidden numbers in its block. -/
theorem outA_7 (c : Dev nD) (i : grid0.Coords) (arg1 : Memref sig .tc .vmem S416x1024 .f32) (harg1 : arg1.IsWhole) (arg2 : Memref sig .tc .vmem S1x1024 .f32) (harg2 : arg2.IsWhole) (arg3 : Memref sig .tc .vmem S4x1024x1408 .bf16) (harg3 : arg3.IsWhole) (arg4 : Memref sig .tc .vmem S2x1408x1024 .bf16) (harg4 : arg4.IsWhole) (arg5 : Memref sig .tc .vmem S416x1024 .f32) (harg5 : arg5.IsWhole) (arg6 : Memref sig .tc .vmem S416x2816 .bf16) (harg6 : arg6.IsWhole) (arg7 : Memref sig .tc .vmem S416x2816 .bf16) (harg7 : arg7.IsWhole) (arg8 : Memref sig .tc .vmem S416x2816 .bf16) (harg8 : arg8.IsWhole) (arg9 : Memref sig .tc .vmem S416x1024 .bf16) (harg9 : arg9.IsWhole) (x0 : Vec F S416x1024 .f32) (x1 : Vec F S1x1024 .f32) (x2 : Vec F S4x1024x1408 .bf16) (x3 : Vec F S2x1408x1024 .bf16) :
    out0_A_7 c i arg1 harg1 arg2 harg2 arg3 harg3 arg4 harg4 arg5 harg5 arg6 harg6 arg7 harg7 arg8 harg8 arg9 harg9 x0 x1 x2 x3 = View.canon (Val := Elt F) (hids2 x0 x1 x2 ++ hids1 x0 x1 x2) := by
  unfold out0_A_7
  rw [View.read_writes_junk_eq_canon]
  unfold kernelRun0_A
  dsimp only
  sl_unfold_words
  simp only [View.readAt_eq_ld, Memref.IsWhole.read_unread, View.ld_unit_zero (S := S416x1024) hz, View.ld_unit_zero (S := S1x1024) hz,
    View.canon_cons_unit_zero (S := S416x1024) hz, View.canon_cons_unit_zero (S := S1x1024) hz, View.readCov_unit_zero (S := S1x1024) _ hz,
    View.readCov_eq_canon']
  rfl

/-- the normalised rows in its block. -/
theorem outA_8 (c : Dev nD) (i : grid0.Coords) (arg1 : Memref sig .tc .vmem S416x1024 .f32) (harg1 : arg1.IsWhole) (arg2 : Memref sig .tc .vmem S1x1024 .f32) (harg2 : arg2.IsWhole) (arg3 : Memref sig .tc .vmem S4x1024x1408 .bf16) (harg3 : arg3.IsWhole) (arg4 : Memref sig .tc .vmem S2x1408x1024 .bf16) (harg4 : arg4.IsWhole) (arg5 : Memref sig .tc .vmem S416x1024 .f32) (harg5 : arg5.IsWhole) (arg6 : Memref sig .tc .vmem S416x2816 .bf16) (harg6 : arg6.IsWhole) (arg7 : Memref sig .tc .vmem S416x2816 .bf16) (harg7 : arg7.IsWhole) (arg8 : Memref sig .tc .vmem S416x2816 .bf16) (harg8 : arg8.IsWhole) (arg9 : Memref sig .tc .vmem S416x1024 .bf16) (harg9 : arg9.IsWhole) (x0 : Vec F S416x1024 .f32) (x1 : Vec F S1x1024 .f32) (x2 : Vec F S4x1024x1408 .bf16) (x3 : Vec F S2x1408x1024 .bf16) :
    out0_A_8 c i arg1 harg1 arg2 harg2 arg3 harg3 arg4 harg4 arg5 harg5 arg6 harg6 arg7 harg7 arg8 harg8 arg9 harg9 x0 x1 x2 x3 = k0_pay2 x0 x1 := by
  unfold out0_A_8
  rw [View.read_writes_junk_eq_canon]
  unfold kernelRun0_A
  dsimp only
  sl_unfold_words
  simp only [View.readAt_eq_ld, Memref.IsWhole.read_unread, View.ld_unit_zero (S := S416x1024) hz, View.ld_unit_zero (S := S1x1024) hz,
    View.canon_cons_unit_zero (S := S416x1024) hz, View.canon_cons_unit_zero (S := S1x1024) hz, View.readCov_unit_zero (S := S1x1024) _ hz,
    View.readCov_eq_canon']

end Cert.Proof.FfnFwd
-- ==== Proof.FfnFwd.Payloads.lean ====
module

public import proofs.«01_k».proof.Proof.Gen.FfnFwdKernelIdeal.Skeleton
public import proofs.«01_k».proof.Proof.Sigmoid
public import proofs.«01_k».proof.Proof.RmsGrad
public import Idealize.ShloMosaic.Lib.Pointwise

@[expose] public section

/-! The stored values of the feed-forward forward body at an index, over the extended reals.  With `g` and `u` the two
products of the normalised row against a column of either half of the first weight, a column piece of the gate half is
`g`, one of the other half `u`, and one of the hidden numbers `g · σ(g) · u`. -/

set_option maxRecDepth 16384

noncomputable section

namespace Cert.Proof.FfnFwd

open Cert.FfnFwdKernelIdeal Cert.FfnFwdKernelIdeal.Gen Idealize.ShloMosaic Idealize.SL.Sem

/-- One half, as the programs' binary32 pattern. -/
def half : EReal := Ideal.ofBits .f32 0x3F000000#32

/-- A hidden number: the gate through its sigmoid, times the other factor. -/
def hid (g u : EReal) : EReal := g * Ideal.logistic g * u

/-- A normalised row. -/
theorem pay2 (x0 : Vec Ideal S416x1024 .f32) (x1 : Vec Ideal S1x1024 .f32) (r : Fin 416) (k : Fin 1024) :
    k0_pay2 (F := Ideal) x0 x1 (ix2 r k) = x0 (ix2 r k) * RmsGrad.rstd (fun k => x0 (ix2 r k)) * x1 (ix2 0 k) := by
  pointwise [k0_pay2]
  rfl

/-- The column piece of the gate half at offset 0. -/
theorem gate_0 (x0 : Vec Ideal S416x1024 .f32) (x1 : Vec Ideal S1x1024 .f32) (wg : Vec Ideal S1x1024x256 .bf16) (r : Fin 416) (j : Fin 256) :
    (k0_pay5 (F := Ideal) x0 x1 wg) (ix2 r j)
      = ∑ k : Fin 1024, k0_pay2 (F := Ideal) x0 x1 (ix2 r k) * wg (ix3 0 k j) := by
  pointwise [k0_pay5, k0_pay3]

/-- The column piece of the other half at offset 0. -/
theorem up_0 (x0 : Vec Ideal S416x1024 .f32) (x1 : Vec Ideal S1x1024 .f32) (wu : Vec Ideal S1x1024x256 .bf16) (r : Fin 416) (j : Fin 256) :
    (k0_pay6 (F := Ideal) x0 x1 wu) (ix2 r j)
      = ∑ k : Fin 1024, k0_pay2 (F := Ideal) x0 x1 (ix2 r k) * wu (ix3 0 k j) := by
  pointwise [k0_pay6, k0_pay4]

/-- The column piece of the hidden numbers at offset 0. -/
theorem hid_0 (x0 : Vec Ideal S416x1024 .f32) (x1 : Vec Ideal S1x1024 .f32) (wg wu : Vec Ideal S1x1024x256 .bf16) (r : Fin 416) (j : Fin 256) :
    (k0_pay9 (F := Ideal) (k0_pay3 (F := Ideal) x0 x1 wg) (k0_pay4 (F := Ideal) x0 x1 wu) (k0_pay7 (F := Ideal) x0 x1 wg) (k0_pay8 (F := Ideal))) (ix2 r j)
      = hid (∑ k : Fin 1024, k0_pay2 (F := Ideal) x0 x1 (ix2 r k) * wg (ix3 0 k j)) (∑ k : Fin 1024, k0_pay2 (F := Ideal) x0 x1 (ix2 r k) * wu (ix3 0 k j)) := by
  simp only [hid, ← Sigmoid.half_tanh]
  pointwise [k0_pay9, k0_pay3, k0_pay4, k0_pay7, k0_pay8]

/-- The column piece of the gate half at offset 256. -/
theorem gate_256 (n : FVec Ideal S416x1024 .bf16) (wg : Vec Ideal S1x1024x256 .bf16) (r : Fin 416) (j : Fin 256) :
    (k0_pay12 (F := Ideal) n wg) (ix2 r j)
      = ∑ k : Fin 1024, n (ix2 r k) * wg (ix3 0 k j) := by
  pointwise [k0_pay12, k0_pay10]

/-- The column piece of the other half at offset 256. -/
theorem up_256 (n : FVec Ideal S416x1024 .bf16) (wu : Vec Ideal S1x1024x256 .bf16) (r : Fin 416) (j : Fin 256) :
    (k0_pay13 (F := Ideal) n wu) (ix2 r j)
      = ∑ k : Fin 1024, n (ix2 r k) * wu (ix3 0 k j) := by
  pointwise [k0_pay13, k0_pay11]

/-- The column piece of the hidden numbers at offset 256. -/
theorem hid_256 (n : FVec Ideal S416x1024 .bf16) (wg wu : Vec Ideal S1x1024x256 .bf16) (r : Fin 416) (j : Fin 256) :
    (k0_pay14 (F := Ideal) n wg wu) (ix2 r j)
      = hid (∑ k : Fin 1024, n (ix2 r k) * wg (ix3 0 k j)) (∑ k : Fin 1024, n (ix2 r k) * wu (ix3 0 k j)) := by
  simp only [hid, ← Sigmoid.half_tanh]
  pointwise [k0_pay14, k0_pay11, k0_pay10]

/-- The column piece of the gate half at offset 512. -/
theorem gate_512 (n : FVec Ideal S416x1024 .bf16) (wg : Vec Ideal S1x1024x256 .bf16) (r : Fin 416) (j : Fin 256) :
    (k0_pay17 (F := Ideal) (k0_pay15 (F := Ideal) n wg)) (ix2 r j)
      = ∑ k : Fin 1024, n (ix2 r k) * wg (ix3 0 k j) := by
  pointwise [k0_pay17, k0_pay15]

/-- The column piece of the other half at offset 512. -/
theorem up_512 (n : FVec Ideal S416x1024 .bf16) (wu : Vec Ideal S1x1024x256 .bf16) (r : Fin 416) (j : Fin 256) :
    (k0_pay18 (F := Ideal) n wu) (ix2 r j)
      = ∑ k : Fin 1024, n (ix2 r k) * wu (ix3 0 k j) := by
  pointwise [k0_pay18, k0_pay16]

/-- The column piece of the hidden numbers at offset 512. -/
theorem hid_512 (n : FVec Ideal S416x1024 .bf16) (wg wu : Vec Ideal S1x1024x256 .bf16) (r : Fin 416) (j : Fin 256) :
    (k0_pay19 (F := Ideal) n (k0_pay15 (F := Ideal) n wg) wu) (ix2 r j)
      = hid (∑ k : Fin 1024, n (ix2 r k) * wg (ix3 0 k j)) (∑ k : Fin 1024, n (ix2 r k) * wu (ix3 0 k j)) := by
  simp only [hid, ← Sigmoid.half_tanh]
  pointwise [k0_pay19, k0_pay16, k0_pay15]

/-- The column piece of the gate half at offset 768. -/
theorem gate_768 (n : FVec Ideal S416x1024 .bf16) (wg : Vec Ideal S1x1024x256 .bf16) (r : Fin 416) (j : Fin 256) :
    (k0_pay22 (F := Ideal) n wg) (ix2 r j)
      = ∑ k : Fin 1024, n (ix2 r k) * wg (ix3 0 k j) := by
  pointwise [k0_pay22, k0_pay20]

/-- The column piece of the other half at offset 768. -/
theorem up_768 (n : FVec Ideal S416x1024 .bf16) (wu : Vec Ideal S1x1024x256 .bf16) (r : Fin 416) (j : Fin 256) :
    (k0_pay23 (F := Ideal) n wu) (ix2 r j)
      = ∑ k : Fin 1024, n (ix2 r k) * wu (ix3 0 k j) := by
  pointwise [k0_pay23, k0_pay21]

/-- The column piece of the hidden numbers at offset 768. -/
theorem hid_768 (n : FVec Ideal S416x1024 .bf16) (wg wu : Vec Ideal S1x1024x256 .bf16) (r : Fin 416) (j : Fin 256) :
    (k0_pay26 (F := Ideal) (k0_pay20 (F := Ideal) n wg) (k0_pay21 (F := Ideal) n wu) (k0_pay24 (F := Ideal) n wg) (k0_pay25 (F := Ideal))) (ix2 r j)
      = hid (∑ k : Fin 1024, n (ix2 r k) * wg (ix3 0 k j)) (∑ k : Fin 1024, n (ix2 r k) * wu (ix3 0 k j)) := by
  simp only [hid, ← Sigmoid.half_tanh]
  pointwise [k0_pay26, k0_pay20, k0_pay21, k0_pay24, k0_pay25]

/-- The column piece of the gate half at offset 1024. -/
theorem gate_1024 (n : FVec Ideal S416x1024 .bf16) (wg : Vec Ideal S1x1024x256 .bf16) (r : Fin 416) (j : Fin 256) :
    (k0_pay29 (F := Ideal) n wg) (ix2 r j)
      = ∑ k : Fin 1024, n (ix2 r k) * wg (ix3 0 k j) := by
  pointwise [k0_pay29, k0_pay27]

/-- The column piece of the other half at offset 1024. -/
theorem up_1024 (n : FVec Ideal S416x1024 .bf16) (wu : Vec Ideal S1x1024x256 .bf16) (r : Fin 416) (j : Fin 256) :
    (k0_pay30 (F := Ideal) n wu) (ix2 r j)
      = ∑ k : Fin 1024, n (ix2 r k) * wu (ix3 0 k j) := by
  pointwise [k0_pay30, k0_pay28]

/-- The column piece of the hidden numbers at offset 1024. -/
theorem hid_1024 (n : FVec Ideal S416x1024 .bf16) (wg wu : Vec Ideal S1x1024x256 .bf16) (r : Fin 416) (j : Fin 256) :
    (k0_pay31 (F := Ideal) n wg wu) (ix2 r j)
      = hid (∑ k : Fin 1024, n (ix2 r k) * wg (ix3 0 k j)) (∑ k : Fin 1024, n (ix2 r k) * wu (ix3 0 k j)) := by
  simp only [hid, ← Sigmoid.half_tanh]
  pointwise [k0_pay31, k0_pay28, k0_pay27]

/-- The column piece of the gate half at offset 1280. -/
theorem gate_1280 (n : FVec Ideal S416x1024 .bf16) (wg : Vec Ideal S1x1024x128 .bf16) (r : Fin 416) (j : Fin 128) :
    (k0_pay34 (F := Ideal) (k0_pay32 (F := Ideal) n wg)) (ix2 r j)
      = ∑ k : Fin 1024, n (ix2 r k) * wg (ix3 0 k j) := by
  pointwise [k0_pay34, k0_pay32]

/-- The column piece of the other half at offset 1280. -/
theorem up_1280 (n : FVec Ideal S416x1024 .bf16) (wu : Vec Ideal S1x1024x128 .bf16) (r : Fin 416) (j : Fin 128) :
    (k0_pay35 (F := Ideal) n wu) (ix2 r j)
      = ∑ k : Fin 1024, n (ix2 r k) * wu (ix3 0 k j) := by
  pointwise [k0_pay35, k0_pay33]

/-- The column piece of the hidden numbers at offset 1280. -/
theorem hid_1280 (n : FVec Ideal S416x1024 .bf16) (wg wu : Vec Ideal S1x1024x128 .bf16) (r : Fin 416) (j : Fin 128) :
    (k0_pay36 (F := Ideal) n (k0_pay32 (F := Ideal) n wg) wu) (ix2 r j)
      = hid (∑ k : Fin 1024, n (ix2 r k) * wg (ix3 0 k j)) (∑ k : Fin 1024, n (ix2 r k) * wu (ix3 0 k j)) := by
  simp only [hid, ← Sigmoid.half_tanh]
  pointwise [k0_pay36, k0_pay33, k0_pay32]

/-- The column piece of the gate half at offset 1408. -/
theorem gate_1408 (n : FVec Ideal S416x1024 .bf16) (wg : Vec Ideal S1x1024x256 .bf16) (r : Fin 416) (j : Fin 256) :
    (k0_pay40 (F := Ideal) n wg) (ix2 r j)
      = ∑ k : Fin 1024, n (ix2 r k) * wg (ix3 0 k j) := by
  pointwise [k0_pay40, k0_pay38]

/-- The column piece of the other half at offset 1408. -/
theorem up_1408 (n : FVec Ideal S416x1024 .bf16) (wu : Vec Ideal S1x1024x256 .bf16) (r : Fin 416) (j : Fin 256) :
    (k0_pay41 (F := Ideal) (k0_pay39 (F := Ideal) n wu)) (ix2 r j)
      = ∑ k : Fin 1024, n (ix2 r k) * wu (ix3 0 k j) := by
  pointwise [k0_pay41, k0_pay39]

/-- The column piece of the hidden numbers at offset 1408. -/
theorem hid_1408 (n : FVec Ideal S416x1024 .bf16) (wg wu : Vec Ideal S1x1024x256 .bf16) (r : Fin 416) (j : Fin 256) :
    (k0_pay42 (F := Ideal) (k0_pay38 (F := Ideal) n wg) (k0_pay39 (F := Ideal) n wu)) (ix2 r j)
      = hid (∑ k : Fin 1024, n (ix2 r k) * wg (ix3 0 k j)) (∑ k : Fin 1024, n (ix2 r k) * wu (ix3 0 k j)) := by
  simp only [hid, ← Sigmoid.half_tanh]
  pointwise [k0_pay42, k0_pay38, k0_pay39]

/-- The column piece of the gate half at offset 1664. -/
theorem gate_1664 (n : FVec Ideal S416x1024 .bf16) (wg : Vec Ideal S1x1024x256 .bf16) (r : Fin 416) (j : Fin 256) :
    (k0_pay45 (F := Ideal) n wg) (ix2 r j)
      = ∑ k : Fin 1024, n (ix2 r k) * wg (ix3 0 k j) := by
  pointwise [k0_pay45, k0_pay43]

/-- The column piece of the other half at offset 1664. -/
theorem up_1664 (n : FVec Ideal S416x1024 .bf16) (wu : Vec Ideal S1x1024x256 .bf16) (r : Fin 416) (j : Fin 256) :
    (k0_pay46 (F := Ideal) n wu) (ix2 r j)
      = ∑ k : Fin 1024, n (ix2 r k) * wu (ix3 0 k j) := by
  pointwise [k0_pay46, k0_pay44]

/-- The column piece of the hidden numbers at offset 1664. -/
theorem hid_1664 (n : FVec Ideal S416x1024 .bf16) (wg wu : Vec Ideal S1x1024x256 .bf16) (r : Fin 416) (j : Fin 256) :
    (k0_pay48 (F := Ideal) (k0_pay44 (F := Ideal) n wu) (k0_pay47 (F := Ideal) n wg)) (ix2 r j)
      = hid (∑ k : Fin 1024, n (ix2 r k) * wg (ix3 0 k j)) (∑ k : Fin 1024, n (ix2 r k) * wu (ix3 0 k j)) := by
  simp only [hid, ← Sigmoid.half_tanh]
  pointwise [k0_pay48, k0_pay44, k0_pay47, k0_pay43]

/-- The column piece of the gate half at offset 1920. -/
theorem gate_1920 (n : FVec Ideal S416x1024 .bf16) (wg : Vec Ideal S1x1024x256 .bf16) (r : Fin 416) (j : Fin 256) :
    (k0_pay51 (F := Ideal) n wg) (ix2 r j)
      = ∑ k : Fin 1024, n (ix2 r k) * wg (ix3 0 k j) := by
  pointwise [k0_pay51, k0_pay49]

/-- The column piece of the other half at offset 1920. -/
theorem up_1920 (n : FVec Ideal S416x1024 .bf16) (wu : Vec Ideal S1x1024x256 .bf16) (r : Fin 416) (j : Fin 256) :
    (k0_pay52 (F := Ideal) n wu) (ix2 r j)
      = ∑ k : Fin 1024, n (ix2 r k) * wu (ix3 0 k j) := by
  pointwise [k0_pay52, k0_pay50]

/-- The column piece of the hidden numbers at offset 1920. -/
theorem hid_1920 (n : FVec Ideal S416x1024 .bf16) (wg wu : Vec Ideal S1x1024x256 .bf16) (r : Fin 416) (j : Fin 256) :
    (k0_pay53 (F := Ideal) n wg wu) (ix2 r j)
      = hid (∑ k : Fin 1024, n (ix2 r k) * wg (ix3 0 k j)) (∑ k : Fin 1024, n (ix2 r k) * wu (ix3 0 k j)) := by
  simp only [hid, ← Sigmoid.half_tanh]
  pointwise [k0_pay53, k0_pay50, k0_pay49]

/-- The column piece of the gate half at offset 2176. -/
theorem gate_2176 (n : FVec Ideal S416x1024 .bf16) (wg : Vec Ideal S1x1024x256 .bf16) (r : Fin 416) (j : Fin 256) :
    (k0_pay57 (F := Ideal) (k0_pay54 (F := Ideal) n wg)) (ix2 r j)
      = ∑ k : Fin 1024, n (ix2 r k) * wg (ix3 0 k j) := by
  pointwise [k0_pay57, k0_pay54]

/-- The column piece of the other half at offset 2176. -/
theorem up_2176 (n : FVec Ideal S416x1024 .bf16) (wu : Vec Ideal S1x1024x256 .bf16) (r : Fin 416) (j : Fin 256) :
    (k0_pay58 (F := Ideal) n (k0_pay55 (F := Ideal) wu) (constant (F := Ideal) S416x256 .f32 0x00000000#32)) (ix2 r j)
      = ∑ k : Fin 1024, n (ix2 r k) * wu (ix3 0 k j) := by
  pointwise [k0_pay58, k0_pay56, k0_pay55]

/-- The column piece of the hidden numbers at offset 2176. -/
theorem hid_2176 (n : FVec Ideal S416x1024 .bf16) (wg wu : Vec Ideal S1x1024x256 .bf16) (r : Fin 416) (j : Fin 256) :
    (k0_pay59 (F := Ideal) n (k0_pay54 (F := Ideal) n wg) (k0_pay55 (F := Ideal) wu) (constant (F := Ideal) S416x256 .f32 0x00000000#32)) (ix2 r j)
      = hid (∑ k : Fin 1024, n (ix2 r k) * wg (ix3 0 k j)) (∑ k : Fin 1024, n (ix2 r k) * wu (ix3 0 k j)) := by
  simp only [hid, ← Sigmoid.half_tanh]
  pointwise [k0_pay59, k0_pay56, k0_pay54, k0_pay55]

/-- The column piece of the gate half at offset 2432. -/
theorem gate_2432 (n : FVec Ideal S416x1024 .bf16) (wg : Vec Ideal S1x1024x256 .bf16) (r : Fin 416) (j : Fin 256) :
    (k0_pay62 (F := Ideal) n wg) (ix2 r j)
      = ∑ k : Fin 1024, n (ix2 r k) * wg (ix3 0 k j) := by
  pointwise [k0_pay62, k0_pay60]

/-- The column piece of the other half at offset 2432. -/
theorem up_2432 (n : FVec Ideal S416x1024 .bf16) (wu : Vec Ideal S1x1024x256 .bf16) (r : Fin 416) (j : Fin 256) :
    (k0_pay63 (F := Ideal) n wu) (ix2 r j)
      = ∑ k : Fin 1024, n (ix2 r k) * wu (ix3 0 k j) := by
  pointwise [k0_pay63, k0_pay61]

/-- The column piece of the hidden numbers at offset 2432. -/
theorem hid_2432 (n : FVec Ideal S416x1024 .bf16) (wg wu : Vec Ideal S1x1024x256 .bf16) (r : Fin 416) (j : Fin 256) :
    (k0_pay65 (F := Ideal) (k0_pay60 (F := Ideal) n wg) (k0_pay61 (F := Ideal) n wu) (k0_pay64 (F := Ideal) n wg) (Scalar.ofBits (F := Ideal) .f32 0x3F000000#32)) (ix2 r j)
      = hid (∑ k : Fin 1024, n (ix2 r k) * wg (ix3 0 k j)) (∑ k : Fin 1024, n (ix2 r k) * wu (ix3 0 k j)) := by
  simp only [hid, ← Sigmoid.half_tanh]
  pointwise [k0_pay65, k0_pay60, k0_pay61, k0_pay64]

/-- The column piece of the gate half at offset 2688. -/
theorem gate_2688 (n : FVec Ideal S416x1024 .bf16) (wg : Vec Ideal S1x1024x128 .bf16) (r : Fin 416) (j : Fin 128) :
    (k0_pay68 (F := Ideal) n wg) (ix2 r j)
      = ∑ k : Fin 1024, n (ix2 r k) * wg (ix3 0 k j) := by
  pointwise [k0_pay68, k0_pay66]

/-- The column piece of the other half at offset 2688. -/
theorem up_2688 (n : FVec Ideal S416x1024 .bf16) (wu : Vec Ideal S1x1024x128 .bf16) (r : Fin 416) (j : Fin 128) :
    (k0_pay69 (F := Ideal) n wu) (ix2 r j)
      = ∑ k : Fin 1024, n (ix2 r k) * wu (ix3 0 k j) := by
  pointwise [k0_pay69, k0_pay67]

/-- The column piece of the hidden numbers at offset 2688. -/
theorem hid_2688 (n : FVec Ideal S416x1024 .bf16) (wg wu : Vec Ideal S1x1024x128 .bf16) (r : Fin 416) (j : Fin 128) :
    (k0_pay70 (F := Ideal) n wg wu) (ix2 r j)
      = hid (∑ k : Fin 1024, n (ix2 r k) * wg (ix3 0 k j)) (∑ k : Fin 1024, n (ix2 r k) * wu (ix3 0 k j)) := by
  simp only [hid, ← Sigmoid.half_tanh]
  pointwise [k0_pay70, k0_pay67, k0_pay66]

/-- The block of the output: the input plus half of the second product, in its two halves of 1408 terms. -/
theorem final (x0 : Vec Ideal S416x1024 .f32) (a b : Vec Ideal S416x1408 .bf16) (v w : Vec Ideal S1x1408x1024 .bf16) (r : Fin 416) (k : Fin 1024) :
    k0_pay1 (F := Ideal) x0 (k0_pay37 (F := Ideal) a v) (k0_pay71 (F := Ideal) b) (k0_pay72 (F := Ideal) w) (constant (F := Ideal) S416x1024 .f32 0x00000000#32) (ix2 r k)
      = x0 (ix2 r k) + half * ((∑ j : Fin 1408, a (ix2 r j) * v (ix3 0 j k)) + ∑ j : Fin 1408, b (ix2 r j) * w (ix3 0 j k)) := by
  pointwise [k0_pay1, k0_pay37, k0_pay71, k0_pay72]
  rfl

end Cert.Proof.FfnFwd
-- ==== Proof.FfnFwd.Hidden.lean ====
module

public import proofs.«01_k».proof.Proof.FfnFwd.Pieces
public import proofs.«01_k».proof.Proof.FfnFwd.Payloads
public import Idealize.ShloMosaic.Lib.Pipeline.ReadBack

@[expose] public section

/-! The twelve column pieces of each half and of the hidden numbers are the columns of one function, so the block they
fill is that function, and so is what the second product reads of it. -/

set_option maxRecDepth 16384

noncomputable section

namespace Cert.Proof.FfnFwd

open Cert.FfnFwdKernelIdeal Cert.FfnFwdKernelIdeal.Gen Idealize.ShloMosaic Idealize.SL.Sem

/-- Column `c` of 2816 is column `pos c` of the group `grp q c` of 1408: the gate half's groups are 0 and 1, the other's 2 and 3. -/
def grp (q : Fin 3) (c : Fin 2816) (hq : q.val ≤ 2) : Fin 4 := ⟨q.val + c.val / 1408, by have := c.isLt; omega⟩
def pos (c : Fin 2816) : Fin 1408 := ⟨c.val % 1408, Nat.mod_lt _ (by decide)⟩

/-- The normalised row against a column of one half of the first weight. -/
def colAt (n : FVec Ideal S416x1024 .bf16) (x2 : Vec Ideal S4x1024x1408 .bf16) (q : Fin 3) (r : Fin 416) (c : Fin 2816) : EReal :=
  ∑ k : Fin 1024, n (ix2 r k) * x2 (ix3 (grp q c (by have := q.isLt; omega)) k (pos c))

variable (x0 : Vec Ideal S416x1024 .f32) (x1 : Vec Ideal S1x1024 .f32) (x2 : Vec Ideal S4x1024x1408 .bf16)
  (x3 : Vec Ideal S2x1408x1024 .bf16) (n : FVec Ideal S416x1024 .bf16)

/-- The gate half, the other half and the hidden numbers in a block. -/
def gateAt (r : Fin 416) (c : Fin 2816) : EReal := colAt (k0_pay2 (F := Ideal) x0 x1) x2 0 r c
def upAt (r : Fin 416) (c : Fin 2816) : EReal := colAt (k0_pay2 (F := Ideal) x0 x1) x2 2 r c
def hidsAt (r : Fin 416) (c : Fin 2816) : EReal := hid (gateAt x0 x1 x2 r c) (upAt x0 x1 x2 r c)

/-- The place of a piece's entry in the block. -/
theorem place (o W : Nat) (h : ∀ a, (![0, o] : Fin 2 → Nat) a + (![416, W] : Fin 2 → Nat) a ≤ S416x2816.size a) (r : Fin 416) (j : Fin W) :
    (Rect.unit (s := S416x2816) ![0, o] ![416, W] h).emb (ix2 r j)
      = ix2 r (⟨o + j.val, by have := h 1; have := j.isLt; simp at *; omega⟩ : Fin 2816) := by
  funext a
  match a with
  | ⟨0, _⟩ => exact Fin.ext (show 0 + 1 * r.val = r.val by omega)
  | ⟨1, _⟩ => exact Fin.ext (show o + 1 * j.val = o + j.val by omega)

/-- The place of a column of the first weight that a piece uses. -/
theorem wplace (q : Fin 3) (s o p W : Nat) (hs : q.val ≤ s) (ho : o = (s - q.val) * 1408 + p) (hp : p + W ≤ 1408)
    (h : ∀ a, (![s, 0, p] : Fin 3 → Nat) a + (![1, 1024, W] : Fin 3 → Nat) a ≤ S4x1024x1408.size a)
    (j : Fin W) (hj : o + j.val < 2816) (k : Fin 1024) :
    (Rect.unit (s := S4x1024x1408) ![s, 0, p] ![1, 1024, W] h).emb (ix3 0 k j)
      = ix3 (grp q ⟨o + j.val, hj⟩ (by have := q.isLt; omega)) k (pos ⟨o + j.val, hj⟩) := by
  funext a
  have := j.isLt
  match a with
  | ⟨0, _⟩ => exact Fin.ext (show s + 1 * 0 = q.val + (o + j.val) / 1408 by omega)
  | ⟨1, _⟩ => exact Fin.ext (show 0 + 1 * k.val = k.val by omega)
  | ⟨2, _⟩ => exact Fin.ext (show p + 1 * j.val = (o + j.val) % 1408 by omega)

/-- A piece of one half at its place. -/
theorem col_place (q : Fin 3) (s o p W : Nat) (hs : q.val ≤ s) (ho : o = (s - q.val) * 1408 + p) (hp : p + W ≤ 1408)
    (h : ∀ a, (![0, o] : Fin 2 → Nat) a + (![416, W] : Fin 2 → Nat) a ≤ S416x2816.size a)
    (hw : ∀ a, (![s, 0, p] : Fin 3 → Nat) a + (![1, 1024, W] : Fin 3 → Nat) a ≤ S4x1024x1408.size a) (r : Fin 416) (j : Fin W) :
    (∑ k : Fin 1024, n (ix2 r k) * x2 ((Rect.unit (s := S4x1024x1408) ![s, 0, p] ![1, 1024, W] hw).emb (ix3 0 k j)))
      = (fun y : S416x2816.Idx => colAt n x2 q (y 0) (y 1)) ((Rect.unit (s := S416x2816) ![0, o] ![416, W] h).emb (ix2 r j)) := by
  rw [place]
  simp only [wplace q s o p W hs ho hp hw j (by have := h 1; have := j.isLt; simp at *; omega)]
  rfl

/-- A piece of the hidden numbers at its place. -/
theorem hid_place (s s' o p W : Nat) (ho : o = s * 1408 + p) (hs : 2 ≤ s') (ho' : o = (s' - 2) * 1408 + p) (hp : p + W ≤ 1408)
    (h : ∀ a, (![0, o] : Fin 2 → Nat) a + (![416, W] : Fin 2 → Nat) a ≤ S416x2816.size a)
    (hw : ∀ a, (![s, 0, p] : Fin 3 → Nat) a + (![1, 1024, W] : Fin 3 → Nat) a ≤ S4x1024x1408.size a)
    (hw' : ∀ a, (![s', 0, p] : Fin 3 → Nat) a + (![1, 1024, W] : Fin 3 → Nat) a ≤ S4x1024x1408.size a) (r : Fin 416) (j : Fin W) :
    hid (∑ k : Fin 1024, k0_pay2 (F := Ideal) x0 x1 (ix2 r k) * x2 ((Rect.unit (s := S4x1024x1408) ![s, 0, p] ![1, 1024, W] hw).emb (ix3 0 k j)))
        (∑ k : Fin 1024, k0_pay2 (F := Ideal) x0 x1 (ix2 r k) * x2 ((Rect.unit (s := S4x1024x1408) ![s', 0, p] ![1, 1024, W] hw').emb (ix3 0 k j)))
      = (fun y : S416x2816.Idx => hidsAt x0 x1 x2 (y 0) (y 1)) ((Rect.unit (s := S416x2816) ![0, o] ![416, W] h).emb (ix2 r j)) := by
  rw [col_place x2 _ 0 s o p W (Nat.zero_le _) ho hp h hw r j, col_place x2 _ 2 s' o p W hs ho' hp h hw' r j]
  rfl

theorem gate1_pieces : View.PiecesOf (Val := Elt Ideal) (fun y : S416x2816.Idx => gateAt x0 x1 x2 (y 0) (y 1)) (gate1 x0 x1 x2) := by
  unfold gate1
  refine ⟨?_, ?_, ?_, ?_, ?_, ?_, trivial⟩
  · intro (x : S416x128.Idx)
    obtain ⟨r, j, rfl⟩ : ∃ (r : Fin 416) (j : Fin 128), x = ix2 r j := ⟨_, _, eq_ix2 x⟩
    exact (gate_1280 _ _ r j).trans (col_place x2 (k0_pay2 (F := Ideal) x0 x1) 0 0 1280 1280 128 (by decide) (by decide) (by decide) (by decide) _ r j)
  · intro (x : S416x256.Idx)
    obtain ⟨r, j, rfl⟩ : ∃ (r : Fin 416) (j : Fin 256), x = ix2 r j := ⟨_, _, eq_ix2 x⟩
    exact (gate_1024 _ _ r j).trans (col_place x2 (k0_pay2 (F := Ideal) x0 x1) 0 0 1024 1024 256 (by decide) (by decide) (by decide) (by decide) _ r j)
  · intro (x : S416x256.Idx)
    obtain ⟨r, j, rfl⟩ : ∃ (r : Fin 416) (j : Fin 256), x = ix2 r j := ⟨_, _, eq_ix2 x⟩
    exact (gate_768 _ _ r j).trans (col_place x2 (k0_pay2 (F := Ideal) x0 x1) 0 0 768 768 256 (by decide) (by decide) (by decide) (by decide) _ r j)
  · intro (x : S416x256.Idx)
    obtain ⟨r, j, rfl⟩ : ∃ (r : Fin 416) (j : Fin 256), x = ix2 r j := ⟨_, _, eq_ix2 x⟩
    exact (gate_512 _ _ r j).trans (col_place x2 (k0_pay2 (F := Ideal) x0 x1) 0 0 512 512 256 (by decide) (by decide) (by decide) (by decide) _ r j)
  · intro (x : S416x256.Idx)
    obtain ⟨r, j, rfl⟩ : ∃ (r : Fin 416) (j : Fin 256), x = ix2 r j := ⟨_, _, eq_ix2 x⟩
    exact (gate_256 _ _ r j).trans (col_place x2 (k0_pay2 (F := Ideal) x0 x1) 0 0 256 256 256 (by decide) (by decide) (by decide) (by decide) _ r j)
  · intro (x : S416x256.Idx)
    obtain ⟨r, j, rfl⟩ : ∃ (r : Fin 416) (j : Fin 256), x = ix2 r j := ⟨_, _, eq_ix2 x⟩
    exact (gate_0 x0 x1 _ r j).trans (col_place x2 (k0_pay2 (F := Ideal) x0 x1) 0 0 0 0 256 (by decide) (by decide) (by decide) (by decide) _ r j)

theorem gate2_pieces : View.PiecesOf (Val := Elt Ideal) (fun y : S416x2816.Idx => gateAt x0 x1 x2 (y 0) (y 1)) (gate2 x0 x1 x2) := by
  unfold gate2
  refine ⟨?_, ?_, ?_, ?_, ?_, ?_, trivial⟩
  · intro (x : S416x128.Idx)
    obtain ⟨r, j, rfl⟩ : ∃ (r : Fin 416) (j : Fin 128), x = ix2 r j := ⟨_, _, eq_ix2 x⟩
    exact (gate_2688 _ _ r j).trans (col_place x2 (k0_pay2 (F := Ideal) x0 x1) 0 1 2688 1280 128 (by decide) (by decide) (by decide) (by decide) _ r j)
  · intro (x : S416x256.Idx)
    obtain ⟨r, j, rfl⟩ : ∃ (r : Fin 416) (j : Fin 256), x = ix2 r j := ⟨_, _, eq_ix2 x⟩
    exact (gate_2432 _ _ r j).trans (col_place x2 (k0_pay2 (F := Ideal) x0 x1) 0 1 2432 1024 256 (by decide) (by decide) (by decide) (by decide) _ r j)
  · intro (x : S416x256.Idx)
    obtain ⟨r, j, rfl⟩ : ∃ (r : Fin 416) (j : Fin 256), x = ix2 r j := ⟨_, _, eq_ix2 x⟩
    exact (gate_2176 _ _ r j).trans (col_place x2 (k0_pay2 (F := Ideal) x0 x1) 0 1 2176 768 256 (by decide) (by decide) (by decide) (by decide) _ r j)
  · intro (x : S416x256.Idx)
    obtain ⟨r, j, rfl⟩ : ∃ (r : Fin 416) (j : Fin 256), x = ix2 r j := ⟨_, _, eq_ix2 x⟩
    exact (gate_1920 _ _ r j).trans (col_place x2 (k0_pay2 (F := Ideal) x0 x1) 0 1 1920 512 256 (by decide) (by decide) (by decide) (by decide) _ r j)
  · intro (x : S416x256.Idx)
    obtain ⟨r, j, rfl⟩ : ∃ (r : Fin 416) (j : Fin 256), x = ix2 r j := ⟨_, _, eq_ix2 x⟩
    exact (gate_1664 _ _ r j).trans (col_place x2 (k0_pay2 (F := Ideal) x0 x1) 0 1 1664 256 256 (by decide) (by decide) (by decide) (by decide) _ r j)
  · intro (x : S416x256.Idx)
    obtain ⟨r, j, rfl⟩ : ∃ (r : Fin 416) (j : Fin 256), x = ix2 r j := ⟨_, _, eq_ix2 x⟩
    exact (gate_1408 _ _ r j).trans (col_place x2 (k0_pay2 (F := Ideal) x0 x1) 0 1 1408 0 256 (by decide) (by decide) (by decide) (by decide) _ r j)

/-- The block they fill. -/
theorem gate_block (y : S416x2816.Idx) :
    View.canon (Val := Elt Ideal) (gate2 x0 x1 x2 ++ gate1 x0 x1 x2) y = gateAt x0 x1 x2 (y 0) (y 1) := by
  have hp : View.PiecesOf (Val := Elt Ideal) (fun y : S416x2816.Idx => gateAt x0 x1 x2 (y 0) (y 1)) (gate2 x0 x1 x2 ++ gate1 x0 x1 x2) := by
    obtain ⟨a, b, c, d, e, f, -⟩ := gate2_pieces x0 x1 x2
    exact ⟨a, b, c, d, e, f, gate1_pieces x0 x1 x2⟩
  have h := View.canon_append_of_piecesOf (Val := Elt Ideal) _ [] _ hp y (View.cover_of_tiledBy _ ![416, 128] (by sl_kernel_rfl) y)
  rwa [List.append_nil] at h

theorem up1_pieces : View.PiecesOf (Val := Elt Ideal) (fun y : S416x2816.Idx => upAt x0 x1 x2 (y 0) (y 1)) (up1 x0 x1 x2) := by
  unfold up1
  refine ⟨?_, ?_, ?_, ?_, ?_, ?_, trivial⟩
  · intro (x : S416x128.Idx)
    obtain ⟨r, j, rfl⟩ : ∃ (r : Fin 416) (j : Fin 128), x = ix2 r j := ⟨_, _, eq_ix2 x⟩
    exact (up_1280 _ _ r j).trans (col_place x2 (k0_pay2 (F := Ideal) x0 x1) 2 2 1280 1280 128 (by decide) (by decide) (by decide) (by decide) _ r j)
  · intro (x : S416x256.Idx)
    obtain ⟨r, j, rfl⟩ : ∃ (r : Fin 416) (j : Fin 256), x = ix2 r j := ⟨_, _, eq_ix2 x⟩
    exact (up_1024 _ _ r j).trans (col_place x2 (k0_pay2 (F := Ideal) x0 x1) 2 2 1024 1024 256 (by decide) (by decide) (by decide) (by decide) _ r j)
  · intro (x : S416x256.Idx)
    obtain ⟨r, j, rfl⟩ : ∃ (r : Fin 416) (j : Fin 256), x = ix2 r j := ⟨_, _, eq_ix2 x⟩
    exact (up_768 _ _ r j).trans (col_place x2 (k0_pay2 (F := Ideal) x0 x1) 2 2 768 768 256 (by decide) (by decide) (by decide) (by decide) _ r j)
  · intro (x : S416x256.Idx)
    obtain ⟨r, j, rfl⟩ : ∃ (r : Fin 416) (j : Fin 256), x = ix2 r j := ⟨_, _, eq_ix2 x⟩
    exact (up_512 _ _ r j).trans (col_place x2 (k0_pay2 (F := Ideal) x0 x1) 2 2 512 512 256 (by decide) (by decide) (by decide) (by decide) _ r j)
  · intro (x : S416x256.Idx)
    obtain ⟨r, j, rfl⟩ : ∃ (r : Fin 416) (j : Fin 256), x = ix2 r j := ⟨_, _, eq_ix2 x⟩
    exact (up_256 _ _ r j).trans (col_place x2 (k0_pay2 (F := Ideal) x0 x1) 2 2 256 256 256 (by decide) (by decide) (by decide) (by decide) _ r j)
  · intro (x : S416x256.Idx)
    obtain ⟨r, j, rfl⟩ : ∃ (r : Fin 416) (j : Fin 256), x = ix2 r j := ⟨_, _, eq_ix2 x⟩
    exact (up_0 x0 x1 _ r j).trans (col_place x2 (k0_pay2 (F := Ideal) x0 x1) 2 2 0 0 256 (by decide) (by decide) (by decide) (by decide) _ r j)

theorem up2_pieces : View.PiecesOf (Val := Elt Ideal) (fun y : S416x2816.Idx => upAt x0 x1 x2 (y 0) (y 1)) (up2 x0 x1 x2) := by
  unfold up2
  refine ⟨?_, ?_, ?_, ?_, ?_, ?_, trivial⟩
  · intro (x : S416x128.Idx)
    obtain ⟨r, j, rfl⟩ : ∃ (r : Fin 416) (j : Fin 128), x = ix2 r j := ⟨_, _, eq_ix2 x⟩
    exact (up_2688 _ _ r j).trans (col_place x2 (k0_pay2 (F := Ideal) x0 x1) 2 3 2688 1280 128 (by decide) (by decide) (by decide) (by decide) _ r j)
  · intro (x : S416x256.Idx)
    obtain ⟨r, j, rfl⟩ : ∃ (r : Fin 416) (j : Fin 256), x = ix2 r j := ⟨_, _, eq_ix2 x⟩
    exact (up_2432 _ _ r j).trans (col_place x2 (k0_pay2 (F := Ideal) x0 x1) 2 3 2432 1024 256 (by decide) (by decide) (by decide) (by decide) _ r j)
  · intro (x : S416x256.Idx)
    obtain ⟨r, j, rfl⟩ : ∃ (r : Fin 416) (j : Fin 256), x = ix2 r j := ⟨_, _, eq_ix2 x⟩
    exact (up_2176 _ _ r j).trans (col_place x2 (k0_pay2 (F := Ideal) x0 x1) 2 3 2176 768 256 (by decide) (by decide) (by decide) (by decide) _ r j)
  · intro (x : S416x256.Idx)
    obtain ⟨r, j, rfl⟩ : ∃ (r : Fin 416) (j : Fin 256), x = ix2 r j := ⟨_, _, eq_ix2 x⟩
    exact (up_1920 _ _ r j).trans (col_place x2 (k0_pay2 (F := Ideal) x0 x1) 2 3 1920 512 256 (by decide) (by decide) (by decide) (by decide) _ r j)
  · intro (x : S416x256.Idx)
    obtain ⟨r, j, rfl⟩ : ∃ (r : Fin 416) (j : Fin 256), x = ix2 r j := ⟨_, _, eq_ix2 x⟩
    exact (up_1664 _ _ r j).trans (col_place x2 (k0_pay2 (F := Ideal) x0 x1) 2 3 1664 256 256 (by decide) (by decide) (by decide) (by decide) _ r j)
  · intro (x : S416x256.Idx)
    obtain ⟨r, j, rfl⟩ : ∃ (r : Fin 416) (j : Fin 256), x = ix2 r j := ⟨_, _, eq_ix2 x⟩
    exact (up_1408 _ _ r j).trans (col_place x2 (k0_pay2 (F := Ideal) x0 x1) 2 3 1408 0 256 (by decide) (by decide) (by decide) (by decide) _ r j)

/-- The block they fill. -/
theorem up_block (y : S416x2816.Idx) :
    View.canon (Val := Elt Ideal) (up2 x0 x1 x2 ++ up1 x0 x1 x2) y = upAt x0 x1 x2 (y 0) (y 1) := by
  have hp : View.PiecesOf (Val := Elt Ideal) (fun y : S416x2816.Idx => upAt x0 x1 x2 (y 0) (y 1)) (up2 x0 x1 x2 ++ up1 x0 x1 x2) := by
    obtain ⟨a, b, c, d, e, f, -⟩ := up2_pieces x0 x1 x2
    exact ⟨a, b, c, d, e, f, up1_pieces x0 x1 x2⟩
  have h := View.canon_append_of_piecesOf (Val := Elt Ideal) _ [] _ hp y (View.cover_of_tiledBy _ ![416, 128] (by sl_kernel_rfl) y)
  rwa [List.append_nil] at h

theorem hids1_pieces : View.PiecesOf (Val := Elt Ideal) (fun y : S416x2816.Idx => hidsAt x0 x1 x2 (y 0) (y 1)) (hids1 x0 x1 x2) := by
  unfold hids1
  refine ⟨?_, ?_, ?_, ?_, ?_, ?_, trivial⟩
  · intro (x : S416x128.Idx)
    obtain ⟨r, j, rfl⟩ : ∃ (r : Fin 416) (j : Fin 128), x = ix2 r j := ⟨_, _, eq_ix2 x⟩
    exact (hid_1280 _ _ _ r j).trans (hid_place x0 x1 x2 0 2 1280 1280 128 (by decide) (by decide) (by decide) (by decide) (by decide) _ _ r j)
  · intro (x : S416x256.Idx)
    obtain ⟨r, j, rfl⟩ : ∃ (r : Fin 416) (j : Fin 256), x = ix2 r j := ⟨_, _, eq_ix2 x⟩
    exact (hid_1024 _ _ _ r j).trans (hid_place x0 x1 x2 0 2 1024 1024 256 (by decide) (by decide) (by decide) (by decide) (by decide) _ _ r j)
  · intro (x : S416x256.Idx)
    obtain ⟨r, j, rfl⟩ : ∃ (r : Fin 416) (j : Fin 256), x = ix2 r j := ⟨_, _, eq_ix2 x⟩
    exact (hid_768 _ _ _ r j).trans (hid_place x0 x1 x2 0 2 768 768 256 (by decide) (by decide) (by decide) (by decide) (by decide) _ _ r j)
  · intro (x : S416x256.Idx)
    obtain ⟨r, j, rfl⟩ : ∃ (r : Fin 416) (j : Fin 256), x = ix2 r j := ⟨_, _, eq_ix2 x⟩
    exact (hid_512 _ _ _ r j).trans (hid_place x0 x1 x2 0 2 512 512 256 (by decide) (by decide) (by decide) (by decide) (by decide) _ _ r j)
  · intro (x : S416x256.Idx)
    obtain ⟨r, j, rfl⟩ : ∃ (r : Fin 416) (j : Fin 256), x = ix2 r j := ⟨_, _, eq_ix2 x⟩
    exact (hid_256 _ _ _ r j).trans (hid_place x0 x1 x2 0 2 256 256 256 (by decide) (by decide) (by decide) (by decide) (by decide) _ _ r j)
  · intro (x : S416x256.Idx)
    obtain ⟨r, j, rfl⟩ : ∃ (r : Fin 416) (j : Fin 256), x = ix2 r j := ⟨_, _, eq_ix2 x⟩
    exact (hid_0 x0 x1 _ _ r j).trans (hid_place x0 x1 x2 0 2 0 0 256 (by decide) (by decide) (by decide) (by decide) (by decide) _ _ r j)

theorem hids2_pieces : View.PiecesOf (Val := Elt Ideal) (fun y : S416x2816.Idx => hidsAt x0 x1 x2 (y 0) (y 1)) (hids2 x0 x1 x2) := by
  unfold hids2
  refine ⟨?_, ?_, ?_, ?_, ?_, ?_, trivial⟩
  · intro (x : S416x128.Idx)
    obtain ⟨r, j, rfl⟩ : ∃ (r : Fin 416) (j : Fin 128), x = ix2 r j := ⟨_, _, eq_ix2 x⟩
    exact (hid_2688 _ _ _ r j).trans (hid_place x0 x1 x2 1 3 2688 1280 128 (by decide) (by decide) (by decide) (by decide) (by decide) _ _ r j)
  · intro (x : S416x256.Idx)
    obtain ⟨r, j, rfl⟩ : ∃ (r : Fin 416) (j : Fin 256), x = ix2 r j := ⟨_, _, eq_ix2 x⟩
    exact (hid_2432 _ _ _ r j).trans (hid_place x0 x1 x2 1 3 2432 1024 256 (by decide) (by decide) (by decide) (by decide) (by decide) _ _ r j)
  · intro (x : S416x256.Idx)
    obtain ⟨r, j, rfl⟩ : ∃ (r : Fin 416) (j : Fin 256), x = ix2 r j := ⟨_, _, eq_ix2 x⟩
    exact (hid_2176 _ _ _ r j).trans (hid_place x0 x1 x2 1 3 2176 768 256 (by decide) (by decide) (by decide) (by decide) (by decide) _ _ r j)
  · intro (x : S416x256.Idx)
    obtain ⟨r, j, rfl⟩ : ∃ (r : Fin 416) (j : Fin 256), x = ix2 r j := ⟨_, _, eq_ix2 x⟩
    exact (hid_1920 _ _ _ r j).trans (hid_place x0 x1 x2 1 3 1920 512 256 (by decide) (by decide) (by decide) (by decide) (by decide) _ _ r j)
  · intro (x : S416x256.Idx)
    obtain ⟨r, j, rfl⟩ : ∃ (r : Fin 416) (j : Fin 256), x = ix2 r j := ⟨_, _, eq_ix2 x⟩
    exact (hid_1664 _ _ _ r j).trans (hid_place x0 x1 x2 1 3 1664 256 256 (by decide) (by decide) (by decide) (by decide) (by decide) _ _ r j)
  · intro (x : S416x256.Idx)
    obtain ⟨r, j, rfl⟩ : ∃ (r : Fin 416) (j : Fin 256), x = ix2 r j := ⟨_, _, eq_ix2 x⟩
    exact (hid_1408 _ _ _ r j).trans (hid_place x0 x1 x2 1 3 1408 0 256 (by decide) (by decide) (by decide) (by decide) (by decide) _ _ r j)

/-- The block they fill. -/
theorem hids_block (y : S416x2816.Idx) :
    View.canon (Val := Elt Ideal) (hids2 x0 x1 x2 ++ hids1 x0 x1 x2) y = hidsAt x0 x1 x2 (y 0) (y 1) := by
  have hp : View.PiecesOf (Val := Elt Ideal) (fun y : S416x2816.Idx => hidsAt x0 x1 x2 (y 0) (y 1)) (hids2 x0 x1 x2 ++ hids1 x0 x1 x2) := by
    obtain ⟨a, b, c, d, e, f, -⟩ := hids2_pieces x0 x1 x2
    exact ⟨a, b, c, d, e, f, hids1_pieces x0 x1 x2⟩
  have h := View.canon_append_of_piecesOf (Val := Elt Ideal) _ [] _ hp y (View.cover_of_tiledBy _ ![416, 128] (by sl_kernel_rfl) y)
  rwa [List.append_nil] at h

/-- A piece that stands for the columns not yet written when the first product reads. -/
def rest : View.Piece (Elt Ideal) S416x2816 .bf16 :=
  ⟨Rect.unit (s := S416x2816) ![0, 1408] ![416, 1408] (by decide), fun _ => (0 : EReal)⟩

theorem not_mem_rest (y : S416x2816.Idx) (hy : (y 1).val < 1408) : y ∉ rest.1.set := fun hm => by
  change y ∈ (Rect.unit (s := S416x2816) ![0, 1408] ![416, 1408] (by decide)).set at hm
  have h1 := (Rect.mem_set_unit.mp hm) 1
  have h2 : 1408 ≤ (y 1).val := h1.1
  omega

/-- Where the left columns' pieces cover. -/
theorem left_cover (L : List (View.Piece (Elt Ideal) S416x2816 .bf16)) (h : View.Piece.tiledBy (rest :: L) ![416, 128] = true)
    (y : S416x2816.Idx) (hy : (y 1).val < 1408) : ∃ p ∈ L, y ∈ p.1.set := by
  obtain ⟨p, hp, hm⟩ := View.cover_of_tiledBy _ _ h y
  rcases List.mem_cons.mp hp with e | hp
  · subst e
    exact absurd hm (not_mem_rest y hy)
  · exact ⟨p, hp, hm⟩

/-- What the first product reads of the hidden numbers. -/
theorem hids_left (r : Fin 416) (j : Fin 1408) (h : ∀ a, (![0, 0] : Fin 2 → Nat) a + S416x1408.size a ≤ S416x2816.size a) :
    cols (hids1 x0 x1 x2) ![0, 0] h (ix2 r j) = hidsAt x0 x1 x2 r ⟨0 * 1408 + j.val, by have := j.isLt; omega⟩ := by
  have e := place 0 1408 h r j
  have g := View.canon_append_of_piecesOf (Val := Elt Ideal) _ [] _ (hids1_pieces x0 x1 x2) (ix2 r (⟨0 + j.val, by have := j.isLt; omega⟩ : Fin 2816))
    (left_cover _ (by sl_kernel_rfl) _ (by have := j.isLt; show 0 + j.val < 1408; omega))
  rw [List.append_nil] at g
  exact (congrArg (View.canon (Val := Elt Ideal) (hids1 x0 x1 x2)) e).trans (g.trans (congrArg (hidsAt x0 x1 x2 r) (Fin.ext (show 0 + j.val = 0 * 1408 + j.val by omega))))

/-- What the last product reads of them. -/
theorem hids_right (r : Fin 416) (j : Fin 1408) (h : ∀ a, (![0, 1408] : Fin 2 → Nat) a + S416x1408.size a ≤ S416x2816.size a) :
    cols (hids2 x0 x1 x2 ++ hids1 x0 x1 x2) ![0, 1408] h (ix2 r j) = hidsAt x0 x1 x2 r ⟨1 * 1408 + j.val, by have := j.isLt; omega⟩ :=
  (congrArg (View.canon (Val := Elt Ideal) (hids2 x0 x1 x2 ++ hids1 x0 x1 x2)) (place 1408 1408 h r j)).trans ((hids_block x0 x1 x2 _).trans
    (congrArg (hidsAt x0 x1 x2 r) (Fin.ext (show 1408 + j.val = 1 * 1408 + j.val by omega))))

/-- The place of a group of the second weight's rows. -/
theorem vplace (s : Nat) (hs : s < 2) (h : ∀ a, (![s, 0, 0] : Fin 3 → Nat) a + S1x1408x1024.size a ≤ S2x1408x1024.size a) (j : Fin 1408) (k : Fin 1024) :
    (Rect.unit (s := S2x1408x1024) ![s, 0, 0] S1x1408x1024.size h).emb (ix3 0 j k) = ix3 (⟨s, hs⟩ : Fin 2) j k := by
  funext a
  match a with
  | ⟨0, _⟩ => exact Fin.ext (show s + 1 * 0 = s by omega)
  | ⟨1, _⟩ => exact Fin.ext (show 0 + 1 * j.val = j.val by omega)
  | ⟨2, _⟩ => exact Fin.ext (show 0 + 1 * k.val = k.val by omega)

/-- The output in a block: two sums of 1408 products. -/
theorem result_block (r : Fin 416) (k : Fin 1024) : result x0 x1 x2 x3 (ix2 r k)
    = x0 (ix2 r k) + half * ((∑ j : Fin 1408, hidsAt x0 x1 x2 r ⟨0 * 1408 + j.val, by have := j.isLt; omega⟩ * x3 (ix3 0 j k))
        + ∑ j : Fin 1408, hidsAt x0 x1 x2 r ⟨1 * 1408 + j.val, by have := j.isLt; omega⟩ * x3 (ix3 1 j k)) := by
  unfold result
  rw [final]
  simp only [hids_left, hids_right]
  refine congrArg₂ (· + ·) rfl (congrArg₂ (· * ·) rfl (congrArg₂ (· + ·) ?_ ?_)) <;>
    refine Finset.sum_congr rfl fun j _ => congrArg₂ (· * ·) rfl ?_
  · exact congrArg x3 (vplace 0 (by decide) _ j k)
  · exact congrArg x3 (vplace 1 (by decide) _ j k)

end Cert.Proof.FfnFwd
-- ==== Proof.FfnFwd.Blocks.lean ====
module

public import proofs.«01_k».proof.Proof.Gen.FfnFwdKernelIdeal.Frame
public import proofs.«01_k».proof.Proof.Rows
public import Idealize.ShloMosaic.Lib.Pointwise

@[expose] public section

/-! Which entries of the arrays a grid point's blocks are: point `t` takes the rows `416 t … 416 t + 415` of every array
cut into tiles, and the scales and the weights whole.  The first weight reaches the call in four groups of 1408 columns,
the second in two groups of 1408 rows. -/

set_option maxRecDepth 16384

noncomputable section

namespace Cert.Proof.FfnFwd.Blocks

open Cert.FfnFwdKernelIdeal Cert.FfnFwdKernelIdeal.Gen Idealize.ShloMosaic Idealize.ShloMosaic.TcCoe Idealize.SL.Sem
open Cert.Proof.Rows

section Places

variable (t : Fin cfg0.N)

theorem index0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- Where window 0's block lies in its array. -/
theorem emb0 (r : Fin 416) (j : Fin 1024) : ((cfg0.win 0).blk t).view.emb (ix2 r j) = ix2 (row t r) j := by
  funext a
  apply Fin.ext
  match a with
  | ⟨0, _⟩ => show win0_0.index t (0 : Fin 2) * 416 + 1 * r.val = t.val * 416 + r.val; rw [(index0 t).1, Nat.one_mul]
  | ⟨1, _⟩ => show win0_0.index t (1 : Fin 2) * 1024 + 1 * j.val = j.val; rw [(index0 t).2]; omega

theorem index1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)

/-- Window 1's block is its whole array. -/
theorem emb1 (j : S1x1024.Idx) : ((cfg0.win 1).blk t).view.emb j = j := by
  funext a
  apply Fin.ext
  match a with
  | ⟨0, _⟩ => show win0_1.index t (0 : Fin 2) * 1 + 1 * (j 0).val = (j 0).val; rw [(index1 t).1]; omega
  | ⟨1, _⟩ => show win0_1.index t (1 : Fin 2) * 1024 + 1 * (j 1).val = (j 1).val; rw [(index1 t).2]; omega

theorem index2 : ∀ t : Fin cfg0.N, win0_2.index t (0 : Fin 3) = 0 ∧ win0_2.index t (1 : Fin 3) = 0 ∧ win0_2.index t (2 : Fin 3) = 0 :=
  (by decide +kernel : ∀ t : Fin grid0.N, win0_2.index t (0 : Fin 3) = 0 ∧ win0_2.index t (1 : Fin 3) = 0 ∧ win0_2.index t (2 : Fin 3) = 0)

/-- Window 2's block is its whole array. -/
theorem emb2 (j : S4x1024x1408.Idx) : ((cfg0.win 2).blk t).view.emb j = j := by
  funext a
  apply Fin.ext
  match a with
  | ⟨0, _⟩ => show win0_2.index t (0 : Fin 3) * 4 + 1 * (j 0).val = (j 0).val; rw [(index2 t).1]; omega
  | ⟨1, _⟩ => show win0_2.index t (1 : Fin 3) * 1024 + 1 * (j 1).val = (j 1).val; rw [(index2 t).2.1]; omega
  | ⟨2, _⟩ => show win0_2.index t (2 : Fin 3) * 1408 + 1 * (j 2).val = (j 2).val; rw [(index2 t).2.2]; omega

theorem index3 : ∀ t : Fin cfg0.N, win0_3.index t (0 : Fin 3) = 0 ∧ win0_3.index t (1 : Fin 3) = 0 ∧ win0_3.index t (2 : Fin 3) = 0 :=
  (by decide +kernel : ∀ t : Fin grid0.N, win0_3.index t (0 : Fin 3) = 0 ∧ win0_3.index t (1 : Fin 3) = 0 ∧ win0_3.index t (2 : Fin 3) = 0)

/-- Window 3's block is its whole array. -/
theorem emb3 (j : S2x1408x1024.Idx) : ((cfg0.win 3).blk t).view.emb j = j := by
  funext a
  apply Fin.ext
  match a with
  | ⟨0, _⟩ => show win0_3.index t (0 : Fin 3) * 2 + 1 * (j 0).val = (j 0).val; rw [(index3 t).1]; omega
  | ⟨1, _⟩ => show win0_3.index t (1 : Fin 3) * 1408 + 1 * (j 1).val = (j 1).val; rw [(index3 t).2.1]; omega
  | ⟨2, _⟩ => show win0_3.index t (2 : Fin 3) * 1024 + 1 * (j 2).val = (j 2).val; rw [(index3 t).2.2]; omega

theorem index4 : ∀ t : Fin cfg0.N, win0_4.index t (0 : Fin 2) = t.val ∧ win0_4.index t (1 : Fin 2) = 0 :=
  (by decide +kernel : ∀ t : Fin grid0.N, win0_4.index t (0 : Fin 2) = t.val ∧ win0_4.index t (1 : Fin 2) = 0)

/-- Where window 4's block lies in its array. -/
theorem emb4 (r : Fin 416) (j : Fin 1024) : ((cfg0.win 4).blk t).view.emb (ix2 r j) = ix2 (row t r) j := by
  funext a
  apply Fin.ext
  match a with
  | ⟨0, _⟩ => show win0_4.index t (0 : Fin 2) * 416 + 1 * r.val = t.val * 416 + r.val; rw [(index4 t).1, Nat.one_mul]
  | ⟨1, _⟩ => show win0_4.index t (1 : Fin 2) * 1024 + 1 * j.val = j.val; rw [(index4 t).2]; omega

theorem index5 : ∀ t : Fin cfg0.N, win0_5.index t (0 : Fin 2) = t.val ∧ win0_5.index t (1 : Fin 2) = 0 :=
  (by decide +kernel : ∀ t : Fin grid0.N, win0_5.index t (0 : Fin 2) = t.val ∧ win0_5.index t (1 : Fin 2) = 0)

/-- Where window 5's block lies in its array. -/
theorem emb5 (r : Fin 416) (j : Fin 2816) : ((cfg0.win 5).blk t).view.emb (ix2 r j) = ix2 (row t r) j := by
  funext a
  apply Fin.ext
  match a with
  | ⟨0, _⟩ => show win0_5.index t (0 : Fin 2) * 416 + 1 * r.val = t.val * 416 + r.val; rw [(index5 t).1, Nat.one_mul]
  | ⟨1, _⟩ => show win0_5.index t (1 : Fin 2) * 2816 + 1 * j.val = j.val; rw [(index5 t).2]; omega

theorem index6 : ∀ t : Fin cfg0.N, win0_6.index t (0 : Fin 2) = t.val ∧ win0_6.index t (1 : Fin 2) = 0 :=
  (by decide +kernel : ∀ t : Fin grid0.N, win0_6.index t (0 : Fin 2) = t.val ∧ win0_6.index t (1 : Fin 2) = 0)

/-- Where window 6's block lies in its array. -/
theorem emb6 (r : Fin 416) (j : Fin 2816) : ((cfg0.win 6).blk t).view.emb (ix2 r j) = ix2 (row t r) j := by
  funext a
  apply Fin.ext
  match a with
  | ⟨0, _⟩ => show win0_6.index t (0 : Fin 2) * 416 + 1 * r.val = t.val * 416 + r.val; rw [(index6 t).1, Nat.one_mul]
  | ⟨1, _⟩ => show win0_6.index t (1 : Fin 2) * 2816 + 1 * j.val = j.val; rw [(index6 t).2]; omega

theorem index7 : ∀ t : Fin cfg0.N, win0_7.index t (0 : Fin 2) = t.val ∧ win0_7.index t (1 : Fin 2) = 0 :=
  (by decide +kernel : ∀ t : Fin grid0.N, win0_7.index t (0 : Fin 2) = t.val ∧ win0_7.index t (1 : Fin 2) = 0)

/-- Where window 7's block lies in its array. -/
theorem emb7 (r : Fin 416) (j : Fin 2816) : ((cfg0.win 7).blk t).view.emb (ix2 r j) = ix2 (row t r) j := by
  funext a
  apply Fin.ext
  match a with
  | ⟨0, _⟩ => show win0_7.index t (0 : Fin 2) * 416 + 1 * r.val = t.val * 416 + r.val; rw [(index7 t).1, Nat.one_mul]
  | ⟨1, _⟩ => show win0_7.index t (1 : Fin 2) * 2816 + 1 * j.val = j.val; rw [(index7 t).2]; omega

theorem index8 : ∀ t : Fin cfg0.N, win0_8.index t (0 : Fin 2) = t.val ∧ win0_8.index t (1 : Fin 2) = 0 :=
  (by decide +kernel : ∀ t : Fin grid0.N, win0_8.index t (0 : Fin 2) = t.val ∧ win0_8.index t (1 : Fin 2) = 0)

/-- Where window 8's block lies in its array. -/
theorem emb8 (r : Fin 416) (j : Fin 1024) : ((cfg0.win 8).blk t).view.emb (ix2 r j) = ix2 (row t r) j := by
  funext a
  apply Fin.ext
  match a with
  | ⟨0, _⟩ => show win0_8.index t (0 : Fin 2) * 416 + 1 * r.val = t.val * 416 + r.val; rw [(index8 t).1, Nat.one_mul]
  | ⟨1, _⟩ => show win0_8.index t (1 : Fin 2) * 1024 + 1 * j.val = j.val; rw [(index8 t).2]; omega

end Places

variable (m : ∀ l, Buf (Elt Ideal) l) (c : Dev nD) (t : Fin cfg0.N)

/-- The arguments. -/
abbrev A0 : FVec Ideal S4160x1024 .f32 := m ((c : Thread nD τ).loc main_arg0)
abbrev A1 : FVec Ideal S1x1024 .f32 := m ((c : Thread nD τ).loc main_arg1)
abbrev A2 : FVec Ideal S1024x5632 .bf16 := m ((c : Thread nD τ).loc main_arg2)
abbrev A3 : FVec Ideal S2816x1024 .bf16 := m ((c : Thread nD τ).loc main_arg3)

/-- The first weight in its groups of columns. -/
theorem V1 : V m c main_v1 = transpose S4x1024x1408 [1, 0, 2]
    (shapeCast S1024x4x1408 (A2 m c) shapeCasts_S1024x5632_S1024x4x1408) transposes_S1024x4x1408_S4x1024x1408_1_0_2 := by
  show StableHlo.after hostOps0 (fun b => m (c, b)) main_v1 = _
  simp only [hostOps0]
  after_results_simp <;> rfl

/-- The second weight in its groups of rows. -/
theorem V2 : V m c main_v2 = shapeCast S2x1408x1024 (A3 m c) shapeCasts_S2816x1024_S2x1408x1024 := by
  show StableHlo.after hostOps0 (fun b => m (c, b)) main_v2 = _
  simp only [hostOps0]
  after_results_simp <;> rfl

theorem in0 (r : Fin 416) (j : Fin 1024) : iblk m c 0 t (ix2 r j) = A0 m c (ix2 (row t r) j) := by
  show V m c main_arg0 (((cfg0.win 0).blk t).view.emb (ix2 r j)) = _
  rw [emb0, V_main_arg0]

theorem in1 (j : Fin 1024) : iblk m c 1 t (ix2 0 j) = A1 m c (ix2 0 j) := by
  show V m c main_arg1 (((cfg0.win 1).blk t).view.emb (ix2 0 j)) = _
  rw [emb1, V_main_arg1]

/-- Group `s` of the weight's columns. -/
theorem in2 (s : Fin 4) (k : Fin 1024) (j : Fin 1408) :
    iblk m c 2 t (ix3 s k j) = A2 m c (ix2 k (⟨s.val * 1408 + j.val, by have := s.isLt; have := j.isLt; omega⟩ : Fin 5632)) := by
  show V m c main_v1 (((cfg0.win 2).blk t).view.emb (ix3 s k j)) = _
  rw [emb2, V1]
  pointwise

/-- Group `s` of the second weight's rows. -/
theorem in3 (s : Fin 2) (j : Fin 1408) (k : Fin 1024) :
    iblk m c 3 t (ix3 s j k) = A3 m c (ix2 (⟨s.val * 1408 + j.val, by have := s.isLt; have := j.isLt; omega⟩ : Fin 2816) k) := by
  show V m c main_v2 (((cfg0.win 3).blk t).view.emb (ix3 s j k)) = _
  rw [emb3, V2]
  pointwise

end Cert.Proof.FfnFwd.Blocks
-- ==== Proof.FfnFwd.Reference.lean ====
module

public import proofs.«01_k».proof.Proof.Gen.FfnFwdReferenceIdeal.Read
public import proofs.«01_k».proof.Proof.RmsGrad
public import Idealize.ShloMosaic.Lib.Pointwise
public import Idealize.ShloMosaic.Lib.IdealHost

@[expose] public section

/-! The reference's results at an index, over the extended reals. -/

set_option maxRecDepth 16384

noncomputable section

namespace Cert.Proof.FfnFwd.Reference

open Cert.FfnFwdReferenceIdeal Cert.FfnFwdReferenceIdeal.Gen Cert.FfnFwdReferenceIdeal.Read Idealize.ShloMosaic Idealize.SL.Sem

variable (x0 : FVec Ideal S4160x1024 .f32) (x1 : FVec Ideal S1x1024 .f32) (x2 : FVec Ideal S1024x5632 .bf16) (x3 : FVec Ideal S2816x1024 .bf16)
  (r : Fin 4160)

/-- The reciprocal root of a row's mean square. -/
theorem ref7 : val_main_v7 (F := Ideal) x0 (ix2 r 0) = RmsGrad.rstd (fun k => x0 (ix2 r k)) := by
  pointwise [val_main_v7, val_main_v6, val_main_v5, val_main_v4, val_main_v3, val_main_v2, val_main_v1, val_main_v0, val_main_cst, val_main_cst_0, val_main_cst_1]
  rfl

/-- The normalised row. -/
theorem ref11 (k : Fin 1024) : val_main_v11 (F := Ideal) x0 x1 (ix2 r k)
    = x0 (ix2 r k) * RmsGrad.rstd (fun k => x0 (ix2 r k)) * x1 (ix2 0 k) := by
  rw [← ref7]
  pointwise [val_main_v11, val_main_v10, val_main_v9, val_main_v8]

theorem ref26 (k : Fin 1024) : val_main_v26 (F := Ideal) x0 x1 (ix2 r k) = val_main_v11 (F := Ideal) x0 x1 (ix2 r k) := by
  pointwise [val_main_v26]

/-- The gate half of the wide product. -/
theorem ref14 (c : Fin 2816) : val_main_v14 (F := Ideal) x0 x1 x2 (ix2 r c)
    = ∑ k : Fin 1024, val_main_v11 (F := Ideal) x0 x1 (ix2 r k) * x2 (ix2 k (⟨c.val, by have := c.isLt; omega⟩ : Fin 5632)) := by
  pointwise [val_main_v14, val_main_v13, val_main_v12]

/-- The other half. -/
theorem ref15 (c : Fin 2816) : val_main_v15 (F := Ideal) x0 x1 x2 (ix2 r c)
    = ∑ k : Fin 1024, val_main_v11 (F := Ideal) x0 x1 (ix2 r k) * x2 (ix2 k (⟨2816 + c.val, by have := c.isLt; omega⟩ : Fin 5632)) := by
  pointwise [val_main_v15, val_main_v13, val_main_v12]

theorem ref23 (c : Fin 2816) : val_main_v23 (F := Ideal) x0 x1 x2 (ix2 r c) = val_main_v14 (F := Ideal) x0 x1 x2 (ix2 r c) := by
  pointwise [val_main_v23]

theorem ref24 (c : Fin 2816) : val_main_v24 (F := Ideal) x0 x1 x2 (ix2 r c) = val_main_v15 (F := Ideal) x0 x1 x2 (ix2 r c) := by
  pointwise [val_main_v24]

/-- The sigmoid of the gate half. -/
theorem ref_sigmoid (c : Fin 2816) : val_main_call0_v5 (F := Ideal) x0 x1 x2 (ix2 r c) = Ideal.logistic (val_main_v14 (F := Ideal) x0 x1 x2 (ix2 r c)) := by
  pointwise [val_main_call0_v5, val_main_call0_v4, val_main_call0_v3, val_main_call0_v2, val_main_call0_v1, val_main_call0_v0, val_main_call0_cst, val_main_call0_cst_0]
  rfl

/-- The hidden numbers. -/
theorem ref17 (c : Fin 2816) : val_main_v17 (F := Ideal) x0 x1 x2 (ix2 r c)
    = val_main_v14 (F := Ideal) x0 x1 x2 (ix2 r c) * Ideal.logistic (val_main_v14 (F := Ideal) x0 x1 x2 (ix2 r c)) * val_main_v15 (F := Ideal) x0 x1 x2 (ix2 r c) := by
  rw [← ref_sigmoid]
  pointwise [val_main_v17, val_main_v16]

theorem ref25 (c : Fin 2816) : val_main_v25 (F := Ideal) x0 x1 x2 (ix2 r c) = val_main_v17 (F := Ideal) x0 x1 x2 (ix2 r c) := by
  pointwise [val_main_v25]

/-- The output. -/
theorem ref22 (k : Fin 1024) : val_main_v22 (F := Ideal) x0 x1 x2 x3 (ix2 r k)
    = x0 (ix2 r k) + Ideal.ofBits .f32 0x3F000000#32 * ∑ c : Fin 2816, val_main_v17 (F := Ideal) x0 x1 x2 (ix2 r c) * x3 (ix2 c k) := by
  pointwise [val_main_v22, val_main_v21, val_main_v20, val_main_cst_2, val_main_v19, val_main_v18]

end Cert.Proof.FfnFwd.Reference
-- ==== Proof.FfnFwd.Values.lean ====
module

public import proofs.«01_k».proof.Proof.FfnFwd.Hidden
public import proofs.«01_k».proof.Proof.FfnFwd.Blocks
public import proofs.«01_k».proof.Proof.FfnFwd.Reference

@[expose] public section

/-! Each result of the feed-forward forward call, at an index, is the reference's. -/

set_option maxRecDepth 16384

noncomputable section

namespace Cert.Proof.FfnFwd.Values

open Cert.FfnFwdKernelIdeal Cert.FfnFwdKernelIdeal.Gen Cert.FfnFwdKernelIdeal.Value Idealize.ShloMosaic Idealize.ShloMosaic.TcCoe
  Idealize.SL.Sem
open Cert.Proof.FfnFwd Cert.Proof.FfnFwd.Blocks Cert.Proof.FfnFwd.Reference Cert.Proof.Rows Cert.FfnFwdReferenceIdeal.Read

/-- A sum over 2816 numbers in two groups. -/
theorem sum_groups (f : Fin 2816 → EReal) : ∑ j, f j
    = (∑ j : Fin 1408, f ⟨0 * 1408 + j.val, by have := j.isLt; omega⟩) + ∑ j : Fin 1408, f ⟨1 * 1408 + j.val, by have := j.isLt; omega⟩ := by
  refine (Fintype.sum_equiv (finProdFinEquiv (m := 2) (n := 1408)).symm _ (fun x : Fin 2 × Fin 1408 => f ⟨x.1.val * 1408 + x.2.val, by have := x.1.isLt; have := x.2.isLt; omega⟩) fun j => ?_).trans ?_
  · refine congrArg f (Fin.ext ?_)
    show j.val = j.val / 1408 * 1408 + j.val % 1408
    omega
  · rw [Fintype.sum_prod_type, Fin.sum_univ_two]
    rfl

variable (m : ∀ l, Buf (Elt Ideal) l) (c : Dev nD) (t : Fin cfg0.N) (r : Fin 416)

/-- The normalised rows, in a tile. -/
theorem norm_tile (k : Fin 1024) : k0_pay2 (F := Ideal) (iblk m c 0 t) (iblk m c 1 t) (ix2 r k)
    = val_main_v11 (F := Ideal) (A0 m c) (A1 m c) (ix2 (row t r) k) := by
  rw [pay2, ref11]
  simp only [in0, in1]

/-- The gate half, in a tile. -/
theorem gate_tile (j : Fin 2816) : gateAt (iblk m c 0 t) (iblk m c 1 t) (iblk m c 2 t) r j
    = val_main_v14 (F := Ideal) (A0 m c) (A1 m c) (A2 m c) (ix2 (row t r) j) := by
  rw [ref14, gateAt, colAt]
  refine Finset.sum_congr rfl fun k _ => congrArg₂ (· * ·) (norm_tile m c t r k) ((in2 m c t _ k _).trans (congrArg (A2 m c) (congrArg (ix2 k) (Fin.ext ?_))))
  show (0 + j.val / 1408) * 1408 + j.val % 1408 = j.val
  omega

/-- The other half, in a tile. -/
theorem up_tile (j : Fin 2816) : upAt (iblk m c 0 t) (iblk m c 1 t) (iblk m c 2 t) r j
    = val_main_v15 (F := Ideal) (A0 m c) (A1 m c) (A2 m c) (ix2 (row t r) j) := by
  rw [ref15, upAt, colAt]
  refine Finset.sum_congr rfl fun k _ => congrArg₂ (· * ·) (norm_tile m c t r k) ((in2 m c t _ k _).trans (congrArg (A2 m c) (congrArg (ix2 k) (Fin.ext ?_))))
  show (2 + j.val / 1408) * 1408 + j.val % 1408 = 2816 + j.val
  omega

/-- The hidden numbers, in a tile. -/
theorem hids_tile (j : Fin 2816) : hidsAt (iblk m c 0 t) (iblk m c 1 t) (iblk m c 2 t) r j
    = val_main_v17 (F := Ideal) (A0 m c) (A1 m c) (A2 m c) (ix2 (row t r) j) := by
  rw [ref17, hidsAt, gate_tile, up_tile, hid]

/-- The output, in a tile. -/
theorem result_tile (k : Fin 1024) : result (F := Ideal) (iblk m c 0 t) (iblk m c 1 t) (iblk m c 2 t) (iblk m c 3 t) (ix2 r k)
    = val_main_v22 (F := Ideal) (A0 m c) (A1 m c) (A2 m c) (A3 m c) (ix2 (row t r) k) := by
  rw [ref22, result_block, sum_groups, in0]
  refine congrArg₂ (· + ·) rfl (congrArg₂ (· * ·) rfl (congrArg₂ (· + ·) ?_ ?_)) <;>
    exact Finset.sum_congr rfl fun j _ => congrArg₂ (· * ·) (hids_tile m c t r _) (in3 m c t _ j k)

/-- The output. -/
theorem out4 (k : Fin 1024) : (dats m 0 c).arrAt 4 cfg0.N (ix2 (row t r) k)
    = val_main_v22 (F := Ideal) (A0 m c) (A1 m c) (A2 m c) (A3 m c) (ix2 (row t r) k) := by
  have h := congrFun ((blocks4 m c t (flush0_4 t)).trans ((flushed4_A m c t).trans (congrArg ((cfg0.win 4).cut (grid0.coords t)) (outA_4 (F := Ideal) ..)))) (ix2 r k)
  change (dats m 0 c).arrAt 4 cfg0.N (((cfg0.win 4).blk t).view.emb (ix2 r k)) = _ at h
  rw [emb4] at h
  refine h.trans ?_
  exact result_tile m c t r k

/-- The gate half. -/
theorem out5 (k : Fin 2816) : (dats m 0 c).arrAt 5 cfg0.N (ix2 (row t r) k)
    = val_main_v23 (F := Ideal) (A0 m c) (A1 m c) (A2 m c) (ix2 (row t r) k) := by
  have h := congrFun ((blocks5 m c t (flush0_5 t)).trans ((flushed5_A m c t).trans (congrArg ((cfg0.win 5).cut (grid0.coords t)) (outA_5 (F := Ideal) ..)))) (ix2 r k)
  change (dats m 0 c).arrAt 5 cfg0.N (((cfg0.win 5).blk t).view.emb (ix2 r k)) = _ at h
  rw [emb5] at h
  refine h.trans ?_
  rw [ref23]
  exact (gate_block _ _ _ _).trans (gate_tile m c t r k)

/-- The other half. -/
theorem out6 (k : Fin 2816) : (dats m 0 c).arrAt 6 cfg0.N (ix2 (row t r) k)
    = val_main_v24 (F := Ideal) (A0 m c) (A1 m c) (A2 m c) (ix2 (row t r) k) := by
  have h := congrFun ((blocks6 m c t (flush0_6 t)).trans ((flushed6_A m c t).trans (congrArg ((cfg0.win 6).cut (grid0.coords t)) (outA_6 (F := Ideal) ..)))) (ix2 r k)
  change (dats m 0 c).arrAt 6 cfg0.N (((cfg0.win 6).blk t).view.emb (ix2 r k)) = _ at h
  rw [emb6] at h
  refine h.trans ?_
  rw [ref24]
  exact (up_block _ _ _ _).trans (up_tile m c t r k)

/-- The hidden numbers. -/
theorem out7 (k : Fin 2816) : (dats m 0 c).arrAt 7 cfg0.N (ix2 (row t r) k)
    = val_main_v25 (F := Ideal) (A0 m c) (A1 m c) (A2 m c) (ix2 (row t r) k) := by
  have h := congrFun ((blocks7 m c t (flush0_7 t)).trans ((flushed7_A m c t).trans (congrArg ((cfg0.win 7).cut (grid0.coords t)) (outA_7 (F := Ideal) ..)))) (ix2 r k)
  change (dats m 0 c).arrAt 7 cfg0.N (((cfg0.win 7).blk t).view.emb (ix2 r k)) = _ at h
  rw [emb7] at h
  refine h.trans ?_
  rw [ref25]
  exact (hids_block _ _ _ _).trans (hids_tile m c t r k)

/-- The normalised rows. -/
theorem out8 (k : Fin 1024) : (dats m 0 c).arrAt 8 cfg0.N (ix2 (row t r) k)
    = val_main_v26 (F := Ideal) (A0 m c) (A1 m c) (ix2 (row t r) k) := by
  have h := congrFun ((blocks8 m c t (flush0_8 t)).trans ((flushed8_A m c t).trans (congrArg ((cfg0.win 8).cut (grid0.coords t)) (outA_8 (F := Ideal) ..)))) (ix2 r k)
  change (dats m 0 c).arrAt 8 cfg0.N (((cfg0.win 8).blk t).view.emb (ix2 r k)) = _ at h
  rw [emb8] at h
  refine h.trans ?_
  rw [ref26]
  exact norm_tile m c t r k

end Cert.Proof.FfnFwd.Values
-- ==== Proof.FfnFwd.Algebraic.lean ====
module

public import proofs.«01_k».proof.Defs
public import proofs.«01_k».proof.Proof.FfnFwd.Values
public import proofs.«01_k».proof.Proof.Gen.FfnFwdReferenceIdeal.Run
public import proofs.«01_k».proof.Proof.Gen.FfnFwdReferenceIdeal

@[expose] public section

/-! The value claim of the feed-forward forward call: the kernel's arrays are the reference's. -/

set_option maxRecDepth 16384

noncomputable section

namespace Cert.Proof.FfnFwd.Algebraic

open Idealize.ShloMosaic Idealize.ShloMosaic.TcCoe Idealize.SL.Sem Cert.Proof.Rows Cert.Proof.FfnFwd.Values Cert.Proof.FfnFwd.Blocks
  Cert.FfnFwdReferenceIdeal.Read

/-- The kernel's results are the reference's. -/
theorem algebraic : Cert.algebraic_FfnFwdKernelIdeal_FfnFwdReferenceIdeal := by
  intro m g m' g' _ hm
  refine ⟨fun c => val_main_v22 (F := Ideal) (A0 m c) (A1 m c) (A2 m c) (A3 m c),
    fun c => val_main_v23 (F := Ideal) (A0 m c) (A1 m c) (A2 m c),
    fun c => val_main_v24 (F := Ideal) (A0 m c) (A1 m c) (A2 m c),
    fun c => val_main_v25 (F := Ideal) (A0 m c) (A1 m c) (A2 m c),
    fun c => val_main_v26 (F := Ideal) (A0 m c) (A1 m c), ?_, ?_⟩
  · refine (θ_run Cert.FfnFwdKernelIdeal.defs _ _).mono (fun r h c => ?_) (Cert.FfnFwdKernelIdeal.Value.run_blocks (F := Ideal) m g)
    obtain ⟨h0, h1, h2, h3, h4, ha⟩ := h c
    exact ⟨h0.trans (ext_rows (e := .f32) _ _ fun t r k => out4 m c t r k),
      h1.trans (ext_rows (e := .bf16) _ _ fun t r k => out5 m c t r k),
      h2.trans (ext_rows (e := .bf16) _ _ fun t r k => out6 m c t r k),
      h3.trans (ext_rows (e := .bf16) _ _ fun t r k => out7 m c t r k),
      h4.trans (ext_rows (e := .bf16) _ _ fun t r k => out8 m c t r k), ha⟩
  · refine (θ_run Cert.FfnFwdReferenceIdeal.defs _ _).mono (fun r h c => ?_) (Cert.FfnFwdReferenceIdeal.Value.run (F := Ideal) m' g')
    obtain ⟨a0, a1, a2, a3⟩ := hm c
    obtain ⟨h0, h1, h2, h3, h4, ha⟩ := h c
    replace h0 := h0.trans (show _ = val_main_v22 (F := Ideal) (m' ((c : Thread Cert.FfnFwdReferenceIdeal.nD Cert.FfnFwdReferenceIdeal.τ).loc Cert.FfnFwdReferenceIdeal.main_arg0)) (m' ((c : Thread Cert.FfnFwdReferenceIdeal.nD Cert.FfnFwdReferenceIdeal.τ).loc Cert.FfnFwdReferenceIdeal.main_arg1)) (m' ((c : Thread Cert.FfnFwdReferenceIdeal.nD Cert.FfnFwdReferenceIdeal.τ).loc Cert.FfnFwdReferenceIdeal.main_arg2)) (m' ((c : Thread Cert.FfnFwdReferenceIdeal.nD Cert.FfnFwdReferenceIdeal.τ).loc Cert.FfnFwdReferenceIdeal.main_arg3)) from rfl)
    rw [a0, a1, a2, a3] at h0
    replace h1 := h1.trans (show _ = val_main_v23 (F := Ideal) (m' ((c : Thread Cert.FfnFwdReferenceIdeal.nD Cert.FfnFwdReferenceIdeal.τ).loc Cert.FfnFwdReferenceIdeal.main_arg0)) (m' ((c : Thread Cert.FfnFwdReferenceIdeal.nD Cert.FfnFwdReferenceIdeal.τ).loc Cert.FfnFwdReferenceIdeal.main_arg1)) (m' ((c : Thread Cert.FfnFwdReferenceIdeal.nD Cert.FfnFwdReferenceIdeal.τ).loc Cert.FfnFwdReferenceIdeal.main_arg2)) from rfl)
    rw [a0, a1, a2] at h1
    replace h2 := h2.trans (show _ = val_main_v24 (F := Ideal) (m' ((c : Thread Cert.FfnFwdReferenceIdeal.nD Cert.FfnFwdReferenceIdeal.τ).loc Cert.FfnFwdReferenceIdeal.main_arg0)) (m' ((c : Thread Cert.FfnFwdReferenceIdeal.nD Cert.FfnFwdReferenceIdeal.τ).loc Cert.FfnFwdReferenceIdeal.main_arg1)) (m' ((c : Thread Cert.FfnFwdReferenceIdeal.nD Cert.FfnFwdReferenceIdeal.τ).loc Cert.FfnFwdReferenceIdeal.main_arg2)) from rfl)
    rw [a0, a1, a2] at h2
    replace h3 := h3.trans (show _ = val_main_v25 (F := Ideal) (m' ((c : Thread Cert.FfnFwdReferenceIdeal.nD Cert.FfnFwdReferenceIdeal.τ).loc Cert.FfnFwdReferenceIdeal.main_arg0)) (m' ((c : Thread Cert.FfnFwdReferenceIdeal.nD Cert.FfnFwdReferenceIdeal.τ).loc Cert.FfnFwdReferenceIdeal.main_arg1)) (m' ((c : Thread Cert.FfnFwdReferenceIdeal.nD Cert.FfnFwdReferenceIdeal.τ).loc Cert.FfnFwdReferenceIdeal.main_arg2)) from rfl)
    rw [a0, a1, a2] at h3
    replace h4 := h4.trans (show _ = val_main_v26 (F := Ideal) (m' ((c : Thread Cert.FfnFwdReferenceIdeal.nD Cert.FfnFwdReferenceIdeal.τ).loc Cert.FfnFwdReferenceIdeal.main_arg0)) (m' ((c : Thread Cert.FfnFwdReferenceIdeal.nD Cert.FfnFwdReferenceIdeal.τ).loc Cert.FfnFwdReferenceIdeal.main_arg1)) from rfl)
    rw [a0, a1] at h4
    exact ⟨h0, h1, h2, h3, h4, ha⟩

end Cert.Proof.FfnFwd.Algebraic
-- ==== Proof.Loss.Pieces.lean ====
module

public import proofs.«01_k».proof.Proof.Gen.LossKernelIdeal.Value
public import Idealize.ShloMosaic.Lib.Pipeline.FrameBody

@[expose] public section

/-! What the body of the feed-forward forward call leaves in each output's block, as the named payload functions of the
blocks it loads.  The two halves of the wide product and the hidden numbers are stored in twelve column pieces each
(five of 256 columns and one of 128 in each half of 1408); the output is computed from what these stores left, so the
pieces of the hidden numbers enter it as a list.  All of this holds in every float model. -/

set_option maxRecDepth 16384

noncomputable section

namespace Cert.Proof.Loss

open Cert.LossKernelIdeal Cert.LossKernelIdeal.Gen Cert.LossKernelIdeal.Value Idealize.ShloMosaic Idealize.ShloMosaic.TcCoe Idealize.SL.Sem

variable {F : FTy → Type} [FloatOps F]

theorem hz : (![0, 0] : Fin 2 → Nat) = fun _ => 0 := funext fun a => by fin_cases a <;> rfl

/-- The 1408 columns at offset `o` of a block filled by the pieces `L`. -/
def cols (L : List (View.Piece (Elt F) S416x2816 .bf16)) (o : Fin 2 → Nat)
    (h : ∀ a, o a + S416x1408.size a ≤ S416x2816.size a) : Vec F S416x1408 .bf16 :=
  fun j => View.canon (Val := Elt F) L ((Rect.unit (s := S416x2816) o S416x1408.size h).emb j)

/-- The pieces of the gate half, the columns of half 1, the last one first. -/
def gate1 (x0 : Vec F S416x1024 .f32) (x1 : Vec F S1x1024 .f32) (x2 : Vec F S4x1024x1408 .bf16) : List (View.Piece (Elt F) S416x2816 .bf16) :=
  [⟨Rect.unit ![0, 1280] S416x128.size (by decide), k0_pay34 (k0_pay32 (k0_pay2 x0 x1) (View.ld x2 (Rect.unit ![0, 0, 1280] S1x1024x128.size (by decide))))⟩,
   ⟨Rect.unit ![0, 1024] S416x256.size (by decide), k0_pay29 (k0_pay2 x0 x1) (View.ld x2 (Rect.unit ![0, 0, 1024] S1x1024x256.size (by decide)))⟩,
   ⟨Rect.unit ![0, 768] S416x256.size (by decide), k0_pay22 (k0_pay2 x0 x1) (View.ld x2 (Rect.unit ![0, 0, 768] S1x1024x256.size (by decide)))⟩,
   ⟨Rect.unit ![0, 512] S416x256.size (by decide), k0_pay17 (k0_pay15 (k0_pay2 x0 x1) (View.ld x2 (Rect.unit ![0, 0, 512] S1x1024x256.size (by decide))))⟩,
   ⟨Rect.unit ![0, 256] S416x256.size (by decide), k0_pay12 (k0_pay2 x0 x1) (View.ld x2 (Rect.unit ![0, 0, 256] S1x1024x256.size (by decide)))⟩,
   ⟨Rect.unit ![0, 0] S416x256.size (by decide), k0_pay5 x0 x1 (View.ld x2 (Rect.unit ![0, 0, 0] S1x1024x256.size (by decide)))⟩]

/-- The pieces of the gate half, the columns of half 2, the last one first. -/
def gate2 (x0 : Vec F S416x1024 .f32) (x1 : Vec F S1x1024 .f32) (x2 : Vec F S4x1024x1408 .bf16) : List (View.Piece (Elt F) S416x2816 .bf16) :=
  [⟨Rect.unit ![0, 2688] S416x128.size (by decide), k0_pay68 (k0_pay2 x0 x1) (View.ld x2 (Rect.unit ![1, 0, 1280] S1x1024x128.size (by decide)))⟩,
   ⟨Rect.unit ![0, 2432] S416x256.size (by decide), k0_pay62 (k0_pay2 x0 x1) (View.ld x2 (Rect.unit ![1, 0, 1024] S1x1024x256.size (by decide)))⟩,
   ⟨Rect.unit ![0, 2176] S416x256.size (by decide), k0_pay57 (k0_pay54 (k0_pay2 x0 x1) (View.ld x2 (Rect.unit ![1, 0, 768] S1x1024x256.size (by decide))))⟩,
   ⟨Rect.unit ![0, 1920] S416x256.size (by decide), k0_pay51 (k0_pay2 x0 x1) (View.ld x2 (Rect.unit ![1, 0, 512] S1x1024x256.size (by decide)))⟩,
   ⟨Rect.unit ![0, 1664] S416x256.size (by decide), k0_pay45 (k0_pay2 x0 x1) (View.ld x2 (Rect.unit ![1, 0, 256] S1x1024x256.size (by decide)))⟩,
   ⟨Rect.unit ![0, 1408] S416x256.size (by decide), k0_pay40 (k0_pay2 x0 x1) (View.ld x2 (Rect.unit ![1, 0, 0] S1x1024x256.size (by decide)))⟩]

/-- The pieces of the other half, the columns of half 1, the last one first. -/
def up1 (x0 : Vec F S416x1024 .f32) (x1 : Vec F S1x1024 .f32) (x2 : Vec F S4x1024x1408 .bf16) : List (View.Piece (Elt F) S416x2816 .bf16) :=
  [⟨Rect.unit ![0, 1280] S416x128.size (by decide), k0_pay35 (k0_pay2 x0 x1) (View.ld x2 (Rect.unit ![2, 0, 1280] S1x1024x128.size (by decide)))⟩,
   ⟨Rect.unit ![0, 1024] S416x256.size (by decide), k0_pay30 (k0_pay2 x0 x1) (View.ld x2 (Rect.unit ![2, 0, 1024] S1x1024x256.size (by decide)))⟩,
   ⟨Rect.unit ![0, 768] S416x256.size (by decide), k0_pay23 (k0_pay2 x0 x1) (View.ld x2 (Rect.unit ![2, 0, 768] S1x1024x256.size (by decide)))⟩,
   ⟨Rect.unit ![0, 512] S416x256.size (by decide), k0_pay18 (k0_pay2 x0 x1) (View.ld x2 (Rect.unit ![2, 0, 512] S1x1024x256.size (by decide)))⟩,
   ⟨Rect.unit ![0, 256] S416x256.size (by decide), k0_pay13 (k0_pay2 x0 x1) (View.ld x2 (Rect.unit ![2, 0, 256] S1x1024x256.size (by decide)))⟩,
   ⟨Rect.unit ![0, 0] S416x256.size (by decide), k0_pay6 x0 x1 (View.ld x2 (Rect.unit ![2, 0, 0] S1x1024x256.size (by decide)))⟩]

/-- The pieces of the other half, the columns of half 2, the last one first. -/
def up2 (x0 : Vec F S416x1024 .f32) (x1 : Vec F S1x1024 .f32) (x2 : Vec F S4x1024x1408 .bf16) : List (View.Piece (Elt F) S416x2816 .bf16) :=
  [⟨Rect.unit ![0, 2688] S416x128.size (by decide), k0_pay69 (k0_pay2 x0 x1) (View.ld x2 (Rect.unit ![3, 0, 1280] S1x1024x128.size (by decide)))⟩,
   ⟨Rect.unit ![0, 2432] S416x256.size (by decide), k0_pay63 (k0_pay2 x0 x1) (View.ld x2 (Rect.unit ![3, 0, 1024] S1x1024x256.size (by decide)))⟩,
   ⟨Rect.unit ![0, 2176] S416x256.size (by decide), k0_pay58 (k0_pay2 x0 x1) (k0_pay55 (View.ld x2 (Rect.unit ![3, 0, 768] S1x1024x256.size (by decide)))) (constant S416x256 .f32 0x00000000#32)⟩,
   ⟨Rect.unit ![0, 1920] S416x256.size (by decide), k0_pay52 (k0_pay2 x0 x1) (View.ld x2 (Rect.unit ![3, 0, 512] S1x1024x256.size (by decide)))⟩,
   ⟨Rect.unit ![0, 1664] S416x256.size (by decide), k0_pay46 (k0_pay2 x0 x1) (View.ld x2 (Rect.unit ![3, 0, 256] S1x1024x256.size (by decide)))⟩,
   ⟨Rect.unit ![0, 1408] S416x256.size (by decide), k0_pay41 (k0_pay39 (k0_pay2 x0 x1) (View.ld x2 (Rect.unit ![3, 0, 0] S1x1024x256.size (by decide))))⟩]

/-- The pieces of the hidden numbers, the columns of half 1, the last one first. -/
def hids1 (x0 : Vec F S416x1024 .f32) (x1 : Vec F S1x1024 .f32) (x2 : Vec F S4x1024x1408 .bf16) : List (View.Piece (Elt F) S416x2816 .bf16) :=
  [⟨Rect.unit ![0, 1280] S416x128.size (by decide), k0_pay36 (k0_pay2 x0 x1) (k0_pay32 (k0_pay2 x0 x1) (View.ld x2 (Rect.unit ![0, 0, 1280] S1x1024x128.size (by decide)))) (View.ld x2 (Rect.unit ![2, 0, 1280] S1x1024x128.size (by decide)))⟩,
   ⟨Rect.unit ![0, 1024] S416x256.size (by decide), k0_pay31 (k0_pay2 x0 x1) (View.ld x2 (Rect.unit ![0, 0, 1024] S1x1024x256.size (by decide))) (View.ld x2 (Rect.unit ![2, 0, 1024] S1x1024x256.size (by decide)))⟩,
   ⟨Rect.unit ![0, 768] S416x256.size (by decide), k0_pay26 (k0_pay20 (k0_pay2 x0 x1) (View.ld x2 (Rect.unit ![0, 0, 768] S1x1024x256.size (by decide)))) (k0_pay21 (k0_pay2 x0 x1) (View.ld x2 (Rect.unit ![2, 0, 768] S1x1024x256.size (by decide)))) (k0_pay24 (k0_pay2 x0 x1) (View.ld x2 (Rect.unit ![0, 0, 768] S1x1024x256.size (by decide)))) (k0_pay25)⟩,
   ⟨Rect.unit ![0, 512] S416x256.size (by decide), k0_pay19 (k0_pay2 x0 x1) (k0_pay15 (k0_pay2 x0 x1) (View.ld x2 (Rect.unit ![0, 0, 512] S1x1024x256.size (by decide)))) (View.ld x2 (Rect.unit ![2, 0, 512] S1x1024x256.size (by decide)))⟩,
   ⟨Rect.unit ![0, 256] S416x256.size (by decide), k0_pay14 (k0_pay2 x0 x1) (View.ld x2 (Rect.unit ![0, 0, 256] S1x1024x256.size (by decide))) (View.ld x2 (Rect.unit ![2, 0, 256] S1x1024x256.size (by decide)))⟩,
   ⟨Rect.unit ![0, 0] S416x256.size (by decide), k0_pay9 (k0_pay3 x0 x1 (View.ld x2 (Rect.unit ![0, 0, 0] S1x1024x256.size (by decide)))) (k0_pay4 x0 x1 (View.ld x2 (Rect.unit ![2, 0, 0] S1x1024x256.size (by decide)))) (k0_pay7 x0 x1 (View.ld x2 (Rect.unit ![0, 0, 0] S1x1024x256.size (by decide)))) (k0_pay8)⟩]

/-- The pieces of the hidden numbers, the columns of half 2, the last one first. -/
def hids2 (x0 : Vec F S416x1024 .f32) (x1 : Vec F S1x1024 .f32) (x2 : Vec F S4x1024x1408 .bf16) : List (View.Piece (Elt F) S416x2816 .bf16) :=
  [⟨Rect.unit ![0, 2688] S416x128.size (by decide), k0_pay70 (k0_pay2 x0 x1) (View.ld x2 (Rect.unit ![1, 0, 1280] S1x1024x128.size (by decide))) (View.ld x2 (Rect.unit ![3, 0, 1280] S1x1024x128.size (by decide)))⟩,
   ⟨Rect.unit ![0, 2432] S416x256.size (by decide), k0_pay65 (k0_pay60 (k0_pay2 x0 x1) (View.ld x2 (Rect.unit ![1, 0, 1024] S1x1024x256.size (by decide)))) (k0_pay61 (k0_pay2 x0 x1) (View.ld x2 (Rect.unit ![3, 0, 1024] S1x1024x256.size (by decide)))) (k0_pay64 (k0_pay2 x0 x1) (View.ld x2 (Rect.unit ![1, 0, 1024] S1x1024x256.size (by decide)))) (Scalar.ofBits .f32 0x3F000000#32)⟩,
   ⟨Rect.unit ![0, 2176] S416x256.size (by decide), k0_pay59 (k0_pay2 x0 x1) (k0_pay54 (k0_pay2 x0 x1) (View.ld x2 (Rect.unit ![1, 0, 768] S1x1024x256.size (by decide)))) (k0_pay55 (View.ld x2 (Rect.unit ![3, 0, 768] S1x1024x256.size (by decide)))) (constant S416x256 .f32 0x00000000#32)⟩,
   ⟨Rect.unit ![0, 1920] S416x256.size (by decide), k0_pay53 (k0_pay2 x0 x1) (View.ld x2 (Rect.unit ![1, 0, 512] S1x1024x256.size (by decide))) (View.ld x2 (Rect.unit ![3, 0, 512] S1x1024x256.size (by decide)))⟩,
   ⟨Rect.unit ![0, 1664] S416x256.size (by decide), k0_pay48 (k0_pay44 (k0_pay2 x0 x1) (View.ld x2 (Rect.unit ![3, 0, 256] S1x1024x256.size (by decide)))) (k0_pay47 (k0_pay2 x0 x1) (View.ld x2 (Rect.unit ![1, 0, 256] S1x1024x256.size (by decide))))⟩,
   ⟨Rect.unit ![0, 1408] S416x256.size (by decide), k0_pay42 (k0_pay38 (k0_pay2 x0 x1) (View.ld x2 (Rect.unit ![1, 0, 0] S1x1024x256.size (by decide)))) (k0_pay39 (k0_pay2 x0 x1) (View.ld x2 (Rect.unit ![3, 0, 0] S1x1024x256.size (by decide))))⟩]

/-- The output's block. -/
def result (x0 : Vec F S416x1024 .f32) (x1 : Vec F S1x1024 .f32) (x2 : Vec F S4x1024x1408 .bf16) (x3 : Vec F S2x1408x1024 .bf16) : Vec F S416x1024 .f32 :=
  k0_pay73 x0
    (k0_pay37 (cols (hids1 x0 x1 x2) ![0, 0] (by decide)) (View.ld x3 (Rect.unit ![0, 0, 0] S1x1408x1024.size (by decide))))
    (k0_pay71 (cols (hids2 x0 x1 x2 ++ hids1 x0 x1 x2) ![0, 1408] (by decide)))
    (k0_pay72 (View.ld x3 (Rect.unit ![1, 0, 0] S1x1408x1024.size (by decide)))) (constant S416x1024 .f32 0x00000000#32)

/-- The error's block: the normalised output less the target, zero outside the rows of the sequence. -/
def err (i : BitVec 32) (x0 : Vec F S416x1024 .f32) (x1 : Vec F S1x1024 .f32) (x2 : Vec F S4x1024x1408 .bf16) (x3 : Vec F S2x1408x1024 .bf16)
    (x4 : Vec F S1x1024 .f32) (x5 : Vec F S416x1024 .f32) : FVec F S416x1024 .f32 :=
  k0_pay76 i x0
    (k0_pay37 (cols (hids1 x0 x1 x2) ![0, 0] (by decide)) (View.ld x3 (Rect.unit ![0, 0, 0] S1x1408x1024.size (by decide))))
    (k0_pay71 (cols (hids2 x0 x1 x2 ++ hids1 x0 x1 x2) ![0, 1408] (by decide)))
    (k0_pay72 (View.ld x3 (Rect.unit ![1, 0, 0] S1x1408x1024.size (by decide)))) (constant S416x1024 .f32 0x00000000#32) x4 x5

/-- The sum of the error's squares over a block. -/
def squares (i : BitVec 32) (x0 : Vec F S416x1024 .f32) (x1 : Vec F S1x1024 .f32) (x2 : Vec F S4x1024x1408 .bf16) (x3 : Vec F S2x1408x1024 .bf16)
    (x4 : Vec F S1x1024 .f32) (x5 : Vec F S416x1024 .f32) : FVec F S1x1x1 .f32 :=
  k0_pay78 i x0
    (k0_pay37 (cols (hids1 x0 x1 x2) ![0, 0] (by decide)) (View.ld x3 (Rect.unit ![0, 0, 0] S1x1408x1024.size (by decide))))
    (k0_pay71 (cols (hids2 x0 x1 x2 ++ hids1 x0 x1 x2) ![0, 1408] (by decide)))
    (k0_pay72 (View.ld x3 (Rect.unit ![1, 0, 0] S1x1408x1024.size (by decide)))) (constant S416x1024 .f32 0x00000000#32) x4 x5

/-- At the first point, the gradient of the output. -/
theorem outA_6 (c : Dev nD) (i : grid0.Coords) (arg1 : Memref sig .tc .vmem S416x1024 .f32) (harg1 : arg1.IsWhole) (arg2 : Memref sig .tc .vmem S1x1024 .f32) (harg2 : arg2.IsWhole) (arg3 : Memref sig .tc .vmem S4x1024x1408 .bf16) (harg3 : arg3.IsWhole) (arg4 : Memref sig .tc .vmem S2x1408x1024 .bf16) (harg4 : arg4.IsWhole) (arg5 : Memref sig .tc .vmem S1x1024 .f32) (harg5 : arg5.IsWhole) (arg6 : Memref sig .tc .vmem S416x1024 .f32) (harg6 : arg6.IsWhole) (arg7 : Memref sig .tc .vmem S416x1024 .f32) (harg7 : arg7.IsWhole) (arg8 : Memref sig .tc .vmem S8x128 .f32) (harg8 : arg8.IsWhole) (arg9 : Memref sig .tc .vmem S1x1024 .f32) (harg9 : arg9.IsWhole) (arg10 : Memref sig .tc .vmem S416x2816 .bf16) (harg10 : arg10.IsWhole) (arg11 : Memref sig .tc .vmem S416x2816 .bf16) (harg11 : arg11.IsWhole) (arg12 : Memref sig .tc .vmem S416x2816 .bf16) (harg12 : arg12.IsWhole) (arg13 : Memref sig .tc .vmem S416x1024 .bf16) (harg13 : arg13.IsWhole) (hc0 : cond0_0 i) (x0 : Vec F S416x1024 .f32) (x1 : Vec F S1x1024 .f32) (x2 : Vec F S4x1024x1408 .bf16) (x3 : Vec F S2x1408x1024 .bf16) (x4 : Vec F S1x1024 .f32) (x5 : Vec F S416x1024 .f32) :
    out0_A_6 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 = k0_pay83 (result x0 x1 x2 x3) x4 (err (BitVec.ofNat 32 (i 0).val) x0 x1 x2 x3 x4 x5) := by
  unfold out0_A_6
  rw [View.read_writes_junk_eq_canon]
  unfold kernelRun0_A
  dsimp only
  sl_unfold_words
  simp only [View.readAt_eq_ld, Memref.IsWhole.read_unread, View.ld_unit_zero (S := S416x1024) hz, View.ld_unit_zero (S := S1x1024) hz,
    View.ld_unit_zero (S := S8x128) hz, View.canon_cons_unit_zero (S := S8x128) hz, View.readCov_unit_zero (S := S8x128) _ hz,
    View.canon_cons_unit_zero (S := S416x1024) hz, View.canon_cons_unit_zero (S := S1x1024) hz, View.readCov_unit_zero (S := S1x1024) _ hz,
    View.readCov_eq_canon']
  rfl

/-- At the first point, the loss. -/
theorem outA_7 (c : Dev nD) (i : grid0.Coords) (arg1 : Memref sig .tc .vmem S416x1024 .f32) (harg1 : arg1.IsWhole) (arg2 : Memref sig .tc .vmem S1x1024 .f32) (harg2 : arg2.IsWhole) (arg3 : Memref sig .tc .vmem S4x1024x1408 .bf16) (harg3 : arg3.IsWhole) (arg4 : Memref sig .tc .vmem S2x1408x1024 .bf16) (harg4 : arg4.IsWhole) (arg5 : Memref sig .tc .vmem S1x1024 .f32) (harg5 : arg5.IsWhole) (arg6 : Memref sig .tc .vmem S416x1024 .f32) (harg6 : arg6.IsWhole) (arg7 : Memref sig .tc .vmem S416x1024 .f32) (harg7 : arg7.IsWhole) (arg8 : Memref sig .tc .vmem S8x128 .f32) (harg8 : arg8.IsWhole) (arg9 : Memref sig .tc .vmem S1x1024 .f32) (harg9 : arg9.IsWhole) (arg10 : Memref sig .tc .vmem S416x2816 .bf16) (harg10 : arg10.IsWhole) (arg11 : Memref sig .tc .vmem S416x2816 .bf16) (harg11 : arg11.IsWhole) (arg12 : Memref sig .tc .vmem S416x2816 .bf16) (harg12 : arg12.IsWhole) (arg13 : Memref sig .tc .vmem S416x1024 .bf16) (harg13 : arg13.IsWhole) (hc0 : cond0_0 i) (x0 : Vec F S416x1024 .f32) (x1 : Vec F S1x1024 .f32) (x2 : Vec F S4x1024x1408 .bf16) (x3 : Vec F S2x1408x1024 .bf16) (x4 : Vec F S1x1024 .f32) (x5 : Vec F S416x1024 .f32) :
    out0_A_7 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 = k0_pay79 (k0_pay77 k0_pay74) (squares (BitVec.ofNat 32 (i 0).val) x0 x1 x2 x3 x4 x5) := by
  unfold out0_A_7
  rw [View.read_writes_junk_eq_canon]
  unfold kernelRun0_A
  dsimp only
  sl_unfold_words
  simp only [View.readAt_eq_ld, Memref.IsWhole.read_unread, View.ld_unit_zero (S := S416x1024) hz, View.ld_unit_zero (S := S1x1024) hz,
    View.ld_unit_zero (S := S8x128) hz, View.canon_cons_unit_zero (S := S8x128) hz, View.readCov_unit_zero (S := S8x128) _ hz,
    View.canon_cons_unit_zero (S := S416x1024) hz, View.canon_cons_unit_zero (S := S1x1024) hz, View.readCov_unit_zero (S := S1x1024) _ hz,
    View.readCov_eq_canon']
  rfl

/-- At the first point, the gradient of the last scale. -/
theorem outA_8 (c : Dev nD) (i : grid0.Coords) (arg1 : Memref sig .tc .vmem S416x1024 .f32) (harg1 : arg1.IsWhole) (arg2 : Memref sig .tc .vmem S1x1024 .f32) (harg2 : arg2.IsWhole) (arg3 : Memref sig .tc .vmem S4x1024x1408 .bf16) (harg3 : arg3.IsWhole) (arg4 : Memref sig .tc .vmem S2x1408x1024 .bf16) (harg4 : arg4.IsWhole) (arg5 : Memref sig .tc .vmem S1x1024 .f32) (harg5 : arg5.IsWhole) (arg6 : Memref sig .tc .vmem S416x1024 .f32) (harg6 : arg6.IsWhole) (arg7 : Memref sig .tc .vmem S416x1024 .f32) (harg7 : arg7.IsWhole) (arg8 : Memref sig .tc .vmem S8x128 .f32) (harg8 : arg8.IsWhole) (arg9 : Memref sig .tc .vmem S1x1024 .f32) (harg9 : arg9.IsWhole) (arg10 : Memref sig .tc .vmem S416x2816 .bf16) (harg10 : arg10.IsWhole) (arg11 : Memref sig .tc .vmem S416x2816 .bf16) (harg11 : arg11.IsWhole) (arg12 : Memref sig .tc .vmem S416x2816 .bf16) (harg12 : arg12.IsWhole) (arg13 : Memref sig .tc .vmem S416x1024 .bf16) (harg13 : arg13.IsWhole) (hc0 : cond0_0 i) (x0 : Vec F S416x1024 .f32) (x1 : Vec F S1x1024 .f32) (x2 : Vec F S4x1024x1408 .bf16) (x3 : Vec F S2x1408x1024 .bf16) (x4 : Vec F S1x1024 .f32) (x5 : Vec F S416x1024 .f32) :
    out0_A_8 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 = k0_pay1 (k0_pay84 (result x0 x1 x2 x3) (err (BitVec.ofNat 32 (i 0).val) x0 x1 x2 x3 x4 x5)) k0_pay75 := by
  unfold out0_A_8
  rw [View.read_writes_junk_eq_canon]
  unfold kernelRun0_A
  dsimp only
  sl_unfold_words
  simp only [View.readAt_eq_ld, Memref.IsWhole.read_unread, View.ld_unit_zero (S := S416x1024) hz, View.ld_unit_zero (S := S1x1024) hz,
    View.ld_unit_zero (S := S8x128) hz, View.canon_cons_unit_zero (S := S8x128) hz, View.readCov_unit_zero (S := S8x128) _ hz,
    View.canon_cons_unit_zero (S := S416x1024) hz, View.canon_cons_unit_zero (S := S1x1024) hz, View.readCov_unit_zero (S := S1x1024) _ hz,
    View.readCov_eq_canon']
  rfl

/-- At the first point, the gate half. -/
theorem outA_9 (c : Dev nD) (i : grid0.Coords) (arg1 : Memref sig .tc .vmem S416x1024 .f32) (harg1 : arg1.IsWhole) (arg2 : Memref sig .tc .vmem S1x1024 .f32) (harg2 : arg2.IsWhole) (arg3 : Memref sig .tc .vmem S4x1024x1408 .bf16) (harg3 : arg3.IsWhole) (arg4 : Memref sig .tc .vmem S2x1408x1024 .bf16) (harg4 : arg4.IsWhole) (arg5 : Memref sig .tc .vmem S1x1024 .f32) (harg5 : arg5.IsWhole) (arg6 : Memref sig .tc .vmem S416x1024 .f32) (harg6 : arg6.IsWhole) (arg7 : Memref sig .tc .vmem S416x1024 .f32) (harg7 : arg7.IsWhole) (arg8 : Memref sig .tc .vmem S8x128 .f32) (harg8 : arg8.IsWhole) (arg9 : Memref sig .tc .vmem S1x1024 .f32) (harg9 : arg9.IsWhole) (arg10 : Memref sig .tc .vmem S416x2816 .bf16) (harg10 : arg10.IsWhole) (arg11 : Memref sig .tc .vmem S416x2816 .bf16) (harg11 : arg11.IsWhole) (arg12 : Memref sig .tc .vmem S416x2816 .bf16) (harg12 : arg12.IsWhole) (arg13 : Memref sig .tc .vmem S416x1024 .bf16) (harg13 : arg13.IsWhole) (hc0 : cond0_0 i) (x0 : Vec F S416x1024 .f32) (x1 : Vec F S1x1024 .f32) (x2 : Vec F S4x1024x1408 .bf16) (x3 : Vec F S2x1408x1024 .bf16) (x4 : Vec F S1x1024 .f32) (x5 : Vec F S416x1024 .f32) :
    out0_A_9 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 = View.canon (Val := Elt F) (gate2 x0 x1 x2 ++ gate1 x0 x1 x2) := by
  unfold out0_A_9
  rw [View.read_writes_junk_eq_canon]
  unfold kernelRun0_A
  dsimp only
  sl_unfold_words
  simp only [View.readAt_eq_ld, Memref.IsWhole.read_unread, View.ld_unit_zero (S := S416x1024) hz, View.ld_unit_zero (S := S1x1024) hz,
    View.ld_unit_zero (S := S8x128) hz, View.canon_cons_unit_zero (S := S8x128) hz, View.readCov_unit_zero (S := S8x128) _ hz,
    View.canon_cons_unit_zero (S := S416x1024) hz, View.canon_cons_unit_zero (S := S1x1024) hz, View.readCov_unit_zero (S := S1x1024) _ hz,
    View.readCov_eq_canon']
  rfl

/-- At the first point, the other half. -/
theorem outA_10 (c : Dev nD) (i : grid0.Coords) (arg1 : Memref sig .tc .vmem S416x1024 .f32) (harg1 : arg1.IsWhole) (arg2 : Memref sig .tc .vmem S1x1024 .f32) (harg2 : arg2.IsWhole) (arg3 : Memref sig .tc .vmem S4x1024x1408 .bf16) (harg3 : arg3.IsWhole) (arg4 : Memref sig .tc .vmem S2x1408x1024 .bf16) (harg4 : arg4.IsWhole) (arg5 : Memref sig .tc .vmem S1x1024 .f32) (harg5 : arg5.IsWhole) (arg6 : Memref sig .tc .vmem S416x1024 .f32) (harg6 : arg6.IsWhole) (arg7 : Memref sig .tc .vmem S416x1024 .f32) (harg7 : arg7.IsWhole) (arg8 : Memref sig .tc .vmem S8x128 .f32) (harg8 : arg8.IsWhole) (arg9 : Memref sig .tc .vmem S1x1024 .f32) (harg9 : arg9.IsWhole) (arg10 : Memref sig .tc .vmem S416x2816 .bf16) (harg10 : arg10.IsWhole) (arg11 : Memref sig .tc .vmem S416x2816 .bf16) (harg11 : arg11.IsWhole) (arg12 : Memref sig .tc .vmem S416x2816 .bf16) (harg12 : arg12.IsWhole) (arg13 : Memref sig .tc .vmem S416x1024 .bf16) (harg13 : arg13.IsWhole) (hc0 : cond0_0 i) (x0 : Vec F S416x1024 .f32) (x1 : Vec F S1x1024 .f32) (x2 : Vec F S4x1024x1408 .bf16) (x3 : Vec F S2x1408x1024 .bf16) (x4 : Vec F S1x1024 .f32) (x5 : Vec F S416x1024 .f32) :
    out0_A_10 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 = View.canon (Val := Elt F) (up2 x0 x1 x2 ++ up1 x0 x1 x2) := by
  unfold out0_A_10
  rw [View.read_writes_junk_eq_canon]
  unfold kernelRun0_A
  dsimp only
  sl_unfold_words
  simp only [View.readAt_eq_ld, Memref.IsWhole.read_unread, View.ld_unit_zero (S := S416x1024) hz, View.ld_unit_zero (S := S1x1024) hz,
    View.ld_unit_zero (S := S8x128) hz, View.canon_cons_unit_zero (S := S8x128) hz, View.readCov_unit_zero (S := S8x128) _ hz,
    View.canon_cons_unit_zero (S := S416x1024) hz, View.canon_cons_unit_zero (S := S1x1024) hz, View.readCov_unit_zero (S := S1x1024) _ hz,
    View.readCov_eq_canon']
  rfl

/-- At the first point, the hidden numbers. -/
theorem outA_11 (c : Dev nD) (i : grid0.Coords) (arg1 : Memref sig .tc .vmem S416x1024 .f32) (harg1 : arg1.IsWhole) (arg2 : Memref sig .tc .vmem S1x1024 .f32) (harg2 : arg2.IsWhole) (arg3 : Memref sig .tc .vmem S4x1024x1408 .bf16) (harg3 : arg3.IsWhole) (arg4 : Memref sig .tc .vmem S2x1408x1024 .bf16) (harg4 : arg4.IsWhole) (arg5 : Memref sig .tc .vmem S1x1024 .f32) (harg5 : arg5.IsWhole) (arg6 : Memref sig .tc .vmem S416x1024 .f32) (harg6 : arg6.IsWhole) (arg7 : Memref sig .tc .vmem S416x1024 .f32) (harg7 : arg7.IsWhole) (arg8 : Memref sig .tc .vmem S8x128 .f32) (harg8 : arg8.IsWhole) (arg9 : Memref sig .tc .vmem S1x1024 .f32) (harg9 : arg9.IsWhole) (arg10 : Memref sig .tc .vmem S416x2816 .bf16) (harg10 : arg10.IsWhole) (arg11 : Memref sig .tc .vmem S416x2816 .bf16) (harg11 : arg11.IsWhole) (arg12 : Memref sig .tc .vmem S416x2816 .bf16) (harg12 : arg12.IsWhole) (arg13 : Memref sig .tc .vmem S416x1024 .bf16) (harg13 : arg13.IsWhole) (hc0 : cond0_0 i) (x0 : Vec F S416x1024 .f32) (x1 : Vec F S1x1024 .f32) (x2 : Vec F S4x1024x1408 .bf16) (x3 : Vec F S2x1408x1024 .bf16) (x4 : Vec F S1x1024 .f32) (x5 : Vec F S416x1024 .f32) :
    out0_A_11 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 = View.canon (Val := Elt F) (hids2 x0 x1 x2 ++ hids1 x0 x1 x2) := by
  unfold out0_A_11
  rw [View.read_writes_junk_eq_canon]
  unfold kernelRun0_A
  dsimp only
  sl_unfold_words
  simp only [View.readAt_eq_ld, Memref.IsWhole.read_unread, View.ld_unit_zero (S := S416x1024) hz, View.ld_unit_zero (S := S1x1024) hz,
    View.ld_unit_zero (S := S8x128) hz, View.canon_cons_unit_zero (S := S8x128) hz, View.readCov_unit_zero (S := S8x128) _ hz,
    View.canon_cons_unit_zero (S := S416x1024) hz, View.canon_cons_unit_zero (S := S1x1024) hz, View.readCov_unit_zero (S := S1x1024) _ hz,
    View.readCov_eq_canon']
  rfl

/-- At the first point, the normalised rows. -/
theorem outA_12 (c : Dev nD) (i : grid0.Coords) (arg1 : Memref sig .tc .vmem S416x1024 .f32) (harg1 : arg1.IsWhole) (arg2 : Memref sig .tc .vmem S1x1024 .f32) (harg2 : arg2.IsWhole) (arg3 : Memref sig .tc .vmem S4x1024x1408 .bf16) (harg3 : arg3.IsWhole) (arg4 : Memref sig .tc .vmem S2x1408x1024 .bf16) (harg4 : arg4.IsWhole) (arg5 : Memref sig .tc .vmem S1x1024 .f32) (harg5 : arg5.IsWhole) (arg6 : Memref sig .tc .vmem S416x1024 .f32) (harg6 : arg6.IsWhole) (arg7 : Memref sig .tc .vmem S416x1024 .f32) (harg7 : arg7.IsWhole) (arg8 : Memref sig .tc .vmem S8x128 .f32) (harg8 : arg8.IsWhole) (arg9 : Memref sig .tc .vmem S1x1024 .f32) (harg9 : arg9.IsWhole) (arg10 : Memref sig .tc .vmem S416x2816 .bf16) (harg10 : arg10.IsWhole) (arg11 : Memref sig .tc .vmem S416x2816 .bf16) (harg11 : arg11.IsWhole) (arg12 : Memref sig .tc .vmem S416x2816 .bf16) (harg12 : arg12.IsWhole) (arg13 : Memref sig .tc .vmem S416x1024 .bf16) (harg13 : arg13.IsWhole) (hc0 : cond0_0 i) (x0 : Vec F S416x1024 .f32) (x1 : Vec F S1x1024 .f32) (x2 : Vec F S4x1024x1408 .bf16) (x3 : Vec F S2x1408x1024 .bf16) (x4 : Vec F S1x1024 .f32) (x5 : Vec F S416x1024 .f32) :
    out0_A_12 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 = k0_pay2 x0 x1 := by
  unfold out0_A_12
  rw [View.read_writes_junk_eq_canon]
  unfold kernelRun0_A
  dsimp only
  sl_unfold_words
  simp only [View.readAt_eq_ld, Memref.IsWhole.read_unread, View.ld_unit_zero (S := S416x1024) hz, View.ld_unit_zero (S := S1x1024) hz,
    View.ld_unit_zero (S := S8x128) hz, View.canon_cons_unit_zero (S := S8x128) hz, View.readCov_unit_zero (S := S8x128) _ hz,
    View.canon_cons_unit_zero (S := S416x1024) hz, View.canon_cons_unit_zero (S := S1x1024) hz, View.readCov_unit_zero (S := S1x1024) _ hz,
    View.readCov_eq_canon']

/-- At a later point, the gradient of the output. -/
theorem outB_6 (c : Dev nD) (i : grid0.Coords) (arg1 : Memref sig .tc .vmem S416x1024 .f32) (harg1 : arg1.IsWhole) (arg2 : Memref sig .tc .vmem S1x1024 .f32) (harg2 : arg2.IsWhole) (arg3 : Memref sig .tc .vmem S4x1024x1408 .bf16) (harg3 : arg3.IsWhole) (arg4 : Memref sig .tc .vmem S2x1408x1024 .bf16) (harg4 : arg4.IsWhole) (arg5 : Memref sig .tc .vmem S1x1024 .f32) (harg5 : arg5.IsWhole) (arg6 : Memref sig .tc .vmem S416x1024 .f32) (harg6 : arg6.IsWhole) (arg7 : Memref sig .tc .vmem S416x1024 .f32) (harg7 : arg7.IsWhole) (arg8 : Memref sig .tc .vmem S8x128 .f32) (harg8 : arg8.IsWhole) (arg9 : Memref sig .tc .vmem S1x1024 .f32) (harg9 : arg9.IsWhole) (arg10 : Memref sig .tc .vmem S416x2816 .bf16) (harg10 : arg10.IsWhole) (arg11 : Memref sig .tc .vmem S416x2816 .bf16) (harg11 : arg11.IsWhole) (arg12 : Memref sig .tc .vmem S416x2816 .bf16) (harg12 : arg12.IsWhole) (arg13 : Memref sig .tc .vmem S416x1024 .bf16) (harg13 : arg13.IsWhole) (hc0 : ¬cond0_0 i) (x0 : Vec F S416x1024 .f32) (x1 : Vec F S1x1024 .f32) (x2 : Vec F S4x1024x1408 .bf16) (x3 : Vec F S2x1408x1024 .bf16) (x4 : Vec F S1x1024 .f32) (x5 : Vec F S416x1024 .f32) (xo7 : Vec F S8x128 .f32) (xo8 : Vec F S1x1024 .f32) :
    out0_B_6 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 xo7 xo8 = k0_pay83 (result x0 x1 x2 x3) x4 (err (BitVec.ofNat 32 (i 0).val) x0 x1 x2 x3 x4 x5) := by
  unfold out0_B_6
  rw [View.read_writes_junk_eq_canon]
  unfold kernelRun0_B
  dsimp only
  sl_unfold_words
  simp only [View.readAt_eq_ld, Memref.IsWhole.read_unread, View.ld_unit_zero (S := S416x1024) hz, View.ld_unit_zero (S := S1x1024) hz,
    View.ld_unit_zero (S := S8x128) hz, View.canon_cons_unit_zero (S := S8x128) hz, View.readCov_unit_zero (S := S8x128) _ hz,
    View.canon_cons_unit_zero (S := S416x1024) hz, View.canon_cons_unit_zero (S := S1x1024) hz, View.readCov_unit_zero (S := S1x1024) _ hz,
    View.readCov_eq_canon']
  rfl

/-- At a later point, the loss. -/
theorem outB_7 (c : Dev nD) (i : grid0.Coords) (arg1 : Memref sig .tc .vmem S416x1024 .f32) (harg1 : arg1.IsWhole) (arg2 : Memref sig .tc .vmem S1x1024 .f32) (harg2 : arg2.IsWhole) (arg3 : Memref sig .tc .vmem S4x1024x1408 .bf16) (harg3 : arg3.IsWhole) (arg4 : Memref sig .tc .vmem S2x1408x1024 .bf16) (harg4 : arg4.IsWhole) (arg5 : Memref sig .tc .vmem S1x1024 .f32) (harg5 : arg5.IsWhole) (arg6 : Memref sig .tc .vmem S416x1024 .f32) (harg6 : arg6.IsWhole) (arg7 : Memref sig .tc .vmem S416x1024 .f32) (harg7 : arg7.IsWhole) (arg8 : Memref sig .tc .vmem S8x128 .f32) (harg8 : arg8.IsWhole) (arg9 : Memref sig .tc .vmem S1x1024 .f32) (harg9 : arg9.IsWhole) (arg10 : Memref sig .tc .vmem S416x2816 .bf16) (harg10 : arg10.IsWhole) (arg11 : Memref sig .tc .vmem S416x2816 .bf16) (harg11 : arg11.IsWhole) (arg12 : Memref sig .tc .vmem S416x2816 .bf16) (harg12 : arg12.IsWhole) (arg13 : Memref sig .tc .vmem S416x1024 .bf16) (harg13 : arg13.IsWhole) (hc0 : ¬cond0_0 i) (x0 : Vec F S416x1024 .f32) (x1 : Vec F S1x1024 .f32) (x2 : Vec F S4x1024x1408 .bf16) (x3 : Vec F S2x1408x1024 .bf16) (x4 : Vec F S1x1024 .f32) (x5 : Vec F S416x1024 .f32) (xo7 : Vec F S8x128 .f32) (xo8 : Vec F S1x1024 .f32) :
    out0_B_7 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 xo7 xo8 = k0_pay79 (k0_pay77 xo7) (squares (BitVec.ofNat 32 (i 0).val) x0 x1 x2 x3 x4 x5) := by
  unfold out0_B_7
  rw [View.read_writes_junk_eq_canon]
  unfold kernelRun0_B
  dsimp only
  sl_unfold_words
  simp only [View.readAt_eq_ld, Memref.IsWhole.read_unread, View.ld_unit_zero (S := S416x1024) hz, View.ld_unit_zero (S := S1x1024) hz,
    View.ld_unit_zero (S := S8x128) hz, View.canon_cons_unit_zero (S := S8x128) hz, View.readCov_unit_zero (S := S8x128) _ hz,
    View.canon_cons_unit_zero (S := S416x1024) hz, View.canon_cons_unit_zero (S := S1x1024) hz, View.readCov_unit_zero (S := S1x1024) _ hz,
    View.readCov_eq_canon']
  rfl

/-- At a later point, the gradient of the last scale. -/
theorem outB_8 (c : Dev nD) (i : grid0.Coords) (arg1 : Memref sig .tc .vmem S416x1024 .f32) (harg1 : arg1.IsWhole) (arg2 : Memref sig .tc .vmem S1x1024 .f32) (harg2 : arg2.IsWhole) (arg3 : Memref sig .tc .vmem S4x1024x1408 .bf16) (harg3 : arg3.IsWhole) (arg4 : Memref sig .tc .vmem S2x1408x1024 .bf16) (harg4 : arg4.IsWhole) (arg5 : Memref sig .tc .vmem S1x1024 .f32) (harg5 : arg5.IsWhole) (arg6 : Memref sig .tc .vmem S416x1024 .f32) (harg6 : arg6.IsWhole) (arg7 : Memref sig .tc .vmem S416x1024 .f32) (harg7 : arg7.IsWhole) (arg8 : Memref sig .tc .vmem S8x128 .f32) (harg8 : arg8.IsWhole) (arg9 : Memref sig .tc .vmem S1x1024 .f32) (harg9 : arg9.IsWhole) (arg10 : Memref sig .tc .vmem S416x2816 .bf16) (harg10 : arg10.IsWhole) (arg11 : Memref sig .tc .vmem S416x2816 .bf16) (harg11 : arg11.IsWhole) (arg12 : Memref sig .tc .vmem S416x2816 .bf16) (harg12 : arg12.IsWhole) (arg13 : Memref sig .tc .vmem S416x1024 .bf16) (harg13 : arg13.IsWhole) (hc0 : ¬cond0_0 i) (x0 : Vec F S416x1024 .f32) (x1 : Vec F S1x1024 .f32) (x2 : Vec F S4x1024x1408 .bf16) (x3 : Vec F S2x1408x1024 .bf16) (x4 : Vec F S1x1024 .f32) (x5 : Vec F S416x1024 .f32) (xo7 : Vec F S8x128 .f32) (xo8 : Vec F S1x1024 .f32) :
    out0_B_8 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 xo7 xo8 = k0_pay1 (k0_pay84 (result x0 x1 x2 x3) (err (BitVec.ofNat 32 (i 0).val) x0 x1 x2 x3 x4 x5)) xo8 := by
  unfold out0_B_8
  rw [View.read_writes_junk_eq_canon]
  unfold kernelRun0_B
  dsimp only
  sl_unfold_words
  simp only [View.readAt_eq_ld, Memref.IsWhole.read_unread, View.ld_unit_zero (S := S416x1024) hz, View.ld_unit_zero (S := S1x1024) hz,
    View.ld_unit_zero (S := S8x128) hz, View.canon_cons_unit_zero (S := S8x128) hz, View.readCov_unit_zero (S := S8x128) _ hz,
    View.canon_cons_unit_zero (S := S416x1024) hz, View.canon_cons_unit_zero (S := S1x1024) hz, View.readCov_unit_zero (S := S1x1024) _ hz,
    View.readCov_eq_canon']
  rfl

/-- At a later point, the gate half. -/
theorem outB_9 (c : Dev nD) (i : grid0.Coords) (arg1 : Memref sig .tc .vmem S416x1024 .f32) (harg1 : arg1.IsWhole) (arg2 : Memref sig .tc .vmem S1x1024 .f32) (harg2 : arg2.IsWhole) (arg3 : Memref sig .tc .vmem S4x1024x1408 .bf16) (harg3 : arg3.IsWhole) (arg4 : Memref sig .tc .vmem S2x1408x1024 .bf16) (harg4 : arg4.IsWhole) (arg5 : Memref sig .tc .vmem S1x1024 .f32) (harg5 : arg5.IsWhole) (arg6 : Memref sig .tc .vmem S416x1024 .f32) (harg6 : arg6.IsWhole) (arg7 : Memref sig .tc .vmem S416x1024 .f32) (harg7 : arg7.IsWhole) (arg8 : Memref sig .tc .vmem S8x128 .f32) (harg8 : arg8.IsWhole) (arg9 : Memref sig .tc .vmem S1x1024 .f32) (harg9 : arg9.IsWhole) (arg10 : Memref sig .tc .vmem S416x2816 .bf16) (harg10 : arg10.IsWhole) (arg11 : Memref sig .tc .vmem S416x2816 .bf16) (harg11 : arg11.IsWhole) (arg12 : Memref sig .tc .vmem S416x2816 .bf16) (harg12 : arg12.IsWhole) (arg13 : Memref sig .tc .vmem S416x1024 .bf16) (harg13 : arg13.IsWhole) (hc0 : ¬cond0_0 i) (x0 : Vec F S416x1024 .f32) (x1 : Vec F S1x1024 .f32) (x2 : Vec F S4x1024x1408 .bf16) (x3 : Vec F S2x1408x1024 .bf16) (x4 : Vec F S1x1024 .f32) (x5 : Vec F S416x1024 .f32) (xo7 : Vec F S8x128 .f32) (xo8 : Vec F S1x1024 .f32) :
    out0_B_9 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 xo7 xo8 = View.canon (Val := Elt F) (gate2 x0 x1 x2 ++ gate1 x0 x1 x2) := by
  unfold out0_B_9
  rw [View.read_writes_junk_eq_canon]
  unfold kernelRun0_B
  dsimp only
  sl_unfold_words
  simp only [View.readAt_eq_ld, Memref.IsWhole.read_unread, View.ld_unit_zero (S := S416x1024) hz, View.ld_unit_zero (S := S1x1024) hz,
    View.ld_unit_zero (S := S8x128) hz, View.canon_cons_unit_zero (S := S8x128) hz, View.readCov_unit_zero (S := S8x128) _ hz,
    View.canon_cons_unit_zero (S := S416x1024) hz, View.canon_cons_unit_zero (S := S1x1024) hz, View.readCov_unit_zero (S := S1x1024) _ hz,
    View.readCov_eq_canon']
  rfl

/-- At a later point, the other half. -/
theorem outB_10 (c : Dev nD) (i : grid0.Coords) (arg1 : Memref sig .tc .vmem S416x1024 .f32) (harg1 : arg1.IsWhole) (arg2 : Memref sig .tc .vmem S1x1024 .f32) (harg2 : arg2.IsWhole) (arg3 : Memref sig .tc .vmem S4x1024x1408 .bf16) (harg3 : arg3.IsWhole) (arg4 : Memref sig .tc .vmem S2x1408x1024 .bf16) (harg4 : arg4.IsWhole) (arg5 : Memref sig .tc .vmem S1x1024 .f32) (harg5 : arg5.IsWhole) (arg6 : Memref sig .tc .vmem S416x1024 .f32) (harg6 : arg6.IsWhole) (arg7 : Memref sig .tc .vmem S416x1024 .f32) (harg7 : arg7.IsWhole) (arg8 : Memref sig .tc .vmem S8x128 .f32) (harg8 : arg8.IsWhole) (arg9 : Memref sig .tc .vmem S1x1024 .f32) (harg9 : arg9.IsWhole) (arg10 : Memref sig .tc .vmem S416x2816 .bf16) (harg10 : arg10.IsWhole) (arg11 : Memref sig .tc .vmem S416x2816 .bf16) (harg11 : arg11.IsWhole) (arg12 : Memref sig .tc .vmem S416x2816 .bf16) (harg12 : arg12.IsWhole) (arg13 : Memref sig .tc .vmem S416x1024 .bf16) (harg13 : arg13.IsWhole) (hc0 : ¬cond0_0 i) (x0 : Vec F S416x1024 .f32) (x1 : Vec F S1x1024 .f32) (x2 : Vec F S4x1024x1408 .bf16) (x3 : Vec F S2x1408x1024 .bf16) (x4 : Vec F S1x1024 .f32) (x5 : Vec F S416x1024 .f32) (xo7 : Vec F S8x128 .f32) (xo8 : Vec F S1x1024 .f32) :
    out0_B_10 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 xo7 xo8 = View.canon (Val := Elt F) (up2 x0 x1 x2 ++ up1 x0 x1 x2) := by
  unfold out0_B_10
  rw [View.read_writes_junk_eq_canon]
  unfold kernelRun0_B
  dsimp only
  sl_unfold_words
  simp only [View.readAt_eq_ld, Memref.IsWhole.read_unread, View.ld_unit_zero (S := S416x1024) hz, View.ld_unit_zero (S := S1x1024) hz,
    View.ld_unit_zero (S := S8x128) hz, View.canon_cons_unit_zero (S := S8x128) hz, View.readCov_unit_zero (S := S8x128) _ hz,
    View.canon_cons_unit_zero (S := S416x1024) hz, View.canon_cons_unit_zero (S := S1x1024) hz, View.readCov_unit_zero (S := S1x1024) _ hz,
    View.readCov_eq_canon']
  rfl

/-- At a later point, the hidden numbers. -/
theorem outB_11 (c : Dev nD) (i : grid0.Coords) (arg1 : Memref sig .tc .vmem S416x1024 .f32) (harg1 : arg1.IsWhole) (arg2 : Memref sig .tc .vmem S1x1024 .f32) (harg2 : arg2.IsWhole) (arg3 : Memref sig .tc .vmem S4x1024x1408 .bf16) (harg3 : arg3.IsWhole) (arg4 : Memref sig .tc .vmem S2x1408x1024 .bf16) (harg4 : arg4.IsWhole) (arg5 : Memref sig .tc .vmem S1x1024 .f32) (harg5 : arg5.IsWhole) (arg6 : Memref sig .tc .vmem S416x1024 .f32) (harg6 : arg6.IsWhole) (arg7 : Memref sig .tc .vmem S416x1024 .f32) (harg7 : arg7.IsWhole) (arg8 : Memref sig .tc .vmem S8x128 .f32) (harg8 : arg8.IsWhole) (arg9 : Memref sig .tc .vmem S1x1024 .f32) (harg9 : arg9.IsWhole) (arg10 : Memref sig .tc .vmem S416x2816 .bf16) (harg10 : arg10.IsWhole) (arg11 : Memref sig .tc .vmem S416x2816 .bf16) (harg11 : arg11.IsWhole) (arg12 : Memref sig .tc .vmem S416x2816 .bf16) (harg12 : arg12.IsWhole) (arg13 : Memref sig .tc .vmem S416x1024 .bf16) (harg13 : arg13.IsWhole) (hc0 : ¬cond0_0 i) (x0 : Vec F S416x1024 .f32) (x1 : Vec F S1x1024 .f32) (x2 : Vec F S4x1024x1408 .bf16) (x3 : Vec F S2x1408x1024 .bf16) (x4 : Vec F S1x1024 .f32) (x5 : Vec F S416x1024 .f32) (xo7 : Vec F S8x128 .f32) (xo8 : Vec F S1x1024 .f32) :
    out0_B_11 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 xo7 xo8 = View.canon (Val := Elt F) (hids2 x0 x1 x2 ++ hids1 x0 x1 x2) := by
  unfold out0_B_11
  rw [View.read_writes_junk_eq_canon]
  unfold kernelRun0_B
  dsimp only
  sl_unfold_words
  simp only [View.readAt_eq_ld, Memref.IsWhole.read_unread, View.ld_unit_zero (S := S416x1024) hz, View.ld_unit_zero (S := S1x1024) hz,
    View.ld_unit_zero (S := S8x128) hz, View.canon_cons_unit_zero (S := S8x128) hz, View.readCov_unit_zero (S := S8x128) _ hz,
    View.canon_cons_unit_zero (S := S416x1024) hz, View.canon_cons_unit_zero (S := S1x1024) hz, View.readCov_unit_zero (S := S1x1024) _ hz,
    View.readCov_eq_canon']
  rfl

/-- At a later point, the normalised rows. -/
theorem outB_12 (c : Dev nD) (i : grid0.Coords) (arg1 : Memref sig .tc .vmem S416x1024 .f32) (harg1 : arg1.IsWhole) (arg2 : Memref sig .tc .vmem S1x1024 .f32) (harg2 : arg2.IsWhole) (arg3 : Memref sig .tc .vmem S4x1024x1408 .bf16) (harg3 : arg3.IsWhole) (arg4 : Memref sig .tc .vmem S2x1408x1024 .bf16) (harg4 : arg4.IsWhole) (arg5 : Memref sig .tc .vmem S1x1024 .f32) (harg5 : arg5.IsWhole) (arg6 : Memref sig .tc .vmem S416x1024 .f32) (harg6 : arg6.IsWhole) (arg7 : Memref sig .tc .vmem S416x1024 .f32) (harg7 : arg7.IsWhole) (arg8 : Memref sig .tc .vmem S8x128 .f32) (harg8 : arg8.IsWhole) (arg9 : Memref sig .tc .vmem S1x1024 .f32) (harg9 : arg9.IsWhole) (arg10 : Memref sig .tc .vmem S416x2816 .bf16) (harg10 : arg10.IsWhole) (arg11 : Memref sig .tc .vmem S416x2816 .bf16) (harg11 : arg11.IsWhole) (arg12 : Memref sig .tc .vmem S416x2816 .bf16) (harg12 : arg12.IsWhole) (arg13 : Memref sig .tc .vmem S416x1024 .bf16) (harg13 : arg13.IsWhole) (hc0 : ¬cond0_0 i) (x0 : Vec F S416x1024 .f32) (x1 : Vec F S1x1024 .f32) (x2 : Vec F S4x1024x1408 .bf16) (x3 : Vec F S2x1408x1024 .bf16) (x4 : Vec F S1x1024 .f32) (x5 : Vec F S416x1024 .f32) (xo7 : Vec F S8x128 .f32) (xo8 : Vec F S1x1024 .f32) :
    out0_B_12 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 xo7 xo8 = k0_pay2 x0 x1 := by
  unfold out0_B_12
  rw [View.read_writes_junk_eq_canon]
  unfold kernelRun0_B
  dsimp only
  sl_unfold_words
  simp only [View.readAt_eq_ld, Memref.IsWhole.read_unread, View.ld_unit_zero (S := S416x1024) hz, View.ld_unit_zero (S := S1x1024) hz,
    View.ld_unit_zero (S := S8x128) hz, View.canon_cons_unit_zero (S := S8x128) hz, View.readCov_unit_zero (S := S8x128) _ hz,
    View.canon_cons_unit_zero (S := S416x1024) hz, View.canon_cons_unit_zero (S := S1x1024) hz, View.readCov_unit_zero (S := S1x1024) _ hz,
    View.readCov_eq_canon']

end Cert.Proof.Loss
-- ==== Proof.Loss.Payloads.lean ====
module

public import proofs.«01_k».proof.Proof.Gen.LossKernelIdeal.Skeleton
public import proofs.«01_k».proof.Proof.Sigmoid
public import proofs.«01_k».proof.Proof.RmsGrad
public import Idealize.ShloMosaic.Lib.Pointwise

@[expose] public section

/-! The stored values of the feed-forward forward body at an index, over the extended reals.  With `g` and `u` the two
products of the normalised row against a column of either half of the first weight, a column piece of the gate half is
`g`, one of the other half `u`, and one of the hidden numbers `g · σ(g) · u`. -/

set_option maxRecDepth 16384

noncomputable section

namespace Cert.Proof.Loss

open Cert.LossKernelIdeal Cert.LossKernelIdeal.Gen Idealize.ShloMosaic Idealize.SL.Sem

/-- One half, as the programs' binary32 pattern. -/
def half : EReal := Ideal.ofBits .f32 0x3F000000#32

/-- A hidden number: the gate through its sigmoid, times the other factor. -/
def hid (g u : EReal) : EReal := g * Ideal.logistic g * u

/-- A normalised row. -/
theorem pay2 (x0 : Vec Ideal S416x1024 .f32) (x1 : Vec Ideal S1x1024 .f32) (r : Fin 416) (k : Fin 1024) :
    k0_pay2 (F := Ideal) x0 x1 (ix2 r k) = x0 (ix2 r k) * RmsGrad.rstd (fun k => x0 (ix2 r k)) * x1 (ix2 0 k) := by
  pointwise [k0_pay2]
  rfl

/-- The column piece of the gate half at offset 0. -/
theorem gate_0 (x0 : Vec Ideal S416x1024 .f32) (x1 : Vec Ideal S1x1024 .f32) (wg : Vec Ideal S1x1024x256 .bf16) (r : Fin 416) (j : Fin 256) :
    (k0_pay5 (F := Ideal) x0 x1 wg) (ix2 r j)
      = ∑ k : Fin 1024, k0_pay2 (F := Ideal) x0 x1 (ix2 r k) * wg (ix3 0 k j) := by
  pointwise [k0_pay5, k0_pay3]

/-- The column piece of the other half at offset 0. -/
theorem up_0 (x0 : Vec Ideal S416x1024 .f32) (x1 : Vec Ideal S1x1024 .f32) (wu : Vec Ideal S1x1024x256 .bf16) (r : Fin 416) (j : Fin 256) :
    (k0_pay6 (F := Ideal) x0 x1 wu) (ix2 r j)
      = ∑ k : Fin 1024, k0_pay2 (F := Ideal) x0 x1 (ix2 r k) * wu (ix3 0 k j) := by
  pointwise [k0_pay6, k0_pay4]

/-- The column piece of the hidden numbers at offset 0. -/
theorem hid_0 (x0 : Vec Ideal S416x1024 .f32) (x1 : Vec Ideal S1x1024 .f32) (wg wu : Vec Ideal S1x1024x256 .bf16) (r : Fin 416) (j : Fin 256) :
    (k0_pay9 (F := Ideal) (k0_pay3 (F := Ideal) x0 x1 wg) (k0_pay4 (F := Ideal) x0 x1 wu) (k0_pay7 (F := Ideal) x0 x1 wg) (k0_pay8 (F := Ideal))) (ix2 r j)
      = hid (∑ k : Fin 1024, k0_pay2 (F := Ideal) x0 x1 (ix2 r k) * wg (ix3 0 k j)) (∑ k : Fin 1024, k0_pay2 (F := Ideal) x0 x1 (ix2 r k) * wu (ix3 0 k j)) := by
  simp only [hid, ← Sigmoid.half_tanh]
  pointwise [k0_pay9, k0_pay3, k0_pay4, k0_pay7, k0_pay8]

/-- The column piece of the gate half at offset 256. -/
theorem gate_256 (n : FVec Ideal S416x1024 .bf16) (wg : Vec Ideal S1x1024x256 .bf16) (r : Fin 416) (j : Fin 256) :
    (k0_pay12 (F := Ideal) n wg) (ix2 r j)
      = ∑ k : Fin 1024, n (ix2 r k) * wg (ix3 0 k j) := by
  pointwise [k0_pay12, k0_pay10]

/-- The column piece of the other half at offset 256. -/
theorem up_256 (n : FVec Ideal S416x1024 .bf16) (wu : Vec Ideal S1x1024x256 .bf16) (r : Fin 416) (j : Fin 256) :
    (k0_pay13 (F := Ideal) n wu) (ix2 r j)
      = ∑ k : Fin 1024, n (ix2 r k) * wu (ix3 0 k j) := by
  pointwise [k0_pay13, k0_pay11]

/-- The column piece of the hidden numbers at offset 256. -/
theorem hid_256 (n : FVec Ideal S416x1024 .bf16) (wg wu : Vec Ideal S1x1024x256 .bf16) (r : Fin 416) (j : Fin 256) :
    (k0_pay14 (F := Ideal) n wg wu) (ix2 r j)
      = hid (∑ k : Fin 1024, n (ix2 r k) * wg (ix3 0 k j)) (∑ k : Fin 1024, n (ix2 r k) * wu (ix3 0 k j)) := by
  simp only [hid, ← Sigmoid.half_tanh]
  pointwise [k0_pay14, k0_pay11, k0_pay10]

/-- The column piece of the gate half at offset 512. -/
theorem gate_512 (n : FVec Ideal S416x1024 .bf16) (wg : Vec Ideal S1x1024x256 .bf16) (r : Fin 416) (j : Fin 256) :
    (k0_pay17 (F := Ideal) (k0_pay15 (F := Ideal) n wg)) (ix2 r j)
      = ∑ k : Fin 1024, n (ix2 r k) * wg (ix3 0 k j) := by
  pointwise [k0_pay17, k0_pay15]

/-- The column piece of the other half at offset 512. -/
theorem up_512 (n : FVec Ideal S416x1024 .bf16) (wu : Vec Ideal S1x1024x256 .bf16) (r : Fin 416) (j : Fin 256) :
    (k0_pay18 (F := Ideal) n wu) (ix2 r j)
      = ∑ k : Fin 1024, n (ix2 r k) * wu (ix3 0 k j) := by
  pointwise [k0_pay18, k0_pay16]

/-- The column piece of the hidden numbers at offset 512. -/
theorem hid_512 (n : FVec Ideal S416x1024 .bf16) (wg wu : Vec Ideal S1x1024x256 .bf16) (r : Fin 416) (j : Fin 256) :
    (k0_pay19 (F := Ideal) n (k0_pay15 (F := Ideal) n wg) wu) (ix2 r j)
      = hid (∑ k : Fin 1024, n (ix2 r k) * wg (ix3 0 k j)) (∑ k : Fin 1024, n (ix2 r k) * wu (ix3 0 k j)) := by
  simp only [hid, ← Sigmoid.half_tanh]
  pointwise [k0_pay19, k0_pay16, k0_pay15]

/-- The column piece of the gate half at offset 768. -/
theorem gate_768 (n : FVec Ideal S416x1024 .bf16) (wg : Vec Ideal S1x1024x256 .bf16) (r : Fin 416) (j : Fin 256) :
    (k0_pay22 (F := Ideal) n wg) (ix2 r j)
      = ∑ k : Fin 1024, n (ix2 r k) * wg (ix3 0 k j) := by
  pointwise [k0_pay22, k0_pay20]

/-- The column piece of the other half at offset 768. -/
theorem up_768 (n : FVec Ideal S416x1024 .bf16) (wu : Vec Ideal S1x1024x256 .bf16) (r : Fin 416) (j : Fin 256) :
    (k0_pay23 (F := Ideal) n wu) (ix2 r j)
      = ∑ k : Fin 1024, n (ix2 r k) * wu (ix3 0 k j) := by
  pointwise [k0_pay23, k0_pay21]

/-- The column piece of the hidden numbers at offset 768. -/
theorem hid_768 (n : FVec Ideal S416x1024 .bf16) (wg wu : Vec Ideal S1x1024x256 .bf16) (r : Fin 416) (j : Fin 256) :
    (k0_pay26 (F := Ideal) (k0_pay20 (F := Ideal) n wg) (k0_pay21 (F := Ideal) n wu) (k0_pay24 (F := Ideal) n wg) (k0_pay25 (F := Ideal))) (ix2 r j)
      = hid (∑ k : Fin 1024, n (ix2 r k) * wg (ix3 0 k j)) (∑ k : Fin 1024, n (ix2 r k) * wu (ix3 0 k j)) := by
  simp only [hid, ← Sigmoid.half_tanh]
  pointwise [k0_pay26, k0_pay20, k0_pay21, k0_pay24, k0_pay25]

/-- The column piece of the gate half at offset 1024. -/
theorem gate_1024 (n : FVec Ideal S416x1024 .bf16) (wg : Vec Ideal S1x1024x256 .bf16) (r : Fin 416) (j : Fin 256) :
    (k0_pay29 (F := Ideal) n wg) (ix2 r j)
      = ∑ k : Fin 1024, n (ix2 r k) * wg (ix3 0 k j) := by
  pointwise [k0_pay29, k0_pay27]

/-- The column piece of the other half at offset 1024. -/
theorem up_1024 (n : FVec Ideal S416x1024 .bf16) (wu : Vec Ideal S1x1024x256 .bf16) (r : Fin 416) (j : Fin 256) :
    (k0_pay30 (F := Ideal) n wu) (ix2 r j)
      = ∑ k : Fin 1024, n (ix2 r k) * wu (ix3 0 k j) := by
  pointwise [k0_pay30, k0_pay28]

/-- The column piece of the hidden numbers at offset 1024. -/
theorem hid_1024 (n : FVec Ideal S416x1024 .bf16) (wg wu : Vec Ideal S1x1024x256 .bf16) (r : Fin 416) (j : Fin 256) :
    (k0_pay31 (F := Ideal) n wg wu) (ix2 r j)
      = hid (∑ k : Fin 1024, n (ix2 r k) * wg (ix3 0 k j)) (∑ k : Fin 1024, n (ix2 r k) * wu (ix3 0 k j)) := by
  simp only [hid, ← Sigmoid.half_tanh]
  pointwise [k0_pay31, k0_pay28, k0_pay27]

/-- The column piece of the gate half at offset 1280. -/
theorem gate_1280 (n : FVec Ideal S416x1024 .bf16) (wg : Vec Ideal S1x1024x128 .bf16) (r : Fin 416) (j : Fin 128) :
    (k0_pay34 (F := Ideal) (k0_pay32 (F := Ideal) n wg)) (ix2 r j)
      = ∑ k : Fin 1024, n (ix2 r k) * wg (ix3 0 k j) := by
  pointwise [k0_pay34, k0_pay32]

/-- The column piece of the other half at offset 1280. -/
theorem up_1280 (n : FVec Ideal S416x1024 .bf16) (wu : Vec Ideal S1x1024x128 .bf16) (r : Fin 416) (j : Fin 128) :
    (k0_pay35 (F := Ideal) n wu) (ix2 r j)
      = ∑ k : Fin 1024, n (ix2 r k) * wu (ix3 0 k j) := by
  pointwise [k0_pay35, k0_pay33]

/-- The column piece of the hidden numbers at offset 1280. -/
theorem hid_1280 (n : FVec Ideal S416x1024 .bf16) (wg wu : Vec Ideal S1x1024x128 .bf16) (r : Fin 416) (j : Fin 128) :
    (k0_pay36 (F := Ideal) n (k0_pay32 (F := Ideal) n wg) wu) (ix2 r j)
      = hid (∑ k : Fin 1024, n (ix2 r k) * wg (ix3 0 k j)) (∑ k : Fin 1024, n (ix2 r k) * wu (ix3 0 k j)) := by
  simp only [hid, ← Sigmoid.half_tanh]
  pointwise [k0_pay36, k0_pay33, k0_pay32]

/-- The column piece of the gate half at offset 1408. -/
theorem gate_1408 (n : FVec Ideal S416x1024 .bf16) (wg : Vec Ideal S1x1024x256 .bf16) (r : Fin 416) (j : Fin 256) :
    (k0_pay40 (F := Ideal) n wg) (ix2 r j)
      = ∑ k : Fin 1024, n (ix2 r k) * wg (ix3 0 k j) := by
  pointwise [k0_pay40, k0_pay38]

/-- The column piece of the other half at offset 1408. -/
theorem up_1408 (n : FVec Ideal S416x1024 .bf16) (wu : Vec Ideal S1x1024x256 .bf16) (r : Fin 416) (j : Fin 256) :
    (k0_pay41 (F := Ideal) (k0_pay39 (F := Ideal) n wu)) (ix2 r j)
      = ∑ k : Fin 1024, n (ix2 r k) * wu (ix3 0 k j) := by
  pointwise [k0_pay41, k0_pay39]

/-- The column piece of the hidden numbers at offset 1408. -/
theorem hid_1408 (n : FVec Ideal S416x1024 .bf16) (wg wu : Vec Ideal S1x1024x256 .bf16) (r : Fin 416) (j : Fin 256) :
    (k0_pay42 (F := Ideal) (k0_pay38 (F := Ideal) n wg) (k0_pay39 (F := Ideal) n wu)) (ix2 r j)
      = hid (∑ k : Fin 1024, n (ix2 r k) * wg (ix3 0 k j)) (∑ k : Fin 1024, n (ix2 r k) * wu (ix3 0 k j)) := by
  simp only [hid, ← Sigmoid.half_tanh]
  pointwise [k0_pay42, k0_pay38, k0_pay39]

/-- The column piece of the gate half at offset 1664. -/
theorem gate_1664 (n : FVec Ideal S416x1024 .bf16) (wg : Vec Ideal S1x1024x256 .bf16) (r : Fin 416) (j : Fin 256) :
    (k0_pay45 (F := Ideal) n wg) (ix2 r j)
      = ∑ k : Fin 1024, n (ix2 r k) * wg (ix3 0 k j) := by
  pointwise [k0_pay45, k0_pay43]

/-- The column piece of the other half at offset 1664. -/
theorem up_1664 (n : FVec Ideal S416x1024 .bf16) (wu : Vec Ideal S1x1024x256 .bf16) (r : Fin 416) (j : Fin 256) :
    (k0_pay46 (F := Ideal) n wu) (ix2 r j)
      = ∑ k : Fin 1024, n (ix2 r k) * wu (ix3 0 k j) := by
  pointwise [k0_pay46, k0_pay44]

/-- The column piece of the hidden numbers at offset 1664. -/
theorem hid_1664 (n : FVec Ideal S416x1024 .bf16) (wg wu : Vec Ideal S1x1024x256 .bf16) (r : Fin 416) (j : Fin 256) :
    (k0_pay48 (F := Ideal) (k0_pay44 (F := Ideal) n wu) (k0_pay47 (F := Ideal) n wg)) (ix2 r j)
      = hid (∑ k : Fin 1024, n (ix2 r k) * wg (ix3 0 k j)) (∑ k : Fin 1024, n (ix2 r k) * wu (ix3 0 k j)) := by
  simp only [hid, ← Sigmoid.half_tanh]
  pointwise [k0_pay48, k0_pay44, k0_pay47, k0_pay43]

/-- The column piece of the gate half at offset 1920. -/
theorem gate_1920 (n : FVec Ideal S416x1024 .bf16) (wg : Vec Ideal S1x1024x256 .bf16) (r : Fin 416) (j : Fin 256) :
    (k0_pay51 (F := Ideal) n wg) (ix2 r j)
      = ∑ k : Fin 1024, n (ix2 r k) * wg (ix3 0 k j) := by
  pointwise [k0_pay51, k0_pay49]

/-- The column piece of the other half at offset 1920. -/
theorem up_1920 (n : FVec Ideal S416x1024 .bf16) (wu : Vec Ideal S1x1024x256 .bf16) (r : Fin 416) (j : Fin 256) :
    (k0_pay52 (F := Ideal) n wu) (ix2 r j)
      = ∑ k : Fin 1024, n (ix2 r k) * wu (ix3 0 k j) := by
  pointwise [k0_pay52, k0_pay50]

/-- The column piece of the hidden numbers at offset 1920. -/
theorem hid_1920 (n : FVec Ideal S416x1024 .bf16) (wg wu : Vec Ideal S1x1024x256 .bf16) (r : Fin 416) (j : Fin 256) :
    (k0_pay53 (F := Ideal) n wg wu) (ix2 r j)
      = hid (∑ k : Fin 1024, n (ix2 r k) * wg (ix3 0 k j)) (∑ k : Fin 1024, n (ix2 r k) * wu (ix3 0 k j)) := by
  simp only [hid, ← Sigmoid.half_tanh]
  pointwise [k0_pay53, k0_pay50, k0_pay49]

/-- The column piece of the gate half at offset 2176. -/
theorem gate_2176 (n : FVec Ideal S416x1024 .bf16) (wg : Vec Ideal S1x1024x256 .bf16) (r : Fin 416) (j : Fin 256) :
    (k0_pay57 (F := Ideal) (k0_pay54 (F := Ideal) n wg)) (ix2 r j)
      = ∑ k : Fin 1024, n (ix2 r k) * wg (ix3 0 k j) := by
  pointwise [k0_pay57, k0_pay54]

/-- The column piece of the other half at offset 2176. -/
theorem up_2176 (n : FVec Ideal S416x1024 .bf16) (wu : Vec Ideal S1x1024x256 .bf16) (r : Fin 416) (j : Fin 256) :
    (k0_pay58 (F := Ideal) n (k0_pay55 (F := Ideal) wu) (constant (F := Ideal) S416x256 .f32 0x00000000#32)) (ix2 r j)
      = ∑ k : Fin 1024, n (ix2 r k) * wu (ix3 0 k j) := by
  pointwise [k0_pay58, k0_pay56, k0_pay55]

/-- The column piece of the hidden numbers at offset 2176. -/
theorem hid_2176 (n : FVec Ideal S416x1024 .bf16) (wg wu : Vec Ideal S1x1024x256 .bf16) (r : Fin 416) (j : Fin 256) :
    (k0_pay59 (F := Ideal) n (k0_pay54 (F := Ideal) n wg) (k0_pay55 (F := Ideal) wu) (constant (F := Ideal) S416x256 .f32 0x00000000#32)) (ix2 r j)
      = hid (∑ k : Fin 1024, n (ix2 r k) * wg (ix3 0 k j)) (∑ k : Fin 1024, n (ix2 r k) * wu (ix3 0 k j)) := by
  simp only [hid, ← Sigmoid.half_tanh]
  pointwise [k0_pay59, k0_pay56, k0_pay54, k0_pay55]

/-- The column piece of the gate half at offset 2432. -/
theorem gate_2432 (n : FVec Ideal S416x1024 .bf16) (wg : Vec Ideal S1x1024x256 .bf16) (r : Fin 416) (j : Fin 256) :
    (k0_pay62 (F := Ideal) n wg) (ix2 r j)
      = ∑ k : Fin 1024, n (ix2 r k) * wg (ix3 0 k j) := by
  pointwise [k0_pay62, k0_pay60]

/-- The column piece of the other half at offset 2432. -/
theorem up_2432 (n : FVec Ideal S416x1024 .bf16) (wu : Vec Ideal S1x1024x256 .bf16) (r : Fin 416) (j : Fin 256) :
    (k0_pay63 (F := Ideal) n wu) (ix2 r j)
      = ∑ k : Fin 1024, n (ix2 r k) * wu (ix3 0 k j) := by
  pointwise [k0_pay63, k0_pay61]

/-- The column piece of the hidden numbers at offset 2432. -/
theorem hid_2432 (n : FVec Ideal S416x1024 .bf16) (wg wu : Vec Ideal S1x1024x256 .bf16) (r : Fin 416) (j : Fin 256) :
    (k0_pay65 (F := Ideal) (k0_pay60 (F := Ideal) n wg) (k0_pay61 (F := Ideal) n wu) (k0_pay64 (F := Ideal) n wg) (Scalar.ofBits (F := Ideal) .f32 0x3F000000#32)) (ix2 r j)
      = hid (∑ k : Fin 1024, n (ix2 r k) * wg (ix3 0 k j)) (∑ k : Fin 1024, n (ix2 r k) * wu (ix3 0 k j)) := by
  simp only [hid, ← Sigmoid.half_tanh]
  pointwise [k0_pay65, k0_pay60, k0_pay61, k0_pay64]

/-- The column piece of the gate half at offset 2688. -/
theorem gate_2688 (n : FVec Ideal S416x1024 .bf16) (wg : Vec Ideal S1x1024x128 .bf16) (r : Fin 416) (j : Fin 128) :
    (k0_pay68 (F := Ideal) n wg) (ix2 r j)
      = ∑ k : Fin 1024, n (ix2 r k) * wg (ix3 0 k j) := by
  pointwise [k0_pay68, k0_pay66]

/-- The column piece of the other half at offset 2688. -/
theorem up_2688 (n : FVec Ideal S416x1024 .bf16) (wu : Vec Ideal S1x1024x128 .bf16) (r : Fin 416) (j : Fin 128) :
    (k0_pay69 (F := Ideal) n wu) (ix2 r j)
      = ∑ k : Fin 1024, n (ix2 r k) * wu (ix3 0 k j) := by
  pointwise [k0_pay69, k0_pay67]

/-- The column piece of the hidden numbers at offset 2688. -/
theorem hid_2688 (n : FVec Ideal S416x1024 .bf16) (wg wu : Vec Ideal S1x1024x128 .bf16) (r : Fin 416) (j : Fin 128) :
    (k0_pay70 (F := Ideal) n wg wu) (ix2 r j)
      = hid (∑ k : Fin 1024, n (ix2 r k) * wg (ix3 0 k j)) (∑ k : Fin 1024, n (ix2 r k) * wu (ix3 0 k j)) := by
  simp only [hid, ← Sigmoid.half_tanh]
  pointwise [k0_pay70, k0_pay67, k0_pay66]

/-- The block of the output: the input plus half of the second product, in its two halves of 1408 terms. -/
theorem final (x0 : Vec Ideal S416x1024 .f32) (a b : Vec Ideal S416x1408 .bf16) (v w : Vec Ideal S1x1408x1024 .bf16) (r : Fin 416) (k : Fin 1024) :
    k0_pay73 (F := Ideal) x0 (k0_pay37 (F := Ideal) a v) (k0_pay71 (F := Ideal) b) (k0_pay72 (F := Ideal) w) (constant (F := Ideal) S416x1024 .f32 0x00000000#32) (ix2 r k)
      = x0 (ix2 r k) + half * ((∑ j : Fin 1408, a (ix2 r j) * v (ix3 0 j k)) + ∑ j : Fin 1408, b (ix2 r j) * w (ix3 0 j k)) := by
  pointwise [k0_pay73, k0_pay37, k0_pay71, k0_pay72]
  rfl

end Cert.Proof.Loss
-- ==== Proof.Loss.Hidden.lean ====
module

public import proofs.«01_k».proof.Proof.Loss.Pieces
public import proofs.«01_k».proof.Proof.Loss.Payloads
public import Idealize.ShloMosaic.Lib.Pipeline.ReadBack

@[expose] public section

/-! The twelve column pieces of each half and of the hidden numbers are the columns of one function, so the block they
fill is that function, and so is what the second product reads of it. -/

set_option maxRecDepth 16384

noncomputable section

namespace Cert.Proof.Loss

open Cert.LossKernelIdeal Cert.LossKernelIdeal.Gen Idealize.ShloMosaic Idealize.SL.Sem

/-- Column `c` of 2816 is column `pos c` of the group `grp q c` of 1408: the gate half's groups are 0 and 1, the other's 2 and 3. -/
def grp (q : Fin 3) (c : Fin 2816) (hq : q.val ≤ 2) : Fin 4 := ⟨q.val + c.val / 1408, by have := c.isLt; omega⟩
def pos (c : Fin 2816) : Fin 1408 := ⟨c.val % 1408, Nat.mod_lt _ (by decide)⟩

/-- The normalised row against a column of one half of the first weight. -/
def colAt (n : FVec Ideal S416x1024 .bf16) (x2 : Vec Ideal S4x1024x1408 .bf16) (q : Fin 3) (r : Fin 416) (c : Fin 2816) : EReal :=
  ∑ k : Fin 1024, n (ix2 r k) * x2 (ix3 (grp q c (by have := q.isLt; omega)) k (pos c))

variable (x0 : Vec Ideal S416x1024 .f32) (x1 : Vec Ideal S1x1024 .f32) (x2 : Vec Ideal S4x1024x1408 .bf16)
  (x3 : Vec Ideal S2x1408x1024 .bf16) (n : FVec Ideal S416x1024 .bf16)

/-- The gate half, the other half and the hidden numbers in a block. -/
def gateAt (r : Fin 416) (c : Fin 2816) : EReal := colAt (k0_pay2 (F := Ideal) x0 x1) x2 0 r c
def upAt (r : Fin 416) (c : Fin 2816) : EReal := colAt (k0_pay2 (F := Ideal) x0 x1) x2 2 r c
def hidsAt (r : Fin 416) (c : Fin 2816) : EReal := hid (gateAt x0 x1 x2 r c) (upAt x0 x1 x2 r c)

/-- The place of a piece's entry in the block. -/
theorem place (o W : Nat) (h : ∀ a, (![0, o] : Fin 2 → Nat) a + (![416, W] : Fin 2 → Nat) a ≤ S416x2816.size a) (r : Fin 416) (j : Fin W) :
    (Rect.unit (s := S416x2816) ![0, o] ![416, W] h).emb (ix2 r j)
      = ix2 r (⟨o + j.val, by have := h 1; have := j.isLt; simp at *; omega⟩ : Fin 2816) := by
  funext a
  match a with
  | ⟨0, _⟩ => exact Fin.ext (show 0 + 1 * r.val = r.val by omega)
  | ⟨1, _⟩ => exact Fin.ext (show o + 1 * j.val = o + j.val by omega)

/-- The place of a column of the first weight that a piece uses. -/
theorem wplace (q : Fin 3) (s o p W : Nat) (hs : q.val ≤ s) (ho : o = (s - q.val) * 1408 + p) (hp : p + W ≤ 1408)
    (h : ∀ a, (![s, 0, p] : Fin 3 → Nat) a + (![1, 1024, W] : Fin 3 → Nat) a ≤ S4x1024x1408.size a)
    (j : Fin W) (hj : o + j.val < 2816) (k : Fin 1024) :
    (Rect.unit (s := S4x1024x1408) ![s, 0, p] ![1, 1024, W] h).emb (ix3 0 k j)
      = ix3 (grp q ⟨o + j.val, hj⟩ (by have := q.isLt; omega)) k (pos ⟨o + j.val, hj⟩) := by
  funext a
  have := j.isLt
  match a with
  | ⟨0, _⟩ => exact Fin.ext (show s + 1 * 0 = q.val + (o + j.val) / 1408 by omega)
  | ⟨1, _⟩ => exact Fin.ext (show 0 + 1 * k.val = k.val by omega)
  | ⟨2, _⟩ => exact Fin.ext (show p + 1 * j.val = (o + j.val) % 1408 by omega)

/-- A piece of one half at its place. -/
theorem col_place (q : Fin 3) (s o p W : Nat) (hs : q.val ≤ s) (ho : o = (s - q.val) * 1408 + p) (hp : p + W ≤ 1408)
    (h : ∀ a, (![0, o] : Fin 2 → Nat) a + (![416, W] : Fin 2 → Nat) a ≤ S416x2816.size a)
    (hw : ∀ a, (![s, 0, p] : Fin 3 → Nat) a + (![1, 1024, W] : Fin 3 → Nat) a ≤ S4x1024x1408.size a) (r : Fin 416) (j : Fin W) :
    (∑ k : Fin 1024, n (ix2 r k) * x2 ((Rect.unit (s := S4x1024x1408) ![s, 0, p] ![1, 1024, W] hw).emb (ix3 0 k j)))
      = (fun y : S416x2816.Idx => colAt n x2 q (y 0) (y 1)) ((Rect.unit (s := S416x2816) ![0, o] ![416, W] h).emb (ix2 r j)) := by
  rw [place]
  simp only [wplace q s o p W hs ho hp hw j (by have := h 1; have := j.isLt; simp at *; omega)]
  rfl

/-- A piece of the hidden numbers at its place. -/
theorem hid_place (s s' o p W : Nat) (ho : o = s * 1408 + p) (hs : 2 ≤ s') (ho' : o = (s' - 2) * 1408 + p) (hp : p + W ≤ 1408)
    (h : ∀ a, (![0, o] : Fin 2 → Nat) a + (![416, W] : Fin 2 → Nat) a ≤ S416x2816.size a)
    (hw : ∀ a, (![s, 0, p] : Fin 3 → Nat) a + (![1, 1024, W] : Fin 3 → Nat) a ≤ S4x1024x1408.size a)
    (hw' : ∀ a, (![s', 0, p] : Fin 3 → Nat) a + (![1, 1024, W] : Fin 3 → Nat) a ≤ S4x1024x1408.size a) (r : Fin 416) (j : Fin W) :
    hid (∑ k : Fin 1024, k0_pay2 (F := Ideal) x0 x1 (ix2 r k) * x2 ((Rect.unit (s := S4x1024x1408) ![s, 0, p] ![1, 1024, W] hw).emb (ix3 0 k j)))
        (∑ k : Fin 1024, k0_pay2 (F := Ideal) x0 x1 (ix2 r k) * x2 ((Rect.unit (s := S4x1024x1408) ![s', 0, p] ![1, 1024, W] hw').emb (ix3 0 k j)))
      = (fun y : S416x2816.Idx => hidsAt x0 x1 x2 (y 0) (y 1)) ((Rect.unit (s := S416x2816) ![0, o] ![416, W] h).emb (ix2 r j)) := by
  rw [col_place x2 _ 0 s o p W (Nat.zero_le _) ho hp h hw r j, col_place x2 _ 2 s' o p W hs ho' hp h hw' r j]
  rfl

theorem gate1_pieces : View.PiecesOf (Val := Elt Ideal) (fun y : S416x2816.Idx => gateAt x0 x1 x2 (y 0) (y 1)) (gate1 x0 x1 x2) := by
  unfold gate1
  refine ⟨?_, ?_, ?_, ?_, ?_, ?_, trivial⟩
  · intro (x : S416x128.Idx)
    obtain ⟨r, j, rfl⟩ : ∃ (r : Fin 416) (j : Fin 128), x = ix2 r j := ⟨_, _, eq_ix2 x⟩
    exact (gate_1280 _ _ r j).trans (col_place x2 (k0_pay2 (F := Ideal) x0 x1) 0 0 1280 1280 128 (by decide) (by decide) (by decide) (by decide) _ r j)
  · intro (x : S416x256.Idx)
    obtain ⟨r, j, rfl⟩ : ∃ (r : Fin 416) (j : Fin 256), x = ix2 r j := ⟨_, _, eq_ix2 x⟩
    exact (gate_1024 _ _ r j).trans (col_place x2 (k0_pay2 (F := Ideal) x0 x1) 0 0 1024 1024 256 (by decide) (by decide) (by decide) (by decide) _ r j)
  · intro (x : S416x256.Idx)
    obtain ⟨r, j, rfl⟩ : ∃ (r : Fin 416) (j : Fin 256), x = ix2 r j := ⟨_, _, eq_ix2 x⟩
    exact (gate_768 _ _ r j).trans (col_place x2 (k0_pay2 (F := Ideal) x0 x1) 0 0 768 768 256 (by decide) (by decide) (by decide) (by decide) _ r j)
  · intro (x : S416x256.Idx)
    obtain ⟨r, j, rfl⟩ : ∃ (r : Fin 416) (j : Fin 256), x = ix2 r j := ⟨_, _, eq_ix2 x⟩
    exact (gate_512 _ _ r j).trans (col_place x2 (k0_pay2 (F := Ideal) x0 x1) 0 0 512 512 256 (by decide) (by decide) (by decide) (by decide) _ r j)
  · intro (x : S416x256.Idx)
    obtain ⟨r, j, rfl⟩ : ∃ (r : Fin 416) (j : Fin 256), x = ix2 r j := ⟨_, _, eq_ix2 x⟩
    exact (gate_256 _ _ r j).trans (col_place x2 (k0_pay2 (F := Ideal) x0 x1) 0 0 256 256 256 (by decide) (by decide) (by decide) (by decide) _ r j)
  · intro (x : S416x256.Idx)
    obtain ⟨r, j, rfl⟩ : ∃ (r : Fin 416) (j : Fin 256), x = ix2 r j := ⟨_, _, eq_ix2 x⟩
    exact (gate_0 x0 x1 _ r j).trans (col_place x2 (k0_pay2 (F := Ideal) x0 x1) 0 0 0 0 256 (by decide) (by decide) (by decide) (by decide) _ r j)

theorem gate2_pieces : View.PiecesOf (Val := Elt Ideal) (fun y : S416x2816.Idx => gateAt x0 x1 x2 (y 0) (y 1)) (gate2 x0 x1 x2) := by
  unfold gate2
  refine ⟨?_, ?_, ?_, ?_, ?_, ?_, trivial⟩
  · intro (x : S416x128.Idx)
    obtain ⟨r, j, rfl⟩ : ∃ (r : Fin 416) (j : Fin 128), x = ix2 r j := ⟨_, _, eq_ix2 x⟩
    exact (gate_2688 _ _ r j).trans (col_place x2 (k0_pay2 (F := Ideal) x0 x1) 0 1 2688 1280 128 (by decide) (by decide) (by decide) (by decide) _ r j)
  · intro (x : S416x256.Idx)
    obtain ⟨r, j, rfl⟩ : ∃ (r : Fin 416) (j : Fin 256), x = ix2 r j := ⟨_, _, eq_ix2 x⟩
    exact (gate_2432 _ _ r j).trans (col_place x2 (k0_pay2 (F := Ideal) x0 x1) 0 1 2432 1024 256 (by decide) (by decide) (by decide) (by decide) _ r j)
  · intro (x : S416x256.Idx)
    obtain ⟨r, j, rfl⟩ : ∃ (r : Fin 416) (j : Fin 256), x = ix2 r j := ⟨_, _, eq_ix2 x⟩
    exact (gate_2176 _ _ r j).trans (col_place x2 (k0_pay2 (F := Ideal) x0 x1) 0 1 2176 768 256 (by decide) (by decide) (by decide) (by decide) _ r j)
  · intro (x : S416x256.Idx)
    obtain ⟨r, j, rfl⟩ : ∃ (r : Fin 416) (j : Fin 256), x = ix2 r j := ⟨_, _, eq_ix2 x⟩
    exact (gate_1920 _ _ r j).trans (col_place x2 (k0_pay2 (F := Ideal) x0 x1) 0 1 1920 512 256 (by decide) (by decide) (by decide) (by decide) _ r j)
  · intro (x : S416x256.Idx)
    obtain ⟨r, j, rfl⟩ : ∃ (r : Fin 416) (j : Fin 256), x = ix2 r j := ⟨_, _, eq_ix2 x⟩
    exact (gate_1664 _ _ r j).trans (col_place x2 (k0_pay2 (F := Ideal) x0 x1) 0 1 1664 256 256 (by decide) (by decide) (by decide) (by decide) _ r j)
  · intro (x : S416x256.Idx)
    obtain ⟨r, j, rfl⟩ : ∃ (r : Fin 416) (j : Fin 256), x = ix2 r j := ⟨_, _, eq_ix2 x⟩
    exact (gate_1408 _ _ r j).trans (col_place x2 (k0_pay2 (F := Ideal) x0 x1) 0 1 1408 0 256 (by decide) (by decide) (by decide) (by decide) _ r j)

/-- The block they fill. -/
theorem gate_block (y : S416x2816.Idx) :
    View.canon (Val := Elt Ideal) (gate2 x0 x1 x2 ++ gate1 x0 x1 x2) y = gateAt x0 x1 x2 (y 0) (y 1) := by
  have hp : View.PiecesOf (Val := Elt Ideal) (fun y : S416x2816.Idx => gateAt x0 x1 x2 (y 0) (y 1)) (gate2 x0 x1 x2 ++ gate1 x0 x1 x2) := by
    obtain ⟨a, b, c, d, e, f, -⟩ := gate2_pieces x0 x1 x2
    exact ⟨a, b, c, d, e, f, gate1_pieces x0 x1 x2⟩
  have h := View.canon_append_of_piecesOf (Val := Elt Ideal) _ [] _ hp y (View.cover_of_tiledBy _ ![416, 128] (by sl_kernel_rfl) y)
  rwa [List.append_nil] at h

theorem up1_pieces : View.PiecesOf (Val := Elt Ideal) (fun y : S416x2816.Idx => upAt x0 x1 x2 (y 0) (y 1)) (up1 x0 x1 x2) := by
  unfold up1
  refine ⟨?_, ?_, ?_, ?_, ?_, ?_, trivial⟩
  · intro (x : S416x128.Idx)
    obtain ⟨r, j, rfl⟩ : ∃ (r : Fin 416) (j : Fin 128), x = ix2 r j := ⟨_, _, eq_ix2 x⟩
    exact (up_1280 _ _ r j).trans (col_place x2 (k0_pay2 (F := Ideal) x0 x1) 2 2 1280 1280 128 (by decide) (by decide) (by decide) (by decide) _ r j)
  · intro (x : S416x256.Idx)
    obtain ⟨r, j, rfl⟩ : ∃ (r : Fin 416) (j : Fin 256), x = ix2 r j := ⟨_, _, eq_ix2 x⟩
    exact (up_1024 _ _ r j).trans (col_place x2 (k0_pay2 (F := Ideal) x0 x1) 2 2 1024 1024 256 (by decide) (by decide) (by decide) (by decide) _ r j)
  · intro (x : S416x256.Idx)
    obtain ⟨r, j, rfl⟩ : ∃ (r : Fin 416) (j : Fin 256), x = ix2 r j := ⟨_, _, eq_ix2 x⟩
    exact (up_768 _ _ r j).trans (col_place x2 (k0_pay2 (F := Ideal) x0 x1) 2 2 768 768 256 (by decide) (by decide) (by decide) (by decide) _ r j)
  · intro (x : S416x256.Idx)
    obtain ⟨r, j, rfl⟩ : ∃ (r : Fin 416) (j : Fin 256), x = ix2 r j := ⟨_, _, eq_ix2 x⟩
    exact (up_512 _ _ r j).trans (col_place x2 (k0_pay2 (F := Ideal) x0 x1) 2 2 512 512 256 (by decide) (by decide) (by decide) (by decide) _ r j)
  · intro (x : S416x256.Idx)
    obtain ⟨r, j, rfl⟩ : ∃ (r : Fin 416) (j : Fin 256), x = ix2 r j := ⟨_, _, eq_ix2 x⟩
    exact (up_256 _ _ r j).trans (col_place x2 (k0_pay2 (F := Ideal) x0 x1) 2 2 256 256 256 (by decide) (by decide) (by decide) (by decide) _ r j)
  · intro (x : S416x256.Idx)
    obtain ⟨r, j, rfl⟩ : ∃ (r : Fin 416) (j : Fin 256), x = ix2 r j := ⟨_, _, eq_ix2 x⟩
    exact (up_0 x0 x1 _ r j).trans (col_place x2 (k0_pay2 (F := Ideal) x0 x1) 2 2 0 0 256 (by decide) (by decide) (by decide) (by decide) _ r j)

theorem up2_pieces : View.PiecesOf (Val := Elt Ideal) (fun y : S416x2816.Idx => upAt x0 x1 x2 (y 0) (y 1)) (up2 x0 x1 x2) := by
  unfold up2
  refine ⟨?_, ?_, ?_, ?_, ?_, ?_, trivial⟩
  · intro (x : S416x128.Idx)
    obtain ⟨r, j, rfl⟩ : ∃ (r : Fin 416) (j : Fin 128), x = ix2 r j := ⟨_, _, eq_ix2 x⟩
    exact (up_2688 _ _ r j).trans (col_place x2 (k0_pay2 (F := Ideal) x0 x1) 2 3 2688 1280 128 (by decide) (by decide) (by decide) (by decide) _ r j)
  · intro (x : S416x256.Idx)
    obtain ⟨r, j, rfl⟩ : ∃ (r : Fin 416) (j : Fin 256), x = ix2 r j := ⟨_, _, eq_ix2 x⟩
    exact (up_2432 _ _ r j).trans (col_place x2 (k0_pay2 (F := Ideal) x0 x1) 2 3 2432 1024 256 (by decide) (by decide) (by decide) (by decide) _ r j)
  · intro (x : S416x256.Idx)
    obtain ⟨r, j, rfl⟩ : ∃ (r : Fin 416) (j : Fin 256), x = ix2 r j := ⟨_, _, eq_ix2 x⟩
    exact (up_2176 _ _ r j).trans (col_place x2 (k0_pay2 (F := Ideal) x0 x1) 2 3 2176 768 256 (by decide) (by decide) (by decide) (by decide) _ r j)
  · intro (x : S416x256.Idx)
    obtain ⟨r, j, rfl⟩ : ∃ (r : Fin 416) (j : Fin 256), x = ix2 r j := ⟨_, _, eq_ix2 x⟩
    exact (up_1920 _ _ r j).trans (col_place x2 (k0_pay2 (F := Ideal) x0 x1) 2 3 1920 512 256 (by decide) (by decide) (by decide) (by decide) _ r j)
  · intro (x : S416x256.Idx)
    obtain ⟨r, j, rfl⟩ : ∃ (r : Fin 416) (j : Fin 256), x = ix2 r j := ⟨_, _, eq_ix2 x⟩
    exact (up_1664 _ _ r j).trans (col_place x2 (k0_pay2 (F := Ideal) x0 x1) 2 3 1664 256 256 (by decide) (by decide) (by decide) (by decide) _ r j)
  · intro (x : S416x256.Idx)
    obtain ⟨r, j, rfl⟩ : ∃ (r : Fin 416) (j : Fin 256), x = ix2 r j := ⟨_, _, eq_ix2 x⟩
    exact (up_1408 _ _ r j).trans (col_place x2 (k0_pay2 (F := Ideal) x0 x1) 2 3 1408 0 256 (by decide) (by decide) (by decide) (by decide) _ r j)

/-- The block they fill. -/
theorem up_block (y : S416x2816.Idx) :
    View.canon (Val := Elt Ideal) (up2 x0 x1 x2 ++ up1 x0 x1 x2) y = upAt x0 x1 x2 (y 0) (y 1) := by
  have hp : View.PiecesOf (Val := Elt Ideal) (fun y : S416x2816.Idx => upAt x0 x1 x2 (y 0) (y 1)) (up2 x0 x1 x2 ++ up1 x0 x1 x2) := by
    obtain ⟨a, b, c, d, e, f, -⟩ := up2_pieces x0 x1 x2
    exact ⟨a, b, c, d, e, f, up1_pieces x0 x1 x2⟩
  have h := View.canon_append_of_piecesOf (Val := Elt Ideal) _ [] _ hp y (View.cover_of_tiledBy _ ![416, 128] (by sl_kernel_rfl) y)
  rwa [List.append_nil] at h

theorem hids1_pieces : View.PiecesOf (Val := Elt Ideal) (fun y : S416x2816.Idx => hidsAt x0 x1 x2 (y 0) (y 1)) (hids1 x0 x1 x2) := by
  unfold hids1
  refine ⟨?_, ?_, ?_, ?_, ?_, ?_, trivial⟩
  · intro (x : S416x128.Idx)
    obtain ⟨r, j, rfl⟩ : ∃ (r : Fin 416) (j : Fin 128), x = ix2 r j := ⟨_, _, eq_ix2 x⟩
    exact (hid_1280 _ _ _ r j).trans (hid_place x0 x1 x2 0 2 1280 1280 128 (by decide) (by decide) (by decide) (by decide) (by decide) _ _ r j)
  · intro (x : S416x256.Idx)
    obtain ⟨r, j, rfl⟩ : ∃ (r : Fin 416) (j : Fin 256), x = ix2 r j := ⟨_, _, eq_ix2 x⟩
    exact (hid_1024 _ _ _ r j).trans (hid_place x0 x1 x2 0 2 1024 1024 256 (by decide) (by decide) (by decide) (by decide) (by decide) _ _ r j)
  · intro (x : S416x256.Idx)
    obtain ⟨r, j, rfl⟩ : ∃ (r : Fin 416) (j : Fin 256), x = ix2 r j := ⟨_, _, eq_ix2 x⟩
    exact (hid_768 _ _ _ r j).trans (hid_place x0 x1 x2 0 2 768 768 256 (by decide) (by decide) (by decide) (by decide) (by decide) _ _ r j)
  · intro (x : S416x256.Idx)
    obtain ⟨r, j, rfl⟩ : ∃ (r : Fin 416) (j : Fin 256), x = ix2 r j := ⟨_, _, eq_ix2 x⟩
    exact (hid_512 _ _ _ r j).trans (hid_place x0 x1 x2 0 2 512 512 256 (by decide) (by decide) (by decide) (by decide) (by decide) _ _ r j)
  · intro (x : S416x256.Idx)
    obtain ⟨r, j, rfl⟩ : ∃ (r : Fin 416) (j : Fin 256), x = ix2 r j := ⟨_, _, eq_ix2 x⟩
    exact (hid_256 _ _ _ r j).trans (hid_place x0 x1 x2 0 2 256 256 256 (by decide) (by decide) (by decide) (by decide) (by decide) _ _ r j)
  · intro (x : S416x256.Idx)
    obtain ⟨r, j, rfl⟩ : ∃ (r : Fin 416) (j : Fin 256), x = ix2 r j := ⟨_, _, eq_ix2 x⟩
    exact (hid_0 x0 x1 _ _ r j).trans (hid_place x0 x1 x2 0 2 0 0 256 (by decide) (by decide) (by decide) (by decide) (by decide) _ _ r j)

theorem hids2_pieces : View.PiecesOf (Val := Elt Ideal) (fun y : S416x2816.Idx => hidsAt x0 x1 x2 (y 0) (y 1)) (hids2 x0 x1 x2) := by
  unfold hids2
  refine ⟨?_, ?_, ?_, ?_, ?_, ?_, trivial⟩
  · intro (x : S416x128.Idx)
    obtain ⟨r, j, rfl⟩ : ∃ (r : Fin 416) (j : Fin 128), x = ix2 r j := ⟨_, _, eq_ix2 x⟩
    exact (hid_2688 _ _ _ r j).trans (hid_place x0 x1 x2 1 3 2688 1280 128 (by decide) (by decide) (by decide) (by decide) (by decide) _ _ r j)
  · intro (x : S416x256.Idx)
    obtain ⟨r, j, rfl⟩ : ∃ (r : Fin 416) (j : Fin 256), x = ix2 r j := ⟨_, _, eq_ix2 x⟩
    exact (hid_2432 _ _ _ r j).trans (hid_place x0 x1 x2 1 3 2432 1024 256 (by decide) (by decide) (by decide) (by decide) (by decide) _ _ r j)
  · intro (x : S416x256.Idx)
    obtain ⟨r, j, rfl⟩ : ∃ (r : Fin 416) (j : Fin 256), x = ix2 r j := ⟨_, _, eq_ix2 x⟩
    exact (hid_2176 _ _ _ r j).trans (hid_place x0 x1 x2 1 3 2176 768 256 (by decide) (by decide) (by decide) (by decide) (by decide) _ _ r j)
  · intro (x : S416x256.Idx)
    obtain ⟨r, j, rfl⟩ : ∃ (r : Fin 416) (j : Fin 256), x = ix2 r j := ⟨_, _, eq_ix2 x⟩
    exact (hid_1920 _ _ _ r j).trans (hid_place x0 x1 x2 1 3 1920 512 256 (by decide) (by decide) (by decide) (by decide) (by decide) _ _ r j)
  · intro (x : S416x256.Idx)
    obtain ⟨r, j, rfl⟩ : ∃ (r : Fin 416) (j : Fin 256), x = ix2 r j := ⟨_, _, eq_ix2 x⟩
    exact (hid_1664 _ _ _ r j).trans (hid_place x0 x1 x2 1 3 1664 256 256 (by decide) (by decide) (by decide) (by decide) (by decide) _ _ r j)
  · intro (x : S416x256.Idx)
    obtain ⟨r, j, rfl⟩ : ∃ (r : Fin 416) (j : Fin 256), x = ix2 r j := ⟨_, _, eq_ix2 x⟩
    exact (hid_1408 _ _ _ r j).trans (hid_place x0 x1 x2 1 3 1408 0 256 (by decide) (by decide) (by decide) (by decide) (by decide) _ _ r j)

/-- The block they fill. -/
theorem hids_block (y : S416x2816.Idx) :
    View.canon (Val := Elt Ideal) (hids2 x0 x1 x2 ++ hids1 x0 x1 x2) y = hidsAt x0 x1 x2 (y 0) (y 1) := by
  have hp : View.PiecesOf (Val := Elt Ideal) (fun y : S416x2816.Idx => hidsAt x0 x1 x2 (y 0) (y 1)) (hids2 x0 x1 x2 ++ hids1 x0 x1 x2) := by
    obtain ⟨a, b, c, d, e, f, -⟩ := hids2_pieces x0 x1 x2
    exact ⟨a, b, c, d, e, f, hids1_pieces x0 x1 x2⟩
  have h := View.canon_append_of_piecesOf (Val := Elt Ideal) _ [] _ hp y (View.cover_of_tiledBy _ ![416, 128] (by sl_kernel_rfl) y)
  rwa [List.append_nil] at h

/-- A piece that stands for the columns not yet written when the first product reads. -/
def rest : View.Piece (Elt Ideal) S416x2816 .bf16 :=
  ⟨Rect.unit (s := S416x2816) ![0, 1408] ![416, 1408] (by decide), fun _ => (0 : EReal)⟩

theorem not_mem_rest (y : S416x2816.Idx) (hy : (y 1).val < 1408) : y ∉ rest.1.set := fun hm => by
  change y ∈ (Rect.unit (s := S416x2816) ![0, 1408] ![416, 1408] (by decide)).set at hm
  have h1 := (Rect.mem_set_unit.mp hm) 1
  have h2 : 1408 ≤ (y 1).val := h1.1
  omega

/-- Where the left columns' pieces cover. -/
theorem left_cover (L : List (View.Piece (Elt Ideal) S416x2816 .bf16)) (h : View.Piece.tiledBy (rest :: L) ![416, 128] = true)
    (y : S416x2816.Idx) (hy : (y 1).val < 1408) : ∃ p ∈ L, y ∈ p.1.set := by
  obtain ⟨p, hp, hm⟩ := View.cover_of_tiledBy _ _ h y
  rcases List.mem_cons.mp hp with e | hp
  · subst e
    exact absurd hm (not_mem_rest y hy)
  · exact ⟨p, hp, hm⟩

/-- What the first product reads of the hidden numbers. -/
theorem hids_left (r : Fin 416) (j : Fin 1408) (h : ∀ a, (![0, 0] : Fin 2 → Nat) a + S416x1408.size a ≤ S416x2816.size a) :
    cols (hids1 x0 x1 x2) ![0, 0] h (ix2 r j) = hidsAt x0 x1 x2 r ⟨0 * 1408 + j.val, by have := j.isLt; omega⟩ := by
  have e := place 0 1408 h r j
  have g := View.canon_append_of_piecesOf (Val := Elt Ideal) _ [] _ (hids1_pieces x0 x1 x2) (ix2 r (⟨0 + j.val, by have := j.isLt; omega⟩ : Fin 2816))
    (left_cover _ (by sl_kernel_rfl) _ (by have := j.isLt; show 0 + j.val < 1408; omega))
  rw [List.append_nil] at g
  exact (congrArg (View.canon (Val := Elt Ideal) (hids1 x0 x1 x2)) e).trans (g.trans (congrArg (hidsAt x0 x1 x2 r) (Fin.ext (show 0 + j.val = 0 * 1408 + j.val by omega))))

/-- What the last product reads of them. -/
theorem hids_right (r : Fin 416) (j : Fin 1408) (h : ∀ a, (![0, 1408] : Fin 2 → Nat) a + S416x1408.size a ≤ S416x2816.size a) :
    cols (hids2 x0 x1 x2 ++ hids1 x0 x1 x2) ![0, 1408] h (ix2 r j) = hidsAt x0 x1 x2 r ⟨1 * 1408 + j.val, by have := j.isLt; omega⟩ :=
  (congrArg (View.canon (Val := Elt Ideal) (hids2 x0 x1 x2 ++ hids1 x0 x1 x2)) (place 1408 1408 h r j)).trans ((hids_block x0 x1 x2 _).trans
    (congrArg (hidsAt x0 x1 x2 r) (Fin.ext (show 1408 + j.val = 1 * 1408 + j.val by omega))))

/-- The place of a group of the second weight's rows. -/
theorem vplace (s : Nat) (hs : s < 2) (h : ∀ a, (![s, 0, 0] : Fin 3 → Nat) a + S1x1408x1024.size a ≤ S2x1408x1024.size a) (j : Fin 1408) (k : Fin 1024) :
    (Rect.unit (s := S2x1408x1024) ![s, 0, 0] S1x1408x1024.size h).emb (ix3 0 j k) = ix3 (⟨s, hs⟩ : Fin 2) j k := by
  funext a
  match a with
  | ⟨0, _⟩ => exact Fin.ext (show s + 1 * 0 = s by omega)
  | ⟨1, _⟩ => exact Fin.ext (show 0 + 1 * j.val = j.val by omega)
  | ⟨2, _⟩ => exact Fin.ext (show 0 + 1 * k.val = k.val by omega)

/-- The output in a block: two sums of 1408 products. -/
theorem result_block (r : Fin 416) (k : Fin 1024) : result x0 x1 x2 x3 (ix2 r k)
    = x0 (ix2 r k) + half * ((∑ j : Fin 1408, hidsAt x0 x1 x2 r ⟨0 * 1408 + j.val, by have := j.isLt; omega⟩ * x3 (ix3 0 j k))
        + ∑ j : Fin 1408, hidsAt x0 x1 x2 r ⟨1 * 1408 + j.val, by have := j.isLt; omega⟩ * x3 (ix3 1 j k)) := by
  unfold result
  rw [final]
  simp only [hids_left, hids_right]
  refine congrArg₂ (· + ·) rfl (congrArg₂ (· * ·) rfl (congrArg₂ (· + ·) ?_ ?_)) <;>
    refine Finset.sum_congr rfl fun j _ => congrArg₂ (· * ·) rfl ?_
  · exact congrArg x3 (vplace 0 (by decide) _ j k)
  · exact congrArg x3 (vplace 1 (by decide) _ j k)

end Cert.Proof.Loss
-- ==== Proof.Loss.Sums.lean ====
module

public import proofs.«01_k».proof.Proof.Finite
public import proofs.«01_k».proof.Proof.Rows

@[expose] public section

/-! Sums for the loss: only the rows 16 … 4111 of the 4160 count, and real factors move in and out of sums of real
numbers. -/

set_option maxRecDepth 16384

noncomputable section

namespace Cert.Proof.Loss

open Idealize.ShloMosaic Idealize.SL.Sem Cert.Proof

/-- A row of the sequence: neither one of the sixteen rows before it nor one of the padding after it. -/
def InSeq (R : Fin 4160) : Prop := 16 ≤ R.val ∧ R.val < 4112

instance (R : Fin 4160) : Decidable (InSeq R) := inferInstanceAs (Decidable (_ ∧ _))

/-- Row `i` of the sequence among all rows. -/
def seqRow (i : Fin 4096) : Fin 4160 := ⟨16 + i.val, by have := i.isLt; omega⟩

theorem inSeq_seqRow (i : Fin 4096) : InSeq (seqRow i) := by
  have := i.isLt
  constructor
  · show 16 ≤ 16 + i.val; omega
  · show 16 + i.val < 4112; omega

/-- A sum of terms that vanish outside the sequence. -/
theorem sum_seq (f : Fin 4160 → EReal) (h : ∀ R, ¬ InSeq R → f R = 0) : ∑ R, f R = ∑ i : Fin 4096, f (seqRow i) := by
  refine (Fin.sum_univ_add (a := 16) (b := 4144) f).trans ?_
  rw [Finset.sum_eq_zero fun i _ => h _ fun hi => ?_, zero_add]
  · refine (Fin.sum_univ_add (a := 4096) (b := 48) fun i => f (Fin.natAdd 16 i)).trans ?_
    rw [Finset.sum_eq_zero (s := Finset.univ) (f := fun i : Fin 48 => f (Fin.natAdd 16 (Fin.natAdd 4096 i))) fun i _ => h _ fun hi => ?_, add_zero]
    · rfl
    · have h2 : 16 + (4096 + i.val) < 4112 := hi.2
      omega
  · have h1 : 16 ≤ i.val := hi.1
    have := i.isLt
    omega

/-- Two real factors of a sum of real numbers. -/
theorem factors_sum {ι : Type} [Fintype ι] {c d : EReal} (hc : IsReal c) (hd : IsReal d) (f : ι → EReal) (hf : ∀ i, IsReal (f i)) :
    c * (∑ i, f i) * d = ∑ i, c * f i * d := by
  obtain ⟨c, rfl⟩ := hc
  obtain ⟨d, rfl⟩ := hd
  choose g hg using hf
  obtain rfl : f = fun i => (g i : EReal) := funext hg
  simp only [RmsGrad.coe_sum, ← EReal.coe_mul]
  rw [Finset.mul_sum, Finset.sum_mul]

/-- One real factor of each term, another of the sum. -/
theorem factor_terms {ι : Type} [Fintype ι] {c d : EReal} (hc : IsReal c) (hd : IsReal d) (f : ι → EReal) (hf : ∀ i, IsReal (f i)) :
    ∑ i, c * f i * d = c * ∑ i, f i * d := by
  obtain ⟨c, rfl⟩ := hc
  obtain ⟨d, rfl⟩ := hd
  choose g hg using hf
  obtain rfl : f = fun i => (g i : EReal) := funext hg
  simp only [RmsGrad.coe_sum, ← EReal.coe_mul]
  rw [Finset.mul_sum]
  exact congrArg _ (Finset.sum_congr rfl fun i _ => mul_assoc _ _ _)

/-- One half, two and the reciprocal of the number of columns, as the programs' binary32 patterns. -/
def half' : EReal := Ideal.ofBits .f32 0x3F000000#32
def two' : EReal := Ideal.ofBits .f32 0x40000000#32
def perWidth : EReal := Ideal.ofBits .f32 0x3A800000#32

theorem half'_eq : half' = ((1 / 2 : ℝ) : EReal) := by
  simp [half', Ideal.ofBits, Ideal.ieee, -EReal.coe_mul]; norm_num

theorem two'_eq : two' = ((2 : ℝ) : EReal) := by
  simp [two', Ideal.ofBits, Ideal.ieee, -EReal.coe_mul]; norm_num

theorem perWidth_eq : perWidth = ((1 / 1024 : ℝ) : EReal) := by
  simp [perWidth, Ideal.ofBits, Ideal.ieee, -EReal.coe_mul]; norm_num

/-- Dividing by the number of columns is multiplying by its reciprocal. -/
theorem div_width (x : EReal) : Ideal.div x RmsGrad.width = x * perWidth := by
  rw [RmsGrad.width_eq, perWidth_eq, Ideal.div_coe (by norm_num)]

/-- The two constants of the error's gradient. -/
theorem grad_factor (e : EReal) : Ideal.div half' RmsGrad.width * (two' * e) = e * perWidth := by
  rw [div_width, ← mul_assoc, mul_comm e]
  refine congrArg (· * e) ?_
  rw [half'_eq, two'_eq, perWidth_eq]
  simp only [← EReal.coe_mul]
  exact congrArg _ (by norm_num)

end Cert.Proof.Loss
-- ==== Proof.Loss.Head.lean ====
module

public import proofs.«01_k».proof.Proof.Loss.Payloads
public import proofs.«01_k».proof.Proof.Loss.Sums
public import Idealize.ShloMosaic.Lib.WordCmp

@[expose] public section

/-! The stored values of the loss head at an index, over the extended reals: with `x` the output's row, `n = x ρ` its
normalised row, the error is `n γ - target` in the rows of the sequence and zero elsewhere. -/

set_option maxRecDepth 16384

noncomputable section

namespace Cert.Proof.Loss

open Cert.LossKernelIdeal Cert.LossKernelIdeal.Gen Idealize.ShloMosaic Idealize.SL.Sem

/-- The test for the rows of the sequence, as the body computes it for row `r` of the tile whose coordinate is the word `i`. -/
def test (i : BitVec 32) (r : Fin 416) : BitVec 1 :=
  IntOp.andi (IntOp.cmpi .sge (IntOp.addi (IntOp.muli i 416#32) (BitVec.ofNat 32 r.val)) 16#32)
    (IntOp.cmpi .slt (IntOp.addi (IntOp.muli i 416#32) (BitVec.ofNat 32 r.val)) 4112#32)

/-- The error. -/
theorem pay76 (i : BitVec 32) (x0 : Vec Ideal S416x1024 .f32) (a : FVec Ideal S416x1024 .f32) (b : FVec Ideal S416x1408 .bf16) (v : FVec Ideal S1408x1024 .bf16)
    (z : FVec Ideal S416x1024 .f32) (x4 : Vec Ideal S1x1024 .f32) (x5 : Vec Ideal S416x1024 .f32) (r : Fin 416) (k : Fin 1024) :
    k0_pay76 (F := Ideal) i x0 a b v z x4 x5 (ix2 r k)
      = Scalar.select (test i r)
          (k0_pay73 (F := Ideal) x0 a b v z (ix2 r k) * RmsGrad.rstd (fun k => k0_pay73 (F := Ideal) x0 a b v z (ix2 r k)) * x4 (ix2 0 k) - x5 (ix2 r k)) 0 := by
  unfold k0_pay76
  generalize k0_pay73 (F := Ideal) x0 a b v z = x
  pointwise
  rfl

/-- The sum of the squares of the error. -/
theorem pay78 (i : BitVec 32) (x0 : Vec Ideal S416x1024 .f32) (a : FVec Ideal S416x1024 .f32) (b : FVec Ideal S416x1408 .bf16) (v : FVec Ideal S1408x1024 .bf16)
    (z : FVec Ideal S416x1024 .f32) (x4 : Vec Ideal S1x1024 .f32) (x5 : Vec Ideal S416x1024 .f32) :
    k0_pay78 (F := Ideal) i x0 a b v z x4 x5 (ix3 0 0 0)
      = ∑ r : Fin 416, ∑ k : Fin 1024, k0_pay76 (F := Ideal) i x0 a b v z x4 x5 (ix2 r k) * k0_pay76 (F := Ideal) i x0 a b v z x4 x5 (ix2 r k) := by
  unfold k0_pay78
  generalize k0_pay76 (F := Ideal) i x0 a b v z x4 x5 = e
  pointwise

/-- The loss so far. -/
theorem pay79 (v : FVec Ideal S8x128 .f32) (s : FVec Ideal S1x1x1 .f32) (a : Fin 8) (b : Fin 128) :
    k0_pay79 (F := Ideal) (k0_pay77 (F := Ideal) v) s (ix2 a b) = v (ix2 a b) + half' * s (ix3 0 0 0) * perWidth := by
  pointwise [k0_pay79, k0_pay77]
  rfl

theorem pay74 (a : Fin 8) (b : Fin 128) : k0_pay74 (F := Ideal) (ix2 a b) = (0 : EReal) := by
  pointwise [k0_pay74]

theorem pay75 (k : Fin 1024) : k0_pay75 (F := Ideal) (ix2 0 k) = (0 : EReal) := by
  pointwise [k0_pay75]

/-- The gradient of the output. -/
theorem pay83 (x : FVec Ideal S416x1024 .f32) (x4 : Vec Ideal S1x1024 .f32) (e : FVec Ideal S416x1024 .f32) (r : Fin 416) (k : Fin 1024) :
    k0_pay83 (F := Ideal) x x4 e (ix2 r k)
      = RmsGrad.byKernel (fun k => x (ix2 r k)) (fun k => x4 (ix2 0 k)) (fun k => e (ix2 r k) * perWidth) k := by
  pointwise [k0_pay83, k0_pay80, k0_pay81, k0_pay82]
  rfl

/-- What a block adds to the scale's gradient. -/
theorem pay84 (x e : FVec Ideal S416x1024 .f32) (v : Vec Ideal S1x1024 .f32) (k : Fin 1024) :
    k0_pay1 (F := Ideal) (k0_pay84 (F := Ideal) x e) v (ix2 0 k)
      = v (ix2 0 k) + ∑ r : Fin 416, e (ix2 r k) * perWidth * (x (ix2 r k) * RmsGrad.rstd (fun k => x (ix2 r k))) := by
  pointwise [k0_pay1, k0_pay84, k0_pay80, k0_pay81, k0_pay82]
  rfl

/-- The test holds in the rows of the sequence. -/
theorem test_row (t : Fin 10) (r : Fin 416) : test (BitVec.ofNat 32 t.val) r = BitVec.ofBool (decide (InSeq (Rows.row t r))) := by
  have ht := t.isLt
  have hr := r.isLt
  have e : IntOp.addi (IntOp.muli (BitVec.ofNat 32 t.val) 416#32) (BitVec.ofNat 32 r.val) = BitVec.ofNat 32 (t.val * 416 + r.val) := by
    apply BitVec.eq_of_toNat_eq
    simp [IntOp.addi, IntOp.muli, BitVec.toNat_add, BitVec.toNat_mul]
  rw [test, e, show (16#32) = BitVec.ofNat 32 16 from rfl, show (4112#32) = BitVec.ofNat 32 4112 from rfl,
    WordCmp.cmpi_sge_ofNat (by norm_num; omega) (by norm_num), WordCmp.cmpi_slt_ofNat (by norm_num; omega) (by norm_num)]
  show IntOp.andi (BitVec.ofBool (decide (16 ≤ t.val * 416 + r.val))) (BitVec.ofBool (decide (t.val * 416 + r.val < 4112))) = BitVec.ofBool (decide (16 ≤ t.val * 416 + r.val ∧ t.val * 416 + r.val < 4112))
  rw [Bool.decide_and]
  cases decide (16 ≤ t.val * 416 + r.val) <;> cases decide (t.val * 416 + r.val < 4112) <;> rfl

/-- A selection by the test. -/
theorem select_row (t : Fin 10) (r : Fin 416) (a b : EReal) : Scalar.select (test (BitVec.ofNat 32 t.val) r) a b = if InSeq (Rows.row t r) then a else b := by
  rw [test_row]
  by_cases h : InSeq (Rows.row t r)
  · rw [decide_eq_true h, if_pos h]; rfl
  · rw [decide_eq_false h, if_neg h]; rfl

end Cert.Proof.Loss
-- ==== Proof.Loss.Flush.lean ====
module

public import proofs.«01_k».proof.Proof.Loss.Pieces

@[expose] public section

/-! What each grid point sends to the outputs' arrays, and what stands in the loss's and the last scale's blocks after it. -/

set_option maxRecDepth 16384

noncomputable section

namespace Cert.Proof.Loss

open Cert.LossKernelIdeal Cert.LossKernelIdeal.Gen Cert.LossKernelIdeal.Value Idealize.ShloMosaic Idealize.ShloMosaic.TcCoe Idealize.SL.Sem

variable {F : FTy → Type} [FloatOps F] (m : ∀ l, Buf (Elt F) l) (c : Dev nD) (t : Fin cfg0.N)

/-- The output's block, the error's and its squares at point `t`. -/
abbrev resultAt : Vec F S416x1024 .f32 := result (iblk m c 0 t) (iblk m c 1 t) (iblk m c 2 t) (iblk m c 3 t)
abbrev errsAt : FVec F S416x1024 .f32 := err (BitVec.ofNat 32 (grid0.coords t 0).val) (iblk m c 0 t) (iblk m c 1 t) (iblk m c 2 t) (iblk m c 3 t) (iblk m c 4 t) (iblk m c 5 t)
abbrev squaresAt : FVec F S1x1x1 .f32 := squares (BitVec.ofNat 32 (grid0.coords t 0).val) (iblk m c 0 t) (iblk m c 1 t) (iblk m c 2 t) (iblk m c 3 t) (iblk m c 4 t) (iblk m c 5 t)

/-- What every point sends to the output's gradient. -/
theorem flush6 : (dats m 0 c).flushed 6 t = (cfg0.win 6).cut (grid0.coords t) (k0_pay83 (resultAt m c t) (iblk m c 4 t) (errsAt m c t)) := by
  by_cases h0 : t.val % 10 = 0
  · rw [flushed6_A m c t h0, outA_6]
  · rw [flushed6_B m c t h0, outB_6]

/-- What every point sends to the gate half. -/
theorem flush9 : (dats m 0 c).flushed 9 t = (cfg0.win 9).cut (grid0.coords t) (View.canon (Val := Elt F) (gate2 (iblk m c 0 t) (iblk m c 1 t) (iblk m c 2 t) ++ gate1 (iblk m c 0 t) (iblk m c 1 t) (iblk m c 2 t))) := by
  by_cases h0 : t.val % 10 = 0
  · rw [flushed9_A m c t h0, outA_9]
  · rw [flushed9_B m c t h0, outB_9]

/-- What every point sends to the other half. -/
theorem flush10 : (dats m 0 c).flushed 10 t = (cfg0.win 10).cut (grid0.coords t) (View.canon (Val := Elt F) (up2 (iblk m c 0 t) (iblk m c 1 t) (iblk m c 2 t) ++ up1 (iblk m c 0 t) (iblk m c 1 t) (iblk m c 2 t))) := by
  by_cases h0 : t.val % 10 = 0
  · rw [flushed10_A m c t h0, outA_10]
  · rw [flushed10_B m c t h0, outB_10]

/-- What every point sends to the hidden numbers. -/
theorem flush11 : (dats m 0 c).flushed 11 t = (cfg0.win 11).cut (grid0.coords t) (View.canon (Val := Elt F) (hids2 (iblk m c 0 t) (iblk m c 1 t) (iblk m c 2 t) ++ hids1 (iblk m c 0 t) (iblk m c 1 t) (iblk m c 2 t))) := by
  by_cases h0 : t.val % 10 = 0
  · rw [flushed11_A m c t h0, outA_11]
  · rw [flushed11_B m c t h0, outB_11]

/-- What every point sends to the normalised rows. -/
theorem flush12 : (dats m 0 c).flushed 12 t = (cfg0.win 12).cut (grid0.coords t) (k0_pay2 (iblk m c 0 t) (iblk m c 1 t)) := by
  by_cases h0 : t.val % 10 = 0
  · rw [flushed12_A m c t h0, outA_12]
  · rw [flushed12_B m c t h0, outB_12]

/-- The loss after the first point. -/
theorem loss_first (h0 : t.val % 10 = 0) : (outsAt0 m c t.val t.isLt).2.1 = k0_pay79 (k0_pay77 k0_pay74) (squaresAt m c t) := by
  rw [outsAt0_A m c t h0]
  dsimp only
  rw [outA_7]

/-- The loss after a later point. -/
theorem loss_next (h0 : ¬t.val % 10 = 0) (hp : t.val - 1 < cfg0.N) : (outsAt0 m c t.val t.isLt).2.1
    = k0_pay79 (k0_pay77 (outsAt0 m c (t.val - 1) hp).2.1) (squaresAt m c t) := by
  rw [outsAt0_B m c t h0]
  dsimp only
  rw [outB_7]

/-- The last scale's gradient after the first point. -/
theorem scale_first (h0 : t.val % 10 = 0) : (outsAt0 m c t.val t.isLt).2.2.1 = k0_pay1 (k0_pay84 (resultAt m c t) (errsAt m c t)) k0_pay75 := by
  rw [outsAt0_A m c t h0]
  dsimp only
  rw [outA_8]

/-- The last scale's gradient after a later point. -/
theorem scale_next (h0 : ¬t.val % 10 = 0) (hp : t.val - 1 < cfg0.N) : (outsAt0 m c t.val t.isLt).2.2.1
    = k0_pay1 (k0_pay84 (resultAt m c t) (errsAt m c t)) (outsAt0 m c (t.val - 1) hp).2.2.1 := by
  rw [outsAt0_B m c t h0]
  dsimp only
  rw [outB_8]

end Cert.Proof.Loss
-- ==== Proof.Loss.Blocks.lean ====
module

public import proofs.«01_k».proof.Proof.Gen.LossKernelIdeal.Frame
public import proofs.«01_k».proof.Proof.Rows
public import Idealize.ShloMosaic.Lib.Pointwise

@[expose] public section

/-! Which entries of the arrays a grid point's blocks are: point `t` takes the rows `416 t … 416 t + 415` of every array
cut into tiles, and the scales and the weights whole.  The first weight reaches the call in four groups of 1408 columns,
the second in two groups of 1408 rows. -/

set_option maxRecDepth 16384

noncomputable section

namespace Cert.Proof.Loss.Blocks

open Cert.LossKernelIdeal Cert.LossKernelIdeal.Gen Idealize.ShloMosaic Idealize.ShloMosaic.TcCoe Idealize.SL.Sem
open Cert.Proof.Rows

section Places

variable (t : Fin cfg0.N)

theorem index0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- Where window 0's block lies in its array. -/
theorem emb0 (r : Fin 416) (j : Fin 1024) : ((cfg0.win 0).blk t).view.emb (ix2 r j) = ix2 (row t r) j := by
  funext a
  apply Fin.ext
  match a with
  | ⟨0, _⟩ => show win0_0.index t (0 : Fin 2) * 416 + 1 * r.val = t.val * 416 + r.val; rw [(index0 t).1, Nat.one_mul]
  | ⟨1, _⟩ => show win0_0.index t (1 : Fin 2) * 1024 + 1 * j.val = j.val; rw [(index0 t).2]; omega

theorem index1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)

/-- Window 1's block is its whole array. -/
theorem emb1 (j : S1x1024.Idx) : ((cfg0.win 1).blk t).view.emb j = j := by
  funext a
  apply Fin.ext
  match a with
  | ⟨0, _⟩ => show win0_1.index t (0 : Fin 2) * 1 + 1 * (j 0).val = (j 0).val; rw [(index1 t).1]; omega
  | ⟨1, _⟩ => show win0_1.index t (1 : Fin 2) * 1024 + 1 * (j 1).val = (j 1).val; rw [(index1 t).2]; omega

theorem index2 : ∀ t : Fin cfg0.N, win0_2.index t (0 : Fin 3) = 0 ∧ win0_2.index t (1 : Fin 3) = 0 ∧ win0_2.index t (2 : Fin 3) = 0 :=
  (by decide +kernel : ∀ t : Fin grid0.N, win0_2.index t (0 : Fin 3) = 0 ∧ win0_2.index t (1 : Fin 3) = 0 ∧ win0_2.index t (2 : Fin 3) = 0)

/-- Window 2's block is its whole array. -/
theorem emb2 (j : S4x1024x1408.Idx) : ((cfg0.win 2).blk t).view.emb j = j := by
  funext a
  apply Fin.ext
  match a with
  | ⟨0, _⟩ => show win0_2.index t (0 : Fin 3) * 4 + 1 * (j 0).val = (j 0).val; rw [(index2 t).1]; omega
  | ⟨1, _⟩ => show win0_2.index t (1 : Fin 3) * 1024 + 1 * (j 1).val = (j 1).val; rw [(index2 t).2.1]; omega
  | ⟨2, _⟩ => show win0_2.index t (2 : Fin 3) * 1408 + 1 * (j 2).val = (j 2).val; rw [(index2 t).2.2]; omega

theorem index3 : ∀ t : Fin cfg0.N, win0_3.index t (0 : Fin 3) = 0 ∧ win0_3.index t (1 : Fin 3) = 0 ∧ win0_3.index t (2 : Fin 3) = 0 :=
  (by decide +kernel : ∀ t : Fin grid0.N, win0_3.index t (0 : Fin 3) = 0 ∧ win0_3.index t (1 : Fin 3) = 0 ∧ win0_3.index t (2 : Fin 3) = 0)

/-- Window 3's block is its whole array. -/
theorem emb3 (j : S2x1408x1024.Idx) : ((cfg0.win 3).blk t).view.emb j = j := by
  funext a
  apply Fin.ext
  match a with
  | ⟨0, _⟩ => show win0_3.index t (0 : Fin 3) * 2 + 1 * (j 0).val = (j 0).val; rw [(index3 t).1]; omega
  | ⟨1, _⟩ => show win0_3.index t (1 : Fin 3) * 1408 + 1 * (j 1).val = (j 1).val; rw [(index3 t).2.1]; omega
  | ⟨2, _⟩ => show win0_3.index t (2 : Fin 3) * 1024 + 1 * (j 2).val = (j 2).val; rw [(index3 t).2.2]; omega

theorem index4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)

/-- Window 4's block is its whole array. -/
theorem emb4 (j : S1x1024.Idx) : ((cfg0.win 4).blk t).view.emb j = j := by
  funext a
  apply Fin.ext
  match a with
  | ⟨0, _⟩ => show win0_4.index t (0 : Fin 2) * 1 + 1 * (j 0).val = (j 0).val; rw [(index4 t).1]; omega
  | ⟨1, _⟩ => show win0_4.index t (1 : Fin 2) * 1024 + 1 * (j 1).val = (j 1).val; rw [(index4 t).2]; omega

theorem index5 : ∀ t : Fin cfg0.N, win0_5.index t (0 : Fin 2) = t.val ∧ win0_5.index t (1 : Fin 2) = 0 :=
  (by decide +kernel : ∀ t : Fin grid0.N, win0_5.index t (0 : Fin 2) = t.val ∧ win0_5.index t (1 : Fin 2) = 0)

/-- Where window 5's block lies in its array. -/
theorem emb5 (r : Fin 416) (j : Fin 1024) : ((cfg0.win 5).blk t).view.emb (ix2 r j) = ix2 (row t r) j := by
  funext a
  apply Fin.ext
  match a with
  | ⟨0, _⟩ => show win0_5.index t (0 : Fin 2) * 416 + 1 * r.val = t.val * 416 + r.val; rw [(index5 t).1, Nat.one_mul]
  | ⟨1, _⟩ => show win0_5.index t (1 : Fin 2) * 1024 + 1 * j.val = j.val; rw [(index5 t).2]; omega

theorem index6 : ∀ t : Fin cfg0.N, win0_6.index t (0 : Fin 2) = t.val ∧ win0_6.index t (1 : Fin 2) = 0 :=
  (by decide +kernel : ∀ t : Fin grid0.N, win0_6.index t (0 : Fin 2) = t.val ∧ win0_6.index t (1 : Fin 2) = 0)

/-- Where window 6's block lies in its array. -/
theorem emb6 (r : Fin 416) (j : Fin 1024) : ((cfg0.win 6).blk t).view.emb (ix2 r j) = ix2 (row t r) j := by
  funext a
  apply Fin.ext
  match a with
  | ⟨0, _⟩ => show win0_6.index t (0 : Fin 2) * 416 + 1 * r.val = t.val * 416 + r.val; rw [(index6 t).1, Nat.one_mul]
  | ⟨1, _⟩ => show win0_6.index t (1 : Fin 2) * 1024 + 1 * j.val = j.val; rw [(index6 t).2]; omega

theorem index7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)

/-- Window 7's block is its whole array. -/
theorem emb7 (j : S8x128.Idx) : ((cfg0.win 7).blk t).view.emb j = j := by
  funext a
  apply Fin.ext
  match a with
  | ⟨0, _⟩ => show win0_7.index t (0 : Fin 2) * 8 + 1 * (j 0).val = (j 0).val; rw [(index7 t).1]; omega
  | ⟨1, _⟩ => show win0_7.index t (1 : Fin 2) * 128 + 1 * (j 1).val = (j 1).val; rw [(index7 t).2]; omega

theorem index8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)

/-- Window 8's block is its whole array. -/
theorem emb8 (j : S1x1024.Idx) : ((cfg0.win 8).blk t).view.emb j = j := by
  funext a
  apply Fin.ext
  match a with
  | ⟨0, _⟩ => show win0_8.index t (0 : Fin 2) * 1 + 1 * (j 0).val = (j 0).val; rw [(index8 t).1]; omega
  | ⟨1, _⟩ => show win0_8.index t (1 : Fin 2) * 1024 + 1 * (j 1).val = (j 1).val; rw [(index8 t).2]; omega

theorem index9 : ∀ t : Fin cfg0.N, win0_9.index t (0 : Fin 2) = t.val ∧ win0_9.index t (1 : Fin 2) = 0 :=
  (by decide +kernel : ∀ t : Fin grid0.N, win0_9.index t (0 : Fin 2) = t.val ∧ win0_9.index t (1 : Fin 2) = 0)

/-- Where window 9's block lies in its array. -/
theorem emb9 (r : Fin 416) (j : Fin 2816) : ((cfg0.win 9).blk t).view.emb (ix2 r j) = ix2 (row t r) j := by
  funext a
  apply Fin.ext
  match a with
  | ⟨0, _⟩ => show win0_9.index t (0 : Fin 2) * 416 + 1 * r.val = t.val * 416 + r.val; rw [(index9 t).1, Nat.one_mul]
  | ⟨1, _⟩ => show win0_9.index t (1 : Fin 2) * 2816 + 1 * j.val = j.val; rw [(index9 t).2]; omega

theorem index10 : ∀ t : Fin cfg0.N, win0_10.index t (0 : Fin 2) = t.val ∧ win0_10.index t (1 : Fin 2) = 0 :=
  (by decide +kernel : ∀ t : Fin grid0.N, win0_10.index t (0 : Fin 2) = t.val ∧ win0_10.index t (1 : Fin 2) = 0)

/-- Where window 10's block lies in its array. -/
theorem emb10 (r : Fin 416) (j : Fin 2816) : ((cfg0.win 10).blk t).view.emb (ix2 r j) = ix2 (row t r) j := by
  funext a
  apply Fin.ext
  match a with
  | ⟨0, _⟩ => show win0_10.index t (0 : Fin 2) * 416 + 1 * r.val = t.val * 416 + r.val; rw [(index10 t).1, Nat.one_mul]
  | ⟨1, _⟩ => show win0_10.index t (1 : Fin 2) * 2816 + 1 * j.val = j.val; rw [(index10 t).2]; omega

theorem index11 : ∀ t : Fin cfg0.N, win0_11.index t (0 : Fin 2) = t.val ∧ win0_11.index t (1 : Fin 2) = 0 :=
  (by decide +kernel : ∀ t : Fin grid0.N, win0_11.index t (0 : Fin 2) = t.val ∧ win0_11.index t (1 : Fin 2) = 0)

/-- Where window 11's block lies in its array. -/
theorem emb11 (r : Fin 416) (j : Fin 2816) : ((cfg0.win 11).blk t).view.emb (ix2 r j) = ix2 (row t r) j := by
  funext a
  apply Fin.ext
  match a with
  | ⟨0, _⟩ => show win0_11.index t (0 : Fin 2) * 416 + 1 * r.val = t.val * 416 + r.val; rw [(index11 t).1, Nat.one_mul]
  | ⟨1, _⟩ => show win0_11.index t (1 : Fin 2) * 2816 + 1 * j.val = j.val; rw [(index11 t).2]; omega

theorem index12 : ∀ t : Fin cfg0.N, win0_12.index t (0 : Fin 2) = t.val ∧ win0_12.index t (1 : Fin 2) = 0 :=
  (by decide +kernel : ∀ t : Fin grid0.N, win0_12.index t (0 : Fin 2) = t.val ∧ win0_12.index t (1 : Fin 2) = 0)

/-- Where window 12's block lies in its array. -/
theorem emb12 (r : Fin 416) (j : Fin 1024) : ((cfg0.win 12).blk t).view.emb (ix2 r j) = ix2 (row t r) j := by
  funext a
  apply Fin.ext
  match a with
  | ⟨0, _⟩ => show win0_12.index t (0 : Fin 2) * 416 + 1 * r.val = t.val * 416 + r.val; rw [(index12 t).1, Nat.one_mul]
  | ⟨1, _⟩ => show win0_12.index t (1 : Fin 2) * 1024 + 1 * j.val = j.val; rw [(index12 t).2]; omega

end Places

variable (m : ∀ l, Buf (Elt Ideal) l) (c : Dev nD) (t : Fin cfg0.N)

/-- The arguments. -/
abbrev A0 : FVec Ideal S4160x1024 .f32 := m ((c : Thread nD τ).loc main_arg0)
abbrev A1 : FVec Ideal S1x1024 .f32 := m ((c : Thread nD τ).loc main_arg1)
abbrev A2 : FVec Ideal S1024x5632 .bf16 := m ((c : Thread nD τ).loc main_arg2)
abbrev A3 : FVec Ideal S2816x1024 .bf16 := m ((c : Thread nD τ).loc main_arg3)
abbrev A4 : FVec Ideal S1x1024 .f32 := m ((c : Thread nD τ).loc main_arg4)
abbrev A5 : FVec Ideal S4160x1024 .f32 := m ((c : Thread nD τ).loc main_arg5)

/-- The first weight in its groups of columns. -/
theorem V1 : V m c main_v1 = transpose S4x1024x1408 [1, 0, 2]
    (shapeCast S1024x4x1408 (A2 m c) shapeCasts_S1024x5632_S1024x4x1408) transposes_S1024x4x1408_S4x1024x1408_1_0_2 := by
  show StableHlo.after hostOps0 (fun b => m (c, b)) main_v1 = _
  simp only [hostOps0]
  after_results_simp <;> rfl

/-- The second weight in its groups of rows. -/
theorem V2 : V m c main_v2 = shapeCast S2x1408x1024 (A3 m c) shapeCasts_S2816x1024_S2x1408x1024 := by
  show StableHlo.after hostOps0 (fun b => m (c, b)) main_v2 = _
  simp only [hostOps0]
  after_results_simp <;> rfl

theorem in0 (r : Fin 416) (j : Fin 1024) : iblk m c 0 t (ix2 r j) = A0 m c (ix2 (row t r) j) := by
  show V m c main_arg0 (((cfg0.win 0).blk t).view.emb (ix2 r j)) = _
  rw [emb0, V_main_arg0]

theorem in1 (j : Fin 1024) : iblk m c 1 t (ix2 0 j) = A1 m c (ix2 0 j) := by
  show V m c main_arg1 (((cfg0.win 1).blk t).view.emb (ix2 0 j)) = _
  rw [emb1, V_main_arg1]

/-- Group `s` of the weight's columns. -/
theorem in2 (s : Fin 4) (k : Fin 1024) (j : Fin 1408) :
    iblk m c 2 t (ix3 s k j) = A2 m c (ix2 k (⟨s.val * 1408 + j.val, by have := s.isLt; have := j.isLt; omega⟩ : Fin 5632)) := by
  show V m c main_v1 (((cfg0.win 2).blk t).view.emb (ix3 s k j)) = _
  rw [emb2, V1]
  pointwise

/-- Group `s` of the second weight's rows. -/
theorem in3 (s : Fin 2) (j : Fin 1408) (k : Fin 1024) :
    iblk m c 3 t (ix3 s j k) = A3 m c (ix2 (⟨s.val * 1408 + j.val, by have := s.isLt; have := j.isLt; omega⟩ : Fin 2816) k) := by
  show V m c main_v2 (((cfg0.win 3).blk t).view.emb (ix3 s j k)) = _
  rw [emb3, V2]
  pointwise

theorem in4 (j : Fin 1024) : iblk m c 4 t (ix2 0 j) = A4 m c (ix2 0 j) := by
  show V m c main_arg4 (((cfg0.win 4).blk t).view.emb (ix2 0 j)) = _
  rw [emb4, V_main_arg4]

theorem in5 (r : Fin 416) (j : Fin 1024) : iblk m c 5 t (ix2 r j) = A5 m c (ix2 (row t r) j) := by
  show V m c main_arg5 (((cfg0.win 5).blk t).view.emb (ix2 r j)) = _
  rw [emb5, V_main_arg5]

end Cert.Proof.Loss.Blocks
-- ==== Proof.Loss.Reference.lean ====
module

public import proofs.«01_k».proof.Proof.Gen.LossReferenceIdeal.Read
public import proofs.«01_k».proof.Proof.Loss.Sums
public import Idealize.ShloMosaic.Lib.Pointwise
public import Idealize.ShloMosaic.Lib.IdealHost

@[expose] public section

/-! The reference's results at an index, over the extended reals. -/

set_option maxRecDepth 16384

noncomputable section

namespace Cert.Proof.Loss.Reference

open Cert.LossReferenceIdeal Cert.LossReferenceIdeal.Gen Cert.LossReferenceIdeal.Read Idealize.ShloMosaic Idealize.SL.Sem

variable (x0 : FVec Ideal S4160x1024 .f32) (x1 : FVec Ideal S1x1024 .f32) (x2 : FVec Ideal S1024x5632 .bf16) (x3 : FVec Ideal S2816x1024 .bf16)
  (r : Fin 4160)

/-- The reciprocal root of a row's mean square. -/
theorem ref7 : val_main_v7 (F := Ideal) x0 (ix2 r 0) = RmsGrad.rstd (fun k => x0 (ix2 r k)) := by
  pointwise [val_main_v7, val_main_v6, val_main_v5, val_main_v4, val_main_v3, val_main_v2, val_main_v1, val_main_v0, val_main_cst, val_main_cst_0, val_main_cst_1]
  rfl

/-- The normalised row. -/
theorem ref11 (k : Fin 1024) : val_main_v11 (F := Ideal) x0 x1 (ix2 r k)
    = x0 (ix2 r k) * RmsGrad.rstd (fun k => x0 (ix2 r k)) * x1 (ix2 0 k) := by
  rw [← ref7]
  pointwise [val_main_v11, val_main_v10, val_main_v9, val_main_v8]

theorem ref26 (k : Fin 1024) : val_main_v26 (F := Ideal) x0 x1 (ix2 r k) = val_main_v11 (F := Ideal) x0 x1 (ix2 r k) := by
  pointwise [val_main_v26]

/-- The gate half of the wide product. -/
theorem ref14 (c : Fin 2816) : val_main_v14 (F := Ideal) x0 x1 x2 (ix2 r c)
    = ∑ k : Fin 1024, val_main_v11 (F := Ideal) x0 x1 (ix2 r k) * x2 (ix2 k (⟨c.val, by have := c.isLt; omega⟩ : Fin 5632)) := by
  pointwise [val_main_v14, val_main_v13, val_main_v12]

/-- The other half. -/
theorem ref15 (c : Fin 2816) : val_main_v15 (F := Ideal) x0 x1 x2 (ix2 r c)
    = ∑ k : Fin 1024, val_main_v11 (F := Ideal) x0 x1 (ix2 r k) * x2 (ix2 k (⟨2816 + c.val, by have := c.isLt; omega⟩ : Fin 5632)) := by
  pointwise [val_main_v15, val_main_v13, val_main_v12]

theorem ref23 (c : Fin 2816) : val_main_v23 (F := Ideal) x0 x1 x2 (ix2 r c) = val_main_v14 (F := Ideal) x0 x1 x2 (ix2 r c) := by
  pointwise [val_main_v23]

theorem ref24 (c : Fin 2816) : val_main_v24 (F := Ideal) x0 x1 x2 (ix2 r c) = val_main_v15 (F := Ideal) x0 x1 x2 (ix2 r c) := by
  pointwise [val_main_v24]

/-- The sigmoid of the gate half. -/
theorem ref_sigmoid (c : Fin 2816) : val_main_call0_v5 (F := Ideal) x0 x1 x2 (ix2 r c) = Ideal.logistic (val_main_v14 (F := Ideal) x0 x1 x2 (ix2 r c)) := by
  pointwise [val_main_call0_v5, val_main_call0_v4, val_main_call0_v3, val_main_call0_v2, val_main_call0_v1, val_main_call0_v0, val_main_call0_cst, val_main_call0_cst_0]
  rfl

/-- The hidden numbers. -/
theorem ref17 (c : Fin 2816) : val_main_v17 (F := Ideal) x0 x1 x2 (ix2 r c)
    = val_main_v14 (F := Ideal) x0 x1 x2 (ix2 r c) * Ideal.logistic (val_main_v14 (F := Ideal) x0 x1 x2 (ix2 r c)) * val_main_v15 (F := Ideal) x0 x1 x2 (ix2 r c) := by
  rw [← ref_sigmoid]
  pointwise [val_main_v17, val_main_v16]

theorem ref25 (c : Fin 2816) : val_main_v25 (F := Ideal) x0 x1 x2 (ix2 r c) = val_main_v17 (F := Ideal) x0 x1 x2 (ix2 r c) := by
  pointwise [val_main_v25]

/-- The output. -/
theorem ref22 (k : Fin 1024) : val_main_v22 (F := Ideal) x0 x1 x2 x3 (ix2 r k)
    = x0 (ix2 r k) + Ideal.ofBits .f32 0x3F000000#32 * ∑ c : Fin 2816, val_main_v17 (F := Ideal) x0 x1 x2 (ix2 r c) * x3 (ix2 c k) := by
  pointwise [val_main_v22, val_main_v21, val_main_v20, val_main_cst_2, val_main_v19, val_main_v18]

variable (x4 : FVec Ideal S1x1024 .f32) (x5 : FVec Ideal S4160x1024 .f32)

/-- The mean square of a row of the output. -/
theorem ref33 : val_main_v33 (F := Ideal) x0 x1 x2 x3 (ix2 r 0) = RmsGrad.meanSq (fun k => val_main_v22 (F := Ideal) x0 x1 x2 x3 (ix2 r k)) := by
  pointwise [val_main_v33, val_main_v32, val_main_v31, val_main_v30, val_main_v29, val_main_v28, val_main_v27, val_main_cst, val_main_cst_0, val_main_cst_1, val_main_cst_10, val_main_cst_11, val_main_cst_12, val_main_cst_13, val_main_cst_14, val_main_cst_15, val_main_cst_16, val_main_cst_17, val_main_cst_18, val_main_cst_19, val_main_cst_2, val_main_cst_3, val_main_cst_4, val_main_cst_5, val_main_cst_6, val_main_cst_7, val_main_cst_8, val_main_cst_9]
  rfl

theorem ref34 : val_main_v34 (F := Ideal) x0 x1 x2 x3 (ix2 r 0) = RmsGrad.rstd (fun k => val_main_v22 (F := Ideal) x0 x1 x2 x3 (ix2 r k)) := by
  rw [RmsGrad.rstd, ← ref33]
  pointwise [val_main_v34]

/-- The normalised row of the output. -/
theorem ref39 (k : Fin 1024) : val_main_v39 (F := Ideal) x0 x1 x2 x3 (ix2 r k) = val_main_v22 (F := Ideal) x0 x1 x2 x3 (ix2 r k) * RmsGrad.rstd (fun k => val_main_v22 (F := Ideal) x0 x1 x2 x3 (ix2 r k)) := by
  rw [← ref34]
  pointwise [val_main_v39, val_main_v38]

theorem ref41 (k : Fin 1024) : val_main_v41 (F := Ideal) x0 x1 x2 x3 x4 (ix2 r k) = val_main_v22 (F := Ideal) x0 x1 x2 x3 (ix2 r k) * RmsGrad.rstd (fun k => val_main_v22 (F := Ideal) x0 x1 x2 x3 (ix2 r k)) * x4 (ix2 0 k) := by
  rw [← ref39]
  pointwise [val_main_v41, val_main_v40]

/-- The error of row `R`: zero outside the sequence. -/
def errAt (R : Fin 4160) (k : Fin 1024) : EReal :=
  if InSeq R then val_main_v41 (F := Ideal) x0 x1 x2 x3 x4 (ix2 R k) - x5 (ix2 R k) else 0

theorem ref44 (i : Fin 4096) (k : Fin 1024) : val_main_v44 (F := Ideal) x0 x1 x2 x3 x4 x5 (ix2 i k) = errAt x0 x1 x2 x3 x4 x5 (seqRow i) k := by
  rw [errAt, if_pos (inSeq_seqRow i)]
  pointwise [val_main_v44, val_main_v43, val_main_v42]
  rfl

/-- The error's gradient. -/
theorem ref58 (i : Fin 4096) (k : Fin 1024) : val_main_v58 (F := Ideal) x0 x1 x2 x3 x4 x5 (ix2 i k) = errAt x0 x1 x2 x3 x4 x5 (seqRow i) k * perWidth := by
  rw [← grad_factor, ← ref44]
  pointwise [val_main_v58, val_main_v57, val_main_v56, val_main_v55, val_main_v54, val_main_v53, val_main_v47, val_main_v46, val_main_cst, val_main_cst_0, val_main_cst_1, val_main_cst_10, val_main_cst_11, val_main_cst_12, val_main_cst_13, val_main_cst_14, val_main_cst_15, val_main_cst_16, val_main_cst_17, val_main_cst_18, val_main_cst_19, val_main_cst_2, val_main_cst_3, val_main_cst_4, val_main_cst_5, val_main_cst_6, val_main_cst_7, val_main_cst_8, val_main_cst_9]
  rfl

theorem ref59 (k : Fin 1024) : val_main_v59 (F := Ideal) x0 x1 x2 x3 x4 x5 (ix2 r k) = errAt x0 x1 x2 x3 x4 x5 r k * perWidth := by
  pointwise [val_main_v59, val_main_cst, val_main_cst_0, val_main_cst_1, val_main_cst_10, val_main_cst_11, val_main_cst_12, val_main_cst_13, val_main_cst_14, val_main_cst_15, val_main_cst_16, val_main_cst_17, val_main_cst_18, val_main_cst_19, val_main_cst_2, val_main_cst_3, val_main_cst_4, val_main_cst_5, val_main_cst_6, val_main_cst_7, val_main_cst_8, val_main_cst_9]
  by_cases h : InSeq r
  · have h1 := h.1
    have h2 := h.2
    rw [dif_pos ⟨h1, by omega⟩, ref58]
    exact congrArg (fun R => errAt x0 x1 x2 x3 x4 x5 R k * perWidth) (Fin.ext (show 16 + (r.val - 16) = r.val by omega))
  · rw [dif_neg fun hr => h ⟨hr.1, by have := hr.2; omega⟩, errAt, if_neg h, zero_mul]

/-- The last scale's gradient. -/
theorem ref62 (k : Fin 1024) : val_main_v62 (F := Ideal) x0 x1 x2 x3 x4 x5 (ix2 0 k)
    = ∑ R : Fin 4160, val_main_v39 (F := Ideal) x0 x1 x2 x3 (ix2 R k) * (errAt x0 x1 x2 x3 x4 x5 R k * perWidth) := by
  simp only [← ref59]
  pointwise [val_main_v62, val_main_v61, val_main_v60, val_main_cst, val_main_cst_0, val_main_cst_1, val_main_cst_10, val_main_cst_11, val_main_cst_12, val_main_cst_13, val_main_cst_14, val_main_cst_15, val_main_cst_16, val_main_cst_17, val_main_cst_18, val_main_cst_19, val_main_cst_2, val_main_cst_3, val_main_cst_4, val_main_cst_5, val_main_cst_6, val_main_cst_7, val_main_cst_8, val_main_cst_9]

/-- The gradient of the output. -/
theorem ref78 (k : Fin 1024) : val_main_v78 (F := Ideal) x0 x1 x2 x3 x4 x5 (ix2 r k)
    = RmsGrad.byRule (fun k => val_main_v22 (F := Ideal) x0 x1 x2 x3 (ix2 r k)) (fun k => x4 (ix2 0 k)) (fun k => errAt x0 x1 x2 x3 x4 x5 r k * perWidth) k := by
  simp only [RmsGrad.byRule, RmsGrad.through, ← ref59, ← ref34, ← ref33]
  pointwise [val_main_v78, val_main_v77, val_main_v76, val_main_v75, val_main_v74, val_main_v73, val_main_v72, val_main_v71, val_main_v70, val_main_v69, val_main_v68, val_main_v67, val_main_v66, val_main_v65, val_main_v64, val_main_v63, val_main_v37, val_main_v36, val_main_v35, val_main_cst, val_main_cst_0, val_main_cst_1, val_main_cst_10, val_main_cst_11, val_main_cst_12, val_main_cst_13, val_main_cst_14, val_main_cst_15, val_main_cst_16, val_main_cst_17, val_main_cst_18, val_main_cst_19, val_main_cst_2, val_main_cst_3, val_main_cst_4, val_main_cst_5, val_main_cst_6, val_main_cst_7, val_main_cst_8, val_main_cst_9]
  simp only [Fin.sum_univ_one]
  rfl

/-- The loss. -/
theorem ref79 (a : Fin 8) (b : Fin 128) : val_main_v79 (F := Ideal) x0 x1 x2 x3 x4 x5 (ix2 a b)
    = half' * ∑ i : Fin 4096, (∑ k : Fin 1024, errAt x0 x1 x2 x3 x4 x5 (seqRow i) k * errAt x0 x1 x2 x3 x4 x5 (seqRow i) k) * perWidth := by
  simp only [← div_width, ← ref44]
  pointwise [val_main_v79, val_main_v52, val_main_v51, val_main_v50, val_main_v49, val_main_v48, val_main_v45, val_main_cst, val_main_cst_0, val_main_cst_1, val_main_cst_10, val_main_cst_11, val_main_cst_12, val_main_cst_13, val_main_cst_14, val_main_cst_15, val_main_cst_16, val_main_cst_17, val_main_cst_18, val_main_cst_19, val_main_cst_2, val_main_cst_3, val_main_cst_4, val_main_cst_5, val_main_cst_6, val_main_cst_7, val_main_cst_8, val_main_cst_9]
  rfl

end Cert.Proof.Loss.Reference
-- ==== Proof.Loss.Finite.lean ====
module

public import proofs.«01_k».proof.Defs
public import proofs.«01_k».proof.Proof.Gen.Pre_finite_loss
public import proofs.«01_k».proof.Proof.Loss.Reference
public import proofs.«01_k».proof.Proof.Finite

@[expose] public section

/-! Finite arguments: every number of the forward pass and of the loss's gradient is real. -/

set_option maxRecDepth 16384

noncomputable section

namespace Cert.Proof.Loss

open Idealize.ShloMosaic Idealize.SL.Sem

/-- What the precondition says of the six arrays. -/
theorem args_real (x0 : FVec Ideal Cert.Pre_finite_loss.S4160x1024 .f32) (x1 : FVec Ideal Cert.Pre_finite_loss.S1x1024 .f32) (x2 : FVec Ideal Cert.Pre_finite_loss.S1024x5632 .bf16) (x3 : FVec Ideal Cert.Pre_finite_loss.S2816x1024 .bf16) (x4 : FVec Ideal Cert.Pre_finite_loss.S1x1024 .f32) (x5 : FVec Ideal Cert.Pre_finite_loss.S4160x1024 .f32)
    (h : (Cert.Pre_finite_loss.fn (F := Ideal) x0 x1 x2 x3 x4 x5).1 = (fun _ => 1#1)
      ∧ (Cert.Pre_finite_loss.fn (F := Ideal) x0 x1 x2 x3 x4 x5).2.1 = (fun _ => 1#1)
      ∧ (Cert.Pre_finite_loss.fn (F := Ideal) x0 x1 x2 x3 x4 x5).2.2.1 = (fun _ => 1#1)
      ∧ (Cert.Pre_finite_loss.fn (F := Ideal) x0 x1 x2 x3 x4 x5).2.2.2.1 = (fun _ => 1#1)
      ∧ (Cert.Pre_finite_loss.fn (F := Ideal) x0 x1 x2 x3 x4 x5).2.2.2.2.1 = (fun _ => 1#1)
      ∧ (Cert.Pre_finite_loss.fn (F := Ideal) x0 x1 x2 x3 x4 x5).2.2.2.2.2 = (fun _ => 1#1)) :
    (∀ i, IsReal (x0 i)) ∧ (∀ i, IsReal (x1 i)) ∧ (∀ i, IsReal (x2 i)) ∧ (∀ i, IsReal (x3 i)) ∧ (∀ i, IsReal (x4 i)) ∧ ∀ i, IsReal (x5 i) := by
  dsimp only [Cert.Pre_finite_loss.fn, Cert.Pre_finite_loss.fn_part1] at h
  obtain ⟨h0, h1, h2, h3, h4, h5⟩ := h
  haveI : Subsingleton Cert.Pre_finite_loss.S_.Idx := ⟨fun a b => funext fun k => k.elim0⟩
  have j : Cert.Pre_finite_loss.S_.Idx := fun k => k.elim0
  exact ⟨real_of_all _ _ (fun _ => rfl) _ _ _ j (congrFun h0 j), real_of_all _ _ (fun _ => rfl) _ _ _ j (congrFun h1 j),
    real_of_all (extf .f32 x2 _) _ (fun _ => rfl) _ _ _ j (congrFun h2 j), real_of_all (extf .f32 x3 _) _ (fun _ => rfl) _ _ _ j (congrFun h3 j),
    real_of_all _ _ (fun _ => rfl) _ _ _ j (congrFun h4 j), real_of_all _ _ (fun _ => rfl) _ _ _ j (congrFun h5 j)⟩

theorem half'_real : IsReal half' := ⟨_, half'_eq⟩
theorem perWidth_real : IsReal perWidth := ⟨_, perWidth_eq⟩

namespace Reference

open Cert.LossReferenceIdeal Cert.LossReferenceIdeal.Gen Cert.LossReferenceIdeal.Read

variable {x0 : FVec Ideal S4160x1024 .f32} {x1 : FVec Ideal S1x1024 .f32} {x2 : FVec Ideal S1024x5632 .bf16} {x3 : FVec Ideal S2816x1024 .bf16}
  {x4 : FVec Ideal S1x1024 .f32} {x5 : FVec Ideal S4160x1024 .f32}
  (h0 : ∀ i, IsReal (x0 i)) (h1 : ∀ i, IsReal (x1 i)) (h2 : ∀ i, IsReal (x2 i)) (h3 : ∀ i, IsReal (x3 i)) (h4 : ∀ i, IsReal (x4 i)) (h5 : ∀ i, IsReal (x5 i))
  (r : Fin 4160)

include h0 h1 in
theorem norm_real (k : Fin 1024) : IsReal (val_main_v11 (F := Ideal) x0 x1 (ix2 r k)) := by
  rw [ref11]
  exact ((h0 _).mul (.rstd fun _ => h0 _)).mul (h1 _)

include h0 h1 h2 in
theorem hidden_real (c : Fin 2816) : IsReal (val_main_v17 (F := Ideal) x0 x1 x2 (ix2 r c)) := by
  have g : IsReal (val_main_v14 (F := Ideal) x0 x1 x2 (ix2 r c)) := by
    rw [ref14]
    exact .sum fun k => (norm_real h0 h1 r k).mul (h2 _)
  have u : IsReal (val_main_v15 (F := Ideal) x0 x1 x2 (ix2 r c)) := by
    rw [ref15]
    exact .sum fun k => (norm_real h0 h1 r k).mul (h2 _)
  rw [ref17]
  exact (g.mul g.logistic).mul u

include h0 h1 h2 h3 in
/-- The output is real. -/
theorem out_real (k : Fin 1024) : IsReal (val_main_v22 (F := Ideal) x0 x1 x2 x3 (ix2 r k)) := by
  rw [ref22]
  exact (h0 _).add (half'_real.mul (.sum fun c => (hidden_real h0 h1 h2 r c).mul (h3 _)))

include h0 h1 h2 h3 h4 h5 in
/-- The error is real. -/
theorem err_real (k : Fin 1024) : IsReal (errAt x0 x1 x2 x3 x4 x5 r k) := by
  unfold errAt
  split
  · rw [ref41]
    exact (((out_real h0 h1 h2 h3 r k).mul (.rstd fun k => out_real h0 h1 h2 h3 r k)).mul (h4 _)).sub (h5 _)
  · exact ⟨0, rfl⟩

/-- The sum of a row's squared errors. -/
def rowSquares (x0 : FVec Ideal S4160x1024 .f32) (x1 : FVec Ideal S1x1024 .f32) (x2 : FVec Ideal S1024x5632 .bf16) (x3 : FVec Ideal S2816x1024 .bf16)
    (x4 : FVec Ideal S1x1024 .f32) (x5 : FVec Ideal S4160x1024 .f32) (R : Fin 4160) : EReal := ∑ k : Fin 1024, errAt x0 x1 x2 x3 x4 x5 R k * errAt x0 x1 x2 x3 x4 x5 R k

include h0 h1 h2 h3 h4 h5 in
theorem rowSquares_real (R : Fin 4160) : IsReal (rowSquares x0 x1 x2 x3 x4 x5 R) :=
  .sum fun k => (err_real h0 h1 h2 h3 h4 h5 R k).mul (err_real h0 h1 h2 h3 h4 h5 R k)

theorem rowSquares_out (hR : ¬ InSeq r) : rowSquares x0 x1 x2 x3 x4 x5 r = 0 :=
  Finset.sum_eq_zero fun k _ => by rw [errAt, if_neg hR, mul_zero]

include h0 h1 h2 h3 h4 h5 in
/-- The loss is the sum over all rows of half the mean squared error. -/
theorem loss_eq (a : Fin 8) (b : Fin 128) : val_main_v79 (F := Ideal) x0 x1 x2 x3 x4 x5 (ix2 a b)
    = ∑ R : Fin 4160, half' * rowSquares x0 x1 x2 x3 x4 x5 R * perWidth := by
  rw [ref79, sum_seq _ fun R hR => by rw [rowSquares_out R hR, mul_zero, zero_mul],
    factor_terms half'_real perWidth_real _ fun i => rowSquares_real h0 h1 h2 h3 h4 h5 _]
  rfl

end Reference

end Cert.Proof.Loss
-- ==== Proof.Loss.Values.lean ====
module

public import proofs.«01_k».proof.Proof.Loss.Hidden
public import proofs.«01_k».proof.Proof.Loss.Head
public import proofs.«01_k».proof.Proof.Loss.Flush
public import proofs.«01_k».proof.Proof.Loss.Blocks
public import proofs.«01_k».proof.Proof.Loss.Finite

@[expose] public section

/-! Each result of the feed-forward forward call with the loss head, at an index, is the reference's. -/

set_option maxRecDepth 16384

noncomputable section

namespace Cert.Proof.Loss.Values

open Cert.LossKernelIdeal Cert.LossKernelIdeal.Gen Cert.LossKernelIdeal.Value Idealize.ShloMosaic Idealize.ShloMosaic.TcCoe
  Idealize.SL.Sem
open Cert.Proof Cert.Proof.Loss Cert.Proof.Loss.Blocks Cert.Proof.Loss.Reference Cert.Proof.Rows Cert.LossReferenceIdeal.Read

theorem lt_ten (t : Fin cfg0.N) : t.val < 10 := t.isLt

/-- A sum over 2816 numbers in two groups. -/
theorem sum_groups (f : Fin 2816 → EReal) : ∑ j, f j
    = (∑ j : Fin 1408, f ⟨0 * 1408 + j.val, by have := j.isLt; omega⟩) + ∑ j : Fin 1408, f ⟨1 * 1408 + j.val, by have := j.isLt; omega⟩ := by
  refine (Fintype.sum_equiv (finProdFinEquiv (m := 2) (n := 1408)).symm _ (fun x : Fin 2 × Fin 1408 => f ⟨x.1.val * 1408 + x.2.val, by have := x.1.isLt; have := x.2.isLt; omega⟩) fun j => ?_).trans ?_
  · refine congrArg f (Fin.ext ?_)
    show j.val = j.val / 1408 * 1408 + j.val % 1408
    omega
  · rw [Fintype.sum_prod_type, Fin.sum_univ_two]
    rfl

variable (m : ∀ l, Buf (Elt Ideal) l) (c : Dev nD) (t : Fin cfg0.N) (r : Fin 416)

/-- The normalised rows, in a tile. -/
theorem norm_tile (k : Fin 1024) : k0_pay2 (F := Ideal) (iblk m c 0 t) (iblk m c 1 t) (ix2 r k)
    = val_main_v11 (F := Ideal) (A0 m c) (A1 m c) (ix2 (row t r) k) := by
  rw [pay2, ref11]
  simp only [in0, in1]

/-- The gate half, in a tile. -/
theorem gate_tile (j : Fin 2816) : gateAt (iblk m c 0 t) (iblk m c 1 t) (iblk m c 2 t) r j
    = val_main_v14 (F := Ideal) (A0 m c) (A1 m c) (A2 m c) (ix2 (row t r) j) := by
  rw [ref14, gateAt, colAt]
  refine Finset.sum_congr rfl fun k _ => congrArg₂ (· * ·) (norm_tile m c t r k) ((in2 m c t _ k _).trans (congrArg (A2 m c) (congrArg (ix2 k) (Fin.ext ?_))))
  show (0 + j.val / 1408) * 1408 + j.val % 1408 = j.val
  omega

/-- The other half, in a tile. -/
theorem up_tile (j : Fin 2816) : upAt (iblk m c 0 t) (iblk m c 1 t) (iblk m c 2 t) r j
    = val_main_v15 (F := Ideal) (A0 m c) (A1 m c) (A2 m c) (ix2 (row t r) j) := by
  rw [ref15, upAt, colAt]
  refine Finset.sum_congr rfl fun k _ => congrArg₂ (· * ·) (norm_tile m c t r k) ((in2 m c t _ k _).trans (congrArg (A2 m c) (congrArg (ix2 k) (Fin.ext ?_))))
  show (2 + j.val / 1408) * 1408 + j.val % 1408 = 2816 + j.val
  omega

/-- The hidden numbers, in a tile. -/
theorem hids_tile (j : Fin 2816) : hidsAt (iblk m c 0 t) (iblk m c 1 t) (iblk m c 2 t) r j
    = val_main_v17 (F := Ideal) (A0 m c) (A1 m c) (A2 m c) (ix2 (row t r) j) := by
  rw [ref17, hidsAt, gate_tile, up_tile, hid]

/-- The output, in a tile. -/
theorem result_tile (k : Fin 1024) : result (F := Ideal) (iblk m c 0 t) (iblk m c 1 t) (iblk m c 2 t) (iblk m c 3 t) (ix2 r k)
    = val_main_v22 (F := Ideal) (A0 m c) (A1 m c) (A2 m c) (A3 m c) (ix2 (row t r) k) := by
  rw [ref22, result_block, sum_groups, in0]
  refine congrArg₂ (· + ·) rfl (congrArg₂ (· * ·) rfl (congrArg₂ (· + ·) ?_ ?_)) <;>
    exact Finset.sum_congr rfl fun j _ => congrArg₂ (· * ·) (hids_tile m c t r _) (in3 m c t _ j k)

theorem coord : ∀ t : Fin cfg0.N, (grid0.coords t 0).val = t.val :=
  (by decide +kernel : ∀ t : Fin grid0.N, (grid0.coords t 0).val = t.val)

/-- The error's block, from the output's. -/
theorem err_block (i : BitVec 32) (x0 : Vec Ideal S416x1024 .f32) (x1 : Vec Ideal S1x1024 .f32) (x2 : Vec Ideal S4x1024x1408 .bf16)
    (x3 : Vec Ideal S2x1408x1024 .bf16) (x4 : Vec Ideal S1x1024 .f32) (x5 : Vec Ideal S416x1024 .f32) (r : Fin 416) (k : Fin 1024) :
    err i x0 x1 x2 x3 x4 x5 (ix2 r k)
      = Scalar.select (test i r) (result x0 x1 x2 x3 (ix2 r k) * RmsGrad.rstd (fun k => result x0 x1 x2 x3 (ix2 r k)) * x4 (ix2 0 k) - x5 (ix2 r k)) 0 :=
  pay76 _ _ _ _ _ _ _ _ r k

/-- The error, in a tile. -/
theorem err_tile (k : Fin 1024) : errsAt (F := Ideal) m c t (ix2 r k) = errAt (A0 m c) (A1 m c) (A2 m c) (A3 m c) (A4 m c) (A5 m c) (row t r) k := by
  refine (err_block _ _ _ _ _ _ _ r k).trans ?_
  rw [coord, select_row t r]
  simp only [result_tile, in4, in5]
  rw [errAt, ref41]

/-- The sum of a tile's squared errors. -/
theorem squares_tile : squaresAt (F := Ideal) m c t (ix3 0 0 0) = ∑ r : Fin 416, rowSquares (A0 m c) (A1 m c) (A2 m c) (A3 m c) (A4 m c) (A5 m c) (row t r) := by
  refine (pay78 _ _ _ _ _ _ _ _).trans (Finset.sum_congr rfl fun r _ => Finset.sum_congr rfl fun k _ => ?_)
  exact congrArg₂ (· * ·) (err_tile m c t r k) (err_tile m c t r k)

variable (f0 : ∀ i, IsReal (A0 m c i)) (f1 : ∀ i, IsReal (A1 m c i)) (f2 : ∀ i, IsReal (A2 m c i)) (f3 : ∀ i, IsReal (A3 m c i)) (f4 : ∀ i, IsReal (A4 m c i)) (f5 : ∀ i, IsReal (A5 m c i))

include f0 f1 f2 f3 f4 f5 in
/-- The gradient of the output. -/
theorem out6 (k : Fin 1024) : (dats m 0 c).arrAt 6 cfg0.N (ix2 (row t r) k)
    = val_main_v78 (F := Ideal) (A0 m c) (A1 m c) (A2 m c) (A3 m c) (A4 m c) (A5 m c) (ix2 (row t r) k) := by
  have e : k0_pay83 (F := Ideal) (resultAt m c t) (iblk m c 4 t) (errsAt m c t) (ix2 r k) = val_main_v78 (F := Ideal) (A0 m c) (A1 m c) (A2 m c) (A3 m c) (A4 m c) (A5 m c) (ix2 (row t r) k) := by
    rw [pay83, ref78]
    simp only [resultAt, result_tile, err_tile, in4]
    rw [RmsGrad.byKernel_eq _ _ _ (fun k => out_real f0 f1 f2 f3 _ k) (fun _ => f4 _) (fun k => (err_real f0 f1 f2 f3 f4 f5 _ k).mul perWidth_real)]
  have h := congrFun ((blocks6 m c t (flush0_6 t)).trans (flush6 m c t)) (ix2 r k)
  change (dats m 0 c).arrAt 6 cfg0.N (((cfg0.win 6).blk t).view.emb (ix2 r k)) = k0_pay83 (F := Ideal) _ _ _ (ix2 r k) at h
  rw [emb6] at h
  exact h.trans e

/-- What one row adds to the loss. -/
def lossTerm (R : Fin 4160) : EReal := half' * rowSquares (A0 m c) (A1 m c) (A2 m c) (A3 m c) (A4 m c) (A5 m c) R * perWidth

include f0 f1 f2 f3 f4 f5 in
theorem loss_step (v : FVec Ideal S8x128 .f32) (a : Fin 8) (b : Fin 128) :
    k0_pay79 (F := Ideal) (k0_pay77 (F := Ideal) v) (squaresAt m c t) (ix2 a b) = v (ix2 a b) + part (lossTerm m c) t.val := by
  refine (pay79 _ _ a b).trans (congrArg _ (Eq.trans ?_ (part_tile _ t).symm))
  rw [squares_tile]
  exact factors_sum half'_real perWidth_real _ fun r => rowSquares_real f0 f1 f2 f3 f4 f5 _

include f0 f1 f2 f3 f4 f5 in
/-- After tile `n` the loss's block holds the sum of the tiles so far. -/
theorem loss_acc (a : Fin 8) (b : Fin 128) (n : Nat) : ∀ hn : n < cfg0.N, (outsAt0 m c n hn).2.1 (ix2 a b) = ∑ i ∈ Finset.range (n + 1), part (lossTerm m c) i := by
  induction n with
  | zero =>
    intro hn
    rw [loss_first m c ⟨0, hn⟩ (Nat.zero_mod _), loss_step m c _ f0 f1 f2 f3 f4 f5, pay74, zero_add]
    simp
  | succ n ih =>
    intro hn
    have h0 : ¬ (n + 1) % 10 = 0 := by have : n + 1 < 10 := hn; omega
    rw [loss_next m c ⟨n + 1, hn⟩ h0 (Nat.lt_of_succ_lt hn), loss_step m c _ f0 f1 f2 f3 f4 f5, Finset.sum_range_succ]
    exact congrArg (· + _) (ih _)

/-- What one row adds to the scale's gradient. -/
def scaleTerm (k : Fin 1024) (R : Fin 4160) : EReal :=
  val_main_v39 (F := Ideal) (A0 m c) (A1 m c) (A2 m c) (A3 m c) (ix2 R k) * (errAt (A0 m c) (A1 m c) (A2 m c) (A3 m c) (A4 m c) (A5 m c) R k * perWidth)

theorem scale_step (k : Fin 1024) (v : Vec Ideal S1x1024 .f32) :
    k0_pay1 (F := Ideal) (k0_pay84 (F := Ideal) (resultAt m c t) (errsAt m c t)) v (ix2 0 k) = v (ix2 0 k) + part (scaleTerm m c k) t.val := by
  refine (pay84 _ _ _ k).trans (congrArg _ (Eq.trans ?_ (part_tile _ t).symm))
  simp only [resultAt, result_tile, err_tile]
  exact Finset.sum_congr rfl fun r _ => by rw [scaleTerm, ref39, mul_comm]

/-- After tile `n` the scale's block holds the sum of the tiles so far. -/
theorem scale_acc (k : Fin 1024) (n : Nat) : ∀ hn : n < cfg0.N, (outsAt0 m c n hn).2.2.1 (ix2 0 k) = ∑ i ∈ Finset.range (n + 1), part (scaleTerm m c k) i := by
  induction n with
  | zero =>
    intro hn
    rw [scale_first m c ⟨0, hn⟩ (Nat.zero_mod _), scale_step, pay75, zero_add]
    simp
  | succ n ih =>
    intro hn
    have h0 : ¬ (n + 1) % 10 = 0 := by have : n + 1 < 10 := hn; omega
    rw [scale_next m c ⟨n + 1, hn⟩ h0 (Nat.lt_of_succ_lt hn), scale_step, Finset.sum_range_succ]
    exact congrArg (· + _) (ih _)

include f0 f1 f2 f3 f4 f5 in
/-- The loss. -/
theorem out7 (a : Fin 8) (b : Fin 128) : (dats m 0 c).arrAt 7 cfg0.N (ix2 a b) = val_main_v79 (F := Ideal) (A0 m c) (A1 m c) (A2 m c) (A3 m c) (A4 m c) (A5 m c) (ix2 a b) := by
  have hd : ∀ t t' : Fin cfg0.N, (cfg0.win 7).flush t = true → (cfg0.win 7).flush t' = true → t ≠ t' →
      Disjoint ((cfg0.win 7).blk t).view.set ((cfg0.win 7).blk t').view.set := fun t t' h h' hne => by
    have a := (flush0_7 t).mp h
    have b := (flush0_7 t').mp h'
    have := lt_ten t
    have := lt_ten t'
    exact absurd (Fin.ext (by omega)) hne
  have h : ∀ t : Fin cfg0.N, t.val % 10 = 9 → (dats m 0 c).arrAt 7 cfg0.N (ix2 a b) = ∑ i ∈ Finset.range (t.val + 1), part (lossTerm m c) i := fun t ht => by
    have h := congrFun (((dats m 0 c).read_blk_arrAt_eq_flushed 7 hd cfg0.N t t.isLt ((flush0_7 t).mpr ht)).trans (flushed7 m c t)) (ix2 a b)
    change (dats m 0 c).arrAt 7 cfg0.N (((cfg0.win 7).blk t).view.emb (ix2 a b)) = (outsAt0 m c t.val t.isLt).2.1 (ix2 a b) at h
    rw [emb7, loss_acc m c f0 f1 f2 f3 f4 f5] at h
    exact h
  have e : ∑ i ∈ Finset.range (9 + 1), part (lossTerm m c) i = val_main_v79 (F := Ideal) (A0 m c) (A1 m c) (A2 m c) (A3 m c) (A4 m c) (A5 m c) (ix2 a b) := by
    rw [loss_eq f0 f1 f2 f3 f4 f5]
    exact sum_part (lossTerm m c)
  exact (h ⟨9, by decide⟩ rfl).trans e

/-- The last scale's gradient. -/
theorem out8 (k : Fin 1024) : (dats m 0 c).arrAt 8 cfg0.N (ix2 0 k) = val_main_v62 (F := Ideal) (A0 m c) (A1 m c) (A2 m c) (A3 m c) (A4 m c) (A5 m c) (ix2 0 k) := by
  have hd : ∀ t t' : Fin cfg0.N, (cfg0.win 8).flush t = true → (cfg0.win 8).flush t' = true → t ≠ t' →
      Disjoint ((cfg0.win 8).blk t).view.set ((cfg0.win 8).blk t').view.set := fun t t' h h' hne => by
    have a := (flush0_8 t).mp h
    have b := (flush0_8 t').mp h'
    have := lt_ten t
    have := lt_ten t'
    exact absurd (Fin.ext (by omega)) hne
  have h : ∀ t : Fin cfg0.N, t.val % 10 = 9 → (dats m 0 c).arrAt 8 cfg0.N (ix2 0 k) = ∑ i ∈ Finset.range (t.val + 1), part (scaleTerm m c k) i := fun t ht => by
    have h := congrFun (((dats m 0 c).read_blk_arrAt_eq_flushed 8 hd cfg0.N t t.isLt ((flush0_8 t).mpr ht)).trans (flushed8 m c t)) (ix2 0 k)
    change (dats m 0 c).arrAt 8 cfg0.N (((cfg0.win 8).blk t).view.emb (ix2 0 k)) = (outsAt0 m c t.val t.isLt).2.2.1 (ix2 0 k) at h
    rw [emb8, scale_acc] at h
    exact h
  have e : ∑ i ∈ Finset.range (9 + 1), part (scaleTerm m c k) i = val_main_v62 (F := Ideal) (A0 m c) (A1 m c) (A2 m c) (A3 m c) (A4 m c) (A5 m c) (ix2 0 k) := by
    rw [ref62]
    exact sum_part (scaleTerm m c k)
  exact (h ⟨9, by decide⟩ rfl).trans e

/-- The gate half. -/
theorem out9 (k : Fin 2816) : (dats m 0 c).arrAt 9 cfg0.N (ix2 (row t r) k)
    = val_main_v23 (F := Ideal) (A0 m c) (A1 m c) (A2 m c) (ix2 (row t r) k) := by
  have h := congrFun ((blocks9 m c t (flush0_9 t)).trans (flush9 m c t)) (ix2 r k)
  change (dats m 0 c).arrAt 9 cfg0.N (((cfg0.win 9).blk t).view.emb (ix2 r k)) = _ at h
  rw [emb9] at h
  refine h.trans ?_
  rw [ref23]
  exact (gate_block _ _ _ _).trans (gate_tile m c t r k)

/-- The other half. -/
theorem out10 (k : Fin 2816) : (dats m 0 c).arrAt 10 cfg0.N (ix2 (row t r) k)
    = val_main_v24 (F := Ideal) (A0 m c) (A1 m c) (A2 m c) (ix2 (row t r) k) := by
  have h := congrFun ((blocks10 m c t (flush0_10 t)).trans (flush10 m c t)) (ix2 r k)
  change (dats m 0 c).arrAt 10 cfg0.N (((cfg0.win 10).blk t).view.emb (ix2 r k)) = _ at h
  rw [emb10] at h
  refine h.trans ?_
  rw [ref24]
  exact (up_block _ _ _ _).trans (up_tile m c t r k)

/-- The hidden numbers. -/
theorem out11 (k : Fin 2816) : (dats m 0 c).arrAt 11 cfg0.N (ix2 (row t r) k)
    = val_main_v25 (F := Ideal) (A0 m c) (A1 m c) (A2 m c) (ix2 (row t r) k) := by
  have h := congrFun ((blocks11 m c t (flush0_11 t)).trans (flush11 m c t)) (ix2 r k)
  change (dats m 0 c).arrAt 11 cfg0.N (((cfg0.win 11).blk t).view.emb (ix2 r k)) = _ at h
  rw [emb11] at h
  refine h.trans ?_
  rw [ref25]
  exact (hids_block _ _ _ _).trans (hids_tile m c t r k)

/-- The normalised rows. -/
theorem out12 (k : Fin 1024) : (dats m 0 c).arrAt 12 cfg0.N (ix2 (row t r) k)
    = val_main_v26 (F := Ideal) (A0 m c) (A1 m c) (ix2 (row t r) k) := by
  have h := congrFun ((blocks12 m c t (flush0_12 t)).trans (flush12 m c t)) (ix2 r k)
  change (dats m 0 c).arrAt 12 cfg0.N (((cfg0.win 12).blk t).view.emb (ix2 r k)) = _ at h
  rw [emb12] at h
  refine h.trans ?_
  rw [ref26]
  exact norm_tile m c t r k

end Cert.Proof.Loss.Values
-- ==== Proof.Loss.Algebraic.lean ====
module

public import proofs.«01_k».proof.Defs
public import proofs.«01_k».proof.Proof.Loss.Values
public import proofs.«01_k».proof.Proof.Gen.LossReferenceIdeal.Run
public import proofs.«01_k».proof.Proof.Gen.LossReferenceIdeal

@[expose] public section

/-! The value claim of the feed-forward forward call with the loss head: on finite arguments the kernel's arrays are the reference's. -/

set_option maxRecDepth 16384

noncomputable section

namespace Cert.Proof.Loss.Algebraic

open Idealize.ShloMosaic Idealize.ShloMosaic.TcCoe Idealize.SL.Sem Cert.Proof.Rows Cert.Proof.Loss.Values Cert.Proof.Loss.Blocks
  Cert.LossReferenceIdeal.Read

/-- Two arrays of 8 by 128 numbers. -/
theorem ext_small (f g : Vec Ideal (⟨2, ![8, 128]⟩ : Shape) .f32) (h : ∀ (a : Fin 8) (b : Fin 128), f (ix2 a b) = g (ix2 a b)) : f = g := by
  funext i
  obtain ⟨a, b, rfl⟩ : ∃ a b, i = ix2 a b := ⟨_, _, eq_ix2 i⟩
  exact h a b

/-- The kernel's results are the reference's. -/
theorem algebraic : Cert.algebraic_LossKernelIdeal_LossReferenceIdeal_pre_finite_loss := by
  intro m g m' g' hp hm
  have hf := fun c => Cert.Proof.Loss.args_real (A0 m c) (A1 m c) (A2 m c) (A3 m c) (A4 m c) (A5 m c) (hp c)
  refine ⟨fun c => val_main_v78 (F := Ideal) (A0 m c) (A1 m c) (A2 m c) (A3 m c) (A4 m c) (A5 m c),
    fun c => val_main_v79 (F := Ideal) (A0 m c) (A1 m c) (A2 m c) (A3 m c) (A4 m c) (A5 m c),
    fun c => val_main_v62 (F := Ideal) (A0 m c) (A1 m c) (A2 m c) (A3 m c) (A4 m c) (A5 m c),
    fun c => val_main_v23 (F := Ideal) (A0 m c) (A1 m c) (A2 m c),
    fun c => val_main_v24 (F := Ideal) (A0 m c) (A1 m c) (A2 m c),
    fun c => val_main_v25 (F := Ideal) (A0 m c) (A1 m c) (A2 m c),
    fun c => val_main_v26 (F := Ideal) (A0 m c) (A1 m c), ?_, ?_⟩
  · refine (θ_run Cert.LossKernelIdeal.defs _ _).mono (fun r h c => ?_) (Cert.LossKernelIdeal.Value.run_blocks (F := Ideal) m g)
    obtain ⟨h0, h1, h2, h3, h4, h5, h6, ha⟩ := h c
    obtain ⟨f0, f1, f2, f3, f4, f5⟩ := hf c
    exact ⟨h0.trans (ext_rows (e := .f32) _ _ fun t r k => out6 m c t r f0 f1 f2 f3 f4 f5 k),
      h1.trans (ext_small _ _ fun a b => out7 m c f0 f1 f2 f3 f4 f5 a b),
      h2.trans (ext_one (e := .f32) _ _ fun k => out8 m c k),
      h3.trans (ext_rows (e := .bf16) _ _ fun t r k => out9 m c t r k),
      h4.trans (ext_rows (e := .bf16) _ _ fun t r k => out10 m c t r k),
      h5.trans (ext_rows (e := .bf16) _ _ fun t r k => out11 m c t r k),
      h6.trans (ext_rows (e := .bf16) _ _ fun t r k => out12 m c t r k), ha⟩
  · refine (θ_run Cert.LossReferenceIdeal.defs _ _).mono (fun r h c => ?_) (Cert.LossReferenceIdeal.Value.run (F := Ideal) m' g')
    obtain ⟨a0, a1, a2, a3, a4, a5⟩ := hm c
    obtain ⟨h0, h1, h2, h3, h4, h5, h6, ha⟩ := h c
    replace h0 := h0.trans (show _ = val_main_v78 (F := Ideal) (m' ((c : Thread Cert.LossReferenceIdeal.nD Cert.LossReferenceIdeal.τ).loc Cert.LossReferenceIdeal.main_arg0)) (m' ((c : Thread Cert.LossReferenceIdeal.nD Cert.LossReferenceIdeal.τ).loc Cert.LossReferenceIdeal.main_arg1)) (m' ((c : Thread Cert.LossReferenceIdeal.nD Cert.LossReferenceIdeal.τ).loc Cert.LossReferenceIdeal.main_arg2)) (m' ((c : Thread Cert.LossReferenceIdeal.nD Cert.LossReferenceIdeal.τ).loc Cert.LossReferenceIdeal.main_arg3)) (m' ((c : Thread Cert.LossReferenceIdeal.nD Cert.LossReferenceIdeal.τ).loc Cert.LossReferenceIdeal.main_arg4)) (m' ((c : Thread Cert.LossReferenceIdeal.nD Cert.LossReferenceIdeal.τ).loc Cert.LossReferenceIdeal.main_arg5)) from rfl)
    rw [a0, a1, a2, a3, a4, a5] at h0
    replace h1 := h1.trans (show _ = val_main_v79 (F := Ideal) (m' ((c : Thread Cert.LossReferenceIdeal.nD Cert.LossReferenceIdeal.τ).loc Cert.LossReferenceIdeal.main_arg0)) (m' ((c : Thread Cert.LossReferenceIdeal.nD Cert.LossReferenceIdeal.τ).loc Cert.LossReferenceIdeal.main_arg1)) (m' ((c : Thread Cert.LossReferenceIdeal.nD Cert.LossReferenceIdeal.τ).loc Cert.LossReferenceIdeal.main_arg2)) (m' ((c : Thread Cert.LossReferenceIdeal.nD Cert.LossReferenceIdeal.τ).loc Cert.LossReferenceIdeal.main_arg3)) (m' ((c : Thread Cert.LossReferenceIdeal.nD Cert.LossReferenceIdeal.τ).loc Cert.LossReferenceIdeal.main_arg4)) (m' ((c : Thread Cert.LossReferenceIdeal.nD Cert.LossReferenceIdeal.τ).loc Cert.LossReferenceIdeal.main_arg5)) from rfl)
    rw [a0, a1, a2, a3, a4, a5] at h1
    replace h2 := h2.trans (show _ = val_main_v62 (F := Ideal) (m' ((c : Thread Cert.LossReferenceIdeal.nD Cert.LossReferenceIdeal.τ).loc Cert.LossReferenceIdeal.main_arg0)) (m' ((c : Thread Cert.LossReferenceIdeal.nD Cert.LossReferenceIdeal.τ).loc Cert.LossReferenceIdeal.main_arg1)) (m' ((c : Thread Cert.LossReferenceIdeal.nD Cert.LossReferenceIdeal.τ).loc Cert.LossReferenceIdeal.main_arg2)) (m' ((c : Thread Cert.LossReferenceIdeal.nD Cert.LossReferenceIdeal.τ).loc Cert.LossReferenceIdeal.main_arg3)) (m' ((c : Thread Cert.LossReferenceIdeal.nD Cert.LossReferenceIdeal.τ).loc Cert.LossReferenceIdeal.main_arg4)) (m' ((c : Thread Cert.LossReferenceIdeal.nD Cert.LossReferenceIdeal.τ).loc Cert.LossReferenceIdeal.main_arg5)) from rfl)
    rw [a0, a1, a2, a3, a4, a5] at h2
    replace h3 := h3.trans (show _ = val_main_v23 (F := Ideal) (m' ((c : Thread Cert.LossReferenceIdeal.nD Cert.LossReferenceIdeal.τ).loc Cert.LossReferenceIdeal.main_arg0)) (m' ((c : Thread Cert.LossReferenceIdeal.nD Cert.LossReferenceIdeal.τ).loc Cert.LossReferenceIdeal.main_arg1)) (m' ((c : Thread Cert.LossReferenceIdeal.nD Cert.LossReferenceIdeal.τ).loc Cert.LossReferenceIdeal.main_arg2)) from rfl)
    rw [a0, a1, a2] at h3
    replace h4 := h4.trans (show _ = val_main_v24 (F := Ideal) (m' ((c : Thread Cert.LossReferenceIdeal.nD Cert.LossReferenceIdeal.τ).loc Cert.LossReferenceIdeal.main_arg0)) (m' ((c : Thread Cert.LossReferenceIdeal.nD Cert.LossReferenceIdeal.τ).loc Cert.LossReferenceIdeal.main_arg1)) (m' ((c : Thread Cert.LossReferenceIdeal.nD Cert.LossReferenceIdeal.τ).loc Cert.LossReferenceIdeal.main_arg2)) from rfl)
    rw [a0, a1, a2] at h4
    replace h5 := h5.trans (show _ = val_main_v25 (F := Ideal) (m' ((c : Thread Cert.LossReferenceIdeal.nD Cert.LossReferenceIdeal.τ).loc Cert.LossReferenceIdeal.main_arg0)) (m' ((c : Thread Cert.LossReferenceIdeal.nD Cert.LossReferenceIdeal.τ).loc Cert.LossReferenceIdeal.main_arg1)) (m' ((c : Thread Cert.LossReferenceIdeal.nD Cert.LossReferenceIdeal.τ).loc Cert.LossReferenceIdeal.main_arg2)) from rfl)
    rw [a0, a1, a2] at h5
    replace h6 := h6.trans (show _ = val_main_v26 (F := Ideal) (m' ((c : Thread Cert.LossReferenceIdeal.nD Cert.LossReferenceIdeal.τ).loc Cert.LossReferenceIdeal.main_arg0)) (m' ((c : Thread Cert.LossReferenceIdeal.nD Cert.LossReferenceIdeal.τ).loc Cert.LossReferenceIdeal.main_arg1)) from rfl)
    rw [a0, a1] at h6
    exact ⟨h0, h1, h2, h3, h4, h5, h6, ha⟩

end Cert.Proof.Loss.Algebraic
-- ==== Proof.First.Pieces.lean ====
module

public import proofs.«01_k».proof.Proof.Gen.FirstKernelIdeal.Value
public import proofs.«01_k».proof.Proof.Ffn.Pieces

@[expose] public section

/-! What the body of the first layer's feed-forward backward call leaves in each output's block: what the body of
the second layer's does, its stores and its payload functions being the same.  The gradient of the input stands in a
scratch buffer too, from which the copies of the tokens' rows start; they change none of these blocks. -/

set_option maxRecDepth 16384

noncomputable section

namespace Cert.Proof.First

open Cert.FirstKernelIdeal Cert.FirstKernelIdeal.Value Idealize.ShloMosaic Idealize.ShloMosaic.TcCoe Idealize.SL.Sem
open Cert.FirstKernelIdeal.Gen hiding k0_pay3 k0_pay4 k0_pay5 k0_pay6 k0_pay79
open Cert.FfnKernelIdeal.Gen (k0_pay3 k0_pay4 k0_pay5 k0_pay6 k0_pay79)
open Cert.Proof.Ffn (hz gate1 gate2 up1 up2 dn)

variable {F : FTy → Type} [FloatOps F]

section Body

variable (c : Dev nD) (i : grid0.Coords) (arg1 : Memref sig .tc .vmem S416x1024 .f32) (harg1 : arg1.IsWhole) (arg2 : Memref sig .tc .vmem S416x1024 .f32) (harg2 : arg2.IsWhole) (arg3 : Memref sig .tc .vmem S1x1024 .f32) (harg3 : arg3.IsWhole) (arg4 : Memref sig .tc .vmem S416x2816 .bf16) (harg4 : arg4.IsWhole) (arg5 : Memref sig .tc .vmem S416x2816 .bf16) (harg5 : arg5.IsWhole) (arg6 : Memref sig .tc .vmem S4x1024x1408 .bf16) (harg6 : arg6.IsWhole) (arg7 : Memref sig .tc .vmem S2x1408x1024 .bf16) (harg7 : arg7.IsWhole) (arg8 : Memref sig .tc .vmem S416x1024 .f32) (harg8 : arg8.IsWhole) (arg9 : Memref sig .tc .vmem S416x2816 .bf16) (harg9 : arg9.IsWhole) (arg10 : Memref sig .tc .vmem S416x2816 .bf16) (harg10 : arg10.IsWhole) (arg11 : Memref sig .tc .vmem S416x1024 .bf16) (harg11 : arg11.IsWhole) (arg12 : Memref sig .tc .vmem S1x1024 .f32) (harg12 : arg12.IsWhole) (arg14 : Memref sig .tc .vmem S416x1024 .f32) (harg14 : arg14.IsWhole) (x0 x1 : Vec F S416x1024 .f32) (x2 : Vec F S1x1024 .f32) (x3 x4 : Vec F S416x2816 .bf16) (x5 : Vec F S4x1024x1408 .bf16) (x6 : Vec F S2x1408x1024 .bf16)

/-- At the first point: the gradient of the input. -/
theorem outA_7 (hc0 : cond0_0 i) (hc1 : cond0_1 i) (hc2 : ¬cond0_2 i) (hc3 : ¬cond0_3 i) :
    out0_A_7 c i arg1 harg1 arg2 harg2 arg3 harg3 arg4 harg4 arg5 harg5 arg6 harg6 arg7 harg7 arg8 harg8 arg9 harg9 arg10 harg10 arg11 harg11 arg12 harg12 arg14 harg14 hc0 hc1 hc2 hc3 x0 x1 x2 x3 x4 x5 x6
      = k0_pay4 x0 (dn x0 x3 x4 x6 x5) x1 x2 (k0_pay79 x1) := by
  unfold out0_A_7
  rw [View.read_writes_junk_eq_canon]
  unfold kernelRun0_A
  dsimp only
  sl_unfold_words
  simp only [View.readAt_eq_ld, Memref.IsWhole.read_unread, View.ld_unit_zero (S := S416x1024) hz, View.ld_unit_zero (S := S1x1024) hz,
    View.canon_cons_unit_zero (S := S416x1024) hz, View.canon_cons_unit_zero (S := S1x1024) hz, View.readCov_unit_zero (S := S1x1024) _ hz,
    View.readCov_eq_canon']
  rfl

/-- At the first point: the gradient of the gate half. -/
theorem outA_8 (hc0 : cond0_0 i) (hc1 : cond0_1 i) (hc2 : ¬cond0_2 i) (hc3 : ¬cond0_3 i) :
    out0_A_8 c i arg1 harg1 arg2 harg2 arg3 harg3 arg4 harg4 arg5 harg5 arg6 harg6 arg7 harg7 arg8 harg8 arg9 harg9 arg10 harg10 arg11 harg11 arg12 harg12 arg14 harg14 hc0 hc1 hc2 hc3 x0 x1 x2 x3 x4 x5 x6
      = View.canon (Val := Elt F) (gate2 x0 x3 x4 x6 ++ gate1 x0 x3 x4 x6) := by
  unfold out0_A_8
  rw [View.read_writes_junk_eq_canon]
  unfold kernelRun0_A
  dsimp only
  sl_unfold_words
  simp only [View.readAt_eq_ld, Memref.IsWhole.read_unread, View.ld_unit_zero (S := S416x1024) hz, View.ld_unit_zero (S := S1x1024) hz,
    View.canon_cons_unit_zero (S := S416x1024) hz, View.canon_cons_unit_zero (S := S1x1024) hz, View.readCov_unit_zero (S := S1x1024) _ hz,
    View.readCov_eq_canon']
  rfl

/-- At the first point: the gradient of the other half. -/
theorem outA_9 (hc0 : cond0_0 i) (hc1 : cond0_1 i) (hc2 : ¬cond0_2 i) (hc3 : ¬cond0_3 i) :
    out0_A_9 c i arg1 harg1 arg2 harg2 arg3 harg3 arg4 harg4 arg5 harg5 arg6 harg6 arg7 harg7 arg8 harg8 arg9 harg9 arg10 harg10 arg11 harg11 arg12 harg12 arg14 harg14 hc0 hc1 hc2 hc3 x0 x1 x2 x3 x4 x5 x6
      = View.canon (Val := Elt F) (up2 x0 x3 x6 ++ up1 x0 x3 x6) := by
  unfold out0_A_9
  rw [View.read_writes_junk_eq_canon]
  unfold kernelRun0_A
  dsimp only
  sl_unfold_words
  simp only [View.readAt_eq_ld, Memref.IsWhole.read_unread, View.ld_unit_zero (S := S416x1024) hz, View.ld_unit_zero (S := S1x1024) hz,
    View.canon_cons_unit_zero (S := S416x1024) hz, View.canon_cons_unit_zero (S := S1x1024) hz, View.readCov_unit_zero (S := S1x1024) _ hz,
    View.readCov_eq_canon']
  rfl

/-- At the first point: the halved incoming gradient. -/
theorem outA_10 (hc0 : cond0_0 i) (hc1 : cond0_1 i) (hc2 : ¬cond0_2 i) (hc3 : ¬cond0_3 i) :
    out0_A_10 c i arg1 harg1 arg2 harg2 arg3 harg3 arg4 harg4 arg5 harg5 arg6 harg6 arg7 harg7 arg8 harg8 arg9 harg9 arg10 harg10 arg11 harg11 arg12 harg12 arg14 harg14 hc0 hc1 hc2 hc3 x0 x1 x2 x3 x4 x5 x6
      = k0_pay6 x0 := by
  unfold out0_A_10
  rw [View.read_writes_junk_eq_canon]
  unfold kernelRun0_A
  dsimp only
  sl_unfold_words
  simp only [View.readAt_eq_ld, Memref.IsWhole.read_unread, View.ld_unit_zero (S := S416x1024) hz, View.ld_unit_zero (S := S1x1024) hz,
    View.canon_cons_unit_zero (S := S416x1024) hz, View.canon_cons_unit_zero (S := S1x1024) hz, View.readCov_unit_zero (S := S1x1024) _ hz,
    View.readCov_eq_canon']
  rfl

/-- At the first point: the gradient of the scale. -/
theorem outA_11 (hc0 : cond0_0 i) (hc1 : cond0_1 i) (hc2 : ¬cond0_2 i) (hc3 : ¬cond0_3 i) :
    out0_A_11 c i arg1 harg1 arg2 harg2 arg3 harg3 arg4 harg4 arg5 harg5 arg6 harg6 arg7 harg7 arg8 harg8 arg9 harg9 arg10 harg10 arg11 harg11 arg12 harg12 arg14 harg14 hc0 hc1 hc2 hc3 x0 x1 x2 x3 x4 x5 x6
      = k0_pay3 (dn x0 x3 x4 x6 x5) x1 (k0_pay79 x1) k0_pay5 := by
  unfold out0_A_11
  rw [View.read_writes_junk_eq_canon]
  unfold kernelRun0_A
  dsimp only
  sl_unfold_words
  simp only [View.readAt_eq_ld, Memref.IsWhole.read_unread, View.ld_unit_zero (S := S416x1024) hz, View.ld_unit_zero (S := S1x1024) hz,
    View.canon_cons_unit_zero (S := S416x1024) hz, View.canon_cons_unit_zero (S := S1x1024) hz, View.readCov_unit_zero (S := S1x1024) _ hz,
    View.readCov_eq_canon']
  rfl

/-- At a middle point: the gradient of the input. -/
theorem outB_7 (hc0 : ¬cond0_0 i) (hc1 : ¬cond0_1 i) (hc2 : cond0_2 i) (hc3 : ¬cond0_3 i) (xo11 : Vec F S1x1024 .f32) :
    out0_B_7 c i arg1 harg1 arg2 harg2 arg3 harg3 arg4 harg4 arg5 harg5 arg6 harg6 arg7 harg7 arg8 harg8 arg9 harg9 arg10 harg10 arg11 harg11 arg12 harg12 arg14 harg14 hc0 hc1 hc2 hc3 x0 x1 x2 x3 x4 x5 x6 xo11
      = k0_pay4 x0 (dn x0 x3 x4 x6 x5) x1 x2 (k0_pay79 x1) := by
  unfold out0_B_7
  rw [View.read_writes_junk_eq_canon]
  unfold kernelRun0_B
  dsimp only
  sl_unfold_words
  simp only [View.readAt_eq_ld, Memref.IsWhole.read_unread, View.ld_unit_zero (S := S416x1024) hz, View.ld_unit_zero (S := S1x1024) hz,
    View.canon_cons_unit_zero (S := S416x1024) hz, View.canon_cons_unit_zero (S := S1x1024) hz, View.readCov_unit_zero (S := S1x1024) _ hz,
    View.readCov_eq_canon']
  rfl

/-- At a middle point: the gradient of the gate half. -/
theorem outB_8 (hc0 : ¬cond0_0 i) (hc1 : ¬cond0_1 i) (hc2 : cond0_2 i) (hc3 : ¬cond0_3 i) (xo11 : Vec F S1x1024 .f32) :
    out0_B_8 c i arg1 harg1 arg2 harg2 arg3 harg3 arg4 harg4 arg5 harg5 arg6 harg6 arg7 harg7 arg8 harg8 arg9 harg9 arg10 harg10 arg11 harg11 arg12 harg12 arg14 harg14 hc0 hc1 hc2 hc3 x0 x1 x2 x3 x4 x5 x6 xo11
      = View.canon (Val := Elt F) (gate2 x0 x3 x4 x6 ++ gate1 x0 x3 x4 x6) := by
  unfold out0_B_8
  rw [View.read_writes_junk_eq_canon]
  unfold kernelRun0_B
  dsimp only
  sl_unfold_words
  simp only [View.readAt_eq_ld, Memref.IsWhole.read_unread, View.ld_unit_zero (S := S416x1024) hz, View.ld_unit_zero (S := S1x1024) hz,
    View.canon_cons_unit_zero (S := S416x1024) hz, View.canon_cons_unit_zero (S := S1x1024) hz, View.readCov_unit_zero (S := S1x1024) _ hz,
    View.readCov_eq_canon']
  rfl

/-- At a middle point: the gradient of the other half. -/
theorem outB_9 (hc0 : ¬cond0_0 i) (hc1 : ¬cond0_1 i) (hc2 : cond0_2 i) (hc3 : ¬cond0_3 i) (xo11 : Vec F S1x1024 .f32) :
    out0_B_9 c i arg1 harg1 arg2 harg2 arg3 harg3 arg4 harg4 arg5 harg5 arg6 harg6 arg7 harg7 arg8 harg8 arg9 harg9 arg10 harg10 arg11 harg11 arg12 harg12 arg14 harg14 hc0 hc1 hc2 hc3 x0 x1 x2 x3 x4 x5 x6 xo11
      = View.canon (Val := Elt F) (up2 x0 x3 x6 ++ up1 x0 x3 x6) := by
  unfold out0_B_9
  rw [View.read_writes_junk_eq_canon]
  unfold kernelRun0_B
  dsimp only
  sl_unfold_words
  simp only [View.readAt_eq_ld, Memref.IsWhole.read_unread, View.ld_unit_zero (S := S416x1024) hz, View.ld_unit_zero (S := S1x1024) hz,
    View.canon_cons_unit_zero (S := S416x1024) hz, View.canon_cons_unit_zero (S := S1x1024) hz, View.readCov_unit_zero (S := S1x1024) _ hz,
    View.readCov_eq_canon']
  rfl

/-- At a middle point: the halved incoming gradient. -/
theorem outB_10 (hc0 : ¬cond0_0 i) (hc1 : ¬cond0_1 i) (hc2 : cond0_2 i) (hc3 : ¬cond0_3 i) (xo11 : Vec F S1x1024 .f32) :
    out0_B_10 c i arg1 harg1 arg2 harg2 arg3 harg3 arg4 harg4 arg5 harg5 arg6 harg6 arg7 harg7 arg8 harg8 arg9 harg9 arg10 harg10 arg11 harg11 arg12 harg12 arg14 harg14 hc0 hc1 hc2 hc3 x0 x1 x2 x3 x4 x5 x6 xo11
      = k0_pay6 x0 := by
  unfold out0_B_10
  rw [View.read_writes_junk_eq_canon]
  unfold kernelRun0_B
  dsimp only
  sl_unfold_words
  simp only [View.readAt_eq_ld, Memref.IsWhole.read_unread, View.ld_unit_zero (S := S416x1024) hz, View.ld_unit_zero (S := S1x1024) hz,
    View.canon_cons_unit_zero (S := S416x1024) hz, View.canon_cons_unit_zero (S := S1x1024) hz, View.readCov_unit_zero (S := S1x1024) _ hz,
    View.readCov_eq_canon']
  rfl

/-- At a middle point: the gradient of the scale. -/
theorem outB_11 (hc0 : ¬cond0_0 i) (hc1 : ¬cond0_1 i) (hc2 : cond0_2 i) (hc3 : ¬cond0_3 i) (xo11 : Vec F S1x1024 .f32) :
    out0_B_11 c i arg1 harg1 arg2 harg2 arg3 harg3 arg4 harg4 arg5 harg5 arg6 harg6 arg7 harg7 arg8 harg8 arg9 harg9 arg10 harg10 arg11 harg11 arg12 harg12 arg14 harg14 hc0 hc1 hc2 hc3 x0 x1 x2 x3 x4 x5 x6 xo11
      = k0_pay3 (dn x0 x3 x4 x6 x5) x1 (k0_pay79 x1) xo11 := by
  unfold out0_B_11
  rw [View.read_writes_junk_eq_canon]
  unfold kernelRun0_B
  dsimp only
  sl_unfold_words
  simp only [View.readAt_eq_ld, Memref.IsWhole.read_unread, View.ld_unit_zero (S := S416x1024) hz, View.ld_unit_zero (S := S1x1024) hz,
    View.canon_cons_unit_zero (S := S416x1024) hz, View.canon_cons_unit_zero (S := S1x1024) hz, View.readCov_unit_zero (S := S1x1024) _ hz,
    View.readCov_eq_canon']
  rfl

/-- At the last point: the gradient of the input. -/
theorem outC_7 (hc0 : ¬cond0_0 i) (hc1 : ¬cond0_1 i) (hc2 : ¬cond0_2 i) (hc3 : cond0_3 i) (xo11 : Vec F S1x1024 .f32) :
    out0_C_7 c i arg1 harg1 arg2 harg2 arg3 harg3 arg4 harg4 arg5 harg5 arg6 harg6 arg7 harg7 arg8 harg8 arg9 harg9 arg10 harg10 arg11 harg11 arg12 harg12 arg14 harg14 hc0 hc1 hc2 hc3 x0 x1 x2 x3 x4 x5 x6 xo11
      = k0_pay4 x0 (dn x0 x3 x4 x6 x5) x1 x2 (k0_pay79 x1) := by
  unfold out0_C_7
  rw [View.read_writes_junk_eq_canon]
  unfold kernelRun0_C
  dsimp only
  sl_unfold_words
  simp only [View.readAt_eq_ld, Memref.IsWhole.read_unread, View.ld_unit_zero (S := S416x1024) hz, View.ld_unit_zero (S := S1x1024) hz,
    View.canon_cons_unit_zero (S := S416x1024) hz, View.canon_cons_unit_zero (S := S1x1024) hz, View.readCov_unit_zero (S := S1x1024) _ hz,
    View.readCov_eq_canon']
  rfl

/-- At the last point: the gradient of the gate half. -/
theorem outC_8 (hc0 : ¬cond0_0 i) (hc1 : ¬cond0_1 i) (hc2 : ¬cond0_2 i) (hc3 : cond0_3 i) (xo11 : Vec F S1x1024 .f32) :
    out0_C_8 c i arg1 harg1 arg2 harg2 arg3 harg3 arg4 harg4 arg5 harg5 arg6 harg6 arg7 harg7 arg8 harg8 arg9 harg9 arg10 harg10 arg11 harg11 arg12 harg12 arg14 harg14 hc0 hc1 hc2 hc3 x0 x1 x2 x3 x4 x5 x6 xo11
      = View.canon (Val := Elt F) (gate2 x0 x3 x4 x6 ++ gate1 x0 x3 x4 x6) := by
  unfold out0_C_8
  rw [View.read_writes_junk_eq_canon]
  unfold kernelRun0_C
  dsimp only
  sl_unfold_words
  simp only [View.readAt_eq_ld, Memref.IsWhole.read_unread, View.ld_unit_zero (S := S416x1024) hz, View.ld_unit_zero (S := S1x1024) hz,
    View.canon_cons_unit_zero (S := S416x1024) hz, View.canon_cons_unit_zero (S := S1x1024) hz, View.readCov_unit_zero (S := S1x1024) _ hz,
    View.readCov_eq_canon']
  rfl

/-- At the last point: the gradient of the other half. -/
theorem outC_9 (hc0 : ¬cond0_0 i) (hc1 : ¬cond0_1 i) (hc2 : ¬cond0_2 i) (hc3 : cond0_3 i) (xo11 : Vec F S1x1024 .f32) :
    out0_C_9 c i arg1 harg1 arg2 harg2 arg3 harg3 arg4 harg4 arg5 harg5 arg6 harg6 arg7 harg7 arg8 harg8 arg9 harg9 arg10 harg10 arg11 harg11 arg12 harg12 arg14 harg14 hc0 hc1 hc2 hc3 x0 x1 x2 x3 x4 x5 x6 xo11
      = View.canon (Val := Elt F) (up2 x0 x3 x6 ++ up1 x0 x3 x6) := by
  unfold out0_C_9
  rw [View.read_writes_junk_eq_canon]
  unfold kernelRun0_C
  dsimp only
  sl_unfold_words
  simp only [View.readAt_eq_ld, Memref.IsWhole.read_unread, View.ld_unit_zero (S := S416x1024) hz, View.ld_unit_zero (S := S1x1024) hz,
    View.canon_cons_unit_zero (S := S416x1024) hz, View.canon_cons_unit_zero (S := S1x1024) hz, View.readCov_unit_zero (S := S1x1024) _ hz,
    View.readCov_eq_canon']
  rfl

/-- At the last point: the halved incoming gradient. -/
theorem outC_10 (hc0 : ¬cond0_0 i) (hc1 : ¬cond0_1 i) (hc2 : ¬cond0_2 i) (hc3 : cond0_3 i) (xo11 : Vec F S1x1024 .f32) :
    out0_C_10 c i arg1 harg1 arg2 harg2 arg3 harg3 arg4 harg4 arg5 harg5 arg6 harg6 arg7 harg7 arg8 harg8 arg9 harg9 arg10 harg10 arg11 harg11 arg12 harg12 arg14 harg14 hc0 hc1 hc2 hc3 x0 x1 x2 x3 x4 x5 x6 xo11
      = k0_pay6 x0 := by
  unfold out0_C_10
  rw [View.read_writes_junk_eq_canon]
  unfold kernelRun0_C
  dsimp only
  sl_unfold_words
  simp only [View.readAt_eq_ld, Memref.IsWhole.read_unread, View.ld_unit_zero (S := S416x1024) hz, View.ld_unit_zero (S := S1x1024) hz,
    View.canon_cons_unit_zero (S := S416x1024) hz, View.canon_cons_unit_zero (S := S1x1024) hz, View.readCov_unit_zero (S := S1x1024) _ hz,
    View.readCov_eq_canon']
  rfl

/-- At the last point: the gradient of the scale. -/
theorem outC_11 (hc0 : ¬cond0_0 i) (hc1 : ¬cond0_1 i) (hc2 : ¬cond0_2 i) (hc3 : cond0_3 i) (xo11 : Vec F S1x1024 .f32) :
    out0_C_11 c i arg1 harg1 arg2 harg2 arg3 harg3 arg4 harg4 arg5 harg5 arg6 harg6 arg7 harg7 arg8 harg8 arg9 harg9 arg10 harg10 arg11 harg11 arg12 harg12 arg14 harg14 hc0 hc1 hc2 hc3 x0 x1 x2 x3 x4 x5 x6 xo11
      = k0_pay3 (dn x0 x3 x4 x6 x5) x1 (k0_pay79 x1) xo11 := by
  unfold out0_C_11
  rw [View.read_writes_junk_eq_canon]
  unfold kernelRun0_C
  dsimp only
  sl_unfold_words
  simp only [View.readAt_eq_ld, Memref.IsWhole.read_unread, View.ld_unit_zero (S := S416x1024) hz, View.ld_unit_zero (S := S1x1024) hz,
    View.canon_cons_unit_zero (S := S416x1024) hz, View.canon_cons_unit_zero (S := S1x1024) hz, View.readCov_unit_zero (S := S1x1024) _ hz,
    View.readCov_eq_canon']
  rfl

end Body

variable (m : ∀ l, Buf (Elt F) l) (c : Dev nD) (t : Fin cfg0.N)

/-- What every point sends to output 7: the gradient of the input. -/
theorem flush7 : (dats m 0 c).flushed 7 t
    = (cfg0.win 7).cut (grid0.coords t) (k0_pay4 (iblk m c 0 t) (dn (iblk m c 0 t) (iblk m c 3 t) (iblk m c 4 t) (iblk m c 6 t) (iblk m c 5 t)) (iblk m c 1 t) (iblk m c 2 t) (k0_pay79 (iblk m c 1 t))) := by
  have hn : t.val < 10 := t.isLt
  by_cases h0 : t.val % 10 = 0
  · rw [flushed7_A m c t h0 h0 (by omega) (by omega), outA_7]
  · by_cases h9 : t.val % 10 = 9
    · rw [flushed7_C m c t h0 h0 (by omega) h9, outC_7]
    · rw [flushed7_B m c t h0 h0 (by omega) h9, outB_7]

/-- What every point sends to output 8: the gradient of the gate half. -/
theorem flush8 : (dats m 0 c).flushed 8 t
    = (cfg0.win 8).cut (grid0.coords t) (View.canon (Val := Elt F) (gate2 (iblk m c 0 t) (iblk m c 3 t) (iblk m c 4 t) (iblk m c 6 t) ++ gate1 (iblk m c 0 t) (iblk m c 3 t) (iblk m c 4 t) (iblk m c 6 t))) := by
  have hn : t.val < 10 := t.isLt
  by_cases h0 : t.val % 10 = 0
  · rw [flushed8_A m c t h0 h0 (by omega) (by omega), outA_8]
  · by_cases h9 : t.val % 10 = 9
    · rw [flushed8_C m c t h0 h0 (by omega) h9, outC_8]
    · rw [flushed8_B m c t h0 h0 (by omega) h9, outB_8]

/-- What every point sends to output 9: the gradient of the other half. -/
theorem flush9 : (dats m 0 c).flushed 9 t
    = (cfg0.win 9).cut (grid0.coords t) (View.canon (Val := Elt F) (up2 (iblk m c 0 t) (iblk m c 3 t) (iblk m c 6 t) ++ up1 (iblk m c 0 t) (iblk m c 3 t) (iblk m c 6 t))) := by
  have hn : t.val < 10 := t.isLt
  by_cases h0 : t.val % 10 = 0
  · rw [flushed9_A m c t h0 h0 (by omega) (by omega), outA_9]
  · by_cases h9 : t.val % 10 = 9
    · rw [flushed9_C m c t h0 h0 (by omega) h9, outC_9]
    · rw [flushed9_B m c t h0 h0 (by omega) h9, outB_9]

/-- What every point sends to output 10: the halved incoming gradient. -/
theorem flush10 : (dats m 0 c).flushed 10 t
    = (cfg0.win 10).cut (grid0.coords t) (k0_pay6 (iblk m c 0 t)) := by
  have hn : t.val < 10 := t.isLt
  by_cases h0 : t.val % 10 = 0
  · rw [flushed10_A m c t h0 h0 (by omega) (by omega), outA_10]
  · by_cases h9 : t.val % 10 = 9
    · rw [flushed10_C m c t h0 h0 (by omega) h9, outC_10]
    · rw [flushed10_B m c t h0 h0 (by omega) h9, outB_10]

/-- The scale's gradient after the first point. -/
theorem acc_first (h0 : t.val % 10 = 0) : (outsAt0 m c t.val t.isLt).2.2.2.2
    = k0_pay3 (dn (iblk m c 0 t) (iblk m c 3 t) (iblk m c 4 t) (iblk m c 6 t) (iblk m c 5 t)) (iblk m c 1 t) (k0_pay79 (iblk m c 1 t)) k0_pay5 := by
  rw [outsAt0_A m c t h0 h0 (by omega) (by omega)]
  dsimp only
  rw [outA_11]

/-- The scale's gradient after a later point, from what stood there after the point before. -/
theorem acc_next (h0 : ¬t.val % 10 = 0) (hp : t.val - 1 < cfg0.N) : (outsAt0 m c t.val t.isLt).2.2.2.2
    = k0_pay3 (dn (iblk m c 0 t) (iblk m c 3 t) (iblk m c 4 t) (iblk m c 6 t) (iblk m c 5 t)) (iblk m c 1 t) (k0_pay79 (iblk m c 1 t)) (outsAt0 m c (t.val - 1) hp).2.2.2.2 := by
  by_cases h9 : t.val % 10 = 9
  · rw [outsAt0_C m c t h0 h0 (by omega) h9]
    dsimp only
    rw [outC_11]
  · rw [outsAt0_B m c t h0 h0 (by omega) h9]
    dsimp only
    rw [outB_11]

end Cert.Proof.First
-- ==== Proof.First.Blocks.lean ====
module

public import proofs.«01_k».proof.Proof.Gen.FirstKernelIdeal.Frame.Runs
public import proofs.«01_k».proof.Proof.Ffn.Reference

@[expose] public section

/-! In the backward call of the first feed-forward layer: which entries of the arrays a grid point's blocks are: point `t` takes the rows `416 t … 416 t + 415` of every
array cut into tiles, and the scale and the two weights whole.  The weights reach the call reshaped (the first one in
four groups of 1408 columns, the second in two groups of 1408 rows), the gate and the other half of the wide product
as the forward pass leaves them. -/

set_option maxRecDepth 16384

noncomputable section

namespace Cert.Proof.First.Blocks

open Cert.FirstKernelIdeal Cert.FirstKernelIdeal.Gen Idealize.ShloMosaic Idealize.ShloMosaic.TcCoe Idealize.SL.Sem
open Cert.Proof.Ffn.Reference

section Places

variable (t : Fin cfg0.N)

theorem lt_ten (t : Fin cfg0.N) : t.val < 10 := t.isLt

/-- The row of the arrays that row `r` of point `t`'s tile is. -/
def row (t : Fin cfg0.N) (r : Fin 416) : Fin 4160 :=
  ⟨t.val * 416 + r.val, by have := lt_ten t; have := r.isLt; omega⟩

/-- Every row is some tile's. -/
theorem exists_row (R : Fin 4160) : ∃ (t : Fin cfg0.N) (r : Fin 416), R = row t r :=
  ⟨(⟨R.val / 416, by have := R.isLt; omega⟩ : Fin 10), ⟨R.val % 416, Nat.mod_lt _ (by decide)⟩,
    Fin.ext (by show R.val = R.val / 416 * 416 + R.val % 416; omega)⟩

theorem index0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- Where window 0's block lies in its array. -/
theorem emb0 (r : Fin 416) (j : Fin 1024) : ((cfg0.win 0).blk t).view.emb (ix2 r j) = ix2 (row t r) j := by
  funext a
  apply Fin.ext
  match a with
  | ⟨0, _⟩ => show win0_0.index t (0 : Fin 2) * 416 + 1 * r.val = t.val * 416 + r.val; rw [(index0 t).1, Nat.one_mul]
  | ⟨1, _⟩ => show win0_0.index t (1 : Fin 2) * 1024 + 1 * j.val = j.val; rw [(index0 t).2]; omega

theorem index1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

/-- Where window 1's block lies in its array. -/
theorem emb1 (r : Fin 416) (j : Fin 1024) : ((cfg0.win 1).blk t).view.emb (ix2 r j) = ix2 (row t r) j := by
  funext a
  apply Fin.ext
  match a with
  | ⟨0, _⟩ => show win0_1.index t (0 : Fin 2) * 416 + 1 * r.val = t.val * 416 + r.val; rw [(index1 t).1, Nat.one_mul]
  | ⟨1, _⟩ => show win0_1.index t (1 : Fin 2) * 1024 + 1 * j.val = j.val; rw [(index1 t).2]; omega

theorem index3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)

/-- Where window 3's block lies in its array. -/
theorem emb3 (r : Fin 416) (j : Fin 2816) : ((cfg0.win 3).blk t).view.emb (ix2 r j) = ix2 (row t r) j := by
  funext a
  apply Fin.ext
  match a with
  | ⟨0, _⟩ => show win0_3.index t (0 : Fin 2) * 416 + 1 * r.val = t.val * 416 + r.val; rw [(index3 t).1, Nat.one_mul]
  | ⟨1, _⟩ => show win0_3.index t (1 : Fin 2) * 2816 + 1 * j.val = j.val; rw [(index3 t).2]; omega

theorem index4 : ∀ t : Fin cfg0.N, win0_4.index t (0 : Fin 2) = t.val ∧ win0_4.index t (1 : Fin 2) = 0 :=
  (by decide +kernel : ∀ t : Fin grid0.N, win0_4.index t (0 : Fin 2) = t.val ∧ win0_4.index t (1 : Fin 2) = 0)

/-- Where window 4's block lies in its array. -/
theorem emb4 (r : Fin 416) (j : Fin 2816) : ((cfg0.win 4).blk t).view.emb (ix2 r j) = ix2 (row t r) j := by
  funext a
  apply Fin.ext
  match a with
  | ⟨0, _⟩ => show win0_4.index t (0 : Fin 2) * 416 + 1 * r.val = t.val * 416 + r.val; rw [(index4 t).1, Nat.one_mul]
  | ⟨1, _⟩ => show win0_4.index t (1 : Fin 2) * 2816 + 1 * j.val = j.val; rw [(index4 t).2]; omega

theorem index7 : ∀ t : Fin cfg0.N, win0_7.index t (0 : Fin 2) = t.val ∧ win0_7.index t (1 : Fin 2) = 0 :=
  (by decide +kernel : ∀ t : Fin grid0.N, win0_7.index t (0 : Fin 2) = t.val ∧ win0_7.index t (1 : Fin 2) = 0)

/-- Where window 7's block lies in its array. -/
theorem emb7 (r : Fin 416) (j : Fin 1024) : ((cfg0.win 7).blk t).view.emb (ix2 r j) = ix2 (row t r) j := by
  funext a
  apply Fin.ext
  match a with
  | ⟨0, _⟩ => show win0_7.index t (0 : Fin 2) * 416 + 1 * r.val = t.val * 416 + r.val; rw [(index7 t).1, Nat.one_mul]
  | ⟨1, _⟩ => show win0_7.index t (1 : Fin 2) * 1024 + 1 * j.val = j.val; rw [(index7 t).2]; omega

theorem index8 : ∀ t : Fin cfg0.N, win0_8.index t (0 : Fin 2) = t.val ∧ win0_8.index t (1 : Fin 2) = 0 :=
  (by decide +kernel : ∀ t : Fin grid0.N, win0_8.index t (0 : Fin 2) = t.val ∧ win0_8.index t (1 : Fin 2) = 0)

/-- Where window 8's block lies in its array. -/
theorem emb8 (r : Fin 416) (j : Fin 2816) : ((cfg0.win 8).blk t).view.emb (ix2 r j) = ix2 (row t r) j := by
  funext a
  apply Fin.ext
  match a with
  | ⟨0, _⟩ => show win0_8.index t (0 : Fin 2) * 416 + 1 * r.val = t.val * 416 + r.val; rw [(index8 t).1, Nat.one_mul]
  | ⟨1, _⟩ => show win0_8.index t (1 : Fin 2) * 2816 + 1 * j.val = j.val; rw [(index8 t).2]; omega

theorem index9 : ∀ t : Fin cfg0.N, win0_9.index t (0 : Fin 2) = t.val ∧ win0_9.index t (1 : Fin 2) = 0 :=
  (by decide +kernel : ∀ t : Fin grid0.N, win0_9.index t (0 : Fin 2) = t.val ∧ win0_9.index t (1 : Fin 2) = 0)

/-- Where window 9's block lies in its array. -/
theorem emb9 (r : Fin 416) (j : Fin 2816) : ((cfg0.win 9).blk t).view.emb (ix2 r j) = ix2 (row t r) j := by
  funext a
  apply Fin.ext
  match a with
  | ⟨0, _⟩ => show win0_9.index t (0 : Fin 2) * 416 + 1 * r.val = t.val * 416 + r.val; rw [(index9 t).1, Nat.one_mul]
  | ⟨1, _⟩ => show win0_9.index t (1 : Fin 2) * 2816 + 1 * j.val = j.val; rw [(index9 t).2]; omega

theorem index10 : ∀ t : Fin cfg0.N, win0_10.index t (0 : Fin 2) = t.val ∧ win0_10.index t (1 : Fin 2) = 0 :=
  (by decide +kernel : ∀ t : Fin grid0.N, win0_10.index t (0 : Fin 2) = t.val ∧ win0_10.index t (1 : Fin 2) = 0)

/-- Where window 10's block lies in its array. -/
theorem emb10 (r : Fin 416) (j : Fin 1024) : ((cfg0.win 10).blk t).view.emb (ix2 r j) = ix2 (row t r) j := by
  funext a
  apply Fin.ext
  match a with
  | ⟨0, _⟩ => show win0_10.index t (0 : Fin 2) * 416 + 1 * r.val = t.val * 416 + r.val; rw [(index10 t).1, Nat.one_mul]
  | ⟨1, _⟩ => show win0_10.index t (1 : Fin 2) * 1024 + 1 * j.val = j.val; rw [(index10 t).2]; omega

theorem index2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

/-- Window 2's block is its whole array. -/
theorem emb2 (j : S1x1024.Idx) : ((cfg0.win 2).blk t).view.emb j = j := by
  funext a
  apply Fin.ext
  match a with
  | ⟨0, _⟩ => show win0_2.index t (0 : Fin 2) * 1 + 1 * (j 0).val = (j 0).val; rw [(index2 t).1]; omega
  | ⟨1, _⟩ => show win0_2.index t (1 : Fin 2) * 1024 + 1 * (j 1).val = (j 1).val; rw [(index2 t).2]; omega

theorem index11 : ∀ t : Fin cfg0.N, win0_11.index t (0 : Fin 2) = 0 ∧ win0_11.index t (1 : Fin 2) = 0 :=
  (by decide +kernel : ∀ t : Fin grid0.N, win0_11.index t (0 : Fin 2) = 0 ∧ win0_11.index t (1 : Fin 2) = 0)

/-- Window 11's block is its whole array. -/
theorem emb11 (j : S1x1024.Idx) : ((cfg0.win 11).blk t).view.emb j = j := by
  funext a
  apply Fin.ext
  match a with
  | ⟨0, _⟩ => show win0_11.index t (0 : Fin 2) * 1 + 1 * (j 0).val = (j 0).val; rw [(index11 t).1]; omega
  | ⟨1, _⟩ => show win0_11.index t (1 : Fin 2) * 1024 + 1 * (j 1).val = (j 1).val; rw [(index11 t).2]; omega

theorem index5 : ∀ t : Fin cfg0.N, win0_5.index t (0 : Fin 3) = 0 ∧ win0_5.index t (1 : Fin 3) = 0 ∧ win0_5.index t (2 : Fin 3) = 0 :=
  (by decide +kernel : ∀ t : Fin grid0.N, win0_5.index t (0 : Fin 3) = 0 ∧ win0_5.index t (1 : Fin 3) = 0 ∧ win0_5.index t (2 : Fin 3) = 0)

/-- Window 5's block is its whole array. -/
theorem emb5 (j : S4x1024x1408.Idx) : ((cfg0.win 5).blk t).view.emb j = j := by
  funext a
  apply Fin.ext
  match a with
  | ⟨0, _⟩ => show win0_5.index t (0 : Fin 3) * 4 + 1 * (j 0).val = (j 0).val; rw [(index5 t).1]; omega
  | ⟨1, _⟩ => show win0_5.index t (1 : Fin 3) * 1024 + 1 * (j 1).val = (j 1).val; rw [(index5 t).2.1]; omega
  | ⟨2, _⟩ => show win0_5.index t (2 : Fin 3) * 1408 + 1 * (j 2).val = (j 2).val; rw [(index5 t).2.2]; omega

theorem index6 : ∀ t : Fin cfg0.N, win0_6.index t (0 : Fin 3) = 0 ∧ win0_6.index t (1 : Fin 3) = 0 ∧ win0_6.index t (2 : Fin 3) = 0 :=
  (by decide +kernel : ∀ t : Fin grid0.N, win0_6.index t (0 : Fin 3) = 0 ∧ win0_6.index t (1 : Fin 3) = 0 ∧ win0_6.index t (2 : Fin 3) = 0)

/-- Window 6's block is its whole array. -/
theorem emb6 (j : S2x1408x1024.Idx) : ((cfg0.win 6).blk t).view.emb j = j := by
  funext a
  apply Fin.ext
  match a with
  | ⟨0, _⟩ => show win0_6.index t (0 : Fin 3) * 2 + 1 * (j 0).val = (j 0).val; rw [(index6 t).1]; omega
  | ⟨1, _⟩ => show win0_6.index t (1 : Fin 3) * 1408 + 1 * (j 1).val = (j 1).val; rw [(index6 t).2.1]; omega
  | ⟨2, _⟩ => show win0_6.index t (2 : Fin 3) * 1024 + 1 * (j 2).val = (j 2).val; rw [(index6 t).2.2]; omega

end Places

variable (m : ∀ l, Buf (Elt Ideal) l) (c : Dev nD) (t : Fin cfg0.N)

/-- The arguments. -/
abbrev A0 : FVec Ideal S4160x1024 .f32 := m ((c : Thread nD τ).loc main_arg0)
abbrev A1 : FVec Ideal S4160x1024 .f32 := m ((c : Thread nD τ).loc main_arg1)
abbrev A2 : FVec Ideal S1x1024 .f32 := m ((c : Thread nD τ).loc main_arg2)
abbrev A3 : FVec Ideal S1024x5632 .bf16 := m ((c : Thread nD τ).loc main_arg3)
abbrev A4 : FVec Ideal S2816x1024 .bf16 := m ((c : Thread nD τ).loc main_arg4)

/-- The gates the call reads are the forward pass's. -/
theorem V18 : V m c main_v18 = fun i => Cert.FfnReferenceIdeal.Read.val_main_v18 (F := Ideal) (A1 m c) (A2 m c) (A3 m c) i := by
  show StableHlo.after hostOps0 (fun b => m (c, b)) main_v18 = _
  simp only [hostOps0]
  after_results_simp <;> rfl

/-- and so is the other half of the wide product. -/
theorem V19 : V m c main_v19 = fun i => Cert.FfnReferenceIdeal.Read.val_main_v19 (F := Ideal) (A1 m c) (A2 m c) (A3 m c) i := by
  show StableHlo.after hostOps0 (fun b => m (c, b)) main_v19 = _
  simp only [hostOps0]
  after_results_simp <;> rfl

/-- The first weight in its groups of columns. -/
theorem V17 : V m c main_v17 = transpose S4x1024x1408 [1, 0, 2]
    (shapeCast S1024x4x1408 (A3 m c) shapeCasts_S1024x5632_S1024x4x1408) transposes_S1024x4x1408_S4x1024x1408_1_0_2 := by
  show StableHlo.after hostOps0 (fun b => m (c, b)) main_v17 = _
  simp only [hostOps0]
  after_results_simp <;> rfl

/-- The second weight in its groups of rows. -/
theorem V20 : V m c main_v20 = shapeCast S2x1408x1024 (A4 m c) shapeCasts_S2816x1024_S2x1408x1024 := by
  show StableHlo.after hostOps0 (fun b => m (c, b)) main_v20 = _
  simp only [hostOps0]
  after_results_simp <;> rfl

/-- Input blocks at an index. -/
theorem in0 (r : Fin 416) (j : Fin 1024) : iblk m c 0 t (ix2 r j) = A0 m c (ix2 (row t r) j) := by
  show V m c main_arg0 (((cfg0.win 0).blk t).view.emb (ix2 r j)) = _
  rw [emb0, V_main_arg0]

theorem in1 (r : Fin 416) (j : Fin 1024) : iblk m c 1 t (ix2 r j) = A1 m c (ix2 (row t r) j) := by
  show V m c main_arg1 (((cfg0.win 1).blk t).view.emb (ix2 r j)) = _
  rw [emb1, V_main_arg1]

theorem in2 (j : Fin 1024) : iblk m c 2 t (ix2 0 j) = A2 m c (ix2 0 j) := by
  show V m c main_arg2 (((cfg0.win 2).blk t).view.emb (ix2 0 j)) = _
  rw [emb2, V_main_arg2]

/-- The gates. -/
theorem in3 (r : Fin 416) (j : Fin 2816) : iblk m c 3 t (ix2 r j) = wide (A1 m c) (A2 m c) (A3 m c) (row t r) (left j) := by
  show V m c main_v18 (((cfg0.win 3).blk t).view.emb (ix2 r j)) = _
  rw [emb3, V18]
  exact ref18 _ _ _ _ _

/-- The other half. -/
theorem in4 (r : Fin 416) (j : Fin 2816) : iblk m c 4 t (ix2 r j) = wide (A1 m c) (A2 m c) (A3 m c) (row t r) (right j) := by
  show V m c main_v19 (((cfg0.win 4).blk t).view.emb (ix2 r j)) = _
  rw [emb4, V19]
  exact ref19 _ _ _ _ _

/-- Group `s` of the first weight's columns. -/
theorem in5 (s : Fin 4) (k : Fin 1024) (j : Fin 1408) :
    iblk m c 5 t (ix3 s k j) = A3 m c (ix2 k (⟨s.val * 1408 + j.val, by have := s.isLt; have := j.isLt; omega⟩ : Fin 5632)) := by
  show V m c main_v17 (((cfg0.win 5).blk t).view.emb (ix3 s k j)) = _
  rw [emb5, V17]
  pointwise

/-- Group `s` of the second weight's rows. -/
theorem in6 (s : Fin 2) (j : Fin 1408) (k : Fin 1024) :
    iblk m c 6 t (ix3 s j k) = A4 m c (ix2 (⟨s.val * 1408 + j.val, by have := s.isLt; have := j.isLt; omega⟩ : Fin 2816) k) := by
  show V m c main_v20 (((cfg0.win 6).blk t).view.emb (ix3 s j k)) = _
  rw [emb6, V20]
  pointwise

end Cert.Proof.First.Blocks
-- ==== Proof.First.Values.lean ====
module

public import proofs.«01_k».proof.Proof.Ffn.Values
public import proofs.«01_k».proof.Proof.First.Pieces
public import proofs.«01_k».proof.Proof.First.Blocks

@[expose] public section

/-! Each result of the first feed-forward layer's backward call, at an index, is the reference's. -/

set_option maxRecDepth 16384

noncomputable section

namespace Cert.Proof.First.Values

open Cert.FirstKernelIdeal Cert.FirstKernelIdeal.Value Idealize.ShloMosaic Idealize.ShloMosaic.TcCoe Idealize.SL.Sem
open Cert.FirstKernelIdeal.Gen hiding k0_pay3 k0_pay4 k0_pay5 k0_pay6 k0_pay79
open Cert.FfnKernelIdeal.Gen (k0_pay3 k0_pay4 k0_pay5 k0_pay6 k0_pay79)
open Cert.Proof.Ffn.Values (sum_halves)
open Cert.Proof.First
open Cert.Proof.Ffn hiding acc_first acc_next flush7 flush8 flush9 flush10
open Cert.Proof.First.Blocks Cert.Proof.Ffn.Reference Cert.FfnReferenceIdeal.Read

variable (m : ∀ l, Buf (Elt Ideal) l) (c : Dev nD)
  (f0 : ∀ i, IsReal (A0 m c i)) (f1 : ∀ i, IsReal (A1 m c i)) (f2 : ∀ i, IsReal (A2 m c i)) (f3 : ∀ i, IsReal (A3 m c i))
  (f4 : ∀ i, IsReal (A4 m c i)) (t : Fin cfg0.N) (r : Fin 416)

/-- The hidden numbers' gradient, in a tile. -/
theorem da_tile (j : Fin 2816) : daAt (iblk m c 0 t) (iblk m c 6 t) r j
    = da (fun k => A0 m c (ix2 (row t r) k)) (fun k => A4 m c (ix2 j k)) := by
  have e : (⟨(grp j).val * 1408 + (pos j).val, by have := (grp j).isLt; have := (pos j).isLt; omega⟩ : Fin 2816) = j :=
    Fin.ext (show j.val / 1408 * 1408 + j.val % 1408 = j.val by omega)
  simp only [daAt, in0, in6, e]

include f0 f1 f2 f3 f4 in
/-- The gates' gradient, in a tile. -/
theorem gate_tile (j : Fin 2816) : gateAt (iblk m c 0 t) (iblk m c 3 t) (iblk m c 4 t) (iblk m c 6 t) r j
    = gateGrad (A0 m c) (A1 m c) (A2 m c) (A3 m c) (A4 m c) (row t r) j := by
  rw [gateAt, da_tile, in3, in4]
  exact gateGrad_eq f0 f1 f2 f3 f4 _ _

/-- The other half's gradient, in a tile. -/
theorem up_tile (j : Fin 2816) : upAt (iblk m c 0 t) (iblk m c 3 t) (iblk m c 6 t) r j
    = upGrad (A0 m c) (A1 m c) (A2 m c) (A3 m c) (A4 m c) (row t r) j := by
  rw [upAt, da_tile, in3, dup_eq]
  rfl

include f0 f1 f2 f3 f4 in
/-- The normalised rows' gradient, in a tile. -/
theorem dn_tile (k : Fin 1024) : dn (iblk m c 0 t) (iblk m c 3 t) (iblk m c 4 t) (iblk m c 6 t) (iblk m c 5 t) (ix2 r k)
    = normGrad (A0 m c) (A1 m c) (A2 m c) (A3 m c) (A4 m c) (row t r) k := by
  rw [dn_block, normGrad, sum_halves, sum_halves, add_add_add_comm]
  simp only [gate_tile m c f0 f1 f2 f3 f4, up_tile, in5]
  refine congrArg₂ (· + ·) (congrArg₂ (· + ·) ?_ ?_) (congrArg₂ (· + ·) ?_ ?_) <;>
    refine Finset.sum_congr rfl fun j _ => congrArg₂ (· * ·) rfl (congrArg (fun q => A3 m c (ix2 k q)) (Fin.ext ?_))
  · show 0 * 1408 + j.val = 0 + j.val; omega
  · show 1 * 1408 + j.val = 1408 + j.val; omega
  · show 2 * 1408 + j.val = 2816 + (0 + j.val); omega
  · show 3 * 1408 + j.val = 2816 + (1408 + j.val); omega

include f0 f1 f2 f3 f4 in
/-- The input's gradient. -/
theorem out7 (k : Fin 1024) : (dats m 0 c).arrAt 7 cfg0.N (ix2 (row t r) k)
    = val_main_v52 (F := Ideal) (A0 m c) (A1 m c) (A2 m c) (A3 m c) (A4 m c) (ix2 (row t r) k) := by
  have e : k0_pay4 (F := Ideal) (iblk m c 0 t) (dn (iblk m c 0 t) (iblk m c 3 t) (iblk m c 4 t) (iblk m c 6 t) (iblk m c 5 t)) (iblk m c 1 t) (iblk m c 2 t) (k0_pay79 (iblk m c 1 t)) (ix2 r k)
      = val_main_v52 (F := Ideal) (A0 m c) (A1 m c) (A2 m c) (A3 m c) (A4 m c) (ix2 (row t r) k) := by
    rw [pay4, ref52]
    simp only [dn_tile m c f0 f1 f2 f3 f4, in0, in1, in2]
    rw [RmsGrad.byKernel_eq _ _ _ (fun _ => f1 _) (fun _ => f2 _) (fun _ => normGrad_real f0 f1 f2 f3 f4 _ _)]
  have h := congrFun ((blocks7 m c t (flush0_7 t)).trans (flush7 m c t)) (ix2 r k)
  change (dats m 0 c).arrAt 7 cfg0.N (((cfg0.win 7).blk t).view.emb (ix2 r k)) = k0_pay4 (F := Ideal) _ _ _ _ _ (ix2 r k) at h
  rw [emb7] at h
  exact h.trans e

include f0 f1 f2 f3 f4 in
/-- The gates' gradient. -/
theorem out8 (j : Fin 2816) : (dats m 0 c).arrAt 8 cfg0.N (ix2 (row t r) j)
    = val_main_v53 (F := Ideal) (A0 m c) (A1 m c) (A2 m c) (A3 m c) (A4 m c) (ix2 (row t r) j) := by
  have h := congrFun ((blocks8 m c t (flush0_8 t)).trans (flush8 m c t)) (ix2 r j)
  change (dats m 0 c).arrAt 8 cfg0.N (((cfg0.win 8).blk t).view.emb (ix2 r j)) = View.canon (Val := Elt Ideal) _ (ix2 r j) at h
  rw [emb8, gate_block] at h
  exact h.trans ((gate_tile m c f0 f1 f2 f3 f4 t r j).trans (ref53 ..).symm)

/-- The other half's gradient. -/
theorem out9 (j : Fin 2816) : (dats m 0 c).arrAt 9 cfg0.N (ix2 (row t r) j)
    = val_main_v54 (F := Ideal) (A0 m c) (A1 m c) (A2 m c) (A3 m c) (A4 m c) (ix2 (row t r) j) := by
  have h := congrFun ((blocks9 m c t (flush0_9 t)).trans (flush9 m c t)) (ix2 r j)
  change (dats m 0 c).arrAt 9 cfg0.N (((cfg0.win 9).blk t).view.emb (ix2 r j)) = View.canon (Val := Elt Ideal) _ (ix2 r j) at h
  rw [emb9, up_block] at h
  exact h.trans ((up_tile m c t r j).trans (ref54 ..).symm)

/-- The halved incoming gradient. -/
theorem out10 (k : Fin 1024) : (dats m 0 c).arrAt 10 cfg0.N (ix2 (row t r) k)
    = val_main_v57 (F := Ideal) (A0 m c) (ix2 (row t r) k) := by
  have h := congrFun ((blocks10 m c t (flush0_10 t)).trans (flush10 m c t)) (ix2 r k)
  change (dats m 0 c).arrAt 10 cfg0.N (((cfg0.win 10).blk t).view.emb (ix2 r k)) = k0_pay6 (F := Ideal) _ (ix2 r k) at h
  rw [emb10, pay6, in0] at h
  exact h.trans (ref57 ..).symm

/-! The scale's gradient, accumulated over the ten tiles. -/

/-- What one row adds. -/
def term (k : Fin 1024) (R : Fin 4160) : EReal :=
  A1 m c (ix2 R k) * RmsGrad.rstd (fun k => A1 m c (ix2 R k)) * normGrad (A0 m c) (A1 m c) (A2 m c) (A3 m c) (A4 m c) R k

/-- What tile `n` adds. -/
def part (k : Fin 1024) (n : Nat) : EReal :=
  if h : n < 10 then ∑ r : Fin 416, term m c k (row (⟨n, h⟩ : Fin 10) r) else 0

include f0 f1 f2 f3 f4 in
theorem scale_step (k : Fin 1024) (v : Vec Ideal S1x1024 .f32) :
    k0_pay3 (F := Ideal) (dn (iblk m c 0 t) (iblk m c 3 t) (iblk m c 4 t) (iblk m c 6 t) (iblk m c 5 t)) (iblk m c 1 t) (k0_pay79 (iblk m c 1 t)) v (ix2 0 k)
      = v (ix2 0 k) + part m c k t.val := by
  rw [pay3, part, dif_pos (lt_ten t)]
  simp only [dn_tile m c f0 f1 f2 f3 f4, in1]
  exact congrArg _ (Finset.sum_congr rfl fun r _ => mul_comm _ _)

include f0 f1 f2 f3 f4 in
/-- After tile `n` the block holds the sum of the tiles so far. -/
theorem scale_acc (k : Fin 1024) (n : Nat) : ∀ hn : n < cfg0.N, (outsAt0 m c n hn).2.2.2.2 (ix2 0 k) = ∑ i ∈ Finset.range (n + 1), part m c k i := by
  induction n with
  | zero =>
    intro hn
    rw [acc_first m c ⟨0, hn⟩ (Nat.zero_mod _), scale_step m c f0 f1 f2 f3 f4, pay5, zero_add]
    simp
  | succ n ih =>
    intro hn
    have h0 : ¬ (n + 1) % 10 = 0 := by have := lt_ten ⟨n + 1, hn⟩; simp only at this; omega
    rw [acc_next m c ⟨n + 1, hn⟩ h0 (Nat.lt_of_succ_lt hn), scale_step m c f0 f1 f2 f3 f4, Finset.sum_range_succ]
    exact congrArg (· + _) (ih _)

/-- A sum over all rows is the sum over the tiles of the sums over a tile's rows. -/
theorem sum_rows (f : Fin 4160 → EReal) : ∑ R : Fin 4160, f R = ∑ n : Fin 10, ∑ r : Fin 416, f (row n r) := by
  rw [← Fintype.sum_prod_type' (f := fun (n : Fin 10) (r : Fin 416) => f (row n r))]
  refine (Fintype.sum_equiv (finProdFinEquiv (m := 10) (n := 416)) _ _ fun x => ?_).symm
  exact congrArg f (Fin.ext (show x.1.val * 416 + x.2.val = x.2.val + 416 * x.1.val by omega))

include f0 f1 f2 f3 f4 in
/-- The scale's gradient. -/
theorem out11 (k : Fin 1024) : (dats m 0 c).arrAt 11 cfg0.N (ix2 0 k)
    = val_main_v35 (F := Ideal) (A0 m c) (A1 m c) (A2 m c) (A3 m c) (A4 m c) (ix2 0 k) := by
  have hd : ∀ t t' : Fin cfg0.N, (cfg0.win 11).flush t = true → (cfg0.win 11).flush t' = true → t ≠ t' →
      Disjoint ((cfg0.win 11).blk t).view.set ((cfg0.win 11).blk t').view.set := fun t t' h h' hne => by
    have a := (flush0_11 t).mp h
    have b := (flush0_11 t').mp h'
    have := lt_ten t
    have := lt_ten t'
    exact absurd (Fin.ext (by omega)) hne
  have hl : (9 : Nat) < cfg0.N := by decide
  have h := congrFun (((dats m 0 c).read_blk_arrAt_eq_flushed 11 hd cfg0.N ⟨9, hl⟩ hl ((flush0_11 _).mpr rfl)).trans (flushed11 m c ⟨9, hl⟩)) (ix2 0 k)
  change (dats m 0 c).arrAt 11 cfg0.N (((cfg0.win 11).blk ⟨9, hl⟩).view.emb (ix2 0 k)) = (outsAt0 m c 9 hl).2.2.2.2 (ix2 0 k) at h
  rw [emb11, scale_acc m c f0 f1 f2 f3 f4] at h
  have e : ∑ i ∈ Finset.range (9 + 1), part m c k i = val_main_v35 (F := Ideal) (A0 m c) (A1 m c) (A2 m c) (A3 m c) (A4 m c) (ix2 0 k) := by
    rw [ref35, sum_rows, Finset.sum_range]
    exact Finset.sum_congr rfl fun n _ => by rw [part, dif_pos n.isLt]; rfl
  exact h.trans e

end Cert.Proof.First.Values
-- ==== Proof.First.Algebraic.lean ====
module

public import proofs.«01_k».proof.Defs
public import proofs.«01_k».proof.Proof.First.Values
public import proofs.«01_k».proof.Proof.Ffn.Algebraic
public import proofs.«01_k».proof.Proof.Gen.FfnReferenceIdeal.Run
public import proofs.«01_k».proof.Proof.Gen.FfnReferenceIdeal

@[expose] public section

/-! The value claim of the first feed-forward layer's backward call: on finite arguments the kernel's arrays are the
reference's. -/

set_option maxRecDepth 16384

noncomputable section

namespace Cert.Proof.First.Algebraic

open Idealize.ShloMosaic Idealize.ShloMosaic.TcCoe Idealize.SL.Sem Cert.Proof.First.Values Cert.Proof.First.Blocks
  Cert.FfnReferenceIdeal.Read

/-- Two arrays of 4160 rows that agree in every tile are one. -/
theorem ext_rows {n : Nat} {e : EltTy} (f g : Vec Ideal (⟨2, ![4160, n]⟩ : Shape) e)
    (h : ∀ (t : Fin Cert.FirstKernelIdeal.cfg0.N) (r : Fin 416) (j : Fin n), f (ix2 (row t r) j) = g (ix2 (row t r) j)) : f = g := by
  funext i
  obtain ⟨R, C, rfl⟩ : ∃ R C, i = ix2 R C := ⟨_, _, eq_ix2 i⟩
  obtain ⟨t, r, rfl⟩ := exists_row R
  exact h t r C

/-- The kernel's results are the reference's. -/
theorem algebraic : Cert.algebraic_FirstKernelIdeal_FfnReferenceIdeal_pre_finite := by
  intro m g m' g' hp hm
  have hf := fun c => Cert.Proof.Ffn.args_real (A0 m c) (A1 m c) (A2 m c) (A3 m c) (A4 m c) (hp c)
  refine ⟨fun c => val_main_v52 (F := Ideal) (A0 m c) (A1 m c) (A2 m c) (A3 m c) (A4 m c),
    fun c => val_main_v53 (F := Ideal) (A0 m c) (A1 m c) (A2 m c) (A3 m c) (A4 m c),
    fun c => val_main_v54 (F := Ideal) (A0 m c) (A1 m c) (A2 m c) (A3 m c) (A4 m c),
    fun c => val_main_v57 (F := Ideal) (A0 m c),
    fun c => val_main_v35 (F := Ideal) (A0 m c) (A1 m c) (A2 m c) (A3 m c) (A4 m c), ?_, ?_⟩
  · refine (θ_run Cert.FirstKernelIdeal.defs _ _).mono (fun r h c => ?_) (Cert.FirstKernelIdeal.Value.run_blocks (F := Ideal) m g)
    obtain ⟨h0, h1, h2, h3, h4, ha⟩ := h c
    obtain ⟨f0, f1, f2, f3, f4⟩ := hf c
    exact ⟨h0.trans (ext_rows (e := .f32) _ _ fun t r k => out7 m c f0 f1 f2 f3 f4 t r k),
      h1.trans (ext_rows (e := .bf16) _ _ fun t r k => out8 m c f0 f1 f2 f3 f4 t r k),
      h2.trans (ext_rows (e := .bf16) _ _ fun t r k => out9 m c t r k),
      h3.trans (ext_rows (e := .bf16) _ _ fun t r k => out10 m c t r k),
      h4.trans (Cert.Proof.Ffn.Algebraic.ext_one (e := .f32) _ _ fun k => out11 m c f0 f1 f2 f3 f4 k), ha⟩
  · refine (θ_run Cert.FfnReferenceIdeal.defs _ _).mono (fun r h c => ?_) (Cert.FfnReferenceIdeal.Value.run (F := Ideal) m' g')
    obtain ⟨a0, a1, a2, a3, a4⟩ := hm c
    obtain ⟨h0, h1, h2, h3, h4, ha⟩ := h c
    replace h0 := h0.trans (show _ = val_main_v52 (F := Ideal) (m' ((c : Thread Cert.FfnReferenceIdeal.nD Cert.FfnReferenceIdeal.τ).loc Cert.FfnReferenceIdeal.main_arg0)) (m' ((c : Thread Cert.FfnReferenceIdeal.nD Cert.FfnReferenceIdeal.τ).loc Cert.FfnReferenceIdeal.main_arg1)) (m' ((c : Thread Cert.FfnReferenceIdeal.nD Cert.FfnReferenceIdeal.τ).loc Cert.FfnReferenceIdeal.main_arg2)) (m' ((c : Thread Cert.FfnReferenceIdeal.nD Cert.FfnReferenceIdeal.τ).loc Cert.FfnReferenceIdeal.main_arg3)) (m' ((c : Thread Cert.FfnReferenceIdeal.nD Cert.FfnReferenceIdeal.τ).loc Cert.FfnReferenceIdeal.main_arg4)) from rfl)
    replace h1 := h1.trans (show _ = val_main_v53 (F := Ideal) (m' ((c : Thread Cert.FfnReferenceIdeal.nD Cert.FfnReferenceIdeal.τ).loc Cert.FfnReferenceIdeal.main_arg0)) (m' ((c : Thread Cert.FfnReferenceIdeal.nD Cert.FfnReferenceIdeal.τ).loc Cert.FfnReferenceIdeal.main_arg1)) (m' ((c : Thread Cert.FfnReferenceIdeal.nD Cert.FfnReferenceIdeal.τ).loc Cert.FfnReferenceIdeal.main_arg2)) (m' ((c : Thread Cert.FfnReferenceIdeal.nD Cert.FfnReferenceIdeal.τ).loc Cert.FfnReferenceIdeal.main_arg3)) (m' ((c : Thread Cert.FfnReferenceIdeal.nD Cert.FfnReferenceIdeal.τ).loc Cert.FfnReferenceIdeal.main_arg4)) from rfl)
    replace h2 := h2.trans (show _ = val_main_v54 (F := Ideal) (m' ((c : Thread Cert.FfnReferenceIdeal.nD Cert.FfnReferenceIdeal.τ).loc Cert.FfnReferenceIdeal.main_arg0)) (m' ((c : Thread Cert.FfnReferenceIdeal.nD Cert.FfnReferenceIdeal.τ).loc Cert.FfnReferenceIdeal.main_arg1)) (m' ((c : Thread Cert.FfnReferenceIdeal.nD Cert.FfnReferenceIdeal.τ).loc Cert.FfnReferenceIdeal.main_arg2)) (m' ((c : Thread Cert.FfnReferenceIdeal.nD Cert.FfnReferenceIdeal.τ).loc Cert.FfnReferenceIdeal.main_arg3)) (m' ((c : Thread Cert.FfnReferenceIdeal.nD Cert.FfnReferenceIdeal.τ).loc Cert.FfnReferenceIdeal.main_arg4)) from rfl)
    replace h3 := h3.trans (show _ = val_main_v57 (F := Ideal) (m' ((c : Thread Cert.FfnReferenceIdeal.nD Cert.FfnReferenceIdeal.τ).loc Cert.FfnReferenceIdeal.main_arg0)) from rfl)
    replace h4 := h4.trans (show _ = val_main_v35 (F := Ideal) (m' ((c : Thread Cert.FfnReferenceIdeal.nD Cert.FfnReferenceIdeal.τ).loc Cert.FfnReferenceIdeal.main_arg0)) (m' ((c : Thread Cert.FfnReferenceIdeal.nD Cert.FfnReferenceIdeal.τ).loc Cert.FfnReferenceIdeal.main_arg1)) (m' ((c : Thread Cert.FfnReferenceIdeal.nD Cert.FfnReferenceIdeal.τ).loc Cert.FfnReferenceIdeal.main_arg2)) (m' ((c : Thread Cert.FfnReferenceIdeal.nD Cert.FfnReferenceIdeal.τ).loc Cert.FfnReferenceIdeal.main_arg3)) (m' ((c : Thread Cert.FfnReferenceIdeal.nD Cert.FfnReferenceIdeal.τ).loc Cert.FfnReferenceIdeal.main_arg4)) from rfl)
    rw [a0, a1, a2, a3, a4] at h0 h1 h2 h4
    rw [a0] at h3
    exact ⟨h0, h1, h2, h3, h4, ha⟩

end Cert.Proof.First.Algebraic
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.FfnKernel
public import proofs.«01_k».proof.Proof.Gen.FfnKernel.Skeleton
public import proofs.«01_k».proof.Proof.Gen.FfnKernel.Launch
public import proofs.«01_k».proof.Proof.Gen.FfnKernel.Points
public import proofs.«01_k».proof.Proof.Gen.FfnKernel.Frame
public import proofs.«01_k».proof.Proof.Gen.FfnKernelIdeal
public import proofs.«01_k».proof.Proof.Gen.FfnKernelIdeal.Skeleton
public import proofs.«01_k».proof.Proof.Gen.FfnKernelIdeal.Launch
public import proofs.«01_k».proof.Proof.Gen.FfnKernelIdeal.Points
public import proofs.«01_k».proof.Proof.Gen.FfnKernelIdeal.Frame
public import proofs.«01_k».proof.Proof.Gen.FfnKernelIdeal.Value
public import proofs.«01_k».proof.Proof.Gen.FfnReferenceIdeal
public import proofs.«01_k».proof.Proof.Gen.FfnReferenceIdeal.Run
public import proofs.«01_k».proof.Proof.Gen.FfnReferenceIdeal.Read
public import proofs.«01_k».proof.Proof.Gen.InKernel
public import proofs.«01_k».proof.Proof.Gen.InKernel.Skeleton
public import proofs.«01_k».proof.Proof.Gen.InKernel.Launch
public import proofs.«01_k».proof.Proof.Gen.InKernel.Points
public import proofs.«01_k».proof.Proof.Gen.InKernel.Frame
public import proofs.«01_k».proof.Proof.Gen.InKernelIdeal
public import proofs.«01_k».proof.Proof.Gen.InKernelIdeal.Skeleton
public import proofs.«01_k».proof.Proof.Gen.InKernelIdeal.Launch
public import proofs.«01_k».proof.Proof.Gen.InKernelIdeal.Points
public import proofs.«01_k».proof.Proof.Gen.InKernelIdeal.Frame
public import proofs.«01_k».proof.Proof.Gen.InKernelIdeal.Value
public import proofs.«01_k».proof.Proof.Gen.InReferenceIdeal
public import proofs.«01_k».proof.Proof.Gen.InReferenceIdeal.Run
public import proofs.«01_k».proof.Proof.Gen.InReferenceIdeal.Read
public import proofs.«01_k».proof.Proof.Gen.GateKernel
public import proofs.«01_k».proof.Proof.Gen.GateKernel.Skeleton
public import proofs.«01_k».proof.Proof.Gen.GateKernel.Launch
public import proofs.«01_k».proof.Proof.Gen.GateKernel.Points
public import proofs.«01_k».proof.Proof.Gen.GateKernel.Frame
public import proofs.«01_k».proof.Proof.Gen.GateKernelIdeal
public import proofs.«01_k».proof.Proof.Gen.GateKernelIdeal.Skeleton
public import proofs.«01_k».proof.Proof.Gen.GateKernelIdeal.Launch
public import proofs.«01_k».proof.Proof.Gen.GateKernelIdeal.Points
public import proofs.«01_k».proof.Proof.Gen.GateKernelIdeal.Frame
public import proofs.«01_k».proof.Proof.Gen.GateKernelIdeal.Value
public import proofs.«01_k».proof.Proof.Gen.GateReferenceIdeal
public import proofs.«01_k».proof.Proof.Gen.GateReferenceIdeal.Run
public import proofs.«01_k».proof.Proof.Gen.GateReferenceIdeal.Read
public import proofs.«01_k».proof.Proof.Gen.UpKernel
public import proofs.«01_k».proof.Proof.Gen.UpKernel.Skeleton
public import proofs.«01_k».proof.Proof.Gen.UpKernel.Launch
public import proofs.«01_k».proof.Proof.Gen.UpKernel.Points
public import proofs.«01_k».proof.Proof.Gen.UpKernel.Frame
public import proofs.«01_k».proof.Proof.Gen.UpKernelIdeal
public import proofs.«01_k».proof.Proof.Gen.UpKernelIdeal.Skeleton
public import proofs.«01_k».proof.Proof.Gen.UpKernelIdeal.Launch
public import proofs.«01_k».proof.Proof.Gen.UpKernelIdeal.Points
public import proofs.«01_k».proof.Proof.Gen.UpKernelIdeal.Frame
public import proofs.«01_k».proof.Proof.Gen.UpKernelIdeal.Value
public import proofs.«01_k».proof.Proof.Gen.UpReferenceIdeal
public import proofs.«01_k».proof.Proof.Gen.UpReferenceIdeal.Run
public import proofs.«01_k».proof.Proof.Gen.UpReferenceIdeal.Read
public import proofs.«01_k».proof.Proof.Gen.DownKernel
public import proofs.«01_k».proof.Proof.Gen.DownKernel.Skeleton
public import proofs.«01_k».proof.Proof.Gen.DownKernel.Launch
public import proofs.«01_k».proof.Proof.Gen.DownKernel.Points
public import proofs.«01_k».proof.Proof.Gen.DownKernel.Frame
public import proofs.«01_k».proof.Proof.Gen.DownKernelIdeal
public import proofs.«01_k».proof.Proof.Gen.DownKernelIdeal.Skeleton
public import proofs.«01_k».proof.Proof.Gen.DownKernelIdeal.Launch
public import proofs.«01_k».proof.Proof.Gen.DownKernelIdeal.Points
public import proofs.«01_k».proof.Proof.Gen.DownKernelIdeal.Frame
public import proofs.«01_k».proof.Proof.Gen.DownKernelIdeal.Value
public import proofs.«01_k».proof.Proof.Gen.DownReferenceIdeal
public import proofs.«01_k».proof.Proof.Gen.DownReferenceIdeal.Run
public import proofs.«01_k».proof.Proof.Gen.DownReferenceIdeal.Read
public import proofs.«01_k».proof.Proof.Gen.SquareKernel
public import proofs.«01_k».proof.Proof.Gen.SquareKernel.Skeleton
public import proofs.«01_k».proof.Proof.Gen.SquareKernel.Launch
public import proofs.«01_k».proof.Proof.Gen.SquareKernel.Points
public import proofs.«01_k».proof.Proof.Gen.SquareKernel.Frame
public import proofs.«01_k».proof.Proof.Gen.SquareKernelIdeal
public import proofs.«01_k».proof.Proof.Gen.SquareKernelIdeal.Skeleton
public import proofs.«01_k».proof.Proof.Gen.SquareKernelIdeal.Launch
public import proofs.«01_k».proof.Proof.Gen.SquareKernelIdeal.Points
public import proofs.«01_k».proof.Proof.Gen.SquareKernelIdeal.Frame
public import proofs.«01_k».proof.Proof.Gen.SquareKernelIdeal.Value
public import proofs.«01_k».proof.Proof.Gen.SquareReferenceIdeal
public import proofs.«01_k».proof.Proof.Gen.SquareReferenceIdeal.Run
public import proofs.«01_k».proof.Proof.Gen.SquareReferenceIdeal.Read
public import proofs.«01_k».proof.Proof.Gen.WinKernel
public import proofs.«01_k».proof.Proof.Gen.WinKernel.Skeleton
public import proofs.«01_k».proof.Proof.Gen.WinKernel.Launch
public import proofs.«01_k».proof.Proof.Gen.WinKernel.Points
public import proofs.«01_k».proof.Proof.Gen.WinKernel.Frame
public import proofs.«01_k».proof.Proof.Gen.WinKernelIdeal
public import proofs.«01_k».proof.Proof.Gen.WinKernelIdeal.Skeleton
public import proofs.«01_k».proof.Proof.Gen.WinKernelIdeal.Launch
public import proofs.«01_k».proof.Proof.Gen.WinKernelIdeal.Points
public import proofs.«01_k».proof.Proof.Gen.WinKernelIdeal.Frame
public import proofs.«01_k».proof.Proof.Gen.WinKernelIdeal.Value
public import proofs.«01_k».proof.Proof.Gen.WinReferenceIdeal
public import proofs.«01_k».proof.Proof.Gen.WinReferenceIdeal.Run
public import proofs.«01_k».proof.Proof.Gen.WinReferenceIdeal.Read
public import proofs.«01_k».proof.Proof.Gen.InFwdKernel
public import proofs.«01_k».proof.Proof.Gen.InFwdKernel.Skeleton
public import proofs.«01_k».proof.Proof.Gen.InFwdKernel.Launch
public import proofs.«01_k».proof.Proof.Gen.InFwdKernel.Points
public import proofs.«01_k».proof.Proof.Gen.InFwdKernel.Frame
public import proofs.«01_k».proof.Proof.Gen.InFwdKernelIdeal
public import proofs.«01_k».proof.Proof.Gen.InFwdKernelIdeal.Skeleton
public import proofs.«01_k».proof.Proof.Gen.InFwdKernelIdeal.Launch
public import proofs.«01_k».proof.Proof.Gen.InFwdKernelIdeal.Points
public import proofs.«01_k».proof.Proof.Gen.InFwdKernelIdeal.Frame
public import proofs.«01_k».proof.Proof.Gen.InFwdKernelIdeal.Value
public import proofs.«01_k».proof.Proof.Gen.InFwdReferenceIdeal
public import proofs.«01_k».proof.Proof.Gen.InFwdReferenceIdeal.Run
public import proofs.«01_k».proof.Proof.Gen.InFwdReferenceIdeal.Read
public import proofs.«01_k».proof.Proof.Gen.MergeFwdKernel
public import proofs.«01_k».proof.Proof.Gen.MergeFwdKernel.Skeleton
public import proofs.«01_k».proof.Proof.Gen.MergeFwdKernel.Launch
public import proofs.«01_k».proof.Proof.Gen.MergeFwdKernel.Points
public import proofs.«01_k».proof.Proof.Gen.MergeFwdKernel.Frame
public import proofs.«01_k».proof.Proof.Gen.MergeFwdKernelIdeal
public import proofs.«01_k».proof.Proof.Gen.MergeFwdKernelIdeal.Skeleton
public import proofs.«01_k».proof.Proof.Gen.MergeFwdKernelIdeal.Launch
public import proofs.«01_k».proof.Proof.Gen.MergeFwdKernelIdeal.Points
public import proofs.«01_k».proof.Proof.Gen.MergeFwdKernelIdeal.Frame
public import proofs.«01_k».proof.Proof.Gen.MergeFwdKernelIdeal.Value
public import proofs.«01_k».proof.Proof.Gen.MergeFwdReferenceIdeal
public import proofs.«01_k».proof.Proof.Gen.MergeFwdReferenceIdeal.Run
public import proofs.«01_k».proof.Proof.Gen.MergeFwdReferenceIdeal.Read
public import proofs.«01_k».proof.Proof.Gen.FfnFwdKernel
public import proofs.«01_k».proof.Proof.Gen.FfnFwdKernel.Skeleton
public import proofs.«01_k».proof.Proof.Gen.FfnFwdKernel.Launch
public import proofs.«01_k».proof.Proof.Gen.FfnFwdKernel.Points
public import proofs.«01_k».proof.Proof.Gen.FfnFwdKernel.Frame
public import proofs.«01_k».proof.Proof.Gen.FfnFwdKernelIdeal
public import proofs.«01_k».proof.Proof.Gen.FfnFwdKernelIdeal.Skeleton
public import proofs.«01_k».proof.Proof.Gen.FfnFwdKernelIdeal.Launch
public import proofs.«01_k».proof.Proof.Gen.FfnFwdKernelIdeal.Points
public import proofs.«01_k».proof.Proof.Gen.FfnFwdKernelIdeal.Frame
public import proofs.«01_k».proof.Proof.Gen.FfnFwdKernelIdeal.Value
public import proofs.«01_k».proof.Proof.Gen.FfnFwdReferenceIdeal
public import proofs.«01_k».proof.Proof.Gen.FfnFwdReferenceIdeal.Run
public import proofs.«01_k».proof.Proof.Gen.FfnFwdReferenceIdeal.Read
public import proofs.«01_k».proof.Proof.Gen.LossKernel
public import proofs.«01_k».proof.Proof.Gen.LossKernel.Skeleton
public import proofs.«01_k».proof.Proof.Gen.LossKernel.Launch
public import proofs.«01_k».proof.Proof.Gen.LossKernel.Points
public import proofs.«01_k».proof.Proof.Gen.LossKernel.Frame
public import proofs.«01_k».proof.Proof.Gen.LossKernelIdeal
public import proofs.«01_k».proof.Proof.Gen.LossKernelIdeal.Skeleton
public import proofs.«01_k».proof.Proof.Gen.LossKernelIdeal.Launch
public import proofs.«01_k».proof.Proof.Gen.LossKernelIdeal.Points
public import proofs.«01_k».proof.Proof.Gen.LossKernelIdeal.Frame
public import proofs.«01_k».proof.Proof.Gen.LossKernelIdeal.Value
public import proofs.«01_k».proof.Proof.Gen.LossReferenceIdeal
public import proofs.«01_k».proof.Proof.Gen.LossReferenceIdeal.Run
public import proofs.«01_k».proof.Proof.Gen.LossReferenceIdeal.Read
public import proofs.«01_k».proof.Proof.Gen.FirstKernel
public import proofs.«01_k».proof.Proof.Gen.FirstKernel.Skeleton
public import proofs.«01_k».proof.Proof.Gen.FirstKernel.Launch
public import proofs.«01_k».proof.Proof.Gen.FirstKernel.Points
public import proofs.«01_k».proof.Proof.Gen.FirstKernel.Frame
public import proofs.«01_k».proof.Proof.Gen.FirstKernelIdeal
public import proofs.«01_k».proof.Proof.Gen.FirstKernelIdeal.Skeleton
public import proofs.«01_k».proof.Proof.Gen.FirstKernelIdeal.Launch
public import proofs.«01_k».proof.Proof.Gen.FirstKernelIdeal.Points
public import proofs.«01_k».proof.Proof.Gen.FirstKernelIdeal.Frame
public import proofs.«01_k».proof.Proof.Gen.FirstKernelIdeal.Value
public import proofs.«01_k».proof.Proof.Gen.Pre_finite
public import proofs.«01_k».proof.Proof.Gen.Pre_finite_in
public import proofs.«01_k».proof.Proof.Gen.Pre_finite_loss
public import proofs.«01_k».proof.Proof.Gen.On_gate_columns
public import proofs.«01_k».proof.Proof.Gen.On_gate_blocks
public import proofs.«01_k».proof.Proof.Algebraic
public import proofs.«01_k».proof.Proof.Ffn.Algebraic
public import proofs.«01_k».proof.Proof.In.Algebraic
public import proofs.«01_k».proof.Proof.Gate.Algebraic
public import proofs.«01_k».proof.Proof.Up.Algebraic
public import proofs.«01_k».proof.Proof.Down.Algebraic
public import proofs.«01_k».proof.Proof.Square.Algebraic
public import proofs.«01_k».proof.Proof.Win.Algebraic
public import proofs.«01_k».proof.Proof.InFwd.Algebraic
public import proofs.«01_k».proof.Proof.MergeFwd.Algebraic
public import proofs.«01_k».proof.Proof.FfnFwd.Algebraic
public import proofs.«01_k».proof.Proof.Loss.Algebraic
public import proofs.«01_k».proof.Proof.First.Algebraic
public import Idealize.ShloMosaic.Adequacy
public import Idealize.ShloMosaic.Init

@[expose] public section

noncomputable section

namespace Cert.Proof

open Idealize.ShloMosaic Idealize.SL.Sem Cert.Kernel

/-- The merge reference runs, leaves its arguments unchanged and ends with every semaphore at zero. -/
theorem reference_frame : Cert.quiescent_ReferenceIdeal := fun m ρ _ =>
  (θ_run Cert.ReferenceIdeal.defs _ _).mono (fun r h => ⟨fun c => (h c).2.2.2.2.2.2.2.2, sem_eq_zero_of_no_sems rfl r.2⟩)
    (Cert.ReferenceIdeal.Value.run m ρ)

/-- The feed-forward reference runs, leaves its arguments unchanged and ends with every semaphore at zero. -/
theorem ffnReference_frame : Cert.quiescent_FfnReferenceIdeal := fun m ρ _ =>
  (θ_run Cert.FfnReferenceIdeal.defs _ _).mono (fun r h => ⟨fun c => (h c).2.2.2.2.2, sem_eq_zero_of_no_sems rfl r.2⟩)
    (Cert.FfnReferenceIdeal.Value.run m ρ)

/-- The input projection reference runs, leaves its arguments unchanged and ends with every semaphore at zero. -/
theorem inReference_frame : Cert.quiescent_InReferenceIdeal := fun m ρ _ =>
  (θ_run Cert.InReferenceIdeal.defs _ _).mono (fun r h => ⟨fun c => (h c).2.2.2, sem_eq_zero_of_no_sems rfl r.2⟩)
    (Cert.InReferenceIdeal.Value.run m ρ)

/-- The gate weight reference runs, leaves its arguments unchanged and ends with every semaphore at zero. -/
theorem gateReference_frame : Cert.quiescent_GateReferenceIdeal := fun m ρ _ =>
  (θ_run Cert.GateReferenceIdeal.defs _ _).mono (fun r h => ⟨fun c => (h c).2, sem_eq_zero_of_no_sems rfl r.2⟩)
    (Cert.GateReferenceIdeal.Value.run m ρ)

/-- The second half weight reference runs, leaves its arguments unchanged and ends with every semaphore at zero. -/
theorem upReference_frame : Cert.quiescent_UpReferenceIdeal := fun m ρ _ =>
  (θ_run Cert.UpReferenceIdeal.defs _ _).mono (fun r h => ⟨fun c => (h c).2, sem_eq_zero_of_no_sems rfl r.2⟩)
    (Cert.UpReferenceIdeal.Value.run m ρ)

/-- The second weight reference runs, leaves its arguments unchanged and ends with every semaphore at zero. -/
theorem downReference_frame : Cert.quiescent_DownReferenceIdeal := fun m ρ _ =>
  (θ_run Cert.DownReferenceIdeal.defs _ _).mono (fun r h => ⟨fun c => (h c).2, sem_eq_zero_of_no_sems rfl r.2⟩)
    (Cert.DownReferenceIdeal.Value.run m ρ)

/-- The square weight reference runs, leaves its arguments unchanged and ends with every semaphore at zero. -/
theorem squareReference_frame : Cert.quiescent_SquareReferenceIdeal := fun m ρ _ =>
  (θ_run Cert.SquareReferenceIdeal.defs _ _).mono (fun r h => ⟨fun c => (h c).2, sem_eq_zero_of_no_sems rfl r.2⟩)
    (Cert.SquareReferenceIdeal.Value.run m ρ)

/-- The wide projection weight reference runs, leaves its arguments unchanged and ends with every semaphore at zero. -/
theorem winReference_frame : Cert.quiescent_WinReferenceIdeal := fun m ρ _ =>
  (θ_run Cert.WinReferenceIdeal.defs _ _).mono (fun r h => ⟨fun c => (h c).2, sem_eq_zero_of_no_sems rfl r.2⟩)
    (Cert.WinReferenceIdeal.Value.run m ρ)

/-- The input projection forward reference runs, leaves its arguments unchanged and ends with every semaphore at zero. -/
theorem inFwdReference_frame : Cert.quiescent_InFwdReferenceIdeal := fun m ρ _ =>
  (θ_run Cert.InFwdReferenceIdeal.defs _ _).mono (fun r h => ⟨fun c => (h c).2.2, sem_eq_zero_of_no_sems rfl r.2⟩)
    (Cert.InFwdReferenceIdeal.Value.run m ρ)

/-- The merge forward reference runs, leaves its arguments unchanged and ends with every semaphore at zero. -/
theorem mergeFwdReference_frame : Cert.quiescent_MergeFwdReferenceIdeal := fun m ρ _ =>
  (θ_run Cert.MergeFwdReferenceIdeal.defs _ _).mono (fun r h => ⟨fun c => (h c).2, sem_eq_zero_of_no_sems rfl r.2⟩)
    (Cert.MergeFwdReferenceIdeal.Value.run m ρ)

/-- The feed-forward forward reference runs, leaves its arguments unchanged and ends with every semaphore at zero. -/
theorem ffnFwdReference_frame : Cert.quiescent_FfnFwdReferenceIdeal := fun m ρ _ =>
  (θ_run Cert.FfnFwdReferenceIdeal.defs _ _).mono (fun r h => ⟨fun c => (h c).2.2.2.2.2, sem_eq_zero_of_no_sems rfl r.2⟩)
    (Cert.FfnFwdReferenceIdeal.Value.run m ρ)

/-- The loss reference runs, leaves its arguments unchanged and ends with every semaphore at zero. -/
theorem lossReference_frame : Cert.quiescent_LossReferenceIdeal := fun m ρ _ =>
  (θ_run Cert.LossReferenceIdeal.defs _ _).mono (fun r h => ⟨fun c => (h c).2.2.2.2.2.2.2, sem_eq_zero_of_no_sems rfl r.2⟩)
    (Cert.LossReferenceIdeal.Value.run m ρ)

theorem claim : Cert.Claim := ⟨Cert.Kernel.Gen.facts, Cert.KernelIdeal.Gen.facts, Cert.ReferenceIdeal.Gen.facts,
  Cert.FfnKernel.Gen.facts, Cert.FfnKernelIdeal.Gen.facts, Cert.FfnReferenceIdeal.Gen.facts,
  Cert.InKernel.Gen.facts, Cert.InKernelIdeal.Gen.facts, Cert.InReferenceIdeal.Gen.facts,
  Cert.GateKernel.Gen.facts, Cert.GateKernelIdeal.Gen.facts, Cert.GateReferenceIdeal.Gen.facts,
  Cert.UpKernel.Gen.facts, Cert.UpKernelIdeal.Gen.facts, Cert.UpReferenceIdeal.Gen.facts,
  Cert.DownKernel.Gen.facts, Cert.DownKernelIdeal.Gen.facts, Cert.DownReferenceIdeal.Gen.facts,
  Cert.SquareKernel.Gen.facts, Cert.SquareKernelIdeal.Gen.facts, Cert.SquareReferenceIdeal.Gen.facts,
  Cert.WinKernel.Gen.facts, Cert.WinKernelIdeal.Gen.facts, Cert.WinReferenceIdeal.Gen.facts,
  Cert.InFwdKernel.Gen.facts, Cert.InFwdKernelIdeal.Gen.facts, Cert.InFwdReferenceIdeal.Gen.facts,
  Cert.MergeFwdKernel.Gen.facts, Cert.MergeFwdKernelIdeal.Gen.facts, Cert.MergeFwdReferenceIdeal.Gen.facts,
  Cert.FfnFwdKernel.Gen.facts, Cert.FfnFwdKernelIdeal.Gen.facts, Cert.FfnFwdReferenceIdeal.Gen.facts,
  Cert.LossKernel.Gen.facts, Cert.LossKernelIdeal.Gen.facts, Cert.LossReferenceIdeal.Gen.facts,
  Cert.FirstKernel.Gen.facts, Cert.FirstKernelIdeal.Gen.facts, Cert.Pre_finite.Gen.facts,
  Cert.Pre_finite_in.Gen.facts, Cert.Pre_finite_loss.Gen.facts, Cert.On_gate_columns.Gen.facts,
  Cert.On_gate_blocks.Gen.facts,
  fun m ρ _ => Cert.Kernel.Gen.frame m ρ,
  fun m ρ _ => Cert.KernelIdeal.Gen.frame m ρ,
  reference_frame,
  fun m ρ _ => Cert.FfnKernel.Gen.frame m ρ,
  fun m ρ _ => Cert.FfnKernelIdeal.Gen.frame m ρ,
  fun m ρ _ => Cert.FfnKernelIdeal.Gen.frame m ρ,
  ffnReference_frame,
  fun m ρ _ => ffnReference_frame m ρ trivial,
  fun m ρ _ => Cert.InKernel.Gen.frame m ρ,
  fun m ρ _ => Cert.InKernelIdeal.Gen.frame m ρ,
  fun m ρ _ => Cert.InKernelIdeal.Gen.frame m ρ,
  inReference_frame,
  fun m ρ _ => inReference_frame m ρ trivial,
  fun m ρ _ => Cert.GateKernel.Gen.frame m ρ,
  fun m ρ _ => Cert.GateKernelIdeal.Gen.frame m ρ,
  gateReference_frame,
  fun m ρ _ => Cert.UpKernel.Gen.frame m ρ,
  fun m ρ _ => Cert.UpKernelIdeal.Gen.frame m ρ,
  upReference_frame,
  fun m ρ _ => Cert.DownKernel.Gen.frame m ρ,
  fun m ρ _ => Cert.DownKernelIdeal.Gen.frame m ρ,
  downReference_frame,
  fun m ρ _ => Cert.SquareKernel.Gen.frame m ρ,
  fun m ρ _ => Cert.SquareKernelIdeal.Gen.frame m ρ,
  squareReference_frame,
  fun m ρ _ => Cert.WinKernel.Gen.frame m ρ,
  fun m ρ _ => Cert.WinKernelIdeal.Gen.frame m ρ,
  winReference_frame,
  fun m ρ _ => Cert.InFwdKernel.Gen.frame m ρ,
  fun m ρ _ => Cert.InFwdKernelIdeal.Gen.frame m ρ,
  inFwdReference_frame,
  fun m ρ _ => Cert.MergeFwdKernel.Gen.frame m ρ,
  fun m ρ _ => Cert.MergeFwdKernelIdeal.Gen.frame m ρ,
  mergeFwdReference_frame,
  fun m ρ _ => Cert.FfnFwdKernel.Gen.frame m ρ,
  fun m ρ _ => Cert.FfnFwdKernelIdeal.Gen.frame m ρ,
  ffnFwdReference_frame,
  fun m ρ _ => Cert.LossKernel.Gen.frame m ρ,
  fun m ρ _ => Cert.LossKernelIdeal.Gen.frame m ρ,
  fun m ρ _ => Cert.LossKernelIdeal.Gen.frame m ρ,
  lossReference_frame,
  fun m ρ _ => lossReference_frame m ρ trivial,
  fun m ρ _ => Cert.FirstKernel.Gen.frame m ρ,
  fun m ρ _ => Cert.FirstKernelIdeal.Gen.frame m ρ,
  fun m ρ _ => Cert.FirstKernelIdeal.Gen.frame m ρ,
  trivial,
  Algebraic.algebraic,
  trivial,
  Ffn.Algebraic.algebraic,
  trivial,
  In.Algebraic.algebraic,
  trivial,
  Gate.Algebraic.algebraic,
  trivial,
  Up.Algebraic.algebraic,
  trivial,
  Down.Algebraic.algebraic,
  trivial,
  Square.Algebraic.algebraic,
  trivial,
  Win.Algebraic.algebraic,
  trivial,
  InFwd.Algebraic.algebraic,
  trivial,
  MergeFwd.Algebraic.algebraic,
  trivial,
  FfnFwd.Algebraic.algebraic,
  trivial,
  Loss.Algebraic.algebraic,
  trivial,
  First.Algebraic.algebraic⟩

end Cert.Proof

end
